-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_range : Cert.Pre_idx_in_range.Facts] (m : (ℓ : Loc Cert.Reference.nD Cert.Reference.τ Cert.Reference.sig) → Buf (Elt Bits) ℓ) : Prop :=
  ∀ c : Dev Cert.Reference.nD,
    (Cert.Pre_idx_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_RowsKernel (m : (ℓ : Loc Cert.RowsKernel.nD Cert.RowsKernel.τ Cert.RowsKernel.sig) → Buf (Elt Bits) ℓ) : Prop :=
  True

def Pre_RowsKernelIdeal (m : (ℓ : Loc Cert.RowsKernelIdeal.nD Cert.RowsKernelIdeal.τ Cert.RowsKernelIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_NodesKernel [hPre_nodes_ok : Cert.Pre_nodes_ok.Facts] (m : (ℓ : Loc Cert.NodesKernel.nD Cert.NodesKernel.τ Cert.NodesKernel.sig) → Buf (Elt Bits) ℓ) : Prop :=
  ∀ c : Dev Cert.NodesKernel.nD,
    (Cert.Pre_nodes_ok.fn (F := Bits) (m ((c.tc : Thread Cert.NodesKernel.nD Cert.NodesKernel.τ).loc Cert.NodesKernel.main_arg0)) (m ((c.tc : Thread Cert.NodesKernel.nD Cert.NodesKernel.τ).loc Cert.NodesKernel.main_arg1)) (m ((c.tc : Thread Cert.NodesKernel.nD Cert.NodesKernel.τ).loc Cert.NodesKernel.main_arg2)) (m ((c.tc : Thread Cert.NodesKernel.nD Cert.NodesKernel.τ).loc Cert.NodesKernel.main_arg3)) (m ((c.tc : Thread Cert.NodesKernel.nD Cert.NodesKernel.τ).loc Cert.NodesKernel.main_arg4)) (m ((c.tc : Thread Cert.NodesKernel.nD Cert.NodesKernel.τ).loc Cert.NodesKernel.main_arg5)) (m ((c.tc : Thread Cert.NodesKernel.nD Cert.NodesKernel.τ).loc Cert.NodesKernel.main_arg6)) (m ((c.tc : Thread Cert.NodesKernel.nD Cert.NodesKernel.τ).loc Cert.NodesKernel.main_arg7)) (m ((c.tc : Thread Cert.NodesKernel.nD Cert.NodesKernel.τ).loc Cert.NodesKernel.main_arg8)) (m ((c.tc : Thread Cert.NodesKernel.nD Cert.NodesKernel.τ).loc Cert.NodesKernel.main_arg9)) (m ((c.tc : Thread Cert.NodesKernel.nD Cert.NodesKernel.τ).loc Cert.NodesKernel.main_arg10)) (m ((c.tc : Thread Cert.NodesKernel.nD Cert.NodesKernel.τ).loc Cert.NodesKernel.main_arg11)) (m ((c.tc : Thread Cert.NodesKernel.nD Cert.NodesKernel.τ).loc Cert.NodesKernel.main_arg12)) (m ((c.tc : Thread Cert.NodesKernel.nD Cert.NodesKernel.τ).loc Cert.NodesKernel.main_arg13)) (m ((c.tc : Thread Cert.NodesKernel.nD Cert.NodesKernel.τ).loc Cert.NodesKernel.main_arg14)) (m ((c.tc : Thread Cert.NodesKernel.nD Cert.NodesKernel.τ).loc Cert.NodesKernel.main_arg15)) (m ((c.tc : Thread Cert.NodesKernel.nD Cert.NodesKernel.τ).loc Cert.NodesKernel.main_arg16)) (m ((c.tc : Thread Cert.NodesKernel.nD Cert.NodesKernel.τ).loc Cert.NodesKernel.main_arg17)) (m ((c.tc : Thread Cert.NodesKernel.nD Cert.NodesKernel.τ).loc Cert.NodesKernel.main_arg18)) (m ((c.tc : Thread Cert.NodesKernel.nD Cert.NodesKernel.τ).loc Cert.NodesKernel.main_arg19))) = (fun _ => 1#1)

def Pre_NodesKernelIdeal [hPre_nodes_ok : Cert.Pre_nodes_ok.Facts] (m : (ℓ : Loc Cert.NodesKernelIdeal.nD Cert.NodesKernelIdeal.τ Cert.NodesKernelIdeal.sig) → Buf (Elt Ideal) ℓ) : Prop :=
  ∀ c : Dev Cert.NodesKernelIdeal.nD,
    (Cert.Pre_nodes_ok.fn (F := Ideal) (m ((c.tc : Thread Cert.NodesKernelIdeal.nD Cert.NodesKernelIdeal.τ).loc Cert.NodesKernelIdeal.main_arg0)) (m ((c.tc : Thread Cert.NodesKernelIdeal.nD Cert.NodesKernelIdeal.τ).loc Cert.NodesKernelIdeal.main_arg1)) (m ((c.tc : Thread Cert.NodesKernelIdeal.nD Cert.NodesKernelIdeal.τ).loc Cert.NodesKernelIdeal.main_arg2)) (m ((c.tc : Thread Cert.NodesKernelIdeal.nD Cert.NodesKernelIdeal.τ).loc Cert.NodesKernelIdeal.main_arg3)) (m ((c.tc : Thread Cert.NodesKernelIdeal.nD Cert.NodesKernelIdeal.τ).loc Cert.NodesKernelIdeal.main_arg4)) (m ((c.tc : Thread Cert.NodesKernelIdeal.nD Cert.NodesKernelIdeal.τ).loc Cert.NodesKernelIdeal.main_arg5)) (m ((c.tc : Thread Cert.NodesKernelIdeal.nD Cert.NodesKernelIdeal.τ).loc Cert.NodesKernelIdeal.main_arg6)) (m ((c.tc : Thread Cert.NodesKernelIdeal.nD Cert.NodesKernelIdeal.τ).loc Cert.NodesKernelIdeal.main_arg7)) (m ((c.tc : Thread Cert.NodesKernelIdeal.nD Cert.NodesKernelIdeal.τ).loc Cert.NodesKernelIdeal.main_arg8)) (m ((c.tc : Thread Cert.NodesKernelIdeal.nD Cert.NodesKernelIdeal.τ).loc Cert.NodesKernelIdeal.main_arg9)) (m ((c.tc : Thread Cert.NodesKernelIdeal.nD Cert.NodesKernelIdeal.τ).loc Cert.NodesKernelIdeal.main_arg10)) (m ((c.tc : Thread Cert.NodesKernelIdeal.nD Cert.NodesKernelIdeal.τ).loc Cert.NodesKernelIdeal.main_arg11)) (m ((c.tc : Thread Cert.NodesKernelIdeal.nD Cert.NodesKernelIdeal.τ).loc Cert.NodesKernelIdeal.main_arg12)) (m ((c.tc : Thread Cert.NodesKernelIdeal.nD Cert.NodesKernelIdeal.τ).loc Cert.NodesKernelIdeal.main_arg13)) (m ((c.tc : Thread Cert.NodesKernelIdeal.nD Cert.NodesKernelIdeal.τ).loc Cert.NodesKernelIdeal.main_arg14)) (m ((c.tc : Thread Cert.NodesKernelIdeal.nD Cert.NodesKernelIdeal.τ).loc Cert.NodesKernelIdeal.main_arg15)) (m ((c.tc : Thread Cert.NodesKernelIdeal.nD Cert.NodesKernelIdeal.τ).loc Cert.NodesKernelIdeal.main_arg16)) (m ((c.tc : Thread Cert.NodesKernelIdeal.nD Cert.NodesKernelIdeal.τ).loc Cert.NodesKernelIdeal.main_arg17)) (m ((c.tc : Thread Cert.NodesKernelIdeal.nD Cert.NodesKernelIdeal.τ).loc Cert.NodesKernelIdeal.main_arg18)) (m ((c.tc : Thread Cert.NodesKernelIdeal.nD Cert.NodesKernelIdeal.τ).loc Cert.NodesKernelIdeal.main_arg19))) = (fun _ => 1#1)

def Pre_NodesReferenceIdeal (m : (ℓ : Loc Cert.NodesReferenceIdeal.nD Cert.NodesReferenceIdeal.τ Cert.NodesReferenceIdeal.sig) → Buf (Elt Ideal) ℓ) : Prop :=
  True

def Pre_NodesReferenceIdeal_nodes_ok [hPre_nodes_ok : Cert.Pre_nodes_ok.Facts] (m : (ℓ : Loc Cert.NodesReferenceIdeal.nD Cert.NodesReferenceIdeal.τ Cert.NodesReferenceIdeal.sig) → Buf (Elt Ideal) ℓ) : Prop :=
  ∀ c : Dev Cert.NodesReferenceIdeal.nD,
    (Cert.Pre_nodes_ok.fn (F := Ideal) (m ((c.tc : Thread Cert.NodesReferenceIdeal.nD Cert.NodesReferenceIdeal.τ).loc Cert.NodesReferenceIdeal.main_arg0)) (m ((c.tc : Thread Cert.NodesReferenceIdeal.nD Cert.NodesReferenceIdeal.τ).loc Cert.NodesReferenceIdeal.main_arg1)) (m ((c.tc : Thread Cert.NodesReferenceIdeal.nD Cert.NodesReferenceIdeal.τ).loc Cert.NodesReferenceIdeal.main_arg2)) (m ((c.tc : Thread Cert.NodesReferenceIdeal.nD Cert.NodesReferenceIdeal.τ).loc Cert.NodesReferenceIdeal.main_arg3)) (m ((c.tc : Thread Cert.NodesReferenceIdeal.nD Cert.NodesReferenceIdeal.τ).loc Cert.NodesReferenceIdeal.main_arg4)) (m ((c.tc : Thread Cert.NodesReferenceIdeal.nD Cert.NodesReferenceIdeal.τ).loc Cert.NodesReferenceIdeal.main_arg5)) (m ((c.tc : Thread Cert.NodesReferenceIdeal.nD Cert.NodesReferenceIdeal.τ).loc Cert.NodesReferenceIdeal.main_arg6)) (m ((c.tc : Thread Cert.NodesReferenceIdeal.nD Cert.NodesReferenceIdeal.τ).loc Cert.NodesReferenceIdeal.main_arg7)) (m ((c.tc : Thread Cert.NodesReferenceIdeal.nD Cert.NodesReferenceIdeal.τ).loc Cert.NodesReferenceIdeal.main_arg8)) (m ((c.tc : Thread Cert.NodesReferenceIdeal.nD Cert.NodesReferenceIdeal.τ).loc Cert.NodesReferenceIdeal.main_arg9)) (m ((c.tc : Thread Cert.NodesReferenceIdeal.nD Cert.NodesReferenceIdeal.τ).loc Cert.NodesReferenceIdeal.main_arg10)) (m ((c.tc : Thread Cert.NodesReferenceIdeal.nD Cert.NodesReferenceIdeal.τ).loc Cert.NodesReferenceIdeal.main_arg11)) (m ((c.tc : Thread Cert.NodesReferenceIdeal.nD Cert.NodesReferenceIdeal.τ).loc Cert.NodesReferenceIdeal.main_arg12)) (m ((c.tc : Thread Cert.NodesReferenceIdeal.nD Cert.NodesReferenceIdeal.τ).loc Cert.NodesReferenceIdeal.main_arg13)) (m ((c.tc : Thread Cert.NodesReferenceIdeal.nD Cert.NodesReferenceIdeal.τ).loc Cert.NodesReferenceIdeal.main_arg14)) (m ((c.tc : Thread Cert.NodesReferenceIdeal.nD Cert.NodesReferenceIdeal.τ).loc Cert.NodesReferenceIdeal.main_arg15)) (m ((c.tc : Thread Cert.NodesReferenceIdeal.nD Cert.NodesReferenceIdeal.τ).loc Cert.NodesReferenceIdeal.main_arg16)) (m ((c.tc : Thread Cert.NodesReferenceIdeal.nD Cert.NodesReferenceIdeal.τ).loc Cert.NodesReferenceIdeal.main_arg17)) (m ((c.tc : Thread Cert.NodesReferenceIdeal.nD Cert.NodesReferenceIdeal.τ).loc Cert.NodesReferenceIdeal.main_arg18)) (m ((c.tc : Thread Cert.NodesReferenceIdeal.nD Cert.NodesReferenceIdeal.τ).loc Cert.NodesReferenceIdeal.main_arg19))) = (fun _ => 1#1)

def Pre_EdgesKernel (m : (ℓ : Loc Cert.EdgesKernel.nD Cert.EdgesKernel.τ Cert.EdgesKernel.sig) → Buf (Elt Bits) ℓ) : Prop :=
  True

def Pre_EdgesKernelIdeal (m : (ℓ : Loc Cert.EdgesKernelIdeal.nD Cert.EdgesKernelIdeal.τ Cert.EdgesKernelIdeal.sig) → Buf (Elt Ideal) ℓ) : Prop :=
  True

def Pre_EdgesReferenceIdeal (m : (ℓ : Loc Cert.EdgesReferenceIdeal.nD Cert.EdgesReferenceIdeal.τ Cert.EdgesReferenceIdeal.sig) → Buf (Elt Ideal) ℓ) : Prop :=
  True

def Pre_FirstKernel [hPre_first_ok : Cert.Pre_first_ok.Facts] (m : (ℓ : Loc Cert.FirstKernel.nD Cert.FirstKernel.τ Cert.FirstKernel.sig) → Buf (Elt Bits) ℓ) : Prop :=
  ∀ c : Dev Cert.FirstKernel.nD,
    (Cert.Pre_first_ok.fn (F := Bits) (m ((c.tc : Thread Cert.FirstKernel.nD Cert.FirstKernel.τ).loc Cert.FirstKernel.main_arg0)) (m ((c.tc : Thread Cert.FirstKernel.nD Cert.FirstKernel.τ).loc Cert.FirstKernel.main_arg1)) (m ((c.tc : Thread Cert.FirstKernel.nD Cert.FirstKernel.τ).loc Cert.FirstKernel.main_arg2)) (m ((c.tc : Thread Cert.FirstKernel.nD Cert.FirstKernel.τ).loc Cert.FirstKernel.main_arg3)) (m ((c.tc : Thread Cert.FirstKernel.nD Cert.FirstKernel.τ).loc Cert.FirstKernel.main_arg4)) (m ((c.tc : Thread Cert.FirstKernel.nD Cert.FirstKernel.τ).loc Cert.FirstKernel.main_arg5)) (m ((c.tc : Thread Cert.FirstKernel.nD Cert.FirstKernel.τ).loc Cert.FirstKernel.main_arg6)) (m ((c.tc : Thread Cert.FirstKernel.nD Cert.FirstKernel.τ).loc Cert.FirstKernel.main_arg7)) (m ((c.tc : Thread Cert.FirstKernel.nD Cert.FirstKernel.τ).loc Cert.FirstKernel.main_arg8)) (m ((c.tc : Thread Cert.FirstKernel.nD Cert.FirstKernel.τ).loc Cert.FirstKernel.main_arg9)) (m ((c.tc : Thread Cert.FirstKernel.nD Cert.FirstKernel.τ).loc Cert.FirstKernel.main_arg10)) (m ((c.tc : Thread Cert.FirstKernel.nD Cert.FirstKernel.τ).loc Cert.FirstKernel.main_arg11)) (m ((c.tc : Thread Cert.FirstKernel.nD Cert.FirstKernel.τ).loc Cert.FirstKernel.main_arg12)) (m ((c.tc : Thread Cert.FirstKernel.nD Cert.FirstKernel.τ).loc Cert.FirstKernel.main_arg13)) (m ((c.tc : Thread Cert.FirstKernel.nD Cert.FirstKernel.τ).loc Cert.FirstKernel.main_arg14)) (m ((c.tc : Thread Cert.FirstKernel.nD Cert.FirstKernel.τ).loc Cert.FirstKernel.main_arg15)) (m ((c.tc : Thread Cert.FirstKernel.nD Cert.FirstKernel.τ).loc Cert.FirstKernel.main_arg16)) (m ((c.tc : Thread Cert.FirstKernel.nD Cert.FirstKernel.τ).loc Cert.FirstKernel.main_arg17)) (m ((c.tc : Thread Cert.FirstKernel.nD Cert.FirstKernel.τ).loc Cert.FirstKernel.main_arg18)) (m ((c.tc : Thread Cert.FirstKernel.nD Cert.FirstKernel.τ).loc Cert.FirstKernel.main_arg19)) (m ((c.tc : Thread Cert.FirstKernel.nD Cert.FirstKernel.τ).loc Cert.FirstKernel.main_arg20))) = (fun _ => 1#1)

def Pre_FirstKernelIdeal [hPre_first_ok : Cert.Pre_first_ok.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_first_ok.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6)) (m ((c.tc : Thread Cert.FirstKernelIdeal.nD Cert.FirstKernelIdeal.τ).loc Cert.FirstKernelIdeal.main_arg7)) (m ((c.tc : Thread Cert.FirstKernelIdeal.nD Cert.FirstKernelIdeal.τ).loc Cert.FirstKernelIdeal.main_arg8)) (m ((c.tc : Thread Cert.FirstKernelIdeal.nD Cert.FirstKernelIdeal.τ).loc Cert.FirstKernelIdeal.main_arg9)) (m ((c.tc : Thread Cert.FirstKernelIdeal.nD Cert.FirstKernelIdeal.τ).loc Cert.FirstKernelIdeal.main_arg10)) (m ((c.tc : Thread Cert.FirstKernelIdeal.nD Cert.FirstKernelIdeal.τ).loc Cert.FirstKernelIdeal.main_arg11)) (m ((c.tc : Thread Cert.FirstKernelIdeal.nD Cert.FirstKernelIdeal.τ).loc Cert.FirstKernelIdeal.main_arg12)) (m ((c.tc : Thread Cert.FirstKernelIdeal.nD Cert.FirstKernelIdeal.τ).loc Cert.FirstKernelIdeal.main_arg13)) (m ((c.tc : Thread Cert.FirstKernelIdeal.nD Cert.FirstKernelIdeal.τ).loc Cert.FirstKernelIdeal.main_arg14)) (m ((c.tc : Thread Cert.FirstKernelIdeal.nD Cert.FirstKernelIdeal.τ).loc Cert.FirstKernelIdeal.main_arg15)) (m ((c.tc : Thread Cert.FirstKernelIdeal.nD Cert.FirstKernelIdeal.τ).loc Cert.FirstKernelIdeal.main_arg16)) (m ((c.tc : Thread Cert.FirstKernelIdeal.nD Cert.FirstKernelIdeal.τ).loc Cert.FirstKernelIdeal.main_arg17)) (m ((c.tc : Thread Cert.FirstKernelIdeal.nD Cert.FirstKernelIdeal.τ).loc Cert.FirstKernelIdeal.main_arg18)) (m ((c.tc : Thread Cert.FirstKernelIdeal.nD Cert.FirstKernelIdeal.τ).loc Cert.FirstKernelIdeal.main_arg19)) (m ((c.tc : Thread Cert.FirstKernelIdeal.nD Cert.FirstKernelIdeal.τ).loc Cert.FirstKernelIdeal.main_arg20))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_first_ok [hPre_first_ok : Cert.Pre_first_ok.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_first_ok.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8)) (m ((c.tc : Thread Cert.FirstReferenceIdeal.nD Cert.FirstReferenceIdeal.τ).loc Cert.FirstReferenceIdeal.main_arg9)) (m ((c.tc : Thread Cert.FirstReferenceIdeal.nD Cert.FirstReferenceIdeal.τ).loc Cert.FirstReferenceIdeal.main_arg10)) (m ((c.tc : Thread Cert.FirstReferenceIdeal.nD Cert.FirstReferenceIdeal.τ).loc Cert.FirstReferenceIdeal.main_arg11)) (m ((c.tc : Thread Cert.FirstReferenceIdeal.nD Cert.FirstReferenceIdeal.τ).loc Cert.FirstReferenceIdeal.main_arg12)) (m ((c.tc : Thread Cert.FirstReferenceIdeal.nD Cert.FirstReferenceIdeal.τ).loc Cert.FirstReferenceIdeal.main_arg13)) (m ((c.tc : Thread Cert.FirstReferenceIdeal.nD Cert.FirstReferenceIdeal.τ).loc Cert.FirstReferenceIdeal.main_arg14)) (m ((c.tc : Thread Cert.FirstReferenceIdeal.nD Cert.FirstReferenceIdeal.τ).loc Cert.FirstReferenceIdeal.main_arg15)) (m ((c.tc : Thread Cert.FirstReferenceIdeal.nD Cert.FirstReferenceIdeal.τ).loc Cert.FirstReferenceIdeal.main_arg16)) (m ((c.tc : Thread Cert.FirstReferenceIdeal.nD Cert.FirstReferenceIdeal.τ).loc Cert.FirstReferenceIdeal.main_arg17)) (m ((c.tc : Thread Cert.FirstReferenceIdeal.nD Cert.FirstReferenceIdeal.τ).loc Cert.FirstReferenceIdeal.main_arg18)) (m ((c.tc : Thread Cert.FirstReferenceIdeal.nD Cert.FirstReferenceIdeal.τ).loc Cert.FirstReferenceIdeal.main_arg19)) (m ((c.tc : Thread Cert.FirstReferenceIdeal.nD Cert.FirstReferenceIdeal.τ).loc Cert.FirstReferenceIdeal.main_arg20))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_range : Cert.Pre_idx_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_RowsKernel [hRowsKernel : Cert.RowsKernel.Facts] : Prop :=
  ∀ (m : (ℓ : Loc Cert.RowsKernel.nD Cert.RowsKernel.τ Cert.RowsKernel.sig) → Buf (Elt Bits) ℓ) (g : Dev Cert.RowsKernel.nD → PrngReg), Pre_RowsKernel m →
    θ_run (Cert.RowsKernel.defs (F := Bits)) (onTc (τ := Cert.RowsKernel.τ) (Cert.RowsKernel.main (F := Bits))) ⟨m, fun _ => 0, g⟩ (fun r => (∀ c : Dev Cert.RowsKernel.nD,
      r.2.mem ((c.tc : Thread Cert.RowsKernel.nD Cert.RowsKernel.τ).loc Cert.RowsKernel.main_arg0) = m ((c.tc : Thread Cert.RowsKernel.nD Cert.RowsKernel.τ).loc Cert.RowsKernel.main_arg0)
      ∧ r.2.mem ((c.tc : Thread Cert.RowsKernel.nD Cert.RowsKernel.τ).loc Cert.RowsKernel.main_arg1) = m ((c.tc : Thread Cert.RowsKernel.nD Cert.RowsKernel.τ).loc Cert.RowsKernel.main_arg1)
      ∧ r.2.mem ((c.tc : Thread Cert.RowsKernel.nD Cert.RowsKernel.τ).loc Cert.RowsKernel.main_arg2) = m ((c.tc : Thread Cert.RowsKernel.nD Cert.RowsKernel.τ).loc Cert.RowsKernel.main_arg2))
      ∧ r.2.sem = fun _ => 0)

def quiescent_RowsKernelIdeal [hRowsKernelIdeal : Cert.RowsKernelIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg), Pre_RowsKernelIdeal m →
    θ_run (Cert.RowsKernelIdeal.defs (F := Ideal)) (onTc (τ := Cert.RowsKernelIdeal.τ) (Cert.RowsKernelIdeal.main (F := Ideal))) ⟨m, fun _ => 0, g⟩ (fun r => (∀ c : Dev Cert.RowsKernelIdeal.nD,
      r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
      ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
      ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2))
      ∧ r.2.sem = fun _ => 0)

def quiescent_NodesKernel [hNodesKernel : Cert.NodesKernel.Facts] [hPre_nodes_ok : Cert.Pre_nodes_ok.Facts] : Prop :=
  ∀ (m : (ℓ : Loc Cert.NodesKernel.nD Cert.NodesKernel.τ Cert.NodesKernel.sig) → Buf (Elt Bits) ℓ) (g : Dev Cert.NodesKernel.nD → PrngReg), Pre_NodesKernel m →
    θ_run (Cert.NodesKernel.defs (F := Bits)) (onTc (τ := Cert.NodesKernel.τ) (Cert.NodesKernel.main (F := Bits))) ⟨m, fun _ => 0, g⟩ (fun r => (∀ c : Dev Cert.NodesKernel.nD,
      r.2.mem ((c.tc : Thread Cert.NodesKernel.nD Cert.NodesKernel.τ).loc Cert.NodesKernel.main_arg0) = m ((c.tc : Thread Cert.NodesKernel.nD Cert.NodesKernel.τ).loc Cert.NodesKernel.main_arg0)
      ∧ r.2.mem ((c.tc : Thread Cert.NodesKernel.nD Cert.NodesKernel.τ).loc Cert.NodesKernel.main_arg1) = m ((c.tc : Thread Cert.NodesKernel.nD Cert.NodesKernel.τ).loc Cert.NodesKernel.main_arg1)
      ∧ r.2.mem ((c.tc : Thread Cert.NodesKernel.nD Cert.NodesKernel.τ).loc Cert.NodesKernel.main_arg2) = m ((c.tc : Thread Cert.NodesKernel.nD Cert.NodesKernel.τ).loc Cert.NodesKernel.main_arg2)
      ∧ r.2.mem ((c.tc : Thread Cert.NodesKernel.nD Cert.NodesKernel.τ).loc Cert.NodesKernel.main_arg3) = m ((c.tc : Thread Cert.NodesKernel.nD Cert.NodesKernel.τ).loc Cert.NodesKernel.main_arg3)
      ∧ r.2.mem ((c.tc : Thread Cert.NodesKernel.nD Cert.NodesKernel.τ).loc Cert.NodesKernel.main_arg4) = m ((c.tc : Thread Cert.NodesKernel.nD Cert.NodesKernel.τ).loc Cert.NodesKernel.main_arg4)
      ∧ r.2.mem ((c.tc : Thread Cert.NodesKernel.nD Cert.NodesKernel.τ).loc Cert.NodesKernel.main_arg5) = m ((c.tc : Thread Cert.NodesKernel.nD Cert.NodesKernel.τ).loc Cert.NodesKernel.main_arg5)
      ∧ r.2.mem ((c.tc : Thread Cert.NodesKernel.nD Cert.NodesKernel.τ).loc Cert.NodesKernel.main_arg6) = m ((c.tc : Thread Cert.NodesKernel.nD Cert.NodesKernel.τ).loc Cert.NodesKernel.main_arg6)
      ∧ r.2.mem ((c.tc : Thread Cert.NodesKernel.nD Cert.NodesKernel.τ).loc Cert.NodesKernel.main_arg7) = m ((c.tc : Thread Cert.NodesKernel.nD Cert.NodesKernel.τ).loc Cert.NodesKernel.main_arg7)
      ∧ r.2.mem ((c.tc : Thread Cert.NodesKernel.nD Cert.NodesKernel.τ).loc Cert.NodesKernel.main_arg8) = m ((c.tc : Thread Cert.NodesKernel.nD Cert.NodesKernel.τ).loc Cert.NodesKernel.main_arg8)
      ∧ r.2.mem ((c.tc : Thread Cert.NodesKernel.nD Cert.NodesKernel.τ).loc Cert.NodesKernel.main_arg9) = m ((c.tc : Thread Cert.NodesKernel.nD Cert.NodesKernel.τ).loc Cert.NodesKernel.main_arg9)
      ∧ r.2.mem ((c.tc : Thread Cert.NodesKernel.nD Cert.NodesKernel.τ).loc Cert.NodesKernel.main_arg10) = m ((c.tc : Thread Cert.NodesKernel.nD Cert.NodesKernel.τ).loc Cert.NodesKernel.main_arg10)
      ∧ r.2.mem ((c.tc : Thread Cert.NodesKernel.nD Cert.NodesKernel.τ).loc Cert.NodesKernel.main_arg11) = m ((c.tc : Thread Cert.NodesKernel.nD Cert.NodesKernel.τ).loc Cert.NodesKernel.main_arg11)
      ∧ r.2.mem ((c.tc : Thread Cert.NodesKernel.nD Cert.NodesKernel.τ).loc Cert.NodesKernel.main_arg12) = m ((c.tc : Thread Cert.NodesKernel.nD Cert.NodesKernel.τ).loc Cert.NodesKernel.main_arg12)
      ∧ r.2.mem ((c.tc : Thread Cert.NodesKernel.nD Cert.NodesKernel.τ).loc Cert.NodesKernel.main_arg13) = m ((c.tc : Thread Cert.NodesKernel.nD Cert.NodesKernel.τ).loc Cert.NodesKernel.main_arg13)
      ∧ r.2.mem ((c.tc : Thread Cert.NodesKernel.nD Cert.NodesKernel.τ).loc Cert.NodesKernel.main_arg14) = m ((c.tc : Thread Cert.NodesKernel.nD Cert.NodesKernel.τ).loc Cert.NodesKernel.main_arg14)
      ∧ r.2.mem ((c.tc : Thread Cert.NodesKernel.nD Cert.NodesKernel.τ).loc Cert.NodesKernel.main_arg15) = m ((c.tc : Thread Cert.NodesKernel.nD Cert.NodesKernel.τ).loc Cert.NodesKernel.main_arg15)
      ∧ r.2.mem ((c.tc : Thread Cert.NodesKernel.nD Cert.NodesKernel.τ).loc Cert.NodesKernel.main_arg16) = m ((c.tc : Thread Cert.NodesKernel.nD Cert.NodesKernel.τ).loc Cert.NodesKernel.main_arg16)
      ∧ r.2.mem ((c.tc : Thread Cert.NodesKernel.nD Cert.NodesKernel.τ).loc Cert.NodesKernel.main_arg17) = m ((c.tc : Thread Cert.NodesKernel.nD Cert.NodesKernel.τ).loc Cert.NodesKernel.main_arg17)
      ∧ r.2.mem ((c.tc : Thread Cert.NodesKernel.nD Cert.NodesKernel.τ).loc Cert.NodesKernel.main_arg18) = m ((c.tc : Thread Cert.NodesKernel.nD Cert.NodesKernel.τ).loc Cert.NodesKernel.main_arg18)
      ∧ r.2.mem ((c.tc : Thread Cert.NodesKernel.nD Cert.NodesKernel.τ).loc Cert.NodesKernel.main_arg19) = m ((c.tc : Thread Cert.NodesKernel.nD Cert.NodesKernel.τ).loc Cert.NodesKernel.main_arg19))
      ∧ r.2.sem = fun _ => 0)

def quiescent_NodesKernelIdeal [hNodesKernelIdeal : Cert.NodesKernelIdeal.Facts] [hPre_nodes_ok : Cert.Pre_nodes_ok.Facts] : Prop :=
  ∀ (m : (ℓ : Loc Cert.NodesKernelIdeal.nD Cert.NodesKernelIdeal.τ Cert.NodesKernelIdeal.sig) → Buf (Elt Ideal) ℓ) (g : Dev Cert.NodesKernelIdeal.nD → PrngReg), Pre_NodesKernelIdeal m →
    θ_run (Cert.NodesKernelIdeal.defs (F := Ideal)) (onTc (τ := Cert.NodesKernelIdeal.τ) (Cert.NodesKernelIdeal.main (F := Ideal))) ⟨m, fun _ => 0, g⟩ (fun r => (∀ c : Dev Cert.NodesKernelIdeal.nD,
      r.2.mem ((c.tc : Thread Cert.NodesKernelIdeal.nD Cert.NodesKernelIdeal.τ).loc Cert.NodesKernelIdeal.main_arg0) = m ((c.tc : Thread Cert.NodesKernelIdeal.nD Cert.NodesKernelIdeal.τ).loc Cert.NodesKernelIdeal.main_arg0)
      ∧ r.2.mem ((c.tc : Thread Cert.NodesKernelIdeal.nD Cert.NodesKernelIdeal.τ).loc Cert.NodesKernelIdeal.main_arg1) = m ((c.tc : Thread Cert.NodesKernelIdeal.nD Cert.NodesKernelIdeal.τ).loc Cert.NodesKernelIdeal.main_arg1)
      ∧ r.2.mem ((c.tc : Thread Cert.NodesKernelIdeal.nD Cert.NodesKernelIdeal.τ).loc Cert.NodesKernelIdeal.main_arg2) = m ((c.tc : Thread Cert.NodesKernelIdeal.nD Cert.NodesKernelIdeal.τ).loc Cert.NodesKernelIdeal.main_arg2)
      ∧ r.2.mem ((c.tc : Thread Cert.NodesKernelIdeal.nD Cert.NodesKernelIdeal.τ).loc Cert.NodesKernelIdeal.main_arg3) = m ((c.tc : Thread Cert.NodesKernelIdeal.nD Cert.NodesKernelIdeal.τ).loc Cert.NodesKernelIdeal.main_arg3)
      ∧ r.2.mem ((c.tc : Thread Cert.NodesKernelIdeal.nD Cert.NodesKernelIdeal.τ).loc Cert.NodesKernelIdeal.main_arg4) = m ((c.tc : Thread Cert.NodesKernelIdeal.nD Cert.NodesKernelIdeal.τ).loc Cert.NodesKernelIdeal.main_arg4)
      ∧ r.2.mem ((c.tc : Thread Cert.NodesKernelIdeal.nD Cert.NodesKernelIdeal.τ).loc Cert.NodesKernelIdeal.main_arg5) = m ((c.tc : Thread Cert.NodesKernelIdeal.nD Cert.NodesKernelIdeal.τ).loc Cert.NodesKernelIdeal.main_arg5)
      ∧ r.2.mem ((c.tc : Thread Cert.NodesKernelIdeal.nD Cert.NodesKernelIdeal.τ).loc Cert.NodesKernelIdeal.main_arg6) = m ((c.tc : Thread Cert.NodesKernelIdeal.nD Cert.NodesKernelIdeal.τ).loc Cert.NodesKernelIdeal.main_arg6)
      ∧ r.2.mem ((c.tc : Thread Cert.NodesKernelIdeal.nD Cert.NodesKernelIdeal.τ).loc Cert.NodesKernelIdeal.main_arg7) = m ((c.tc : Thread Cert.NodesKernelIdeal.nD Cert.NodesKernelIdeal.τ).loc Cert.NodesKernelIdeal.main_arg7)
      ∧ r.2.mem ((c.tc : Thread Cert.NodesKernelIdeal.nD Cert.NodesKernelIdeal.τ).loc Cert.NodesKernelIdeal.main_arg8) = m ((c.tc : Thread Cert.NodesKernelIdeal.nD Cert.NodesKernelIdeal.τ).loc Cert.NodesKernelIdeal.main_arg8)
      ∧ r.2.mem ((c.tc : Thread Cert.NodesKernelIdeal.nD Cert.NodesKernelIdeal.τ).loc Cert.NodesKernelIdeal.main_arg9) = m ((c.tc : Thread Cert.NodesKernelIdeal.nD Cert.NodesKernelIdeal.τ).loc Cert.NodesKernelIdeal.main_arg9)
      ∧ r.2.mem ((c.tc : Thread Cert.NodesKernelIdeal.nD Cert.NodesKernelIdeal.τ).loc Cert.NodesKernelIdeal.main_arg10) = m ((c.tc : Thread Cert.NodesKernelIdeal.nD Cert.NodesKernelIdeal.τ).loc Cert.NodesKernelIdeal.main_arg10)
      ∧ r.2.mem ((c.tc : Thread Cert.NodesKernelIdeal.nD Cert.NodesKernelIdeal.τ).loc Cert.NodesKernelIdeal.main_arg11) = m ((c.tc : Thread Cert.NodesKernelIdeal.nD Cert.NodesKernelIdeal.τ).loc Cert.NodesKernelIdeal.main_arg11)
      ∧ r.2.mem ((c.tc : Thread Cert.NodesKernelIdeal.nD Cert.NodesKernelIdeal.τ).loc Cert.NodesKernelIdeal.main_arg12) = m ((c.tc : Thread Cert.NodesKernelIdeal.nD Cert.NodesKernelIdeal.τ).loc Cert.NodesKernelIdeal.main_arg12)
      ∧ r.2.mem ((c.tc : Thread Cert.NodesKernelIdeal.nD Cert.NodesKernelIdeal.τ).loc Cert.NodesKernelIdeal.main_arg13) = m ((c.tc : Thread Cert.NodesKernelIdeal.nD Cert.NodesKernelIdeal.τ).loc Cert.NodesKernelIdeal.main_arg13)
      ∧ r.2.mem ((c.tc : Thread Cert.NodesKernelIdeal.nD Cert.NodesKernelIdeal.τ).loc Cert.NodesKernelIdeal.main_arg14) = m ((c.tc : Thread Cert.NodesKernelIdeal.nD Cert.NodesKernelIdeal.τ).loc Cert.NodesKernelIdeal.main_arg14)
      ∧ r.2.mem ((c.tc : Thread Cert.NodesKernelIdeal.nD Cert.NodesKernelIdeal.τ).loc Cert.NodesKernelIdeal.main_arg15) = m ((c.tc : Thread Cert.NodesKernelIdeal.nD Cert.NodesKernelIdeal.τ).loc Cert.NodesKernelIdeal.main_arg15)
      ∧ r.2.mem ((c.tc : Thread Cert.NodesKernelIdeal.nD Cert.NodesKernelIdeal.τ).loc Cert.NodesKernelIdeal.main_arg16) = m ((c.tc : Thread Cert.NodesKernelIdeal.nD Cert.NodesKernelIdeal.τ).loc Cert.NodesKernelIdeal.main_arg16)
      ∧ r.2.mem ((c.tc : Thread Cert.NodesKernelIdeal.nD Cert.NodesKernelIdeal.τ).loc Cert.NodesKernelIdeal.main_arg17) = m ((c.tc : Thread Cert.NodesKernelIdeal.nD Cert.NodesKernelIdeal.τ).loc Cert.NodesKernelIdeal.main_arg17)
      ∧ r.2.mem ((c.tc : Thread Cert.NodesKernelIdeal.nD Cert.NodesKernelIdeal.τ).loc Cert.NodesKernelIdeal.main_arg18) = m ((c.tc : Thread Cert.NodesKernelIdeal.nD Cert.NodesKernelIdeal.τ).loc Cert.NodesKernelIdeal.main_arg18)
      ∧ r.2.mem ((c.tc : Thread Cert.NodesKernelIdeal.nD Cert.NodesKernelIdeal.τ).loc Cert.NodesKernelIdeal.main_arg19) = m ((c.tc : Thread Cert.NodesKernelIdeal.nD Cert.NodesKernelIdeal.τ).loc Cert.NodesKernelIdeal.main_arg19))
      ∧ r.2.sem = fun _ => 0)

def quiescent_NodesReferenceIdeal [hNodesReferenceIdeal : Cert.NodesReferenceIdeal.Facts] : Prop :=
  ∀ (m : (ℓ : Loc Cert.NodesReferenceIdeal.nD Cert.NodesReferenceIdeal.τ Cert.NodesReferenceIdeal.sig) → Buf (Elt Ideal) ℓ) (g : Dev Cert.NodesReferenceIdeal.nD → PrngReg), Pre_NodesReferenceIdeal m →
    θ_run (Cert.NodesReferenceIdeal.defs (F := Ideal)) (onTc (τ := Cert.NodesReferenceIdeal.τ) (Cert.NodesReferenceIdeal.main (F := Ideal))) ⟨m, fun _ => 0, g⟩ (fun r => (∀ c : Dev Cert.NodesReferenceIdeal.nD,
      r.2.mem ((c.tc : Thread Cert.NodesReferenceIdeal.nD Cert.NodesReferenceIdeal.τ).loc Cert.NodesReferenceIdeal.main_arg0) = m ((c.tc : Thread Cert.NodesReferenceIdeal.nD Cert.NodesReferenceIdeal.τ).loc Cert.NodesReferenceIdeal.main_arg0)
      ∧ r.2.mem ((c.tc : Thread Cert.NodesReferenceIdeal.nD Cert.NodesReferenceIdeal.τ).loc Cert.NodesReferenceIdeal.main_arg1) = m ((c.tc : Thread Cert.NodesReferenceIdeal.nD Cert.NodesReferenceIdeal.τ).loc Cert.NodesReferenceIdeal.main_arg1)
      ∧ r.2.mem ((c.tc : Thread Cert.NodesReferenceIdeal.nD Cert.NodesReferenceIdeal.τ).loc Cert.NodesReferenceIdeal.main_arg2) = m ((c.tc : Thread Cert.NodesReferenceIdeal.nD Cert.NodesReferenceIdeal.τ).loc Cert.NodesReferenceIdeal.main_arg2)
      ∧ r.2.mem ((c.tc : Thread Cert.NodesReferenceIdeal.nD Cert.NodesReferenceIdeal.τ).loc Cert.NodesReferenceIdeal.main_arg3) = m ((c.tc : Thread Cert.NodesReferenceIdeal.nD Cert.NodesReferenceIdeal.τ).loc Cert.NodesReferenceIdeal.main_arg3)
      ∧ r.2.mem ((c.tc : Thread Cert.NodesReferenceIdeal.nD Cert.NodesReferenceIdeal.τ).loc Cert.NodesReferenceIdeal.main_arg4) = m ((c.tc : Thread Cert.NodesReferenceIdeal.nD Cert.NodesReferenceIdeal.τ).loc Cert.NodesReferenceIdeal.main_arg4)
      ∧ r.2.mem ((c.tc : Thread Cert.NodesReferenceIdeal.nD Cert.NodesReferenceIdeal.τ).loc Cert.NodesReferenceIdeal.main_arg5) = m ((c.tc : Thread Cert.NodesReferenceIdeal.nD Cert.NodesReferenceIdeal.τ).loc Cert.NodesReferenceIdeal.main_arg5)
      ∧ r.2.mem ((c.tc : Thread Cert.NodesReferenceIdeal.nD Cert.NodesReferenceIdeal.τ).loc Cert.NodesReferenceIdeal.main_arg6) = m ((c.tc : Thread Cert.NodesReferenceIdeal.nD Cert.NodesReferenceIdeal.τ).loc Cert.NodesReferenceIdeal.main_arg6)
      ∧ r.2.mem ((c.tc : Thread Cert.NodesReferenceIdeal.nD Cert.NodesReferenceIdeal.τ).loc Cert.NodesReferenceIdeal.main_arg7) = m ((c.tc : Thread Cert.NodesReferenceIdeal.nD Cert.NodesReferenceIdeal.τ).loc Cert.NodesReferenceIdeal.main_arg7)
      ∧ r.2.mem ((c.tc : Thread Cert.NodesReferenceIdeal.nD Cert.NodesReferenceIdeal.τ).loc Cert.NodesReferenceIdeal.main_arg8) = m ((c.tc : Thread Cert.NodesReferenceIdeal.nD Cert.NodesReferenceIdeal.τ).loc Cert.NodesReferenceIdeal.main_arg8)
      ∧ r.2.mem ((c.tc : Thread Cert.NodesReferenceIdeal.nD Cert.NodesReferenceIdeal.τ).loc Cert.NodesReferenceIdeal.main_arg9) = m ((c.tc : Thread Cert.NodesReferenceIdeal.nD Cert.NodesReferenceIdeal.τ).loc Cert.NodesReferenceIdeal.main_arg9)
      ∧ r.2.mem ((c.tc : Thread Cert.NodesReferenceIdeal.nD Cert.NodesReferenceIdeal.τ).loc Cert.NodesReferenceIdeal.main_arg10) = m ((c.tc : Thread Cert.NodesReferenceIdeal.nD Cert.NodesReferenceIdeal.τ).loc Cert.NodesReferenceIdeal.main_arg10)
      ∧ r.2.mem ((c.tc : Thread Cert.NodesReferenceIdeal.nD Cert.NodesReferenceIdeal.τ).loc Cert.NodesReferenceIdeal.main_arg11) = m ((c.tc : Thread Cert.NodesReferenceIdeal.nD Cert.NodesReferenceIdeal.τ).loc Cert.NodesReferenceIdeal.main_arg11)
      ∧ r.2.mem ((c.tc : Thread Cert.NodesReferenceIdeal.nD Cert.NodesReferenceIdeal.τ).loc Cert.NodesReferenceIdeal.main_arg12) = m ((c.tc : Thread Cert.NodesReferenceIdeal.nD Cert.NodesReferenceIdeal.τ).loc Cert.NodesReferenceIdeal.main_arg12)
      ∧ r.2.mem ((c.tc : Thread Cert.NodesReferenceIdeal.nD Cert.NodesReferenceIdeal.τ).loc Cert.NodesReferenceIdeal.main_arg13) = m ((c.tc : Thread Cert.NodesReferenceIdeal.nD Cert.NodesReferenceIdeal.τ).loc Cert.NodesReferenceIdeal.main_arg13)
      ∧ r.2.mem ((c.tc : Thread Cert.NodesReferenceIdeal.nD Cert.NodesReferenceIdeal.τ).loc Cert.NodesReferenceIdeal.main_arg14) = m ((c.tc : Thread Cert.NodesReferenceIdeal.nD Cert.NodesReferenceIdeal.τ).loc Cert.NodesReferenceIdeal.main_arg14)
      ∧ r.2.mem ((c.tc : Thread Cert.NodesReferenceIdeal.nD Cert.NodesReferenceIdeal.τ).loc Cert.NodesReferenceIdeal.main_arg15) = m ((c.tc : Thread Cert.NodesReferenceIdeal.nD Cert.NodesReferenceIdeal.τ).loc Cert.NodesReferenceIdeal.main_arg15)
      ∧ r.2.mem ((c.tc : Thread Cert.NodesReferenceIdeal.nD Cert.NodesReferenceIdeal.τ).loc Cert.NodesReferenceIdeal.main_arg16) = m ((c.tc : Thread Cert.NodesReferenceIdeal.nD Cert.NodesReferenceIdeal.τ).loc Cert.NodesReferenceIdeal.main_arg16)
      ∧ r.2.mem ((c.tc : Thread Cert.NodesReferenceIdeal.nD Cert.NodesReferenceIdeal.τ).loc Cert.NodesReferenceIdeal.main_arg17) = m ((c.tc : Thread Cert.NodesReferenceIdeal.nD Cert.NodesReferenceIdeal.τ).loc Cert.NodesReferenceIdeal.main_arg17)
      ∧ r.2.mem ((c.tc : Thread Cert.NodesReferenceIdeal.nD Cert.NodesReferenceIdeal.τ).loc Cert.NodesReferenceIdeal.main_arg18) = m ((c.tc : Thread Cert.NodesReferenceIdeal.nD Cert.NodesReferenceIdeal.τ).loc Cert.NodesReferenceIdeal.main_arg18)
      ∧ r.2.mem ((c.tc : Thread Cert.NodesReferenceIdeal.nD Cert.NodesReferenceIdeal.τ).loc Cert.NodesReferenceIdeal.main_arg19) = m ((c.tc : Thread Cert.NodesReferenceIdeal.nD Cert.NodesReferenceIdeal.τ).loc Cert.NodesReferenceIdeal.main_arg19))
      ∧ r.2.sem = fun _ => 0)

def quiescent_NodesReferenceIdeal_pre_nodes_ok [hNodesReferenceIdeal : Cert.NodesReferenceIdeal.Facts] [hPre_nodes_ok : Cert.Pre_nodes_ok.Facts] : Prop :=
  ∀ (m : (ℓ : Loc Cert.NodesReferenceIdeal.nD Cert.NodesReferenceIdeal.τ Cert.NodesReferenceIdeal.sig) → Buf (Elt Ideal) ℓ) (g : Dev Cert.NodesReferenceIdeal.nD → PrngReg), Pre_NodesReferenceIdeal_nodes_ok m →
    θ_run (Cert.NodesReferenceIdeal.defs (F := Ideal)) (onTc (τ := Cert.NodesReferenceIdeal.τ) (Cert.NodesReferenceIdeal.main (F := Ideal))) ⟨m, fun _ => 0, g⟩ (fun r => (∀ c : Dev Cert.NodesReferenceIdeal.nD,
      r.2.mem ((c.tc : Thread Cert.NodesReferenceIdeal.nD Cert.NodesReferenceIdeal.τ).loc Cert.NodesReferenceIdeal.main_arg0) = m ((c.tc : Thread Cert.NodesReferenceIdeal.nD Cert.NodesReferenceIdeal.τ).loc Cert.NodesReferenceIdeal.main_arg0)
      ∧ r.2.mem ((c.tc : Thread Cert.NodesReferenceIdeal.nD Cert.NodesReferenceIdeal.τ).loc Cert.NodesReferenceIdeal.main_arg1) = m ((c.tc : Thread Cert.NodesReferenceIdeal.nD Cert.NodesReferenceIdeal.τ).loc Cert.NodesReferenceIdeal.main_arg1)
      ∧ r.2.mem ((c.tc : Thread Cert.NodesReferenceIdeal.nD Cert.NodesReferenceIdeal.τ).loc Cert.NodesReferenceIdeal.main_arg2) = m ((c.tc : Thread Cert.NodesReferenceIdeal.nD Cert.NodesReferenceIdeal.τ).loc Cert.NodesReferenceIdeal.main_arg2)
      ∧ r.2.mem ((c.tc : Thread Cert.NodesReferenceIdeal.nD Cert.NodesReferenceIdeal.τ).loc Cert.NodesReferenceIdeal.main_arg3) = m ((c.tc : Thread Cert.NodesReferenceIdeal.nD Cert.NodesReferenceIdeal.τ).loc Cert.NodesReferenceIdeal.main_arg3)
      ∧ r.2.mem ((c.tc : Thread Cert.NodesReferenceIdeal.nD Cert.NodesReferenceIdeal.τ).loc Cert.NodesReferenceIdeal.main_arg4) = m ((c.tc : Thread Cert.NodesReferenceIdeal.nD Cert.NodesReferenceIdeal.τ).loc Cert.NodesReferenceIdeal.main_arg4)
      ∧ r.2.mem ((c.tc : Thread Cert.NodesReferenceIdeal.nD Cert.NodesReferenceIdeal.τ).loc Cert.NodesReferenceIdeal.main_arg5) = m ((c.tc : Thread Cert.NodesReferenceIdeal.nD Cert.NodesReferenceIdeal.τ).loc Cert.NodesReferenceIdeal.main_arg5)
      ∧ r.2.mem ((c.tc : Thread Cert.NodesReferenceIdeal.nD Cert.NodesReferenceIdeal.τ).loc Cert.NodesReferenceIdeal.main_arg6) = m ((c.tc : Thread Cert.NodesReferenceIdeal.nD Cert.NodesReferenceIdeal.τ).loc Cert.NodesReferenceIdeal.main_arg6)
      ∧ r.2.mem ((c.tc : Thread Cert.NodesReferenceIdeal.nD Cert.NodesReferenceIdeal.τ).loc Cert.NodesReferenceIdeal.main_arg7) = m ((c.tc : Thread Cert.NodesReferenceIdeal.nD Cert.NodesReferenceIdeal.τ).loc Cert.NodesReferenceIdeal.main_arg7)
      ∧ r.2.mem ((c.tc : Thread Cert.NodesReferenceIdeal.nD Cert.NodesReferenceIdeal.τ).loc Cert.NodesReferenceIdeal.main_arg8) = m ((c.tc : Thread Cert.NodesReferenceIdeal.nD Cert.NodesReferenceIdeal.τ).loc Cert.NodesReferenceIdeal.main_arg8)
      ∧ r.2.mem ((c.tc : Thread Cert.NodesReferenceIdeal.nD Cert.NodesReferenceIdeal.τ).loc Cert.NodesReferenceIdeal.main_arg9) = m ((c.tc : Thread Cert.NodesReferenceIdeal.nD Cert.NodesReferenceIdeal.τ).loc Cert.NodesReferenceIdeal.main_arg9)
      ∧ r.2.mem ((c.tc : Thread Cert.NodesReferenceIdeal.nD Cert.NodesReferenceIdeal.τ).loc Cert.NodesReferenceIdeal.main_arg10) = m ((c.tc : Thread Cert.NodesReferenceIdeal.nD Cert.NodesReferenceIdeal.τ).loc Cert.NodesReferenceIdeal.main_arg10)
      ∧ r.2.mem ((c.tc : Thread Cert.NodesReferenceIdeal.nD Cert.NodesReferenceIdeal.τ).loc Cert.NodesReferenceIdeal.main_arg11) = m ((c.tc : Thread Cert.NodesReferenceIdeal.nD Cert.NodesReferenceIdeal.τ).loc Cert.NodesReferenceIdeal.main_arg11)
      ∧ r.2.mem ((c.tc : Thread Cert.NodesReferenceIdeal.nD Cert.NodesReferenceIdeal.τ).loc Cert.NodesReferenceIdeal.main_arg12) = m ((c.tc : Thread Cert.NodesReferenceIdeal.nD Cert.NodesReferenceIdeal.τ).loc Cert.NodesReferenceIdeal.main_arg12)
      ∧ r.2.mem ((c.tc : Thread Cert.NodesReferenceIdeal.nD Cert.NodesReferenceIdeal.τ).loc Cert.NodesReferenceIdeal.main_arg13) = m ((c.tc : Thread Cert.NodesReferenceIdeal.nD Cert.NodesReferenceIdeal.τ).loc Cert.NodesReferenceIdeal.main_arg13)
      ∧ r.2.mem ((c.tc : Thread Cert.NodesReferenceIdeal.nD Cert.NodesReferenceIdeal.τ).loc Cert.NodesReferenceIdeal.main_arg14) = m ((c.tc : Thread Cert.NodesReferenceIdeal.nD Cert.NodesReferenceIdeal.τ).loc Cert.NodesReferenceIdeal.main_arg14)
      ∧ r.2.mem ((c.tc : Thread Cert.NodesReferenceIdeal.nD Cert.NodesReferenceIdeal.τ).loc Cert.NodesReferenceIdeal.main_arg15) = m ((c.tc : Thread Cert.NodesReferenceIdeal.nD Cert.NodesReferenceIdeal.τ).loc Cert.NodesReferenceIdeal.main_arg15)
      ∧ r.2.mem ((c.tc : Thread Cert.NodesReferenceIdeal.nD Cert.NodesReferenceIdeal.τ).loc Cert.NodesReferenceIdeal.main_arg16) = m ((c.tc : Thread Cert.NodesReferenceIdeal.nD Cert.NodesReferenceIdeal.τ).loc Cert.NodesReferenceIdeal.main_arg16)
      ∧ r.2.mem ((c.tc : Thread Cert.NodesReferenceIdeal.nD Cert.NodesReferenceIdeal.τ).loc Cert.NodesReferenceIdeal.main_arg17) = m ((c.tc : Thread Cert.NodesReferenceIdeal.nD Cert.NodesReferenceIdeal.τ).loc Cert.NodesReferenceIdeal.main_arg17)
      ∧ r.2.mem ((c.tc : Thread Cert.NodesReferenceIdeal.nD Cert.NodesReferenceIdeal.τ).loc Cert.NodesReferenceIdeal.main_arg18) = m ((c.tc : Thread Cert.NodesReferenceIdeal.nD Cert.NodesReferenceIdeal.τ).loc Cert.NodesReferenceIdeal.main_arg18)
      ∧ r.2.mem ((c.tc : Thread Cert.NodesReferenceIdeal.nD Cert.NodesReferenceIdeal.τ).loc Cert.NodesReferenceIdeal.main_arg19) = m ((c.tc : Thread Cert.NodesReferenceIdeal.nD Cert.NodesReferenceIdeal.τ).loc Cert.NodesReferenceIdeal.main_arg19))
      ∧ r.2.sem = fun _ => 0)

def quiescent_EdgesKernel [hEdgesKernel : Cert.EdgesKernel.Facts] : Prop :=
  ∀ (m : (ℓ : Loc Cert.EdgesKernel.nD Cert.EdgesKernel.τ Cert.EdgesKernel.sig) → Buf (Elt Bits) ℓ) (g : Dev Cert.EdgesKernel.nD → PrngReg), Pre_EdgesKernel m →
    θ_run (Cert.EdgesKernel.defs (F := Bits)) (onTc (τ := Cert.EdgesKernel.τ) (Cert.EdgesKernel.main (F := Bits))) ⟨m, fun _ => 0, g⟩ (fun r => (∀ c : Dev Cert.EdgesKernel.nD,
      r.2.mem ((c.tc : Thread Cert.EdgesKernel.nD Cert.EdgesKernel.τ).loc Cert.EdgesKernel.main_arg0) = m ((c.tc : Thread Cert.EdgesKernel.nD Cert.EdgesKernel.τ).loc Cert.EdgesKernel.main_arg0)
      ∧ r.2.mem ((c.tc : Thread Cert.EdgesKernel.nD Cert.EdgesKernel.τ).loc Cert.EdgesKernel.main_arg1) = m ((c.tc : Thread Cert.EdgesKernel.nD Cert.EdgesKernel.τ).loc Cert.EdgesKernel.main_arg1)
      ∧ r.2.mem ((c.tc : Thread Cert.EdgesKernel.nD Cert.EdgesKernel.τ).loc Cert.EdgesKernel.main_arg2) = m ((c.tc : Thread Cert.EdgesKernel.nD Cert.EdgesKernel.τ).loc Cert.EdgesKernel.main_arg2)
      ∧ r.2.mem ((c.tc : Thread Cert.EdgesKernel.nD Cert.EdgesKernel.τ).loc Cert.EdgesKernel.main_arg3) = m ((c.tc : Thread Cert.EdgesKernel.nD Cert.EdgesKernel.τ).loc Cert.EdgesKernel.main_arg3)
      ∧ r.2.mem ((c.tc : Thread Cert.EdgesKernel.nD Cert.EdgesKernel.τ).loc Cert.EdgesKernel.main_arg4) = m ((c.tc : Thread Cert.EdgesKernel.nD Cert.EdgesKernel.τ).loc Cert.EdgesKernel.main_arg4)
      ∧ r.2.mem ((c.tc : Thread Cert.EdgesKernel.nD Cert.EdgesKernel.τ).loc Cert.EdgesKernel.main_arg5) = m ((c.tc : Thread Cert.EdgesKernel.nD Cert.EdgesKernel.τ).loc Cert.EdgesKernel.main_arg5)
      ∧ r.2.mem ((c.tc : Thread Cert.EdgesKernel.nD Cert.EdgesKernel.τ).loc Cert.EdgesKernel.main_arg6) = m ((c.tc : Thread Cert.EdgesKernel.nD Cert.EdgesKernel.τ).loc Cert.EdgesKernel.main_arg6)
      ∧ r.2.mem ((c.tc : Thread Cert.EdgesKernel.nD Cert.EdgesKernel.τ).loc Cert.EdgesKernel.main_arg7) = m ((c.tc : Thread Cert.EdgesKernel.nD Cert.EdgesKernel.τ).loc Cert.EdgesKernel.main_arg7)
      ∧ r.2.mem ((c.tc : Thread Cert.EdgesKernel.nD Cert.EdgesKernel.τ).loc Cert.EdgesKernel.main_arg8) = m ((c.tc : Thread Cert.EdgesKernel.nD Cert.EdgesKernel.τ).loc Cert.EdgesKernel.main_arg8)
      ∧ r.2.mem ((c.tc : Thread Cert.EdgesKernel.nD Cert.EdgesKernel.τ).loc Cert.EdgesKernel.main_arg9) = m ((c.tc : Thread Cert.EdgesKernel.nD Cert.EdgesKernel.τ).loc Cert.EdgesKernel.main_arg9)
      ∧ r.2.mem ((c.tc : Thread Cert.EdgesKernel.nD Cert.EdgesKernel.τ).loc Cert.EdgesKernel.main_arg10) = m ((c.tc : Thread Cert.EdgesKernel.nD Cert.EdgesKernel.τ).loc Cert.EdgesKernel.main_arg10))
      ∧ r.2.sem = fun _ => 0)

def quiescent_EdgesKernelIdeal [hEdgesKernelIdeal : Cert.EdgesKernelIdeal.Facts] : Prop :=
  ∀ (m : (ℓ : Loc Cert.EdgesKernelIdeal.nD Cert.EdgesKernelIdeal.τ Cert.EdgesKernelIdeal.sig) → Buf (Elt Ideal) ℓ) (g : Dev Cert.EdgesKernelIdeal.nD → PrngReg), Pre_EdgesKernelIdeal m →
    θ_run (Cert.EdgesKernelIdeal.defs (F := Ideal)) (onTc (τ := Cert.EdgesKernelIdeal.τ) (Cert.EdgesKernelIdeal.main (F := Ideal))) ⟨m, fun _ => 0, g⟩ (fun r => (∀ c : Dev Cert.EdgesKernelIdeal.nD,
      r.2.mem ((c.tc : Thread Cert.EdgesKernelIdeal.nD Cert.EdgesKernelIdeal.τ).loc Cert.EdgesKernelIdeal.main_arg0) = m ((c.tc : Thread Cert.EdgesKernelIdeal.nD Cert.EdgesKernelIdeal.τ).loc Cert.EdgesKernelIdeal.main_arg0)
      ∧ r.2.mem ((c.tc : Thread Cert.EdgesKernelIdeal.nD Cert.EdgesKernelIdeal.τ).loc Cert.EdgesKernelIdeal.main_arg1) = m ((c.tc : Thread Cert.EdgesKernelIdeal.nD Cert.EdgesKernelIdeal.τ).loc Cert.EdgesKernelIdeal.main_arg1)
      ∧ r.2.mem ((c.tc : Thread Cert.EdgesKernelIdeal.nD Cert.EdgesKernelIdeal.τ).loc Cert.EdgesKernelIdeal.main_arg2) = m ((c.tc : Thread Cert.EdgesKernelIdeal.nD Cert.EdgesKernelIdeal.τ).loc Cert.EdgesKernelIdeal.main_arg2)
      ∧ r.2.mem ((c.tc : Thread Cert.EdgesKernelIdeal.nD Cert.EdgesKernelIdeal.τ).loc Cert.EdgesKernelIdeal.main_arg3) = m ((c.tc : Thread Cert.EdgesKernelIdeal.nD Cert.EdgesKernelIdeal.τ).loc Cert.EdgesKernelIdeal.main_arg3)
      ∧ r.2.mem ((c.tc : Thread Cert.EdgesKernelIdeal.nD Cert.EdgesKernelIdeal.τ).loc Cert.EdgesKernelIdeal.main_arg4) = m ((c.tc : Thread Cert.EdgesKernelIdeal.nD Cert.EdgesKernelIdeal.τ).loc Cert.EdgesKernelIdeal.main_arg4)
      ∧ r.2.mem ((c.tc : Thread Cert.EdgesKernelIdeal.nD Cert.EdgesKernelIdeal.τ).loc Cert.EdgesKernelIdeal.main_arg5) = m ((c.tc : Thread Cert.EdgesKernelIdeal.nD Cert.EdgesKernelIdeal.τ).loc Cert.EdgesKernelIdeal.main_arg5)
      ∧ r.2.mem ((c.tc : Thread Cert.EdgesKernelIdeal.nD Cert.EdgesKernelIdeal.τ).loc Cert.EdgesKernelIdeal.main_arg6) = m ((c.tc : Thread Cert.EdgesKernelIdeal.nD Cert.EdgesKernelIdeal.τ).loc Cert.EdgesKernelIdeal.main_arg6)
      ∧ r.2.mem ((c.tc : Thread Cert.EdgesKernelIdeal.nD Cert.EdgesKernelIdeal.τ).loc Cert.EdgesKernelIdeal.main_arg7) = m ((c.tc : Thread Cert.EdgesKernelIdeal.nD Cert.EdgesKernelIdeal.τ).loc Cert.EdgesKernelIdeal.main_arg7)
      ∧ r.2.mem ((c.tc : Thread Cert.EdgesKernelIdeal.nD Cert.EdgesKernelIdeal.τ).loc Cert.EdgesKernelIdeal.main_arg8) = m ((c.tc : Thread Cert.EdgesKernelIdeal.nD Cert.EdgesKernelIdeal.τ).loc Cert.EdgesKernelIdeal.main_arg8)
      ∧ r.2.mem ((c.tc : Thread Cert.EdgesKernelIdeal.nD Cert.EdgesKernelIdeal.τ).loc Cert.EdgesKernelIdeal.main_arg9) = m ((c.tc : Thread Cert.EdgesKernelIdeal.nD Cert.EdgesKernelIdeal.τ).loc Cert.EdgesKernelIdeal.main_arg9)
      ∧ r.2.mem ((c.tc : Thread Cert.EdgesKernelIdeal.nD Cert.EdgesKernelIdeal.τ).loc Cert.EdgesKernelIdeal.main_arg10) = m ((c.tc : Thread Cert.EdgesKernelIdeal.nD Cert.EdgesKernelIdeal.τ).loc Cert.EdgesKernelIdeal.main_arg10))
      ∧ r.2.sem = fun _ => 0)

def quiescent_EdgesReferenceIdeal [hEdgesReferenceIdeal : Cert.EdgesReferenceIdeal.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5)
      ∧ r.2.mem ((c.tc : Thread Cert.EdgesReferenceIdeal.nD Cert.EdgesReferenceIdeal.τ).loc Cert.EdgesReferenceIdeal.main_arg6) = m ((c.tc : Thread Cert.EdgesReferenceIdeal.nD Cert.EdgesReferenceIdeal.τ).loc Cert.EdgesReferenceIdeal.main_arg6)
      ∧ r.2.mem ((c.tc : Thread Cert.EdgesReferenceIdeal.nD Cert.EdgesReferenceIdeal.τ).loc Cert.EdgesReferenceIdeal.main_arg7) = m ((c.tc : Thread Cert.EdgesReferenceIdeal.nD Cert.EdgesReferenceIdeal.τ).loc Cert.EdgesReferenceIdeal.main_arg7)
      ∧ r.2.mem ((c.tc : Thread Cert.EdgesReferenceIdeal.nD Cert.EdgesReferenceIdeal.τ).loc Cert.EdgesReferenceIdeal.main_arg8) = m ((c.tc : Thread Cert.EdgesReferenceIdeal.nD Cert.EdgesReferenceIdeal.τ).loc Cert.EdgesReferenceIdeal.main_arg8)
      ∧ r.2.mem ((c.tc : Thread Cert.EdgesReferenceIdeal.nD Cert.EdgesReferenceIdeal.τ).loc Cert.EdgesReferenceIdeal.main_arg9) = m ((c.tc : Thread Cert.EdgesReferenceIdeal.nD Cert.EdgesReferenceIdeal.τ).loc Cert.EdgesReferenceIdeal.main_arg9)
      ∧ r.2.mem ((c.tc : Thread Cert.EdgesReferenceIdeal.nD Cert.EdgesReferenceIdeal.τ).loc Cert.EdgesReferenceIdeal.main_arg10) = m ((c.tc : Thread Cert.EdgesReferenceIdeal.nD Cert.EdgesReferenceIdeal.τ).loc Cert.EdgesReferenceIdeal.main_arg10))
      ∧ r.2.sem = fun _ => 0)

def quiescent_FirstKernel [hFirstKernel : Cert.FirstKernel.Facts] [hPre_first_ok : Cert.Pre_first_ok.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (Cert.FirstKernel.threads (F := Bits)) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6)
      ∧ r.2.mem ((c.tc : Thread Cert.FirstKernel.nD Cert.FirstKernel.τ).loc Cert.FirstKernel.main_arg7) = m ((c.tc : Thread Cert.FirstKernel.nD Cert.FirstKernel.τ).loc Cert.FirstKernel.main_arg7)
      ∧ r.2.mem ((c.tc : Thread Cert.FirstKernel.nD Cert.FirstKernel.τ).loc Cert.FirstKernel.main_arg8) = m ((c.tc : Thread Cert.FirstKernel.nD Cert.FirstKernel.τ).loc Cert.FirstKernel.main_arg8)
      ∧ r.2.mem ((c.tc : Thread Cert.FirstKernel.nD Cert.FirstKernel.τ).loc Cert.FirstKernel.main_arg9) = m ((c.tc : Thread Cert.FirstKernel.nD Cert.FirstKernel.τ).loc Cert.FirstKernel.main_arg9)
      ∧ r.2.mem ((c.tc : Thread Cert.FirstKernel.nD Cert.FirstKernel.τ).loc Cert.FirstKernel.main_arg10) = m ((c.tc : Thread Cert.FirstKernel.nD Cert.FirstKernel.τ).loc Cert.FirstKernel.main_arg10)
      ∧ r.2.mem ((c.tc : Thread Cert.FirstKernel.nD Cert.FirstKernel.τ).loc Cert.FirstKernel.main_arg11) = m ((c.tc : Thread Cert.FirstKernel.nD Cert.FirstKernel.τ).loc Cert.FirstKernel.main_arg11)
      ∧ r.2.mem ((c.tc : Thread Cert.FirstKernel.nD Cert.FirstKernel.τ).loc Cert.FirstKernel.main_arg12) = m ((c.tc : Thread Cert.FirstKernel.nD Cert.FirstKernel.τ).loc Cert.FirstKernel.main_arg12)
      ∧ r.2.mem ((c.tc : Thread Cert.FirstKernel.nD Cert.FirstKernel.τ).loc Cert.FirstKernel.main_arg13) = m ((c.tc : Thread Cert.FirstKernel.nD Cert.FirstKernel.τ).loc Cert.FirstKernel.main_arg13)
      ∧ r.2.mem ((c.tc : Thread Cert.FirstKernel.nD Cert.FirstKernel.τ).loc Cert.FirstKernel.main_arg14) = m ((c.tc : Thread Cert.FirstKernel.nD Cert.FirstKernel.τ).loc Cert.FirstKernel.main_arg14)
      ∧ r.2.mem ((c.tc : Thread Cert.FirstKernel.nD Cert.FirstKernel.τ).loc Cert.FirstKernel.main_arg15) = m ((c.tc : Thread Cert.FirstKernel.nD Cert.FirstKernel.τ).loc Cert.FirstKernel.main_arg15)
      ∧ r.2.mem ((c.tc : Thread Cert.FirstKernel.nD Cert.FirstKernel.τ).loc Cert.FirstKernel.main_arg16) = m ((c.tc : Thread Cert.FirstKernel.nD Cert.FirstKernel.τ).loc Cert.FirstKernel.main_arg16)
      ∧ r.2.mem ((c.tc : Thread Cert.FirstKernel.nD Cert.FirstKernel.τ).loc Cert.FirstKernel.main_arg17) = m ((c.tc : Thread Cert.FirstKernel.nD Cert.FirstKernel.τ).loc Cert.FirstKernel.main_arg17)
      ∧ r.2.mem ((c.tc : Thread Cert.FirstKernel.nD Cert.FirstKernel.τ).loc Cert.FirstKernel.main_arg18) = m ((c.tc : Thread Cert.FirstKernel.nD Cert.FirstKernel.τ).loc Cert.FirstKernel.main_arg18)
      ∧ r.2.mem ((c.tc : Thread Cert.FirstKernel.nD Cert.FirstKernel.τ).loc Cert.FirstKernel.main_arg19) = m ((c.tc : Thread Cert.FirstKernel.nD Cert.FirstKernel.τ).loc Cert.FirstKernel.main_arg19)
      ∧ r.2.mem ((c.tc : Thread Cert.FirstKernel.nD Cert.FirstKernel.τ).loc Cert.FirstKernel.main_arg20) = m ((c.tc : Thread Cert.FirstKernel.nD Cert.FirstKernel.τ).loc Cert.FirstKernel.main_arg20))
      ∧ r.2.sem = fun _ => 0)

def quiescent_FirstKernelIdeal [hFirstKernelIdeal : Cert.FirstKernelIdeal.Facts] [hPre_first_ok : Cert.Pre_first_ok.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (Cert.FirstKernelIdeal.threads (F := Ideal)) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
      ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
      ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
      ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11)
      ∧ r.2.mem ((c.tc : Thread Cert.FirstKernelIdeal.nD Cert.FirstKernelIdeal.τ).loc Cert.FirstKernelIdeal.main_arg12) = m ((c.tc : Thread Cert.FirstKernelIdeal.nD Cert.FirstKernelIdeal.τ).loc Cert.FirstKernelIdeal.main_arg12)
      ∧ r.2.mem ((c.tc : Thread Cert.FirstKernelIdeal.nD Cert.FirstKernelIdeal.τ).loc Cert.FirstKernelIdeal.main_arg13) = m ((c.tc : Thread Cert.FirstKernelIdeal.nD Cert.FirstKernelIdeal.τ).loc Cert.FirstKernelIdeal.main_arg13)
      ∧ r.2.mem ((c.tc : Thread Cert.FirstKernelIdeal.nD Cert.FirstKernelIdeal.τ).loc Cert.FirstKernelIdeal.main_arg14) = m ((c.tc : Thread Cert.FirstKernelIdeal.nD Cert.FirstKernelIdeal.τ).loc Cert.FirstKernelIdeal.main_arg14)
      ∧ r.2.mem ((c.tc : Thread Cert.FirstKernelIdeal.nD Cert.FirstKernelIdeal.τ).loc Cert.FirstKernelIdeal.main_arg15) = m ((c.tc : Thread Cert.FirstKernelIdeal.nD Cert.FirstKernelIdeal.τ).loc Cert.FirstKernelIdeal.main_arg15)
      ∧ r.2.mem ((c.tc : Thread Cert.FirstKernelIdeal.nD Cert.FirstKernelIdeal.τ).loc Cert.FirstKernelIdeal.main_arg16) = m ((c.tc : Thread Cert.FirstKernelIdeal.nD Cert.FirstKernelIdeal.τ).loc Cert.FirstKernelIdeal.main_arg16)
      ∧ r.2.mem ((c.tc : Thread Cert.FirstKernelIdeal.nD Cert.FirstKernelIdeal.τ).loc Cert.FirstKernelIdeal.main_arg17) = m ((c.tc : Thread Cert.FirstKernelIdeal.nD Cert.FirstKernelIdeal.τ).loc Cert.FirstKernelIdeal.main_arg17)
      ∧ r.2.mem ((c.tc : Thread Cert.FirstKernelIdeal.nD Cert.FirstKernelIdeal.τ).loc Cert.FirstKernelIdeal.main_arg18) = m ((c.tc : Thread Cert.FirstKernelIdeal.nD Cert.FirstKernelIdeal.τ).loc Cert.FirstKernelIdeal.main_arg18)
      ∧ r.2.mem ((c.tc : Thread Cert.FirstKernelIdeal.nD Cert.FirstKernelIdeal.τ).loc Cert.FirstKernelIdeal.main_arg19) = m ((c.tc : Thread Cert.FirstKernelIdeal.nD Cert.FirstKernelIdeal.τ).loc Cert.FirstKernelIdeal.main_arg19)
      ∧ r.2.mem ((c.tc : Thread Cert.FirstKernelIdeal.nD Cert.FirstKernelIdeal.τ).loc Cert.FirstKernelIdeal.main_arg20) = m ((c.tc : Thread Cert.FirstKernelIdeal.nD Cert.FirstKernelIdeal.τ).loc Cert.FirstKernelIdeal.main_arg20))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12)
      ∧ r.2.mem ((c.tc : Thread Cert.FirstReferenceIdeal.nD Cert.FirstReferenceIdeal.τ).loc Cert.FirstReferenceIdeal.main_arg13) = m ((c.tc : Thread Cert.FirstReferenceIdeal.nD Cert.FirstReferenceIdeal.τ).loc Cert.FirstReferenceIdeal.main_arg13)
      ∧ r.2.mem ((c.tc : Thread Cert.FirstReferenceIdeal.nD Cert.FirstReferenceIdeal.τ).loc Cert.FirstReferenceIdeal.main_arg14) = m ((c.tc : Thread Cert.FirstReferenceIdeal.nD Cert.FirstReferenceIdeal.τ).loc Cert.FirstReferenceIdeal.main_arg14)
      ∧ r.2.mem ((c.tc : Thread Cert.FirstReferenceIdeal.nD Cert.FirstReferenceIdeal.τ).loc Cert.FirstReferenceIdeal.main_arg15) = m ((c.tc : Thread Cert.FirstReferenceIdeal.nD Cert.FirstReferenceIdeal.τ).loc Cert.FirstReferenceIdeal.main_arg15)
      ∧ r.2.mem ((c.tc : Thread Cert.FirstReferenceIdeal.nD Cert.FirstReferenceIdeal.τ).loc Cert.FirstReferenceIdeal.main_arg16) = m ((c.tc : Thread Cert.FirstReferenceIdeal.nD Cert.FirstReferenceIdeal.τ).loc Cert.FirstReferenceIdeal.main_arg16)
      ∧ r.2.mem ((c.tc : Thread Cert.FirstReferenceIdeal.nD Cert.FirstReferenceIdeal.τ).loc Cert.FirstReferenceIdeal.main_arg17) = m ((c.tc : Thread Cert.FirstReferenceIdeal.nD Cert.FirstReferenceIdeal.τ).loc Cert.FirstReferenceIdeal.main_arg17)
      ∧ r.2.mem ((c.tc : Thread Cert.FirstReferenceIdeal.nD Cert.FirstReferenceIdeal.τ).loc Cert.FirstReferenceIdeal.main_arg18) = m ((c.tc : Thread Cert.FirstReferenceIdeal.nD Cert.FirstReferenceIdeal.τ).loc Cert.FirstReferenceIdeal.main_arg18)
      ∧ r.2.mem ((c.tc : Thread Cert.FirstReferenceIdeal.nD Cert.FirstReferenceIdeal.τ).loc Cert.FirstReferenceIdeal.main_arg19) = m ((c.tc : Thread Cert.FirstReferenceIdeal.nD Cert.FirstReferenceIdeal.τ).loc Cert.FirstReferenceIdeal.main_arg19)
      ∧ r.2.mem ((c.tc : Thread Cert.FirstReferenceIdeal.nD Cert.FirstReferenceIdeal.τ).loc Cert.FirstReferenceIdeal.main_arg20) = m ((c.tc : Thread Cert.FirstReferenceIdeal.nD Cert.FirstReferenceIdeal.τ).loc Cert.FirstReferenceIdeal.main_arg20))
      ∧ r.2.sem = fun _ => 0)

def quiescent_FirstReferenceIdeal_pre_first_ok [hFirstReferenceIdeal : Cert.FirstReferenceIdeal.Facts] [hPre_first_ok : Cert.Pre_first_ok.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_first_ok m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12)
      ∧ r.2.mem ((c.tc : Thread Cert.FirstReferenceIdeal.nD Cert.FirstReferenceIdeal.τ).loc Cert.FirstReferenceIdeal.main_arg13) = m ((c.tc : Thread Cert.FirstReferenceIdeal.nD Cert.FirstReferenceIdeal.τ).loc Cert.FirstReferenceIdeal.main_arg13)
      ∧ r.2.mem ((c.tc : Thread Cert.FirstReferenceIdeal.nD Cert.FirstReferenceIdeal.τ).loc Cert.FirstReferenceIdeal.main_arg14) = m ((c.tc : Thread Cert.FirstReferenceIdeal.nD Cert.FirstReferenceIdeal.τ).loc Cert.FirstReferenceIdeal.main_arg14)
      ∧ r.2.mem ((c.tc : Thread Cert.FirstReferenceIdeal.nD Cert.FirstReferenceIdeal.τ).loc Cert.FirstReferenceIdeal.main_arg15) = m ((c.tc : Thread Cert.FirstReferenceIdeal.nD Cert.FirstReferenceIdeal.τ).loc Cert.FirstReferenceIdeal.main_arg15)
      ∧ r.2.mem ((c.tc : Thread Cert.FirstReferenceIdeal.nD Cert.FirstReferenceIdeal.τ).loc Cert.FirstReferenceIdeal.main_arg16) = m ((c.tc : Thread Cert.FirstReferenceIdeal.nD Cert.FirstReferenceIdeal.τ).loc Cert.FirstReferenceIdeal.main_arg16)
      ∧ r.2.mem ((c.tc : Thread Cert.FirstReferenceIdeal.nD Cert.FirstReferenceIdeal.τ).loc Cert.FirstReferenceIdeal.main_arg17) = m ((c.tc : Thread Cert.FirstReferenceIdeal.nD Cert.FirstReferenceIdeal.τ).loc Cert.FirstReferenceIdeal.main_arg17)
      ∧ r.2.mem ((c.tc : Thread Cert.FirstReferenceIdeal.nD Cert.FirstReferenceIdeal.τ).loc Cert.FirstReferenceIdeal.main_arg18) = m ((c.tc : Thread Cert.FirstReferenceIdeal.nD Cert.FirstReferenceIdeal.τ).loc Cert.FirstReferenceIdeal.main_arg18)
      ∧ r.2.mem ((c.tc : Thread Cert.FirstReferenceIdeal.nD Cert.FirstReferenceIdeal.τ).loc Cert.FirstReferenceIdeal.main_arg19) = m ((c.tc : Thread Cert.FirstReferenceIdeal.nD Cert.FirstReferenceIdeal.τ).loc Cert.FirstReferenceIdeal.main_arg19)
      ∧ r.2.mem ((c.tc : Thread Cert.FirstReferenceIdeal.nD Cert.FirstReferenceIdeal.τ).loc Cert.FirstReferenceIdeal.main_arg20) = m ((c.tc : Thread Cert.FirstReferenceIdeal.nD Cert.FirstReferenceIdeal.τ).loc Cert.FirstReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_RowsKernel_RowsKernelIdeal : Prop :=
  IdealRules.named_const.Statement Cert.RowsKernelIdeal.κ "s" .f32 0x3F3504F3#32 (((Real.sqrt 2)⁻¹ : ℝ) : EReal)

def algebraic_RowsKernelIdeal_RowsReferenceIdeal [hRowsKernelIdeal : Cert.RowsKernelIdeal.Facts] [hRowsReferenceIdeal : Cert.RowsReferenceIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsKernelIdeal m →
    (∀ c : Dev Cert.RowsKernelIdeal.nD,
      m' ((c.tc : Thread Cert.RowsReferenceIdeal.nD Cert.RowsReferenceIdeal.τ).loc Cert.RowsReferenceIdeal.main_arg0) = m ((c.tc : Thread Cert.RowsKernelIdeal.nD Cert.RowsKernelIdeal.τ).loc Cert.RowsKernelIdeal.main_arg0)
      ∧ m' ((c.tc : Thread Cert.RowsReferenceIdeal.nD Cert.RowsReferenceIdeal.τ).loc Cert.RowsReferenceIdeal.main_arg1) = m ((c.tc : Thread Cert.RowsKernelIdeal.nD Cert.RowsKernelIdeal.τ).loc Cert.RowsKernelIdeal.main_arg1)
      ∧ m' ((c.tc : Thread Cert.RowsReferenceIdeal.nD Cert.RowsReferenceIdeal.τ).loc Cert.RowsReferenceIdeal.main_arg2) = m ((c.tc : Thread Cert.RowsKernelIdeal.nD Cert.RowsKernelIdeal.τ).loc Cert.RowsKernelIdeal.main_arg2)) →
    ∃ (v0 : (c : Dev Cert.RowsKernelIdeal.nD) → Buf (Elt Ideal) ((c.tc : Thread Cert.RowsKernelIdeal.nD Cert.RowsKernelIdeal.τ).loc Cert.RowsKernelIdeal.main_v5)),
      θ_run (Cert.RowsKernelIdeal.defs (F := Ideal)) (onTc (τ := Cert.RowsKernelIdeal.τ) (Cert.RowsKernelIdeal.main (F := Ideal))) ⟨m, fun _ => 0, g⟩ (fun r => ∀ c : Dev Cert.RowsKernelIdeal.nD,
          r.2.mem ((c.tc : Thread Cert.RowsKernelIdeal.nD Cert.RowsKernelIdeal.τ).loc Cert.RowsKernelIdeal.main_v5) = v0 c
          ∧ r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
          ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
          ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v12) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2))

def preserves_NodesKernel_NodesKernelIdeal : Prop :=
  IdealRules.named_const.Statement Cert.NodesKernelIdeal.κ "s" .f32 0x3F3504F3#32 (((Real.sqrt 2)⁻¹ : ℝ) : EReal)
  ∧ IdealRules.named_const.Statement Cert.NodesKernelIdeal.κ "t" .f32 0x3D088889#32 ((30⁻¹ : ℝ) : EReal)

def algebraic_NodesKernelIdeal_NodesReferenceIdeal [hNodesKernelIdeal : Cert.NodesKernelIdeal.Facts] [hNodesReferenceIdeal : Cert.NodesReferenceIdeal.Facts] [hPre_nodes_ok : Cert.Pre_nodes_ok.Facts] : Prop :=
  ∀ (m : (ℓ : Loc Cert.NodesKernelIdeal.nD Cert.NodesKernelIdeal.τ Cert.NodesKernelIdeal.sig) → Buf (Elt Ideal) ℓ) (g : Dev Cert.NodesKernelIdeal.nD → PrngReg)
    (m' : (ℓ : Loc Cert.NodesReferenceIdeal.nD Cert.NodesReferenceIdeal.τ Cert.NodesReferenceIdeal.sig) → Buf (Elt Ideal) ℓ) (g' : Dev Cert.NodesReferenceIdeal.nD → PrngReg), Pre_NodesKernelIdeal m →
    (∀ c : Dev Cert.NodesKernelIdeal.nD,
      m' ((c.tc : Thread Cert.NodesReferenceIdeal.nD Cert.NodesReferenceIdeal.τ).loc Cert.NodesReferenceIdeal.main_arg0) = m ((c.tc : Thread Cert.NodesKernelIdeal.nD Cert.NodesKernelIdeal.τ).loc Cert.NodesKernelIdeal.main_arg0)
      ∧ m' ((c.tc : Thread Cert.NodesReferenceIdeal.nD Cert.NodesReferenceIdeal.τ).loc Cert.NodesReferenceIdeal.main_arg1) = m ((c.tc : Thread Cert.NodesKernelIdeal.nD Cert.NodesKernelIdeal.τ).loc Cert.NodesKernelIdeal.main_arg1)
      ∧ m' ((c.tc : Thread Cert.NodesReferenceIdeal.nD Cert.NodesReferenceIdeal.τ).loc Cert.NodesReferenceIdeal.main_arg2) = m ((c.tc : Thread Cert.NodesKernelIdeal.nD Cert.NodesKernelIdeal.τ).loc Cert.NodesKernelIdeal.main_arg2)
      ∧ m' ((c.tc : Thread Cert.NodesReferenceIdeal.nD Cert.NodesReferenceIdeal.τ).loc Cert.NodesReferenceIdeal.main_arg3) = m ((c.tc : Thread Cert.NodesKernelIdeal.nD Cert.NodesKernelIdeal.τ).loc Cert.NodesKernelIdeal.main_arg3)
      ∧ m' ((c.tc : Thread Cert.NodesReferenceIdeal.nD Cert.NodesReferenceIdeal.τ).loc Cert.NodesReferenceIdeal.main_arg4) = m ((c.tc : Thread Cert.NodesKernelIdeal.nD Cert.NodesKernelIdeal.τ).loc Cert.NodesKernelIdeal.main_arg4)
      ∧ m' ((c.tc : Thread Cert.NodesReferenceIdeal.nD Cert.NodesReferenceIdeal.τ).loc Cert.NodesReferenceIdeal.main_arg5) = m ((c.tc : Thread Cert.NodesKernelIdeal.nD Cert.NodesKernelIdeal.τ).loc Cert.NodesKernelIdeal.main_arg5)
      ∧ m' ((c.tc : Thread Cert.NodesReferenceIdeal.nD Cert.NodesReferenceIdeal.τ).loc Cert.NodesReferenceIdeal.main_arg6) = m ((c.tc : Thread Cert.NodesKernelIdeal.nD Cert.NodesKernelIdeal.τ).loc Cert.NodesKernelIdeal.main_arg6)
      ∧ m' ((c.tc : Thread Cert.NodesReferenceIdeal.nD Cert.NodesReferenceIdeal.τ).loc Cert.NodesReferenceIdeal.main_arg7) = m ((c.tc : Thread Cert.NodesKernelIdeal.nD Cert.NodesKernelIdeal.τ).loc Cert.NodesKernelIdeal.main_arg7)
      ∧ m' ((c.tc : Thread Cert.NodesReferenceIdeal.nD Cert.NodesReferenceIdeal.τ).loc Cert.NodesReferenceIdeal.main_arg8) = m ((c.tc : Thread Cert.NodesKernelIdeal.nD Cert.NodesKernelIdeal.τ).loc Cert.NodesKernelIdeal.main_arg8)
      ∧ m' ((c.tc : Thread Cert.NodesReferenceIdeal.nD Cert.NodesReferenceIdeal.τ).loc Cert.NodesReferenceIdeal.main_arg9) = m ((c.tc : Thread Cert.NodesKernelIdeal.nD Cert.NodesKernelIdeal.τ).loc Cert.NodesKernelIdeal.main_arg9)
      ∧ m' ((c.tc : Thread Cert.NodesReferenceIdeal.nD Cert.NodesReferenceIdeal.τ).loc Cert.NodesReferenceIdeal.main_arg10) = m ((c.tc : Thread Cert.NodesKernelIdeal.nD Cert.NodesKernelIdeal.τ).loc Cert.NodesKernelIdeal.main_arg10)
      ∧ m' ((c.tc : Thread Cert.NodesReferenceIdeal.nD Cert.NodesReferenceIdeal.τ).loc Cert.NodesReferenceIdeal.main_arg11) = m ((c.tc : Thread Cert.NodesKernelIdeal.nD Cert.NodesKernelIdeal.τ).loc Cert.NodesKernelIdeal.main_arg11)
      ∧ m' ((c.tc : Thread Cert.NodesReferenceIdeal.nD Cert.NodesReferenceIdeal.τ).loc Cert.NodesReferenceIdeal.main_arg12) = m ((c.tc : Thread Cert.NodesKernelIdeal.nD Cert.NodesKernelIdeal.τ).loc Cert.NodesKernelIdeal.main_arg12)
      ∧ m' ((c.tc : Thread Cert.NodesReferenceIdeal.nD Cert.NodesReferenceIdeal.τ).loc Cert.NodesReferenceIdeal.main_arg13) = m ((c.tc : Thread Cert.NodesKernelIdeal.nD Cert.NodesKernelIdeal.τ).loc Cert.NodesKernelIdeal.main_arg13)
      ∧ m' ((c.tc : Thread Cert.NodesReferenceIdeal.nD Cert.NodesReferenceIdeal.τ).loc Cert.NodesReferenceIdeal.main_arg14) = m ((c.tc : Thread Cert.NodesKernelIdeal.nD Cert.NodesKernelIdeal.τ).loc Cert.NodesKernelIdeal.main_arg14)
      ∧ m' ((c.tc : Thread Cert.NodesReferenceIdeal.nD Cert.NodesReferenceIdeal.τ).loc Cert.NodesReferenceIdeal.main_arg15) = m ((c.tc : Thread Cert.NodesKernelIdeal.nD Cert.NodesKernelIdeal.τ).loc Cert.NodesKernelIdeal.main_arg15)
      ∧ m' ((c.tc : Thread Cert.NodesReferenceIdeal.nD Cert.NodesReferenceIdeal.τ).loc Cert.NodesReferenceIdeal.main_arg16) = m ((c.tc : Thread Cert.NodesKernelIdeal.nD Cert.NodesKernelIdeal.τ).loc Cert.NodesKernelIdeal.main_arg16)
      ∧ m' ((c.tc : Thread Cert.NodesReferenceIdeal.nD Cert.NodesReferenceIdeal.τ).loc Cert.NodesReferenceIdeal.main_arg17) = m ((c.tc : Thread Cert.NodesKernelIdeal.nD Cert.NodesKernelIdeal.τ).loc Cert.NodesKernelIdeal.main_arg17)
      ∧ m' ((c.tc : Thread Cert.NodesReferenceIdeal.nD Cert.NodesReferenceIdeal.τ).loc Cert.NodesReferenceIdeal.main_arg18) = m ((c.tc : Thread Cert.NodesKernelIdeal.nD Cert.NodesKernelIdeal.τ).loc Cert.NodesKernelIdeal.main_arg18)
      ∧ m' ((c.tc : Thread Cert.NodesReferenceIdeal.nD Cert.NodesReferenceIdeal.τ).loc Cert.NodesReferenceIdeal.main_arg19) = m ((c.tc : Thread Cert.NodesKernelIdeal.nD Cert.NodesKernelIdeal.τ).loc Cert.NodesKernelIdeal.main_arg19)) →
    ∃ (v0 : (c : Dev Cert.NodesKernelIdeal.nD) → Buf (Elt Ideal) ((c.tc : Thread Cert.NodesKernelIdeal.nD Cert.NodesKernelIdeal.τ).loc Cert.NodesKernelIdeal.main_v26_0)) (v1 : (c : Dev Cert.NodesKernelIdeal.nD) → Buf (Elt Ideal) ((c.tc : Thread Cert.NodesKernelIdeal.nD Cert.NodesKernelIdeal.τ).loc Cert.NodesKernelIdeal.main_v26_1)) (v2 : (c : Dev Cert.NodesKernelIdeal.nD) → Buf (Elt Ideal) ((c.tc : Thread Cert.NodesKernelIdeal.nD Cert.NodesKernelIdeal.τ).loc Cert.NodesKernelIdeal.main_v26_2)),
      θ_run (Cert.NodesKernelIdeal.defs (F := Ideal)) (onTc (τ := Cert.NodesKernelIdeal.τ) (Cert.NodesKernelIdeal.main (F := Ideal))) ⟨m, fun _ => 0, g⟩ (fun r => ∀ c : Dev Cert.NodesKernelIdeal.nD,
          r.2.mem ((c.tc : Thread Cert.NodesKernelIdeal.nD Cert.NodesKernelIdeal.τ).loc Cert.NodesKernelIdeal.main_v26_0) = v0 c
          ∧ r.2.mem ((c.tc : Thread Cert.NodesKernelIdeal.nD Cert.NodesKernelIdeal.τ).loc Cert.NodesKernelIdeal.main_v26_1) = v1 c
          ∧ r.2.mem ((c.tc : Thread Cert.NodesKernelIdeal.nD Cert.NodesKernelIdeal.τ).loc Cert.NodesKernelIdeal.main_v26_2) = v2 c
          ∧ r.2.mem ((c.tc : Thread Cert.NodesKernelIdeal.nD Cert.NodesKernelIdeal.τ).loc Cert.NodesKernelIdeal.main_arg0) = m ((c.tc : Thread Cert.NodesKernelIdeal.nD Cert.NodesKernelIdeal.τ).loc Cert.NodesKernelIdeal.main_arg0)
          ∧ r.2.mem ((c.tc : Thread Cert.NodesKernelIdeal.nD Cert.NodesKernelIdeal.τ).loc Cert.NodesKernelIdeal.main_arg1) = m ((c.tc : Thread Cert.NodesKernelIdeal.nD Cert.NodesKernelIdeal.τ).loc Cert.NodesKernelIdeal.main_arg1)
          ∧ r.2.mem ((c.tc : Thread Cert.NodesKernelIdeal.nD Cert.NodesKernelIdeal.τ).loc Cert.NodesKernelIdeal.main_arg2) = m ((c.tc : Thread Cert.NodesKernelIdeal.nD Cert.NodesKernelIdeal.τ).loc Cert.NodesKernelIdeal.main_arg2)
          ∧ r.2.mem ((c.tc : Thread Cert.NodesKernelIdeal.nD Cert.NodesKernelIdeal.τ).loc Cert.NodesKernelIdeal.main_arg3) = m ((c.tc : Thread Cert.NodesKernelIdeal.nD Cert.NodesKernelIdeal.τ).loc Cert.NodesKernelIdeal.main_arg3)
          ∧ r.2.mem ((c.tc : Thread Cert.NodesKernelIdeal.nD Cert.NodesKernelIdeal.τ).loc Cert.NodesKernelIdeal.main_arg4) = m ((c.tc : Thread Cert.NodesKernelIdeal.nD Cert.NodesKernelIdeal.τ).loc Cert.NodesKernelIdeal.main_arg4)
          ∧ r.2.mem ((c.tc : Thread Cert.NodesKernelIdeal.nD Cert.NodesKernelIdeal.τ).loc Cert.NodesKernelIdeal.main_arg5) = m ((c.tc : Thread Cert.NodesKernelIdeal.nD Cert.NodesKernelIdeal.τ).loc Cert.NodesKernelIdeal.main_arg5)
          ∧ r.2.mem ((c.tc : Thread Cert.NodesKernelIdeal.nD Cert.NodesKernelIdeal.τ).loc Cert.NodesKernelIdeal.main_arg6) = m ((c.tc : Thread Cert.NodesKernelIdeal.nD Cert.NodesKernelIdeal.τ).loc Cert.NodesKernelIdeal.main_arg6)
          ∧ r.2.mem ((c.tc : Thread Cert.NodesKernelIdeal.nD Cert.NodesKernelIdeal.τ).loc Cert.NodesKernelIdeal.main_arg7) = m ((c.tc : Thread Cert.NodesKernelIdeal.nD Cert.NodesKernelIdeal.τ).loc Cert.NodesKernelIdeal.main_arg7)
          ∧ r.2.mem ((c.tc : Thread Cert.NodesKernelIdeal.nD Cert.NodesKernelIdeal.τ).loc Cert.NodesKernelIdeal.main_arg8) = m ((c.tc : Thread Cert.NodesKernelIdeal.nD Cert.NodesKernelIdeal.τ).loc Cert.NodesKernelIdeal.main_arg8)
          ∧ r.2.mem ((c.tc : Thread Cert.NodesKernelIdeal.nD Cert.NodesKernelIdeal.τ).loc Cert.NodesKernelIdeal.main_arg9) = m ((c.tc : Thread Cert.NodesKernelIdeal.nD Cert.NodesKernelIdeal.τ).loc Cert.NodesKernelIdeal.main_arg9)
          ∧ r.2.mem ((c.tc : Thread Cert.NodesKernelIdeal.nD Cert.NodesKernelIdeal.τ).loc Cert.NodesKernelIdeal.main_arg10) = m ((c.tc : Thread Cert.NodesKernelIdeal.nD Cert.NodesKernelIdeal.τ).loc Cert.NodesKernelIdeal.main_arg10)
          ∧ r.2.mem ((c.tc : Thread Cert.NodesKernelIdeal.nD Cert.NodesKernelIdeal.τ).loc Cert.NodesKernelIdeal.main_arg11) = m ((c.tc : Thread Cert.NodesKernelIdeal.nD Cert.NodesKernelIdeal.τ).loc Cert.NodesKernelIdeal.main_arg11)
          ∧ r.2.mem ((c.tc : Thread Cert.NodesKernelIdeal.nD Cert.NodesKernelIdeal.τ).loc Cert.NodesKernelIdeal.main_arg12) = m ((c.tc : Thread Cert.NodesKernelIdeal.nD Cert.NodesKernelIdeal.τ).loc Cert.NodesKernelIdeal.main_arg12)
          ∧ r.2.mem ((c.tc : Thread Cert.NodesKernelIdeal.nD Cert.NodesKernelIdeal.τ).loc Cert.NodesKernelIdeal.main_arg13) = m ((c.tc : Thread Cert.NodesKernelIdeal.nD Cert.NodesKernelIdeal.τ).loc Cert.NodesKernelIdeal.main_arg13)
          ∧ r.2.mem ((c.tc : Thread Cert.NodesKernelIdeal.nD Cert.NodesKernelIdeal.τ).loc Cert.NodesKernelIdeal.main_arg14) = m ((c.tc : Thread Cert.NodesKernelIdeal.nD Cert.NodesKernelIdeal.τ).loc Cert.NodesKernelIdeal.main_arg14)
          ∧ r.2.mem ((c.tc : Thread Cert.NodesKernelIdeal.nD Cert.NodesKernelIdeal.τ).loc Cert.NodesKernelIdeal.main_arg15) = m ((c.tc : Thread Cert.NodesKernelIdeal.nD Cert.NodesKernelIdeal.τ).loc Cert.NodesKernelIdeal.main_arg15)
          ∧ r.2.mem ((c.tc : Thread Cert.NodesKernelIdeal.nD Cert.NodesKernelIdeal.τ).loc Cert.NodesKernelIdeal.main_arg16) = m ((c.tc : Thread Cert.NodesKernelIdeal.nD Cert.NodesKernelIdeal.τ).loc Cert.NodesKernelIdeal.main_arg16)
          ∧ r.2.mem ((c.tc : Thread Cert.NodesKernelIdeal.nD Cert.NodesKernelIdeal.τ).loc Cert.NodesKernelIdeal.main_arg17) = m ((c.tc : Thread Cert.NodesKernelIdeal.nD Cert.NodesKernelIdeal.τ).loc Cert.NodesKernelIdeal.main_arg17)
          ∧ r.2.mem ((c.tc : Thread Cert.NodesKernelIdeal.nD Cert.NodesKernelIdeal.τ).loc Cert.NodesKernelIdeal.main_arg18) = m ((c.tc : Thread Cert.NodesKernelIdeal.nD Cert.NodesKernelIdeal.τ).loc Cert.NodesKernelIdeal.main_arg18)
          ∧ r.2.mem ((c.tc : Thread Cert.NodesKernelIdeal.nD Cert.NodesKernelIdeal.τ).loc Cert.NodesKernelIdeal.main_arg19) = m ((c.tc : Thread Cert.NodesKernelIdeal.nD Cert.NodesKernelIdeal.τ).loc Cert.NodesKernelIdeal.main_arg19))
      ∧ θ_run (Cert.NodesReferenceIdeal.defs (F := Ideal)) (onTc (τ := Cert.NodesReferenceIdeal.τ) (Cert.NodesReferenceIdeal.main (F := Ideal))) ⟨m', fun _ => 0, g'⟩ (fun r => ∀ c : Dev Cert.NodesReferenceIdeal.nD,
          r.2.mem ((c.tc : Thread Cert.NodesReferenceIdeal.nD Cert.NodesReferenceIdeal.τ).loc Cert.NodesReferenceIdeal.main_v147) = v0 c
          ∧ r.2.mem ((c.tc : Thread Cert.NodesReferenceIdeal.nD Cert.NodesReferenceIdeal.τ).loc Cert.NodesReferenceIdeal.main_v138) = v1 c
          ∧ r.2.mem ((c.tc : Thread Cert.NodesReferenceIdeal.nD Cert.NodesReferenceIdeal.τ).loc Cert.NodesReferenceIdeal.main_v146) = v2 c
          ∧ r.2.mem ((c.tc : Thread Cert.NodesReferenceIdeal.nD Cert.NodesReferenceIdeal.τ).loc Cert.NodesReferenceIdeal.main_arg0) = m' ((c.tc : Thread Cert.NodesReferenceIdeal.nD Cert.NodesReferenceIdeal.τ).loc Cert.NodesReferenceIdeal.main_arg0)
          ∧ r.2.mem ((c.tc : Thread Cert.NodesReferenceIdeal.nD Cert.NodesReferenceIdeal.τ).loc Cert.NodesReferenceIdeal.main_arg1) = m' ((c.tc : Thread Cert.NodesReferenceIdeal.nD Cert.NodesReferenceIdeal.τ).loc Cert.NodesReferenceIdeal.main_arg1)
          ∧ r.2.mem ((c.tc : Thread Cert.NodesReferenceIdeal.nD Cert.NodesReferenceIdeal.τ).loc Cert.NodesReferenceIdeal.main_arg2) = m' ((c.tc : Thread Cert.NodesReferenceIdeal.nD Cert.NodesReferenceIdeal.τ).loc Cert.NodesReferenceIdeal.main_arg2)
          ∧ r.2.mem ((c.tc : Thread Cert.NodesReferenceIdeal.nD Cert.NodesReferenceIdeal.τ).loc Cert.NodesReferenceIdeal.main_arg3) = m' ((c.tc : Thread Cert.NodesReferenceIdeal.nD Cert.NodesReferenceIdeal.τ).loc Cert.NodesReferenceIdeal.main_arg3)
          ∧ r.2.mem ((c.tc : Thread Cert.NodesReferenceIdeal.nD Cert.NodesReferenceIdeal.τ).loc Cert.NodesReferenceIdeal.main_arg4) = m' ((c.tc : Thread Cert.NodesReferenceIdeal.nD Cert.NodesReferenceIdeal.τ).loc Cert.NodesReferenceIdeal.main_arg4)
          ∧ r.2.mem ((c.tc : Thread Cert.NodesReferenceIdeal.nD Cert.NodesReferenceIdeal.τ).loc Cert.NodesReferenceIdeal.main_arg5) = m' ((c.tc : Thread Cert.NodesReferenceIdeal.nD Cert.NodesReferenceIdeal.τ).loc Cert.NodesReferenceIdeal.main_arg5)
          ∧ r.2.mem ((c.tc : Thread Cert.NodesReferenceIdeal.nD Cert.NodesReferenceIdeal.τ).loc Cert.NodesReferenceIdeal.main_arg6) = m' ((c.tc : Thread Cert.NodesReferenceIdeal.nD Cert.NodesReferenceIdeal.τ).loc Cert.NodesReferenceIdeal.main_arg6)
          ∧ r.2.mem ((c.tc : Thread Cert.NodesReferenceIdeal.nD Cert.NodesReferenceIdeal.τ).loc Cert.NodesReferenceIdeal.main_arg7) = m' ((c.tc : Thread Cert.NodesReferenceIdeal.nD Cert.NodesReferenceIdeal.τ).loc Cert.NodesReferenceIdeal.main_arg7)
          ∧ r.2.mem ((c.tc : Thread Cert.NodesReferenceIdeal.nD Cert.NodesReferenceIdeal.τ).loc Cert.NodesReferenceIdeal.main_arg8) = m' ((c.tc : Thread Cert.NodesReferenceIdeal.nD Cert.NodesReferenceIdeal.τ).loc Cert.NodesReferenceIdeal.main_arg8)
          ∧ r.2.mem ((c.tc : Thread Cert.NodesReferenceIdeal.nD Cert.NodesReferenceIdeal.τ).loc Cert.NodesReferenceIdeal.main_arg9) = m' ((c.tc : Thread Cert.NodesReferenceIdeal.nD Cert.NodesReferenceIdeal.τ).loc Cert.NodesReferenceIdeal.main_arg9)
          ∧ r.2.mem ((c.tc : Thread Cert.NodesReferenceIdeal.nD Cert.NodesReferenceIdeal.τ).loc Cert.NodesReferenceIdeal.main_arg10) = m' ((c.tc : Thread Cert.NodesReferenceIdeal.nD Cert.NodesReferenceIdeal.τ).loc Cert.NodesReferenceIdeal.main_arg10)
          ∧ r.2.mem ((c.tc : Thread Cert.NodesReferenceIdeal.nD Cert.NodesReferenceIdeal.τ).loc Cert.NodesReferenceIdeal.main_arg11) = m' ((c.tc : Thread Cert.NodesReferenceIdeal.nD Cert.NodesReferenceIdeal.τ).loc Cert.NodesReferenceIdeal.main_arg11)
          ∧ r.2.mem ((c.tc : Thread Cert.NodesReferenceIdeal.nD Cert.NodesReferenceIdeal.τ).loc Cert.NodesReferenceIdeal.main_arg12) = m' ((c.tc : Thread Cert.NodesReferenceIdeal.nD Cert.NodesReferenceIdeal.τ).loc Cert.NodesReferenceIdeal.main_arg12)
          ∧ r.2.mem ((c.tc : Thread Cert.NodesReferenceIdeal.nD Cert.NodesReferenceIdeal.τ).loc Cert.NodesReferenceIdeal.main_arg13) = m' ((c.tc : Thread Cert.NodesReferenceIdeal.nD Cert.NodesReferenceIdeal.τ).loc Cert.NodesReferenceIdeal.main_arg13)
          ∧ r.2.mem ((c.tc : Thread Cert.NodesReferenceIdeal.nD Cert.NodesReferenceIdeal.τ).loc Cert.NodesReferenceIdeal.main_arg14) = m' ((c.tc : Thread Cert.NodesReferenceIdeal.nD Cert.NodesReferenceIdeal.τ).loc Cert.NodesReferenceIdeal.main_arg14)
          ∧ r.2.mem ((c.tc : Thread Cert.NodesReferenceIdeal.nD Cert.NodesReferenceIdeal.τ).loc Cert.NodesReferenceIdeal.main_arg15) = m' ((c.tc : Thread Cert.NodesReferenceIdeal.nD Cert.NodesReferenceIdeal.τ).loc Cert.NodesReferenceIdeal.main_arg15)
          ∧ r.2.mem ((c.tc : Thread Cert.NodesReferenceIdeal.nD Cert.NodesReferenceIdeal.τ).loc Cert.NodesReferenceIdeal.main_arg16) = m' ((c.tc : Thread Cert.NodesReferenceIdeal.nD Cert.NodesReferenceIdeal.τ).loc Cert.NodesReferenceIdeal.main_arg16)
          ∧ r.2.mem ((c.tc : Thread Cert.NodesReferenceIdeal.nD Cert.NodesReferenceIdeal.τ).loc Cert.NodesReferenceIdeal.main_arg17) = m' ((c.tc : Thread Cert.NodesReferenceIdeal.nD Cert.NodesReferenceIdeal.τ).loc Cert.NodesReferenceIdeal.main_arg17)
          ∧ r.2.mem ((c.tc : Thread Cert.NodesReferenceIdeal.nD Cert.NodesReferenceIdeal.τ).loc Cert.NodesReferenceIdeal.main_arg18) = m' ((c.tc : Thread Cert.NodesReferenceIdeal.nD Cert.NodesReferenceIdeal.τ).loc Cert.NodesReferenceIdeal.main_arg18)
          ∧ r.2.mem ((c.tc : Thread Cert.NodesReferenceIdeal.nD Cert.NodesReferenceIdeal.τ).loc Cert.NodesReferenceIdeal.main_arg19) = m' ((c.tc : Thread Cert.NodesReferenceIdeal.nD Cert.NodesReferenceIdeal.τ).loc Cert.NodesReferenceIdeal.main_arg19))

def preserves_EdgesKernel_EdgesKernelIdeal : Prop :=
  IdealRules.named_const.Statement Cert.EdgesKernelIdeal.κ "s" .f32 0x3F3504F3#32 (((Real.sqrt 2)⁻¹ : ℝ) : EReal)

def algebraic_EdgesKernelIdeal_EdgesReferenceIdeal [hEdgesKernelIdeal : Cert.EdgesKernelIdeal.Facts] [hEdgesReferenceIdeal : Cert.EdgesReferenceIdeal.Facts] : Prop :=
  ∀ (m : (ℓ : Loc Cert.EdgesKernelIdeal.nD Cert.EdgesKernelIdeal.τ Cert.EdgesKernelIdeal.sig) → Buf (Elt Ideal) ℓ) (g : Dev Cert.EdgesKernelIdeal.nD → PrngReg)
    (m' : (ℓ : Loc Cert.EdgesReferenceIdeal.nD Cert.EdgesReferenceIdeal.τ Cert.EdgesReferenceIdeal.sig) → Buf (Elt Ideal) ℓ) (g' : Dev Cert.EdgesReferenceIdeal.nD → PrngReg), Pre_EdgesKernelIdeal m →
    (∀ c : Dev Cert.EdgesKernelIdeal.nD,
      m' ((c.tc : Thread Cert.EdgesReferenceIdeal.nD Cert.EdgesReferenceIdeal.τ).loc Cert.EdgesReferenceIdeal.main_arg0) = m ((c.tc : Thread Cert.EdgesKernelIdeal.nD Cert.EdgesKernelIdeal.τ).loc Cert.EdgesKernelIdeal.main_arg0)
      ∧ m' ((c.tc : Thread Cert.EdgesReferenceIdeal.nD Cert.EdgesReferenceIdeal.τ).loc Cert.EdgesReferenceIdeal.main_arg1) = m ((c.tc : Thread Cert.EdgesKernelIdeal.nD Cert.EdgesKernelIdeal.τ).loc Cert.EdgesKernelIdeal.main_arg1)
      ∧ m' ((c.tc : Thread Cert.EdgesReferenceIdeal.nD Cert.EdgesReferenceIdeal.τ).loc Cert.EdgesReferenceIdeal.main_arg2) = m ((c.tc : Thread Cert.EdgesKernelIdeal.nD Cert.EdgesKernelIdeal.τ).loc Cert.EdgesKernelIdeal.main_arg2)
      ∧ m' ((c.tc : Thread Cert.EdgesReferenceIdeal.nD Cert.EdgesReferenceIdeal.τ).loc Cert.EdgesReferenceIdeal.main_arg3) = m ((c.tc : Thread Cert.EdgesKernelIdeal.nD Cert.EdgesKernelIdeal.τ).loc Cert.EdgesKernelIdeal.main_arg3)
      ∧ m' ((c.tc : Thread Cert.EdgesReferenceIdeal.nD Cert.EdgesReferenceIdeal.τ).loc Cert.EdgesReferenceIdeal.main_arg4) = m ((c.tc : Thread Cert.EdgesKernelIdeal.nD Cert.EdgesKernelIdeal.τ).loc Cert.EdgesKernelIdeal.main_arg4)
      ∧ m' ((c.tc : Thread Cert.EdgesReferenceIdeal.nD Cert.EdgesReferenceIdeal.τ).loc Cert.EdgesReferenceIdeal.main_arg5) = m ((c.tc : Thread Cert.EdgesKernelIdeal.nD Cert.EdgesKernelIdeal.τ).loc Cert.EdgesKernelIdeal.main_arg5)
      ∧ m' ((c.tc : Thread Cert.EdgesReferenceIdeal.nD Cert.EdgesReferenceIdeal.τ).loc Cert.EdgesReferenceIdeal.main_arg6) = m ((c.tc : Thread Cert.EdgesKernelIdeal.nD Cert.EdgesKernelIdeal.τ).loc Cert.EdgesKernelIdeal.main_arg6)
      ∧ m' ((c.tc : Thread Cert.EdgesReferenceIdeal.nD Cert.EdgesReferenceIdeal.τ).loc Cert.EdgesReferenceIdeal.main_arg7) = m ((c.tc : Thread Cert.EdgesKernelIdeal.nD Cert.EdgesKernelIdeal.τ).loc Cert.EdgesKernelIdeal.main_arg7)
      ∧ m' ((c.tc : Thread Cert.EdgesReferenceIdeal.nD Cert.EdgesReferenceIdeal.τ).loc Cert.EdgesReferenceIdeal.main_arg8) = m ((c.tc : Thread Cert.EdgesKernelIdeal.nD Cert.EdgesKernelIdeal.τ).loc Cert.EdgesKernelIdeal.main_arg8)
      ∧ m' ((c.tc : Thread Cert.EdgesReferenceIdeal.nD Cert.EdgesReferenceIdeal.τ).loc Cert.EdgesReferenceIdeal.main_arg9) = m ((c.tc : Thread Cert.EdgesKernelIdeal.nD Cert.EdgesKernelIdeal.τ).loc Cert.EdgesKernelIdeal.main_arg9)
      ∧ m' ((c.tc : Thread Cert.EdgesReferenceIdeal.nD Cert.EdgesReferenceIdeal.τ).loc Cert.EdgesReferenceIdeal.main_arg10) = m ((c.tc : Thread Cert.EdgesKernelIdeal.nD Cert.EdgesKernelIdeal.τ).loc Cert.EdgesKernelIdeal.main_arg10)) →
    ∃ (v0 : (c : Dev Cert.EdgesKernelIdeal.nD) → Buf (Elt Ideal) ((c.tc : Thread Cert.EdgesKernelIdeal.nD Cert.EdgesKernelIdeal.τ).loc Cert.EdgesKernelIdeal.main_v13)),
      θ_run (Cert.EdgesKernelIdeal.defs (F := Ideal)) (onTc (τ := Cert.EdgesKernelIdeal.τ) (Cert.EdgesKernelIdeal.main (F := Ideal))) ⟨m, fun _ => 0, g⟩ (fun r => ∀ c : Dev Cert.EdgesKernelIdeal.nD,
          r.2.mem ((c.tc : Thread Cert.EdgesKernelIdeal.nD Cert.EdgesKernelIdeal.τ).loc Cert.EdgesKernelIdeal.main_v13) = v0 c
          ∧ r.2.mem ((c.tc : Thread Cert.EdgesKernelIdeal.nD Cert.EdgesKernelIdeal.τ).loc Cert.EdgesKernelIdeal.main_arg0) = m ((c.tc : Thread Cert.EdgesKernelIdeal.nD Cert.EdgesKernelIdeal.τ).loc Cert.EdgesKernelIdeal.main_arg0)
          ∧ r.2.mem ((c.tc : Thread Cert.EdgesKernelIdeal.nD Cert.EdgesKernelIdeal.τ).loc Cert.EdgesKernelIdeal.main_arg1) = m ((c.tc : Thread Cert.EdgesKernelIdeal.nD Cert.EdgesKernelIdeal.τ).loc Cert.EdgesKernelIdeal.main_arg1)
          ∧ r.2.mem ((c.tc : Thread Cert.EdgesKernelIdeal.nD Cert.EdgesKernelIdeal.τ).loc Cert.EdgesKernelIdeal.main_arg2) = m ((c.tc : Thread Cert.EdgesKernelIdeal.nD Cert.EdgesKernelIdeal.τ).loc Cert.EdgesKernelIdeal.main_arg2)
          ∧ r.2.mem ((c.tc : Thread Cert.EdgesKernelIdeal.nD Cert.EdgesKernelIdeal.τ).loc Cert.EdgesKernelIdeal.main_arg3) = m ((c.tc : Thread Cert.EdgesKernelIdeal.nD Cert.EdgesKernelIdeal.τ).loc Cert.EdgesKernelIdeal.main_arg3)
          ∧ r.2.mem ((c.tc : Thread Cert.EdgesKernelIdeal.nD Cert.EdgesKernelIdeal.τ).loc Cert.EdgesKernelIdeal.main_arg4) = m ((c.tc : Thread Cert.EdgesKernelIdeal.nD Cert.EdgesKernelIdeal.τ).loc Cert.EdgesKernelIdeal.main_arg4)
          ∧ r.2.mem ((c.tc : Thread Cert.EdgesKernelIdeal.nD Cert.EdgesKernelIdeal.τ).loc Cert.EdgesKernelIdeal.main_arg5) = m ((c.tc : Thread Cert.EdgesKernelIdeal.nD Cert.EdgesKernelIdeal.τ).loc Cert.EdgesKernelIdeal.main_arg5)
          ∧ r.2.mem ((c.tc : Thread Cert.EdgesKernelIdeal.nD Cert.EdgesKernelIdeal.τ).loc Cert.EdgesKernelIdeal.main_arg6) = m ((c.tc : Thread Cert.EdgesKernelIdeal.nD Cert.EdgesKernelIdeal.τ).loc Cert.EdgesKernelIdeal.main_arg6)
          ∧ r.2.mem ((c.tc : Thread Cert.EdgesKernelIdeal.nD Cert.EdgesKernelIdeal.τ).loc Cert.EdgesKernelIdeal.main_arg7) = m ((c.tc : Thread Cert.EdgesKernelIdeal.nD Cert.EdgesKernelIdeal.τ).loc Cert.EdgesKernelIdeal.main_arg7)
          ∧ r.2.mem ((c.tc : Thread Cert.EdgesKernelIdeal.nD Cert.EdgesKernelIdeal.τ).loc Cert.EdgesKernelIdeal.main_arg8) = m ((c.tc : Thread Cert.EdgesKernelIdeal.nD Cert.EdgesKernelIdeal.τ).loc Cert.EdgesKernelIdeal.main_arg8)
          ∧ r.2.mem ((c.tc : Thread Cert.EdgesKernelIdeal.nD Cert.EdgesKernelIdeal.τ).loc Cert.EdgesKernelIdeal.main_arg9) = m ((c.tc : Thread Cert.EdgesKernelIdeal.nD Cert.EdgesKernelIdeal.τ).loc Cert.EdgesKernelIdeal.main_arg9)
          ∧ r.2.mem ((c.tc : Thread Cert.EdgesKernelIdeal.nD Cert.EdgesKernelIdeal.τ).loc Cert.EdgesKernelIdeal.main_arg10) = m ((c.tc : Thread Cert.EdgesKernelIdeal.nD Cert.EdgesKernelIdeal.τ).loc Cert.EdgesKernelIdeal.main_arg10))
      ∧ θ_run (Cert.EdgesReferenceIdeal.defs (F := Ideal)) (onTc (τ := Cert.EdgesReferenceIdeal.τ) (Cert.EdgesReferenceIdeal.main (F := Ideal))) ⟨m', fun _ => 0, g'⟩ (fun r => ∀ c : Dev Cert.EdgesReferenceIdeal.nD,
          r.2.mem ((c.tc : Thread Cert.EdgesReferenceIdeal.nD Cert.EdgesReferenceIdeal.τ).loc Cert.EdgesReferenceIdeal.main_v74) = v0 c
          ∧ r.2.mem ((c.tc : Thread Cert.EdgesReferenceIdeal.nD Cert.EdgesReferenceIdeal.τ).loc Cert.EdgesReferenceIdeal.main_arg0) = m' ((c.tc : Thread Cert.EdgesReferenceIdeal.nD Cert.EdgesReferenceIdeal.τ).loc Cert.EdgesReferenceIdeal.main_arg0)
          ∧ r.2.mem ((c.tc : Thread Cert.EdgesReferenceIdeal.nD Cert.EdgesReferenceIdeal.τ).loc Cert.EdgesReferenceIdeal.main_arg1) = m' ((c.tc : Thread Cert.EdgesReferenceIdeal.nD Cert.EdgesReferenceIdeal.τ).loc Cert.EdgesReferenceIdeal.main_arg1)
          ∧ r.2.mem ((c.tc : Thread Cert.EdgesReferenceIdeal.nD Cert.EdgesReferenceIdeal.τ).loc Cert.EdgesReferenceIdeal.main_arg2) = m' ((c.tc : Thread Cert.EdgesReferenceIdeal.nD Cert.EdgesReferenceIdeal.τ).loc Cert.EdgesReferenceIdeal.main_arg2)
          ∧ r.2.mem ((c.tc : Thread Cert.EdgesReferenceIdeal.nD Cert.EdgesReferenceIdeal.τ).loc Cert.EdgesReferenceIdeal.main_arg3) = m' ((c.tc : Thread Cert.EdgesReferenceIdeal.nD Cert.EdgesReferenceIdeal.τ).loc Cert.EdgesReferenceIdeal.main_arg3)
          ∧ r.2.mem ((c.tc : Thread Cert.EdgesReferenceIdeal.nD Cert.EdgesReferenceIdeal.τ).loc Cert.EdgesReferenceIdeal.main_arg4) = m' ((c.tc : Thread Cert.EdgesReferenceIdeal.nD Cert.EdgesReferenceIdeal.τ).loc Cert.EdgesReferenceIdeal.main_arg4)
          ∧ r.2.mem ((c.tc : Thread Cert.EdgesReferenceIdeal.nD Cert.EdgesReferenceIdeal.τ).loc Cert.EdgesReferenceIdeal.main_arg5) = m' ((c.tc : Thread Cert.EdgesReferenceIdeal.nD Cert.EdgesReferenceIdeal.τ).loc Cert.EdgesReferenceIdeal.main_arg5)
          ∧ r.2.mem ((c.tc : Thread Cert.EdgesReferenceIdeal.nD Cert.EdgesReferenceIdeal.τ).loc Cert.EdgesReferenceIdeal.main_arg6) = m' ((c.tc : Thread Cert.EdgesReferenceIdeal.nD Cert.EdgesReferenceIdeal.τ).loc Cert.EdgesReferenceIdeal.main_arg6)
          ∧ r.2.mem ((c.tc : Thread Cert.EdgesReferenceIdeal.nD Cert.EdgesReferenceIdeal.τ).loc Cert.EdgesReferenceIdeal.main_arg7) = m' ((c.tc : Thread Cert.EdgesReferenceIdeal.nD Cert.EdgesReferenceIdeal.τ).loc Cert.EdgesReferenceIdeal.main_arg7)
          ∧ r.2.mem ((c.tc : Thread Cert.EdgesReferenceIdeal.nD Cert.EdgesReferenceIdeal.τ).loc Cert.EdgesReferenceIdeal.main_arg8) = m' ((c.tc : Thread Cert.EdgesReferenceIdeal.nD Cert.EdgesReferenceIdeal.τ).loc Cert.EdgesReferenceIdeal.main_arg8)
          ∧ r.2.mem ((c.tc : Thread Cert.EdgesReferenceIdeal.nD Cert.EdgesReferenceIdeal.τ).loc Cert.EdgesReferenceIdeal.main_arg9) = m' ((c.tc : Thread Cert.EdgesReferenceIdeal.nD Cert.EdgesReferenceIdeal.τ).loc Cert.EdgesReferenceIdeal.main_arg9)
          ∧ r.2.mem ((c.tc : Thread Cert.EdgesReferenceIdeal.nD Cert.EdgesReferenceIdeal.τ).loc Cert.EdgesReferenceIdeal.main_arg10) = m' ((c.tc : Thread Cert.EdgesReferenceIdeal.nD Cert.EdgesReferenceIdeal.τ).loc Cert.EdgesReferenceIdeal.main_arg10))

def preserves_FirstKernel_FirstKernelIdeal : Prop :=
  IdealRules.named_const.Statement Cert.FirstKernelIdeal.κ "s" .f32 0x3F3504F3#32 (((Real.sqrt 2)⁻¹ : ℝ) : EReal)
  ∧ IdealRules.named_const.Statement Cert.FirstKernelIdeal.κ "t" .f32 0x3D088889#32 ((30⁻¹ : ℝ) : EReal)

def algebraic_FirstKernelIdeal_FirstReferenceIdeal [hFirstKernelIdeal : Cert.FirstKernelIdeal.Facts] [hFirstReferenceIdeal : Cert.FirstReferenceIdeal.Facts] [hPre_first_ok : Cert.Pre_first_ok.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)
      ∧ m' ((c.tc : Thread Cert.FirstReferenceIdeal.nD Cert.FirstReferenceIdeal.τ).loc Cert.FirstReferenceIdeal.main_arg7) = m ((c.tc : Thread Cert.FirstKernelIdeal.nD Cert.FirstKernelIdeal.τ).loc Cert.FirstKernelIdeal.main_arg7)
      ∧ m' ((c.tc : Thread Cert.FirstReferenceIdeal.nD Cert.FirstReferenceIdeal.τ).loc Cert.FirstReferenceIdeal.main_arg8) = m ((c.tc : Thread Cert.FirstKernelIdeal.nD Cert.FirstKernelIdeal.τ).loc Cert.FirstKernelIdeal.main_arg8)
      ∧ m' ((c.tc : Thread Cert.FirstReferenceIdeal.nD Cert.FirstReferenceIdeal.τ).loc Cert.FirstReferenceIdeal.main_arg9) = m ((c.tc : Thread Cert.FirstKernelIdeal.nD Cert.FirstKernelIdeal.τ).loc Cert.FirstKernelIdeal.main_arg9)
      ∧ m' ((c.tc : Thread Cert.FirstReferenceIdeal.nD Cert.FirstReferenceIdeal.τ).loc Cert.FirstReferenceIdeal.main_arg10) = m ((c.tc : Thread Cert.FirstKernelIdeal.nD Cert.FirstKernelIdeal.τ).loc Cert.FirstKernelIdeal.main_arg10)
      ∧ m' ((c.tc : Thread Cert.FirstReferenceIdeal.nD Cert.FirstReferenceIdeal.τ).loc Cert.FirstReferenceIdeal.main_arg11) = m ((c.tc : Thread Cert.FirstKernelIdeal.nD Cert.FirstKernelIdeal.τ).loc Cert.FirstKernelIdeal.main_arg11)
      ∧ m' ((c.tc : Thread Cert.FirstReferenceIdeal.nD Cert.FirstReferenceIdeal.τ).loc Cert.FirstReferenceIdeal.main_arg12) = m ((c.tc : Thread Cert.FirstKernelIdeal.nD Cert.FirstKernelIdeal.τ).loc Cert.FirstKernelIdeal.main_arg12)
      ∧ m' ((c.tc : Thread Cert.FirstReferenceIdeal.nD Cert.FirstReferenceIdeal.τ).loc Cert.FirstReferenceIdeal.main_arg13) = m ((c.tc : Thread Cert.FirstKernelIdeal.nD Cert.FirstKernelIdeal.τ).loc Cert.FirstKernelIdeal.main_arg13)
      ∧ m' ((c.tc : Thread Cert.FirstReferenceIdeal.nD Cert.FirstReferenceIdeal.τ).loc Cert.FirstReferenceIdeal.main_arg14) = m ((c.tc : Thread Cert.FirstKernelIdeal.nD Cert.FirstKernelIdeal.τ).loc Cert.FirstKernelIdeal.main_arg14)
      ∧ m' ((c.tc : Thread Cert.FirstReferenceIdeal.nD Cert.FirstReferenceIdeal.τ).loc Cert.FirstReferenceIdeal.main_arg15) = m ((c.tc : Thread Cert.FirstKernelIdeal.nD Cert.FirstKernelIdeal.τ).loc Cert.FirstKernelIdeal.main_arg15)
      ∧ m' ((c.tc : Thread Cert.FirstReferenceIdeal.nD Cert.FirstReferenceIdeal.τ).loc Cert.FirstReferenceIdeal.main_arg16) = m ((c.tc : Thread Cert.FirstKernelIdeal.nD Cert.FirstKernelIdeal.τ).loc Cert.FirstKernelIdeal.main_arg16)
      ∧ m' ((c.tc : Thread Cert.FirstReferenceIdeal.nD Cert.FirstReferenceIdeal.τ).loc Cert.FirstReferenceIdeal.main_arg17) = m ((c.tc : Thread Cert.FirstKernelIdeal.nD Cert.FirstKernelIdeal.τ).loc Cert.FirstKernelIdeal.main_arg17)
      ∧ m' ((c.tc : Thread Cert.FirstReferenceIdeal.nD Cert.FirstReferenceIdeal.τ).loc Cert.FirstReferenceIdeal.main_arg18) = m ((c.tc : Thread Cert.FirstKernelIdeal.nD Cert.FirstKernelIdeal.τ).loc Cert.FirstKernelIdeal.main_arg18)
      ∧ m' ((c.tc : Thread Cert.FirstReferenceIdeal.nD Cert.FirstReferenceIdeal.τ).loc Cert.FirstReferenceIdeal.main_arg19) = m ((c.tc : Thread Cert.FirstKernelIdeal.nD Cert.FirstKernelIdeal.τ).loc Cert.FirstKernelIdeal.main_arg19)
      ∧ m' ((c.tc : Thread Cert.FirstReferenceIdeal.nD Cert.FirstReferenceIdeal.τ).loc Cert.FirstReferenceIdeal.main_arg20) = m ((c.tc : Thread Cert.FirstKernelIdeal.nD Cert.FirstKernelIdeal.τ).loc Cert.FirstKernelIdeal.main_arg20)) →
    ∃ (v0 : (c : Dev Cert.FirstKernelIdeal.nD) → Buf (Elt Ideal) ((c.tc : Thread Cert.FirstKernelIdeal.nD Cert.FirstKernelIdeal.τ).loc Cert.FirstKernelIdeal.main_v32_0)) (v1 : (c : Dev Cert.FirstKernelIdeal.nD) → Buf (Elt Ideal) ((c.tc : Thread Cert.FirstKernelIdeal.nD Cert.FirstKernelIdeal.τ).loc Cert.FirstKernelIdeal.main_v32_1)) (v2 : (c : Dev Cert.FirstKernelIdeal.nD) → Buf (Elt Ideal) ((c.tc : Thread Cert.FirstKernelIdeal.nD Cert.FirstKernelIdeal.τ).loc Cert.FirstKernelIdeal.main_v32_2)),
      θ_run (Cert.FirstKernelIdeal.defs (F := Ideal)) (Cert.FirstKernelIdeal.threads (F := Ideal)) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v32_0) = v0 c
          ∧ r.2.mem ((c.tc : Thread Cert.FirstKernelIdeal.nD Cert.FirstKernelIdeal.τ).loc Cert.FirstKernelIdeal.main_v32_1) = v1 c
          ∧ r.2.mem ((c.tc : Thread Cert.FirstKernelIdeal.nD Cert.FirstKernelIdeal.τ).loc Cert.FirstKernelIdeal.main_v32_2) = v2 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
          ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
          ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
          ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
          ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
          ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11)
          ∧ r.2.mem ((c.tc : Thread Cert.FirstKernelIdeal.nD Cert.FirstKernelIdeal.τ).loc Cert.FirstKernelIdeal.main_arg12) = m ((c.tc : Thread Cert.FirstKernelIdeal.nD Cert.FirstKernelIdeal.τ).loc Cert.FirstKernelIdeal.main_arg12)
          ∧ r.2.mem ((c.tc : Thread Cert.FirstKernelIdeal.nD Cert.FirstKernelIdeal.τ).loc Cert.FirstKernelIdeal.main_arg13) = m ((c.tc : Thread Cert.FirstKernelIdeal.nD Cert.FirstKernelIdeal.τ).loc Cert.FirstKernelIdeal.main_arg13)
          ∧ r.2.mem ((c.tc : Thread Cert.FirstKernelIdeal.nD Cert.FirstKernelIdeal.τ).loc Cert.FirstKernelIdeal.main_arg14) = m ((c.tc : Thread Cert.FirstKernelIdeal.nD Cert.FirstKernelIdeal.τ).loc Cert.FirstKernelIdeal.main_arg14)
          ∧ r.2.mem ((c.tc : Thread Cert.FirstKernelIdeal.nD Cert.FirstKernelIdeal.τ).loc Cert.FirstKernelIdeal.main_arg15) = m ((c.tc : Thread Cert.FirstKernelIdeal.nD Cert.FirstKernelIdeal.τ).loc Cert.FirstKernelIdeal.main_arg15)
          ∧ r.2.mem ((c.tc : Thread Cert.FirstKernelIdeal.nD Cert.FirstKernelIdeal.τ).loc Cert.FirstKernelIdeal.main_arg16) = m ((c.tc : Thread Cert.FirstKernelIdeal.nD Cert.FirstKernelIdeal.τ).loc Cert.FirstKernelIdeal.main_arg16)
          ∧ r.2.mem ((c.tc : Thread Cert.FirstKernelIdeal.nD Cert.FirstKernelIdeal.τ).loc Cert.FirstKernelIdeal.main_arg17) = m ((c.tc : Thread Cert.FirstKernelIdeal.nD Cert.FirstKernelIdeal.τ).loc Cert.FirstKernelIdeal.main_arg17)
          ∧ r.2.mem ((c.tc : Thread Cert.FirstKernelIdeal.nD Cert.FirstKernelIdeal.τ).loc Cert.FirstKernelIdeal.main_arg18) = m ((c.tc : Thread Cert.FirstKernelIdeal.nD Cert.FirstKernelIdeal.τ).loc Cert.FirstKernelIdeal.main_arg18)
          ∧ r.2.mem ((c.tc : Thread Cert.FirstKernelIdeal.nD Cert.FirstKernelIdeal.τ).loc Cert.FirstKernelIdeal.main_arg19) = m ((c.tc : Thread Cert.FirstKernelIdeal.nD Cert.FirstKernelIdeal.τ).loc Cert.FirstKernelIdeal.main_arg19)
          ∧ r.2.mem ((c.tc : Thread Cert.FirstKernelIdeal.nD Cert.FirstKernelIdeal.τ).loc Cert.FirstKernelIdeal.main_arg20) = m ((c.tc : Thread Cert.FirstKernelIdeal.nD Cert.FirstKernelIdeal.τ).loc Cert.FirstKernelIdeal.main_arg20))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v167) = v0 c
          ∧ r.2.mem ((c.tc : Thread Cert.FirstReferenceIdeal.nD Cert.FirstReferenceIdeal.τ).loc Cert.FirstReferenceIdeal.main_v158) = v1 c
          ∧ r.2.mem ((c.tc : Thread Cert.FirstReferenceIdeal.nD Cert.FirstReferenceIdeal.τ).loc Cert.FirstReferenceIdeal.main_v166) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11)
          ∧ r.2.mem ((c.tc : Thread Cert.FirstReferenceIdeal.nD Cert.FirstReferenceIdeal.τ).loc Cert.FirstReferenceIdeal.main_arg12) = m' ((c.tc : Thread Cert.FirstReferenceIdeal.nD Cert.FirstReferenceIdeal.τ).loc Cert.FirstReferenceIdeal.main_arg12)
          ∧ r.2.mem ((c.tc : Thread Cert.FirstReferenceIdeal.nD Cert.FirstReferenceIdeal.τ).loc Cert.FirstReferenceIdeal.main_arg13) = m' ((c.tc : Thread Cert.FirstReferenceIdeal.nD Cert.FirstReferenceIdeal.τ).loc Cert.FirstReferenceIdeal.main_arg13)
          ∧ r.2.mem ((c.tc : Thread Cert.FirstReferenceIdeal.nD Cert.FirstReferenceIdeal.τ).loc Cert.FirstReferenceIdeal.main_arg14) = m' ((c.tc : Thread Cert.FirstReferenceIdeal.nD Cert.FirstReferenceIdeal.τ).loc Cert.FirstReferenceIdeal.main_arg14)
          ∧ r.2.mem ((c.tc : Thread Cert.FirstReferenceIdeal.nD Cert.FirstReferenceIdeal.τ).loc Cert.FirstReferenceIdeal.main_arg15) = m' ((c.tc : Thread Cert.FirstReferenceIdeal.nD Cert.FirstReferenceIdeal.τ).loc Cert.FirstReferenceIdeal.main_arg15)
          ∧ r.2.mem ((c.tc : Thread Cert.FirstReferenceIdeal.nD Cert.FirstReferenceIdeal.τ).loc Cert.FirstReferenceIdeal.main_arg16) = m' ((c.tc : Thread Cert.FirstReferenceIdeal.nD Cert.FirstReferenceIdeal.τ).loc Cert.FirstReferenceIdeal.main_arg16)
          ∧ r.2.mem ((c.tc : Thread Cert.FirstReferenceIdeal.nD Cert.FirstReferenceIdeal.τ).loc Cert.FirstReferenceIdeal.main_arg17) = m' ((c.tc : Thread Cert.FirstReferenceIdeal.nD Cert.FirstReferenceIdeal.τ).loc Cert.FirstReferenceIdeal.main_arg17)
          ∧ r.2.mem ((c.tc : Thread Cert.FirstReferenceIdeal.nD Cert.FirstReferenceIdeal.τ).loc Cert.FirstReferenceIdeal.main_arg18) = m' ((c.tc : Thread Cert.FirstReferenceIdeal.nD Cert.FirstReferenceIdeal.τ).loc Cert.FirstReferenceIdeal.main_arg18)
          ∧ r.2.mem ((c.tc : Thread Cert.FirstReferenceIdeal.nD Cert.FirstReferenceIdeal.τ).loc Cert.FirstReferenceIdeal.main_arg19) = m' ((c.tc : Thread Cert.FirstReferenceIdeal.nD Cert.FirstReferenceIdeal.τ).loc Cert.FirstReferenceIdeal.main_arg19)
          ∧ r.2.mem ((c.tc : Thread Cert.FirstReferenceIdeal.nD Cert.FirstReferenceIdeal.τ).loc Cert.FirstReferenceIdeal.main_arg20) = m' ((c.tc : Thread Cert.FirstReferenceIdeal.nD Cert.FirstReferenceIdeal.τ).loc Cert.FirstReferenceIdeal.main_arg20))

def Claim : Prop :=
  ∃ (hKernel : Cert.Kernel.Facts) (hKernelIdeal : Cert.KernelIdeal.Facts) (hReferenceIdeal : Cert.ReferenceIdeal.Facts) (hReference : Cert.Reference.Facts) (hRowsKernel : Cert.RowsKernel.Facts) (hRowsKernelIdeal : Cert.RowsKernelIdeal.Facts) (hRowsReferenceIdeal : Cert.RowsReferenceIdeal.Facts) (hNodesKernel : Cert.NodesKernel.Facts) (hNodesKernelIdeal : Cert.NodesKernelIdeal.Facts) (hNodesReferenceIdeal : Cert.NodesReferenceIdeal.Facts) (hEdgesKernel : Cert.EdgesKernel.Facts) (hEdgesKernelIdeal : Cert.EdgesKernelIdeal.Facts) (hEdgesReferenceIdeal : Cert.EdgesReferenceIdeal.Facts) (hFirstKernel : Cert.FirstKernel.Facts) (hFirstKernelIdeal : Cert.FirstKernelIdeal.Facts) (hFirstReferenceIdeal : Cert.FirstReferenceIdeal.Facts) (hPre_idx_in_range : Cert.Pre_idx_in_range.Facts) (hPre_nodes_ok : Cert.Pre_nodes_ok.Facts) (hPre_first_ok : Cert.Pre_first_ok.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Reference (hReference := hReference) (hPre_idx_in_range := hPre_idx_in_range)
    ∧ quiescent_RowsKernel (hRowsKernel := hRowsKernel)
    ∧ quiescent_RowsKernelIdeal (hRowsKernelIdeal := hRowsKernelIdeal)
    ∧ quiescent_RowsReferenceIdeal (hRowsReferenceIdeal := hRowsReferenceIdeal)
    ∧ quiescent_NodesKernel (hNodesKernel := hNodesKernel) (hPre_nodes_ok := hPre_nodes_ok)
    ∧ quiescent_NodesKernelIdeal (hNodesKernelIdeal := hNodesKernelIdeal) (hPre_nodes_ok := hPre_nodes_ok)
    ∧ quiescent_NodesReferenceIdeal (hNodesReferenceIdeal := hNodesReferenceIdeal)
    ∧ quiescent_NodesReferenceIdeal_pre_nodes_ok (hNodesReferenceIdeal := hNodesReferenceIdeal) (hPre_nodes_ok := hPre_nodes_ok)
    ∧ quiescent_EdgesKernel (hEdgesKernel := hEdgesKernel)
    ∧ quiescent_EdgesKernelIdeal (hEdgesKernelIdeal := hEdgesKernelIdeal)
    ∧ quiescent_EdgesReferenceIdeal (hEdgesReferenceIdeal := hEdgesReferenceIdeal)
    ∧ quiescent_FirstKernel (hFirstKernel := hFirstKernel) (hPre_first_ok := hPre_first_ok)
    ∧ quiescent_FirstKernelIdeal (hFirstKernelIdeal := hFirstKernelIdeal) (hPre_first_ok := hPre_first_ok)
    ∧ quiescent_FirstReferenceIdeal (hFirstReferenceIdeal := hFirstReferenceIdeal)
    ∧ quiescent_FirstReferenceIdeal_pre_first_ok (hFirstReferenceIdeal := hFirstReferenceIdeal) (hPre_first_ok := hPre_first_ok)
    ∧ preserves_Kernel_KernelIdeal
    ∧ algebraic_KernelIdeal_ReferenceIdeal (hKernelIdeal := hKernelIdeal) (hReferenceIdeal := hReferenceIdeal) (hPre_idx_in_range := hPre_idx_in_range)
    ∧ bitexact_Kernel_Reference (hKernel := hKernel) (hReference := hReference) (hPre_idx_in_range := hPre_idx_in_range)
    ∧ preserves_RowsKernel_RowsKernelIdeal
    ∧ algebraic_RowsKernelIdeal_RowsReferenceIdeal (hRowsKernelIdeal := hRowsKernelIdeal) (hRowsReferenceIdeal := hRowsReferenceIdeal)
    ∧ preserves_NodesKernel_NodesKernelIdeal
    ∧ algebraic_NodesKernelIdeal_NodesReferenceIdeal (hNodesKernelIdeal := hNodesKernelIdeal) (hNodesReferenceIdeal := hNodesReferenceIdeal) (hPre_nodes_ok := hPre_nodes_ok)
    ∧ preserves_EdgesKernel_EdgesKernelIdeal
    ∧ algebraic_EdgesKernelIdeal_EdgesReferenceIdeal (hEdgesKernelIdeal := hEdgesKernelIdeal) (hEdgesReferenceIdeal := hEdgesReferenceIdeal)
    ∧ preserves_FirstKernel_FirstKernelIdeal
    ∧ algebraic_FirstKernelIdeal_FirstReferenceIdeal (hFirstKernelIdeal := hFirstKernelIdeal) (hFirstReferenceIdeal := hFirstReferenceIdeal) (hPre_first_ok := hPre_first_ok)
-- ==== Pre_first_ok.lean ====
abbrev S1x10000x128 : Shape := ⟨3, ![1, 10000, 128]⟩
abbrev S1x10000x32x128 : Shape := ⟨4, ![1, 10000, 32, 128]⟩
abbrev S1x10000x32 : Shape := ⟨3, ![1, 10000, 32]⟩
abbrev S1x10000 : Shape := ⟨2, ![1, 10000]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S_ : Shape := ⟨0, ![]⟩

class Facts : Prop where
  bcast_S_S1x10000x32 : S_.BroadcastsInDim S1x10000x32 (![] : Fin 0 → Fin S1x10000x32.rank)
  reducesTo_S1x10000x32_S_d0_1_2 : S1x10000x32.ReducesTo [0, 1, 2] S_
  h_S_ : 0 < S_.numel
  bcast_S_S1x10000 : S_.BroadcastsInDim S1x10000 (![] : Fin 0 → Fin S1x10000.rank)
  reducesTo_S1x10000_S_d0_1 : S1x10000.ReducesTo [0, 1] S_
  bcast_S_S1x10000x32x128 : S_.BroadcastsInDim S1x10000x32x128 (![] : Fin 0 → Fin S1x10000x32x128.rank)
  reducesTo_S1x10000x32x128_S_d0_1_2_3 : S1x10000x32x128.ReducesTo [0, 1, 2, 3] S_
  slices_S128x640_S128x128_0_128 : S128x640.Slices ![0, 128] S128x128
  bcast_S_S128x128 : S_.BroadcastsInDim S128x128 (![] : Fin 0 → Fin S128x128.rank)
  reducesTo_S128x128_S_d0_1 : S128x128.ReducesTo [0, 1] S_
  slices_S128x640_S128x128_0_384 : S128x640.Slices ![0, 384] S128x128

variable [Facts]

def fn_part1 {F : FTy → Type} [FloatOps F] (main_arg6 : FVec F S128x640 .f32) (main_v13 : IVec S_ 1) (main_v14 : FVec F S1x10000x32x128 .f32) (main_v15 : FVec F S1x10000x32x128 .f32) : IVec S_ 1 :=
  let main_v16 : IVec S1x10000x32x128 1 := cmpf .olt main_v14 main_v15
  let main_c_6 : IVec S_ 1 := constantI S_ 1 1#1
  let main_v17 : IVec S_ 1 := (fun x v => Host.reduce IntOp.andi x v reducesTo_S1x10000x32x128_S_d0_1_2_3 h_S_) main_v16 main_c_6
  let main_v18 : IVec S_ 1 := andi main_v13 main_v17
  let main_v19 : FVec F S128x128 .f32 := (extractStridedSlice S128x128 ![0, 128] · slices_S128x640_S128x128_0_128) main_arg6
  let main_v20 : FVec F S128x128 .f32 := Host.absf main_v19
  let main_cst_7 : FVec F S_ .f32 := constant S_ .f32 0x7F800000#32
  let main_v21 : FVec F S128x128 .f32 := broadcastInDim S128x128 ![] bcast_S_S128x128 main_cst_7
  let main_v22 : IVec S128x128 1 := cmpf .olt main_v20 main_v21
  let main_c_8 : IVec S_ 1 := constantI S_ 1 1#1
  let main_v23 : IVec S_ 1 := (fun x v => Host.reduce IntOp.andi x v reducesTo_S128x128_S_d0_1 h_S_) main_v22 main_c_8
  let main_v24 : IVec S_ 1 := andi main_v18 main_v23
  let main_v25 : FVec F S128x128 .f32 := (extractStridedSlice S128x128 ![0, 384] · slices_S128x640_S128x128_0_384) main_arg6
  let main_v26 : FVec F S128x128 .f32 := Host.absf main_v25
  let main_cst_9 : FVec F S_ .f32 := constant S_ .f32 0x7F800000#32
  let main_v27 : FVec F S128x128 .f32 := broadcastInDim S128x128 ![] bcast_S_S128x128 main_cst_9
  let main_v28 : IVec S128x128 1 := cmpf .olt main_v26 main_v27
  let main_c_10 : IVec S_ 1 := constantI S_ 1 1#1
  let main_v29 : IVec S_ 1 := (fun x v => Host.reduce IntOp.andi x v reducesTo_S128x128_S_d0_1 h_S_) main_v28 main_c_10
  let main_v30 : IVec S_ 1 := andi main_v24 main_v29
  main_v30

def fn {F : FTy → Type} [FloatOps F] (main_arg0 : FVec F S1x10000x128 .f32) (main_arg1 : FVec F S1x10000x128 .f32) (main_arg2 : FVec F S1x10000x32x128 .f32) (main_arg3 : IVec S1x10000x32 32) (main_arg4 : FVec F S1x10000 .f32) (main_arg5 : FVec F S1x10000x32 .f32) (main_arg6 : FVec F S128x640 .f32) (main_arg7 : FVec F S128 .f32) (main_arg8 : FVec F S128x128 .f32) (main_arg9 : FVec F S128 .f32) (main_arg10 : FVec F S128x128 .f32) (main_arg11 : FVec F S128 .f32) (main_arg12 : FVec F S128x384 .f32) (main_arg13 : FVec F S512x128 .f32) (main_arg14 : FVec F S512 .f32) (main_arg15 : FVec F S128x512 .f32) (main_arg16 : FVec F S128 .f32) (main_arg17 : FVec F S128 .f32) (main_arg18 : FVec F S128 .f32) (main_arg19 : FVec F S128 .f32) (main_arg20 : FVec F S128 .f32) : IVec S_ 1 :=
  let main_c : IVec S_ 32 := constantI S_ 32 0#32
  let main_v0 : IVec S1x10000x32 32 := broadcastInDim S1x10000x32 ![] bcast_S_S1x10000x32 main_c
  let main_v1 : IVec S1x10000x32 1 := cmpi .sge main_arg3 main_v0
  let main_c_0 : IVec S_ 32 := constantI S_ 32 10000#32
  let main_v2 : IVec S1x10000x32 32 := broadcastInDim S1x10000x32 ![] bcast_S_S1x10000x32 main_c_0
  let main_v3 : IVec S1x10000x32 1 := cmpi .slt main_arg3 main_v2
  let main_v4 : IVec S1x10000x32 1 := andi main_v1 main_v3
  let main_c_1 : IVec S_ 1 := constantI S_ 1 1#1
  let main_v5 : IVec S_ 1 := (fun x v => Host.reduce IntOp.andi x v reducesTo_S1x10000x32_S_d0_1_2 h_S_) main_v4 main_c_1
  let main_cst : FVec F S_ .f32 := constant S_ .f32 0x3F800000#32
  let main_v6 : FVec F S1x10000 .f32 := broadcastInDim S1x10000 ![] bcast_S_S1x10000 main_cst
  let main_v7 : IVec S1x10000 1 := cmpf .oeq main_arg4 main_v6
  let main_c_2 : IVec S_ 1 := constantI S_ 1 1#1
  let main_v8 : IVec S_ 1 := (fun x v => Host.reduce IntOp.andi x v reducesTo_S1x10000_S_d0_1 h_S_) main_v7 main_c_2
  let main_v9 : IVec S_ 1 := andi main_v5 main_v8
  let main_cst_3 : FVec F S_ .f32 := constant S_ .f32 0x3F800000#32
  let main_v10 : FVec F S1x10000x32 .f32 := broadcastInDim S1x10000x32 ![] bcast_S_S1x10000x32 main_cst_3
  let main_v11 : IVec S1x10000x32 1 := cmpf .oeq main_arg5 main_v10
  let main_c_4 : IVec S_ 1 := constantI S_ 1 1#1
  let main_v12 : IVec S_ 1 := (fun x v => Host.reduce IntOp.andi x v reducesTo_S1x10000x32_S_d0_1_2 h_S_) main_v11 main_c_4
  let main_v13 : IVec S_ 1 := andi main_v9 main_v12
  let main_v14 : FVec F S1x10000x32x128 .f32 := Host.absf main_arg2
  let main_cst_5 : FVec F S_ .f32 := constant S_ .f32 0x7F800000#32
  let main_v15 : FVec F S1x10000x32x128 .f32 := broadcastInDim S1x10000x32x128 ![] bcast_S_S1x10000x32x128 main_cst_5
  fn_part1 (F := F) main_arg6 main_v13 main_v14 main_v15
-- ==== Pre_idx_in_range.lean ====
abbrev S10000x128 : Shape := ⟨2, ![10000, 128]⟩
abbrev S1x10000x32 : Shape := ⟨3, ![1, 10000, 32]⟩
abbrev S_ : Shape := ⟨0, ![]⟩

class Facts : Prop where
  bcast_S_S1x10000x32 : S_.BroadcastsInDim S1x10000x32 (![] : Fin 0 → Fin S1x10000x32.rank)
  reducesTo_S1x10000x32_S_d0_1_2 : S1x10000x32.ReducesTo [0, 1, 2] S_
  h_S_ : 0 < S_.numel

variable [Facts]

def fn {F : FTy → Type} [FloatOps F] (main_arg0 : FVec F S10000x128 .f32) (main_arg1 : IVec S1x10000x32 32) : IVec S_ 1 :=
  let main_c : IVec S_ 32 := constantI S_ 32 0#32
  let main_v0 : IVec S1x10000x32 32 := broadcastInDim S1x10000x32 ![] bcast_S_S1x10000x32 main_c
  let main_v1 : IVec S1x10000x32 1 := cmpi .sge main_arg1 main_v0
  let main_c_0 : IVec S_ 32 := constantI S_ 32 10000#32
  let main_v2 : IVec S1x10000x32 32 := broadcastInDim S1x10000x32 ![] bcast_S_S1x10000x32 main_c_0
  let main_v3 : IVec S1x10000x32 1 := cmpi .slt main_arg1 main_v2
  let main_v4 : IVec S1x10000x32 1 := andi main_v1 main_v3
  let main_c_1 : IVec S_ 1 := constantI S_ 1 1#1
  let main_v5 : IVec S_ 1 := (fun x v => Host.reduce IntOp.andi x v reducesTo_S1x10000x32_S_d0_1_2 h_S_) main_v4 main_c_1
  main_v5
-- ==== Pre_nodes_ok.lean ====
abbrev S1x10000x128 : Shape := ⟨3, ![1, 10000, 128]⟩
abbrev S1x10000x32x128 : Shape := ⟨4, ![1, 10000, 32, 128]⟩
abbrev S320000x128 : Shape := ⟨2, ![320000, 128]⟩
abbrev S1x10000 : Shape := ⟨2, ![1, 10000]⟩
abbrev S1x10000x32 : Shape := ⟨3, ![1, 10000, 32]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S_ : Shape := ⟨0, ![]⟩

class Facts : Prop where
  bcast_S_S1x10000 : S_.BroadcastsInDim S1x10000 (![] : Fin 0 → Fin S1x10000.rank)
  reducesTo_S1x10000_S_d0_1 : S1x10000.ReducesTo [0, 1] S_
  h_S_ : 0 < S_.numel
  bcast_S_S1x10000x32 : S_.BroadcastsInDim S1x10000x32 (![] : Fin 0 → Fin S1x10000x32.rank)
  reducesTo_S1x10000x32_S_d0_1_2 : S1x10000x32.ReducesTo [0, 1, 2] S_
  bcast_S_S1x10000x32x128 : S_.BroadcastsInDim S1x10000x32x128 (![] : Fin 0 → Fin S1x10000x32x128.rank)
  reducesTo_S1x10000x32x128_S_d0_1_2_3 : S1x10000x32x128.ReducesTo [0, 1, 2, 3] S_
  slices_S128x640_S128x128_0_128 : S128x640.Slices ![0, 128] S128x128
  bcast_S_S128x128 : S_.BroadcastsInDim S128x128 (![] : Fin 0 → Fin S128x128.rank)
  reducesTo_S128x128_S_d0_1 : S128x128.ReducesTo [0, 1] S_
  slices_S128x640_S128x128_0_384 : S128x640.Slices ![0, 384] S128x128

variable [Facts]

def fn_part1 {F : FTy → Type} [FloatOps F] (main_arg5 : FVec F S128x640 .f32) (main_v11 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v11 main_v16
  let main_v18 : FVec F S128x128 .f32 := (extractStridedSlice S128x128 ![0, 384] · slices_S128x640_S128x128_0_384) main_arg5
  let main_v19 : FVec F S128x128 .f32 := Host.absf main_v18
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v17 main_v22
  main_v23

def fn {F : FTy → Type} [FloatOps F] (main_arg0 : FVec F S1x10000x128 .f32) (main_arg1 : FVec F S1x10000x32x128 .f32) (main_arg2 : FVec F S320000x128 .f32) (main_arg3 : FVec F S1x10000 .f32) (main_arg4 : FVec F S1x10000x32 .f32) (main_arg5 : FVec F S128x640 .f32) (main_arg6 : FVec F S128 .f32) (main_arg7 : FVec F S128x128 .f32) (main_arg8 : FVec F S128 .f32) (main_arg9 : FVec F S128x128 .f32) (main_arg10 : FVec F S128 .f32) (main_arg11 : FVec F S128x384 .f32) (main_arg12 : FVec F S512x128 .f32) (main_arg13 : FVec F S512 .f32) (main_arg14 : FVec F S128x512 .f32) (main_arg15 : FVec F S128 .f32) (main_arg16 : FVec F S128 .f32) (main_arg17 : FVec F S128 .f32) (main_arg18 : FVec F S128 .f32) (main_arg19 : FVec F S128 .f32) : IVec S_ 1 :=
  let main_cst : FVec F S_ .f32 := constant S_ .f32 0x3F800000#32
  let main_v0 : FVec F S1x10000 .f32 := broadcastInDim S1x10000 ![] bcast_S_S1x10000 main_cst
  let main_v1 : IVec S1x10000 1 := cmpf .oeq main_arg3 main_v0
  let main_c : IVec S_ 1 := constantI S_ 1 1#1
  let main_v2 : IVec S_ 1 := (fun x v => Host.reduce IntOp.andi x v reducesTo_S1x10000_S_d0_1 h_S_) main_v1 main_c
  let main_cst_0 : FVec F S_ .f32 := constant S_ .f32 0x3F800000#32
  let main_v3 : FVec F S1x10000x32 .f32 := broadcastInDim S1x10000x32 ![] bcast_S_S1x10000x32 main_cst_0
  let main_v4 : IVec S1x10000x32 1 := cmpf .oeq main_arg4 main_v3
  let main_c_1 : IVec S_ 1 := constantI S_ 1 1#1
  let main_v5 : IVec S_ 1 := (fun x v => Host.reduce IntOp.andi x v reducesTo_S1x10000x32_S_d0_1_2 h_S_) main_v4 main_c_1
  let main_v6 : IVec S_ 1 := andi main_v2 main_v5
  let main_v7 : FVec F S1x10000x32x128 .f32 := Host.absf main_arg1
  let main_cst_2 : FVec F S_ .f32 := constant S_ .f32 0x7F800000#32
  let main_v8 : FVec F S1x10000x32x128 .f32 := broadcastInDim S1x10000x32x128 ![] bcast_S_S1x10000x32x128 main_cst_2
  let main_v9 : IVec S1x10000x32x128 1 := cmpf .olt main_v7 main_v8
  let main_c_3 : IVec S_ 1 := constantI S_ 1 1#1
  let main_v10 : IVec S_ 1 := (fun x v => Host.reduce IntOp.andi x v reducesTo_S1x10000x32x128_S_d0_1_2_3 h_S_) main_v9 main_c_3
  let main_v11 : IVec S_ 1 := andi main_v6 main_v10
  let main_v12 : FVec F S128x128 .f32 := (extractStridedSlice S128x128 ![0, 128] · slices_S128x640_S128x128_0_128) main_arg5
  let main_v13 : FVec F S128x128 .f32 := Host.absf main_v12
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg5 main_v11 main_v15 main_c_5
-- ==== Kernel.lean ====
abbrev S10000x128 : Shape := ⟨2, ![10000, 128]⟩
abbrev S1x10000x32 : Shape := ⟨3, ![1, 10000, 32]⟩
abbrev S1x320000 : Shape := ⟨2, ![1, 320000]⟩
abbrev S320000x128 : Shape := ⟨2, ![320000, 128]⟩
abbrev S_ : Shape := ⟨0, ![]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 4
  | .shared => 1
  | .local .scVector .vmem => 2
  | _ => 0

abbrev bufTy : (tb : Table) → Fin (nBuf tb) → BufTy
  | .hbm, ⟨0, _⟩ => ⟨S10000x128, .f32⟩
  | .hbm, ⟨1, _⟩ => ⟨S1x10000x32, .i32⟩
  | .hbm, ⟨2, _⟩ => ⟨S1x320000, .i32⟩
  | .hbm, ⟨3, _⟩ => ⟨S320000x128, .f32⟩
  | .shared, ⟨0, _⟩ => ⟨S10000x128, .f32⟩
  | .local .scVector .vmem, ⟨0, _⟩ => ⟨S2x1x128, .i32⟩
  | .local .scVector .vmem, ⟨1, _⟩ => ⟨S2x128x128, .f32⟩
  | _, _ => ⟨S10000x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 5 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.shared, 0, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let c0_i32_7_r0 : BitVec 32 := 0#32
  let v17_r0 : BitVec 1 := Scalar.cmpi .sgt v14 c0_i32_7_r0
  let v18_r0 : BitVec 32 := Scalar.extui v17_r0
  let c0_i32_8_r0 : BitVec 32 := 0#32
  let v19_r0 : BitVec 1 := Scalar.cmpi .ne v18_r0 c0_i32_8_r0
  v19_r0

def k0_cond3 (i : grid0.Coords) : BitVec 1 :=
  let true_24_r0 : BitVec 1 := 1#1
  let c1_i32_9_r0 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v20_r0 : BitVec 32 := Scalar.muli c1_i32_9_r0 v8
  let c0_i32_23_r0 : BitVec 32 := 0#32
  let v38_r0 : BitVec 1 := Scalar.cmpi .sgt v20_r0 c0_i32_23_r0
  let v39_r0 : BitVec 1 := Scalar.andi true_24_r0 v38_r0
  let true_25_r0 : BitVec 1 := 1#1
  let v40_r0 : BitVec 1 := Scalar.andi v39_r0 true_25_r0
  let v41_r0 : BitVec 32 := Scalar.extui v40_r0
  let c0_i32_27_r0 : BitVec 32 := 0#32
  let v42_r0 : BitVec 1 := Scalar.cmpi .ne v41_r0 c0_i32_27_r0
  v42_r0

def k0_off1 : Fin 3 → Nat :=
  let c0_i32_26_r0 : BitVec 32 := 0#32
  let c2_i32_r0 : BitVec 32 := 2#32
  let v83_r0 : BitVec 32 := Scalar.remui c0_i32_26_r0 c2_i32_r0
  let c0_i32_59_r0 : BitVec 32 := 0#32
  let c0_i32_60_r0 : BitVec 32 := 0#32
  ![v83_r0.toNat, 0, 0]
def k0_off2 (i : grid0.Coords) : Fin 2 → Nat :=
  let c0_i32_61_r0 : BitVec 32 := 0#32
  let c128_i32_r0 : BitVec 32 := 128#32
  let c0_i32_12_r0 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v23_r0 : BitVec 32 := Scalar.addi c0_i32_12_r0 v13
  let v84_r0 : BitVec 32 := Scalar.muli c128_i32_r0 v23_r0
  ![0, v84_r0.toNat]
def k0_off3 : Fin 1 → Nat :=
  let c0_i32_26_r0 : BitVec 32 := 0#32
  let c2_i32_r0 : BitVec 32 := 2#32
  let v83_r0 : BitVec 32 := Scalar.remui c0_i32_26_r0 c2_i32_r0
  ![v83_r0.toNat]
@[reducible] def k0_t1_loop (i : grid0.Coords) : Scf.Loop 32 :=
  let c0_i32_31_r0 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_37_r0 : BitVec 32 := 1#32
  ⟨c0_i32_31_r0, v49_r0, c1_i32_37_r0⟩
def k0_off4 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k0_cond4 (i : grid0.Coords) (k0_t1 : Fin (k0_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v104_r0 : BitVec 1 := Scalar.cmpi .ne v87_r0 v98_r0
  let c0_i32_31_r0 : BitVec 32 := 0#32
  let c1_i32_37_r0 : BitVec 32 := 1#32
  let arg7_r0 : BitVec 32 := Scf.iv c0_i32_31_r0 c1_i32_37_r0 k0_t1
  let c1_i32_59_r0 : BitVec 32 := 1#32
  let v83_r0 : BitVec 32 := Scalar.muli c1_i32_59_r0 v8
  let c2_i32_r0 : BitVec 32 := 2#32
  let v105_r0 : BitVec 32 := Scalar.subi v83_r0 c2_i32_r0
  let c1_i32_72_r0 : BitVec 32 := 1#32
  let v106_r0 : BitVec 32 := Scalar.addi v105_r0 c1_i32_72_r0
  let v107_r0 : BitVec 1 := Scalar.cmpi .sge arg7_r0 v106_r0
  let true_73_r0 : BitVec 1 := 1#1
  let v108_r0 : BitVec 1 := Scalar.xori v107_r0 true_73_r0
  let v109_r0 : BitVec 1 := Scalar.andi v104_r0 v108_r0
  let true_74_r0 : BitVec 1 := 1#1
  let v110_r0 : BitVec 1 := Scalar.andi v109_r0 true_74_r0
  let v111_r0 : BitVec 32 := Scalar.extui v110_r0
  let c0_i32_75_r0 : BitVec 32 := 0#32
  let v112_r0 : BitVec 1 := Scalar.cmpi .ne v111_r0 c0_i32_75_r0
  v112_r0

def k0_off5 (i : grid0.Coords) (arg12_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v96_r0 : BitVec 1 := Scalar.cmpi .eq v95_r0 v8
  let c0_i32_68_r0 : BitVec 32 := 0#32
  let v97_r0 : BitVec 32 := Scalar.select v96_r0 c0_i32_68_r0 v95_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v98_r0 : BitVec 32 := Scalar.addi v97_r0 v13
  let v171_r0 : BitVec 32 := Scalar.muli c128_i32_r0 v98_r0
  ![0, v171_r0.toNat]
def k0_off6 (arg8_r0 : BitVec 32) : Fin 1 → Nat :=
  let c2_i32_103_r0 : BitVec 32 := 2#32
  let v170_r0 : BitVec 32 := Scalar.remui arg8_r0 c2_i32_103_r0
  ![v170_r0.toNat]
def k0_off7 (arg9_r0 : BitVec 32) : Fin 3 → Nat :=
  let c2_i32_103_r0 : BitVec 32 := 2#32
  let v171_r0 : BitVec 32 := Scalar.remui arg9_r0 c2_i32_103_r0
  let c0_i32_104_r0 : BitVec 32 := 0#32
  let c0_i32_105_r0 : BitVec 32 := 0#32
  ![v171_r0.toNat, 0, 0]
def k0_cond5 (i : grid0.Coords) (k0_t1 : Fin (k0_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v122_r0 : BitVec 1 := Scalar.cmpi .ne v87_r0 v93_r0
  let c0_i32_31_r0 : BitVec 32 := 0#32
  let c1_i32_37_r0 : BitVec 32 := 1#32
  let arg7_r0 : BitVec 32 := Scf.iv c0_i32_31_r0 c1_i32_37_r0 k0_t1
  let c0_i32_60_r0 : BitVec 32 := 0#32
  let v84_r0 : BitVec 1 := Scalar.cmpi .eq arg7_r0 c0_i32_60_r0
  let v123_r0 : BitVec 1 := Scalar.ori v122_r0 v84_r0
  let c0_i32_81_r0 : BitVec 32 := 0#32
  let v124_r0 : BitVec 1 := Scalar.cmpi .sge arg7_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k0_off8 (i : grid0.Coords) (arg12_r0 : BitVec 32) : Fin 2 → Nat :=
  let c0_i32_106_r0 : BitVec 32 := 0#32
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v170_r0 : BitVec 32 := Scalar.muli c128_i32_r0 v87_r0
  ![0, v170_r0.toNat]
def k0_off9 (arg9_r0 : BitVec 32) : Fin 1 → Nat :=
  let c2_i32_103_r0 : BitVec 32 := 2#32
  let v171_r0 : BitVec 32 := Scalar.remui arg9_r0 c2_i32_103_r0
  ![v171_r0.toNat]
def k0_off10 (arg10_r0 : BitVec 32) : Fin 3 → Nat :=
  let c2_i32_86_r0 : BitVec 32 := 2#32
  let v135_r0 : BitVec 32 := Scalar.remui arg10_r0 c2_i32_86_r0
  let c0_i32_103_r1 : BitVec 32 := 0#32
  let c0_i32_104_r1 : BitVec 32 := 0#32
  ![v135_r0.toNat, 0, 0]

def k0_chk2 (i : grid0.Coords) (arg10_r0 : BitVec 32) : Prop :=
  (∀ (k0_h2 : k0_cond2 i = 1#1), ∀ a, (k0_off10 arg10_r0) a + S1x128x128.size a ≤ S2x128x128.size a)
theorem k0_off10_inb : ∀ (i : grid0.Coords) (arg10_r0 : BitVec 32) (k0_hw2 : k0_chk2 i arg10_r0), ∀ (k0_h2 : k0_cond2 i = 1#1), ∀ a, (k0_off10 arg10_r0) a + S1x128x128.size a ≤ S2x128x128.size a := fun i arg10_r0 k0_hw2 k0_h2 => k0_hw2 k0_h2

def k0_off11 (arg9_r0 : BitVec 32) : Fin 3 → Nat :=
  let c2_i32_85_r0 : BitVec 32 := 2#32
  let v134_r0 : BitVec 32 := Scalar.remui arg9_r0 c2_i32_85_r0
  let c0_i32_105_r1 : BitVec 32 := 0#32
  let c0_i32_106_r1 : BitVec 32 := 0#32
  ![v134_r0.toNat, 0, 0]

def k0_chk3 (i : grid0.Coords) (arg9_r0 : BitVec 32) : Prop :=
  (∀ (k0_h2 : k0_cond2 i = 1#1), ∀ a, (k0_off11 arg9_r0) a + S1x1x128.size a ≤ S2x1x128.size a)
theorem k0_off11_inb : ∀ (i : grid0.Coords) (arg9_r0 : BitVec 32) (k0_hw3 : k0_chk3 i arg9_r0), ∀ (k0_h2 : k0_cond2 i = 1#1), ∀ a, (k0_off11 arg9_r0) a + S1x1x128.size a ≤ S2x1x128.size a := fun i arg9_r0 k0_hw3 k0_h2 => k0_hw3 k0_h2

def k0_off12 (arg10_r0 : BitVec 32) : Fin 3 → Nat :=
  let c2_i32_103_r0 : BitVec 32 := 2#32
  let v170_r0 : BitVec 32 := Scalar.remui arg10_r0 c2_i32_103_r0
  let c0_i32_104_r0 : BitVec 32 := 0#32
  let c0_i32_105_r0 : BitVec 32 := 0#32
  ![v170_r0.toNat, 0, 0]
def k0_cond8 (i : grid0.Coords) (k0_t1 : Fin (k0_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v141_r0 : BitVec 1 := Scalar.cmpi .ne v87_r0 v98_r0
  let c0_i32_31_r0 : BitVec 32 := 0#32
  let c1_i32_37_r0 : BitVec 32 := 1#32
  let arg7_r0 : BitVec 32 := Scf.iv c0_i32_31_r0 c1_i32_37_r0 k0_t1
  let c1_i32_59_r0 : BitVec 32 := 1#32
  let v83_r0 : BitVec 32 := Scalar.muli c1_i32_59_r0 v8
  let c1_i32_61_r0 : BitVec 32 := 1#32
  let v85_r0 : BitVec 32 := Scalar.subi v83_r0 c1_i32_61_r0
  let v86_r0 : BitVec 1 := Scalar.cmpi .eq arg7_r0 v85_r0
  let v142_r0 : BitVec 1 := Scalar.ori v141_r0 v86_r0
  let v143_r0 : BitVec 32 := Scalar.extui v142_r0
  let c0_i32_89_r0 : BitVec 32 := 0#32
  let v144_r0 : BitVec 1 := Scalar.cmpi .ne v143_r0 c0_i32_89_r0
  v144_r0

def k0_off13 (i : grid0.Coords) (arg12_r0 : BitVec 32) : Fin 2 → Nat :=
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v171_r0 : BitVec 32 := Scalar.muli c128_i32_r0 v87_r0
  let c0_i32_106_r0 : BitVec 32 := 0#32
  ![v171_r0.toNat, 0]
def k0_off14 (arg10_r0 : BitVec 32) : Fin 1 → Nat :=
  let c2_i32_103_r0 : BitVec 32 := 2#32
  let v170_r0 : BitVec 32 := Scalar.remui arg10_r0 c2_i32_103_r0
  ![v170_r0.toNat]
def k0_off15 (arg11_r0 : BitVec 32) : Fin 3 → Nat :=
  let c2_i32_103_r0 : BitVec 32 := 2#32
  let v170_r0 : BitVec 32 := Scalar.remui arg11_r0 c2_i32_103_r0
  let c0_i32_104_r0 : BitVec 32 := 0#32
  let c0_i32_105_r0 : BitVec 32 := 0#32
  ![v170_r0.toNat, 0, 0]
def k0_cond10 (i : grid0.Coords) (k0_t1 : Fin (k0_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v154_r0 : BitVec 1 := Scalar.cmpi .ne v87_r0 v93_r0
  let c0_i32_31_r0 : BitVec 32 := 0#32
  let c1_i32_37_r0 : BitVec 32 := 1#32
  let arg7_r0 : BitVec 32 := Scf.iv c0_i32_31_r0 c1_i32_37_r0 k0_t1
  let c0_i32_60_r0 : BitVec 32 := 0#32
  let v84_r0 : BitVec 1 := Scalar.cmpi .eq arg7_r0 c0_i32_60_r0
  let true_95_r0 : BitVec 1 := 1#1
  let v155_r0 : BitVec 1 := Scalar.xori v84_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k0_off16 (i : grid0.Coords) (arg12_r0 : BitVec 32) : Fin 2 → Nat :=
  let c128_i32_r0 : BitVec 32 := 128#32
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_65_r0 : BitVec 32 := 1#32
  let v91_r0 : BitVec 32 := Scalar.subi v8 c1_i32_65_r0
  let v92_r0 : BitVec 32 := Scalar.select v90_r0 v91_r0 v89_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v93_r0 : BitVec 32 := Scalar.addi v92_r0 v13
  let v171_r0 : BitVec 32 := Scalar.muli c128_i32_r0 v93_r0
  let c0_i32_106_r0 : BitVec 32 := 0#32
  ![v171_r0.toNat, 0]
def k0_off17 (arg11_r0 : BitVec 32) : Fin 1 → Nat :=
  let c2_i32_103_r0 : BitVec 32 := 2#32
  let v170_r0 : BitVec 32 := Scalar.remui arg11_r0 c2_i32_103_r0
  ![v170_r0.toNat]

def k0_chk1 (i : grid0.Coords) (k0_t1 : Fin (k0_t1_loop i).trips) (arg8_r0 : BitVec 32) (arg9_r0 : BitVec 32) (arg10_r0 : BitVec 32) (arg11_r0 : BitVec 32) (arg12_r0 : BitVec 32) : Prop :=
  (∀ (k0_h2 : k0_cond2 i = 1#1), ∀ (k0_h4 : k0_cond4 i k0_t1 arg12_r0 = 1#1), ∀ a, (k0_off4 arg8_r0) a + S1x1x128.size a ≤ S2x1x128.size a) ∧
  (∀ (k0_h2 : k0_cond2 i = 1#1), ∀ (k0_h4 : k0_cond4 i k0_t1 arg12_r0 = 1#1), ∀ a, (k0_off5 i arg12_r0) a + S1x128.size a ≤ S1x320000.size a) ∧
  (∀ (k0_h2 : k0_cond2 i = 1#1), ∀ (k0_h4 : k0_cond4 i k0_t1 arg12_r0 = 1#1), ∀ a, (k0_off6 arg8_r0) a + S1.size a ≤ S2.size a) ∧
  (∀ (k0_h2 : k0_cond2 i = 1#1), ∀ (k0_h5 : k0_cond5 i k0_t1 arg12_r0 = 1#1), ∀ a, (k0_off7 arg9_r0) a + S1x1x128.size a ≤ S2x1x128.size a) ∧
  (∀ (k0_h2 : k0_cond2 i = 1#1), ∀ (k0_h5 : k0_cond5 i k0_t1 arg12_r0 = 1#1), ∀ a, (k0_off8 i arg12_r0) a + S1x128.size a ≤ S1x320000.size a) ∧
  (∀ (k0_h2 : k0_cond2 i = 1#1), ∀ (k0_h5 : k0_cond5 i k0_t1 arg12_r0 = 1#1), ∀ a, (k0_off9 arg9_r0) a + S1.size a ≤ S2.size a) ∧
  (∀ (k0_h2 : k0_cond2 i = 1#1), ∀ (k0_h8 : k0_cond8 i k0_t1 arg12_r0 = 1#1), ∀ a, (k0_off12 arg10_r0) a + S1x128x128.size a ≤ S2x128x128.size a) ∧
  (∀ (k0_h2 : k0_cond2 i = 1#1), ∀ (k0_h8 : k0_cond8 i k0_t1 arg12_r0 = 1#1), ∀ a, (k0_off13 i arg12_r0) a + S128x128.size a ≤ S320000x128.size a) ∧
  (∀ (k0_h2 : k0_cond2 i = 1#1), ∀ (k0_h8 : k0_cond8 i k0_t1 arg12_r0 = 1#1), ∀ a, (k0_off14 arg10_r0) a + S1.size a ≤ S2.size a) ∧
  (∀ (k0_h2 : k0_cond2 i = 1#1), ∀ (k0_h10 : k0_cond10 i k0_t1 arg12_r0 = 1#1), ∀ a, (k0_off15 arg11_r0) a + S1x128x128.size a ≤ S2x128x128.size a) ∧
  (∀ (k0_h2 : k0_cond2 i = 1#1), ∀ (k0_h10 : k0_cond10 i k0_t1 arg12_r0 = 1#1), ∀ a, (k0_off16 i arg12_r0) a + S128x128.size a ≤ S320000x128.size a) ∧
  (∀ (k0_h2 : k0_cond2 i = 1#1), ∀ (k0_h10 : k0_cond10 i k0_t1 arg12_r0 = 1#1), ∀ a, (k0_off17 arg11_r0) a + S1.size a ≤ S2.size a)
theorem k0_off4_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h4 : k0_cond4 i k0_t1 arg12_r0 = 1#1), ∀ a, (k0_off4 arg8_r0) a + S1x1x128.size a ≤ S2x1x128.size a := fun i k0_t1 arg8_r0 arg9_r0 arg10_r0 arg11_r0 arg12_r0 k0_hw1 k0_h2 k0_h4 => k0_hw1.1 k0_h2 k0_h4
theorem k0_off5_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h4 : k0_cond4 i k0_t1 arg12_r0 = 1#1), ∀ a, (k0_off5 i arg12_r0) a + S1x128.size a ≤ S1x320000.size a := fun i k0_t1 arg8_r0 arg9_r0 arg10_r0 arg11_r0 arg12_r0 k0_hw1 k0_h2 k0_h4 => k0_hw1.2.1 k0_h2 k0_h4
theorem k0_off6_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h4 : k0_cond4 i k0_t1 arg12_r0 = 1#1), ∀ a, (k0_off6 arg8_r0) a + S1.size a ≤ S2.size a := fun i k0_t1 arg8_r0 arg9_r0 arg10_r0 arg11_r0 arg12_r0 k0_hw1 k0_h2 k0_h4 => k0_hw1.2.2.1 k0_h2 k0_h4
theorem k0_off7_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h5 : k0_cond5 i k0_t1 arg12_r0 = 1#1), ∀ a, (k0_off7 arg9_r0) a + S1x1x128.size a ≤ S2x1x128.size a := fun i k0_t1 arg8_r0 arg9_r0 arg10_r0 arg11_r0 arg12_r0 k0_hw1 k0_h2 k0_h5 => k0_hw1.2.2.2.1 k0_h2 k0_h5
theorem k0_off8_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h5 : k0_cond5 i k0_t1 arg12_r0 = 1#1), ∀ a, (k0_off8 i arg12_r0) a + S1x128.size a ≤ S1x320000.size a := fun i k0_t1 arg8_r0 arg9_r0 arg10_r0 arg11_r0 arg12_r0 k0_hw1 k0_h2 k0_h5 => k0_hw1.2.2.2.2.1 k0_h2 k0_h5
theorem k0_off9_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h5 : k0_cond5 i k0_t1 arg12_r0 = 1#1), ∀ a, (k0_off9 arg9_r0) a + S1.size a ≤ S2.size a := fun i k0_t1 arg8_r0 arg9_r0 arg10_r0 arg11_r0 arg12_r0 k0_hw1 k0_h2 k0_h5 => k0_hw1.2.2.2.2.2.1 k0_h2 k0_h5
theorem k0_off12_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h8 : k0_cond8 i k0_t1 arg12_r0 = 1#1), ∀ a, (k0_off12 arg10_r0) a + S1x128x128.size a ≤ S2x128x128.size a := fun i k0_t1 arg8_r0 arg9_r0 arg10_r0 arg11_r0 arg12_r0 k0_hw1 k0_h2 k0_h8 => k0_hw1.2.2.2.2.2.2.1 k0_h2 k0_h8
theorem k0_off13_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h8 : k0_cond8 i k0_t1 arg12_r0 = 1#1), ∀ a, (k0_off13 i arg12_r0) a + S128x128.size a ≤ S320000x128.size a := fun i k0_t1 arg8_r0 arg9_r0 arg10_r0 arg11_r0 arg12_r0 k0_hw1 k0_h2 k0_h8 => k0_hw1.2.2.2.2.2.2.2.1 k0_h2 k0_h8
theorem k0_off14_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h8 : k0_cond8 i k0_t1 arg12_r0 = 1#1), ∀ a, (k0_off14 arg10_r0) a + S1.size a ≤ S2.size a := fun i k0_t1 arg8_r0 arg9_r0 arg10_r0 arg11_r0 arg12_r0 k0_hw1 k0_h2 k0_h8 => k0_hw1.2.2.2.2.2.2.2.2.1 k0_h2 k0_h8
theorem k0_off15_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h10 : k0_cond10 i k0_t1 arg12_r0 = 1#1), ∀ a, (k0_off15 arg11_r0) a + S1x128x128.size a ≤ S2x128x128.size a := fun i k0_t1 arg8_r0 arg9_r0 arg10_r0 arg11_r0 arg12_r0 k0_hw1 k0_h2 k0_h10 => k0_hw1.2.2.2.2.2.2.2.2.2.1 k0_h2 k0_h10
theorem k0_off16_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h10 : k0_cond10 i k0_t1 arg12_r0 = 1#1), ∀ a, (k0_off16 i arg12_r0) a + S128x128.size a ≤ S320000x128.size a := fun i k0_t1 arg8_r0 arg9_r0 arg10_r0 arg11_r0 arg12_r0 k0_hw1 k0_h2 k0_h10 => k0_hw1.2.2.2.2.2.2.2.2.2.2.1 k0_h2 k0_h10
theorem k0_off17_inb : ∀ (i : grid0.Coords) (k0_t1 : Fin (k0_t1_loop i).trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i = 1#1), ∀ (k0_h10 : k0_cond10 i k0_t1 arg12_r0 = 1#1), ∀ a, (k0_off17 arg11_r0) a + S1.size a ≤ S2.size a := fun i k0_t1 arg8_r0 arg9_r0 arg10_r0 arg11_r0 arg12_r0 k0_hw1 k0_h2 k0_h10 => k0_hw1.2.2.2.2.2.2.2.2.2.2.2 k0_h2 k0_h10

@[reducible] def k0_t2_loop (i : grid0.Coords) : Scf.Loop 32 :=
  let c0_i32_31_r0 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let v46_r0 : BitVec 32 := Scalar.addi c0_i32_31_r0 v45_r0
  let c1_i32_38_r0 : BitVec 32 := 1#32
  ⟨v49_r0, v46_r0, c1_i32_38_r0⟩
def k0_off18 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k0_cond11 (i : grid0.Coords) (k0_t2 : Fin (k0_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v104_r0 : BitVec 1 := Scalar.cmpi .ne v87_r0 v98_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k0_t2
  let c1_i32_59_r0 : BitVec 32 := 1#32
  let v83_r0 : BitVec 32 := Scalar.muli c1_i32_59_r0 v8
  let c2_i32_r0 : BitVec 32 := 2#32
  let v105_r0 : BitVec 32 := Scalar.subi v83_r0 c2_i32_r0
  let c1_i32_72_r0 : BitVec 32 := 1#32
  let v106_r0 : BitVec 32 := Scalar.addi v105_r0 c1_i32_72_r0
  let v107_r0 : BitVec 1 := Scalar.cmpi .sge arg7_r0 v106_r0
  let true_73_r0 : BitVec 1 := 1#1
  let v108_r0 : BitVec 1 := Scalar.xori v107_r0 true_73_r0
  let v109_r0 : BitVec 1 := Scalar.andi v104_r0 v108_r0
  let true_74_r0 : BitVec 1 := 1#1
  let v110_r0 : BitVec 1 := Scalar.andi v109_r0 true_74_r0
  let v111_r0 : BitVec 32 := Scalar.extui v110_r0
  let c0_i32_75_r0 : BitVec 32 := 0#32
  let v112_r0 : BitVec 1 := Scalar.cmpi .ne v111_r0 c0_i32_75_r0
  v112_r0

def k0_off19 (i : grid0.Coords) (arg12_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v96_r0 : BitVec 1 := Scalar.cmpi .eq v95_r0 v8
  let c0_i32_68_r0 : BitVec 32 := 0#32
  let v97_r0 : BitVec 32 := Scalar.select v96_r0 c0_i32_68_r0 v95_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v98_r0 : BitVec 32 := Scalar.addi v97_r0 v13
  let v171_r0 : BitVec 32 := Scalar.muli c128_i32_r0 v98_r0
  ![0, v171_r0.toNat]
def k0_off20 (arg8_r0 : BitVec 32) : Fin 1 → Nat :=
  let c2_i32_103_r0 : BitVec 32 := 2#32
  let v170_r0 : BitVec 32 := Scalar.remui arg8_r0 c2_i32_103_r0
  ![v170_r0.toNat]
def k0_off21 (arg9_r0 : BitVec 32) : Fin 3 → Nat :=
  let c2_i32_103_r0 : BitVec 32 := 2#32
  let v171_r0 : BitVec 32 := Scalar.remui arg9_r0 c2_i32_103_r0
  let c0_i32_104_r0 : BitVec 32 := 0#32
  let c0_i32_105_r0 : BitVec 32 := 0#32
  ![v171_r0.toNat, 0, 0]
def k0_cond12 (i : grid0.Coords) (k0_t2 : Fin (k0_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v122_r0 : BitVec 1 := Scalar.cmpi .ne v87_r0 v93_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k0_t2
  let c0_i32_60_r0 : BitVec 32 := 0#32
  let v84_r0 : BitVec 1 := Scalar.cmpi .eq arg7_r0 c0_i32_60_r0
  let v123_r0 : BitVec 1 := Scalar.ori v122_r0 v84_r0
  let c0_i32_81_r0 : BitVec 32 := 0#32
  let v124_r0 : BitVec 1 := Scalar.cmpi .sge arg7_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k0_off22 (i : grid0.Coords) (arg12_r0 : BitVec 32) : Fin 2 → Nat :=
  let c0_i32_106_r0 : BitVec 32 := 0#32
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v170_r0 : BitVec 32 := Scalar.muli c128_i32_r0 v87_r0
  ![0, v170_r0.toNat]
def k0_off23 (arg9_r0 : BitVec 32) : Fin 1 → Nat :=
  let c2_i32_103_r0 : BitVec 32 := 2#32
  let v171_r0 : BitVec 32 := Scalar.remui arg9_r0 c2_i32_103_r0
  ![v171_r0.toNat]
def k0_off24 (arg10_r0 : BitVec 32) : Fin 3 → Nat :=
  let c2_i32_86_r0 : BitVec 32 := 2#32
  let v135_r0 : BitVec 32 := Scalar.remui arg10_r0 c2_i32_86_r0
  let c0_i32_103_r2 : BitVec 32 := 0#32
  let c0_i32_104_r2 : BitVec 32 := 0#32
  ![v135_r0.toNat, 0, 0]

def k0_chk5 (i : grid0.Coords) (k0_t2 : Fin (k0_t2_loop i).trips) (arg10_r0 : BitVec 32) : Prop :=
  (∀ (k0_h2 : k0_cond2 i = 1#1), ∀ a, (k0_off24 arg10_r0) a + S1x128x128.size a ≤ S2x128x128.size a)
theorem k0_off24_inb : ∀ (i : grid0.Coords) (k0_t2 : Fin (k0_t2_loop i).trips) (arg10_r0 : BitVec 32) (k0_hw5 : k0_chk5 i k0_t2 arg10_r0), ∀ (k0_h2 : k0_cond2 i = 1#1), ∀ a, (k0_off24 arg10_r0) a + S1x128x128.size a ≤ S2x128x128.size a := fun i k0_t2 arg10_r0 k0_hw5 k0_h2 => k0_hw5 k0_h2

def k0_off25 (arg9_r0 : BitVec 32) : Fin 3 → Nat :=
  let c2_i32_85_r0 : BitVec 32 := 2#32
  let v134_r0 : BitVec 32 := Scalar.remui arg9_r0 c2_i32_85_r0
  let c0_i32_105_r2 : BitVec 32 := 0#32
  let c0_i32_106_r2 : BitVec 32 := 0#32
  ![v134_r0.toNat, 0, 0]

def k0_chk6 (i : grid0.Coords) (k0_t2 : Fin (k0_t2_loop i).trips) (arg9_r0 : BitVec 32) : Prop :=
  (∀ (k0_h2 : k0_cond2 i = 1#1), ∀ a, (k0_off25 arg9_r0) a + S1x1x128.size a ≤ S2x1x128.size a)
theorem k0_off25_inb : ∀ (i : grid0.Coords) (k0_t2 : Fin (k0_t2_loop i).trips) (arg9_r0 : BitVec 32) (k0_hw6 : k0_chk6 i k0_t2 arg9_r0), ∀ (k0_h2 : k0_cond2 i = 1#1), ∀ a, (k0_off25 arg9_r0) a + S1x1x128.size a ≤ S2x1x128.size a := fun i k0_t2 arg9_r0 k0_hw6 k0_h2 => k0_hw6 k0_h2

def k0_off26 (arg10_r0 : BitVec 32) : Fin 3 → Nat :=
  let c2_i32_103_r0 : BitVec 32 := 2#32
  let v170_r0 : BitVec 32 := Scalar.remui arg10_r0 c2_i32_103_r0
  let c0_i32_104_r0 : BitVec 32 := 0#32
  let c0_i32_105_r0 : BitVec 32 := 0#32
  ![v170_r0.toNat, 0, 0]
def k0_cond15 (i : grid0.Coords) (k0_t2 : Fin (k0_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v141_r0 : BitVec 1 := Scalar.cmpi .ne v87_r0 v98_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k0_t2
  let c1_i32_59_r0 : BitVec 32 := 1#32
  let v83_r0 : BitVec 32 := Scalar.muli c1_i32_59_r0 v8
  let c1_i32_61_r0 : BitVec 32 := 1#32
  let v85_r0 : BitVec 32 := Scalar.subi v83_r0 c1_i32_61_r0
  let v86_r0 : BitVec 1 := Scalar.cmpi .eq arg7_r0 v85_r0
  let v142_r0 : BitVec 1 := Scalar.ori v141_r0 v86_r0
  let v143_r0 : BitVec 32 := Scalar.extui v142_r0
  let c0_i32_89_r0 : BitVec 32 := 0#32
  let v144_r0 : BitVec 1 := Scalar.cmpi .ne v143_r0 c0_i32_89_r0
  v144_r0

def k0_off27 (i : grid0.Coords) (arg12_r0 : BitVec 32) : Fin 2 → Nat :=
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v171_r0 : BitVec 32 := Scalar.muli c128_i32_r0 v87_r0
  let c0_i32_106_r0 : BitVec 32 := 0#32
  ![v171_r0.toNat, 0]
def k0_off28 (arg10_r0 : BitVec 32) : Fin 1 → Nat :=
  let c2_i32_103_r0 : BitVec 32 := 2#32
  let v170_r0 : BitVec 32 := Scalar.remui arg10_r0 c2_i32_103_r0
  ![v170_r0.toNat]
def k0_off29 (arg11_r0 : BitVec 32) : Fin 3 → Nat :=
  let c2_i32_103_r0 : BitVec 32 := 2#32
  let v170_r0 : BitVec 32 := Scalar.remui arg11_r0 c2_i32_103_r0
  let c0_i32_104_r0 : BitVec 32 := 0#32
  let c0_i32_105_r0 : BitVec 32 := 0#32
  ![v170_r0.toNat, 0, 0]
def k0_cond17 (i : grid0.Coords) (k0_t2 : Fin (k0_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v154_r0 : BitVec 1 := Scalar.cmpi .ne v87_r0 v93_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k0_t2
  let c0_i32_60_r0 : BitVec 32 := 0#32
  let v84_r0 : BitVec 1 := Scalar.cmpi .eq arg7_r0 c0_i32_60_r0
  let true_95_r0 : BitVec 1 := 1#1
  let v155_r0 : BitVec 1 := Scalar.xori v84_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k0_off30 (i : grid0.Coords) (arg12_r0 : BitVec 32) : Fin 2 → Nat :=
  let c128_i32_r0 : BitVec 32 := 128#32
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_65_r0 : BitVec 32 := 1#32
  let v91_r0 : BitVec 32 := Scalar.subi v8 c1_i32_65_r0
  let v92_r0 : BitVec 32 := Scalar.select v90_r0 v91_r0 v89_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v93_r0 : BitVec 32 := Scalar.addi v92_r0 v13
  let v171_r0 : BitVec 32 := Scalar.muli c128_i32_r0 v93_r0
  let c0_i32_106_r0 : BitVec 32 := 0#32
  ![v171_r0.toNat, 0]
def k0_off31 (arg11_r0 : BitVec 32) : Fin 1 → Nat :=
  let c2_i32_103_r0 : BitVec 32 := 2#32
  let v170_r0 : BitVec 32 := Scalar.remui arg11_r0 c2_i32_103_r0
  ![v170_r0.toNat]

def k0_chk4 (i : grid0.Coords) (k0_t2 : Fin (k0_t2_loop i).trips) (arg8_r0 : BitVec 32) (arg9_r0 : BitVec 32) (arg10_r0 : BitVec 32) (arg11_r0 : BitVec 32) (arg12_r0 : BitVec 32) : Prop :=
  (∀ (k0_h2 : k0_cond2 i = 1#1), ∀ (k0_h11 : k0_cond11 i k0_t2 arg12_r0 = 1#1), ∀ a, (k0_off18 arg8_r0) a + S1x1x128.size a ≤ S2x1x128.size a) ∧
  (∀ (k0_h2 : k0_cond2 i = 1#1), ∀ (k0_h11 : k0_cond11 i k0_t2 arg12_r0 = 1#1), ∀ a, (k0_off19 i arg12_r0) a + S1x128.size a ≤ S1x320000.size a) ∧
  (∀ (k0_h2 : k0_cond2 i = 1#1), ∀ (k0_h11 : k0_cond11 i k0_t2 arg12_r0 = 1#1), ∀ a, (k0_off20 arg8_r0) a + S1.size a ≤ S2.size a) ∧
  (∀ (k0_h2 : k0_cond2 i = 1#1), ∀ (k0_h12 : k0_cond12 i k0_t2 arg12_r0 = 1#1), ∀ a, (k0_off21 arg9_r0) a + S1x1x128.size a ≤ S2x1x128.size a) ∧
  (∀ (k0_h2 : k0_cond2 i = 1#1), ∀ (k0_h12 : k0_cond12 i k0_t2 arg12_r0 = 1#1), ∀ a, (k0_off22 i arg12_r0) a + S1x128.size a ≤ S1x320000.size a) ∧
  (∀ (k0_h2 : k0_cond2 i = 1#1), ∀ (k0_h12 : k0_cond12 i k0_t2 arg12_r0 = 1#1), ∀ a, (k0_off23 arg9_r0) a + S1.size a ≤ S2.size a) ∧
  (∀ (k0_h2 : k0_cond2 i = 1#1), ∀ (k0_h15 : k0_cond15 i k0_t2 arg12_r0 = 1#1), ∀ a, (k0_off26 arg10_r0) a + S1x128x128.size a ≤ S2x128x128.size a) ∧
  (∀ (k0_h2 : k0_cond2 i = 1#1), ∀ (k0_h15 : k0_cond15 i k0_t2 arg12_r0 = 1#1), ∀ a, (k0_off27 i arg12_r0) a + S128x128.size a ≤ S320000x128.size a) ∧
  (∀ (k0_h2 : k0_cond2 i = 1#1), ∀ (k0_h15 : k0_cond15 i k0_t2 arg12_r0 = 1#1), ∀ a, (k0_off28 arg10_r0) a + S1.size a ≤ S2.size a) ∧
  (∀ (k0_h2 : k0_cond2 i = 1#1), ∀ (k0_h17 : k0_cond17 i k0_t2 arg12_r0 = 1#1), ∀ a, (k0_off29 arg11_r0) a + S1x128x128.size a ≤ S2x128x128.size a) ∧
  (∀ (k0_h2 : k0_cond2 i = 1#1), ∀ (k0_h17 : k0_cond17 i k0_t2 arg12_r0 = 1#1), ∀ a, (k0_off30 i arg12_r0) a + S128x128.size a ≤ S320000x128.size a) ∧
  (∀ (k0_h2 : k0_cond2 i = 1#1), ∀ (k0_h17 : k0_cond17 i k0_t2 arg12_r0 = 1#1), ∀ a, (k0_off31 arg11_r0) a + S1.size a ≤ S2.size a)
theorem k0_off18_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h11 : k0_cond11 i k0_t2 arg12_r0 = 1#1), ∀ a, (k0_off18 arg8_r0) a + S1x1x128.size a ≤ S2x1x128.size a := fun i k0_t2 arg8_r0 arg9_r0 arg10_r0 arg11_r0 arg12_r0 k0_hw4 k0_h2 k0_h11 => k0_hw4.1 k0_h2 k0_h11
theorem k0_off19_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h11 : k0_cond11 i k0_t2 arg12_r0 = 1#1), ∀ a, (k0_off19 i arg12_r0) a + S1x128.size a ≤ S1x320000.size a := fun i k0_t2 arg8_r0 arg9_r0 arg10_r0 arg11_r0 arg12_r0 k0_hw4 k0_h2 k0_h11 => k0_hw4.2.1 k0_h2 k0_h11
theorem k0_off20_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h11 : k0_cond11 i k0_t2 arg12_r0 = 1#1), ∀ a, (k0_off20 arg8_r0) a + S1.size a ≤ S2.size a := fun i k0_t2 arg8_r0 arg9_r0 arg10_r0 arg11_r0 arg12_r0 k0_hw4 k0_h2 k0_h11 => k0_hw4.2.2.1 k0_h2 k0_h11
theorem k0_off21_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h12 : k0_cond12 i k0_t2 arg12_r0 = 1#1), ∀ a, (k0_off21 arg9_r0) a + S1x1x128.size a ≤ S2x1x128.size a := fun i k0_t2 arg8_r0 arg9_r0 arg10_r0 arg11_r0 arg12_r0 k0_hw4 k0_h2 k0_h12 => k0_hw4.2.2.2.1 k0_h2 k0_h12
theorem k0_off22_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h12 : k0_cond12 i k0_t2 arg12_r0 = 1#1), ∀ a, (k0_off22 i arg12_r0) a + S1x128.size a ≤ S1x320000.size a := fun i k0_t2 arg8_r0 arg9_r0 arg10_r0 arg11_r0 arg12_r0 k0_hw4 k0_h2 k0_h12 => k0_hw4.2.2.2.2.1 k0_h2 k0_h12
theorem k0_off23_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h12 : k0_cond12 i k0_t2 arg12_r0 = 1#1), ∀ a, (k0_off23 arg9_r0) a + S1.size a ≤ S2.size a := fun i k0_t2 arg8_r0 arg9_r0 arg10_r0 arg11_r0 arg12_r0 k0_hw4 k0_h2 k0_h12 => k0_hw4.2.2.2.2.2.1 k0_h2 k0_h12
theorem k0_off26_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h15 : k0_cond15 i k0_t2 arg12_r0 = 1#1), ∀ a, (k0_off26 arg10_r0) a + S1x128x128.size a ≤ S2x128x128.size a := fun i k0_t2 arg8_r0 arg9_r0 arg10_r0 arg11_r0 arg12_r0 k0_hw4 k0_h2 k0_h15 => k0_hw4.2.2.2.2.2.2.1 k0_h2 k0_h15
theorem k0_off27_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h15 : k0_cond15 i k0_t2 arg12_r0 = 1#1), ∀ a, (k0_off27 i arg12_r0) a + S128x128.size a ≤ S320000x128.size a := fun i k0_t2 arg8_r0 arg9_r0 arg10_r0 arg11_r0 arg12_r0 k0_hw4 k0_h2 k0_h15 => k0_hw4.2.2.2.2.2.2.2.1 k0_h2 k0_h15
theorem k0_off28_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h15 : k0_cond15 i k0_t2 arg12_r0 = 1#1), ∀ a, (k0_off28 arg10_r0) a + S1.size a ≤ S2.size a := fun i k0_t2 arg8_r0 arg9_r0 arg10_r0 arg11_r0 arg12_r0 k0_hw4 k0_h2 k0_h15 => k0_hw4.2.2.2.2.2.2.2.2.1 k0_h2 k0_h15
theorem k0_off29_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h17 : k0_cond17 i k0_t2 arg12_r0 = 1#1), ∀ a, (k0_off29 arg11_r0) a + S1x128x128.size a ≤ S2x128x128.size a := fun i k0_t2 arg8_r0 arg9_r0 arg10_r0 arg11_r0 arg12_r0 k0_hw4 k0_h2 k0_h17 => k0_hw4.2.2.2.2.2.2.2.2.2.1 k0_h2 k0_h17
theorem k0_off30_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h17 : k0_cond17 i k0_t2 arg12_r0 = 1#1), ∀ a, (k0_off30 i arg12_r0) a + S128x128.size a ≤ S320000x128.size a := fun i k0_t2 arg8_r0 arg9_r0 arg10_r0 arg11_r0 arg12_r0 k0_hw4 k0_h2 k0_h17 => k0_hw4.2.2.2.2.2.2.2.2.2.2.1 k0_h2 k0_h17
theorem k0_off31_inb : ∀ (i : grid0.Coords) (k0_t2 : Fin (k0_t2_loop i).trips) (arg8_r0 : BitVec 32) (arg9_r0 : BitVec 32) (arg10_r0 : BitVec 32) (arg11_r0 : BitVec 32) (arg12_r0 : BitVec 32) (k0_hw4 : k0_chk4 i k0_t2 arg8_r0 arg9_r0 arg10_r0 arg11_r0 arg12_r0), ∀ (k0_h2 : k0_cond2 i = 1#1), ∀ (k0_h17 : k0_cond17 i k0_t2 arg12_r0 = 1#1), ∀ a, (k0_off31 arg11_r0) a + S1.size a ≤ S2.size a := fun i k0_t2 arg8_r0 arg9_r0 arg10_r0 arg11_r0 arg12_r0 k0_hw4 k0_h2 k0_h17 => k0_hw4.2.2.2.2.2.2.2.2.2.2.2 k0_h2 k0_h17

def k0_cond19 (i : grid0.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let c1_i32_43_r0 : BitVec 32 := 1#32
  let v57_r0 : BitVec 32 := Scalar.subi v14 c1_i32_43_r0
  let c1_i32_44_r0 : BitVec 32 := 1#32
  let v58_r0 : BitVec 32 := Scalar.muli c1_i32_44_r0 v8
  let c1_i32_46_r0 : BitVec 32 := 1#32
  let v60_r0 : BitVec 32 := Scalar.subi v58_r0 c1_i32_46_r0
  let v61_r0 : BitVec 1 := Scalar.cmpi .eq v57_r0 v60_r0
  let v81_r0 : BitVec 32 := Scalar.extui v61_r0
  let c0_i32_58_r0 : BitVec 32 := 0#32
  let v82_r0 : BitVec 1 := Scalar.cmpi .ne v81_r0 c0_i32_58_r0
  v82_r0

def k0_off32 (v51_3_r0 : BitVec 32) : Fin 3 → Nat :=
  let c2_i32_r0 : BitVec 32 := 2#32
  let v83_r0 : BitVec 32 := Scalar.remui v51_3_r0 c2_i32_r0
  let c0_i32_59_r0 : BitVec 32 := 0#32
  let c0_i32_60_r0 : BitVec 32 := 0#32
  ![v83_r0.toNat, 0, 0]

def k0_off33 (i : grid0.Coords) (v51_4_r0 : BitVec 32) : Fin 2 → Nat :=
  let c128_i32_r0 : BitVec 32 := 128#32
  let true_40_r0 : BitVec 1 := 1#1
  let c1_i32_39_r0 : BitVec 32 := 1#32
  let v52_r0 : BitVec 32 := Scalar.subi v51_4_r0 c1_i32_39_r0
  let v53_r0 : BitVec 32 := Scalar.select true_40_r0 v52_r0 v51_4_r0
  let c_m1_i32_41_r0 : BitVec 32 := 4294967295#32
  let v54_r0 : BitVec 1 := Scalar.cmpi .eq v53_r0 c_m1_i32_41_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_42_r0 : BitVec 32 := 1#32
  let v55_r0 : BitVec 32 := Scalar.subi v8 c1_i32_42_r0
  let v56_r0 : BitVec 32 := Scalar.select v54_r0 v55_r0 v53_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v62_r0 : BitVec 32 := Scalar.addi v56_r0 v13
  let v84_r0 : BitVec 32 := Scalar.muli c128_i32_r0 v62_r0
  let c0_i32_61_r0 : BitVec 32 := 0#32
  ![v84_r0.toNat, 0]

def k0_chk8 (i : grid0.Coords) (v51_4_r0 : BitVec 32) : Prop :=
  (∀ (k0_h2 : k0_cond2 i = 1#1), ∀ (k0_h19 : k0_cond19 i = 1#1), ∀ a, (k0_off33 i v51_4_r0) a + S128x128.size a ≤ S320000x128.size a)
theorem k0_off33_inb : ∀ (i : grid0.Coords) (v51_4_r0 : BitVec 32) (k0_hw8 : k0_chk8 i v51_4_r0), ∀ (k0_h2 : k0_cond2 i = 1#1), ∀ (k0_h19 : k0_cond19 i = 1#1), ∀ a, (k0_off33 i v51_4_r0) a + S128x128.size a ≤ S320000x128.size a := fun i v51_4_r0 k0_hw8 k0_h2 k0_h19 => k0_hw8 k0_h2 k0_h19

def k0_off34 (v51_3_r0 : BitVec 32) : Fin 1 → Nat :=
  let c2_i32_r0 : BitVec 32 := 2#32
  let v83_r0 : BitVec 32 := Scalar.remui v51_3_r0 c2_i32_r0
  ![v83_r0.toNat]
def k0_off35 (v51_3_r0 : BitVec 32) : Fin 3 → Nat :=
  let c2_i32_r0 : BitVec 32 := 2#32
  let v83_r0 : BitVec 32 := Scalar.remui v51_3_r0 c2_i32_r0
  let c0_i32_63_r0 : BitVec 32 := 0#32
  let c0_i32_64_r0 : BitVec 32 := 0#32
  ![v83_r0.toNat, 0, 0]

def k0_chk7 (i : grid0.Coords) (v51_3_r0 : BitVec 32) : Prop :=
  (∀ (k0_h2 : k0_cond2 i = 1#1), ∀ (k0_h19 : k0_cond19 i = 1#1), ∀ a, (k0_off32 v51_3_r0) a + S1x128x128.size a ≤ S2x128x128.size a) ∧
  (∀ (k0_h2 : k0_cond2 i = 1#1), ∀ (k0_h19 : k0_cond19 i = 1#1), ∀ a, (k0_off34 v51_3_r0) a + S1.size a ≤ S2.size a) ∧
  (∀ (k0_h2 : k0_cond2 i = 1#1), ∀ (k0_h19 : k0_cond19 i = 1#1), ∀ a, (k0_off35 v51_3_r0) a + S1x128x128.size a ≤ S2x128x128.size a)
theorem k0_off32_inb : ∀ (i : grid0.Coords) (v51_3_r0 : BitVec 32) (k0_hw7 : k0_chk7 i v51_3_r0), ∀ (k0_h2 : k0_cond2 i = 1#1), ∀ (k0_h19 : k0_cond19 i = 1#1), ∀ a, (k0_off32 v51_3_r0) a + S1x128x128.size a ≤ S2x128x128.size a := fun i v51_3_r0 k0_hw7 k0_h2 k0_h19 => k0_hw7.1 k0_h2 k0_h19
theorem k0_off34_inb : ∀ (i : grid0.Coords) (v51_3_r0 : BitVec 32) (k0_hw7 : k0_chk7 i v51_3_r0), ∀ (k0_h2 : k0_cond2 i = 1#1), ∀ (k0_h19 : k0_cond19 i = 1#1), ∀ a, (k0_off34 v51_3_r0) a + S1.size a ≤ S2.size a := fun i v51_3_r0 k0_hw7 k0_h2 k0_h19 => k0_hw7.2.1 k0_h2 k0_h19
theorem k0_off35_inb : ∀ (i : grid0.Coords) (v51_3_r0 : BitVec 32) (k0_hw7 : k0_chk7 i v51_3_r0), ∀ (k0_h2 : k0_cond2 i = 1#1), ∀ (k0_h19 : k0_cond19 i = 1#1), ∀ a, (k0_off35 v51_3_r0) a + S1x128x128.size a ≤ S2x128x128.size a := fun i v51_3_r0 k0_hw7 k0_h2 k0_h19 => k0_hw7.2.2 k0_h2 k0_h19

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S10000x128 : Shape := ⟨2, ![10000, 128]⟩
abbrev S1x10000x32 : Shape := ⟨3, ![1, 10000, 32]⟩
abbrev S320000 : Shape := ⟨1, ![320000]⟩
abbrev S_ : Shape := ⟨0, ![]⟩
abbrev S320000x1 : Shape := ⟨2, ![320000, 1]⟩
abbrev S320000x128 : Shape := ⟨2, ![320000, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x32, .i32⟩
  | .hbm, ⟨2, _⟩ => ⟨S320000, .i32⟩
  | .hbm, ⟨3, _⟩ => ⟨S_, .i32⟩
  | .hbm, ⟨4, _⟩ => ⟨S320000, .i32⟩
  | .hbm, ⟨5, _⟩ => ⟨S320000, .i1⟩
  | .hbm, ⟨6, _⟩ => ⟨S_, .i32⟩
  | .hbm, ⟨7, _⟩ => ⟨S320000, .i32⟩
  | .hbm, ⟨8, _⟩ => ⟨S320000, .i32⟩
  | .hbm, ⟨9, _⟩ => ⟨S320000, .i32⟩
  | .hbm, ⟨10, _⟩ => ⟨S320000x1, .i32⟩
  | .hbm, ⟨11, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== RowsKernel.lean ====
abbrev S1x10000x128 : Shape := ⟨3, ![1, 10000, 128]⟩
abbrev S128x640 : Shape := ⟨2, ![128, 640]⟩
abbrev S640x128 : Shape := ⟨2, ![640, 128]⟩
abbrev S10000x128 : Shape := ⟨2, ![10000, 128]⟩
abbrev S128x128 : Shape := ⟨2, ![128, 128]⟩
abbrev S2000x128 : Shape := ⟨2, ![2000, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S128x640, .f32⟩
  | .hbm, ⟨3, _⟩ => ⟨S640x128, .f32⟩
  | .hbm, ⟨4, _⟩ => ⟨S10000x128, .f32⟩
  | .hbm, ⟨5, _⟩ => ⟨S10000x128, .f32⟩
  | .hbm, ⟨6, _⟩ => ⟨S128x128, .f32⟩
  | .hbm, ⟨7, _⟩ => ⟨S128x128, .f32⟩
  | .hbm, ⟨8, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowsKernelIdeal.lean ====
variable {F : FTy → Type} [FloatOps F] [Named F]
def κ : String → Option EReal := fun
  | "s" => some (((Real.sqrt 2)⁻¹ : ℝ) : EReal)
  | "t" => some ((30⁻¹ : ℝ) : EReal)
  | _ => none
-- ==== RowsReferenceIdeal.lean ====
abbrev S1x10000x128 : Shape := ⟨3, ![1, 10000, 128]⟩
abbrev S128x640 : Shape := ⟨2, ![128, 640]⟩
abbrev S10000x128 : Shape := ⟨2, ![10000, 128]⟩
abbrev S128x128 : Shape := ⟨2, ![128, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S128x640, .f32⟩
  | .hbm, ⟨3, _⟩ => ⟨S10000x128, .f32⟩
  | .hbm, ⟨4, _⟩ => ⟨S128x128, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S128x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== NodesKernel.lean ====
abbrev S1x10000x128 : Shape := ⟨3, ![1, 10000, 128]⟩
abbrev S1x10000x32x128 : Shape := ⟨4, ![1, 10000, 32, 128]⟩
abbrev S320000x128 : Shape := ⟨2, ![320000, 128]⟩
abbrev S1x10000 : Shape := ⟨2, ![1, 10000]⟩
abbrev S1x10000x32 : Shape := ⟨3, ![1, 10000, 32]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S640x128 : Shape := ⟨2, ![640, 128]⟩
abbrev S384x128 : Shape := ⟨2, ![384, 128]⟩
abbrev S10000x128 : Shape := ⟨2, ![10000, 128]⟩
abbrev S1x128 : Shape := ⟨2, ![1, 128]⟩
abbrev S_ : Shape := ⟨0, ![]⟩
abbrev S1x512 : Shape := ⟨2, ![1, 512]⟩
abbrev S12800x128 : Shape := ⟨2, ![12800, 128]⟩
abbrev S400x128 : Shape := ⟨2, ![400, 128]⟩
abbrev S400x32x128 : Shape := ⟨3, ![400, 32, 128]⟩
abbrev S400x1x128 : Shape := ⟨3, ![400, 1, 128]⟩
abbrev S400 : Shape := ⟨1, ![400]⟩
abbrev S400x1 : Shape := ⟨2, ![400, 1]⟩
abbrev S400x512 : Shape := ⟨2, ![400, 512]⟩

abbrev nBuf : Space → Nat
  | .hbm => 50
  | .vmem => 29
  | .smem => 0
  | _ => 0

abbrev bufTy : (tb : Table) → Fin (tcTables nBuf tb) → BufTy
  | .hbm, ⟨0, _⟩ => ⟨S1x10000x128, .f32⟩
  | .hbm, ⟨1, _⟩ => ⟨S1x10000x32x128, .f32⟩
  | .hbm, ⟨2, _⟩ => ⟨S320000x128, .f32⟩
  | .hbm, ⟨3, _⟩ => ⟨S1x10000, .f32⟩
  | .hbm, ⟨4, _⟩ => ⟨S1x10000x32, .f32⟩
  | .hbm, ⟨5, _⟩ => ⟨S128x640, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S512x128, .f32⟩
  | .hbm, ⟨13, _⟩ => ⟨S512, .f32⟩
  | .hbm, ⟨14, _⟩ => ⟨S128x512, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S640x128, .f32⟩
  | .hbm, ⟨21, _⟩ => ⟨S384x128, .f32⟩
  | .hbm, ⟨22, _⟩ => ⟨S320000x128, .f32⟩
  | .hbm, ⟨23, _⟩ => ⟨S10000x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S1x128, .f32⟩
  | .hbm, ⟨35, _⟩ => ⟨S128x128, .f32⟩
  | .hbm, ⟨36, _⟩ => ⟨S1x128, .f32⟩
  | .hbm, ⟨37, _⟩ => ⟨S128x512, .f32⟩
  | .hbm, ⟨38, _⟩ => ⟨S1x512, .f32⟩
  | .hbm, ⟨39, _⟩ => ⟨S512x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S128x128, .f32⟩
  | .hbm, ⟨46, _⟩ => ⟨S128x128, .f32⟩
  | .hbm, ⟨47, _⟩ => ⟨S10000x128, .f32⟩
  | .hbm, ⟨48, _⟩ => ⟨S10000x128, .f32⟩
  | .hbm, ⟨49, _⟩ => ⟨S10000x128, .f32⟩
  | .local _ .vmem, ⟨0, _⟩ => ⟨S12800x128, .f32⟩
  | .local _ .vmem, ⟨1, _⟩ => ⟨S12800x128, .f32⟩
  | .local _ .vmem, ⟨2, _⟩ => ⟨S12800x128, .f32⟩
  | .local _ .vmem, ⟨3, _⟩ => ⟨S12800x128, .f32⟩
  | .local _ .vmem, ⟨4, _⟩ => ⟨S400x128, .f32⟩
  | .local _ .vmem, ⟨5, _⟩ => ⟨S400x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x512, .f32⟩
  | .local _ .vmem, ⟨14, _⟩ => ⟨S1x512, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x128, .f32⟩
  | .local _ .vmem, ⟨22, _⟩ => ⟨S128x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | .local _ .vmem, ⟨26, _⟩ => ⟨S400x128, .f32⟩
  | .local _ .vmem, ⟨27, _⟩ => ⟨S400x128, .f32⟩
  | .local _ .vmem, ⟨28, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S400x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S400x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S400x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== NodesKernelIdeal.lean ====
variable {F : FTy → Type} [FloatOps F] [Named F]
def κ : String → Option EReal := fun
  | "s" => some (((Real.sqrt 2)⁻¹ : ℝ) : EReal)
  | "t" => some ((30⁻¹ : ℝ) : EReal)
  | _ => none
-- ==== NodesReferenceIdeal.lean ====
abbrev S1x10000x128 : Shape := ⟨3, ![1, 10000, 128]⟩
abbrev S1x10000x32x128 : Shape := ⟨4, ![1, 10000, 32, 128]⟩
abbrev S320000x128 : Shape := ⟨2, ![320000, 128]⟩
abbrev S1x10000 : Shape := ⟨2, ![1, 10000]⟩
abbrev S1x10000x32 : Shape := ⟨3, ![1, 10000, 32]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S_ : Shape := ⟨0, ![]⟩
abbrev S1x10000x1x128 : Shape := ⟨4, ![1, 10000, 1, 128]⟩
abbrev S1x1x1x128 : Shape := ⟨4, ![1, 1, 1, 128]⟩
abbrev S1x10000x32x1 : Shape := ⟨4, ![1, 10000, 32, 1]⟩
abbrev S1x10000x1 : Shape := ⟨3, ![1, 10000, 1]⟩
abbrev S1x1x128 : Shape := ⟨3, ![1, 1, 128]⟩
abbrev S1x10000x512 : Shape := ⟨3, ![1, 10000, 512]⟩
abbrev S1x1x512 : Shape := ⟨3, ![1, 1, 512]⟩
abbrev S10000x128 : Shape := ⟨2, ![10000, 128]⟩

abbrev nBuf : Space → Nat
  | .hbm => 192
  | .vmem => 0
  | .smem => 0
  | _ => 0

abbrev hbmTy0_0 (i : Nat) : BufTy := match i % 128 with
  | 0 => ⟨S1x10000x128, .f32⟩
  | 1 => ⟨S1x10000x32x128, .f32⟩
  | 2 => ⟨S320000x128, .f32⟩
  | 3 => ⟨S1x10000, .f32⟩
  | 4 => ⟨S1x10000x32, .f32⟩
  | 5 => ⟨S128x640, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x384, .f32⟩
  | 12 => ⟨S512x128, .f32⟩
  | 13 => ⟨S512, .f32⟩
  | 14 => ⟨S128x512, .f32⟩
  | 15 => ⟨S128, .f32⟩
  | 16 => ⟨S128, .f32⟩
  | 17 => ⟨S128, .f32⟩
  | 18 => ⟨S128, .f32⟩
  | 19 => ⟨S128, .f32⟩
  | 20 => ⟨S1x10000x32x128, .f32⟩
  | 21 => ⟨S_, .f32⟩
  | 22 => ⟨S_, .f32⟩
  | 23 => ⟨S_, .f32⟩
  | 24 => ⟨S1x10000x32x128, .f32⟩
  | 25 => ⟨S1x10000x32x128, .f32⟩
  | 26 => ⟨S128x128, .f32⟩
  | 27 => ⟨S128x128, .f32⟩
  | 28 => ⟨S1x10000x128, .f32⟩
  | 29 => ⟨S1x10000x1x128, .f32⟩
  | 30 => ⟨S128x128, .f32⟩
  | 31 => ⟨S128x128, .f32⟩
  | 32 => ⟨S1x10000x32x128, .f32⟩
  | 33 => ⟨S128x128, .f32⟩
  | 34 => ⟨S128x128, .f32⟩
  | 35 => ⟨S1x10000x32x128, .f32⟩
  | 36 => ⟨S1x10000x32x128, .f32⟩
  | 37 => ⟨S1x10000x32x128, .f32⟩
  | 38 => ⟨S1x10000x32x128, .f32⟩
  | 39 => ⟨S1x10000x32x128, .f32⟩
  | 40 => ⟨S1x1x1x128, .f32⟩
  | 41 => ⟨S1x10000x32x128, .f32⟩
  | 42 => ⟨S1x10000x32x128, .f32⟩
  | 43 => ⟨S_, .f32⟩
  | 44 => ⟨S_, .f32⟩
  | 45 => ⟨S_, .f32⟩
  | 46 => ⟨S1x10000x32x128, .f32⟩
  | 47 => ⟨S1x10000x32x128, .f32⟩
  | 48 => ⟨S1x10000x32x128, .f32⟩
  | 49 => ⟨S_, .f32⟩
  | 50 => ⟨S1x10000x32x128, .f32⟩
  | 51 => ⟨S1x10000x32x128, .f32⟩
  | 52 => ⟨S1x10000x32x128, .f32⟩
  | 53 => ⟨S_, .f32⟩
  | 54 => ⟨S1x10000x32x128, .f32⟩
  | 55 => ⟨S1x10000x32x128, .f32⟩
  | 56 => ⟨S128x128, .f32⟩
  | 57 => ⟨S1x10000x32x128, .f32⟩
  | 58 => ⟨S1x1x1x128, .f32⟩
  | 59 => ⟨S1x10000x32x128, .f32⟩
  | 60 => ⟨S1x10000x32x128, .f32⟩
  | 61 => ⟨S_, .f32⟩
  | 62 => ⟨S_, .f32⟩
  | 63 => ⟨S_, .f32⟩
  | 64 => ⟨S1x10000x32x128, .f32⟩
  | 65 => ⟨S1x10000x32x128, .f32⟩
  | 66 => ⟨S1x10000x32x128, .f32⟩
  | 67 => ⟨S_, .f32⟩
  | 68 => ⟨S1x10000x32x128, .f32⟩
  | 69 => ⟨S1x10000x32x128, .f32⟩
  | 70 => ⟨S1x10000x32x128, .f32⟩
  | 71 => ⟨S_, .f32⟩
  | 72 => ⟨S1x10000x32x128, .f32⟩
  | 73 => ⟨S1x10000x32x128, .f32⟩
  | 74 => ⟨S128x128, .f32⟩
  | 75 => ⟨S1x10000x32x128, .f32⟩
  | 76 => ⟨S1x1x1x128, .f32⟩
  | 77 => ⟨S1x10000x32x128, .f32⟩
  | 78 => ⟨S1x10000x32x128, .f32⟩
  | 79 => ⟨S1x10000x32x1, .f32⟩
  | 80 => ⟨S1x10000x32x128, .f32⟩
  | 81 => ⟨S1x10000x32x128, .f32⟩
  | 82 => ⟨S_, .f32⟩
  | 83 => ⟨S1x10000x128, .f32⟩
  | 84 => ⟨S_, .f32⟩
  | 85 => ⟨S1x10000x128, .f32⟩
  | 86 => ⟨S1x10000x128, .f32⟩
  | 87 => ⟨S1x10000x128, .f32⟩
  | 88 => ⟨S_, .f32⟩
  | 89 => ⟨S1x10000, .f32⟩
  | 90 => ⟨S1x10000x1, .f32⟩
  | 91 => ⟨S_, .f32⟩
  | 92 => ⟨S1x10000x1, .f32⟩
  | 93 => ⟨S1x10000x1, .f32⟩
  | 94 => ⟨S1x10000x128, .f32⟩
  | 95 => ⟨S1x10000x128, .f32⟩
  | 96 => ⟨S1x10000x128, .f32⟩
  | 97 => ⟨S_, .f32⟩
  | 98 => ⟨S1x10000, .f32⟩
  | 99 => ⟨S1x10000x1, .f32⟩
  | 100 => ⟨S_, .f32⟩
  | 101 => ⟨S1x10000x1, .f32⟩
  | 102 => ⟨S1x10000x1, .f32⟩
  | 103 => ⟨S1x10000x128, .f32⟩
  | 104 => ⟨S1x10000x128, .f32⟩
  | 105 => ⟨S_, .f32⟩
  | 106 => ⟨S1x10000x1, .f32⟩
  | 107 => ⟨S1x10000x1, .f32⟩
  | 108 => ⟨S1x10000x1, .f32⟩
  | 109 => ⟨S1x10000x128, .f32⟩
  | 110 => ⟨S1x10000x128, .f32⟩
  | 111 => ⟨S1x1x128, .f32⟩
  | 112 => ⟨S1x10000x128, .f32⟩
  | 113 => ⟨S1x10000x128, .f32⟩
  | 114 => ⟨S1x1x128, .f32⟩
  | 115 => ⟨S1x10000x128, .f32⟩
  | 116 => ⟨S1x10000x128, .f32⟩
  | 117 => ⟨S128x512, .f32⟩
  | 118 => ⟨S1x10000x512, .f32⟩
  | 119 => ⟨S1x1x512, .f32⟩
  | 120 => ⟨S1x10000x512, .f32⟩
  | 121 => ⟨S1x10000x512, .f32⟩
  | 122 => ⟨S_, .f32⟩
  | 123 => ⟨S_, .f32⟩
  | 124 => ⟨S_, .f32⟩
  | 125 => ⟨S1x10000x512, .f32⟩
  | 126 => ⟨S1x10000x512, .f32⟩
  | 127 => ⟨S1x10000x512, .f32⟩
  | _ => ⟨S1x10000x128, .f32⟩

abbrev hbmTy0_1 (i : Nat) : BufTy := match i % 128 with
  | 0 => ⟨S_, .f32⟩
  | 1 => ⟨S1x10000x512, .f32⟩
  | 2 => ⟨S1x10000x512, .f32⟩
  | 3 => ⟨S1x10000x512, .f32⟩
  | 4 => ⟨S_, .f32⟩
  | 5 => ⟨S1x10000x512, .f32⟩
  | 6 => ⟨S1x10000x512, .f32⟩
  | 7 => ⟨S512x128, .f32⟩
  | 8 => ⟨S1x10000x128, .f32⟩
  | 9 => ⟨S1x1x128, .f32⟩
  | 10 => ⟨S1x10000x128, .f32⟩
  | 11 => ⟨S1x10000x128, .f32⟩
  | 12 => ⟨S1x10000x128, .f32⟩
  | 13 => ⟨S_, .f32⟩
  | 14 => ⟨S1x10000, .f32⟩
  | 15 => ⟨S1x10000x1, .f32⟩
  | 16 => ⟨S_, .f32⟩
  | 17 => ⟨S1x10000x1, .f32⟩
  | 18 => ⟨S1x10000x1, .f32⟩
  | 19 => ⟨S1x10000x128, .f32⟩
  | 20 => ⟨S1x10000x128, .f32⟩
  | 21 => ⟨S1x10000x128, .f32⟩
  | 22 => ⟨S_, .f32⟩
  | 23 => ⟨S1x10000, .f32⟩
  | 24 => ⟨S1x10000x1, .f32⟩
  | 25 => ⟨S_, .f32⟩
  | 26 => ⟨S1x10000x1, .f32⟩
  | 27 => ⟨S1x10000x1, .f32⟩
  | 28 => ⟨S1x10000x128, .f32⟩
  | 29 => ⟨S1x10000x128, .f32⟩
  | 30 => ⟨S_, .f32⟩
  | 31 => ⟨S1x10000x1, .f32⟩
  | 32 => ⟨S1x10000x1, .f32⟩
  | 33 => ⟨S1x10000x1, .f32⟩
  | 34 => ⟨S1x10000x128, .f32⟩
  | 35 => ⟨S1x10000x128, .f32⟩
  | 36 => ⟨S1x1x128, .f32⟩
  | 37 => ⟨S1x10000x128, .f32⟩
  | 38 => ⟨S1x10000x128, .f32⟩
  | 39 => ⟨S1x1x128, .f32⟩
  | 40 => ⟨S1x10000x128, .f32⟩
  | 41 => ⟨S1x10000x128, .f32⟩
  | 42 => ⟨S1x10000x1, .f32⟩
  | 43 => ⟨S1x10000x128, .f32⟩
  | 44 => ⟨S1x10000x128, .f32⟩
  | 45 => ⟨S10000x128, .f32⟩
  | 46 => ⟨S128x128, .f32⟩
  | 47 => ⟨S128x128, .f32⟩
  | 48 => ⟨S10000x128, .f32⟩
  | 49 => ⟨S_, .f32⟩
  | 50 => ⟨S_, .f32⟩
  | 51 => ⟨S_, .f32⟩
  | 52 => ⟨S10000x128, .f32⟩
  | 53 => ⟨S10000x128, .f32⟩
  | 54 => ⟨S10000x128, .f32⟩
  | 55 => ⟨S128x128, .f32⟩
  | 56 => ⟨S128x128, .f32⟩
  | 57 => ⟨S10000x128, .f32⟩
  | 58 => ⟨S_, .f32⟩
  | 59 => ⟨S_, .f32⟩
  | 60 => ⟨S_, .f32⟩
  | 61 => ⟨S10000x128, .f32⟩
  | 62 => ⟨S10000x128, .f32⟩
  | 63 => ⟨S10000x128, .f32⟩
  | _ => ⟨S1x10000x128, .f32⟩

abbrev hbmTy (i : Nat) : BufTy := match i / 128 with
  | 0 => hbmTy0_0 i
  | 1 => hbmTy0_1 i
  | _ => ⟨S1x10000x128, .f32⟩

abbrev bufTy : (tb : Table) → Fin (tcTables nBuf tb) → BufTy
  | .hbm, ⟨i, _⟩ => hbmTy i
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_14 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_18 : Ref sig .tc := ⟨.hbm, 150, rfl⟩
abbrev main_v111 : Ref sig .tc := ⟨.hbm, 151, rfl⟩
abbrev main_v112 : Ref sig .tc := ⟨.hbm, 152, rfl⟩
abbrev main_cst_19 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_20 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_21 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_22 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩

abbrev nD : Nat := 1
abbrev τ : Topo := Topo.v7x

variable {F : FTy → Type} [FloatOps F]
-- ==== EdgesKernel.lean ====
abbrev S1x10000x32x128 : Shape := ⟨4, ![1, 10000, 32, 128]⟩
abbrev S320000x128 : Shape := ⟨2, ![320000, 128]⟩
abbrev S10000x128 : Shape := ⟨2, ![10000, 128]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S1x128 : Shape := ⟨2, ![1, 128]⟩
abbrev S_ : Shape := ⟨0, ![]⟩
abbrev S12800x128 : Shape := ⟨2, ![12800, 128]⟩
abbrev S400x128 : Shape := ⟨2, ![400, 128]⟩
abbrev S400x32x128 : Shape := ⟨3, ![400, 32, 128]⟩
abbrev S400x1x128 : Shape := ⟨3, ![400, 1, 128]⟩
abbrev S12800 : Shape := ⟨1, ![12800]⟩
abbrev S12800x1 : Shape := ⟨2, ![12800, 1]⟩

abbrev nBuf : Space → Nat
  | .hbm => 26
  | .vmem => 16
  | .smem => 0
  | _ => 0

abbrev bufTy : (tb : Table) → Fin (tcTables nBuf tb) → BufTy
  | .hbm, ⟨0, _⟩ => ⟨S1x10000x32x128, .f32⟩
  | .hbm, ⟨1, _⟩ => ⟨S320000x128, .f32⟩
  | .hbm, ⟨2, _⟩ => ⟨S10000x128, .f32⟩
  | .hbm, ⟨3, _⟩ => ⟨S128x384, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S384x128, .f32⟩
  | .hbm, ⟨12, _⟩ => ⟨S320000x128, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S128x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S320000x128, .f32⟩
  | .local _ .vmem, ⟨0, _⟩ => ⟨S12800x128, .f32⟩
  | .local _ .vmem, ⟨1, _⟩ => ⟨S12800x128, .f32⟩
  | .local _ .vmem, ⟨2, _⟩ => ⟨S12800x128, .f32⟩
  | .local _ .vmem, ⟨3, _⟩ => ⟨S12800x128, .f32⟩
  | .local _ .vmem, ⟨4, _⟩ => ⟨S400x128, .f32⟩
  | .local _ .vmem, ⟨5, _⟩ => ⟨S400x128, .f32⟩
  | .local _ .vmem, ⟨6, _⟩ => ⟨S1x128, .f32⟩
  | .local _ .vmem, ⟨7, _⟩ => ⟨S128x128, .f32⟩
  | .local _ .vmem, ⟨8, _⟩ => ⟨S128x128, .bf16⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S12800x128, .f32⟩
  | .local _ .vmem, ⟨15, _⟩ => ⟨S12800x128, .f32⟩
  | _, _ => ⟨S1x10000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S12800x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EdgesKernelIdeal.lean ====
variable {F : FTy → Type} [FloatOps F] [Named F]
def κ : String → Option EReal := fun
  | "s" => some (((Real.sqrt 2)⁻¹ : ℝ) : EReal)
  | "t" => some ((30⁻¹ : ℝ) : EReal)
  | _ => none
-- ==== EdgesReferenceIdeal.lean ====
abbrev S1x10000x32x128 : Shape := ⟨4, ![1, 10000, 32, 128]⟩
abbrev S320000x128 : Shape := ⟨2, ![320000, 128]⟩
abbrev S10000x128 : Shape := ⟨2, ![10000, 128]⟩
abbrev S128x384 : Shape := ⟨2, ![128, 384]⟩
abbrev S128 : Shape := ⟨1, ![128]⟩
abbrev S128x128 : Shape := ⟨2, ![128, 128]⟩
abbrev S_ : Shape := ⟨0, ![]⟩
abbrev S1x10000x1x128 : Shape := ⟨4, ![1, 10000, 1, 128]⟩
abbrev S1x1x1x128 : Shape := ⟨4, ![1, 1, 1, 128]⟩
abbrev S1x10000x32 : Shape := ⟨3, ![1, 10000, 32]⟩
abbrev S1x10000x32x1 : Shape := ⟨4, ![1, 10000, 32, 1]⟩

abbrev nBuf : Space → Nat
  | .hbm => 99
  | .vmem => 0
  | .smem => 0
  | _ => 0

abbrev bufTy : (tb : Table) → Fin (tcTables nBuf tb) → BufTy
  | .hbm, ⟨0, _⟩ => ⟨S1x10000x32x128, .f32⟩
  | .hbm, ⟨1, _⟩ => ⟨S320000x128, .f32⟩
  | .hbm, ⟨2, _⟩ => ⟨S10000x128, .f32⟩
  | .hbm, ⟨3, _⟩ => ⟨S128x384, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x10000x32x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x10000x32x128, .f32⟩
  | .hbm, ⟨16, _⟩ => ⟨S1x10000x32x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S1x10000x1x128, .f32⟩
  | .hbm, ⟨23, _⟩ => ⟨S128x128, .f32⟩
  | .hbm, ⟨24, _⟩ => ⟨S128x128, .f32⟩
  | .hbm, ⟨25, _⟩ => ⟨S1x10000x32x128, .f32⟩
  | .hbm, ⟨26, _⟩ => ⟨S1x10000x32x128, .f32⟩
  | .hbm, ⟨27, _⟩ => ⟨S1x10000x32x128, .f32⟩
  | .hbm, ⟨28, _⟩ => ⟨S1x10000x32x128, .f32⟩
  | .hbm, ⟨29, _⟩ => ⟨S1x1x1x128, .f32⟩
  | .hbm, ⟨30, _⟩ => ⟨S1x10000x32x128, .f32⟩
  | .hbm, ⟨31, _⟩ => ⟨S1x10000x32x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x10000x32x128, .f32⟩
  | .hbm, ⟨36, _⟩ => ⟨S1x10000x32x128, .f32⟩
  | .hbm, ⟨37, _⟩ => ⟨S1x10000x32x128, .f32⟩
  | .hbm, ⟨38, _⟩ => ⟨S_, .f32⟩
  | .hbm, ⟨39, _⟩ => ⟨S1x10000x32x128, .f32⟩
  | .hbm, ⟨40, _⟩ => ⟨S1x10000x32x128, .f32⟩
  | .hbm, ⟨41, _⟩ => ⟨S1x10000x32x128, .f32⟩
  | .hbm, ⟨42, _⟩ => ⟨S_, .f32⟩
  | .hbm, ⟨43, _⟩ => ⟨S1x10000x32x128, .f32⟩
  | .hbm, ⟨44, _⟩ => ⟨S1x10000x32x128, .f32⟩
  | .hbm, ⟨45, _⟩ => ⟨S128x128, .f32⟩
  | .hbm, ⟨46, _⟩ => ⟨S1x10000x32x128, .f32⟩
  | .hbm, ⟨47, _⟩ => ⟨S1x1x1x128, .f32⟩
  | .hbm, ⟨48, _⟩ => ⟨S1x10000x32x128, .f32⟩
  | .hbm, ⟨49, _⟩ => ⟨S1x10000x32x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1x10000x32x128, .f32⟩
  | .hbm, ⟨54, _⟩ => ⟨S1x10000x32x128, .f32⟩
  | .hbm, ⟨55, _⟩ => ⟨S1x10000x32x128, .f32⟩
  | .hbm, ⟨56, _⟩ => ⟨S_, .f32⟩
  | .hbm, ⟨57, _⟩ => ⟨S1x10000x32x128, .f32⟩
  | .hbm, ⟨58, _⟩ => ⟨S1x10000x32x128, .f32⟩
  | .hbm, ⟨59, _⟩ => ⟨S1x10000x32x128, .f32⟩
  | .hbm, ⟨60, _⟩ => ⟨S_, .f32⟩
  | .hbm, ⟨61, _⟩ => ⟨S1x10000x32x128, .f32⟩
  | .hbm, ⟨62, _⟩ => ⟨S1x10000x32x128, .f32⟩
  | .hbm, ⟨63, _⟩ => ⟨S128x128, .f32⟩
  | .hbm, ⟨64, _⟩ => ⟨S1x10000x32x128, .f32⟩
  | .hbm, ⟨65, _⟩ => ⟨S1x1x1x128, .f32⟩
  | .hbm, ⟨66, _⟩ => ⟨S1x10000x32x128, .f32⟩
  | .hbm, ⟨67, _⟩ => ⟨S1x10000x32x128, .f32⟩
  | .hbm, ⟨68, _⟩ => ⟨S1x10000x32x128, .f32⟩
  | .hbm, ⟨69, _⟩ => ⟨S_, .f32⟩
  | .hbm, ⟨70, _⟩ => ⟨S1x10000x32, .f32⟩
  | .hbm, ⟨71, _⟩ => ⟨S1x10000x32x1, .f32⟩
  | .hbm, ⟨72, _⟩ => ⟨S_, .f32⟩
  | .hbm, ⟨73, _⟩ => ⟨S1x10000x32x1, .f32⟩
  | .hbm, ⟨74, _⟩ => ⟨S1x10000x32x1, .f32⟩
  | .hbm, ⟨75, _⟩ => ⟨S1x10000x32x128, .f32⟩
  | .hbm, ⟨76, _⟩ => ⟨S1x10000x32x128, .f32⟩
  | .hbm, ⟨77, _⟩ => ⟨S1x10000x32x128, .f32⟩
  | .hbm, ⟨78, _⟩ => ⟨S_, .f32⟩
  | .hbm, ⟨79, _⟩ => ⟨S1x10000x32, .f32⟩
  | .hbm, ⟨80, _⟩ => ⟨S1x10000x32x1, .f32⟩
  | .hbm, ⟨81, _⟩ => ⟨S_, .f32⟩
  | .hbm, ⟨82, _⟩ => ⟨S1x10000x32x1, .f32⟩
  | .hbm, ⟨83, _⟩ => ⟨S1x10000x32x1, .f32⟩
  | .hbm, ⟨84, _⟩ => ⟨S1x10000x32x128, .f32⟩
  | .hbm, ⟨85, _⟩ => ⟨S1x10000x32x128, .f32⟩
  | .hbm, ⟨86, _⟩ => ⟨S_, .f32⟩
  | .hbm, ⟨87, _⟩ => ⟨S1x10000x32x1, .f32⟩
  | .hbm, ⟨88, _⟩ => ⟨S1x10000x32x1, .f32⟩
  | .hbm, ⟨89, _⟩ => ⟨S1x10000x32x1, .f32⟩
  | .hbm, ⟨90, _⟩ => ⟨S1x10000x32x128, .f32⟩
  | .hbm, ⟨91, _⟩ => ⟨S1x10000x32x128, .f32⟩
  | .hbm, ⟨92, _⟩ => ⟨S1x1x1x128, .f32⟩
  | .hbm, ⟨93, _⟩ => ⟨S1x10000x32x128, .f32⟩
  | .hbm, ⟨94, _⟩ => ⟨S1x10000x32x128, .f32⟩
  | .hbm, ⟨95, _⟩ => ⟨S1x1x1x128, .f32⟩
  | .hbm, ⟨96, _⟩ => ⟨S1x10000x32x128, .f32⟩
  | .hbm, ⟨97, _⟩ => ⟨S1x10000x32x128, .f32⟩
  | .hbm, ⟨98, _⟩ => ⟨S320000x128, .f32⟩
  | _, _ => ⟨S1x10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== FirstKernel.lean ====
abbrev S1x10000x128 : Shape := ⟨3, ![1, 10000, 128]⟩
abbrev S1x10000x32x128 : Shape := ⟨4, ![1, 10000, 32, 128]⟩
abbrev S1x10000x32 : Shape := ⟨3, ![1, 10000, 32]⟩
abbrev S1x10000 : Shape := ⟨2, ![1, 10000]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S10000x128 : Shape := ⟨2, ![10000, 128]⟩
abbrev S320000x128 : Shape := ⟨2, ![320000, 128]⟩
abbrev S1x320000 : Shape := ⟨2, ![1, 320000]⟩
abbrev S640x128 : Shape := ⟨2, ![640, 128]⟩
abbrev S384x128 : Shape := ⟨2, ![384, 128]⟩
abbrev S2000x128 : Shape := ⟨2, ![2000, 128]⟩
abbrev S_ : Shape := ⟨0, ![]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S1x512 : Shape := ⟨2, ![1, 512]⟩
abbrev S12800x128 : Shape := ⟨2, ![12800, 128]⟩
abbrev S400x128 : Shape := ⟨2, ![400, 128]⟩
abbrev S400x32x128 : Shape := ⟨3, ![400, 32, 128]⟩
abbrev S400x1x128 : Shape := ⟨3, ![400, 1, 128]⟩
abbrev S400 : Shape := ⟨1, ![400]⟩
abbrev S400x1 : Shape := ⟨2, ![400, 1]⟩
abbrev S400x512 : Shape := ⟨2, ![400, 512]⟩

abbrev nBuf : Table → Nat
  | .hbm => 57
  | .local .tc .vmem => 37
  | .shared => 1
  | .local .scVector .vmem => 2
  | _ => 0

abbrev bufTy : (tb : Table) → Fin (nBuf tb) → BufTy
  | .hbm, ⟨0, _⟩ => ⟨S1x10000x128, .f32⟩
  | .hbm, ⟨1, _⟩ => ⟨S1x10000x128, .f32⟩
  | .hbm, ⟨2, _⟩ => ⟨S1x10000x32x128, .f32⟩
  | .hbm, ⟨3, _⟩ => ⟨S1x10000x32, .i32⟩
  | .hbm, ⟨4, _⟩ => ⟨S1x10000, .f32⟩
  | .hbm, ⟨5, _⟩ => ⟨S1x10000x32, .f32⟩
  | .hbm, ⟨6, _⟩ => ⟨S128x640, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x384, .f32⟩
  | .hbm, ⟨13, _⟩ => ⟨S512x128, .f32⟩
  | .hbm, ⟨14, _⟩ => ⟨S512, .f32⟩
  | .hbm, ⟨15, _⟩ => ⟨S128x512, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S10000x128, .f32⟩
  | .hbm, ⟨22, _⟩ => ⟨S10000x128, .f32⟩
  | .hbm, ⟨23, _⟩ => ⟨S320000x128, .f32⟩
  | .hbm, ⟨24, _⟩ => ⟨S1x320000, .i32⟩
  | .hbm, ⟨25, _⟩ => ⟨S640x128, .f32⟩
  | .hbm, ⟨26, _⟩ => ⟨S384x128, .f32⟩
  | .hbm, ⟨27, _⟩ => ⟨S128x128, .f32⟩
  | .hbm, ⟨28, _⟩ => ⟨S128x128, .f32⟩
  | .hbm, ⟨29, _⟩ => ⟨S10000x128, .f32⟩
  | .hbm, ⟨30, _⟩ => ⟨S320000x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S128x128, .f32⟩
  | .hbm, ⟨43, _⟩ => ⟨S1x128, .f32⟩
  | .hbm, ⟨44, _⟩ => ⟨S128x512, .f32⟩
  | .hbm, ⟨45, _⟩ => ⟨S1x512, .f32⟩
  | .hbm, ⟨46, _⟩ => ⟨S512x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S10000x128, .f32⟩
  | .hbm, ⟨55, _⟩ => ⟨S10000x128, .f32⟩
  | .hbm, ⟨56, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S128x128, .f32⟩
  | .local .tc .vmem, ⟨5, _⟩ => ⟨S128x128, .f32⟩
  | .local .tc .vmem, ⟨6, _⟩ => ⟨S2000x128, .f32⟩
  | .local .tc .vmem, ⟨7, _⟩ => ⟨S2000x128, .f32⟩
  | .local .tc .vmem, ⟨8, _⟩ => ⟨S12800x128, .f32⟩
  | .local .tc .vmem, ⟨9, _⟩ => ⟨S12800x128, .f32⟩
  | .local .tc .vmem, ⟨10, _⟩ => ⟨S12800x128, .f32⟩
  | .local .tc .vmem, ⟨11, _⟩ => ⟨S12800x128, .f32⟩
  | .local .tc .vmem, ⟨12, _⟩ => ⟨S400x128, .f32⟩
  | .local .tc .vmem, ⟨13, _⟩ => ⟨S400x128, .f32⟩
  | .local .tc .vmem, ⟨14, _⟩ => ⟨S128x128, .f32⟩
  | .local .tc .vmem, ⟨15, _⟩ => ⟨S128x128, .f32⟩
  | .local .tc .vmem, ⟨16, _⟩ => ⟨S1x128, .f32⟩
  | .local .tc .vmem, ⟨17, _⟩ => ⟨S128x128, .bf16⟩
  | .local .tc .vmem, ⟨18, _⟩ => ⟨S1x128, .f32⟩
  | .local .tc .vmem, ⟨19, _⟩ => ⟨S128x128, .f32⟩
  | .local .tc .vmem, ⟨20, _⟩ => ⟨S1x128, .f32⟩
  | .local .tc .vmem, ⟨21, _⟩ => ⟨S128x512, .f32⟩
  | .local .tc .vmem, ⟨22, _⟩ => ⟨S1x512, .f32⟩
  | .local .tc .vmem, ⟨23, _⟩ => ⟨S512x128, .f32⟩
  | .local .tc .vmem, ⟨24, _⟩ => ⟨S1x128, .f32⟩
  | .local .tc .vmem, ⟨25, _⟩ => ⟨S1x128, .f32⟩
  | .local .tc .vmem, ⟨26, _⟩ => ⟨S1x128, .f32⟩
  | .local .tc .vmem, ⟨27, _⟩ => ⟨S1x128, .f32⟩
  | .local .tc .vmem, ⟨28, _⟩ => ⟨S1x128, .f32⟩
  | .local .tc .vmem, ⟨29, _⟩ => ⟨S128x128, .f32⟩
  | .local .tc .vmem, ⟨30, _⟩ => ⟨S128x128, .f32⟩
  | .local .tc .vmem, ⟨31, _⟩ => ⟨S400x128, .f32⟩
  | .local .tc .vmem, ⟨32, _⟩ => ⟨S400x128, .f32⟩
  | .local .tc .vmem, ⟨33, _⟩ => ⟨S400x128, .f32⟩
  | .local .tc .vmem, ⟨34, _⟩ => ⟨S400x128, .f32⟩
  | .local .tc .vmem, ⟨35, _⟩ => ⟨S400x128, .f32⟩
  | .local .tc .vmem, ⟨36, _⟩ => ⟨S400x128, .f32⟩
  | .shared, ⟨0, _⟩ => ⟨S10000x128, .f32⟩
  | .local .scVector .vmem, ⟨0, _⟩ => ⟨S2x1x128, .i32⟩
  | .local .scVector .vmem, ⟨1, _⟩ => ⟨S2x128x128, .f32⟩
  | _, _ => ⟨S1x10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 5 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev main_v32_2 : Ref sig .tc := ⟨.hbm, 56, rfl⟩
abbrev main_v8_scv : Ref sig .scVector := ⟨.hbm, 29, rfl⟩
abbrev main_v3_scv : Ref sig .scVector := ⟨.hbm, 24, rfl⟩
abbrev main_v9_scv : Ref sig .scVector := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg10_0 : Ref sig .tc := ⟨.vmem, 21, rfl⟩
abbrev cc2_stg11_0 : Ref sig .tc := ⟨.vmem, 22, rfl⟩
abbrev cc2_stg12_0 : Ref sig .tc := ⟨.vmem, 23, rfl⟩
abbrev cc2_stg13_0 : Ref sig .tc := ⟨.vmem, 24, rfl⟩
abbrev cc2_stg14_0 : Ref sig .tc := ⟨.vmem, 25, rfl⟩
abbrev cc2_stg15_0 : Ref sig .tc := ⟨.vmem, 26, rfl⟩
abbrev cc2_stg16_0 : Ref sig .tc := ⟨.vmem, 27, rfl⟩
abbrev cc2_stg17_0 : Ref sig .tc := ⟨.vmem, 28, rfl⟩
abbrev cc2_stg18_0 : Ref sig .tc := ⟨.vmem, 29, rfl⟩
abbrev cc2_stg19_0 : Ref sig .tc := ⟨.vmem, 30, rfl⟩
abbrev cc2_stg20_0 : Ref sig .tc := ⟨.vmem, 31, rfl⟩
abbrev cc2_stg20_1 : Ref sig .tc := ⟨.vmem, 32, rfl⟩
abbrev cc2_stg21_0 : Ref sig .tc := ⟨.vmem, 33, rfl⟩
abbrev cc2_stg21_1 : Ref sig .tc := ⟨.vmem, 34, rfl⟩
abbrev cc2_stg22_0 : Ref sig .tc := ⟨.vmem, 35, rfl⟩
abbrev cc2_stg22_1 : Ref sig .tc := ⟨.vmem, 36, rfl⟩
abbrev cc1_scratch0 : Ref sig .scVector := ⟨.shared, 0, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35
abbrev cc2_sem18_0 : DmaSem sig := 36
abbrev cc2_sem19_0 : DmaSem sig := 37
abbrev cc2_sem20_0 : DmaSem sig := 38
abbrev cc2_sem20_1 : DmaSem sig := 39
abbrev cc2_sem21_0 : DmaSem sig := 40
abbrev cc2_sem21_1 : DmaSem sig := 41
abbrev cc2_sem22_0 : DmaSem sig := 42
abbrev cc2_sem22_1 : DmaSem sig := 43
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_cond2 (i : grid1.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let c0_i32_7_r0 : BitVec 32 := 0#32
  let v17_r0 : BitVec 1 := Scalar.cmpi .sgt v14 c0_i32_7_r0
  let v18_r0 : BitVec 32 := Scalar.extui v17_r0
  let c0_i32_8_r0 : BitVec 32 := 0#32
  let v19_r0 : BitVec 1 := Scalar.cmpi .ne v18_r0 c0_i32_8_r0
  v19_r0

def k1_cond3 (i : grid1.Coords) : BitVec 1 :=
  let true_24_r0 : BitVec 1 := 1#1
  let c1_i32_9_r0 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v20_r0 : BitVec 32 := Scalar.muli c1_i32_9_r0 v8
  let c0_i32_23_r0 : BitVec 32 := 0#32
  let v38_r0 : BitVec 1 := Scalar.cmpi .sgt v20_r0 c0_i32_23_r0
  let v39_r0 : BitVec 1 := Scalar.andi true_24_r0 v38_r0
  let true_25_r0 : BitVec 1 := 1#1
  let v40_r0 : BitVec 1 := Scalar.andi v39_r0 true_25_r0
  let v41_r0 : BitVec 32 := Scalar.extui v40_r0
  let c0_i32_27_r0 : BitVec 32 := 0#32
  let v42_r0 : BitVec 1 := Scalar.cmpi .ne v41_r0 c0_i32_27_r0
  v42_r0

def k1_off1 : Fin 3 → Nat :=
  let c0_i32_26_r0 : BitVec 32 := 0#32
  let c2_i32_r0 : BitVec 32 := 2#32
  let v83_r0 : BitVec 32 := Scalar.remui c0_i32_26_r0 c2_i32_r0
  let c0_i32_59_r0 : BitVec 32 := 0#32
  let c0_i32_60_r0 : BitVec 32 := 0#32
  ![v83_r0.toNat, 0, 0]
def k1_off2 (i : grid1.Coords) : Fin 2 → Nat :=
  let c0_i32_61_r0 : BitVec 32 := 0#32
  let c128_i32_r0 : BitVec 32 := 128#32
  let c0_i32_12_r0 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v23_r0 : BitVec 32 := Scalar.addi c0_i32_12_r0 v13
  let v84_r0 : BitVec 32 := Scalar.muli c128_i32_r0 v23_r0
  ![0, v84_r0.toNat]
def k1_off3 : Fin 1 → Nat :=
  let c0_i32_26_r0 : BitVec 32 := 0#32
  let c2_i32_r0 : BitVec 32 := 2#32
  let v83_r0 : BitVec 32 := Scalar.remui c0_i32_26_r0 c2_i32_r0
  ![v83_r0.toNat]
@[reducible] def k1_t1_loop (i : grid1.Coords) : Scf.Loop 32 :=
  let c0_i32_31_r0 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_37_r0 : BitVec 32 := 1#32
  ⟨c0_i32_31_r0, v49_r0, c1_i32_37_r0⟩
def k1_off4 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k1_cond4 (i : grid1.Coords) (k1_t1 : Fin (k1_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v104_r0 : BitVec 1 := Scalar.cmpi .ne v87_r0 v98_r0
  let c0_i32_31_r0 : BitVec 32 := 0#32
  let c1_i32_37_r0 : BitVec 32 := 1#32
  let arg7_r0 : BitVec 32 := Scf.iv c0_i32_31_r0 c1_i32_37_r0 k1_t1
  let c1_i32_59_r0 : BitVec 32 := 1#32
  let v83_r0 : BitVec 32 := Scalar.muli c1_i32_59_r0 v8
  let c2_i32_r0 : BitVec 32 := 2#32
  let v105_r0 : BitVec 32 := Scalar.subi v83_r0 c2_i32_r0
  let c1_i32_72_r0 : BitVec 32 := 1#32
  let v106_r0 : BitVec 32 := Scalar.addi v105_r0 c1_i32_72_r0
  let v107_r0 : BitVec 1 := Scalar.cmpi .sge arg7_r0 v106_r0
  let true_73_r0 : BitVec 1 := 1#1
  let v108_r0 : BitVec 1 := Scalar.xori v107_r0 true_73_r0
  let v109_r0 : BitVec 1 := Scalar.andi v104_r0 v108_r0
  let true_74_r0 : BitVec 1 := 1#1
  let v110_r0 : BitVec 1 := Scalar.andi v109_r0 true_74_r0
  let v111_r0 : BitVec 32 := Scalar.extui v110_r0
  let c0_i32_75_r0 : BitVec 32 := 0#32
  let v112_r0 : BitVec 1 := Scalar.cmpi .ne v111_r0 c0_i32_75_r0
  v112_r0

def k1_off5 (i : grid1.Coords) (arg12_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v96_r0 : BitVec 1 := Scalar.cmpi .eq v95_r0 v8
  let c0_i32_68_r0 : BitVec 32 := 0#32
  let v97_r0 : BitVec 32 := Scalar.select v96_r0 c0_i32_68_r0 v95_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v98_r0 : BitVec 32 := Scalar.addi v97_r0 v13
  let v171_r0 : BitVec 32 := Scalar.muli c128_i32_r0 v98_r0
  ![0, v171_r0.toNat]
def k1_off6 (arg8_r0 : BitVec 32) : Fin 1 → Nat :=
  let c2_i32_103_r0 : BitVec 32 := 2#32
  let v170_r0 : BitVec 32 := Scalar.remui arg8_r0 c2_i32_103_r0
  ![v170_r0.toNat]
def k1_off7 (arg9_r0 : BitVec 32) : Fin 3 → Nat :=
  let c2_i32_103_r0 : BitVec 32 := 2#32
  let v171_r0 : BitVec 32 := Scalar.remui arg9_r0 c2_i32_103_r0
  let c0_i32_104_r0 : BitVec 32 := 0#32
  let c0_i32_105_r0 : BitVec 32 := 0#32
  ![v171_r0.toNat, 0, 0]
def k1_cond5 (i : grid1.Coords) (k1_t1 : Fin (k1_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v122_r0 : BitVec 1 := Scalar.cmpi .ne v87_r0 v93_r0
  let c0_i32_31_r0 : BitVec 32 := 0#32
  let c1_i32_37_r0 : BitVec 32 := 1#32
  let arg7_r0 : BitVec 32 := Scf.iv c0_i32_31_r0 c1_i32_37_r0 k1_t1
  let c0_i32_60_r0 : BitVec 32 := 0#32
  let v84_r0 : BitVec 1 := Scalar.cmpi .eq arg7_r0 c0_i32_60_r0
  let v123_r0 : BitVec 1 := Scalar.ori v122_r0 v84_r0
  let c0_i32_81_r0 : BitVec 32 := 0#32
  let v124_r0 : BitVec 1 := Scalar.cmpi .sge arg7_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k1_off8 (i : grid1.Coords) (arg12_r0 : BitVec 32) : Fin 2 → Nat :=
  let c0_i32_106_r0 : BitVec 32 := 0#32
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v170_r0 : BitVec 32 := Scalar.muli c128_i32_r0 v87_r0
  ![0, v170_r0.toNat]
def k1_off9 (arg9_r0 : BitVec 32) : Fin 1 → Nat :=
  let c2_i32_103_r0 : BitVec 32 := 2#32
  let v171_r0 : BitVec 32 := Scalar.remui arg9_r0 c2_i32_103_r0
  ![v171_r0.toNat]
def k1_off10 (arg10_r0 : BitVec 32) : Fin 3 → Nat :=
  let c2_i32_86_r0 : BitVec 32 := 2#32
  let v135_r0 : BitVec 32 := Scalar.remui arg10_r0 c2_i32_86_r0
  let c0_i32_103_r1 : BitVec 32 := 0#32
  let c0_i32_104_r1 : BitVec 32 := 0#32
  ![v135_r0.toNat, 0, 0]

def k1_chk2 (i : grid1.Coords) (arg10_r0 : BitVec 32) : Prop :=
  (∀ (k1_h2 : k1_cond2 i = 1#1), ∀ a, (k1_off10 arg10_r0) a + S1x128x128.size a ≤ S2x128x128.size a)
theorem k1_off10_inb : ∀ (i : grid1.Coords) (arg10_r0 : BitVec 32) (k1_hw2 : k1_chk2 i arg10_r0), ∀ (k1_h2 : k1_cond2 i = 1#1), ∀ a, (k1_off10 arg10_r0) a + S1x128x128.size a ≤ S2x128x128.size a := fun i arg10_r0 k1_hw2 k1_h2 => k1_hw2 k1_h2

def k1_off11 (arg9_r0 : BitVec 32) : Fin 3 → Nat :=
  let c2_i32_85_r0 : BitVec 32 := 2#32
  let v134_r0 : BitVec 32 := Scalar.remui arg9_r0 c2_i32_85_r0
  let c0_i32_105_r1 : BitVec 32 := 0#32
  let c0_i32_106_r1 : BitVec 32 := 0#32
  ![v134_r0.toNat, 0, 0]

def k1_chk3 (i : grid1.Coords) (arg9_r0 : BitVec 32) : Prop :=
  (∀ (k1_h2 : k1_cond2 i = 1#1), ∀ a, (k1_off11 arg9_r0) a + S1x1x128.size a ≤ S2x1x128.size a)
theorem k1_off11_inb : ∀ (i : grid1.Coords) (arg9_r0 : BitVec 32) (k1_hw3 : k1_chk3 i arg9_r0), ∀ (k1_h2 : k1_cond2 i = 1#1), ∀ a, (k1_off11 arg9_r0) a + S1x1x128.size a ≤ S2x1x128.size a := fun i arg9_r0 k1_hw3 k1_h2 => k1_hw3 k1_h2

def k1_off12 (arg10_r0 : BitVec 32) : Fin 3 → Nat :=
  let c2_i32_103_r0 : BitVec 32 := 2#32
  let v170_r0 : BitVec 32 := Scalar.remui arg10_r0 c2_i32_103_r0
  let c0_i32_104_r0 : BitVec 32 := 0#32
  let c0_i32_105_r0 : BitVec 32 := 0#32
  ![v170_r0.toNat, 0, 0]
def k1_cond8 (i : grid1.Coords) (k1_t1 : Fin (k1_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v141_r0 : BitVec 1 := Scalar.cmpi .ne v87_r0 v98_r0
  let c0_i32_31_r0 : BitVec 32 := 0#32
  let c1_i32_37_r0 : BitVec 32 := 1#32
  let arg7_r0 : BitVec 32 := Scf.iv c0_i32_31_r0 c1_i32_37_r0 k1_t1
  let c1_i32_59_r0 : BitVec 32 := 1#32
  let v83_r0 : BitVec 32 := Scalar.muli c1_i32_59_r0 v8
  let c1_i32_61_r0 : BitVec 32 := 1#32
  let v85_r0 : BitVec 32 := Scalar.subi v83_r0 c1_i32_61_r0
  let v86_r0 : BitVec 1 := Scalar.cmpi .eq arg7_r0 v85_r0
  let v142_r0 : BitVec 1 := Scalar.ori v141_r0 v86_r0
  let v143_r0 : BitVec 32 := Scalar.extui v142_r0
  let c0_i32_89_r0 : BitVec 32 := 0#32
  let v144_r0 : BitVec 1 := Scalar.cmpi .ne v143_r0 c0_i32_89_r0
  v144_r0

def k1_off13 (i : grid1.Coords) (arg12_r0 : BitVec 32) : Fin 2 → Nat :=
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v171_r0 : BitVec 32 := Scalar.muli c128_i32_r0 v87_r0
  let c0_i32_106_r0 : BitVec 32 := 0#32
  ![v171_r0.toNat, 0]
def k1_off14 (arg10_r0 : BitVec 32) : Fin 1 → Nat :=
  let c2_i32_103_r0 : BitVec 32 := 2#32
  let v170_r0 : BitVec 32 := Scalar.remui arg10_r0 c2_i32_103_r0
  ![v170_r0.toNat]
def k1_off15 (arg11_r0 : BitVec 32) : Fin 3 → Nat :=
  let c2_i32_103_r0 : BitVec 32 := 2#32
  let v170_r0 : BitVec 32 := Scalar.remui arg11_r0 c2_i32_103_r0
  let c0_i32_104_r0 : BitVec 32 := 0#32
  let c0_i32_105_r0 : BitVec 32 := 0#32
  ![v170_r0.toNat, 0, 0]
def k1_cond10 (i : grid1.Coords) (k1_t1 : Fin (k1_t1_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v154_r0 : BitVec 1 := Scalar.cmpi .ne v87_r0 v93_r0
  let c0_i32_31_r0 : BitVec 32 := 0#32
  let c1_i32_37_r0 : BitVec 32 := 1#32
  let arg7_r0 : BitVec 32 := Scf.iv c0_i32_31_r0 c1_i32_37_r0 k1_t1
  let c0_i32_60_r0 : BitVec 32 := 0#32
  let v84_r0 : BitVec 1 := Scalar.cmpi .eq arg7_r0 c0_i32_60_r0
  let true_95_r0 : BitVec 1 := 1#1
  let v155_r0 : BitVec 1 := Scalar.xori v84_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k1_off16 (i : grid1.Coords) (arg12_r0 : BitVec 32) : Fin 2 → Nat :=
  let c128_i32_r0 : BitVec 32 := 128#32
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_65_r0 : BitVec 32 := 1#32
  let v91_r0 : BitVec 32 := Scalar.subi v8 c1_i32_65_r0
  let v92_r0 : BitVec 32 := Scalar.select v90_r0 v91_r0 v89_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v93_r0 : BitVec 32 := Scalar.addi v92_r0 v13
  let v171_r0 : BitVec 32 := Scalar.muli c128_i32_r0 v93_r0
  let c0_i32_106_r0 : BitVec 32 := 0#32
  ![v171_r0.toNat, 0]
def k1_off17 (arg11_r0 : BitVec 32) : Fin 1 → Nat :=
  let c2_i32_103_r0 : BitVec 32 := 2#32
  let v170_r0 : BitVec 32 := Scalar.remui arg11_r0 c2_i32_103_r0
  ![v170_r0.toNat]

def k1_chk1 (i : grid1.Coords) (k1_t1 : Fin (k1_t1_loop i).trips) (arg8_r0 : BitVec 32) (arg9_r0 : BitVec 32) (arg10_r0 : BitVec 32) (arg11_r0 : BitVec 32) (arg12_r0 : BitVec 32) : Prop :=
  (∀ (k1_h2 : k1_cond2 i = 1#1), ∀ (k1_h4 : k1_cond4 i k1_t1 arg12_r0 = 1#1), ∀ a, (k1_off4 arg8_r0) a + S1x1x128.size a ≤ S2x1x128.size a) ∧
  (∀ (k1_h2 : k1_cond2 i = 1#1), ∀ (k1_h4 : k1_cond4 i k1_t1 arg12_r0 = 1#1), ∀ a, (k1_off5 i arg12_r0) a + S1x128.size a ≤ S1x320000.size a) ∧
  (∀ (k1_h2 : k1_cond2 i = 1#1), ∀ (k1_h4 : k1_cond4 i k1_t1 arg12_r0 = 1#1), ∀ a, (k1_off6 arg8_r0) a + S1.size a ≤ S2.size a) ∧
  (∀ (k1_h2 : k1_cond2 i = 1#1), ∀ (k1_h5 : k1_cond5 i k1_t1 arg12_r0 = 1#1), ∀ a, (k1_off7 arg9_r0) a + S1x1x128.size a ≤ S2x1x128.size a) ∧
  (∀ (k1_h2 : k1_cond2 i = 1#1), ∀ (k1_h5 : k1_cond5 i k1_t1 arg12_r0 = 1#1), ∀ a, (k1_off8 i arg12_r0) a + S1x128.size a ≤ S1x320000.size a) ∧
  (∀ (k1_h2 : k1_cond2 i = 1#1), ∀ (k1_h5 : k1_cond5 i k1_t1 arg12_r0 = 1#1), ∀ a, (k1_off9 arg9_r0) a + S1.size a ≤ S2.size a) ∧
  (∀ (k1_h2 : k1_cond2 i = 1#1), ∀ (k1_h8 : k1_cond8 i k1_t1 arg12_r0 = 1#1), ∀ a, (k1_off12 arg10_r0) a + S1x128x128.size a ≤ S2x128x128.size a) ∧
  (∀ (k1_h2 : k1_cond2 i = 1#1), ∀ (k1_h8 : k1_cond8 i k1_t1 arg12_r0 = 1#1), ∀ a, (k1_off13 i arg12_r0) a + S128x128.size a ≤ S320000x128.size a) ∧
  (∀ (k1_h2 : k1_cond2 i = 1#1), ∀ (k1_h8 : k1_cond8 i k1_t1 arg12_r0 = 1#1), ∀ a, (k1_off14 arg10_r0) a + S1.size a ≤ S2.size a) ∧
  (∀ (k1_h2 : k1_cond2 i = 1#1), ∀ (k1_h10 : k1_cond10 i k1_t1 arg12_r0 = 1#1), ∀ a, (k1_off15 arg11_r0) a + S1x128x128.size a ≤ S2x128x128.size a) ∧
  (∀ (k1_h2 : k1_cond2 i = 1#1), ∀ (k1_h10 : k1_cond10 i k1_t1 arg12_r0 = 1#1), ∀ a, (k1_off16 i arg12_r0) a + S128x128.size a ≤ S320000x128.size a) ∧
  (∀ (k1_h2 : k1_cond2 i = 1#1), ∀ (k1_h10 : k1_cond10 i k1_t1 arg12_r0 = 1#1), ∀ a, (k1_off17 arg11_r0) a + S1.size a ≤ S2.size a)
theorem k1_off4_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h4 : k1_cond4 i k1_t1 arg12_r0 = 1#1), ∀ a, (k1_off4 arg8_r0) a + S1x1x128.size a ≤ S2x1x128.size a := fun i k1_t1 arg8_r0 arg9_r0 arg10_r0 arg11_r0 arg12_r0 k1_hw1 k1_h2 k1_h4 => k1_hw1.1 k1_h2 k1_h4
theorem k1_off5_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h4 : k1_cond4 i k1_t1 arg12_r0 = 1#1), ∀ a, (k1_off5 i arg12_r0) a + S1x128.size a ≤ S1x320000.size a := fun i k1_t1 arg8_r0 arg9_r0 arg10_r0 arg11_r0 arg12_r0 k1_hw1 k1_h2 k1_h4 => k1_hw1.2.1 k1_h2 k1_h4
theorem k1_off6_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h4 : k1_cond4 i k1_t1 arg12_r0 = 1#1), ∀ a, (k1_off6 arg8_r0) a + S1.size a ≤ S2.size a := fun i k1_t1 arg8_r0 arg9_r0 arg10_r0 arg11_r0 arg12_r0 k1_hw1 k1_h2 k1_h4 => k1_hw1.2.2.1 k1_h2 k1_h4
theorem k1_off7_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h5 : k1_cond5 i k1_t1 arg12_r0 = 1#1), ∀ a, (k1_off7 arg9_r0) a + S1x1x128.size a ≤ S2x1x128.size a := fun i k1_t1 arg8_r0 arg9_r0 arg10_r0 arg11_r0 arg12_r0 k1_hw1 k1_h2 k1_h5 => k1_hw1.2.2.2.1 k1_h2 k1_h5
theorem k1_off8_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h5 : k1_cond5 i k1_t1 arg12_r0 = 1#1), ∀ a, (k1_off8 i arg12_r0) a + S1x128.size a ≤ S1x320000.size a := fun i k1_t1 arg8_r0 arg9_r0 arg10_r0 arg11_r0 arg12_r0 k1_hw1 k1_h2 k1_h5 => k1_hw1.2.2.2.2.1 k1_h2 k1_h5
theorem k1_off9_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h5 : k1_cond5 i k1_t1 arg12_r0 = 1#1), ∀ a, (k1_off9 arg9_r0) a + S1.size a ≤ S2.size a := fun i k1_t1 arg8_r0 arg9_r0 arg10_r0 arg11_r0 arg12_r0 k1_hw1 k1_h2 k1_h5 => k1_hw1.2.2.2.2.2.1 k1_h2 k1_h5
theorem k1_off12_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h8 : k1_cond8 i k1_t1 arg12_r0 = 1#1), ∀ a, (k1_off12 arg10_r0) a + S1x128x128.size a ≤ S2x128x128.size a := fun i k1_t1 arg8_r0 arg9_r0 arg10_r0 arg11_r0 arg12_r0 k1_hw1 k1_h2 k1_h8 => k1_hw1.2.2.2.2.2.2.1 k1_h2 k1_h8
theorem k1_off13_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h8 : k1_cond8 i k1_t1 arg12_r0 = 1#1), ∀ a, (k1_off13 i arg12_r0) a + S128x128.size a ≤ S320000x128.size a := fun i k1_t1 arg8_r0 arg9_r0 arg10_r0 arg11_r0 arg12_r0 k1_hw1 k1_h2 k1_h8 => k1_hw1.2.2.2.2.2.2.2.1 k1_h2 k1_h8
theorem k1_off14_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h8 : k1_cond8 i k1_t1 arg12_r0 = 1#1), ∀ a, (k1_off14 arg10_r0) a + S1.size a ≤ S2.size a := fun i k1_t1 arg8_r0 arg9_r0 arg10_r0 arg11_r0 arg12_r0 k1_hw1 k1_h2 k1_h8 => k1_hw1.2.2.2.2.2.2.2.2.1 k1_h2 k1_h8
theorem k1_off15_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h10 : k1_cond10 i k1_t1 arg12_r0 = 1#1), ∀ a, (k1_off15 arg11_r0) a + S1x128x128.size a ≤ S2x128x128.size a := fun i k1_t1 arg8_r0 arg9_r0 arg10_r0 arg11_r0 arg12_r0 k1_hw1 k1_h2 k1_h10 => k1_hw1.2.2.2.2.2.2.2.2.2.1 k1_h2 k1_h10
theorem k1_off16_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h10 : k1_cond10 i k1_t1 arg12_r0 = 1#1), ∀ a, (k1_off16 i arg12_r0) a + S128x128.size a ≤ S320000x128.size a := fun i k1_t1 arg8_r0 arg9_r0 arg10_r0 arg11_r0 arg12_r0 k1_hw1 k1_h2 k1_h10 => k1_hw1.2.2.2.2.2.2.2.2.2.2.1 k1_h2 k1_h10
theorem k1_off17_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (k1_hw1 : k1_chk1 i k1_t1 arg8_r0 arg9_r0 arg10_r0 arg11_r0 arg12_r0), ∀ (k1_h2 : k1_cond2 i = 1#1), ∀ (k1_h10 : k1_cond10 i k1_t1 arg12_r0 = 1#1), ∀ a, (k1_off17 arg11_r0) a + S1.size a ≤ S2.size a := fun i k1_t1 arg8_r0 arg9_r0 arg10_r0 arg11_r0 arg12_r0 k1_hw1 k1_h2 k1_h10 => k1_hw1.2.2.2.2.2.2.2.2.2.2.2 k1_h2 k1_h10

@[reducible] def k1_t2_loop (i : grid1.Coords) : Scf.Loop 32 :=
  let c0_i32_31_r0 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let v46_r0 : BitVec 32 := Scalar.addi c0_i32_31_r0 v45_r0
  let c1_i32_38_r0 : BitVec 32 := 1#32
  ⟨v49_r0, v46_r0, c1_i32_38_r0⟩
def k1_off18 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k1_cond11 (i : grid1.Coords) (k1_t2 : Fin (k1_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v104_r0 : BitVec 1 := Scalar.cmpi .ne v87_r0 v98_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k1_t2
  let c1_i32_59_r0 : BitVec 32 := 1#32
  let v83_r0 : BitVec 32 := Scalar.muli c1_i32_59_r0 v8
  let c2_i32_r0 : BitVec 32 := 2#32
  let v105_r0 : BitVec 32 := Scalar.subi v83_r0 c2_i32_r0
  let c1_i32_72_r0 : BitVec 32 := 1#32
  let v106_r0 : BitVec 32 := Scalar.addi v105_r0 c1_i32_72_r0
  let v107_r0 : BitVec 1 := Scalar.cmpi .sge arg7_r0 v106_r0
  let true_73_r0 : BitVec 1 := 1#1
  let v108_r0 : BitVec 1 := Scalar.xori v107_r0 true_73_r0
  let v109_r0 : BitVec 1 := Scalar.andi v104_r0 v108_r0
  let true_74_r0 : BitVec 1 := 1#1
  let v110_r0 : BitVec 1 := Scalar.andi v109_r0 true_74_r0
  let v111_r0 : BitVec 32 := Scalar.extui v110_r0
  let c0_i32_75_r0 : BitVec 32 := 0#32
  let v112_r0 : BitVec 1 := Scalar.cmpi .ne v111_r0 c0_i32_75_r0
  v112_r0

def k1_off19 (i : grid1.Coords) (arg12_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v96_r0 : BitVec 1 := Scalar.cmpi .eq v95_r0 v8
  let c0_i32_68_r0 : BitVec 32 := 0#32
  let v97_r0 : BitVec 32 := Scalar.select v96_r0 c0_i32_68_r0 v95_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v98_r0 : BitVec 32 := Scalar.addi v97_r0 v13
  let v171_r0 : BitVec 32 := Scalar.muli c128_i32_r0 v98_r0
  ![0, v171_r0.toNat]
def k1_off20 (arg8_r0 : BitVec 32) : Fin 1 → Nat :=
  let c2_i32_103_r0 : BitVec 32 := 2#32
  let v170_r0 : BitVec 32 := Scalar.remui arg8_r0 c2_i32_103_r0
  ![v170_r0.toNat]
def k1_off21 (arg9_r0 : BitVec 32) : Fin 3 → Nat :=
  let c2_i32_103_r0 : BitVec 32 := 2#32
  let v171_r0 : BitVec 32 := Scalar.remui arg9_r0 c2_i32_103_r0
  let c0_i32_104_r0 : BitVec 32 := 0#32
  let c0_i32_105_r0 : BitVec 32 := 0#32
  ![v171_r0.toNat, 0, 0]
def k1_cond12 (i : grid1.Coords) (k1_t2 : Fin (k1_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v122_r0 : BitVec 1 := Scalar.cmpi .ne v87_r0 v93_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k1_t2
  let c0_i32_60_r0 : BitVec 32 := 0#32
  let v84_r0 : BitVec 1 := Scalar.cmpi .eq arg7_r0 c0_i32_60_r0
  let v123_r0 : BitVec 1 := Scalar.ori v122_r0 v84_r0
  let c0_i32_81_r0 : BitVec 32 := 0#32
  let v124_r0 : BitVec 1 := Scalar.cmpi .sge arg7_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k1_off22 (i : grid1.Coords) (arg12_r0 : BitVec 32) : Fin 2 → Nat :=
  let c0_i32_106_r0 : BitVec 32 := 0#32
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v170_r0 : BitVec 32 := Scalar.muli c128_i32_r0 v87_r0
  ![0, v170_r0.toNat]
def k1_off23 (arg9_r0 : BitVec 32) : Fin 1 → Nat :=
  let c2_i32_103_r0 : BitVec 32 := 2#32
  let v171_r0 : BitVec 32 := Scalar.remui arg9_r0 c2_i32_103_r0
  ![v171_r0.toNat]
def k1_off24 (arg10_r0 : BitVec 32) : Fin 3 → Nat :=
  let c2_i32_86_r0 : BitVec 32 := 2#32
  let v135_r0 : BitVec 32 := Scalar.remui arg10_r0 c2_i32_86_r0
  let c0_i32_103_r2 : BitVec 32 := 0#32
  let c0_i32_104_r2 : BitVec 32 := 0#32
  ![v135_r0.toNat, 0, 0]

def k1_chk5 (i : grid1.Coords) (k1_t2 : Fin (k1_t2_loop i).trips) (arg10_r0 : BitVec 32) : Prop :=
  (∀ (k1_h2 : k1_cond2 i = 1#1), ∀ a, (k1_off24 arg10_r0) a + S1x128x128.size a ≤ S2x128x128.size a)
theorem k1_off24_inb : ∀ (i : grid1.Coords) (k1_t2 : Fin (k1_t2_loop i).trips) (arg10_r0 : BitVec 32) (k1_hw5 : k1_chk5 i k1_t2 arg10_r0), ∀ (k1_h2 : k1_cond2 i = 1#1), ∀ a, (k1_off24 arg10_r0) a + S1x128x128.size a ≤ S2x128x128.size a := fun i k1_t2 arg10_r0 k1_hw5 k1_h2 => k1_hw5 k1_h2

def k1_off25 (arg9_r0 : BitVec 32) : Fin 3 → Nat :=
  let c2_i32_85_r0 : BitVec 32 := 2#32
  let v134_r0 : BitVec 32 := Scalar.remui arg9_r0 c2_i32_85_r0
  let c0_i32_105_r2 : BitVec 32 := 0#32
  let c0_i32_106_r2 : BitVec 32 := 0#32
  ![v134_r0.toNat, 0, 0]

def k1_chk6 (i : grid1.Coords) (k1_t2 : Fin (k1_t2_loop i).trips) (arg9_r0 : BitVec 32) : Prop :=
  (∀ (k1_h2 : k1_cond2 i = 1#1), ∀ a, (k1_off25 arg9_r0) a + S1x1x128.size a ≤ S2x1x128.size a)
theorem k1_off25_inb : ∀ (i : grid1.Coords) (k1_t2 : Fin (k1_t2_loop i).trips) (arg9_r0 : BitVec 32) (k1_hw6 : k1_chk6 i k1_t2 arg9_r0), ∀ (k1_h2 : k1_cond2 i = 1#1), ∀ a, (k1_off25 arg9_r0) a + S1x1x128.size a ≤ S2x1x128.size a := fun i k1_t2 arg9_r0 k1_hw6 k1_h2 => k1_hw6 k1_h2

def k1_off26 (arg10_r0 : BitVec 32) : Fin 3 → Nat :=
  let c2_i32_103_r0 : BitVec 32 := 2#32
  let v170_r0 : BitVec 32 := Scalar.remui arg10_r0 c2_i32_103_r0
  let c0_i32_104_r0 : BitVec 32 := 0#32
  let c0_i32_105_r0 : BitVec 32 := 0#32
  ![v170_r0.toNat, 0, 0]
def k1_cond15 (i : grid1.Coords) (k1_t2 : Fin (k1_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_67_r0 : BitVec 1 := 1#1
  let c1_i32_66_r0 : BitVec 32 := 1#32
  let v94_r0 : BitVec 32 := Scalar.addi arg12_r0 c1_i32_66_r0
  let v95_r0 : BitVec 32 := Scalar.select true_67_r0 v94_r0 arg12_r0
  let v96_r0 : BitVec 1 := Scalar.cmpi .eq v95_r0 v8
  let c0_i32_68_r0 : BitVec 32 := 0#32
  let v97_r0 : BitVec 32 := Scalar.select v96_r0 c0_i32_68_r0 v95_r0
  let v98_r0 : BitVec 32 := Scalar.addi v97_r0 v13
  let v141_r0 : BitVec 1 := Scalar.cmpi .ne v87_r0 v98_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k1_t2
  let c1_i32_59_r0 : BitVec 32 := 1#32
  let v83_r0 : BitVec 32 := Scalar.muli c1_i32_59_r0 v8
  let c1_i32_61_r0 : BitVec 32 := 1#32
  let v85_r0 : BitVec 32 := Scalar.subi v83_r0 c1_i32_61_r0
  let v86_r0 : BitVec 1 := Scalar.cmpi .eq arg7_r0 v85_r0
  let v142_r0 : BitVec 1 := Scalar.ori v141_r0 v86_r0
  let v143_r0 : BitVec 32 := Scalar.extui v142_r0
  let c0_i32_89_r0 : BitVec 32 := 0#32
  let v144_r0 : BitVec 1 := Scalar.cmpi .ne v143_r0 c0_i32_89_r0
  v144_r0

def k1_off27 (i : grid1.Coords) (arg12_r0 : BitVec 32) : Fin 2 → Nat :=
  let c128_i32_r0 : BitVec 32 := 128#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let v171_r0 : BitVec 32 := Scalar.muli c128_i32_r0 v87_r0
  let c0_i32_106_r0 : BitVec 32 := 0#32
  ![v171_r0.toNat, 0]
def k1_off28 (arg10_r0 : BitVec 32) : Fin 1 → Nat :=
  let c2_i32_103_r0 : BitVec 32 := 2#32
  let v170_r0 : BitVec 32 := Scalar.remui arg10_r0 c2_i32_103_r0
  ![v170_r0.toNat]
def k1_off29 (arg11_r0 : BitVec 32) : Fin 3 → Nat :=
  let c2_i32_103_r0 : BitVec 32 := 2#32
  let v170_r0 : BitVec 32 := Scalar.remui arg11_r0 c2_i32_103_r0
  let c0_i32_104_r0 : BitVec 32 := 0#32
  let c0_i32_105_r0 : BitVec 32 := 0#32
  ![v170_r0.toNat, 0, 0]
def k1_cond17 (i : grid1.Coords) (k1_t2 : Fin (k1_t2_loop i).trips) (arg12_r0 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32_2 : BitVec 32 := 4#32
  let v9 : BitVec 1 := Scalar.cmpi .slt v6 c4_i32_2
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v87_r0 : BitVec 32 := Scalar.addi arg12_r0 v13
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c1_i32_65_r0 : BitVec 32 := 1#32
  let v91_r0 : BitVec 32 := Scalar.subi v8 c1_i32_65_r0
  let v92_r0 : BitVec 32 := Scalar.select v90_r0 v91_r0 v89_r0
  let v93_r0 : BitVec 32 := Scalar.addi v92_r0 v13
  let v154_r0 : BitVec 1 := Scalar.cmpi .ne v87_r0 v93_r0
  let c0_i32_31_r0 : BitVec 32 := 0#32
  let c1_i32_5 : BitVec 32 := 1#32
  let v14 : BitVec 32 := Scalar.muli c1_i32_5 v8
  let v45_r0 : BitVec 32 := Scalar.subi v14 c0_i32_31_r0
  let c1_i32_36_r0 : BitVec 32 := 1#32
  let v47_r0 : BitVec 32 := Scalar.divsi v45_r0 c1_i32_36_r0
  let v48_r0 : BitVec 32 := Scalar.muli v47_r0 c1_i32_36_r0
  let v49_r0 : BitVec 32 := Scalar.addi c0_i32_31_r0 v48_r0
  let c1_i32_38_r0 : BitVec 32 := 1#32
  let arg7_r0 : BitVec 32 := Scf.iv v49_r0 c1_i32_38_r0 k1_t2
  let c0_i32_60_r0 : BitVec 32 := 0#32
  let v84_r0 : BitVec 1 := Scalar.cmpi .eq arg7_r0 c0_i32_60_r0
  let true_95_r0 : BitVec 1 := 1#1
  let v155_r0 : BitVec 1 := Scalar.xori v84_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k1_off30 (i : grid1.Coords) (arg12_r0 : BitVec 32) : Fin 2 → Nat :=
  let c128_i32_r0 : BitVec 32 := 128#32
  let true_63_r0 : BitVec 1 := 1#1
  let c1_i32_62_r0 : BitVec 32 := 1#32
  let v88_r0 : BitVec 32 := Scalar.subi arg12_r0 c1_i32_62_r0
  let v89_r0 : BitVec 32 := Scalar.select true_63_r0 v88_r0 arg12_r0
  let c_m1_i32_64_r0 : BitVec 32 := 4294967295#32
  let v90_r0 : BitVec 1 := Scalar.cmpi .eq v89_r0 c_m1_i32_64_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_65_r0 : BitVec 32 := 1#32
  let v91_r0 : BitVec 32 := Scalar.subi v8 c1_i32_65_r0
  let v92_r0 : BitVec 32 := Scalar.select v90_r0 v91_r0 v89_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v93_r0 : BitVec 32 := Scalar.addi v92_r0 v13
  let v171_r0 : BitVec 32 := Scalar.muli c128_i32_r0 v93_r0
  let c0_i32_106_r0 : BitVec 32 := 0#32
  ![v171_r0.toNat, 0]
def k1_off31 (arg11_r0 : BitVec 32) : Fin 1 → Nat :=
  let c2_i32_103_r0 : BitVec 32 := 2#32
  let v170_r0 : BitVec 32 := Scalar.remui arg11_r0 c2_i32_103_r0
  ![v170_r0.toNat]

def k1_chk4 (i : grid1.Coords) (k1_t2 : Fin (k1_t2_loop i).trips) (arg8_r0 : BitVec 32) (arg9_r0 : BitVec 32) (arg10_r0 : BitVec 32) (arg11_r0 : BitVec 32) (arg12_r0 : BitVec 32) : Prop :=
  (∀ (k1_h2 : k1_cond2 i = 1#1), ∀ (k1_h11 : k1_cond11 i k1_t2 arg12_r0 = 1#1), ∀ a, (k1_off18 arg8_r0) a + S1x1x128.size a ≤ S2x1x128.size a) ∧
  (∀ (k1_h2 : k1_cond2 i = 1#1), ∀ (k1_h11 : k1_cond11 i k1_t2 arg12_r0 = 1#1), ∀ a, (k1_off19 i arg12_r0) a + S1x128.size a ≤ S1x320000.size a) ∧
  (∀ (k1_h2 : k1_cond2 i = 1#1), ∀ (k1_h11 : k1_cond11 i k1_t2 arg12_r0 = 1#1), ∀ a, (k1_off20 arg8_r0) a + S1.size a ≤ S2.size a) ∧
  (∀ (k1_h2 : k1_cond2 i = 1#1), ∀ (k1_h12 : k1_cond12 i k1_t2 arg12_r0 = 1#1), ∀ a, (k1_off21 arg9_r0) a + S1x1x128.size a ≤ S2x1x128.size a) ∧
  (∀ (k1_h2 : k1_cond2 i = 1#1), ∀ (k1_h12 : k1_cond12 i k1_t2 arg12_r0 = 1#1), ∀ a, (k1_off22 i arg12_r0) a + S1x128.size a ≤ S1x320000.size a) ∧
  (∀ (k1_h2 : k1_cond2 i = 1#1), ∀ (k1_h12 : k1_cond12 i k1_t2 arg12_r0 = 1#1), ∀ a, (k1_off23 arg9_r0) a + S1.size a ≤ S2.size a) ∧
  (∀ (k1_h2 : k1_cond2 i = 1#1), ∀ (k1_h15 : k1_cond15 i k1_t2 arg12_r0 = 1#1), ∀ a, (k1_off26 arg10_r0) a + S1x128x128.size a ≤ S2x128x128.size a) ∧
  (∀ (k1_h2 : k1_cond2 i = 1#1), ∀ (k1_h15 : k1_cond15 i k1_t2 arg12_r0 = 1#1), ∀ a, (k1_off27 i arg12_r0) a + S128x128.size a ≤ S320000x128.size a) ∧
  (∀ (k1_h2 : k1_cond2 i = 1#1), ∀ (k1_h15 : k1_cond15 i k1_t2 arg12_r0 = 1#1), ∀ a, (k1_off28 arg10_r0) a + S1.size a ≤ S2.size a) ∧
  (∀ (k1_h2 : k1_cond2 i = 1#1), ∀ (k1_h17 : k1_cond17 i k1_t2 arg12_r0 = 1#1), ∀ a, (k1_off29 arg11_r0) a + S1x128x128.size a ≤ S2x128x128.size a) ∧
  (∀ (k1_h2 : k1_cond2 i = 1#1), ∀ (k1_h17 : k1_cond17 i k1_t2 arg12_r0 = 1#1), ∀ a, (k1_off30 i arg12_r0) a + S128x128.size a ≤ S320000x128.size a) ∧
  (∀ (k1_h2 : k1_cond2 i = 1#1), ∀ (k1_h17 : k1_cond17 i k1_t2 arg12_r0 = 1#1), ∀ a, (k1_off31 arg11_r0) a + S1.size a ≤ S2.size a)
theorem k1_off18_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h11 : k1_cond11 i k1_t2 arg12_r0 = 1#1), ∀ a, (k1_off18 arg8_r0) a + S1x1x128.size a ≤ S2x1x128.size a := fun i k1_t2 arg8_r0 arg9_r0 arg10_r0 arg11_r0 arg12_r0 k1_hw4 k1_h2 k1_h11 => k1_hw4.1 k1_h2 k1_h11
theorem k1_off19_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h11 : k1_cond11 i k1_t2 arg12_r0 = 1#1), ∀ a, (k1_off19 i arg12_r0) a + S1x128.size a ≤ S1x320000.size a := fun i k1_t2 arg8_r0 arg9_r0 arg10_r0 arg11_r0 arg12_r0 k1_hw4 k1_h2 k1_h11 => k1_hw4.2.1 k1_h2 k1_h11
theorem k1_off20_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h11 : k1_cond11 i k1_t2 arg12_r0 = 1#1), ∀ a, (k1_off20 arg8_r0) a + S1.size a ≤ S2.size a := fun i k1_t2 arg8_r0 arg9_r0 arg10_r0 arg11_r0 arg12_r0 k1_hw4 k1_h2 k1_h11 => k1_hw4.2.2.1 k1_h2 k1_h11
theorem k1_off21_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h12 : k1_cond12 i k1_t2 arg12_r0 = 1#1), ∀ a, (k1_off21 arg9_r0) a + S1x1x128.size a ≤ S2x1x128.size a := fun i k1_t2 arg8_r0 arg9_r0 arg10_r0 arg11_r0 arg12_r0 k1_hw4 k1_h2 k1_h12 => k1_hw4.2.2.2.1 k1_h2 k1_h12
theorem k1_off22_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h12 : k1_cond12 i k1_t2 arg12_r0 = 1#1), ∀ a, (k1_off22 i arg12_r0) a + S1x128.size a ≤ S1x320000.size a := fun i k1_t2 arg8_r0 arg9_r0 arg10_r0 arg11_r0 arg12_r0 k1_hw4 k1_h2 k1_h12 => k1_hw4.2.2.2.2.1 k1_h2 k1_h12
theorem k1_off23_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h12 : k1_cond12 i k1_t2 arg12_r0 = 1#1), ∀ a, (k1_off23 arg9_r0) a + S1.size a ≤ S2.size a := fun i k1_t2 arg8_r0 arg9_r0 arg10_r0 arg11_r0 arg12_r0 k1_hw4 k1_h2 k1_h12 => k1_hw4.2.2.2.2.2.1 k1_h2 k1_h12
theorem k1_off26_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h15 : k1_cond15 i k1_t2 arg12_r0 = 1#1), ∀ a, (k1_off26 arg10_r0) a + S1x128x128.size a ≤ S2x128x128.size a := fun i k1_t2 arg8_r0 arg9_r0 arg10_r0 arg11_r0 arg12_r0 k1_hw4 k1_h2 k1_h15 => k1_hw4.2.2.2.2.2.2.1 k1_h2 k1_h15
theorem k1_off27_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h15 : k1_cond15 i k1_t2 arg12_r0 = 1#1), ∀ a, (k1_off27 i arg12_r0) a + S128x128.size a ≤ S320000x128.size a := fun i k1_t2 arg8_r0 arg9_r0 arg10_r0 arg11_r0 arg12_r0 k1_hw4 k1_h2 k1_h15 => k1_hw4.2.2.2.2.2.2.2.1 k1_h2 k1_h15
theorem k1_off28_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h15 : k1_cond15 i k1_t2 arg12_r0 = 1#1), ∀ a, (k1_off28 arg10_r0) a + S1.size a ≤ S2.size a := fun i k1_t2 arg8_r0 arg9_r0 arg10_r0 arg11_r0 arg12_r0 k1_hw4 k1_h2 k1_h15 => k1_hw4.2.2.2.2.2.2.2.2.1 k1_h2 k1_h15
theorem k1_off29_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h17 : k1_cond17 i k1_t2 arg12_r0 = 1#1), ∀ a, (k1_off29 arg11_r0) a + S1x128x128.size a ≤ S2x128x128.size a := fun i k1_t2 arg8_r0 arg9_r0 arg10_r0 arg11_r0 arg12_r0 k1_hw4 k1_h2 k1_h17 => k1_hw4.2.2.2.2.2.2.2.2.2.1 k1_h2 k1_h17
theorem k1_off30_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h17 : k1_cond17 i k1_t2 arg12_r0 = 1#1), ∀ a, (k1_off30 i arg12_r0) a + S128x128.size a ≤ S320000x128.size a := fun i k1_t2 arg8_r0 arg9_r0 arg10_r0 arg11_r0 arg12_r0 k1_hw4 k1_h2 k1_h17 => k1_hw4.2.2.2.2.2.2.2.2.2.2.1 k1_h2 k1_h17
theorem k1_off31_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (k1_hw4 : k1_chk4 i k1_t2 arg8_r0 arg9_r0 arg10_r0 arg11_r0 arg12_r0), ∀ (k1_h2 : k1_cond2 i = 1#1), ∀ (k1_h17 : k1_cond17 i k1_t2 arg12_r0 = 1#1), ∀ a, (k1_off31 arg11_r0) a + S1.size a ≤ S2.size a := fun i k1_t2 arg8_r0 arg9_r0 arg10_r0 arg11_r0 arg12_r0 k1_hw4 k1_h2 k1_h17 => k1_hw4.2.2.2.2.2.2.2.2.2.2.2 k1_h2 k1_h17

def k1_cond19 (i : grid1.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let v14 : BitVec 32 := Scalar.muli c1_i32_5 v8
  let c1_i32_43_r0 : BitVec 32 := 1#32
  let v57_r0 : BitVec 32 := Scalar.subi v14 c1_i32_43_r0
  let c1_i32_44_r0 : BitVec 32 := 1#32
  let v58_r0 : BitVec 32 := Scalar.muli c1_i32_44_r0 v8
  let c1_i32_46_r0 : BitVec 32 := 1#32
  let v60_r0 : BitVec 32 := Scalar.subi v58_r0 c1_i32_46_r0
  let v61_r0 : BitVec 1 := Scalar.cmpi .eq v57_r0 v60_r0
  let v81_r0 : BitVec 32 := Scalar.extui v61_r0
  let c0_i32_58_r0 : BitVec 32 := 0#32
  let v82_r0 : BitVec 1 := Scalar.cmpi .ne v81_r0 c0_i32_58_r0
  v82_r0

def k1_off32 (v51_3_r0 : BitVec 32) : Fin 3 → Nat :=
  let c2_i32_r0 : BitVec 32 := 2#32
  let v83_r0 : BitVec 32 := Scalar.remui v51_3_r0 c2_i32_r0
  let c0_i32_59_r0 : BitVec 32 := 0#32
  let c0_i32_60_r0 : BitVec 32 := 0#32
  ![v83_r0.toNat, 0, 0]

def k1_off33 (i : grid1.Coords) (v51_4_r0 : BitVec 32) : Fin 2 → Nat :=
  let c128_i32_r0 : BitVec 32 := 128#32
  let true_40_r0 : BitVec 1 := 1#1
  let c1_i32_39_r0 : BitVec 32 := 1#32
  let v52_r0 : BitVec 32 := Scalar.subi v51_4_r0 c1_i32_39_r0
  let v53_r0 : BitVec 32 := Scalar.select true_40_r0 v52_r0 v51_4_r0
  let c_m1_i32_41_r0 : BitVec 32 := 4294967295#32
  let v54_r0 : BitVec 1 := Scalar.cmpi .eq v53_r0 c_m1_i32_41_r0
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c4_i32 : BitVec 32 := 4#32
  let v7 : BitVec 1 := Scalar.cmpi .slt v6 c4_i32
  let c79_i32 : BitVec 32 := 79#32
  let c78_i32 : BitVec 32 := 78#32
  let v8 : BitVec 32 := Scalar.select v7 c79_i32 c78_i32
  let c1_i32_42_r0 : BitVec 32 := 1#32
  let v55_r0 : BitVec 32 := Scalar.subi v8 c1_i32_42_r0
  let v56_r0 : BitVec 32 := Scalar.select v54_r0 v55_r0 v53_r0
  let c4_i32_2 : BitVec 32 := 4#32
  let v9 : BitVec 1 := Scalar.cmpi .slt v6 c4_i32_2
  let v10 : BitVec 32 := Scalar.muli v6 v8
  let c78_i32_3 : BitVec 32 := 78#32
  let v11 : BitVec 32 := Scalar.muli v6 c78_i32_3
  let c4_i32_4 : BitVec 32 := 4#32
  let v12 : BitVec 32 := Scalar.addi v11 c4_i32_4
  let v13 : BitVec 32 := Scalar.select v9 v10 v12
  let v62_r0 : BitVec 32 := Scalar.addi v56_r0 v13
  let v84_r0 : BitVec 32 := Scalar.muli c128_i32_r0 v62_r0
  let c0_i32_61_r0 : BitVec 32 := 0#32
  ![v84_r0.toNat, 0]

def k1_chk8 (i : grid1.Coords) (v51_4_r0 : BitVec 32) : Prop :=
  (∀ (k1_h2 : k1_cond2 i = 1#1), ∀ (k1_h19 : k1_cond19 i = 1#1), ∀ a, (k1_off33 i v51_4_r0) a + S128x128.size a ≤ S320000x128.size a)
theorem k1_off33_inb : ∀ (i : grid1.Coords) (v51_4_r0 : BitVec 32) (k1_hw8 : k1_chk8 i v51_4_r0), ∀ (k1_h2 : k1_cond2 i = 1#1), ∀ (k1_h19 : k1_cond19 i = 1#1), ∀ a, (k1_off33 i v51_4_r0) a + S128x128.size a ≤ S320000x128.size a := fun i v51_4_r0 k1_hw8 k1_h2 k1_h19 => k1_hw8 k1_h2 k1_h19

def k1_off34 (v51_3_r0 : BitVec 32) : Fin 1 → Nat :=
  let c2_i32_r0 : BitVec 32 := 2#32
  let v83_r0 : BitVec 32 := Scalar.remui v51_3_r0 c2_i32_r0
  ![v83_r0.toNat]
def k1_off35 (v51_3_r0 : BitVec 32) : Fin 3 → Nat :=
  let c2_i32_r0 : BitVec 32 := 2#32
  let v83_r0 : BitVec 32 := Scalar.remui v51_3_r0 c2_i32_r0
  let c0_i32_63_r0 : BitVec 32 := 0#32
  let c0_i32_64_r0 : BitVec 32 := 0#32
  ![v83_r0.toNat, 0, 0]

def k1_chk7 (i : grid1.Coords) (v51_3_r0 : BitVec 32) : Prop :=
  (∀ (k1_h2 : k1_cond2 i = 1#1), ∀ (k1_h19 : k1_cond19 i = 1#1), ∀ a, (k1_off32 v51_3_r0) a + S1x128x128.size a ≤ S2x128x128.size a) ∧
  (∀ (k1_h2 : k1_cond2 i = 1#1), ∀ (k1_h19 : k1_cond19 i = 1#1), ∀ a, (k1_off34 v51_3_r0) a + S1.size a ≤ S2.size a) ∧
  (∀ (k1_h2 : k1_cond2 i = 1#1), ∀ (k1_h19 : k1_cond19 i = 1#1), ∀ a, (k1_off35 v51_3_r0) a + S1x128x128.size a ≤ S2x128x128.size a)
theorem k1_off32_inb : ∀ (i : grid1.Coords) (v51_3_r0 : BitVec 32) (k1_hw7 : k1_chk7 i v51_3_r0), ∀ (k1_h2 : k1_cond2 i = 1#1), ∀ (k1_h19 : k1_cond19 i = 1#1), ∀ a, (k1_off32 v51_3_r0) a + S1x128x128.size a ≤ S2x128x128.size a := fun i v51_3_r0 k1_hw7 k1_h2 k1_h19 => k1_hw7.1 k1_h2 k1_h19
theorem k1_off34_inb : ∀ (i : grid1.Coords) (v51_3_r0 : BitVec 32) (k1_hw7 : k1_chk7 i v51_3_r0), ∀ (k1_h2 : k1_cond2 i = 1#1), ∀ (k1_h19 : k1_cond19 i = 1#1), ∀ a, (k1_off34 v51_3_r0) a + S1.size a ≤ S2.size a := fun i v51_3_r0 k1_hw7 k1_h2 k1_h19 => k1_hw7.2.1 k1_h2 k1_h19
theorem k1_off35_inb : ∀ (i : grid1.Coords) (v51_3_r0 : BitVec 32) (k1_hw7 : k1_chk7 i v51_3_r0), ∀ (k1_h2 : k1_cond2 i = 1#1), ∀ (k1_h19 : k1_cond19 i = 1#1), ∀ a, (k1_off35 v51_3_r0) a + S1x128x128.size a ≤ S2x128x128.size a := fun i v51_3_r0 k1_hw7 k1_h2 k1_h19 => k1_hw7.2.2 k1_h2 k1_h19

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S128x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S128x128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S400x128 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S400x128 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S400x128 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== FirstKernelIdeal.lean ====
variable {F : FTy → Type} [FloatOps F] [Named F]
def κ : String → Option EReal := fun
  | "s" => some (((Real.sqrt 2)⁻¹ : ℝ) : EReal)
  | "t" => some ((30⁻¹ : ℝ) : EReal)
  | _ => none
-- ==== FirstReferenceIdeal.lean ====
abbrev S1x10000x128 : Shape := ⟨3, ![1, 10000, 128]⟩
abbrev S1x10000x32x128 : Shape := ⟨4, ![1, 10000, 32, 128]⟩
abbrev S1x10000x32 : Shape := ⟨3, ![1, 10000, 32]⟩
abbrev S1x10000 : Shape := ⟨2, ![1, 10000]⟩
abbrev S128x640 : Shape := ⟨2, ![128, 640]⟩
abbrev S128 : Shape := ⟨1, ![128]⟩
abbrev S128x128 : Shape := ⟨2, ![128, 128]⟩
abbrev S128x384 : Shape := ⟨2, ![128, 384]⟩
abbrev S512x128 : Shape := ⟨2, ![512, 128]⟩
abbrev S512 : Shape := ⟨1, ![512]⟩
abbrev S128x512 : Shape := ⟨2, ![128, 512]⟩
abbrev S320000 : Shape := ⟨1, ![320000]⟩
abbrev S1x10000x1x128 : Shape := ⟨4, ![1, 10000, 1, 128]⟩
abbrev S10000x128 : Shape := ⟨2, ![10000, 128]⟩
abbrev S_ : Shape := ⟨0, ![]⟩
abbrev S320000x1 : Shape := ⟨2, ![320000, 1]⟩
abbrev S320000x128 : Shape := ⟨2, ![320000, 128]⟩
abbrev S1x1x1x128 : Shape := ⟨4, ![1, 1, 1, 128]⟩
abbrev S1x10000x32x1 : Shape := ⟨4, ![1, 10000, 32, 1]⟩
abbrev S1x10000x1 : Shape := ⟨3, ![1, 10000, 1]⟩
abbrev S1x1x128 : Shape := ⟨3, ![1, 1, 128]⟩
abbrev S1x10000x512 : Shape := ⟨3, ![1, 10000, 512]⟩
abbrev S1x1x512 : Shape := ⟨3, ![1, 1, 512]⟩

abbrev nBuf : Space → Nat
  | .hbm => 216
  | .vmem => 0
  | .smem => 0
  | _ => 0

abbrev hbmTy0_0 (i : Nat) : BufTy := match i % 128 with
  | 0 => ⟨S1x10000x128, .f32⟩
  | 1 => ⟨S1x10000x128, .f32⟩
  | 2 => ⟨S1x10000x32x128, .f32⟩
  | 3 => ⟨S1x10000x32, .i32⟩
  | 4 => ⟨S1x10000, .f32⟩
  | 5 => ⟨S1x10000x32, .f32⟩
  | 6 => ⟨S128x640, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x384, .f32⟩
  | 13 => ⟨S512x128, .f32⟩
  | 14 => ⟨S512, .f32⟩
  | 15 => ⟨S128x512, .f32⟩
  | 16 => ⟨S128, .f32⟩
  | 17 => ⟨S128, .f32⟩
  | 18 => ⟨S128, .f32⟩
  | 19 => ⟨S128, .f32⟩
  | 20 => ⟨S128, .f32⟩
  | 21 => ⟨S320000, .i32⟩
  | 22 => ⟨S128x128, .f32⟩
  | 23 => ⟨S128x128, .f32⟩
  | 24 => ⟨S1x10000x128, .f32⟩
  | 25 => ⟨S1x10000x1x128, .f32⟩
  | 26 => ⟨S128x128, .f32⟩
  | 27 => ⟨S128x128, .f32⟩
  | 28 => ⟨S1x10000x32x128, .f32⟩
  | 29 => ⟨S128x128, .f32⟩
  | 30 => ⟨S128x128, .f32⟩
  | 31 => ⟨S1x10000x32x128, .f32⟩
  | 32 => ⟨S1x10000x32x128, .f32⟩
  | 33 => ⟨S10000x128, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x128, .f32⟩
  | 43 => ⟨S128x128, .f32⟩
  | 44 => ⟨S128x128, .f32⟩
  | 45 => ⟨S320000x128, .f32⟩
  | 46 => ⟨S10000x128, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x128, .f32⟩
  | 56 => ⟨S128x128, .f32⟩
  | 57 => ⟨S128x128, .f32⟩
  | 58 => ⟨S320000x128, .f32⟩
  | 59 => ⟨S320000x128, .f32⟩
  | 60 => ⟨S1x10000x32x128, .f32⟩
  | 61 => ⟨S1x10000x32x128, .f32⟩
  | 62 => ⟨S1x10000x32x128, .f32⟩
  | 63 => ⟨S1x10000x32x128, .f32⟩
  | 64 => ⟨S1x1x1x128, .f32⟩
  | 65 => ⟨S1x10000x32x128, .f32⟩
  | 66 => ⟨S1x10000x32x128, .f32⟩
  | 67 => ⟨S_, .f32⟩
  | 68 => ⟨S_, .f32⟩
  | 69 => ⟨S_, .f32⟩
  | 70 => ⟨S1x10000x32x128, .f32⟩
  | 71 => ⟨S1x10000x32x128, .f32⟩
  | 72 => ⟨S1x10000x32x128, .f32⟩
  | 73 => ⟨S_, .f32⟩
  | 74 => ⟨S1x10000x32x128, .f32⟩
  | 75 => ⟨S1x10000x32x128, .f32⟩
  | 76 => ⟨S1x10000x32x128, .f32⟩
  | 77 => ⟨S_, .f32⟩
  | 78 => ⟨S1x10000x32x128, .f32⟩
  | 79 => ⟨S1x10000x32x128, .f32⟩
  | 80 => ⟨S128x128, .f32⟩
  | 81 => ⟨S1x10000x32x128, .f32⟩
  | 82 => ⟨S1x1x1x128, .f32⟩
  | 83 => ⟨S1x10000x32x128, .f32⟩
  | 84 => ⟨S1x10000x32x128, .f32⟩
  | 85 => ⟨S_, .f32⟩
  | 86 => ⟨S_, .f32⟩
  | 87 => ⟨S_, .f32⟩
  | 88 => ⟨S1x10000x32x128, .f32⟩
  | 89 => ⟨S1x10000x32x128, .f32⟩
  | 90 => ⟨S1x10000x32x128, .f32⟩
  | 91 => ⟨S_, .f32⟩
  | 92 => ⟨S1x10000x32x128, .f32⟩
  | 93 => ⟨S1x10000x32x128, .f32⟩
  | 94 => ⟨S1x10000x32x128, .f32⟩
  | 95 => ⟨S_, .f32⟩
  | 96 => ⟨S1x10000x32x128, .f32⟩
  | 97 => ⟨S1x10000x32x128, .f32⟩
  | 98 => ⟨S128x128, .f32⟩
  | 99 => ⟨S1x10000x32x128, .f32⟩
  | 100 => ⟨S1x1x1x128, .f32⟩
  | 101 => ⟨S1x10000x32x128, .f32⟩
  | 102 => ⟨S1x10000x32x128, .f32⟩
  | 103 => ⟨S1x10000x32x1, .f32⟩
  | 104 => ⟨S1x10000x32x128, .f32⟩
  | 105 => ⟨S1x10000x32x128, .f32⟩
  | 106 => ⟨S_, .f32⟩
  | 107 => ⟨S1x10000x128, .f32⟩
  | 108 => ⟨S_, .f32⟩
  | 109 => ⟨S1x10000x128, .f32⟩
  | 110 => ⟨S1x10000x128, .f32⟩
  | 111 => ⟨S1x10000x128, .f32⟩
  | 112 => ⟨S_, .f32⟩
  | 113 => ⟨S1x10000, .f32⟩
  | 114 => ⟨S1x10000x1, .f32⟩
  | 115 => ⟨S_, .f32⟩
  | 116 => ⟨S1x10000x1, .f32⟩
  | 117 => ⟨S1x10000x1, .f32⟩
  | 118 => ⟨S1x10000x128, .f32⟩
  | 119 => ⟨S1x10000x128, .f32⟩
  | 120 => ⟨S1x10000x128, .f32⟩
  | 121 => ⟨S_, .f32⟩
  | 122 => ⟨S1x10000, .f32⟩
  | 123 => ⟨S1x10000x1, .f32⟩
  | 124 => ⟨S_, .f32⟩
  | 125 => ⟨S1x10000x1, .f32⟩
  | 126 => ⟨S1x10000x1, .f32⟩
  | 127 => ⟨S1x10000x128, .f32⟩
  | _ => ⟨S1x10000x128, .f32⟩

abbrev hbmTy0_1 (i : Nat) : BufTy := match i % 128 with
  | 0 => ⟨S1x10000x128, .f32⟩
  | 1 => ⟨S_, .f32⟩
  | 2 => ⟨S1x10000x1, .f32⟩
  | 3 => ⟨S1x10000x1, .f32⟩
  | 4 => ⟨S1x10000x1, .f32⟩
  | 5 => ⟨S1x10000x128, .f32⟩
  | 6 => ⟨S1x10000x128, .f32⟩
  | 7 => ⟨S1x1x128, .f32⟩
  | 8 => ⟨S1x10000x128, .f32⟩
  | 9 => ⟨S1x10000x128, .f32⟩
  | 10 => ⟨S1x1x128, .f32⟩
  | 11 => ⟨S1x10000x128, .f32⟩
  | 12 => ⟨S1x10000x128, .f32⟩
  | 13 => ⟨S128x512, .f32⟩
  | 14 => ⟨S1x10000x512, .f32⟩
  | 15 => ⟨S1x1x512, .f32⟩
  | 16 => ⟨S1x10000x512, .f32⟩
  | 17 => ⟨S1x10000x512, .f32⟩
  | 18 => ⟨S_, .f32⟩
  | 19 => ⟨S_, .f32⟩
  | 20 => ⟨S_, .f32⟩
  | 21 => ⟨S1x10000x512, .f32⟩
  | 22 => ⟨S1x10000x512, .f32⟩
  | 23 => ⟨S1x10000x512, .f32⟩
  | 24 => ⟨S_, .f32⟩
  | 25 => ⟨S1x10000x512, .f32⟩
  | 26 => ⟨S1x10000x512, .f32⟩
  | 27 => ⟨S1x10000x512, .f32⟩
  | 28 => ⟨S_, .f32⟩
  | 29 => ⟨S1x10000x512, .f32⟩
  | 30 => ⟨S1x10000x512, .f32⟩
  | 31 => ⟨S512x128, .f32⟩
  | 32 => ⟨S1x10000x128, .f32⟩
  | 33 => ⟨S1x1x128, .f32⟩
  | 34 => ⟨S1x10000x128, .f32⟩
  | 35 => ⟨S1x10000x128, .f32⟩
  | 36 => ⟨S1x10000x128, .f32⟩
  | 37 => ⟨S_, .f32⟩
  | 38 => ⟨S1x10000, .f32⟩
  | 39 => ⟨S1x10000x1, .f32⟩
  | 40 => ⟨S_, .f32⟩
  | 41 => ⟨S1x10000x1, .f32⟩
  | 42 => ⟨S1x10000x1, .f32⟩
  | 43 => ⟨S1x10000x128, .f32⟩
  | 44 => ⟨S1x10000x128, .f32⟩
  | 45 => ⟨S1x10000x128, .f32⟩
  | 46 => ⟨S_, .f32⟩
  | 47 => ⟨S1x10000, .f32⟩
  | 48 => ⟨S1x10000x1, .f32⟩
  | 49 => ⟨S_, .f32⟩
  | 50 => ⟨S1x10000x1, .f32⟩
  | 51 => ⟨S1x10000x1, .f32⟩
  | 52 => ⟨S1x10000x128, .f32⟩
  | 53 => ⟨S1x10000x128, .f32⟩
  | 54 => ⟨S_, .f32⟩
  | 55 => ⟨S1x10000x1, .f32⟩
  | 56 => ⟨S1x10000x1, .f32⟩
  | 57 => ⟨S1x10000x1, .f32⟩
  | 58 => ⟨S1x10000x128, .f32⟩
  | 59 => ⟨S1x10000x128, .f32⟩
  | 60 => ⟨S1x1x128, .f32⟩
  | 61 => ⟨S1x10000x128, .f32⟩
  | 62 => ⟨S1x10000x128, .f32⟩
  | 63 => ⟨S1x1x128, .f32⟩
  | 64 => ⟨S1x10000x128, .f32⟩
  | 65 => ⟨S1x10000x128, .f32⟩
  | 66 => ⟨S1x10000x1, .f32⟩
  | 67 => ⟨S1x10000x128, .f32⟩
  | 68 => ⟨S1x10000x128, .f32⟩
  | 69 => ⟨S10000x128, .f32⟩
  | 70 => ⟨S128x128, .f32⟩
  | 71 => ⟨S128x128, .f32⟩
  | 72 => ⟨S10000x128, .f32⟩
  | 73 => ⟨S_, .f32⟩
  | 74 => ⟨S_, .f32⟩
  | 75 => ⟨S_, .f32⟩
  | 76 => ⟨S10000x128, .f32⟩
  | 77 => ⟨S10000x128, .f32⟩
  | 78 => ⟨S10000x128, .f32⟩
  | 79 => ⟨S128x128, .f32⟩
  | 80 => ⟨S128x128, .f32⟩
  | 81 => ⟨S10000x128, .f32⟩
  | 82 => ⟨S_, .f32⟩
  | 83 => ⟨S_, .f32⟩
  | 84 => ⟨S_, .f32⟩
  | 85 => ⟨S10000x128, .f32⟩
  | 86 => ⟨S10000x128, .f32⟩
  | 87 => ⟨S10000x128, .f32⟩
  | _ => ⟨S1x10000x128, .f32⟩

abbrev hbmTy (i : Nat) : BufTy := match i / 128 with
  | 0 => hbmTy0_0 i
  | 1 => hbmTy0_1 i
  | _ => ⟨S1x10000x128, .f32⟩

abbrev bufTy : (tb : Table) → Fin (tcTables nBuf tb) → BufTy
  | .hbm, ⟨i, _⟩ => hbmTy i
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_10 : Ref sig .tc := ⟨.hbm, 112, rfl⟩
abbrev main_v79 : Ref sig .tc := ⟨.hbm, 113, rfl⟩
abbrev main_v80 : Ref sig .tc := ⟨.hbm, 114, rfl⟩
abbrev main_cst_11 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_cst_13 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_14 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_15 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_16 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_17 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_18 : Ref sig .tc := ⟨.hbm, 165, rfl⟩
abbrev main_v124 : Ref sig .tc := ⟨.hbm, 166, rfl⟩
abbrev main_v125 : Ref sig .tc := ⟨.hbm, 167, rfl⟩
abbrev main_cst_19 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_20 : Ref sig .tc := ⟨.hbm, 174, rfl⟩
abbrev main_v131 : Ref sig .tc := ⟨.hbm, 175, rfl⟩
abbrev main_v132 : Ref sig .tc := ⟨.hbm, 176, rfl⟩
abbrev main_cst_21 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_22 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_23 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_24 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩

abbrev nD : Nat := 1
abbrev τ : Topo := Topo.v7x

variable {F : FTy → Type} [FloatOps F]
-- ==== Proof.Words.lean ====
/-
  The words of one tile's run, in closed form. A tile has the grid coordinates (SparseCore `i 0`, subcore `i 1`) and
  the number `16 * i 0 + i 1`. The 2500 blocks of 128 rows are dealt to the 32 tiles in order: the first four tiles
  have 79 blocks, the others 78. Trip `t` of the tile's loop works on its block number `t`; the loop carries five
  32-bit counters, whose values at trip `t` are `tripWords`. Everything the body computes from them (its conditions,
  its offsets, its checks, the next trip's counters) is stated here of the numbers `t`, `base` and `nBlk`. Each is a
  finite question, one case per tile and trip.
-/
module

public import proofs.«01_k».proof.Defs
public import proofs.«01_k».proof.Proof.Gen.KernelIdeal
public import proofs.«01_k».proof.Proof.Gen.KernelIdeal.Skeleton

@[expose] public section

namespace Cert.Proof.Words

open Cert.KernelIdeal Cert.KernelIdeal.Gen
open Idealize.ShloMosaic

/-- A tile's number. -/
def tileNo (i : grid0.Coords) : ℕ := 16 * (i 0).val + (i 1).val
/-- How many blocks a tile has. -/
def nBlk (i : grid0.Coords) : ℕ := if tileNo i < 4 then 79 else 78
/-- A tile's first block. -/
def base (i : grid0.Coords) : ℕ := if tileNo i < 4 then tileNo i * 79 else tileNo i * 78 + 4

theorem nBlk_pos (i : grid0.Coords) : 0 < nBlk i := by unfold nBlk; split <;> decide
theorem base_add_lt : ∀ i : grid0.Coords, base i + nBlk i ≤ 2500 := by decide +kernel

/-- Block `t` of a tile (any number past its last is wrapped, and never used). -/
def blk (i : grid0.Coords) (t : ℕ) : Fin 2500 := ⟨(base i + t) % 2500, Nat.mod_lt _ (by decide)⟩
theorem blk_val (i : grid0.Coords) {t : ℕ} (h : t < nBlk i) : (blk i t).val = base i + t :=
  Nat.mod_eq_of_lt (lt_of_lt_of_le (Nat.add_lt_add_left h _) (base_add_lt i))

/-- Which of the two slots trip `t` uses. -/
def par (t : ℕ) : Fin 2 := ⟨t % 2, Nat.mod_lt _ (by decide)⟩
theorem par_add_two (t : ℕ) : par (t + 2) = par t := by unfold par; congr 1; omega
theorem par_pred {t : ℕ} (h : 0 < t) : par (t - 1) = par (t + 1) := by unfold par; congr 1; omega

/-- The five counters before trip `t`. -/
def tripWords (i : grid0.Coords) (t : ℕ) : BitVec 32 × BitVec 32 × BitVec 32 × BitVec 32 × BitVec 32 :=
  (BitVec.ofNat 32 (min (t + 1) (nBlk i)), BitVec.ofNat 32 t, BitVec.ofNat 32 t, BitVec.ofNat 32 (t - 1),
    BitVec.ofNat 32 (if t < nBlk i then t else 0))

/-- The words of the tile the loop's body reads: its number of blocks and its first block. -/
def w8 (i : grid0.Coords) : BitVec 32 := BitVec.ofNat 32 (nBlk i)
def w13 (i : grid0.Coords) : BitVec 32 := BitVec.ofNat 32 (base i)

theorem trips_eq : ∀ i : grid0.Coords, (k0_t1_loop i).trips = nBlk i := by decide +kernel
theorem trips2_eq (i : grid0.Coords) : (k0_t2_loop i).trips = 0 := Nat.le_zero.mp (k0_t2_abs i).2.1

theorem cond2 : ∀ i : grid0.Coords, k0_cond2 i = 1#1 := by decide +kernel
theorem cond3 : ∀ i : grid0.Coords, k0_cond3 i = 1#1 := by decide +kernel
theorem cond19 : ∀ i : grid0.Coords, k0_cond19 i = 1#1 := by decide +kernel

/-- The trips of a tile, as its loop counts them. -/
abbrev Trip (i : grid0.Coords) : Type := Fin (k0_t1_loop i).trips

theorem Trip.lt {i : grid0.Coords} (t : Trip i) : t.val < nBlk i := trips_eq i ▸ t.isLt

/-- A further block is fetched at every trip but the last. -/
theorem cond4 : ∀ (i : grid0.Coords) (t : Trip i), k0_cond4 i t (tripWords i t).2.2.2.2 = 1#1 ↔ t.val + 1 < nBlk i := by decide +kernel
/-- Each trip waits for its own block's row numbers. -/
theorem cond5 : ∀ (i : grid0.Coords) (t : Trip i), k0_cond5 i t (tripWords i t).2.2.2.2 = 1#1 := by decide +kernel
/-- Each trip sends its rows out. -/
theorem cond8 : ∀ (i : grid0.Coords) (t : Trip i), k0_cond8 i t (tripWords i t).2.2.2.2 = 1#1 := by decide +kernel
/-- Each trip but the first waits for the rows the trip before sent. -/
theorem cond10 : ∀ (i : grid0.Coords) (t : Trip i), k0_cond10 i t (tripWords i t).2.2.2.2 = 1#1 ↔ 0 < t.val := by decide +kernel

theorem chk1 : ∀ (i : grid0.Coords) (t : Trip i), k0_chk1 i t (tripWords i t).1 (tripWords i t).2.1 (tripWords i t).2.2.1
    (tripWords i t).2.2.2.1 (tripWords i t).2.2.2.2 := by decide +kernel
theorem chk2 : ∀ (i : grid0.Coords) (t : Trip i), k0_chk2 i (tripWords i t).2.2.1 := by decide +kernel
theorem chk3 : ∀ (i : grid0.Coords) (t : Trip i), k0_chk3 i (tripWords i t).2.1 := by decide +kernel
theorem chk7 : ∀ i : grid0.Coords, k0_chk7 i (tripWords i (nBlk i)).2.2.2.1 := by decide +kernel
theorem chk8 : ∀ i : grid0.Coords, k0_chk8 i (tripWords i (nBlk i)).2.2.2.2 := by decide +kernel

/-! The offsets of the first fetch, of the loop's transfers, and of the last wait. -/

theorem off1 : k0_off1 = ![(par 0).val, 0, 0] := by decide +kernel
theorem off2 : ∀ i : grid0.Coords, k0_off2 i = ![0, 128 * (blk i 0).val] := by decide +kernel
theorem off3 : k0_off3 = ![(par 0).val] := by decide +kernel
theorem off4 : ∀ (i : grid0.Coords) (t : Trip i), t.val + 1 < nBlk i → k0_off4 (tripWords i t).1 = ![(par (t + 1)).val, 0, 0] := by decide +kernel
theorem off5 : ∀ (i : grid0.Coords) (t : Trip i), t.val + 1 < nBlk i →
    k0_off5 i (tripWords i t).2.2.2.2 = ![0, 128 * (blk i (t + 1)).val] := by decide +kernel
theorem off6 : ∀ (i : grid0.Coords) (t : Trip i), t.val + 1 < nBlk i → k0_off6 (tripWords i t).1 = ![(par (t + 1)).val] := by decide +kernel
theorem off9 : ∀ (i : grid0.Coords) (t : Trip i), k0_off9 (tripWords i t).2.1 = ![(par t).val] := by decide +kernel
theorem off10 : ∀ (i : grid0.Coords) (t : Trip i), k0_off10 (tripWords i t).2.2.1 = ![(par t).val, 0, 0] := by decide +kernel
theorem off11 : ∀ (i : grid0.Coords) (t : Trip i), k0_off11 (tripWords i t).2.1 = ![(par t).val, 0, 0] := by decide +kernel
theorem off12 : ∀ (i : grid0.Coords) (t : Trip i), k0_off12 (tripWords i t).2.2.1 = ![(par t).val, 0, 0] := by decide +kernel
theorem off13 : ∀ (i : grid0.Coords) (t : Trip i), k0_off13 i (tripWords i t).2.2.2.2 = ![128 * (blk i t).val, 0] := by decide +kernel
theorem off14 : ∀ (i : grid0.Coords) (t : Trip i), k0_off14 (tripWords i t).2.2.1 = ![(par t).val] := by decide +kernel
theorem off17 : ∀ (i : grid0.Coords) (t : Trip i), 0 < t.val → k0_off17 (tripWords i t).2.2.2.1 = ![(par (t + 1)).val] := by decide +kernel
theorem off34 : ∀ i : grid0.Coords, k0_off34 (tripWords i (nBlk i)).2.2.2.1 = ![(par (nBlk i + 1)).val] := by decide +kernel

/-- The counters the body returns, from those it was entered with and the induction variable's word. -/
def stepWords (v8 v13 a7 a8 a9 a10 a11 a12 : BitVec 32) : BitVec 32 × BitVec 32 × BitVec 32 × BitVec 32 × BitVec 32 :=
  let v83 : BitVec 32 := Scalar.muli 1#32 v8
  let v84 : BitVec 1 := Scalar.cmpi .eq a7 0#32
  let v85 : BitVec 32 := Scalar.subi v83 1#32
  let v86 : BitVec 1 := Scalar.cmpi .eq a7 v85
  let v87 : BitVec 32 := Scalar.addi a12 v13
  let v88 : BitVec 32 := Scalar.subi a12 1#32
  let v89 : BitVec 32 := Scalar.select 1#1 v88 a12
  let v90 : BitVec 1 := Scalar.cmpi .eq v89 4294967295#32
  let v91 : BitVec 32 := Scalar.subi v8 1#32
  let v92 : BitVec 32 := Scalar.select v90 v91 v89
  let v93 : BitVec 32 := Scalar.addi v92 v13
  let v94 : BitVec 32 := Scalar.addi a12 1#32
  let v95 : BitVec 32 := Scalar.select 1#1 v94 a12
  let v96 : BitVec 1 := Scalar.cmpi .eq v95 v8
  let v97 : BitVec 32 := Scalar.select v96 0#32 v95
  let v98 : BitVec 32 := Scalar.addi v97 v13
  let v104 : BitVec 1 := Scalar.cmpi .ne v87 v98
  let v105 : BitVec 32 := Scalar.subi v83 2#32
  let v106 : BitVec 32 := Scalar.addi v105 1#32
  let v107 : BitVec 1 := Scalar.cmpi .sge a7 v106
  let v108 : BitVec 1 := Scalar.xori v107 1#1
  let v109 : BitVec 1 := Scalar.andi v104 v108
  let v113 : BitVec 1 := Scalar.andi v109 1#1
  let v114 : BitVec 32 := Scalar.addi a8 1#32
  let v115 : BitVec 32 := Scalar.select v113 v114 a8
  let v142 : BitVec 1 := Scalar.ori (Scalar.cmpi .ne v87 v98) v86
  let v145 : BitVec 1 := Scalar.andi v142 1#1
  let v147 : BitVec 32 := Scalar.select v145 (Scalar.addi a10 1#32) a10
  let v156 : BitVec 1 := Scalar.andi (Scalar.cmpi .ne v87 v93) (Scalar.xori v84 1#1)
  let v159 : BitVec 1 := Scalar.andi v156 1#1
  let v161 : BitVec 32 := Scalar.select v159 (Scalar.addi a11 1#32) a11
  let v163 : BitVec 1 := Scalar.ori (Scalar.cmpi .ne v87 v98) v86
  let v165 : BitVec 32 := Scalar.select v163 (Scalar.addi a9 1#32) a9
  let v167 : BitVec 32 := Scalar.select 1#1 (Scalar.addi a12 1#32) a12
  let v169 : BitVec 32 := Scalar.select (Scalar.cmpi .eq v167 v8) 0#32 v167
  (v115, v165, v147, v161, v169)

/-- They are the next trip's. -/
theorem step_eq : ∀ (i : grid0.Coords) (t : Trip i),
    stepWords (w8 i) (w13 i) (Scf.iv 0#32 1#32 t) (tripWords i t).1 (tripWords i t).2.1 (tripWords i t).2.2.1
      (tripWords i t).2.2.2.1 (tripWords i t).2.2.2.2 = tripWords i (t + 1) := by decide +kernel

end Cert.Proof.Words
-- ==== Proof.Steps.lean ====
/-
  One tile's slots and windows, and the five steps of a trip: fetching a block's row numbers, waiting for them,
  gathering the rows they name from the shared table, sending the rows out, and waiting for that. A step is stated over
  any memrefs and semaphores, and over any spelling of the offsets equal to the slot's and the block's.

  The value is carried throughout: a slot that has landed holds its block's row numbers, and a block sent out holds, at
  each row, the table's row its number names (`Gathered`).
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.Proof.Steps

open Cert.KernelIdeal Cert.KernelIdeal.Gen Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the handshakes' rounds, the barrier's rounds, the transfers' counters. -/
abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev 𝒱₀ : Variants := Variants.none

/-- The SparseCore and the subcore of a tile, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Slots and windows -/

theorem iS_inb : ∀ (p : Fin 2) (a : Fin 3), (![p.val, 0, 0] : Fin 3 → ℕ) a + S1x1x128.size a ≤ S2x1x128.size a := by decide
theorem dS_inb : ∀ (p : Fin 2) (a : Fin 3), (![p.val, 0, 0] : Fin 3 → ℕ) a + S1x128x128.size a ≤ S2x128x128.size a := by decide
theorem sem_inb : ∀ (p : Fin 2) (a : Fin 1), (![p.val] : Fin 1 → ℕ) a + S1.size a ≤ S2.size a := by decide
theorem iW_inb (b : Fin 2500) : ∀ a : Fin 2, (![0, 128 * b.val] : Fin 2 → ℕ) a + S1x128.size a ≤ S1x320000.size a := by
  intro a; match a with
  | 0 => exact Nat.le_refl 1
  | 1 => show 128 * b.val + 128 ≤ 320000; omega
theorem oW_inb (b : Fin 2500) : ∀ a : Fin 2, (![128 * b.val, 0] : Fin 2 → ℕ) a + S128x128.size a ≤ S320000x128.size a := by
  intro a; match a with
  | 0 => show 128 * b.val + 128 ≤ 320000; omega
  | 1 => exact Nat.le_refl 128

section Memrefs

variable (A3 : Memref sig .scVector .hbm S1x320000 .i32) (A4 : Memref sig .scVector .hbm S320000x128 .f32)
  (A5 : Memref sig .scVector .shared S10000x128 .f32) (AI : Memref sig .scVector .vmem S2x1x128 .i32)
  (AD : Memref sig .scVector .vmem S2x128x128 .f32) (sI sO : DmaSems sig S2)

/-- Slot `p` of the row numbers' buffer, and of the rows' buffer. -/
abbrev iS (p : Fin 2) : Memref sig .scVector .vmem S1x128 .i32 :=
  (AI.slice (Rect.unit (s := S2x1x128) ![p.val, 0, 0] S1x1x128.size (iS_inb p)) (fun _ => rfl)).squeeze S1x128 squeezes_S1x1x128_S1x128
abbrev dS (p : Fin 2) : Memref sig .scVector .vmem S128x128 .f32 :=
  (AD.slice (Rect.unit (s := S2x128x128) ![p.val, 0, 0] S1x128x128.size (dS_inb p)) (fun _ => rfl)).squeeze S128x128 squeezes_S1x128x128_S128x128
/-- Block `b` of the row numbers, and of the gathered rows. -/
abbrev iW (b : Fin 2500) : Memref sig .scVector .hbm S1x128 .i32 :=
  A3.slice (Rect.unit (s := S1x320000) ![0, 128 * b.val] S1x128.size (iW_inb b)) (fun _ => rfl)
abbrev oW (b : Fin 2500) : Memref sig .scVector .hbm S128x128 .f32 :=
  A4.slice (Rect.unit (s := S320000x128) ![128 * b.val, 0] S128x128.size (oW_inb b)) (fun _ => rfl)
/-- Cell `p` of a pair of semaphores. -/
abbrev cell (s : DmaSems sig S2) (p : Fin 2) : DmaSem sig :=
  ((s.slice (Rect.unit (s := S2) ![p.val] S1.size (sem_inb p))).squeeze S_ squeezes_S1_S_).sem
/-- The row numbers of slot `p` as the gather's list. -/
abbrev list (p : Fin 2) : Memref sig .scVector .vmem S128 .i32 :=
  (((iS AI p).slice (Rect.unit (s := S1x128) ![0, 0] S1x128.size inb_S1x128_S1x128_0_0) (fun _ => rfl))).squeeze S128 squeezes_S1x128_S128
/-- The whole table, as the gather names it. -/
abbrev tabS : Memref sig .scVector .shared S10000x128 .f32 :=
  A5.slice (Rect.unit (s := S10000x128) ![0, 0] S10000x128.size inb_S10000x128_S10000x128_0_0) (fun _ => rfl)

end Memrefs

/-! ## Reading a slot as the gather's list -/

/-- Row number `j` of a block, and row `r`, column `c` of the table. -/
def at1 (j : Fin 128) : S1x128.Idx := fun a => match a with
  | ⟨0, _⟩ => (0 : Fin 1)
  | ⟨1, _⟩ => j
def atT (r : Fin 10000) (c : Fin 128) : S10000x128.Idx := fun a => match a with
  | ⟨0, _⟩ => r
  | ⟨1, _⟩ => c

theorem reshape_at1 (h : S128.numel = S1x128.numel) (x : S128.Idx) : Shape.reshapeEquiv h x = at1 (x 0) := by
  apply S1x128.rowMajor.injective
  apply Fin.ext
  rw [Shape.rowMajor_reshapeEquiv]
  simp only [Shape.rowMajor_val_one, Shape.rowMajor_val_two]
  show (x 0).val = 0 * 128 + (x 0).val
  omega

theorem emb_zero2 {s : Shape} {off : Fin s.rank → ℕ} (h0 : ∀ a, off a = 0) (inb : ∀ a, off a + s.size a ≤ s.size a) (y : s.Idx) :
    (Rect.unit (s := s) off s.size inb).emb y = y := by
  funext a; apply Fin.ext
  simp [Rect.emb, Rect.unit, h0 a]

theorem off00 : ∀ a : Fin 2, (![0, 0] : Fin 2 → ℕ) a = 0 := by decide

theorem list_read (AI : Memref sig .scVector .vmem S2x1x128 .i32) (p : Fin 2) (f : (iS AI p).view.ty.Contents (Elt F)) (x : S128.Idx) :
    (list AI p).view.read (Elt F) f x = (iS AI p).view.read (Elt F) f (at1 (x 0)) := by
  rw [View.read_apply, View.read_apply]
  have : (list AI p).view.emb x = (iS AI p).view.emb (at1 (x 0)) := by
    show (iS AI p).view.emb ((Rect.unit (s := S1x128) ![0, 0] S1x128.size inb_S1x128_S1x128_0_0).emb (Shape.reshapeEquiv _ x)) = _
    rw [reshape_at1, emb_zero2 off00]
  rw [this]

theorem tabS_read (A5 : Memref sig .scVector .shared S10000x128 .f32) (f : A5.view.ty.Contents (Elt F)) :
    (tabS A5).view.read (Elt F) f = A5.view.read (Elt F) f := by
  funext y
  rw [View.read_apply, View.read_apply]
  have : (tabS A5).view.emb y = A5.view.emb y := by
    show A5.view.emb ((Rect.unit (s := S10000x128) ![0, 0] S10000x128.size inb_S10000x128_S10000x128_0_0).emb y) = _
    rw [emb_zero2 off00]
  rw [this]

theorem list_set (AI : Memref sig .scVector .vmem S2x1x128 .i32) (p : Fin 2) : (list AI p).view.set ⊆ (iS AI p).view.set := by
  show (((iS AI p).view.slice _).reshape S128 _).set ⊆ _
  rw [View.set_reshape]; exact View.set_slice_subset _ _

/-- Entry `k` of a list of 128 in row-major order is the entry at index `k`. -/
theorem list_coord (hn : S128.numel = 128) (k : Fin 128) : (S128.rowMajor.symm (k.cast hn.symm)) 0 = k := by
  apply Fin.ext
  rw [← Shape.rowMajor_val_one (S128.rowMajor.symm (k.cast hn.symm)), Equiv.apply_symm_apply]; rfl

theorem oW_credit (A4 : Memref sig .scVector .hbm S320000x128 .f32) {o : Fin 2 → ℕ} {h : ∀ a, o a + S128x128.size a ≤ S320000x128.size a} :
    (A4.slice (Rect.unit (s := S320000x128) o S128x128.size h) (fun _ => rfl)).view.dmaCredit = 524288 :=
  (show _ = S128x128.numel * 32 from rfl).trans (by decide)

theorem gathers_idx (r : Fin (S128x128.size gathers_S10000x128_S128x128.axis') → Fin (S10000x128.size gathers_S10000x128_S128x128.axis)) (x : S128x128.Idx) :
    gathers_S10000x128_S128x128.idx r x = atT (r (x 0)) (x 1) := by
  funext a
  match a with
  | ⟨0, _⟩ => rfl
  | ⟨1, _⟩ => rfl

/-! ## What a tile holds of its slots -/

section Held

variable (d : Dev nD) (L : grid0.Coords)
variable (A3 : Memref sig .scVector .hbm S1x320000 .i32) (A4 : Memref sig .scVector .hbm S320000x128 .f32)
  (A5 : Memref sig .scVector .shared S10000x128 .f32) (AI : Memref sig .scVector .vmem S2x1x128 .i32)
  (AD : Memref sig .scVector .vmem S2x128x128 .f32) (sI sO : DmaSems sig S2) (sG : DmaSems sig S_)
variable (q : Fin 2 → PosShare TreeShare) (q5 : PosShare TreeShare)
variable (fI : Buf (Elt F) (A3.view.loc (thr d L))) (fT : Buf (Elt F) (A5.view.loc (thr d L)))
  (G : Buf (Elt F) (A4.view.loc (thr d L)))

/-- Slot `p` holds block `b`'s row numbers. -/
def Landed (p : Fin 2) (b : Fin 2500) (f : Buf (Elt F) ((iS AI p).view.loc (thr d L))) : Prop :=
  (iS AI p).view.read (Elt F) f = (iW A3 b).view.read (Elt F) fI

/-- Slot `p` of the row numbers is idle: its elements, its semaphore at zero, its share of the row numbers. -/
def IFree (p : Fin 2) : sProp 𝕄 :=
  iprop((∃ f, (iS AI p).view.loc (thr d L) ↦[(iS AI p).view.set]{fullShare} f) ∗ semVal (thr d L, SemLoc.dma (cell sI p)) 0
    ∗ A3.view.loc (thr d L) ↦{q p} fI)

/-- Slot `p` is being filled with block `b`'s row numbers. -/
def IFly (p : Fin 2) (b : Fin 2500) : sProp 𝕄 :=
  iprop(Transfers.Flight countersEmb (thr d L) (.dma (cell sI p)) (default : HIx 1) 4096
      iprop((∃ f, ((iS AI p).view.loc (thr d L) ↦[(iS AI p).view.set]{fullShare} f) ∗ ⌜Landed d L A3 AI fI p b f⌝)
        ∗ (iW A3 b).view.loc (thr d L) ↦[(iW A3 b).view.set]{q p} fI)
    ∗ A3.view.loc (thr d L) ↦[Finset.univ \ (iW A3 b).view.set]{q p} fI)

/-- Slot `p` of the rows is idle. -/
def OFree (p : Fin 2) : sProp 𝕄 :=
  iprop((∃ f, (dS AD p).view.loc (thr d L) ↦[(dS AD p).view.set]{fullShare} f) ∗ semVal (thr d L, SemLoc.dma (cell sO p)) 0)

/-- Slot `p`'s rows are being sent out to block `b`. -/
def OFly (p : Fin 2) (b : Fin 2500) : sProp 𝕄 :=
  Transfers.Flight countersEmb (thr d L) (.dma (cell sO p)) (default : HIx 1) 524288
    iprop(((oW A4 b).view.loc (thr d L) ↦[(oW A4 b).view.set]{fullShare} G)
      ∗ ∃ f, (dS AD p).view.loc (thr d L) ↦[(dS AD p).view.set]{fullShare} f)

/-- Slot `p` holds block `b`'s row numbers, its semaphore at zero, its share of the row numbers at hand. -/
def IHeld (p : Fin 2) (b : Fin 2500) : sProp 𝕄 :=
  iprop((∃ f, ((iS AI p).view.loc (thr d L) ↦[(iS AI p).view.set]{fullShare} f) ∗ ⌜Landed d L A3 AI fI p b f⌝)
    ∗ semVal (thr d L, SemLoc.dma (cell sI p)) 0 ∗ A3.view.loc (thr d L) ↦{q p} fI)

/-- The output `G` holds, at each row, the table's row its number names; every number names a row. -/
def Gathered : Prop := ∀ b : Fin 2500, ∃ hin : ∀ y, ((iW A3 b).view.read (Elt F) fI y).toNat < 10000,
  ∀ x : S128x128.Idx, (oW A4 b).view.read (Elt F) G x
    = A5.view.read (Elt F) fT (atT ⟨((iW A3 b).view.read (Elt F) fI (at1 (x 0))).toNat, hin _⟩ (x 1))

/-- Slot `p` of the rows holds block `b` of the output. -/
def Ready (p : Fin 2) (b : Fin 2500) (f : Buf (Elt F) ((dS AD p).view.loc (thr d L))) : Prop :=
  (dS AD p).view.read (Elt F) f = (oW A4 b).view.read (Elt F) G

def OReady (p : Fin 2) (b : Fin 2500) : sProp 𝕄 :=
  iprop((∃ f, ((dS AD p).view.loc (thr d L) ↦[(dS AD p).view.set]{fullShare} f) ∗ ⌜Ready d L A4 AD G p b f⌝)
    ∗ semVal (thr d L, SemLoc.dma (cell sO p)) 0)

/-- Slot `p`'s rows are being gathered. -/
def GFly (p : Fin 2) (b : Fin 2500) : sProp 𝕄 :=
  iprop(∃ f, Transfers.Flight countersEmb (thr d L) (.dma sG.sem) (default : HIx 1) 524288
      iprop((∃ g, ((dS AD p).view.loc (thr d L) ↦[(dS AD p).view.set]{fullShare} g) ∗ ⌜Ready d L A4 AD G p b g⌝)
        ∗ ((tabS A5).view.loc (thr d L) ↦[(tabS A5).view.set]{q5} fT) ∗ (list AI p).view.loc (thr d L) ↦[(list AI p).view.set]{fullShare} f)
    ∗ (A5.view.loc (thr d L) ↦[Finset.univ \ (tabS A5).view.set]{q5} fT)
    ∗ ((iS AI p).view.loc (thr d L) ↦[(iS AI p).view.set \ (list AI p).view.set]{fullShare} f)
    ∗ ⌜Landed d L A3 AI fI p b f⌝
    ∗ semVal (thr d L, SemLoc.dma (cell sI p)) 0 ∗ (A3.view.loc (thr d L) ↦{q p} fI)
    ∗ semVal (thr d L, SemLoc.dma (cell sO p)) 0)

variable [FloatOps F]

section Rules

variable {α : Type} {k : PUnit.{1} → Prog (TpuEff nD τ sig (Elt F) Λ₀ (.scVector (cV L) (jV L))) α}
  {Q : α → sProp (MT nD τ sig (HIx 1) (Elt F) ℕ UU ℕ)}

/-- Fetching block `b`'s row numbers into an idle slot. -/
theorem wp_fetch (p : Fin 2) (b : Fin 2500) {o4 : Fin 3 → ℕ} {o5 : Fin 2 → ℕ} {o6 : Fin 1 → ℕ}
    (e4 : o4 = ![p.val, 0, 0]) (e5 : o5 = ![0, 128 * b.val]) (e6 : o6 = ![p.val])
    {h4 : ∀ a, o4 a + S1x1x128.size a ≤ S2x1x128.size a} {h5 : ∀ a, o5 a + S1x128.size a ≤ S1x320000.size a}
    {h6 : ∀ a, o6 a + S1.size a ≤ S2.size a} {hsrc hdst hsem} :
    (IFree d L A3 AI sI q fI p : sProp 𝕄)
      ⊢ iprop((IFly d L A3 AI sI q fI p b -∗ wp frame (wpE (defs₀ (F := F)) 𝒱₀ (thr d L) none) Set.univ (k ⟨⟩) Q)
        -∗ wp frame (wpE (defs₀ (F := F)) 𝒱₀ (thr d L) none) Set.univ
          (.op (.enqueueDma (A3.slice (Rect.unit (s := S1x320000) o5 S1x128.size h5) (fun _ => rfl))
            (.here ((AI.slice (Rect.unit (s := S2x1x128) o4 S1x1x128.size h4) (fun _ => rfl)).squeeze S1x128 squeezes_S1x1x128_S1x128))
            (.dma ((sI.slice (Rect.unit (s := S2) o6 S1.size h6)).squeeze S_ squeezes_S1_S_).sem) hsrc hdst hsem) k) Q) := by
  subst e4 e5 e6
  unfold IFree IFly
  iintro ⟨⟨%f, Hs⟩, Hsem, Hi⟩ Hk
  ihave Hi' := (pointsTo_split_subset (q := q p) (f := fI) (S := Finset.univ) (Finset.subset_univ (iW A3 b).view.set)).1 $$ Hi
  icases Hi' with ⟨Hw, Hr⟩
  iapply (Transfers.wp_dmaLocal countersEmb 𝒱₀ (thr d L) none (src := iW A3 b) (dst := iS AI p) (via := .same) (sm := .dma (cell sI p))
    (default : HIx 1) 4096 rfl (by decide) (Finset.Subset.refl _)) $$ [Hs Hsem Hw]
  · isplitl [Hw]; · iexact Hw
    isplitl [Hs]; · iexact Hs
    iexact Hsem
  iintro Hfl
  iapply Hk
  isplitl [Hfl]
  · iapply (Transfers.Flight_mono countersEmb (thr d L) ?_) $$ Hfl
    iintro ⟨Hd, Hs⟩
    isplitl [Hd]
    · iexists _; isplitl [Hd]; · iexact Hd
      ipureintro
      unfold Landed
      rw [View.read_write_univ]
    · iexact Hs
  · iexact Hr

/-- Waiting for block `b`'s row numbers. -/
theorem wp_fetchWait (p : Fin 2) (b : Fin 2500) {o7 : Fin 3 → ℕ} {o8 : Fin 2 → ℕ} {o9 : Fin 1 → ℕ} (e9 : o9 = ![p.val])
    {h7 : ∀ a, o7 a + S1x1x128.size a ≤ S2x1x128.size a} {h8 : ∀ a, o8 a + S1x128.size a ≤ S1x320000.size a}
    {h9 : ∀ a, o9 a + S1.size a ≤ S2.size a} {hsrc hdst} {O : CellTallies nD τ sig (HIx 1)} {W : Waits sig (HIx 1)} :
    iprop(IFly d L A3 AI sI q fI p b ∗ owes (thr d L) O W ∗ Transfers.MayWaits (thr d L) (default : HIx 1) O : sProp 𝕄)
      ⊢ iprop((IHeld d L A3 AI sI q fI p b ∗ owes (thr d L) O (insert (SemLoc.dma (cell sI p), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((sI.slice (Rect.unit (s := S2) o9 S1.size h9)).squeeze S_ squeezes_S1_S_).sem
            (A3.slice (Rect.unit (s := S1x320000) o8 S1x128.size h8) (fun _ => rfl))
            ((AI.slice (Rect.unit (s := S2x1x128) o7 S1x1x128.size h7) (fun _ => rfl)).squeeze S1x128 squeezes_S1x1x128_S1x128)
            hsrc hdst) k) Q) := by
  subst e9
  unfold IFly IHeld
  iintro ⟨⟨Hfl, Hr⟩, HO, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma (cell sI p))) $$ Hmw
  iintro ⟨⟨Hs, Hw⟩, Hsem, HO⟩
  ihave Hi := (pointsTo_split_subset (q := q p) (f := fI) (S := Finset.univ) (Finset.subset_univ (iW A3 b).view.set)).2 $$ [Hw Hr]
  · isplitl [Hw]; · iexact Hw
    iexact Hr
  iapply Hk
  isplitl [Hs Hsem Hi]
  · isplitl [Hs]; · iexact Hs
    isplitl [Hsem]; · iexact Hsem
    iexact Hi
  · iexact HO

/-- Gathering the rows that slot `p`'s numbers name, into slot `p` of the rows. -/
theorem wp_gather (hG : Gathered d L A3 A4 A5 fI fT G) (p : Fin 2) (b : Fin 2500) {o10 o11 : Fin 3 → ℕ}
    (e10 : o10 = ![p.val, 0, 0]) (e11 : o11 = ![p.val, 0, 0])
    {h10 : ∀ a, o10 a + S1x128x128.size a ≤ S2x128x128.size a} {h11 : ∀ a, o11 a + S1x1x128.size a ≤ S2x1x128.size a}
    {hn hp hsrc he hsp hr} :
    iprop(IHeld d L A3 AI sI q fI p b ∗ OFree d L AD sO p ∗ (A5.view.loc (thr d L) ↦{q5} fT)
        ∗ semVal (thr d L, SemLoc.dma sG.sem) 0 : sProp 𝕄)
      ⊢ iprop((GFly d L A3 A4 A5 AI AD sI sO sG q q5 fI fT G p b -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp (A5.slice (Rect.unit (s := S10000x128) ![0, 0] S10000x128.size inb_S10000x128_S10000x128_0_0) (fun _ => rfl))
            ((AD.slice (Rect.unit (s := S2x128x128) o10 S1x128x128.size h10) (fun _ => rfl)).squeeze S128x128 squeezes_S1x128x128_S128x128)
            gathers_S10000x128_S128x128
            ((((AI.slice (Rect.unit (s := S2x1x128) o11 S1x1x128.size h11) (fun _ => rfl)).squeeze S1x128 squeezes_S1x1x128_S1x128).slice
              (Rect.unit (s := S1x128) ![0, 0] S1x128.size inb_S1x128_S1x128_0_0) (fun _ => rfl)).squeeze S128 squeezes_S1x128_S128)
            hn sG.sem hsrc he hsp hr >>= k) Q) := by
  subst e10 e11
  unfold IHeld OFree GFly
  iintro ⟨⟨⟨%f, Hs, %hf⟩, Hsem, Hi⟩, ⟨⟨%fd, Hd⟩, Hso⟩, HT, HsG⟩ Hk
  have hin : ∀ x, ((list AI p).view.read (Elt F) f x).toNat < S10000x128.size gathers_S10000x128_S128x128.axis := fun x => by
    rw [list_read, hf]; exact (hG b).1 _
  ihave HT' := (pointsTo_split_subset (q := q5) (f := fT) (S := Finset.univ) (Finset.subset_univ (tabS A5).view.set)).1 $$ HT
  icases HT' with ⟨HTs, HTr⟩
  ihave Hs' := (pointsTo_split_subset (q := fullShare) (f := f) (list_set AI p)).1 $$ Hs
  icases Hs' with ⟨Hl, Hlr⟩
  iapply (SparseCore.wp_indirectGatherLocal countersEmb 𝒱₀ (thr d L) none (src := tabS A5) (dst := dS AD p) (offs := list AI p)
    (hg := gathers_S10000x128_S128x128) (default : HIx 1) 524288
    ((SparseCore.sum_rowCredit_eq_dmaCredit (dS AD p) _ (fun _ => rfl)).trans rfl) (by decide) hin) $$ [HTs Hd Hl HsG]
  · isplitl [HTs]; · iexact HTs
    isplitl [Hd]; · iexact Hd
    isplitl [Hl]; · iexact Hl
    iexact HsG
  iintro Hfl
  iapply Hk
  iexists f
  isplitl [Hfl]
  · iapply (Transfers.Flight_mono countersEmb (thr d L) ?_) $$ Hfl
    iintro ⟨Hd, HT, Hl⟩
    isplitl [Hd]
    · iexists _; isplitl [Hd]; · iexact Hd
      ipureintro
      unfold Ready
      rw [View.read_write_univ]
      funext x
      rw [(hG b).2 x]
      unfold SparseCore.gatherPayload
      rw [gathers_idx, tabS_read]
      congr 1
      unfold SparseCore.rows
      congr 1
      apply Fin.ext
      show ((list AI p).view.read (Elt F) f _).toNat = ((iW A3 b).view.read (Elt F) fI _).toNat
      rw [list_read, hf]
      exact congrArg (fun j => ((iW A3 b).view.read (Elt F) fI (at1 j)).toNat) (list_coord hn (x 0))
    isplitl [HT]; · iexact HT
    iexact Hl
  isplitl [HTr]; · iexact HTr
  isplitl [Hlr]; · iexact Hlr
  isplitr [Hsem Hi Hso]; · ipureintro; exact hf
  isplitl [Hsem]; · iexact Hsem
  isplitl [Hi]; · iexact Hi
  iexact Hso

/-- Waiting for the gathered rows: the slot of row numbers is idle again, the slot of rows is ready to go out. -/
theorem wp_gatherWait (p : Fin 2) (b : Fin 2500) {o10 : Fin 3 → ℕ}
    {h10 : ∀ a, o10 a + S1x128x128.size a ≤ S2x128x128.size a} {hsrc hdst}
    {O : CellTallies nD τ sig (HIx 1)} {W : Waits sig (HIx 1)} :
    iprop(GFly d L A3 A4 A5 AI AD sI sO sG q q5 fI fT G p b ∗ owes (thr d L) O W ∗ Transfers.MayWaits (thr d L) (default : HIx 1) O : sProp 𝕄)
      ⊢ iprop((IFree d L A3 AI sI q fI p ∗ OReady d L A4 AD sO G p b ∗ (A5.view.loc (thr d L) ↦{q5} fT)
            ∗ semVal (thr d L, SemLoc.dma sG.sem) 0 ∗ owes (thr d L) O (insert (SemLoc.dma sG.sem, (default : HIx 1)) W)
            -∗ wp frame (wpE (defs₀ (F := F)) 𝒱₀ (thr d L) none) Set.univ (k ⟨⟩) Q)
        -∗ wp frame (wpE (defs₀ (F := F)) 𝒱₀ (thr d L) none) Set.univ
          (SparseCore.waitIndirectGather sG.sem (A5.slice (Rect.unit (s := S10000x128) ![0, 0] S10000x128.size inb_S10000x128_S10000x128_0_0) (fun _ => rfl))
            ((AD.slice (Rect.unit (s := S2x128x128) o10 S1x128x128.size h10) (fun _ => rfl)).squeeze S128x128 squeezes_S1x128x128_S128x128)
            hsrc hdst >>= k) Q) := by
  change _ ⊢ iprop(_ -∗ wp frame _ Set.univ (Prog.op (TpuEff.waitDma2 sG.sem _ _ hsrc hdst) k) Q)
  unfold GFly IFree OReady
  iintro ⟨⟨%f, Hfl, HTr, Hlr, -, Hsem, Hi, Hso⟩, HO, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma sG.sem)) $$ Hmw
  iintro ⟨⟨Hd, HTs, Hl⟩, HsG, HO⟩
  ihave HT := (pointsTo_split_subset (q := q5) (f := fT) (S := Finset.univ) (Finset.subset_univ (tabS A5).view.set)).2 $$ [HTs HTr]
  · isplitl [HTs]; · iexact HTs
    iexact HTr
  ihave Hs := (pointsTo_split_subset (q := fullShare) (f := f) (list_set AI p)).2 $$ [Hl Hlr]
  · isplitl [Hl]; · iexact Hl
    iexact Hlr
  iapply Hk
  isplitl [Hs Hsem Hi]
  · isplitl [Hs]; · iexists f; iexact Hs
    isplitl [Hsem]; · iexact Hsem
    iexact Hi
  isplitl [Hd Hso]
  · isplitl [Hd]; · iexact Hd
    iexact Hso
  isplitl [HT]; · iexact HT
  isplitl [HsG]; · iexact HsG
  iexact HO

/-- Sending slot `p`'s rows out to block `b`. -/
theorem wp_send (p : Fin 2) (b : Fin 2500) (f0 : Buf (Elt F) (A4.view.loc (thr d L))) {o12 : Fin 3 → ℕ} {o13 : Fin 2 → ℕ} {o14 : Fin 1 → ℕ}
    (e12 : o12 = ![p.val, 0, 0]) (e13 : o13 = ![128 * b.val, 0]) (e14 : o14 = ![p.val])
    {h12 : ∀ a, o12 a + S1x128x128.size a ≤ S2x128x128.size a} {h13 : ∀ a, o13 a + S128x128.size a ≤ S320000x128.size a}
    {h14 : ∀ a, o14 a + S1.size a ≤ S2.size a} {hsrc hdst hsem} :
    iprop(OReady d L A4 AD sO G p b ∗ ((oW A4 b).view.loc (thr d L) ↦[(oW A4 b).view.set]{fullShare} f0) : sProp 𝕄)
      ⊢ iprop((OFly d L A4 AD sO G p b -∗ wp frame (wpE (defs₀ (F := F)) 𝒱₀ (thr d L) none) Set.univ (k ⟨⟩) Q)
        -∗ wp frame (wpE (defs₀ (F := F)) 𝒱₀ (thr d L) none) Set.univ
          (.op (.enqueueDma ((AD.slice (Rect.unit (s := S2x128x128) o12 S1x128x128.size h12) (fun _ => rfl)).squeeze S128x128 squeezes_S1x128x128_S128x128)
            (.here (A4.slice (Rect.unit (s := S320000x128) o13 S128x128.size h13) (fun _ => rfl)))
            (.dma ((sO.slice (Rect.unit (s := S2) o14 S1.size h14)).squeeze S_ squeezes_S1_S_).sem) hsrc hdst hsem) k) Q) := by
  subst e12 e13 e14
  unfold OReady OFly
  iintro ⟨⟨⟨%f, Hd, %hf⟩, Hsem⟩, Ho⟩ Hk
  iapply (Transfers.wp_dmaLocal countersEmb 𝒱₀ (thr d L) none (src := dS AD p) (dst := oW A4 b) (via := .same) (sm := .dma (cell sO p))
    (default : HIx 1) 524288 rfl (by decide) (Finset.Subset.refl _)) $$ [Hd Hsem Ho]
  · isplitl [Hd]; · iexact Hd
    isplitl [Ho]; · iexact Ho
    iexact Hsem
  iintro Hfl
  iapply Hk
  iapply (Transfers.Flight_mono countersEmb (thr d L) ?_) $$ Hfl
  iintro ⟨Ho, Hd⟩
  isplitl [Ho]
  · iapply (Entails.of_eq (pointsTo_congr ?_)) $$ Ho
    intro i hi
    obtain ⟨x, -, rfl⟩ := Finset.mem_map.1 hi
    have h1 := congrFun (View.read_write_univ (v := (oW A4 b).view) (Val := Elt F) f0 (ReadAs.same.apply ((dS AD p).view.read (Elt F) f))) x
    rw [View.read_apply] at h1
    have h2 := congrFun hf x
    rw [View.read_apply (v := (oW A4 b).view)] at h2
    exact (cast_inj _).1 (h1.trans h2)
  · iexists f; iexact Hd

/-- Waiting for block `b` to be out. -/
theorem wp_sendWait (p : Fin 2) (b : Fin 2500) {o15 : Fin 3 → ℕ} {o16 : Fin 2 → ℕ} {o17 : Fin 1 → ℕ} (e17 : o17 = ![p.val])
    {h15 : ∀ a, o15 a + S1x128x128.size a ≤ S2x128x128.size a} {h16 : ∀ a, o16 a + S128x128.size a ≤ S320000x128.size a}
    {h17 : ∀ a, o17 a + S1.size a ≤ S2.size a} {hsrc hdst} {O : CellTallies nD τ sig (HIx 1)} {W : Waits sig (HIx 1)} :
    iprop(OFly d L A4 AD sO G p b ∗ owes (thr d L) O W ∗ Transfers.MayWaits (thr d L) (default : HIx 1) O : sProp 𝕄)
      ⊢ iprop((OFree d L AD sO p ∗ ((oW A4 b).view.loc (thr d L) ↦[(oW A4 b).view.set]{fullShare} G)
            ∗ owes (thr d L) O (insert (SemLoc.dma (cell sO p), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((sO.slice (Rect.unit (s := S2) o17 S1.size h17)).squeeze S_ squeezes_S1_S_).sem
            ((AD.slice (Rect.unit (s := S2x128x128) o15 S1x128x128.size h15) (fun _ => rfl)).squeeze S128x128 squeezes_S1x128x128_S128x128)
            (A4.slice (Rect.unit (s := S320000x128) o16 S128x128.size h16) (fun _ => rfl)) hsrc hdst) k) Q) := by
  subst e17
  unfold OFly OFree
  iintro ⟨Hfl, HO, Hmw⟩ Hk
  iapply (Transfers.wp_waitLocalO countersEmb 𝒱₀ (thr d L) none (default : HIx 1) (oW_credit A4)) $$ [Hfl HO Hmw]
  · isplitl [Hfl]; · iexact Hfl
    isplitl [HO]; · iexact HO
    iapply (Transfers.MayWaits.elim (SemLoc.dma (cell sO p))) $$ Hmw
  iintro ⟨⟨Ho, Hd⟩, Hsem, HO⟩
  iapply Hk
  isplitl [Hd Hsem]
  · isplitl [Hd]; · iexact Hd
    iexact Hsem
  isplitl [Ho]; · iexact Ho
  iexact HO

end Rules

end Held

end Cert.Proof.Steps

end
-- ==== Proof.Loop.lean ====
/-
  One trip of a tile's pipeline, its loop, and the tile's run from the filled shared table to its last block sent out.
-/
module

public import proofs.«01_k».proof.Proof.Steps

@[expose] public section

noncomputable section

namespace Cert.Proof.Loop

open Cert.KernelIdeal Cert.KernelIdeal.Gen Cert.Proof.Words Cert.Proof.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)
variable (A2 : Memref sig .scVector .hbm S10000x128 .f32) (h2 : A2.IsWhole)
  (A3 : Memref sig .scVector .hbm S1x320000 .i32) (h3 : A3.IsWhole) (A4 : Memref sig .scVector .hbm S320000x128 .f32) (h4 : A4.IsWhole)
  (A5 : Memref sig .scVector .shared S10000x128 .f32) (h5 : A5.IsWhole) (s6 : DmaSems sig S_)
  (AI : Memref sig .scVector .vmem S2x1x128 .i32) (hI : AI.IsWhole) (sI : DmaSems sig S2)
  (AD : Memref sig .scVector .vmem S2x128x128 .f32) (hD : AD.IsWhole) (sO : DmaSems sig S2) (sG sG' : DmaSems sig S_)
variable (q : Fin 2 → PosShare TreeShare) (q5 : PosShare TreeShare)
variable (fI : Buf (Elt F) (A3.view.loc (thr d L))) (fT : Buf (Elt F) (A5.view.loc (thr d L)))
  (f0 G : Buf (Elt F) (A4.view.loc (thr d L)))

/-- Block `t` of the tile, still to be written, and written. -/
def Todo (t : ℕ) : sProp 𝕄 := iprop((oW A4 (blk L t)).view.loc (thr d L) ↦[(oW A4 (blk L t)).view.set]{fullShare} f0)
def Done (t : ℕ) : sProp 𝕄 := iprop((oW A4 (blk L t)).view.loc (thr d L) ↦[(oW A4 (blk L t)).view.set]{fullShare} G)

/-- The slots before trip `t`: its own block's numbers on their way, the other slot's numbers idle, its own slot of rows
    idle, and the other slot's rows on their way out (but before the first trip). -/
def Slots (t : ℕ) : sProp 𝕄 :=
  iprop((if t < nBlk L then IFly d L A3 AI sI q fI (par t) (blk L t) else IFree d L A3 AI sI q fI (par t))
    ∗ IFree d L A3 AI sI q fI (par (t + 1))
    ∗ OFree d L AD sO (par t)
    ∗ (if 0 < t then OFly d L A4 AD sO G (par (t + 1)) (blk L (t - 1)) else OFree d L AD sO (par (t + 1))))

/-- What the tile keeps through its loop: the table's share, the gather's semaphore, and what it owes. -/
def Kept (O : CellTallies nD τ sig (HIx 1)) (W : Waits sig (HIx 1)) : sProp 𝕄 :=
  iprop((A5.view.loc (thr d L) ↦{q5} fT) ∗ semVal (thr d L, SemLoc.dma sG.sem) 0
    ∗ ∃ W', ⌜∀ p ∈ W', p ∈ W ∨ p.2 = none⌝ ∗ owes (thr d L) O W')

/-- A choice already made. -/
theorem choose_pos {c : Prop} [Decidable c] (h : c) (A B : sProp 𝕄) : A ⊢ (if c then A else B) := by rw [if_pos h]
theorem choose_neg {c : Prop} [Decidable c] (h : ¬c) (A B : sProp 𝕄) : B ⊢ (if c then A else B) := by rw [if_neg h]

variable [FloatOps F]

set_option maxHeartbeats 1000000 in
theorem trip (hG : Gathered d L A3 A4 A5 fI fT G) (t : Trip L) {a8 a9 a10 a11 a12 : BitVec 32}
    (hw : (a8, a9, a10, a11, a12) = tripWords L t) (v14 v44 c0 c1 c2 c3 c4 v48 : BitVec 32) {O : CellTallies nD τ sig (HIx 1)} {W : Waits sig (HIx 1)} :
    iprop(Transfers.MayWaits (thr d L) (default : HIx 1) O ∗ Slots d L A3 A4 AI sI AD sO q fI G t ∗ Kept d L A5 sG q5 fT O W ∗ Todo d L A4 f0 t : sProp 𝕄)
      ⊢ wp frame (wpE (defs₀ (F := F)) 𝒱₀ (thr d L) none) Set.univ
        (k0_t1_body (F := F) L A2 h2 A3 h3 A4 h4 A5 h5 s6 AI hI sI AD hD sO sG sG' (w8 L) (w13 L) v14 (cond2 L) v44 0#32 c0 c1 c2 c3 v48 t (a8, a9, a10, a11, a12))
        fun r => iprop(⌜r = tripWords L (t + 1)⌝ ∗ Slots d L A3 A4 AI sI AD sO q fI G (t + 1) ∗ Kept d L A5 sG q5 fT O W
          ∗ if 0 < t.val then Done d L A4 G (t - 1) else emp) := by
  have e8 : a8 = (tripWords L t).1 := congrArg (·.1) hw
  have e9 : a9 = (tripWords L t).2.1 := congrArg (·.2.1) hw
  have e10 : a10 = (tripWords L t).2.2.1 := congrArg (·.2.2.1) hw
  have e11 : a11 = (tripWords L t).2.2.2.1 := congrArg (·.2.2.2.1) hw
  have e12 : a12 = (tripWords L t).2.2.2.2 := congrArg (·.2.2.2.2) hw
  unfold k0_t1_body
  simp only [k0_part1_eq_skeleton, k0_part2_eq_skeleton]
  unfold k0_part1_skel k0_part2_skel
  have hc4 := cond4 L t
  have hc5 := cond5 L t
  have hc8 := cond8 L t
  have hc10 := cond10 L t
  rw [← e12] at hc4 hc5 hc8 hc10
  have h5 := off9 L t
  have h10 := off10 L t
  have h11 := off11 L t
  have h12 := off12 L t
  have h13 := off13 L t
  have h14 := off14 L t
  rw [← e9] at h5 h11
  rw [← e10] at h10 h12 h14
  rw [← e12] at h13
  simp only [hc5, hc8, dif_pos, ite_self, bind_assoc, pure_bind, Prog.bind_lift, Prog.bind_op, Prog.bind_pure]
  rw [wp_assume_of 𝒱₀ (thr d L) none _ (by rw [e9]; exact chk3 L t), wp_assume_of 𝒱₀ (thr d L) none _ (by rw [e10]; exact chk2 L t),
    wp_assume_of 𝒱₀ (thr d L) none _ (by rw [e8, e9, e10, e11, e12]; exact chk1 L t)]
  unfold Slots Kept Todo
  rw [if_pos t.lt]
  iintro ⟨#Hmw, ⟨Hi0, Hi1, Ho0, Ho1⟩, ⟨HT, HsG, %W', %hW, HO⟩, Htodo⟩
  have hs := step_eq L t
  rw [← e8, ← e9, ← e10, ← e11, ← e12] at hs
  dsimp only [stepWords] at hs
  have hpar : par (t.val + 1 + 1) = par t := par_add_two t
  by_cases hn : t.val + 1 < nBlk L
  on_goal 1 =>
    rw [dif_pos (hc4.2 hn)]
    iapply (wp_fetch d L A3 AI sI q fI (par (t + 1)) (blk L (t + 1)) (by rw [e8]; exact off4 L t hn) (by rw [e12]; exact off5 L t hn)
      (by rw [e8]; exact off6 L t hn)) $$ Hi1
    iintro Hi1
    ihave Hi1 := (choose_pos hn _ (IFree d L A3 AI sI q fI (par (t.val + 1)))) $$ Hi1
  on_goal 2 =>
    rw [dif_neg (fun h => hn (hc4.1 h))]
    ihave Hi1 := (choose_neg hn (IFly d L A3 AI sI q fI (par (t.val + 1)) (blk L (t.val + 1))) _) $$ Hi1
  all_goals
    iapply (wp_fetchWait d L A3 AI sI q fI (par t) (blk L t) h5) $$ [Hi0 HO]
    · isplitl [Hi0]; · iexact Hi0
      isplitl [HO]; · iexact HO
      iexact Hmw
    iintro ⟨Hi0, HO⟩
    iapply (wp_gather d L A3 A4 A5 AI AD sI sO sG q q5 fI fT G hG (par t) (blk L t) h10 h11) $$ [Hi0 Ho0 HT HsG]
    · isplitl [Hi0]; · iexact Hi0
      isplitl [Ho0]; · iexact Ho0
      isplitl [HT]; · iexact HT
      iexact HsG
    iintro Hg
    iapply (wp_gatherWait d L A3 A4 A5 AI AD sI sO sG q q5 fI fT G (par t) (blk L t)) $$ [Hg HO]
    · isplitl [Hg]; · iexact Hg
      isplitl [HO]; · iexact HO
      iexact Hmw
    iintro ⟨Hi0, Ho0, HT, HsG, HO⟩
    iapply (wp_send d L A4 AD sO G (par t) (blk L t) f0 h12 h13 h14) $$ [Ho0 Htodo]
    · isplitl [Ho0]; · iexact Ho0
      iexact Htodo
    iintro Ho0
    ihave Ho0 := (choose_pos (Nat.succ_pos t.val) (OFly d L A4 AD sO G (par (t.val + 1 + 1)) (blk L (t.val + 1 - 1))) (OFree d L AD sO (par (t.val + 1 + 1)))) $$ [Ho0]
    · rw [hpar]; iexact Ho0
    ihave Hi0 := (Entails.of_eq (show IFree d L A3 AI sI q fI (par t.val) = IFree d L A3 AI sI q fI (par (t.val + 1 + 1)) by rw [hpar])) $$ Hi0
    by_cases ht : 0 < t.val
    on_goal 1 =>
      ihave Ho1 := (Entails.of_eq (if_pos ht)) $$ Ho1
      rw [dif_pos (hc10.2 ht), if_pos ht]
      unfold Done
      iapply (wp_sendWait d L A4 AD sO G (par (t + 1)) (blk L (t - 1)) (by rw [e11]; exact off17 L t ht)) $$ [Ho1 HO]
      · isplitl [Ho1]; · iexact Ho1
        isplitl [HO]; · iexact HO
        iexact Hmw
      iintro ⟨Ho1, Hdone, HO⟩
    on_goal 2 =>
      ihave Ho1 := (Entails.of_eq (if_neg ht)) $$ Ho1
      rw [dif_neg (fun h => ht (hc10.1 h)), if_neg ht]
      ihave Hdone := (show (emp : sProp 𝕄) ⊢ emp from .rfl) $$ []
      · iempintro
    all_goals
      rw [wp_pure]
      imodintro
      isplitr
      · ipureintro
        dsimp only
        exact hs
      isplitl [Hi0 Hi1 Ho0 Ho1]
      · isplitl [Hi1]; · iexact Hi1
        isplitl [Hi0]; · iexact Hi0
        isplitl [Ho1]; · iexact Ho1
        iexact Ho0
      isplitl [HT HsG HO]
      · isplitl [HT]; · iexact HT
        isplitl [HsG]; · iexact HsG
        iexists _
        isplitr [HO]
        swap
        · iexact HO
        ipureintro
        intro p hp
        repeat (rcases Finset.mem_insert.1 hp with rfl | hp; · exact .inr rfl)
        exact hW p hp
      iexact Hdone

/-- The first counter the loop is entered with. -/
theorem first_word : ∀ i : grid0.Coords, Scalar.select (Scalar.andi 1#1 (Scalar.cmpi .sgt (Scalar.muli 1#32 (w8 i)) 0#32)) (Scalar.addi 0#32 1#32) 0#32
    = (tripWords i 0).1 := by decide +kernel

/-- Before the loop: the first block's row numbers are fetched. -/
theorem part5 (v14 : BitVec 32) {α : Type} {Q : α → sProp (MT nD τ sig (HIx 1) (Elt F) ℕ UU ℕ)}
    {k : (Σ' (_ : BitVec 32) (_ : BitVec 32) (_ : BitVec 32) (_ : BitVec 32) (_ : BitVec 32) (_ : BitVec 32), BitVec 32) →
      Prog (TpuEff nD τ sig (Elt F) Λ₀ (.scVector (cV L) (jV L))) α} :
    (IFree d L A3 AI sI q fI (par 0) : sProp 𝕄)
      ⊢ iprop((∀ v48, IFly d L A3 AI sI q fI (par 0) (blk L 0)
            -∗ wp frame (wpE (defs₀ (F := F)) 𝒱₀ (thr d L) none) Set.univ (k ⟨(tripWords L 0).1, 0#32, 0#32, 0#32, 0#32, 0#32, v48⟩) Q)
        -∗ wp frame (wpE (defs₀ (F := F)) 𝒱₀ (thr d L) none) Set.univ
        (k0_part5 (F := F) L A2 h2 A3 h3 A4 h4 A5 h5 s6 AI hI sI AD hD sO sG sG' (w8 L) (w13 L) v14 (cond2 L) >>= k) Q) := by
  simp only [k0_part5_eq_skeleton]
  unfold k0_part5_skel
  simp only [cond3 L, dif_pos, bind_assoc, pure_bind, Prog.bind_lift, Prog.bind_op, first_word]
  iintro Hi Hk
  iapply (wp_fetch d L A3 AI sI q fI (par 0) (blk L 0) off1 (off2 L) off3) $$ Hi
  iintro Hi
  iapply Hk $$ %_ Hi

/-- Before trip `t`: the counters, the slots, what is kept, the blocks still to be written and those written. -/
def Inv (O : CellTallies nD τ sig (HIx 1)) (W : Waits sig (HIx 1)) (t : ℕ) (acc : BitVec 32 × BitVec 32 × BitVec 32 × BitVec 32 × BitVec 32) : sProp 𝕄 :=
  iprop(⌜acc = tripWords L t⌝ ∗ □ Transfers.MayWaits (thr d L) (default : HIx 1) O ∗ Slots d L A3 A4 AI sI AD sO q fI G t ∗ Kept d L A5 sG q5 fT O W
    ∗ bigSep (Finset.Ico t (nBlk L)) (Todo d L A4 f0) ∗ bigSep (Finset.range (t - 1)) (Done d L A4 G))

theorem inv_step (hG : Gathered d L A3 A4 A5 fI fT G) (v14 v44 c0 c1 c2 c3 v48 : BitVec 32) (O : CellTallies nD τ sig (HIx 1)) (W : Waits sig (HIx 1))
    (t : Trip L) (acc : BitVec 32 × BitVec 32 × BitVec 32 × BitVec 32 × BitVec 32) :
    (Inv d L A3 A4 A5 AI sI AD sO sG q q5 fI fT f0 G O W t acc : sProp 𝕄)
      ⊢ wp frame (wpE (defs₀ (F := F)) 𝒱₀ (thr d L) none) Set.univ
        (k0_t1_body (F := F) L A2 h2 A3 h3 A4 h4 A5 h5 s6 AI hI sI AD hD sO sG sG' (w8 L) (w13 L) v14 (cond2 L) v44 0#32 c0 c1 c2 c3 v48 t acc)
        (Inv d L A3 A4 A5 AI sI AD sO sG q q5 fI fT f0 G O W (t + 1)) := by
  obtain ⟨a8, a9, a10, a11, a12⟩ := acc
  unfold Inv
  have hS : Finset.Ico t.val (nBlk L) = insert t.val (Finset.Ico (t.val + 1) (nBlk L)) := by
    ext x; simp only [Finset.mem_Ico, Finset.mem_insert]; have := t.lt; omega
  rw [hS, SparseCore.bigSep_insert' (by simp)]
  iintro ⟨%hw, #Hmw, Hslots, Hkept, ⟨Htodo, Hrest⟩, Hdone⟩
  iapply (wp_wand frame (wpE (defs₀ (F := F)) 𝒱₀ (thr d L) none)) $$ [Hslots Hkept Htodo]
  · iapply (trip d L A2 h2 A3 h3 A4 h4 A5 h5 s6 AI hI sI AD hD sO sG sG' q q5 fI fT f0 G hG t hw v14 v44 c0 c1 c2 c3 v48)
    isplitr; · iexact Hmw
    isplitl [Hslots]; · iexact Hslots
    isplitl [Hkept]; · iexact Hkept
    iexact Htodo
  iintro %r ⟨%hr, Hslots, Hkept, Hone⟩
  isplitr; · ipureintro; exact hr
  isplitr; · imodintro; iexact Hmw
  isplitl [Hslots]; · iexact Hslots
  isplitl [Hkept]; · iexact Hkept
  isplitl [Hrest]; · iexact Hrest
  by_cases ht : 0 < t.val
  · ihave Hone := (Entails.of_eq (if_pos ht)) $$ Hone
    have : Finset.range (t.val + 1 - 1) = insert (t.val - 1) (Finset.range (t.val - 1)) := by
      ext x; simp only [Finset.mem_range, Finset.mem_insert]; omega
    rw [this, SparseCore.bigSep_insert' (by simp)]
    isplitl [Hone]; · iexact Hone
    iexact Hdone
  · have : t.val + 1 - 1 = t.val - 1 := by omega
    rw [this]
    iexact Hdone

/-- The counters the loop is entered with. -/
theorem zero_words : ∀ i : grid0.Coords, ((tripWords i 0).1, (0#32, 0#32, 0#32, 0#32)) = tripWords i 0 := by decide +kernel

/-- The four slots idle. -/
def Idle (t : ℕ) : sProp 𝕄 :=
  iprop(IFree d L A3 AI sI q fI (par t) ∗ IFree d L A3 AI sI q fI (par (t + 1)) ∗ OFree d L AD sO (par t) ∗ OFree d L AD sO (par (t + 1)))

theorem idle_succ (t : ℕ) : (Idle d L A3 AI sI AD sO q fI (t + 1) : sProp 𝕄) ⊢ Idle d L A3 AI sI AD sO q fI t := by
  unfold Idle
  rw [show par (t + 1 + 1) = par t from par_add_two t]
  iintro ⟨Hi1, Hi0, Ho1, Ho0⟩
  isplitl [Hi0]; · iexact Hi0
  isplitl [Hi1]; · iexact Hi1
  isplitl [Ho0]; · iexact Ho0
  iexact Ho1

theorem idle_zero : ∀ t : ℕ, (Idle d L A3 AI sI AD sO q fI t : sProp 𝕄) ⊢ Idle d L A3 AI sI AD sO q fI 0
  | 0 => .rfl
  | t + 1 => (idle_succ d L A3 AI sI AD sO q fI t).trans (idle_zero t)

/-- The loop and what follows it: every block of the tile ends written, and the slots idle. -/
theorem part6 (hG : Gathered d L A3 A4 A5 fI fT G) (v14 v48 : BitVec 32) {O : CellTallies nD τ sig (HIx 1)} {W : Waits sig (HIx 1)}
    {Q : PUnit → sProp (MT nD τ sig (HIx 1) (Elt F) ℕ UU ℕ)} :
    (Inv d L A3 A4 A5 AI sI AD sO sG q q5 fI fT f0 G O W 0 (tripWords L 0) : sProp 𝕄)
      ⊢ iprop((Idle d L A3 AI sI AD sO q fI 0 ∗ Kept d L A5 sG q5 fT O W ∗ bigSep (Finset.range (nBlk L)) (Done d L A4 G) -∗ Q ⟨⟩)
        -∗ wp frame (wpE (defs₀ (F := F)) 𝒱₀ (thr d L) none) Set.univ
        (k0_part6 (F := F) L A2 h2 A3 h3 A4 h4 A5 h5 s6 AI hI sI AD hD sO sG sG' (w8 L) (w13 L) v14 (cond2 L)
          (tripWords L 0).1 0#32 0#32 0#32 0#32 0#32 v48) Q) := by
  simp only [k0_part6_eq_skeleton]
  unfold k0_part6_skel
  simp only [cond19 L, dif_pos, dite_eq_ite, ite_self, bind_assoc, pure_bind, Prog.bind_lift, Prog.bind_op, Prog.bind_pure]
  iintro Hinv Hk
  iapply (Scf.wp_for_bind frame (wpE (defs₀ (F := F)) 𝒱₀ (thr d L) none) Set.univ _ _ _ _ _ _
    (fun k acc => Inv d L A3 A4 A5 AI sI AD sO sG q q5 fI fT f0 G O W k acc)
    (fun k acc => inv_step d L A2 h2 A3 h3 A4 h4 A5 h5 s6 AI hI sI AD hD sO sG sG' q q5 fI fT f0 G hG v14 _ _ _ _ _ _ O W k acc)) $$ [Hinv]
  · rw [zero_words L]; iexact Hinv
  iintro %acc Hinv
  ihave Hinv := (Entails.of_eq (congrArg (fun n => Inv d L A3 A4 A5 AI sI AD sO sG q q5 fI fT f0 G O W n acc) (trips_eq L))) $$ Hinv
  iapply (Scf.wp_for_bind frame (wpE (defs₀ (F := F)) 𝒱₀ (thr d L) none) Set.univ _ _ _ _ _ _
    (fun _ acc => Inv d L A3 A4 A5 AI sI AD sO sG q q5 fI fT f0 G O W (nBlk L) acc)
    (fun k acc => absurd k.isLt (by have := trips2_eq L; show ¬ k.val < (k0_t2_loop L).trips; omega))) $$ [Hinv]
  · iexact Hinv
  iintro %acc Hinv
  obtain ⟨a8, a9, a10, a11, a12⟩ := acc
  unfold Inv Slots Kept
  icases Hinv with ⟨%hw, #Hmw, ⟨Hi0, Hi1, Ho0, Ho1⟩, ⟨HT, HsG, %W', %hW, HO⟩, Htodo, Hdone⟩
  have e11 : a11 = (tripWords L (nBlk L)).2.2.2.1 := congrArg (·.2.2.2.1) hw
  have e12 : a12 = (tripWords L (nBlk L)).2.2.2.2 := congrArg (·.2.2.2.2) hw
  have hn := nBlk_pos L
  ihave Hi0 := (Entails.of_eq (if_neg (lt_irrefl (nBlk L)))) $$ Hi0
  ihave Ho1 := (Entails.of_eq (if_pos hn)) $$ Ho1
  rw [wp_assume_of 𝒱₀ (thr d L) none _ (by rw [e12]; exact chk8 L), wp_assume_of 𝒱₀ (thr d L) none _ (by rw [e11]; exact chk7 L)]
  iapply (wp_sendWait d L A4 AD sO G (par (nBlk L + 1)) (blk L (nBlk L - 1)) (by rw [e11]; exact off34 L)) $$ [Ho1 HO]
  · isplitl [Ho1]; · iexact Ho1
    isplitl [HO]; · iexact HO
    iexact Hmw
  iintro ⟨Ho1, Hlast, HO⟩
  rw [wp_pure]
  imodintro
  iapply Hk
  isplitl [Hi0 Hi1 Ho0 Ho1]
  · iapply (idle_zero d L A3 AI sI AD sO q fI (nBlk L))
    unfold Idle
    isplitl [Hi0]; · iexact Hi0
    isplitl [Hi1]; · iexact Hi1
    isplitl [Ho0]; · iexact Ho0
    iexact Ho1
  isplitl [HT HsG HO]
  · isplitl [HT]; · iexact HT
    isplitl [HsG]; · iexact HsG
    iexists _
    isplitr
    rotate_left
    · iexact HO
    · ipureintro
      intro p hp
      rcases Finset.mem_insert.1 hp with rfl | hp
      · exact .inr rfl
      · exact hW p hp
  · have : Finset.range (nBlk L) = insert (nBlk L - 1) (Finset.range (nBlk L - 1)) := by
      ext x; simp only [Finset.mem_range, Finset.mem_insert]; omega
    rw [this, SparseCore.bigSep_insert' (by simp)]
    isplitl [Hlast]; · unfold Done; iexact Hlast
    iexact Hdone

end

end Cert.Proof.Loop

end
-- ==== Proof.Tile.lean ====
/-
  One tile's whole task: the SparseCore's first tile fills the shared table, every tile meets the others at the subcore
  barrier, where the first hands each a share of the filled table, and then gathers its own blocks.
-/
module

public import proofs.«01_k».proof.Proof.Loop
public import Idealize.ShloMosaic.Lib.StableHlo.Run
public import Idealize.ShloMosaic.Lib.Pipeline.Kit

@[expose] public section

noncomputable section

namespace Cert.Proof.Tile

open Cert.KernelIdeal Cert.KernelIdeal.Gen Cert.Proof.Words Cert.Proof.Steps Cert.Proof.Loop

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL
/-- Where the barrier cells' rounds sit in the ghost state. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers -/

abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- A SparseCore's shared table, as each of its tiles addresses it. -/
abbrev shRef (c : Fin τ.nSC) : DevRef τ sig := ⟨.shared, ⟨0, by decide⟩, c⟩
abbrev shLoc (d : Dev nD) (c : Fin τ.nSC) : Loc nD τ sig := (d, shRef c)

abbrev tV : Memref sig .scVector .hbm S10000x128 .f32 := Memref.whole main_arg0_scv
abbrev iV : Memref sig .scVector .hbm S1x320000 .i32 := Memref.whole main_v0_scv
abbrev oV : Memref sig .scVector .hbm S320000x128 .f32 := Memref.whole main_v1_scv
abbrev shV : Memref sig .scVector .shared S10000x128 .f32 := Memref.whole cc0_scratch0
abbrev nB : Memref sig .scVector .vmem S2x1x128 .i32 := Memref.whole cc0_scoped0
abbrev rB : Memref sig .scVector .vmem S2x128x128 .f32 := Memref.whole cc0_scoped2

/-! ## Shares -/

/-- A SparseCore's half of an array all tiles read; a tile's part of that; a slot's half of that; a tile's part of its
    SparseCore's shared table. -/
abbrev qC (c : Fin 2) : PosShare TreeShare := Transfers.dealOf fullShare Finset.univ c
abbrev qT (c : Fin 2) (i : Fin 16) : PosShare TreeShare := Transfers.dealOf (qC c) Finset.univ i
abbrev qP (c : Fin 2) (i : Fin 16) (p : Fin 2) : PosShare TreeShare := Transfers.dealOf (qT c i) Finset.univ p
abbrev qS (i : Fin 16) : PosShare TreeShare := Transfers.dealOf fullShare Finset.univ i

theorem deal {ℓ : Loc nD τ sig} {I : Finset (Idx ℓ)} {f : Buf (Elt F) ℓ} (q : PosShare TreeShare) (n : ℕ) :
    (ℓ ↦[I]{q} f : sProp 𝕄) = bigSep Finset.univ fun i : Fin (n + 1) => ℓ ↦[I]{Transfers.dealOf q Finset.univ i} f :=
  Transfers.pointsTo_deal Finset.univ ⟨0, Finset.mem_univ _⟩ q

/-! ## What the arrays hold -/

variable (tb : (d : Dev nD) → Buf (Elt F) (tLoc d)) (ib : (d : Dev nD) → Buf (Elt F) (iLoc d)) (o0 og : (d : Dev nD) → Buf (Elt F) (oLoc d))

/-- The filled shared table. -/
abbrev shTab (d : Dev nD) (c : Fin τ.nSC) : Buf (Elt F) (shLoc d c) := tb d

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What the duties of tile `j`'s round hand over: the first tile's, tile `j`'s share of the filled table; the others', nothing. -/
def bPay (g : GSem nD τ sig) (n : ℕ) : sProp 𝕄 :=
  match g with
  | ((d, .scVector c j), _) => if n = 0 then iprop(shLoc d c ↦{qS j} shTab tb d c) else iprop(emp)
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay tb g n
  amount_pos _ _ _ _ := Nat.one_pos

instance bRd_payload_storable (g : GSem nD τ sig) (r n : ℕ) : BI.Storable (upEmb : UEmb _ 𝕄) ((bRd tb).payload g r n) := by
  show BI.Storable upEmb (bPay tb g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd tb).duties (bcell d c j) 0 = (Finset.univ : Finset (Fin τ.nSub)).image Fin.val := by
  simp [bRd, isBar]
theorem bRd_duties_succ (g : GSem nD τ sig) (r : ℕ) (hr : 1 ≤ r) : (bRd tb).duties g r = ∅ :=
  if_neg fun h => absurd h.2 (Nat.ne_of_gt hr)
theorem bRd_mem₀ (d : Dev nD) (c : Fin τ.nSC) (j i : Fin τ.nSub) : i.val ∈ (bRd tb).duties (bcell d c j) 0 := by
  rw [bRd_duties₀]; exact Finset.mem_image_of_mem _ (Finset.mem_univ i)
theorem bRd_expect (d : Dev nD) (c : Fin τ.nSC) (j : Fin τ.nSub) : 0 + grid0.bound 1 = (bRd tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals a tile's proof for the barrier: its SparseCore's cells' invariants and that each has reached
    round 0, its own position, its duty in every tile's round, and the credit for its own round's sixteen units. -/
def bkit (d : Dev nD) (c : Fin τ.nSC) (i : Fin τ.nSub) : sProp 𝕄 :=
  iprop((∃ κ : GSem nD τ sig → ℕ, bigSep Finset.univ fun j : Fin (grid0.bound 1) =>
      cellInv EB (bRd tb) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

section Task

variable (d : Dev nD) (L : grid0.Coords)

/-- The first tile's extra: its half of the table, and the shared table to fill; afterwards, filled. -/
def First : sProp 𝕄 := if (L 1).val = 0 then iprop((tLoc d ↦{qC (L 0)} tb d) ∗ ∃ f, shLoc d (cV L) ↦{fullShare} f) else iprop(emp)
def Filled : sProp 𝕄 := if (L 1).val = 0 then iprop(shLoc d (cV L) ↦{fullShare} shTab tb d (cV L)) else iprop(emp)
def Kept1 : sProp 𝕄 := if (L 1).val = 0 then iprop(tLoc d ↦{qC (L 0)} tb d) else iprop(emp)

/-- What a tile takes at its start, and what it brings back. -/
def goP : sProp 𝕄 := iprop((iLoc d ↦{qT (L 0) (L 1)} ib d) ∗ bigSep (Finset.range (nBlk L)) (Todo d L oV (o0 d)) ∗ First tb d L)
def tdP : sProp 𝕄 := iprop((iLoc d ↦{qT (L 0) (L 1)} ib d) ∗ bigSep (Finset.range (nBlk L)) (Done d L oV (og d)) ∗ Kept1 tb d L
    ∗ (shLoc d (cV L) ↦{qS (L 1)} shTab tb d (cV L)) ∗ semVal (bcell d (cV L) (jV L)) 0)

/-! ## The slots of the two buffers -/

theorem nB_mem (p : Fin 2) (x : S2x1x128.Idx) : x ∈ (iS nB p).view.set ↔ x 0 = p := by
  have e : (iS nB p).view.set = (Rect.unit (s := S2x1x128) ![p.val, 0, 0] S1x1x128.size (iS_inb p)).set := by
    show (((View.whole cc0_scoped0).slice (Rect.unit (s := S2x1x128) ![p.val, 0, 0] S1x1x128.size (iS_inb p))).reshape S1x128 _).set = _
    rw [View.set_reshape, View.set_slice_whole]
  rw [e]
  refine Rect.mem_set_unit.trans ⟨fun h => ?_, fun h a => ?_⟩
  · obtain ⟨h1, h2⟩ := h 0
    have h1 : p.val ≤ (x 0).val := h1
    have h2 : (x 0).val < p.val + 1 := h2
    exact Fin.ext (by omega)
  · subst h
    match a with
    | 0 => exact ⟨le_rfl, Nat.lt_succ_self _⟩
    | 1 => exact ⟨Nat.zero_le _, (x 1).isLt⟩
    | 2 => exact ⟨Nat.zero_le _, (x 2).isLt⟩

theorem rB_mem (p : Fin 2) (x : S2x128x128.Idx) : x ∈ (dS rB p).view.set ↔ x 0 = p := by
  have e : (dS rB p).view.set = (Rect.unit (s := S2x128x128) ![p.val, 0, 0] S1x128x128.size (dS_inb p)).set := by
    show (((View.whole cc0_scoped2).slice (Rect.unit (s := S2x128x128) ![p.val, 0, 0] S1x128x128.size (dS_inb p))).reshape S128x128 _).set = _
    rw [View.set_reshape, View.set_slice_whole]
  rw [e]
  refine Rect.mem_set_unit.trans ⟨fun h => ?_, fun h a => ?_⟩
  · obtain ⟨h1, h2⟩ := h 0
    have h1 : p.val ≤ (x 0).val := h1
    have h2 : (x 0).val < p.val + 1 := h2
    exact Fin.ext (by omega)
  · subst h
    match a with
    | 0 => exact ⟨le_rfl, Nat.lt_succ_self _⟩
    | 1 => exact ⟨Nat.zero_le _, (x 1).isLt⟩
    | 2 => exact ⟨Nat.zero_le _, (x 2).isLt⟩

/-- A buffer whose two slots partition it is its slots, whatever they hold. -/
theorem two_slots {ℓ : Loc nD τ sig} (K : Fin 2 → Finset (Idx ℓ)) (hK : ∀ x, ∃ p, x ∈ K p) (hd : ∀ p p' x, x ∈ K p → x ∈ K p' → p = p') :
    (iprop(∃ f, ℓ ↦{fullShare} f) : sProp 𝕄) ⊣⊢ iprop((∃ f, ℓ ↦[K 0]{fullShare} f) ∗ ∃ f, ℓ ↦[K 1]{fullShare} f) := by
  have hdis : ∀ t ∈ (Finset.univ : Finset (Fin 2)), ∀ t' ∈ (Finset.univ : Finset (Fin 2)), t ≠ t' → Disjoint (K t) (K t') :=
    fun t _ t' _ hne => Finset.disjoint_left.2 fun x hx hx' => hne (hd _ _ x hx hx')
  have hcov : (Finset.univ : Finset (Fin 2)).biUnion K = Finset.univ :=
    Finset.eq_univ_iff_forall.2 fun x => Finset.mem_biUnion.2 ⟨(hK x).choose, Finset.mem_univ _, (hK x).choose_spec⟩
  have h01 : (Finset.univ : Finset (Fin 2)) = {0, 1} := by decide
  constructor
  · iintro ⟨%f, H⟩
    ihave H := (Entails.of_eq (show (ℓ ↦{fullShare} f : sProp 𝕄) = iprop((ℓ ↦[K 0]{fullShare} f) ∗ ℓ ↦[K 1]{fullShare} f) by
      rw [← hcov, pointsTo_biUnion Finset.univ K hdis, h01, SparseCore.bigSep_insert' (by decide), bigSep_singleton])) $$ H
    icases H with ⟨H0, H1⟩
    isplitl [H0]
    · iexists f; iexact H0
    · iexists f; iexact H1
  · iintro ⟨⟨%f, H0⟩, %g, H1⟩
    ihave H := (pointsTo_biUnion_join Finset.univ K (fun p => if p = 0 then f else g) f hdis) $$ [H0 H1]
    · rw [h01, SparseCore.bigSep_insert' (by decide), bigSep_singleton]
      isplitl [H0]; · iexact H0
      iexact H1
    icases H with ⟨%h, -, H⟩
    rw [hcov]
    iexists h; iexact H

theorem nB_slots : (iprop(∃ f, (thr d L).loc cc0_scoped0 ↦{fullShare} f) : sProp 𝕄)
    ⊣⊢ iprop((∃ f, (iS nB 0).view.loc (thr d L) ↦[(iS nB 0).view.set]{fullShare} f) ∗ ∃ f, (iS nB 1).view.loc (thr d L) ↦[(iS nB 1).view.set]{fullShare} f) :=
  two_slots (ℓ := (thr d L).loc cc0_scoped0) (fun p => (iS nB p).view.set) (fun x => ⟨_, (nB_mem _ x).2 rfl⟩)
    fun p p' x h h' => ((nB_mem p x).1 h).symm.trans ((nB_mem p' x).1 h')
theorem rB_slots : (iprop(∃ f, (thr d L).loc cc0_scoped2 ↦{fullShare} f) : sProp 𝕄)
    ⊣⊢ iprop((∃ f, (dS rB 0).view.loc (thr d L) ↦[(dS rB 0).view.set]{fullShare} f) ∗ ∃ f, (dS rB 1).view.loc (thr d L) ↦[(dS rB 1).view.set]{fullShare} f) :=
  two_slots (ℓ := (thr d L).loc cc0_scoped2) (fun p => (dS rB p).view.set) (fun x => ⟨_, (rB_mem _ x).2 rfl⟩)
    fun p p' x h h' => ((rB_mem p x).1 h).symm.trans ((rB_mem p' x).1 h')

/-! ## The tile's own buffers and semaphores -/

/-- The two buffers are among the tile's own. -/
theorem ownBufs_V : ∃ R : sProp 𝕄, (ownBufs (thr d L) : sProp 𝕄)
      = iprop((∃ f, (thr d L).loc cc0_scoped0 ↦{fullShare} f) ∗ (∃ f, (thr d L).loc cc0_scoped2 ↦{fullShare} f) ∗ R) := by
  unfold SparseCore.Cfg.ownBufs
  rw [SparseCore.bigSep_erase' (SparseCore.Cfg.mem_ownRefs_of_owner (p := Proc.scVector (cV L) (jV L)) (b := (Proc.scVector (cV L) (jV L)).devRef cc0_scoped0) rfl),
    SparseCore.bigSep_erase' (Finset.mem_erase.mpr ⟨fun h => absurd (show (1 : ℕ) = 0 from congrArg (fun b : DevRef τ sig => (b.idx.val : ℕ)) h) (by decide),
      SparseCore.Cfg.mem_ownRefs_of_owner (p := Proc.scVector (cV L) (jV L)) (b := (Proc.scVector (cV L) (jV L)).devRef cc0_scoped2) rfl⟩)]
  exact ⟨_, rfl⟩

/-- The semaphores the task uses. -/
def locs : Finset (SemLoc sig) :=
  {.dma cc0_scratch1.sem, .dma (cell cc0_scoped1 0), .dma (cell cc0_scoped1 1), .dma (cell cc0_scoped3 0), .dma (cell cc0_scoped3 1), .dma cc0_scoped4.sem}

theorem ownSems0_V : ∃ R : sProp 𝕄, (ownSems0 (thr d L) : sProp 𝕄)
      = iprop((semVal (thr d L, .dma cc0_scratch1.sem) 0 ∗ semVal (thr d L, .dma (cell cc0_scoped1 0)) 0 ∗ semVal (thr d L, .dma (cell cc0_scoped1 1)) 0
          ∗ semVal (thr d L, .dma (cell cc0_scoped3 0)) 0 ∗ semVal (thr d L, .dma (cell cc0_scoped3 1)) 0 ∗ semVal (thr d L, .dma cc0_scoped4.sem) 0) ∗ R) := by
  unfold SparseCore.Cfg.ownSems0
  have hsub : locs.image (fun sm => ((thr d L, sm) : GSem nD τ sig)) ⊆ ownCells (thr d L) := by
    intro g hg
    obtain ⟨sm, hsm, rfl⟩ := Finset.mem_image.1 hg
    exact (mem_ownCells (g := (thr d L, sm))).mpr ⟨rfl, (show ∀ sm ∈ locs, sm.isScoped .scVector = true by decide +kernel) sm hsm⟩
  rw [SparseCore.bigSep_sdiff_split' hsub, SparseCore.bigSep_image_of_injOn (fun a _ b _ e => (Prod.mk.inj e).2)]
  unfold locs
  rw [SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]
  exact ⟨_, rfl⟩

/-! ## The barrier's payloads -/

/-- Before the barrier: what the tile's duties hand over. -/
theorem pays_intro : (Filled tb d L : sProp 𝕄)
    ⊢ bigSep Finset.univ fun j : Fin (grid0.bound 1) => (bRd tb).payload (bcell d (cV L) (j.castLE hsub0)) 0 (jV L).val := by
  unfold Filled
  split
  · next h =>
    refine (Entails.of_eq (deal fullShare 15)).trans (Entails.of_eq ?_)
    refine bigSep_congr fun j _ => ?_
    show _ = bPay tb (bcell d (cV L) (j.castLE hsub0)) (jV L).val
    unfold bPay; dsimp only
    rw [if_pos (show (jV L).val = 0 from h)]
    rfl
  · next h =>
    refine (Entails.of_eq (bigSep_emp' (F := F) (Finset.univ : Finset (Fin (grid0.bound 1)))).symm).trans (Entails.of_eq ?_)
    refine bigSep_congr fun j _ => ?_
    show _ = bPay tb (bcell d (cV L) (j.castLE hsub0)) (jV L).val
    unfold bPay; dsimp only
    rw [if_neg (show ¬(jV L).val = 0 from h)]

/-- After it: the tile's share of the filled table. -/
theorem pays_elim : (bigSep ((bRd tb).duties (bcell d (cV L) (jV L)) 0 \ ∅) fun n => (bRd tb).payload (bcell d (cV L) (jV L)) 0 n)
    ⊢ (iprop(shLoc d (cV L) ↦{qS (L 1)} shTab tb d (cV L)) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay tb (bcell d (cV L) (jV L)) 0 ⊢ _
  unfold bPay; dsimp only
  rw [if_pos rfl]
  exact .rfl

variable [FloatOps F]

theorem first_cond : ∀ i : grid0.Coords, (Scalar.cmpi .ne (Scalar.extui (Scalar.cmpi .eq (BitVec.ofNat 32 (i 1).val) 0#32) : BitVec 32) 0#32 = 1#1) ↔ (i 1).val = 0 := by
  decide +kernel

/-- A tile's share of the row numbers is its two slots'. -/
theorem idx_slots {f : Buf (Elt F) (iLoc d)} : (iLoc d ↦{qT (L 0) (L 1)} f : sProp 𝕄)
    = iprop((iLoc d ↦{qP (L 0) (L 1) 0} f) ∗ iLoc d ↦{qP (L 0) (L 1) 1} f) := by
  rw [deal (qT (L 0) (L 1)) 1, show (Finset.univ : Finset (Fin (1 + 1))) = {0, 1} by decide, SparseCore.bigSep_insert' (by decide), bigSep_singleton]
  rfl

theorem words8 : ∀ i : grid0.Coords, Scalar.select (Scalar.cmpi .slt (Scalar.addi (Scalar.addi 0#32 (Scalar.muli (BitVec.ofNat 32 (i 1).val) 1#32))
    (Scalar.muli (BitVec.ofNat 32 (i 0).val) 16#32)) 4#32) 79#32 78#32 = w8 i := by decide +kernel
theorem words13 : ∀ i : grid0.Coords, Scalar.select (Scalar.cmpi .slt (Scalar.addi (Scalar.addi 0#32 (Scalar.muli (BitVec.ofNat 32 (i 1).val) 1#32))
    (Scalar.muli (BitVec.ofNat 32 (i 0).val) 16#32)) 4#32)
    (Scalar.muli (Scalar.addi (Scalar.addi 0#32 (Scalar.muli (BitVec.ofNat 32 (i 1).val) 1#32)) (Scalar.muli (BitVec.ofNat 32 (i 0).val) 16#32)) (w8 i))
    (Scalar.addi (Scalar.muli (Scalar.addi (Scalar.addi 0#32 (Scalar.muli (BitVec.ofNat 32 (i 1).val) 1#32)) (Scalar.muli (BitVec.ofNat 32 (i 0).val) 16#32)) 78#32) 4#32)
    = w13 i := by decide +kernel

theorem shV_credit : (shV).view.dmaCredit = 40960000 := (show _ = S10000x128.numel * 32 from rfl).trans (by decide)

/-- The first tile fills the shared table and waits for it; the others go on at once. -/
theorem wp_fill {c : Prop} [Decidable c] (hc : c ↔ (L 1).val = 0) {α : Type} {Q : α → sProp (MT nD τ sig (HIx 1) (Elt F) ℕ UU ℕ)}
    {k : PUnit → Prog (TpuEff nD τ sig (Elt F) Λ₀ (.scVector (cV L) (jV L))) α} {hsrc hdst hsem hsrc' hdst'}
    {O : CellTallies nD τ sig (HIx 1)} {W : Waits sig (HIx 1)} :
    iprop(First tb d L ∗ semVal (thr d L, .dma cc0_scratch1.sem) 0 ∗ owes (thr d L) O W ∗ Transfers.MayWaits (thr d L) (default : HIx 1) O : sProp 𝕄)
      ⊢ iprop((Filled tb d L ∗ Kept1 tb d L ∗ semVal (thr d L, .dma cc0_scratch1.sem) 0
            ∗ (∃ W', ⌜∀ p ∈ W', p ∈ W ∨ p.2 = none⌝ ∗ owes (thr d L) O W')
            -∗ wp frame (wpE (defs₀ (F := F)) 𝒱₀ (thr d L) none) Set.univ (k ⟨⟩) Q)
        -∗ wp frame (wpE (defs₀ (F := F)) 𝒱₀ (thr d L) none) Set.univ
          (if _h : c then .op (.enqueueDma tV (.here shV) (.dma cc0_scratch1.sem) hsrc hdst hsem) fun _ =>
            .op (.waitDma2 cc0_scratch1.sem tV shV hsrc' hdst') k else k ⟨⟩) Q) := by
  by_cases h : (L 1).val = 0
  · unfold First Filled Kept1
    rw [dif_pos (hc.2 h), if_pos h, if_pos h, if_pos h]
    iintro ⟨⟨Ht, %f, Hs⟩, Hsem, HO, Hmw⟩ Hk
    iapply (Transfers.wp_dmaLocal countersEmb 𝒱₀ (thr d L) none (src := tV) (dst := shV) (via := .same) (sm := .dma cc0_scratch1.sem)
      (q := qC (L 0)) (fs := tb d) (Sd := Finset.univ) (fd := f)
      (default : HIx 1) 40960000 shV_credit (by decide) (Finset.subset_univ _)) $$ [Ht Hs Hsem]
    · isplitl [Ht]
      · rw [show (tV).view.set = Finset.univ from View.set_whole _]; iexact Ht
      isplitl [Hs]; · iexact Hs
      iexact Hsem
    iintro Hfl
    iapply (Transfers.wp_waitLocalO countersEmb 𝒱₀ (thr d L) none (default : HIx 1) shV_credit) $$ [Hfl HO Hmw]
    · isplitl [Hfl]; · iexact Hfl
      isplitl [HO]; · iexact HO
      iapply (Transfers.MayWaits.elim (SemLoc.dma cc0_scratch1.sem)) $$ Hmw
    iintro ⟨⟨Hs, Ht⟩, Hsem, HO⟩
    iapply Hk
    isplitl [Hs]
    · iapply (Entails.of_eq (show ((shV).view.loc (thr d L) ↦{fullShare} (shV).view.write (Elt F) f (ReadAs.same.apply ((tV).view.read (Elt F) (tb d))) Finset.univ : sProp 𝕄)
          = (shLoc d (cV L) ↦{fullShare} shTab tb d (cV L)) from
        congrArg (fun g : Buf (Elt F) (shLoc d (cV L)) => (shLoc d (cV L) ↦{fullShare} g : sProp 𝕄)) (View.write_whole_univ cc0_scratch0 f (tb d)))) $$ Hs
    isplitl [Ht]
    · iapply (Entails.of_eq (show ((tV).view.loc (thr d L) ↦[(tV).view.set]{qC (L 0)} tb d : sProp 𝕄) = (tLoc d ↦{qC (L 0)} tb d) by
        rw [show (tV).view.set = Finset.univ from View.set_whole _])) $$ Ht
    isplitl [Hsem]; · iexact Hsem
    iexists _
    isplitr
    rotate_left
    · iexact HO
    · ipureintro
      intro p hp
      rcases Finset.mem_insert.1 hp with rfl | hp
      · exact .inr rfl
      · exact .inl hp
  · unfold First Filled Kept1
    rw [dif_neg (fun h' => h (hc.1 h')), if_neg h, if_neg h, if_neg h]
    iintro ⟨-, Hsem, HO, -⟩ Hk
    iapply Hk
    isplitr; · iempintro
    isplitr; · iempintro
    isplitl [Hsem]; · iexact Hsem
    iexists W
    isplitr
    · ipureintro; exact fun p hp => .inl hp
    · iexact HO

set_option maxHeartbeats 4000000 in
/-- The task: the table filled, the barrier met, the tile's blocks gathered. -/
theorem tile_body (hG : ∀ d L, Gathered d L iV oV shV (ib d) (shTab tb d (cV L)) (og d)) (hF : (K (F := F)).Facts) (O : CellTallies nD τ sig (HIx 1))
    (W : Waits sig (HIx 1)) (hO : ∀ g, O g none = 0) (hOlev : ∀ g ι, 0 < O g ι → 8 * (0 : Fin 1).val + 6 ≤ (K (F := F)).lev g ι) :
    iprop(levAts (K (F := F)).L (K (F := F)).lev ∗ bkit tb d (cV L) (jV L) ∗ goP tb ib o0 d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gk L tV (Memref.isWhole_whole _) iV (Memref.isWhole_whole _) oV (Memref.isWhole_whole _) shV (Memref.isWhole_whole _) cc0_scratch1
            nB (Memref.isWhole_whole _) cc0_scoped1 rB (Memref.isWhole_whole _) cc0_scoped3 cc0_scoped4 cc0_scoped5)
          fun _ => iprop(tdP tb ib og d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨RB, hRB⟩ := ownBufs_V (F := F) d L
  obtain ⟨RS, hRS⟩ := ownSems0_V (F := F) d L
  simp only [cc0_gk_eq_skeleton]; unfold cc0_gk_skel
  simp only [cond2 L, dif_pos, bind_assoc, pure_bind, Prog.bind_lift, Prog.bind_op, words8 L, words13 L]
  rw [(K (F := F)).scopedBufs_V hF d (cV L) (jV L), SparseCore.Cfg.scopedSems0_V (Val := Elt F) d (cV L) (jV L), hRB, hRS]
  unfold bkit goP
  iintro ⟨#Hlv, ⟨⟨%κ, #Hinv⟩, Htoks, #Hrch, Hat, Hcred⟩, ⟨Hi, Htodo, Hfirst⟩, ⟨Hnb, Hrb, HRB⟩, ⟨⟨HsT, HsI0, HsI1, HsO0, HsO1, HsG⟩, HRS⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave #Hmw2 := (show levAts (K (F := F)).L (K (F := F)).lev ⊢ Transfers.MayWaits (V d (cV L) (jV L)) (default : HIx 1) O from
    (K (F := F)).mayWaits_none (thr := V d (cV L) (jV L)) hO) $$ Hlv
  iapply (wp_fill tb d L (first_cond L)) $$ [Hfirst HsT HO Hmw1]
  · isplitl [Hfirst]; · iexact Hfirst
    isplitl [HsT]; · iexact HsT
    isplitl [HO]; · iexact HO
    iexact Hmw1
  iintro ⟨Hfilled, Hkept1, HsT, %W1, %hW1, HO⟩
  -- the barrier: the first tile's shares handed over, the tile's own received
  ihave Hpays := (pays_intro tb d L) $$ Hfilled
  iapply (SparseCore.wp_subcoreBarrier 𝒱₀ none EB (bRd tb) d (sc := cV L) (i := jV L) sc_bar0 (grid0.bound 1) hsub0 (L 1) rfl κ (fun _ => 0) (jV L).val
      (fun j => bRd_mem₀ tb d _ _ _) (fun _ => rfl) (bRd_expect tb d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd tb) (g := bcell d (cV L) (jV L)) (Set.mem_univ (κ _)) (fun h => h) (bRd_duties_succ tb _)) $$ [Hat] with Hbar
  · isplitr
    · iapply (SparseCore.ent (bigSep_elim (Φ := fun j : Fin (grid0.bound 1) =>
        (cellInv EB (bRd tb) (κ (bcell d (cV L) (j.castLE hsub0))) (bcell d (cV L) (j.castLE hsub0)) : sProp 𝕄)) (Finset.mem_univ (L 1)))); iexact Hinv
    · iexact Hat
  ihave Htab := (pays_elim tb d L) $$ Hgot
  -- the slots, idle
  ihave Hn := (nB_slots (F := F) d L).1 $$ Hnb
  icases Hn with ⟨Hn0, Hn1⟩
  ihave Hr := (rB_slots (F := F) d L).1 $$ Hrb
  icases Hr with ⟨Hr0, Hr1⟩
  ihave Hi' := (Entails.of_eq (idx_slots d L (f := ib d))) $$ Hi
  icases Hi' with ⟨Hi0, Hi1⟩
  -- the first block's row numbers, the loop, and the last wait
  iapply (part5 d L tV (Memref.isWhole_whole _) iV (Memref.isWhole_whole _) oV (Memref.isWhole_whole _) shV (Memref.isWhole_whole _) cc0_scratch1
    nB (Memref.isWhole_whole _) cc0_scoped1 rB (Memref.isWhole_whole _) cc0_scoped3 cc0_scoped4 cc0_scoped5 (qP (L 0) (L 1)) (ib d) _) $$ [Hn0 HsI0 Hi0]
  · unfold IFree
    isplitl [Hn0]; · iexact Hn0
    isplitl [HsI0]; · iexact HsI0
    iexact Hi0
  iintro %v48 Hfly
  rw [wp_bind]
  iapply (part6 d L tV (Memref.isWhole_whole _) iV (Memref.isWhole_whole _) oV (Memref.isWhole_whole _) shV (Memref.isWhole_whole _) cc0_scratch1
    nB (Memref.isWhole_whole _) cc0_scoped1 rB (Memref.isWhole_whole _) cc0_scoped3 cc0_scoped4 cc0_scoped5 (qP (L 0) (L 1)) (qS (L 1)) (ib d)
    (shTab tb d (cV L)) (o0 d) (og d) (hG d L) _ v48 (O := O) (W := insert (SemLoc.reg sc_bar0, some (0 : Fin 1)) W1)) $$ [Hfly Hn1 HsI1 Hi1 Hr0 Hr1 HsO0 HsO1 HsG Htab Htodo HO]
  · unfold Loop.Inv Slots Kept
    isplitr; · ipureintro; rfl
    isplitr; · imodintro; iexact Hmw2
    isplitl [Hfly Hn1 HsI1 Hi1 Hr0 Hr1 HsO0 HsO1]
    · isplitl [Hfly]
      · iapply (choose_pos (nBlk_pos L) _ _); iexact Hfly
      isplitl [Hn1 HsI1 Hi1]
      · unfold IFree
        isplitl [Hn1]; · iexact Hn1
        isplitl [HsI1]; · iexact HsI1
        iexact Hi1
      isplitl [Hr0 HsO0]
      · unfold OFree
        isplitl [Hr0]; · iexact Hr0
        iexact HsO0
      iapply (choose_neg (lt_irrefl 0) _ _)
      unfold OFree
      isplitl [Hr1]; · iexact Hr1
      iexact HsO1
    isplitl [Htab HsG HO]
    · isplitl [Htab]; · iexact Htab
      isplitl [HsG]; · iexact HsG
      iexists _
      isplitr
      rotate_left
      · iexact HO
      · ipureintro; exact fun p hp => .inl hp
    isplitl [Htodo]
    · rw [← Finset.range_eq_Ico]; iexact Htodo
    rw [Nat.zero_sub, Finset.range_zero, bigSep_empty]; iempintro
  unfold Idle Kept IFree OFree
  iintro ⟨⟨⟨Hn0, HsI0, Hi0⟩, ⟨Hn1, HsI1, Hi1⟩, ⟨Hr0, HsO0⟩, Hr1, HsO1⟩, ⟨Htab, HsG, %W2, %hW2, HO⟩, Hdone⟩
  rw [wp_pure]
  imodintro
  unfold tdP
  isplitl [Hi0 Hi1 Hdone Hkept1 Htab Hbar]
  · isplitl [Hi0 Hi1]
    · rw [idx_slots d L]
      isplitl [Hi0]; · iexact Hi0
      iexact Hi1
    isplitl [Hdone]; · iexact Hdone
    isplitl [Hkept1]; · iexact Hkept1
    isplitl [Htab]; · iexact Htab
    iexact Hbar
  isplitl [Hn0 Hn1 Hr0 Hr1 HRB]
  · isplitl [Hn0 Hn1]
    · iapply (nB_slots (F := F) d L).2
      isplitl [Hn0]; · iexact Hn0
      iexact Hn1
    isplitl [Hr0 Hr1]
    · iapply (rB_slots (F := F) d L).2
      isplitl [Hr0]; · iexact Hr0
      iexact Hr1
    iexact HRB
  isplitl [HsT HsI0 HsI1 HsO0 HsO1 HsG HRS]
  · isplitr [HRS]
    · isplitl [HsT]; · iexact HsT
      isplitl [HsI0]; · iexact HsI0
      isplitl [HsI1]; · iexact HsI1
      isplitl [HsO0]; · iexact HsO0
      isplitl [HsO1]; · iexact HsO1
      iexact HsG
    iexact HRS
  iexists W2
  isplitr
  · ipureintro
    intro p hp
    rcases hW2 p hp with h | h
    · rcases Finset.mem_insert.1 h with rfl | h
      · exact .inr (.inr rfl)
      · exact (hW1 p h).imp id .inl
    · exact .inr (.inl h)
  · iexact HO

end Task

end Cert.Proof.Tile

end
-- ==== Proof.Deal.lean ====
/-
  What the call passes between its threads: the SparseCore's half of the arrays to its sequencer, and from there to each
  tile its part of the row numbers, its own blocks of the output and, to the first, the table and the shared scratch. Here
  that these parts make up the whole, and that a tile's task is the obligation the launch asks for.
-/
module

public import proofs.«01_k».proof.Proof.Tile
public import Idealize.ShloMosaic.Lib.SparseCore.Quiescent

@[expose] public section

noncomputable section

namespace Cert.Proof.Deal

open Cert.KernelIdeal Cert.KernelIdeal.Gen Cert.Proof.Words Cert.Proof.Steps Cert.Proof.Loop Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The output is its tiles' blocks -/

/-- The coordinates of tile `i` of SparseCore `c`. -/
abbrev at2 (c : Fin 2) (i : Fin 16) : grid0.Coords := fun | 0 => c | 1 => i | ⟨_ + 2, h⟩ => absurd h (Nat.not_lt.2 (Nat.le_add_left _ _))

theorem oW_mem (b : Fin 2500) (x : S320000x128.Idx) : x ∈ (oW oV b).view.set ↔ (x 0).val / 128 = b.val := by
  have e : (oW oV b).view.set = (Rect.unit (s := S320000x128) ![128 * b.val, 0] S128x128.size (oW_inb b)).set := by
    show ((View.whole main_v1_scv).slice (Rect.unit (s := S320000x128) ![128 * b.val, 0] S128x128.size (oW_inb b))).set = _
    rw [View.set_slice_whole]
  rw [e]
  refine Rect.mem_set_unit.trans ⟨fun h => ?_, fun h a => ?_⟩
  · obtain ⟨h1, h2⟩ := h 0
    have h1 : 128 * b.val ≤ (x 0).val := h1
    have h2 : (x 0).val < 128 * b.val + 128 := h2
    omega
  · match a with
    | 0 =>
      show 128 * b.val ≤ (x 0).val ∧ (x 0).val < 128 * b.val + 128
      omega
    | 1 => exact ⟨Nat.zero_le _, (Nat.zero_add 128).symm ▸ (x 1).isLt⟩

/-- The number of the tile a block is dealt to. -/
def owner (b : ℕ) : ℕ := if b < 316 then b / 79 else (b - 4) / 78

theorem owner_iff (c : Fin 2) (i : Fin 16) (b : ℕ) : (base (at2 c i) ≤ b ∧ b < base (at2 c i) + nBlk (at2 c i)) ↔ owner b = 16 * c.val + i.val := by
  have h : tileNo (at2 c i) = 16 * c.val + i.val := rfl
  unfold base nBlk owner
  rw [h]
  have hc := c.isLt
  have hi := i.isLt
  split <;> split <;> omega

/-- A tile's part of the output. -/
def tileSet (ci : Fin 2 × Fin 16) : Finset S320000x128.Idx := (Finset.range (nBlk (at2 ci.1 ci.2))).biUnion fun t => (oW oV (blk (at2 ci.1 ci.2) t)).view.set

theorem mem_tileSet (ci : Fin 2 × Fin 16) (x : S320000x128.Idx) : x ∈ tileSet ci ↔ owner ((x 0).val / 128) = 16 * ci.1.val + ci.2.val := by
  rw [← owner_iff, tileSet, Finset.mem_biUnion]
  constructor
  · rintro ⟨t, ht, hx⟩
    have ht := Finset.mem_range.1 ht
    rw [oW_mem, blk_val _ ht] at hx
    omega
  · rintro ⟨h1, h2⟩
    have ht : (x 0).val / 128 - base (at2 ci.1 ci.2) < nBlk (at2 ci.1 ci.2) := by omega
    refine ⟨_, Finset.mem_range.2 ht, ?_⟩
    rw [oW_mem, blk_val _ ht]
    omega

theorem owner_lt (b : ℕ) (h : b < 2500) : owner b < 32 := by
  unfold owner; split <;> omega

theorem tiles_cover : (Finset.univ : Finset (Fin 2 × Fin 16)).biUnion tileSet = Finset.univ := by
  refine Finset.eq_univ_iff_forall.2 fun x => Finset.mem_biUnion.2 ?_
  have hx : (x 0).val < 320000 := (x 0).isLt
  have hlt := owner_lt ((x 0).val / 128) (by omega)
  refine ⟨(⟨owner ((x 0).val / 128) / 16, by omega⟩, ⟨owner ((x 0).val / 128) % 16, by omega⟩), Finset.mem_univ _, ?_⟩
  rw [mem_tileSet]
  show _ = 16 * (owner ((x 0).val / 128) / 16) + owner ((x 0).val / 128) % 16
  omega

theorem tiles_disjoint : ∀ t ∈ (Finset.univ : Finset (Fin 2 × Fin 16)), ∀ t' ∈ (Finset.univ : Finset (Fin 2 × Fin 16)), t ≠ t' → Disjoint (tileSet t) (tileSet t') := by
  intro t _ t' _ hne
  refine Finset.disjoint_left.2 fun x hx hx' => hne ?_
  rw [mem_tileSet] at hx hx'
  have h1 := t.2.isLt
  have h2 := t'.2.isLt
  exact Prod.ext (Fin.ext (by omega)) (Fin.ext (by omega))

theorem blocks_disjoint (L : grid0.Coords) : ∀ t ∈ Finset.range (nBlk L), ∀ t' ∈ Finset.range (nBlk L), t ≠ t' →
    Disjoint (oW oV (blk L t)).view.set (oW oV (blk L t')).view.set := by
  intro t ht t' ht' hne
  refine Finset.disjoint_left.2 fun x hx hx' => hne ?_
  rw [oW_mem, blk_val _ (Finset.mem_range.1 ht)] at hx
  rw [oW_mem, blk_val _ (Finset.mem_range.1 ht')] at hx'
  omega

/-- The whole output is every tile's blocks. -/
theorem out_tiles (d : Dev nD) (f : Buf (Elt F) (oLoc d)) : (oLoc d ↦{fullShare} f : sProp 𝕄)
    = bigSep Finset.univ fun c : Fin 2 => bigSep Finset.univ fun i : Fin 16 => bigSep (Finset.range (nBlk (at2 c i))) (Todo d (at2 c i) oV f) := by
  have h1 : (oLoc d ↦{fullShare} f : sProp 𝕄) = bigSep Finset.univ fun ci : Fin 2 × Fin 16 => oLoc d ↦[tileSet ci]{fullShare} f := by
    rw [← pointsTo_biUnion Finset.univ (ℓ := oLoc d) tileSet tiles_disjoint, tiles_cover]
  rw [h1, bigSep_univ_prod]
  refine bigSep_congr fun c _ => bigSep_congr fun i _ => ?_
  exact pointsTo_biUnion (Finset.range (nBlk (at2 c i))) (ℓ := oLoc d) (fun t => (oW oV (blk (at2 c i) t)).view.set) (blocks_disjoint (at2 c i))

/-! ## What is handed over -/

variable (tb : (d : Dev nD) → Buf (Elt F) (tLoc d)) (ib : (d : Dev nD) → Buf (Elt F) (iLoc d)) (o0 og : (d : Dev nD) → Buf (Elt F) (oLoc d))

theorem nCore_zero : (K (F := F)).nCore 0 = 2 := rfl
theorem nSub_zero : (K (F := F)).nSub 0 = 16 := rfl

/-- A SparseCore's number among the chip's. -/
abbrev coreOf (c : Fin 2) : Fin τ.nSC := c.castLE hcore0
abbrev subOf (i : Fin 16) : Fin τ.nSub := i.castLE hsub0

/-- The barrier semaphores of one SparseCore, back at zero. -/
abbrev bars (d : Dev nD) (c : Fin 2) : sProp 𝕄 := bigSep Finset.univ fun i : Fin 16 => semVal (bcell d (coreOf c) (subOf i)) 0

/-- What a SparseCore takes, and brings back. -/
def stP (d : Dev nD) (c : Fin 2) : sProp 𝕄 := iprop((tLoc d ↦{qC c} tb d) ∗ (iLoc d ↦{qC c} ib d)
  ∗ bigSep Finset.univ fun i : Fin 16 => bigSep (Finset.range (nBlk (at2 c i))) (Todo d (at2 c i) oV (o0 d)))
def dnP (d : Dev nD) (c : Fin 2) : sProp 𝕄 := iprop((tLoc d ↦{qC c} tb d) ∗ (iLoc d ↦{qC c} ib d)
  ∗ (bigSep Finset.univ fun i : Fin 16 => bigSep (Finset.range (nBlk (at2 c i))) (Done d (at2 c i) oV (og d))) ∗ bars d c)

/-- What a thread owes for the barrier, and what it is dealt for it: the tiles alone. -/
def owedBy : Thread nD τ → CellTallies nD τ sig (HIx 1)
  | (d, .scVector c _) => oxV d c
  | _ => 0
def kitOf : Thread nD τ → sProp 𝕄
  | (d, .scVector c i) => bkit tb d c i
  | _ => iprop(emp)

theorem owedBy_tc (d : Dev nD) : owedBy (SparseCore.T d) = 0 := rfl
theorem owedBy_sc (d : Dev nD) (c : Fin τ.nSC) : owedBy (S d c) = 0 := rfl
theorem owedBy_pos {thr : Thread nD τ} {g : GSem nD τ sig} {ι : HIx 1} (h : 0 < owedBy thr g ι) :
    ∃ (d : Dev nD) (c : Fin τ.nSC) (j : Fin (grid0.bound 1)), g = bcell d c (j.castLE hsub0) ∧ ι = some 0 := by
  obtain ⟨d, _ | c | ⟨c, i⟩⟩ := thr
  · exact absurd h (Nat.lt_irrefl 0)
  · exact absurd h (Nat.lt_irrefl 0)
  · obtain ⟨j, h⟩ := oxV_apply_pos (d := d) (c := c) h
    exact ⟨d, c, j, h⟩

/-- The call's record of what its threads hand each other. -/
def P : (K (F := F)).Pay (nD := nD) (Val := Elt F) (Name := ℕ) (U := UU) where
  st q d c := match q with | 0 => stP tb ib o0 d (Fin.cast nCore_zero c)
  dn q d c := match q with | 0 => dnP tb ib og d (Fin.cast nCore_zero c)
  go q d c i := match q with | 0 => goP tb ib o0 d (at2 (Fin.cast nCore_zero c) (Fin.cast nSub_zero i))
  td q d c i := match q with | 0 => tdP tb ib og d (at2 (Fin.cast nCore_zero c) (Fin.cast nSub_zero i))
  x _ thr := kitOf tb thr
  ox _ thr := owedBy thr
  ox_band q thr g ι h := by
    obtain rfl : q = 0 := Fin.ext (Nat.lt_one_iff.mp q.isLt)
    obtain ⟨d, c, j, rfl, rfl⟩ := owedBy_pos h
    rw [(K (F := F)).lev_V_reg d c (j.castLE hsub0) (show (sc_bar0 : Sem sig) ≠ (K (F := F)).go from sc_bar0_ne_go)]
    exact ⟨le_rfl, by decide⟩
  ox_tc _ _ := owedBy_tc _
  ox_sc _ _ _ h := absurd (owedBy_sc _ _) h
  ox_vc q d c i _ := by
    obtain rfl : q = 0 := Fin.ext (Nat.lt_one_iff.mp q.isLt)
    exact ⟨rfl, c.isLt, i.isLt⟩

instance Todo_storable (d : Dev nD) (L : grid0.Coords) (f) (t : ℕ) : BI.Storable (upEmb : UEmb _ 𝕄) (Todo (F := F) d L oV f t) := by unfold Todo; infer_instance
instance Done_storable (d : Dev nD) (L : grid0.Coords) (f) (t : ℕ) : BI.Storable (upEmb : UEmb _ 𝕄) (Done (F := F) d L oV f t) := by unfold Done; infer_instance
instance First_storable (d : Dev nD) (L : grid0.Coords) : BI.Storable (upEmb : UEmb _ 𝕄) (First tb d L) := by unfold First; split <;> infer_instance
instance Kept1_storable (d : Dev nD) (L : grid0.Coords) : BI.Storable (upEmb : UEmb _ 𝕄) (Kept1 tb d L) := by unfold Kept1; split <;> infer_instance

instance P_storable : (P tb ib o0 og).IsStorable where
  st q d c := match q with
    | 0 => by show BI.Storable (upEmb : UEmb _ 𝕄) (stP tb ib o0 d (Fin.cast nCore_zero c)); unfold stP; infer_instance
  dn q d c := match q with
    | 0 => by show BI.Storable (upEmb : UEmb _ 𝕄) (dnP tb ib og d (Fin.cast nCore_zero c)); unfold dnP; infer_instance
  go q d c i := match q with
    | 0 => by show BI.Storable (upEmb : UEmb _ 𝕄) (goP tb ib o0 d (at2 (Fin.cast nCore_zero c) (Fin.cast nSub_zero i))); unfold goP; infer_instance
  td q d c i := match q with
    | 0 => by show BI.Storable (upEmb : UEmb _ 𝕄) (tdP tb ib og d (at2 (Fin.cast nCore_zero c) (Fin.cast nSub_zero i))); unfold tdP; infer_instance

/-! ## The split among a SparseCore's tiles -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

/-- What only the first of sixteen holds. -/
theorem only_first (A : sProp 𝕄) : (bigSep Finset.univ fun i : Fin 16 => if i.val = 0 then A else iprop(emp)) = A := by
  have h : ∀ i ∈ (Finset.univ : Finset (Fin 16)).erase 0, (if i.val = 0 then A else iprop(emp)) = iprop(emp) :=
    fun i hi => if_neg fun h => (Finset.mem_erase.1 hi).1 (Fin.ext h)
  rw [SparseCore.bigSep_erase' (Finset.mem_univ (0 : Fin 16)), bigSep_congr h, bigSep_emp']
  exact equiv_iff.mp Idealize.SL.BI.sep_emp

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem firsts (d : Dev nD) (c : Fin 2) : (bigSep Finset.univ fun i : Fin 16 => First tb d (at2 c i))
    = (iprop((tLoc d ↦{qC c} tb d) ∗ ∃ f, shLoc d (coreOf c) ↦{fullShare} f) : sProp 𝕄) := only_first _
theorem kepts (d : Dev nD) (c : Fin 2) : (bigSep Finset.univ fun i : Fin 16 => Kept1 tb d (at2 c i)) = (iprop(tLoc d ↦{qC c} tb d) : sProp 𝕄) := only_first _

theorem vecSplit : (K (F := F)).VecSplit (P tb ib o0 og) 0 := by
  intro d c
  obtain ⟨c', rfl⟩ : ∃ c' : Fin 2, c = Fin.cast nCore_zero.symm c' := ⟨Fin.cast nCore_zero c, rfl⟩
  show iprop(stP tb ib o0 d c' ∗ ownBufs (S d (coreOf c'))) ⊢ |={Set.univ}=> iprop(
      (bigSep Finset.univ fun i : Fin 16 => goP tb ib o0 d (at2 c' i))
      ∗ ((bigSep Finset.univ fun i : Fin 16 => tdP tb ib og d (at2 c' i)) -∗ iprop(dnP tb ib og d c' ∗ ownBufs (S d (coreOf c')))))
  unfold goP tdP stP dnP
  rw [bigSep_sep', bigSep_sep', bigSep_sep', bigSep_sep', bigSep_sep', bigSep_sep', firsts, kepts, ownBufs_S]
  iintro ⟨⟨Ht, Hi, Ho⟩, Hsh, Hrest⟩
  imodintro
  isplitl [Ht Hi Ho Hsh]
  · isplitl [Hi]; · iapply (Entails.of_eq (deal (F := F) (qC c') 15)); iexact Hi
    isplitl [Ho]; · iexact Ho
    isplitl [Ht]; · iexact Ht
    iexact Hsh
  iintro ⟨Hi, Ho, Ht, Hsh, Hb⟩
  isplitr [Hsh Hrest]
  · isplitl [Ht]; · iexact Ht
    isplitl [Hi]; · iapply (Entails.of_eq (deal (F := F) (qC c') 15).symm); iexact Hi
    isplitl [Ho]; · iexact Ho
    iexact Hb
  · isplitl [Hsh]
    · iexists shTab tb d (coreOf c')
      iapply (Entails.of_eq (deal (F := F) (ℓ := shLoc d (coreOf c')) fullShare 15).symm); iexact Hsh
    · iexact Hrest

/-! ## A tile's task -/

variable [FloatOps F]

theorem defs₀_vector (c : Fin τ.nSC) (s : Fin τ.nSub) : defs₀ (F := F) (.scVector c s) 0 ()
      = SparseCore.onTile hcore0 hsub0 (fun c s => cc0_gk (at2 c s)
          tV (Memref.isWhole_whole _) iV (Memref.isWhole_whole _) oV (Memref.isWhole_whole _) shV (Memref.isWhole_whole _) cc0_scratch1
          nB (Memref.isWhole_whole _) cc0_scoped1 rB (Memref.isWhole_whole _) cc0_scoped3 cc0_scoped4 cc0_scoped5) ⟨⟩ c s := rfl

set_option maxRecDepth 16384 in
theorem tileObl (hG : ∀ d L, Gathered d L iV oV shV (ib d) (shTab tb d (cV L)) (og d)) (hF : (K (F := F)).Facts) :
    (K (F := F)).TileObl (D (F := F)) 𝒱 (P tb ib o0 og) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tb ib o0 og d (at2 ⟨_, hci.1⟩ ⟨_, hci.2⟩) hG hF O W hO hOlev

end Cert.Proof.Deal

end
-- ==== Proof.Launch.lean ====
/-
  The whole program's run: the barrier's ghost state made and dealt to the tiles, the host's reshape of the row numbers, the
  call, and what memory holds at the end. Stated over any float values and any memory whose row numbers name rows.
-/
module

public import proofs.«01_k».proof.Proof.Deal

@[expose] public section

noncomputable section

namespace Cert.Proof.Launch

open Cert.KernelIdeal Cert.KernelIdeal.Gen Cert.Proof.Words Cert.Proof.Steps Cert.Proof.Loop Cert.Proof.Tile Cert.Proof.Deal

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tb : (d : Dev nD) → Buf (Elt F) (tLoc d)) (ib : (d : Dev nD) → Buf (Elt F) (iLoc d)) (o0 og : (d : Dev nD) → Buf (Elt F) (oLoc d))

/-! ## The launch element, and what the launch hands over -/

/-- A tile of the mesh, and its barrier cell. -/
abbrev DCI : Type := Dev nD × Fin τ.nSC × Fin τ.nSub
abbrev bcell₃ (x : DCI) : GSem nD τ sig := bcell x.1 x.2.1 x.2.2

/-- Every tile's barrier cell, and every tile's token in every cell of its SparseCore. -/
def bCells : Finset (GSem nD τ sig) := (Finset.univ : Finset DCI).image bcell₃
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ dci)⟩)

/-- The cells' invariants, allocated at once. -/
theorem invs_b : iprop((bigSep bCells fun g => (semVal g 0 : sProp 𝕄)) ∗ bigSep bCells fun g => roundState EB (bRd tb) g 0)
    ⊢ |={Set.univ}=> iprop(∃ κ : GSem nD τ sig → ℕ, bigSep bCells fun g => cellInv EB (bRd tb) (κ g) g) := by
  refine (Rounds.bodies_intro EB (bRd tb) bCells).trans ((inv_alloc_family bCells (Rounds.body EB (bRd tb)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

/-- The credit for what the tiles owe, regrouped: to each tile the sixteen units of its own cell. -/
theorem creds_b : ((P tb ib o0 og).oxCred : sProp 𝕄) ⊢ bigSep Finset.univ fun x : DCI => cred (tallyAt (bcell₃ x) (some 0) (grid0.bound 1)) := by
  unfold SparseCore.Cfg.Pay.oxCred
  rw [SparseCore.Cfg.bigSep_threads (fun thr : Thread nD τ => (cred ((P tb ib o0 og).oxFrom 0 thr) : sProp 𝕄))]
  refine sep_elim_right.trans (sep_elim_right.trans ?_)
  rw [bigSep_univ_prod, bigSep_univ_prod (fun x : DCI => (cred (tallyAt (bcell₃ x) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P tb ib o0 og).oxFrom 0 (V d c i) = oxV d c := fun i => by
    rw [show (0 : ℕ) = (0 : Fin 1).val from rfl, (P tb ib o0 og).oxFrom_step, (P tb ib o0 og).oxFrom_end _ (n := (0 : Fin 1).val + 1) le_rfl, add_zero]
    rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp (MT nD τ sig (HIx 1) (Elt F) ℕ UU ℕ)} [BI.Persistent R] {s : Finset I}
    {Φ Ψ : I → sProp (MT nD τ sig (HIx 1) (Elt F) ℕ UU ℕ)} (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun x : DCI => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px (thr : Thread nD τ) : (bigSep Finset.univ fun q : Fin 1 => (P tb ib o0 og).x q thr) = kitOf tb thr :=
  bigSep_univ_of_subsingleton (0 : Fin 1)

/-- What every tile is handed alike, and what each is handed of its own. -/
abbrev shared : sProp 𝕄 :=
  iprop((∃ κ : GSem nD τ sig → ℕ, bigSep Finset.univ fun x : DCI => cellInv EB (bRd tb) (κ (bcell₃ x)) (bcell₃ x))
    ∗ bigSep Finset.univ fun x : DCI => reached EB (bcell₃ x) 0)
abbrev mine (x : DCI) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- What is held of every cell, of one SparseCore's. -/
theorem of_all {Φ : DCI → sProp (MT nD τ sig (HIx 1) (Elt F) ℕ UU ℕ)} [BI.Persistent (bigSep Finset.univ Φ)] (d : Dev nD) (c : Fin τ.nSC) :
    (bigSep Finset.univ Φ : sProp 𝕄) ⊢ bigSep Finset.univ fun j : Fin (grid0.bound 1) => Φ (d, c, j.castLE hsub0) := by
  iintro #H
  iapply (SparseCore.ent (bigSep_mono_frame (F := F) (s := (Finset.univ : Finset (Fin (grid0.bound 1)))) (Φ := fun _ => iprop(emp))
    (R := bigSep Finset.univ Φ) fun j _ => sep_elim_left.trans (bigSep_elim (Finset.mem_univ (d, c, j.castLE hsub0)))))
  isplitl; · iexact H
  rw [bigSep_emp']; iempintro

theorem kit_intro (x : DCI) : iprop(shared tb ∗ mine x) ⊢ (bkit tb x.1 x.2.1 x.2.2 : sProp 𝕄) := by
  obtain ⟨d, c, i⟩ := x
  iintro ⟨⟨⟨%κ, #Hinv⟩, #Hr⟩, Hat, Htok, Hcred⟩
  unfold bkit
  isplitr
  · iexists κ
    iapply (of_all (F := F) (Φ := fun x : DCI => cellInv EB (bRd tb) (κ (bcell₃ x)) (bcell₃ x)) d c); iexact Hinv
  isplitl [Htok]; · iexact Htok
  isplitr
  · iapply (of_all (F := F) (Φ := fun x : DCI => reached EB (bcell₃ x) 0) d c); iexact Hr
  isplitl [Hat]; · iexact Hat
  iexact Hcred

theorem kits_deal :
    iprop(shared tb ∗ (bigSep Finset.univ fun x : DCI => atPos EB (bcell₃ x) 0 ∅ 0)
        ∗ (bigSep Finset.univ fun x : DCI => bigSep Finset.univ fun j : Fin (grid0.bound 1) => dutyTok EB (bcell x.1 x.2.1 (j.castLE hsub0)) 0 x.2.2.val)
        ∗ (bigSep Finset.univ fun x : DCI => cred (tallyAt (bcell₃ x) (some 0) (grid0.bound 1))))
      ⊢ (bigSep Finset.univ fun thr : Thread nD τ => bigSep Finset.univ fun q : Fin 1 => (P tb ib o0 og).x q thr : sProp 𝕄) := by
  simp only [Px]
  rw [SparseCore.Cfg.bigSep_threads (fun thr : Thread nD τ => kitOf tb thr)]
  show _ ⊢ iprop((bigSep Finset.univ fun _ => iprop(emp)) ∗ (bigSep Finset.univ fun _ => iprop(emp)) ∗ bigSep Finset.univ fun x : DCI => bkit tb x.1 x.2.1 x.2.2)
  rw [bigSep_emp', bigSep_emp']
  iintro ⟨#Hsh, Hat, Htok, Hcred⟩
  isplitr; · iempintro
  isplitr; · iempintro
  iapply (bigSep_mono_frame (F := F) (R := shared tb) (Φ := mine (F := F)) fun x _ => kit_intro tb x)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P tb ib o0 og).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P tb ib o0 og).x q thr) : sProp 𝕄) := by
  unfold u₀
  iintro ⟨Hu, Hcred, Hfree⟩
  ihave H := (ownU_split _ _) $$ Hu
  icases H with ⟨HH, HB⟩
  imod (Rounds.fund EB (bRd tb) bCells bToks) $$ HB with ⟨Hst, #Hr, Hat, Htok⟩
  ihave Hsems := (sems_b (F := F)) $$ Hfree
  imod (invs_b tb) $$ [Hsems Hst] with ⟨%κ, #Hinv⟩
  · isplitl [Hsems] <;> iassumption
  ihave Hcred' := (creds_b tb ib o0 og) $$ Hcred
  ihave Hinv' := (Entails.of_eq (bCells_eq (F := F) fun g => cellInv EB (bRd tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal tb ib o0 og)
  isplitr
  · isplitl; · iexists κ; iexact Hinv'
    iexact Hr'
  isplitl [Hat']; · iexact Hat'
  isplitl [Htok']; · iexact Htok'
  iexact Hcred'

/-! ## @main -/

variable [FloatOps F]
variable (m : (ℓ : Loc nD τ sig) → Buf (Elt F) ℓ) (ρ : Dev nD → PrngReg)

/-- The table, the row numbers in one row, and the output's first contents, of the memory at the start. -/
abbrev tbM (d : Dev nD) : Buf (Elt F) (tLoc d) := m (tLoc d)
abbrev ibM (d : Dev nD) : Buf (Elt F) (iLoc d) := shapeCast S1x320000 (m (aLoc d)) shapeCasts_S1x10000x32_S1x320000
abbrev o0M (d : Dev nD) : Buf (Elt F) (oLoc d) := m (oLoc d)
abbrev PM : (K (F := F)).Pay (nD := nD) (Val := Elt F) (Name := ℕ) (U := UU) := P (tbM m) (ibM m) (o0M m) og

/-- The device's four arrays, as the host's operations name them. -/
abbrev t' : DevRef τ sig := Proc.devRef .tc main_arg0
abbrev a' : DevRef τ sig := Proc.devRef .tc main_arg1
abbrev i' : DevRef τ sig := Proc.devRef .tc main_v0
abbrev opR : HloOp τ sig (Elt F) := StableHlo.reshape main_arg1 main_v0 (rfl : (.i32 : EltTy) = .i32) shapeCasts_S1x10000x32_S1x320000

theorem unscopedBufs_eq (d : Dev nD) (W : (b : Ref sig .tc) → Buf (Elt F) ((d.tc : Thread nD τ).loc b)) :
    (unscopedBufs d W : sProp 𝕄) = iprop((tLoc d ↦{fullShare} W main_arg0) ∗ (aLoc d ↦{fullShare} W main_arg1) ∗ (iLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem held_ai (d : Dev nD) (W : Valuation τ sig (Elt F)) : (held (SparseCore.T d) {a', i'} W : sProp 𝕄)
    = iprop((aLoc d ↦{fullShare} W a') ∗ iLoc d ↦{fullShare} W i') := by
  unfold held
  rw [SparseCore.bigSep_insert' (by decide), bigSep_singleton]

abbrev V0 (d : Dev nD) : Valuation τ sig (Elt F) := fun b => m (d, b)

theorem opR_a (d : Dev nD) : (opR (F := F)).result (V0 m d) a' = m (aLoc d) :=
  StableHlo.reshape_result_ne main_arg1 main_v0 _ _ _ _ (V0 m d) (show main_arg1 ≠ main_v0 by decide)
theorem opR_i (d : Dev nD) : (opR (F := F)).result (V0 m d) i' = ibM m d :=
  StableHlo.reshape_result main_arg1 main_v0 _ _ _ _ (V0 m d)

theorem st0_eq (d : Dev nD) : iprop((tLoc d ↦{fullShare} tbM m d) ∗ (iLoc d ↦{fullShare} ibM m d) ∗ oLoc d ↦{fullShare} o0M m d)
    ⊢ (bigSep Finset.univ fun c : Fin ((K (F := F)).nCore 0) => (PM og m).st 0 d c : sProp 𝕄) := by
  show _ ⊢ bigSep Finset.univ fun c : Fin 2 => stP (tbM m) (ibM m) (o0M m) d c
  unfold stP
  rw [bigSep_sep', bigSep_sep', ← out_tiles]
  iintro ⟨Ht, Hi, Ho⟩
  isplitl [Ht]; · iapply (Entails.of_eq (deal (F := F) fullShare 1)); iexact Ht
  isplitl [Hi]; · iapply (Entails.of_eq (deal (F := F) fullShare 1)); iexact Hi
  iexact Ho

theorem dn0_eq (d : Dev nD) : (bigSep Finset.univ fun c : Fin ((K (F := F)).nCore 0) => (PM og m).dn 0 d c : sProp 𝕄)
    ⊢ iprop((tLoc d ↦{fullShare} tbM m d) ∗ (oLoc d ↦{fullShare} og d) ∗ bigSep Finset.univ fun c : Fin 2 => bars d c) := by
  show (bigSep Finset.univ fun c : Fin 2 => dnP (tbM m) (ibM m) og d c) ⊢ _
  unfold dnP
  rw [bigSep_sep', bigSep_sep', bigSep_sep', out_tiles]
  iintro ⟨Ht, -, Ho, Hb⟩
  isplitl [Ht]; · iapply (Entails.of_eq (deal (F := F) fullShare 1).symm); iexact Ht
  isplitl [Ho]; · iexact Ho
  iexact Hb

/-- What @main leaves: the arguments, the result, the barrier semaphores at zero. -/
abbrev FIN (d : Dev nD) : sProp 𝕄 := iprop((tLoc d ↦{fullShare} m (tLoc d)) ∗ (aLoc d ↦{fullShare} m (aLoc d)) ∗ (oLoc d ↦{fullShare} og d)
  ∗ bigSep Finset.univ fun c : Fin 2 => bars d c)

theorem hmain (κ : GSem nD τ sig → ℕ) (d : Dev nD) :
    iprop((K (F := F)).ctx EH (PM og m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN og m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Ha, Hi, Ho⟩, Hts, -⟩, -⟩
  iapply (wp_hlo_within 𝒱 (SparseCore.T d) none Set.univ (op := opR) (S := {a', i'}) (show ({a', i'} : Finset (DevRef τ sig)) ⊆ {a', i'} from subset_rfl) (V := V0 m d)) $$ [Hb Ha Hi]
  · isplitl [Hb]; · iexact Hb
    rw [held_ai]
    isplitl [Ha]; · iexact Ha
    iexact Hi
  iintro ⟨Hb, Hh⟩
  ihave Hh := (Entails.of_eq (held_ai (F := F) d _)) $$ Hh
  icases Hh with ⟨Ha, Hi⟩
  ihave Ha := (Entails.of_eq (congrArg (fun g => (aLoc d ↦{fullShare} g : sProp 𝕄)) (opR_a m d))) $$ Ha
  ihave Hi := (Entails.of_eq (congrArg (fun g => (iLoc d ↦{fullShare} g : sProp 𝕄)) (opR_i m d))) $$ Hi
  rw [wp_ret]; imodintro
  iapply ((K (F := F)).wp_run (D (F := F)) 𝒱 (EH := EH) (P := PM og m) κ d 0) $$ [Hst Ht Hi Ho Hb Hts Ha]
  isplitr; · iexact Hctx
  isplitl [Hst]; · iexact Hst
  isplitl [Ht Hi Ho]
  · iapply (st0_eq og m d)
    isplitl [Ht]; · iexact Ht
    isplitl [Hi]; · iexact Hi
    iexact Ho
  iintro ⟨Hst, Hdn⟩
  ihave Hdn := (dn0_eq og m d) $$ Hdn
  icases Hdn with ⟨Ht, Ho, Hbars⟩
  imodintro
  isplitl [Hst]; · iexact Hst
  isplitr [Hb Hts]
  · isplitl [Ht]; · iexact Ht
    isplitl [Ha]; · iexact Ha
    isplitl [Ho]; · iexact Ho
    iexact Hbars
  isplitl [Hb] <;> iassumption

/-! ## The end -/

/-- What the end of the run says of the memory. -/
def fq (d : Dev nD) (s' : Phys nD τ sig (Elt F)) : Prop :=
  s'.mem.mem (tLoc d) = m (tLoc d) ∧ s'.mem.mem (aLoc d) = m (aLoc d) ∧ s'.mem.mem (oLoc d) = og d
    ∧ ∀ (c : Fin 2) (i : Fin 16), s'.mem.sem (bcell d (coreOf c) (subOf i)) = 0

theorem reads {ℓ : Loc nD τ sig} {f : Buf (Elt F) ℓ} (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN og m d ∗ SI s') ⊢ (⌜fq og m d s'⌝ : sProp 𝕄) := fun x hx =>
  ⟨((sep_mono_left sep_elim_left).trans (reads s')) x hx,
    ((sep_mono_left (sep_elim_right.trans sep_elim_left)).trans (reads s')) x hx,
    ((sep_mono_left (sep_elim_right.trans (sep_elim_right.trans sep_elim_left))).trans (reads s')) x hx,
    fun c i => ((sep_mono_left (sep_elim_right.trans (sep_elim_right.trans (sep_elim_right.trans
      ((SparseCore.ent (bigSep_elim (Finset.mem_univ c))).trans (SparseCore.ent (bigSep_elim (Finset.mem_univ i)))))))).trans
        (SparseCore.Cfg.semVal_zero_read _ s')) x hx⟩

theorem hA (s' : Phys nD τ sig (Elt F)) (h : ∀ d, fq og m d s') (g : GSem nD τ sig) (hg : g ∈ bCells) : s'.mem.sem g = 0 := by
  obtain ⟨⟨d, c, i⟩, -, rfl⟩ := Finset.mem_image.mp hg
  exact (h d).2.2.2 ⟨c.val, c.isLt⟩ ⟨i.val, i.isLt⟩

/-- What every run ends in: the arguments unchanged, the gathered rows, every semaphore at zero. -/
def QC : PUnit × MemSt nD τ sig (Elt F) → Prop := fun r =>
  (∀ c : Dev nD, r.2.mem (tLoc c) = m (tLoc c) ∧ r.2.mem (aLoc c) = m (aLoc c) ∧ r.2.mem (oLoc c) = og c) ∧ r.2.sem = fun _ => 0

theorem run_main [∀ e, Nonempty (Elt F e)] (hG : ∀ d L, Gathered d L iV oV shV (ibM m d) (shTab (tbM m) d (cV L)) (og d)) :
    θ_run (Cert.KernelIdeal.defs (F := F)) (Cert.KernelIdeal.threads (F := F)) ⟨m, fun _ => 0, ρ⟩ (QC og m) :=
  SparseCore.Cfg.θ_run_sc_quiescent (K := K (F := F)) (D := D (F := F)) (𝒱 := 𝒱) (EH := EH) (P := PM og m) (hA := hA og m) facts v₀
    (fun q hq => match q with | 0 => nomatch hq)
    (fun q _ => match q with | 0 => tileObl (tbM m) (ibM m) (o0M m) og hG facts)
    (fun q _ => match q with | 0 => vecSplit (tbM m) (ibM m) (o0M m) og)
    m ρ main (fun _ => iprop(emp)) (FIN og m) (u₀ (F := F)) (hu₀ (tbM m) (ibM m) (o0M m) og) (hmain og m ρ) (fq og m) (hfin og m) (QC og m)
    (fun _ h hz => ⟨fun c => ⟨(h c).1, (h c).2.1, (h c).2.2.1⟩, hz⟩)

end Cert.Proof.Launch

end
-- ==== Proof.Rows.lean ====
/-
  The gathered rows as a plain function of the table and the row numbers: row `r` of the result is the table's row the `r`-th
  number names, the numbers read in row-major order. The kernel's output is this, block by block; the reference's gather is this.
-/
module

public import proofs.«01_k».proof.Proof.Launch
public import Idealize.ShloMosaic.Lib.ReduceAll
public import Idealize.ShloMosaic.Lib.Routing.Ops
public import Idealize.ShloMosaic.Lib.Pipeline.ValueKit.Geometry

@[expose] public section

noncomputable section

namespace Cert.Proof.Rows

open Cert.KernelIdeal Cert.KernelIdeal.Gen Cert.Proof.Steps Cert.Proof.Tile Cert.Proof.Launch
open Idealize.ShloMosaic Idealize.ShloMosaic.ValueIdx

variable {F : FTy → Type}

theorem flat_numel : S1x10000x32.ShapeCasts ⟨1, ![320000]⟩ := by decide

/-- The `r`-th row number. -/
def word (A : IVec S1x10000x32 32) (r : Fin 320000) : BitVec 32 := shapeCast ⟨1, ![320000]⟩ A flat_numel (ix1 r)

/-- The gathered rows. -/
def rows {α : Type} (T : S10000x128.Idx → α) (A : IVec S1x10000x32 32) : S320000x128.Idx → α :=
  fun x => T (atT ⟨(word A (x 0)).toNat % 10000, Nat.mod_lt _ (by decide)⟩ (x 1))

/-- Every row number names a row. -/
def Names (A : IVec S1x10000x32 32) : Prop := ∀ j, (A j).toNat < 10000

/-! ## The kernel's blocks -/

/-- The numbers in one row, as the host's reshape leaves them, are the numbers. -/
theorem one_row (A : IVec S1x10000x32 32) (r : Fin 320000) (y : S1x320000.Idx) (hy : y 1 = r) :
    shapeCast S1x320000 A shapeCasts_S1x10000x32_S1x320000 y = word A r := by
  unfold word shapeCast
  congr 1
  refine Shape.reshapeEquiv_eq_of_rowMajor _ ?_
  rw [Shape.rowMajor_reshapeEquiv, Shape.rowMajor_val_one, Shape.rowMajor_val_two]
  have h0 : (y 0).val = 0 := Nat.lt_one_iff.1 (y 0).isLt
  show r.val = (y 0).val * 320000 + (y 1).val
  rw [h0, hy]; omega

variable (m : (ℓ : Loc nD τ sig) → Buf (Elt F) ℓ)

/-- The output the kernel leaves. -/
abbrev og (d : Dev nD) : Buf (Elt F) (oLoc d) := rows (α := F .f32) (m (tLoc d)) (m (aLoc d))

theorem gathered (h : ∀ d, Names (m (aLoc d))) (d : Dev nD) (L : grid0.Coords) :
    Gathered d L iV oV shV (ibM m d) (shTab (tbM m) d (cV L)) (og m d) := by
  intro b
  refine ⟨fun y => h d _, fun x => ?_⟩
  have hw : ∀ z : S1x128.Idx, (iW iV b).view.read (Elt F) (ibM m d) z = word (m (aLoc d)) ⟨128 * b.val + (z 1).val, by have := (z 1).isLt; have : (z 1).val < 128 := this; omega⟩ :=
    fun z => by
      have e : ((iW iV b).view.emb z) 1 = (⟨128 * b.val + (z 1).val, by have h : (z 1).val < 128 := (z 1).isLt; omega⟩ : Fin 320000) :=
        Fin.ext (ValueKit.rect_emb_unit_val _ _ _ _ _)
      exact one_row (m (aLoc d)) _ ((iW iV b).view.emb z) e
  rw [show shV.view.read (Elt F) (shTab (tbM m) d (cV L)) = (m (tLoc d) : S10000x128.Idx → F .f32) from View.read_whole _ _]
  show rows (m (tLoc d)) (m (aLoc d)) ((oW oV b).view.emb x) = _
  unfold rows
  have e1 : ((oW oV b).view.emb x) 1 = x 1 := Fin.ext ((ValueKit.rect_emb_unit_val _ _ _ _ _).trans (Nat.zero_add _))
  have e0 : ((oW oV b).view.emb x) 0 = (⟨128 * b.val + (x 0).val, by have h : (x 0).val < 128 := (x 0).isLt; omega⟩ : Fin 320000) :=
        Fin.ext (ValueKit.rect_emb_unit_val _ _ _ _ _)
  congr 1
  rw [e1]
  congr 1
  refine Fin.ext ?_
  show (word (m (aLoc d)) (((oW oV b).view.emb x) 0)).toNat % 10000 = _
  rw [e0]
  simp only [hw]
  exact Nat.mod_eq_of_lt (h d _)

theorem run [FloatOps F] [∀ e, Nonempty (Elt F e)] (ρ : Dev nD → PrngReg) (h : ∀ d, Names (m (aLoc d))) :
    θ_run (Cert.KernelIdeal.defs (F := F)) (Cert.KernelIdeal.threads (F := F)) ⟨m, fun _ => 0, ρ⟩ (QC (og m) m) :=
  run_main (og m) m ρ (gathered m h)

/-! ## The reference's gather -/

theorem ref_rows {α : Type} (g : GatherDims ⟨2, ![10000, 128]⟩ ⟨2, ![320000, 1]⟩ ⟨2, ![320000, 128]⟩) (hoff : g.offsetDims = [1])
    (hcoll : g.collapsedSliceDims = [0]) (hob : g.operandBatchingDims = []) (hsim : g.startIndexMap = [0]) (hivd : g.indexVectorDim = 1)
    (hb0 : (⟨0, ![]⟩ : Shape).BroadcastsInDim ⟨1, ![320000]⟩ (![] : Fin 0 → Fin 1)) (hb1 : (⟨1, ![320000]⟩ : Shape).BroadcastsInDim ⟨2, ![320000, 1]⟩ (![0] : Fin 1 → Fin 2))
    (hf : S1x10000x32.ShapeCasts ⟨1, ![320000]⟩) (T : (⟨2, ![10000, 128]⟩ : Shape).Idx → α) (A : IVec S1x10000x32 32) (hA : Names A) :
    Host.gather g T (broadcastInDim ⟨2, ![320000, 1]⟩ ![0] hb1
      (select (cmpi .slt (shapeCast ⟨1, ![320000]⟩ A hf) (broadcastInDim ⟨1, ![320000]⟩ ![] hb0 (constantI ⟨0, ![]⟩ 32 0#32)))
        (addi (shapeCast ⟨1, ![320000]⟩ A hf) (broadcastInDim ⟨1, ![320000]⟩ ![] hb0 (constantI ⟨0, ![]⟩ 32 10000#32))) (shapeCast ⟨1, ![320000]⟩ A hf)))
      = rows T A := by
  funext x
  have hx := eq_ix2 x
  rw [hx]
  have hlt : (word A (x 0)).toNat < 10000 := hA _
  refine (Routing.gather_row g hoff hcoll hob hsim hivd T _ (x 0) (x 1) ⟨(word A (x 0)).toNat, hlt⟩ ?_ (by decide)).trans ?_
  · have hw : shapeCast ⟨1, ![320000]⟩ A hf (ix1 (x 0)) = word A (x 0) := rfl
    have hv : ∀ w : BitVec 32, w.toNat < 10000 → IntOp.cmpi .slt w 0#32 = 0#1 := by
      intro w hw
      have : ¬ (IntOp.cmpi .slt w 0#32 = 1#1) := by
        rw [show (IntOp.cmpi .slt w 0#32 = 1#1 ↔ w.toNat < (0#32 : BitVec 32).toNat) from
          StableHlo.Predicate.slt_iff_toNat (by omega) (by decide)]
        simp
      generalize IntOp.cmpi .slt w 0#32 = c at this ⊢
      revert this; revert c; decide
    have hcol : ∀ v : IVec ⟨1, ![320000]⟩ 32, broadcastInDim ⟨2, ![320000, 1]⟩ ![0] hb1 v (ix2 (x 0) (0 : Fin 1)) = v (ix1 (x 0)) := fun v =>
      congrArg v (funext fun a => by
        obtain rfl : a = 0 := Subsingleton.elim _ _
        refine Fin.ext ?_
        split
        · next h1 => exact absurd h1 (by decide)
        · rfl)
    rw [hcol]
    show Scalar.select (IntOp.cmpi .slt (shapeCast ⟨1, ![320000]⟩ A hf (ix1 (x 0))) 0#32) _ (shapeCast ⟨1, ![320000]⟩ A hf (ix1 (x 0))) = _
    rw [hw, hv _ hlt]
    exact (BitVec.ofNat_toNat 32 _).symm ▸ (BitVec.setWidth_eq _).symm
  · unfold rows
    congr 1
    funext a
    match a with
    | ⟨0, _⟩ => exact Fin.ext (Nat.mod_eq_of_lt hlt).symm
    | ⟨1, _⟩ => rfl

/-! ## The precondition -/

theorem names_of_pre [FloatOps F] {A : IVec S1x10000x32 32} {T : FVec F S10000x128 .f32} [Cert.Pre_idx_in_range.Facts]
    (h : Cert.Pre_idx_in_range.fn (F := F) T A = fun _ => 1#1) : Names A := by
  have andi_ofBool (p q : Bool) : IntOp.andi (BitVec.ofBool p) (BitVec.ofBool q) = BitVec.ofBool (p && q) := by
    cases p <;> cases q <;> decide
  intro j
  haveI : Subsingleton (Cert.Pre_idx_in_range.S_).Idx := ⟨fun a b => funext fun i => i.elim0⟩
  have e := Host.reduce_andi_all _ _ _ _ ix0 (congrFun h ix0) j
  simp only [andi, cmpi, broadcastInDim, constantI, IntOp.cmpi, andi_ofBool, StableHlo.Predicate.ofBool_eq_one_iff, Bool.and_eq_true, BitVec.sle_eq_decide,
    BitVec.slt_eq_decide, decide_eq_true_eq, BitVec.toInt_eq_toNat_cond, BitVec.toNat_ofNat, Nat.reducePow, Nat.reduceMod] at e
  omega

end Cert.Proof.Rows

end
-- ==== Proof.Consts.lean ====
/- The float constants the programs spell, as the extended reals their patterns denote at `Ideal`.
   One module unfolds `Ideal.ofBits`; the others read the values here. -/
module

public import Idealize.ShloMosaic.PureOps.Ideal

@[expose] public section

noncomputable section

namespace Cert.Consts

open Idealize.ShloMosaic

/-- The factor `0.5` which the host folds into the second layer's weights. -/
theorem half_bits : Ideal.ofBits .f32 0x3F000000#32 = (((2 : ℝ)⁻¹ : ℝ) : EReal) := by
  simp [Ideal.ofBits, Ideal.ieee, -EReal.coe_mul]; norm_num

/-- The `2` the reference halves its activation by and takes the root of. -/
theorem two_bits : Ideal.ofBits .f32 0x40000000#32 = ((2 : ℝ) : EReal) := by
  simp [Ideal.ofBits, Ideal.ieee, -EReal.coe_mul]; norm_num

/-- The `30` the reference divides a node's summed messages by. -/
theorem thirty_bits : Ideal.ofBits .f32 0x41F00000#32 = ((30 : ℝ) : EReal) := by
  simp [Ideal.ofBits, Ideal.ieee, -EReal.coe_mul]; norm_num

/-- The width `128` a normalisation's sums are divided by. -/
theorem width_bits : Ideal.ofBits .f32 0x43000000#32 = ((128 : ℝ) : EReal) := by
  simp [Ideal.ofBits, Ideal.ieee, -EReal.coe_mul]; norm_num

/-- The small number a normalisation adds to the variance is a positive real. -/
theorem small_bits : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

end Cert.Consts

end
-- ==== Proof.Layers.lean ====
/- The layers of the two updates on the extended reals, without any array: the activation, one linear layer on
   activated values, the normalisation. Each is given once as the reference computes it and once as the kernel does,
   which carries its hidden values divided by `√2`; and the second is shown equal to the first.

   Multiplication by a positive real distributes over every sum of extended reals, infinite terms included, so
   nothing here asks for finite values. -/
module

public import proofs.«01_k».proof.Proof.Consts
public import Mathlib.Data.EReal.Operations
public import Mathlib.Data.EReal.Inv

@[expose] public section

noncomputable section

namespace Cert.Layers

open Idealize.ShloMosaic

/-- `1/√2`, the kernel's scale. -/
def s : EReal := (((Real.sqrt 2)⁻¹ : ℝ) : EReal)

/-- `√2` as the reference spells it. -/
def root : EReal := Ideal.sqrt (Ideal.ofBits .f32 0x40000000#32)

/-- The width as both sides spell it. -/
def width : EReal := Ideal.ofBits .f32 0x43000000#32

/-- The small number under a normalisation's root, as both sides spell it. -/
def small : EReal := Ideal.ofBits .f32 0x3727C5AC#32

theorem sqrt_two_ne : Real.sqrt 2 ≠ 0 := (Real.sqrt_pos.mpr (by norm_num)).ne'

theorem root_eq : root = ((Real.sqrt 2 : ℝ) : EReal) := by
  rw [root, Consts.two_bits, Ideal.sqrt_coe, if_neg (by norm_num)]

theorem root_mul_s : root * s = 1 := by
  rw [root_eq, s, ← EReal.coe_mul, mul_inv_cancel₀ sqrt_two_ne, EReal.coe_one]

theorem s_mul_s : s * s = (((2 : ℝ)⁻¹ : ℝ) : EReal) := by
  rw [s, ← EReal.coe_mul, ← mul_inv, Real.mul_self_sqrt (by norm_num)]

theorem div_root (x : EReal) : Ideal.div x root = x * s := by
  rw [root_eq, Ideal.div_coe sqrt_two_ne, one_div, s]

theorem div_two (x : EReal) : Ideal.div x (Ideal.ofBits .f32 0x40000000#32) = x * (s * s) := by
  rw [Consts.two_bits, Ideal.div_coe (by norm_num), one_div, s_mul_s]

theorem half_eq : Ideal.ofBits .f32 0x3F000000#32 = s * s := Consts.half_bits.trans s_mul_s.symm

/-- A positive real factor distributes over a sum of two. -/
theorem add_mul_coe {r : ℝ} (hr : 0 ≤ r) (x y : EReal) : (x + y) * (r : EReal) = x * r + y * r :=
  EReal.right_distrib_of_nonneg_of_ne_top (by exact_mod_cast hr) (EReal.coe_ne_top r) x y

/-- … and over a finite sum. -/
theorem sum_mul_coe {r : ℝ} (hr : 0 ≤ r) {ι : Type} (t : Finset ι) (f : ι → EReal) :
    (∑ i ∈ t, f i) * (r : EReal) = ∑ i ∈ t, f i * r := by
  classical
  induction t using Finset.induction_on with
  | empty => simp
  | insert i t hi ih => rw [Finset.sum_insert hi, Finset.sum_insert hi, add_mul_coe hr, ih]

theorem s_nonneg : (0 : ℝ) ≤ (Real.sqrt 2)⁻¹ := inv_nonneg.mpr (Real.sqrt_nonneg 2)

theorem add_mul_s (x y : EReal) : (x + y) * s = x * s + y * s := add_mul_coe s_nonneg x y

theorem sum_mul_s {n : ℕ} (f : Fin n → EReal) : (∑ i, f i) * s = ∑ i, f i * s := sum_mul_coe s_nonneg _ f

/-! ## The activation -/

/-- The reference's activation: `x (1 + erf (x/√2)) / 2`. -/
def gelu (x : EReal) : EReal := Ideal.div (x * (1 + Ideal.erf (Ideal.div x root))) (Ideal.ofBits .f32 0x40000000#32)

/-- The kernel's, of a value already divided by `√2`: `x (1 + erf x)`, which is `√2` times the reference's. -/
def act (x : EReal) : EReal := x * (1 + Ideal.erf x)

theorem gelu_eq (x : EReal) : gelu x = act (x * s) * s := by
  rw [gelu, act, div_two, div_root]; ac_rfl

/-! ## A linear layer -/

/-- The weights applied to activated values, plus the bias. -/
def layer {n : ℕ} (y w : Fin n → EReal) (b : EReal) : EReal := (∑ i, gelu (y i) * w i) + b

/-- The kernel's inner layer, whose bias carries `1/√2`; its weights come with a factor `½` already in them. -/
def innerK {n : ℕ} (x w : Fin n → EReal) (b : EReal) : EReal := (∑ i, act (x i) * w i) + b * s

/-- The kernel's last layer: its weights carry `1/√2`. -/
def lastK {n : ℕ} (x w : Fin n → EReal) (b : EReal) : EReal := (∑ i, act (x i) * (w i * s)) + b

theorem innerK_eq {n : ℕ} (x y v w : Fin n → EReal) (b : EReal) (h : ∀ i, x i = y i * s)
    (hv : ∀ i, v i = w i * Ideal.ofBits .f32 0x3F000000#32) : innerK x v b = layer y w b * s := by
  rw [layer, innerK, add_mul_s, sum_mul_s]
  refine congrArg (· + b * s) (Finset.sum_congr rfl fun i _ => ?_)
  rw [h, hv, gelu_eq, half_eq]; ac_rfl

theorem lastK_eq {n : ℕ} (x y w : Fin n → EReal) (b : EReal) (h : ∀ i, x i = y i * s) :
    lastK x w b = layer y w b := by
  refine congrArg (· + b) (Finset.sum_congr rfl fun i _ => ?_)
  rw [h, gelu_eq]; ac_rfl

theorem sum_scaled {n : ℕ} (x w : Fin n → EReal) : (∑ i, x i * (w i * s)) = (∑ i, x i * w i) * s := by
  rw [sum_mul_s]; exact Finset.sum_congr rfl fun i _ => (mul_assoc _ _ _).symm

theorem mul_root_mul_s (x : EReal) : x * root * s = x := by rw [mul_assoc, root_mul_s, mul_one]

/-! ## The message: two layers on a first one's values -/

/-- The message a first layer's values `y` give. -/
def message {n : ℕ} (y : Fin n → EReal) (w2 : Fin n → Fin n → EReal) (b2 : Fin n → EReal)
    (w3 : Fin n → Fin n → EReal) (b3 : Fin n → EReal) (j : Fin n) : EReal :=
  layer (fun i => layer y (w2 i) (b2 i)) (w3 j) (b3 j)

/-- The kernel's, from values already divided by `√2`. -/
def messageK {n : ℕ} (x : Fin n → EReal) (w2 : Fin n → Fin n → EReal) (b2 : Fin n → EReal)
    (w3 : Fin n → Fin n → EReal) (b3 : Fin n → EReal) (j : Fin n) : EReal :=
  lastK (fun i => innerK x (w2 i) (b2 i)) (w3 j) (b3 j)

theorem messageK_eq {n : ℕ} (x y : Fin n → EReal) (v2 w2 : Fin n → Fin n → EReal) (b2 : Fin n → EReal)
    (w3 : Fin n → Fin n → EReal) (b3 : Fin n → EReal) (h : ∀ i, x i = y i * s)
    (hv : ∀ i k, v2 i k = w2 i k * Ideal.ofBits .f32 0x3F000000#32) (j : Fin n) :
    messageK x v2 b2 w3 b3 j = message y w2 b2 w3 b3 j :=
  lastK_eq _ _ _ _ fun i => innerK_eq _ _ _ _ _ h (hv i)

/-! ## The normalisation -/

/-- The mean of a row. -/
def mean {n : ℕ} (f : Fin n → EReal) : EReal := Ideal.div (∑ i, f i) width

/-- The mean of the squared distances from the mean, plus the small number. -/
def spread {n : ℕ} (f : Fin n → EReal) : EReal := mean (fun i => (f i - mean f) * (f i - mean f)) + small

/-- The reference divides by the root of the spread, … -/
def norm {n : ℕ} (f g b : Fin n → EReal) (j : Fin n) : EReal :=
  Ideal.div (f j - mean f) (Ideal.sqrt (spread f)) * g j + b j

/-- … the kernel multiplies by its reciprocal root. -/
def normK {n : ℕ} (f g b : Fin n → EReal) (j : Fin n) : EReal :=
  (f j - mean f) * Ideal.rsqrt (spread f) * g j + b j

theorem square_nonneg (x : EReal) : 0 ≤ x * x := by
  rcases le_total 0 x with h | h
  · exact mul_nonneg h h
  · have : 0 ≤ -x * -x := mul_nonneg (EReal.neg_nonneg.mpr h) (EReal.neg_nonneg.mpr h)
    simpa using this

theorem spread_pos {n : ℕ} (f : Fin n → EReal) : 0 < spread f := by
  obtain ⟨e, he, hb⟩ := Consts.small_bits
  have hs : 0 < small := by rw [small, hb]; exact_mod_cast he
  refine lt_of_lt_of_le hs (le_add_of_nonneg_left ?_)
  rw [mean, width, Consts.width_bits, Ideal.div_coe (by norm_num)]
  exact mul_nonneg (Finset.sum_nonneg fun i _ => square_nonneg _) (by exact_mod_cast (by norm_num : (0 : ℝ) ≤ 1 / 128))

/-- Off zero and below, dividing by the root is multiplying by the reciprocal root. -/
theorem div_sqrt {z : EReal} (hz : 0 < z) (x : EReal) : Ideal.div x (Ideal.sqrt z) = x * Ideal.rsqrt z := by
  induction z with
  | bot => exact absurd hz (by simp)
  | top => rw [Ideal.sqrt_top, Ideal.rsqrt_top, Ideal.div]; simp
  | coe r =>
    have hr : 0 < r := by exact_mod_cast hz
    rw [Ideal.sqrt_coe, if_neg hr.not_gt, Ideal.div_coe (Real.sqrt_pos.mpr hr).ne', one_div, Ideal.rsqrt_coe,
      if_neg hr.not_gt, if_neg hr.ne']

theorem normK_eq {n : ℕ} (f g b : Fin n → EReal) (j : Fin n) : normK f g b j = norm f g b j := by
  rw [normK, norm, div_sqrt (spread_pos f)]

end Cert.Layers

end
-- ==== Proof.Share.lean ====
/- The neighbours' shares: a node's own rows times two column blocks of the first layer's weights, divided by `√2`.
   The kernel scales the weights by `1/√2` before it multiplies; the reference divides the sum of the products. -/
module

public import proofs.«01_k».proof.Proof.Layers
public import proofs.«01_k».proof.Proof.Gen.RowsKernelIdeal.Value
public import proofs.«01_k».proof.Proof.Gen.RowsReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RowsReferenceIdeal.Value

open Cert.RowsReferenceIdeal Cert.RowsReferenceIdeal.Gen

/-- The reference's result as a function of the two node arrays and the weights. -/
def share (hv hva : FVec Ideal S1x10000x128 .f32) (w : FVec Ideal S128x640 .f32) : FVec Ideal S10000x128 .f32 :=
  Host.divf (addf
      (Host.dotGeneral dot_S10000x128_S128x128_S10000x128_1_0_0_1_n_n none
        (shapeCast _ hv shapeCasts_S1x10000x128_S10000x128)
        (transpose S128x128 [1, 0] (extractStridedSlice S128x128 ![0, 256] w slices_S128x640_S128x128_0_256)
          transposes_S128x128_S128x128_1_0))
      (Host.dotGeneral dot_S10000x128_S128x128_S10000x128_1_0_0_1_n_n none
        (shapeCast _ hva shapeCasts_S1x10000x128_S10000x128)
        (transpose S128x128 [1, 0] (extractStridedSlice S128x128 ![0, 512] w slices_S128x640_S128x128_0_512)
          transposes_S128x128_S128x128_1_0)))
    (broadcastInDim S10000x128 ![] bcast_S_S10000x128 (Host.sqrt (constant S_ .f32 0x40000000#32)))

/-- One element of it. -/
theorem share_at (hv hva : FVec Ideal S1x10000x128 .f32) (w : FVec Ideal S128x640 .f32) (r : Fin 10000) (j : Fin 128) :
    share hv hva w (ix2 r j)
    = ((∑ k : Fin 128, hv (ix3 0 r k) * w (ix2 j ⟨256 + ↑k, by omega⟩))
        + ∑ k : Fin 128, hva (ix3 0 r k) * w (ix2 j ⟨512 + ↑k, by omega⟩)) * Layers.s := by
  rw [← Layers.div_root]
  pointwise [share, Layers.root]

end Cert.RowsReferenceIdeal.Value

namespace Cert.RowsKernelIdeal.Value

open Cert.RowsKernelIdeal Cert.RowsKernelIdeal.Gen

/-- The named constant is `1/√2`. -/
theorem named_s : Named.named (F := Ideal) κ "s" (φ := .f32) 0x3F3504F3#32 = Layers.s :=
  IdealRules.named_const.ideal_named_scalar _ _ _ _ rfl

/-- One element of what a grid point stores. -/
theorem stored_at (x : FVec Ideal S2000x128 .f32) (u : FVec Ideal S128x128 .f32) (y : FVec Ideal S2000x128 .f32)
    (v : FVec Ideal S128x128 .f32) (r : Fin 2000) (j : Fin 128) :
    k0_pay1 x u y v (ix2 r j)
    = ((∑ k : Fin 128, x (ix2 r k) * u (ix2 k j)) + ∑ k : Fin 128, y (ix2 r k) * v (ix2 k j)) * Layers.s := by
  rw [Layers.add_mul_s, ← Layers.sum_scaled, ← Layers.sum_scaled]
  pointwise [k0_pay1, named_s]

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- What point `t` stores at `y` is the reference's element at `y`'s place in the array. -/
theorem point (c : Dev nD) (t : Fin cfg0.N) (y : S2000x128.Idx) :
    k0_pay1 (iblk m c 0 t) (iblk m c 2 t) (iblk m c 1 t) (iblk m c 3 t) y
    = Cert.RowsReferenceIdeal.Value.share (m ((c : Thread nD τ).loc main_arg0)) (m ((c : Thread nD τ).loc main_arg1))
        (m ((c : Thread nD τ).loc main_arg2)) (((cfg0.win 4).blk t).view.emb y) := by
  rw [eq_ix2 y]
  refine (stored_at _ _ _ _ (y 0) (y 1)).trans ?_
  rw [eq_ix2 (((cfg0.win 4).blk t).view.emb (ix2 (y 0) (y 1)))]
  refine Eq.trans ?_ (Cert.RowsReferenceIdeal.Value.share_at _ _ _ _ _).symm
  blk_point [iblk, V, idx t]

/-- The result array after the run. -/
theorem final (c : Dev nD) : (dats m 0 c).arrAt 4 (cfgs 0).N
    = Cert.RowsReferenceIdeal.Value.share (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]; frame_out
  exact point m c t y

end Cert.RowsKernelIdeal.Value

end
-- ==== Proof.EdgesRef.lean ====
/- The edge update as the reference computes it: its result array, one element at a time, as a row of
   `Proof/Layers.lean`'s functions. -/
module

public import proofs.«01_k».proof.Proof.Layers
public import proofs.«01_k».proof.Proof.Gen.EdgesReferenceIdeal.Run
public import Idealize.ShloMosaic.Lib.Pointwise

@[expose] public section

set_option maxRecDepth 16384

noncomputable section

open Idealize.ShloMosaic Idealize.ShloMosaic.TcCoe Idealize.SL.Sem

namespace Cert.Layers

/-- The first layer's value for one edge: the node's own share, the edge's features times the weights, the
    neighbour's share, the bias. -/
def edgeFirst {n : ℕ} (he g t : Fin n → EReal) (w : Fin n → Fin n → EReal) (b : Fin n → EReal) (j : Fin n) : EReal :=
  t j * root + (∑ k, he k * w j k) + g j * root + b j

/-- One edge's updated features: its own plus its message, normalised. -/
def edge {n : ℕ} (he g t : Fin n → EReal) (w1 : Fin n → Fin n → EReal) (b1 : Fin n → EReal)
    (w2 : Fin n → Fin n → EReal) (b2 : Fin n → EReal) (w3 : Fin n → Fin n → EReal) (b3 gain shift : Fin n → EReal) :
    Fin n → EReal :=
  norm (fun j => he j + message (edgeFirst he g t w1 b1) w2 b2 w3 b3 j) gain shift

end Cert.Layers

namespace Cert.EdgesReferenceIdeal.Value

open Cert.EdgesReferenceIdeal Cert.EdgesReferenceIdeal.Gen

/-- `√2` at every place. -/
def roots : FVec Ideal S1x10000x32x128 .f32 :=
  broadcastInDim S1x10000x32x128 ![] bcast_S_S1x10000x32x128 (Host.sqrt (constant S_ .f32 0x40000000#32))

/-- A bias at every edge. -/
def everywhere (b : FVec Ideal S128 .f32) : FVec Ideal S1x10000x32x128 .f32 :=
  broadcastInDim S1x10000x32x128 ![0, 1, 2, 3] bcast_S1x1x1x128_S1x10000x32x128_0_1_2_3
    (broadcastInDim S1x1x1x128 ![3] bcast_S128_S1x1x1x128_3 b)

/-- The activation of every element. -/
def activated (x : FVec Ideal S1x10000x32x128 .f32) : FVec Ideal S1x10000x32x128 .f32 :=
  Host.divf (mulf x (addf (broadcastInDim S1x10000x32x128 ![] bcast_S_S1x10000x32x128 (constant S_ .f32 0x3F800000#32))
      (Host.erf (Host.divf x roots))))
    (broadcastInDim S1x10000x32x128 ![] bcast_S_S1x10000x32x128 (constant S_ .f32 0x40000000#32))

/-- A linear layer with square weights. -/
def linear (x : FVec Ideal S1x10000x32x128 .f32) (w : FVec Ideal S128x128 .f32) (b : FVec Ideal S128 .f32) :
    FVec Ideal S1x10000x32x128 .f32 :=
  addf (Host.dotGeneral dot_S1x10000x32x128_S128x128_S1x10000x32x128_3_0_012_1_n_n none x
    (transpose S128x128 [1, 0] w transposes_S128x128_S128x128_1_0)) (everywhere b)

/-- The first layer. -/
def first (he : FVec Ideal S1x10000x32x128 .f32) (g : FVec Ideal S320000x128 .f32) (t : FVec Ideal S10000x128 .f32)
    (w : FVec Ideal S128x384 .f32) (b : FVec Ideal S128 .f32) : FVec Ideal S1x10000x32x128 .f32 :=
  addf (addf (addf
    (broadcastInDim S1x10000x32x128 ![0, 1, 2, 3] bcast_S1x10000x1x128_S1x10000x32x128_0_1_2_3
      (shapeCast S1x10000x1x128 (mulf t (broadcastInDim S10000x128 ![] bcast_S_S10000x128 (Host.sqrt (constant S_ .f32 0x40000000#32))))
        shapeCasts_S10000x128_S1x10000x1x128))
    (Host.dotGeneral dot_S1x10000x32x128_S128x128_S1x10000x32x128_3_0_012_1_n_n none he
      (transpose S128x128 [1, 0] (extractStridedSlice S128x128 ![0, 128] w slices_S128x384_S128x128_0_128)
        transposes_S128x128_S128x128_1_0)))
    (mulf (shapeCast S1x10000x32x128 g shapeCasts_S320000x128_S1x10000x32x128) roots))
    (everywhere b)

/-- The mean of every row. -/
def means (x : FVec Ideal S1x10000x32x128 .f32) : FVec Ideal S1x10000x32x1 .f32 :=
  Host.divf (broadcastInDim S1x10000x32x1 ![0, 1, 2] bcast_S1x10000x32_S1x10000x32x1_0_1_2
      (Host.reduceAdd x (constant S_ .f32 0x00000000#32) reducesTo_S1x10000x32x128_S1x10000x32_d3 h_S_))
    (broadcastInDim S1x10000x32x1 ![] bcast_S_S1x10000x32x1 (constant S_ .f32 0x43000000#32))

/-- A row's one number at each of its places. -/
def along (x : FVec Ideal S1x10000x32x1 .f32) : FVec Ideal S1x10000x32x128 .f32 :=
  broadcastInDim S1x10000x32x128 ![0, 1, 2, 3] bcast_S1x10000x32x1_S1x10000x32x128_0_1_2_3 x

/-- The normalisation of every row. -/
def normed (x : FVec Ideal S1x10000x32x128 .f32) (gain shift : FVec Ideal S128 .f32) : FVec Ideal S1x10000x32x128 .f32 :=
  addf (mulf (Host.divf (subf x (along (means x)))
      (along (Host.sqrt (addf (means (mulf (subf x (along (means x))) (subf x (along (means x)))))
        (broadcastInDim S1x10000x32x1 ![] bcast_S_S1x10000x32x1 (constant S_ .f32 0x3727C5AC#32))))))
    (everywhere gain)) (everywhere shift)

/-- The result array. -/
def updated (he : FVec Ideal S1x10000x32x128 .f32) (g : FVec Ideal S320000x128 .f32) (t : FVec Ideal S10000x128 .f32)
    (w11 : FVec Ideal S128x384 .f32) (b11 : FVec Ideal S128 .f32) (w12 : FVec Ideal S128x128 .f32)
    (b12 : FVec Ideal S128 .f32) (w13 : FVec Ideal S128x128 .f32) (b13 gain shift : FVec Ideal S128 .f32) :
    FVec Ideal S320000x128 .f32 :=
  shapeCast S320000x128 (normed (addf he (linear (activated (linear (activated (first he g t w11 b11)) w12 b12)) w13 b13))
    gain shift) shapeCasts_S1x10000x32x128_S320000x128

section
variable (m : (ℓ : Loc nD τ sig) → Buf (Elt Ideal) ℓ)

/-- The run's result term is `updated` of the arguments. -/
theorem result_eq (c : Dev nD) : res_main_v74 m c
    = updated (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) :=
  rfl

end

variable (n : Fin 10000) (k : Fin 32) (j : Fin 128)

theorem activated_at (x : FVec Ideal S1x10000x32x128 .f32) : activated x (ix4 0 n k j) = Layers.gelu (x (ix4 0 n k j)) := by
  pointwise [activated, roots, Layers.gelu, Layers.root]

theorem linear_at (x : FVec Ideal S1x10000x32x128 .f32) (w : FVec Ideal S128x128 .f32) (b : FVec Ideal S128 .f32) :
    linear x w b (ix4 0 n k j) = (∑ i : Fin 128, x (ix4 0 n k i) * w (ix2 j i)) + b (ix1 j) := by
  pointwise [linear, everywhere]

theorem layer_at (x : FVec Ideal S1x10000x32x128 .f32) (w : FVec Ideal S128x128 .f32) (b : FVec Ideal S128 .f32) :
    linear (activated x) w b (ix4 0 n k j)
    = Layers.layer (fun i => x (ix4 0 n k i)) (fun i => w (ix2 j i)) (b (ix1 j)) := by
  rw [linear_at, Layers.layer]
  exact congrArg (· + b (ix1 j)) (Finset.sum_congr rfl fun i _ => by rw [activated_at])

theorem first_at (he : FVec Ideal S1x10000x32x128 .f32) (g : FVec Ideal S320000x128 .f32) (t : FVec Ideal S10000x128 .f32)
    (w : FVec Ideal S128x384 .f32) (b : FVec Ideal S128 .f32) :
    first he g t w b (ix4 0 n k j)
    = Layers.edgeFirst (fun i => he (ix4 0 n k i)) (fun i => g (ix2 ⟨↑n * 32 + ↑k, by omega⟩ i)) (fun i => t (ix2 n i))
        (fun i l => w (ix2 i ⟨128 + ↑l, by omega⟩)) (fun i => b (ix1 i)) j := by
  pointwise [first, everywhere, roots, Layers.edgeFirst, Layers.root]

theorem means_at (x : FVec Ideal S1x10000x32x128 .f32) :
    means x (ix4 0 n k 0) = Layers.mean fun i => x (ix4 0 n k i) := by
  pointwise [means, Layers.mean, Layers.width]

theorem normed_at (x : FVec Ideal S1x10000x32x128 .f32) (gain shift : FVec Ideal S128 .f32) :
    normed x gain shift (ix4 0 n k j)
    = Layers.norm (fun i => x (ix4 0 n k i)) (fun i => gain (ix1 i)) (fun i => shift (ix1 i)) j := by
  pointwise [normed, along, everywhere, means, Layers.norm, Layers.spread, Layers.small, Layers.mean, Layers.width]

/-- One element of the result, in row `r = 32 n + k`. -/
theorem updated_at (he : FVec Ideal S1x10000x32x128 .f32) (g : FVec Ideal S320000x128 .f32) (t : FVec Ideal S10000x128 .f32)
    (w11 : FVec Ideal S128x384 .f32) (b11 : FVec Ideal S128 .f32) (w12 : FVec Ideal S128x128 .f32)
    (b12 : FVec Ideal S128 .f32) (w13 : FVec Ideal S128x128 .f32) (b13 gain shift : FVec Ideal S128 .f32) (r : Fin 320000) :
    updated he g t w11 b11 w12 b12 w13 b13 gain shift (ix2 r j)
    = Layers.edge (fun i => he (ix4 0 ⟨↑r / 32, by omega⟩ ⟨↑r % 32, by omega⟩ i)) (fun i => g (ix2 r i))
        (fun i => t (ix2 ⟨↑r / 32, by omega⟩ i)) (fun i l => w11 (ix2 i ⟨128 + ↑l, by omega⟩)) (fun i => b11 (ix1 i))
        (fun i l => w12 (ix2 i l)) (fun i => b12 (ix1 i)) (fun i l => w13 (ix2 i l)) (fun i => b13 (ix1 i))
        (fun i => gain (ix1 i)) (fun i => shift (ix1 i)) j := by
  have hr : (⟨(⟨↑r / 32, by omega⟩ : Fin 10000).val * 32 + (⟨↑r % 32, by omega⟩ : Fin 32).val, by omega⟩ : Fin 320000) = r :=
    Fin.ext (by simp only []; omega)
  pointwise [updated]
  refine (normed_at _ _ _ _ _ _).trans ?_
  refine congrArg (fun f => Layers.norm f (fun i => gain (ix1 i)) (fun i => shift (ix1 i)) j) (funext fun i => ?_)
  refine congrArg (he (ix4 0 ⟨↑r / 32, by omega⟩ ⟨↑r % 32, by omega⟩ i) + ·) ?_
  refine (layer_at _ _ _ _ _ _).trans ?_
  refine congrArg (fun f => Layers.layer f (fun l => w13 (ix2 i l)) (b13 (ix1 i))) (funext fun l => ?_)
  refine (layer_at _ _ _ _ _ _).trans ?_
  refine congrArg (fun f => Layers.layer f (fun i => w12 (ix2 l i)) (b12 (ix1 l))) (funext fun q => ?_)
  refine (first_at _ _ _ _ _ _ _ _).trans ?_
  rw [hr]

end Cert.EdgesReferenceIdeal.Value

end
-- ==== Proof.NodesRef.lean ====
/- The node update as the reference computes it: its result arrays, one element at a time, as rows of
   `Proof/Layers.lean`'s functions. The stages on edge arrays are those of `Proof/EdgesRef.lean`. -/
module

public import proofs.«01_k».proof.Proof.EdgesRef
public import proofs.«01_k».proof.Proof.Gen.NodesReferenceIdeal.Run
public import Idealize.ShloMosaic.Lib.Pointwise

@[expose] public section

set_option maxRecDepth 16384

noncomputable section

open Idealize.ShloMosaic Idealize.ShloMosaic.TcCoe Idealize.SL.Sem

namespace Cert.Layers

/-- The first layer's value for one edge of a node: the node's own features times their weights, the edge's features
    times two blocks of weights, the neighbour's share, the bias. -/
def nodeFirst {n : ℕ} (hv he g : Fin n → EReal) (wa wb wd : Fin n → Fin n → EReal) (b : Fin n → EReal) (j : Fin n) :
    EReal :=
  (∑ k, hv k * wa j k) + ((∑ k, he k * wb j k) + ∑ k, he k * wd j k) + g j * root + b j

/-- A node's features plus a thirtieth of its messages' sum. -/
def gathered {n e : ℕ} (hv : Fin n → EReal) (ms : Fin e → Fin n → EReal) (j : Fin n) : EReal :=
  hv j + Ideal.div (∑ k, ms k j) (Ideal.ofBits .f32 0x41F00000#32)

/-- The two-layer network with a wide middle. -/
def wide {n f : ℕ} (x : Fin n → EReal) (win : Fin f → Fin n → EReal) (bin : Fin f → EReal)
    (wout : Fin n → Fin f → EReal) (bout : Fin n → EReal) (j : Fin n) : EReal :=
  layer (fun i => (∑ k, x k * win i k) + bin i) (wout j) (bout j)

/-- A row and the wide network's value of it, normalised. -/
def widened {n f : ℕ} (x : Fin n → EReal) (win : Fin f → Fin n → EReal) (bin : Fin f → EReal)
    (wout : Fin n → Fin f → EReal) (bout gain shift : Fin n → EReal) : Fin n → EReal :=
  norm (fun j => x j + wide x win bin wout bout j) gain shift

/-- One node's updated features. -/
def node {n f e : ℕ} (hv : Fin n → EReal) (he g : Fin e → Fin n → EReal) (wa wb wd : Fin n → Fin n → EReal)
    (b1 : Fin n → EReal) (w2 : Fin n → Fin n → EReal) (b2 : Fin n → EReal) (w3 : Fin n → Fin n → EReal)
    (b3 : Fin n → EReal) (win : Fin f → Fin n → EReal) (bin : Fin f → EReal) (wout : Fin n → Fin f → EReal)
    (bout gain1 shift1 gain2 shift2 : Fin n → EReal) : Fin n → EReal :=
  widened (norm (gathered hv fun k => message (nodeFirst hv (he k) (g k) wa wb wd b1) w2 b2 w3 b3) gain1 shift1)
    win bin wout bout gain2 shift2

end Cert.Layers

namespace Cert.NodesReferenceIdeal.Value

open Cert.NodesReferenceIdeal Cert.NodesReferenceIdeal.Gen
open Cert.EdgesReferenceIdeal.Value (roots everywhere activated linear layer_at)

/-- A bias at every node. -/
def everyNode (b : FVec Ideal S128 .f32) : FVec Ideal S1x10000x128 .f32 :=
  broadcastInDim S1x10000x128 ![0, 1, 2] bcast_S1x1x128_S1x10000x128_0_1_2
    (broadcastInDim S1x1x128 ![2] bcast_S128_S1x1x128_2 b)

/-- The first layer. -/
def first (hv : FVec Ideal S1x10000x128 .f32) (he : FVec Ideal S1x10000x32x128 .f32) (g : FVec Ideal S320000x128 .f32)
    (w : FVec Ideal S128x640 .f32) (b : FVec Ideal S128 .f32) : FVec Ideal S1x10000x32x128 .f32 :=
  addf (addf (addf
    (broadcastInDim S1x10000x32x128 ![0, 1, 2, 3] bcast_S1x10000x1x128_S1x10000x32x128_0_1_2_3
      (broadcastInDim S1x10000x1x128 ![0, 1, 3] bcast_S1x10000x128_S1x10000x1x128_0_1_3
        (Host.dotGeneral dot_S1x10000x128_S128x128_S1x10000x128_2_0_01_1_n_n none hv
          (transpose S128x128 [1, 0] (extractStridedSlice S128x128 ![0, 0] w slices_S128x640_S128x128_0_0)
            transposes_S128x128_S128x128_1_0))))
    (addf
      (Host.dotGeneral dot_S1x10000x32x128_S128x128_S1x10000x32x128_3_0_012_1_n_n none he
        (transpose S128x128 [1, 0] (extractStridedSlice S128x128 ![0, 128] w slices_S128x640_S128x128_0_128)
          transposes_S128x128_S128x128_1_0))
      (Host.dotGeneral dot_S1x10000x32x128_S128x128_S1x10000x32x128_3_0_012_1_n_n none he
        (transpose S128x128 [1, 0] (extractStridedSlice S128x128 ![0, 384] w slices_S128x640_S128x128_0_384)
          transposes_S128x128_S128x128_1_0))))
    (mulf (shapeCast S1x10000x32x128 g shapeCasts_S320000x128_S1x10000x32x128) roots))
    (everywhere b)

/-- The nodes plus their masked messages' sums over thirty. -/
def summed (hv : FVec Ideal S1x10000x128 .f32) (ma : FVec Ideal S1x10000x32 .f32) (ms : FVec Ideal S1x10000x32x128 .f32) :
    FVec Ideal S1x10000x128 .f32 :=
  addf hv (Host.divf
    (Host.reduceAdd (mulf (broadcastInDim S1x10000x32x128 ![0, 1, 2, 3] bcast_S1x10000x32x1_S1x10000x32x128_0_1_2_3
        (broadcastInDim S1x10000x32x1 ![0, 1, 2] bcast_S1x10000x32_S1x10000x32x1_0_1_2 ma)) ms)
      (constant S_ .f32 0x00000000#32) reducesTo_S1x10000x32x128_S1x10000x128_d2 h_S_)
    (broadcastInDim S1x10000x128 ![] bcast_S_S1x10000x128 (constant S_ .f32 0x41F00000#32)))

/-- The mean of every node's row. -/
def means (x : FVec Ideal S1x10000x128 .f32) : FVec Ideal S1x10000x1 .f32 :=
  Host.divf (broadcastInDim S1x10000x1 ![0, 1] bcast_S1x10000_S1x10000x1_0_1
      (Host.reduceAdd x (constant S_ .f32 0x00000000#32) reducesTo_S1x10000x128_S1x10000_d2 h_S_))
    (broadcastInDim S1x10000x1 ![] bcast_S_S1x10000x1 (constant S_ .f32 0x43000000#32))

/-- A node's one number at each place of its row. -/
def along (x : FVec Ideal S1x10000x1 .f32) : FVec Ideal S1x10000x128 .f32 :=
  broadcastInDim S1x10000x128 ![0, 1, 2] bcast_S1x10000x1_S1x10000x128_0_1_2 x

/-- The normalisation of every node's row. -/
def normed (x : FVec Ideal S1x10000x128 .f32) (gain shift : FVec Ideal S128 .f32) : FVec Ideal S1x10000x128 .f32 :=
  addf (mulf (Host.divf (subf x (along (means x)))
      (along (Host.sqrt (addf (means (mulf (subf x (along (means x))) (subf x (along (means x)))))
        (broadcastInDim S1x10000x1 ![] bcast_S_S1x10000x1 (constant S_ .f32 0x3727C5AC#32))))))
    (everyNode gain)) (everyNode shift)

/-- The wide network's middle before activation. -/
def middle (x : FVec Ideal S1x10000x128 .f32) (win : FVec Ideal S512x128 .f32) (bin : FVec Ideal S512 .f32) :
    FVec Ideal S1x10000x512 .f32 :=
  addf (Host.dotGeneral dot_S1x10000x128_S128x512_S1x10000x512_2_0_01_1_n_n none x
      (transpose S128x512 [1, 0] win transposes_S512x128_S128x512_1_0))
    (broadcastInDim S1x10000x512 ![0, 1, 2] bcast_S1x1x512_S1x10000x512_0_1_2
      (broadcastInDim S1x1x512 ![2] bcast_S512_S1x1x512_2 bin))

/-- The wide network's value from its middle. -/
def narrowed (x : FVec Ideal S1x10000x512 .f32) (wout : FVec Ideal S128x512 .f32) (bout : FVec Ideal S128 .f32) :
    FVec Ideal S1x10000x128 .f32 :=
  addf (Host.dotGeneral dot_S1x10000x512_S512x128_S1x10000x128_2_0_01_1_n_n none
      (Host.divf (mulf x (addf (broadcastInDim S1x10000x512 ![] bcast_S_S1x10000x512 (constant S_ .f32 0x3F800000#32))
          (Host.erf (Host.divf x (broadcastInDim S1x10000x512 ![] bcast_S_S1x10000x512
            (Host.sqrt (constant S_ .f32 0x40000000#32)))))))
        (broadcastInDim S1x10000x512 ![] bcast_S_S1x10000x512 (constant S_ .f32 0x40000000#32)))
      (transpose S512x128 [1, 0] wout transposes_S128x512_S512x128_1_0))
    (everyNode bout)

/-- The updated nodes, before the last mask. -/
def updated (hv : FVec Ideal S1x10000x128 .f32) (he : FVec Ideal S1x10000x32x128 .f32) (g : FVec Ideal S320000x128 .f32)
    (ma : FVec Ideal S1x10000x32 .f32) (w1 : FVec Ideal S128x640 .f32) (b1 : FVec Ideal S128 .f32)
    (w2 : FVec Ideal S128x128 .f32) (b2 : FVec Ideal S128 .f32) (w3 : FVec Ideal S128x128 .f32) (b3 : FVec Ideal S128 .f32)
    (win : FVec Ideal S512x128 .f32) (bin : FVec Ideal S512 .f32) (wout : FVec Ideal S128x512 .f32)
    (bout gain1 shift1 gain2 shift2 : FVec Ideal S128 .f32) : FVec Ideal S1x10000x128 .f32 :=
  let mid := normed (summed hv ma (linear (activated (linear (activated (first hv he g w1 b1)) w2 b2)) w3 b3)) gain1 shift1
  normed (addf mid (narrowed (middle mid win bin) wout bout)) gain2 shift2

/-- A node mask times every node's row. -/
def masked (mv : FVec Ideal S1x10000 .f32) (x : FVec Ideal S1x10000x128 .f32) : FVec Ideal S1x10000x128 .f32 :=
  mulf (broadcastInDim S1x10000x128 ![0, 1, 2] bcast_S1x10000x1_S1x10000x128_0_1_2
    (broadcastInDim S1x10000x1 ![0, 1] bcast_S1x10000_S1x10000x1_0_1 mv)) x

/-- Every node's row without the leading axis. -/
def flat (x : FVec Ideal S1x10000x128 .f32) : FVec Ideal S10000x128 .f32 :=
  shapeCast S10000x128 x shapeCasts_S1x10000x128_S10000x128

/-- Every node's share in the edge update: its row times a column block of weights, over `√2`. -/
def share (x : FVec Ideal S1x10000x128 .f32) (w : FVec Ideal S128x128 .f32) : FVec Ideal S10000x128 .f32 :=
  Host.divf (Host.dotGeneral dot_S10000x128_S128x128_S10000x128_1_0_0_1_n_n none (flat x)
      (transpose S128x128 [1, 0] w transposes_S128x128_S128x128_1_0))
    (broadcastInDim S10000x128 ![] bcast_S_S10000x128 (Host.sqrt (constant S_ .f32 0x40000000#32)))

section
variable (m : (ℓ : Loc nD τ sig) → Buf (Elt Ideal) ℓ)

/-- The masked updated nodes of a launch's arguments. -/
def result (c : Dev nD) : FVec Ideal S1x10000x128 .f32 :=
  masked (m ((c : Thread nD τ).loc main_arg3))
    (updated (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg12)) (m ((c : Thread nD τ).loc main_arg13))
      (m ((c : Thread nD τ).loc main_arg14)) (m ((c : Thread nD τ).loc main_arg15)) (m ((c : Thread nD τ).loc main_arg16))
      (m ((c : Thread nD τ).loc main_arg17)) (m ((c : Thread nD τ).loc main_arg18)) (m ((c : Thread nD τ).loc main_arg19)))

/-- The run's term for the nodes is `result`. -/
theorem result_eq (c : Dev nD) : res_main_v130 (Idealize.ShloMosaic.StableHlo.launchContents m c) = result m c := rfl

end

variable (n : Fin 10000) (k : Fin 32) (j : Fin 128)

theorem first_at (hv : FVec Ideal S1x10000x128 .f32) (he : FVec Ideal S1x10000x32x128 .f32)
    (g : FVec Ideal S320000x128 .f32) (w : FVec Ideal S128x640 .f32) (b : FVec Ideal S128 .f32) :
    first hv he g w b (ix4 0 n k j)
    = Layers.nodeFirst (fun i => hv (ix3 0 n i)) (fun i => he (ix4 0 n k i)) (fun i => g (ix2 ⟨↑n * 32 + ↑k, by omega⟩ i))
        (fun i l => w (ix2 i ⟨↑l, by omega⟩)) (fun i l => w (ix2 i ⟨128 + ↑l, by omega⟩))
        (fun i l => w (ix2 i ⟨384 + ↑l, by omega⟩)) (fun i => b (ix1 i)) j := by
  pointwise [first, everywhere, roots, Layers.nodeFirst, Layers.root]

theorem message_at (x : FVec Ideal S1x10000x32x128 .f32) (w2 : FVec Ideal S128x128 .f32) (b2 : FVec Ideal S128 .f32)
    (w3 : FVec Ideal S128x128 .f32) (b3 : FVec Ideal S128 .f32) :
    linear (activated (linear (activated x) w2 b2)) w3 b3 (ix4 0 n k j)
    = Layers.message (fun i => x (ix4 0 n k i)) (fun i l => w2 (ix2 i l)) (fun i => b2 (ix1 i))
        (fun i l => w3 (ix2 i l)) (fun i => b3 (ix1 i)) j := by
  refine (layer_at _ _ _ _ _ _).trans ?_
  exact congrArg (fun f => Layers.layer f (fun l => w3 (ix2 j l)) (b3 (ix1 j))) (funext fun i => layer_at _ _ _ _ _ _)

theorem summed_at (hv : FVec Ideal S1x10000x128 .f32) (ma : FVec Ideal S1x10000x32 .f32)
    (ms : FVec Ideal S1x10000x32x128 .f32) (hma : ∀ k : Fin 32, ma (ix3 0 n k) = (1 : EReal)) :
    summed hv ma ms (ix3 0 n j) = Layers.gathered (fun i => hv (ix3 0 n i)) (fun k i => ms (ix4 0 n k i)) j := by
  pointwise [summed, Layers.gathered, hma]

theorem normed_at (x : FVec Ideal S1x10000x128 .f32) (gain shift : FVec Ideal S128 .f32) :
    normed x gain shift (ix3 0 n j)
    = Layers.norm (fun i => x (ix3 0 n i)) (fun i => gain (ix1 i)) (fun i => shift (ix1 i)) j := by
  pointwise [normed, along, everyNode, means, Layers.norm, Layers.spread, Layers.small, Layers.mean, Layers.width]

theorem wide_at (x : FVec Ideal S1x10000x128 .f32) (win : FVec Ideal S512x128 .f32) (bin : FVec Ideal S512 .f32)
    (wout : FVec Ideal S128x512 .f32) (bout : FVec Ideal S128 .f32) :
    narrowed (middle x win bin) wout bout (ix3 0 n j)
    = Layers.wide (fun i => x (ix3 0 n i)) (fun i l => win (ix2 i l)) (fun i => bin (ix1 i))
        (fun i l => wout (ix2 i l)) (fun i => bout (ix1 i)) j := by
  pointwise [narrowed, middle, everyNode, Layers.wide, Layers.layer, Layers.gelu, Layers.root]

/-- One element of the updated nodes, where the node's edges are all attended to. -/
theorem updated_at (hv : FVec Ideal S1x10000x128 .f32) (he : FVec Ideal S1x10000x32x128 .f32)
    (g : FVec Ideal S320000x128 .f32) (ma : FVec Ideal S1x10000x32 .f32) (w1 : FVec Ideal S128x640 .f32)
    (b1 : FVec Ideal S128 .f32) (w2 : FVec Ideal S128x128 .f32) (b2 : FVec Ideal S128 .f32)
    (w3 : FVec Ideal S128x128 .f32) (b3 : FVec Ideal S128 .f32) (win : FVec Ideal S512x128 .f32)
    (bin : FVec Ideal S512 .f32) (wout : FVec Ideal S128x512 .f32) (bout gain1 shift1 gain2 shift2 : FVec Ideal S128 .f32)
    (hma : ∀ k : Fin 32, ma (ix3 0 n k) = (1 : EReal)) :
    updated hv he g ma w1 b1 w2 b2 w3 b3 win bin wout bout gain1 shift1 gain2 shift2 (ix3 0 n j)
    = Layers.node (fun i => hv (ix3 0 n i)) (fun k i => he (ix4 0 n k i)) (fun k i => g (ix2 ⟨↑n * 32 + ↑k, by omega⟩ i))
        (fun i l => w1 (ix2 i ⟨↑l, by omega⟩)) (fun i l => w1 (ix2 i ⟨128 + ↑l, by omega⟩))
        (fun i l => w1 (ix2 i ⟨384 + ↑l, by omega⟩)) (fun i => b1 (ix1 i))
        (fun i l => w2 (ix2 i l)) (fun i => b2 (ix1 i)) (fun i l => w3 (ix2 i l)) (fun i => b3 (ix1 i))
        (fun i l => win (ix2 i l)) (fun i => bin (ix1 i)) (fun i l => wout (ix2 i l)) (fun i => bout (ix1 i))
        (fun i => gain1 (ix1 i)) (fun i => shift1 (ix1 i)) (fun i => gain2 (ix1 i)) (fun i => shift2 (ix1 i)) j := by
  have hmid : (fun i : Fin 128 => normed (summed hv ma (linear (activated (linear (activated (first hv he g w1 b1)) w2 b2)) w3 b3))
        gain1 shift1 (ix3 0 n i))
      = Layers.norm (Layers.gathered (fun i => hv (ix3 0 n i)) fun k => Layers.message
          (Layers.nodeFirst (fun i => hv (ix3 0 n i)) (fun i => he (ix4 0 n k i))
            (fun i => g (ix2 ⟨↑n * 32 + ↑k, by omega⟩ i)) (fun i l => w1 (ix2 i ⟨↑l, by omega⟩))
            (fun i l => w1 (ix2 i ⟨128 + ↑l, by omega⟩)) (fun i l => w1 (ix2 i ⟨384 + ↑l, by omega⟩)) (fun i => b1 (ix1 i)))
          (fun i l => w2 (ix2 i l)) (fun i => b2 (ix1 i)) (fun i l => w3 (ix2 i l)) (fun i => b3 (ix1 i)))
        (fun i => gain1 (ix1 i)) (fun i => shift1 (ix1 i)) := by
    funext i
    refine (normed_at _ _ _ _ _).trans ?_
    refine congrArg (fun f => Layers.norm f (fun i => gain1 (ix1 i)) (fun i => shift1 (ix1 i)) i) (funext fun l => ?_)
    refine (summed_at _ _ _ _ _ hma).trans ?_
    refine congrArg (fun f => Layers.gathered (fun i => hv (ix3 0 n i)) f l) (funext fun k => funext fun q => ?_)
    refine (message_at _ _ _ _ _ _ _ _).trans ?_
    exact congrArg (fun f => Layers.message f (fun i l => w2 (ix2 i l)) (fun i => b2 (ix1 i)) (fun i l => w3 (ix2 i l))
      (fun i => b3 (ix1 i)) q) (funext fun z => first_at _ _ _ _ _ _ _ _)
  rw [Layers.node, ← hmid]
  refine (normed_at _ _ _ _ _).trans ?_
  refine congrArg (fun f => Layers.norm f (fun i => gain2 (ix1 i)) (fun i => shift2 (ix1 i)) j) (funext fun i => ?_)
  exact congrArg (_ + ·) (wide_at _ _ _ _ _ _ _)

theorem masked_at (mv : FVec Ideal S1x10000 .f32) (x : FVec Ideal S1x10000x128 .f32)
    (hmv : mv (ix2 0 n) = (1 : EReal)) : masked mv x (ix3 0 n j) = x (ix3 0 n j) := by
  pointwise [masked, hmv]

theorem flat_at (x : FVec Ideal S1x10000x128 .f32) : flat x (ix2 n j) = x (ix3 0 n j) := by
  pointwise [flat]

theorem share_at (x : FVec Ideal S1x10000x128 .f32) (w : FVec Ideal S128x128 .f32) :
    share x w (ix2 n j) = (∑ k : Fin 128, x (ix3 0 n k) * w (ix2 j k)) * Layers.s := by
  rw [← Layers.div_root]
  pointwise [share, flat, Layers.root]

end Cert.NodesReferenceIdeal.Value

end
-- ==== Proof.NodesRow.lean ====
/- The node update as the kernel computes it, on one row of values, and its equality with the reference's. The kernel adds
   two blocks of weights before it multiplies by the edge's features, where the reference adds the two products: that
   one step asks for finite features and weights. -/
module

public import proofs.«01_k».proof.Proof.NodesRef

@[expose] public section

noncomputable section

namespace Cert.Layers

open Idealize.ShloMosaic

/-- `1/30`. -/
def third : EReal := (((30 : ℝ)⁻¹ : ℝ) : EReal)

theorem div_thirty (x : EReal) : Ideal.div x (Ideal.ofBits .f32 0x41F00000#32) = x * third := by
  rw [Consts.thirty_bits, Ideal.div_coe (by norm_num), one_div, third]

/-- A value that is neither infinity. -/
def Finite (x : EReal) : Prop := x ≠ ⊤ ∧ x ≠ ⊥

theorem mul_add_finite {x y z : EReal} (hx : Finite x) (hy : Finite y) (hz : Finite z) : x * (y + z) = x * y + x * z := by
  lift x to ℝ using hx
  lift y to ℝ using hy
  lift z to ℝ using hz
  norm_cast
  exact mul_add x y z

/-- The kernel's first layer: `w` holds the two blocks' sum; everything carries `1/√2`. -/
def nodeFirstK {n : ℕ} (hv he g : Fin n → EReal) (wa w : Fin n → Fin n → EReal) (b : Fin n → EReal) (j : Fin n) : EReal :=
  (∑ k, he k * (w j k * s)) + g j + b j * s + ∑ k, hv k * (wa j k * s)

theorem nodeFirstK_eq {n : ℕ} (hv he g : Fin n → EReal) (wa wb wd : Fin n → Fin n → EReal) (b : Fin n → EReal) (j : Fin n)
    (hhe : ∀ k, Finite (he k)) (hwb : ∀ k, Finite (wb j k)) (hwd : ∀ k, Finite (wd j k)) :
    nodeFirstK hv he g wa (fun i k => wb i k + wd i k) b j = nodeFirst hv he g wa wb wd b j * s := by
  have hsum : (∑ k, he k * (wb j k + wd j k)) = (∑ k, he k * wb j k) + ∑ k, he k * wd j k := by
    rw [← Finset.sum_add_distrib]
    exact Finset.sum_congr rfl fun k _ => mul_add_finite (hhe k) (hwb k) (hwd k)
  rw [nodeFirstK, nodeFirst, add_mul_s, add_mul_s, add_mul_s, mul_root_mul_s, sum_scaled, sum_scaled, hsum]
  ac_rfl

/-- The kernel's sum of a node's messages. -/
def gatheredK {n e : ℕ} (hv : Fin n → EReal) (ms : Fin e → Fin n → EReal) (j : Fin n) : EReal :=
  hv j + (∑ k, ms k j) * third

theorem gatheredK_eq {n e : ℕ} (hv : Fin n → EReal) (ms : Fin e → Fin n → EReal) (j : Fin n) :
    gatheredK hv ms j = gathered hv ms j := by rw [gatheredK, gathered, div_thirty]

/-- The kernel's wide network. -/
def wideK {n f : ℕ} (x : Fin n → EReal) (win : Fin f → Fin n → EReal) (bin : Fin f → EReal)
    (wout : Fin n → Fin f → EReal) (bout : Fin n → EReal) (j : Fin n) : EReal :=
  lastK (fun i => (∑ k, x k * (win i k * s)) + bin i * s) (wout j) (bout j)

theorem wideK_eq {n f : ℕ} (x : Fin n → EReal) (win : Fin f → Fin n → EReal) (bin : Fin f → EReal)
    (wout : Fin n → Fin f → EReal) (bout : Fin n → EReal) (j : Fin n) :
    wideK x win bin wout bout j = wide x win bin wout bout j :=
  lastK_eq _ _ _ _ fun i => by rw [sum_scaled, add_mul_s]

/-- The kernel's second half of the update. -/
def widenedK {n f : ℕ} (x : Fin n → EReal) (win : Fin f → Fin n → EReal) (bin : Fin f → EReal)
    (wout : Fin n → Fin f → EReal) (bout gain shift : Fin n → EReal) : Fin n → EReal :=
  normK (fun j => x j + wideK x win bin wout bout j) gain shift

theorem widenedK_eq {n f : ℕ} (x : Fin n → EReal) (win : Fin f → Fin n → EReal) (bin : Fin f → EReal)
    (wout : Fin n → Fin f → EReal) (bout gain shift : Fin n → EReal) :
    widenedK x win bin wout bout gain shift = widened x win bin wout bout gain shift := by
  funext j
  rw [widenedK, widened, normK_eq]
  exact congrArg (fun f => norm f gain shift j) (funext fun i => by rw [wideK_eq])

/-- The kernel's update of one node. -/
def nodeK {n f e : ℕ} (hv : Fin n → EReal) (he g : Fin e → Fin n → EReal) (wa w : Fin n → Fin n → EReal)
    (b1 : Fin n → EReal) (w2 : Fin n → Fin n → EReal) (b2 : Fin n → EReal) (w3 : Fin n → Fin n → EReal)
    (b3 : Fin n → EReal) (win : Fin f → Fin n → EReal) (bin : Fin f → EReal) (wout : Fin n → Fin f → EReal)
    (bout gain1 shift1 gain2 shift2 : Fin n → EReal) : Fin n → EReal :=
  widenedK (normK (gatheredK hv fun k => messageK (nodeFirstK hv (he k) (g k) wa w b1) w2 b2 w3 b3) gain1 shift1)
    win bin wout bout gain2 shift2

/-- The two updates agree on finite edge features and finite blocks of weights, when the kernel's inner weights are the
    reference's halved. -/
theorem nodeK_eq {n f e : ℕ} (hv : Fin n → EReal) (he g : Fin e → Fin n → EReal) (wa wb wd : Fin n → Fin n → EReal)
    (b1 : Fin n → EReal) (v2 w2 : Fin n → Fin n → EReal) (b2 : Fin n → EReal) (w3 : Fin n → Fin n → EReal)
    (b3 : Fin n → EReal) (win : Fin f → Fin n → EReal) (bin : Fin f → EReal) (wout : Fin n → Fin f → EReal)
    (bout gain1 shift1 gain2 shift2 : Fin n → EReal) (hv2 : ∀ i k, v2 i k = w2 i k * Ideal.ofBits .f32 0x3F000000#32)
    (hhe : ∀ k i, Finite (he k i)) (hwb : ∀ j k, Finite (wb j k)) (hwd : ∀ j k, Finite (wd j k)) :
    nodeK hv he g wa (fun i k => wb i k + wd i k) b1 v2 b2 w3 b3 win bin wout bout gain1 shift1 gain2 shift2
    = node hv he g wa wb wd b1 w2 b2 w3 b3 win bin wout bout gain1 shift1 gain2 shift2 := by
  rw [nodeK, node, widenedK_eq]
  refine congrArg (fun x => widened x win bin wout bout gain2 shift2) (funext fun j => ?_)
  rw [normK_eq]
  refine congrArg (fun x => norm x gain1 shift1 j) (funext fun i => ?_)
  rw [gatheredK_eq]
  refine congrArg (fun x => gathered hv x i) (funext fun k => funext fun l => ?_)
  exact messageK_eq _ _ _ _ _ _ _ (fun q => nodeFirstK_eq hv (he k) (g k) wa wb wd b1 q (hhe k) (hwb q) (hwd q)) hv2 l

end Cert.Layers

end
-- ==== Proof.NodesBody.lean ====
/- What a grid point of the node update's call stores, one element at a time: a row of `Proof/NodesRow.lean`'s
   functions of the blocks. -/
module

public import proofs.«01_k».proof.Proof.NodesRow
public import proofs.«01_k».proof.Proof.Gen.NodesKernelIdeal.Skeleton
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NodesKernelIdeal.Value

open Cert.NodesKernelIdeal Cert.NodesKernelIdeal.Gen

/-- The named constant of the scale is `1/√2`. -/
theorem named_s : Named.named (F := Ideal) κ "s" (φ := .f32) 0x3F3504F3#32 = Layers.s :=
  IdealRules.named_const.ideal_named_scalar _ _ _ _ rfl

/-- The named constant of the messages' mean is `1/30`. -/
theorem named_t : Named.named (F := Ideal) κ "t" (φ := .f32) 0x3D088889#32 = Layers.third :=
  IdealRules.named_const.ideal_named_scalar _ _ _ _ rfl

theorem erf_eq (x : Ideal .f32) : FloatOps.erf x = Ideal.erf x := rfl

/-- Edge `k` of node `r` in a block. -/
def edgeRow (r : Fin 400) (k : Fin 32) : Fin 12800 := ⟨↑r * 32 + ↑k, by omega⟩

variable (he g : FVec Ideal S12800x128 .f32) (hv : FVec Ideal S400x128 .f32) (wa w1 : FVec Ideal S128x128 .f32)
  (b1 : FVec Ideal S1x128 .f32) (w2 : FVec Ideal S128x128 .bf16) (b2 : FVec Ideal S1x128 .f32)
  (w3 : FVec Ideal S128x128 .f32) (b3 : FVec Ideal S1x128 .f32) (win : FVec Ideal S128x512 .f32)
  (bin : FVec Ideal S1x512 .f32) (wout : FVec Ideal S512x128 .f32)
  (bout gain1 shift1 gain2 shift2 : FVec Ideal S1x128 .f32) (r : Fin 400) (k : Fin 32) (j : Fin 128)

/-- The first layer, activated, of any edge of the block. -/
theorem first_at' (e : Fin 12800) : k0_pay3 (F := Ideal) hv wa he w1 g b1 (ix2 e j)
    = Layers.act (Layers.nodeFirstK (fun i => hv (ix2 ⟨↑e / 32, by omega⟩ i)) (fun i => he (ix2 e i))
        (fun i => g (ix2 e i)) (fun i l => wa (ix2 l i)) (fun i l => w1 (ix2 l i)) (fun i => b1 (ix2 0 i)) j) := by
  pointwise [k0_pay3, k0_pay1, named_s, erf_eq, Layers.nodeFirstK, Layers.act]

/-- The first layer, activated, of edge `k` of node `r`. -/
theorem first_at : k0_pay3 (F := Ideal) hv wa he w1 g b1 (ix2 (edgeRow r k) j)
    = Layers.act (Layers.nodeFirstK (fun i => hv (ix2 r i)) (fun i => he (ix2 (edgeRow r k) i))
        (fun i => g (ix2 (edgeRow r k) i)) (fun i l => wa (ix2 l i)) (fun i l => w1 (ix2 l i)) (fun i => b1 (ix2 0 i)) j) := by
  have hr : (⟨(↑(edgeRow r k) : ℕ) / 32, by omega⟩ : Fin 400) = r := Fin.ext (by simp only [edgeRow]; omega)
  rw [first_at', hr]

/-- The messages' sum added to the node's row, less its mean, from the activated first layer `x`. -/
theorem centred_at (x : FVec Ideal S12800x128 .bf16) :
    k0_pay6 (F := Ideal) (k0_pay1 hv) (k0_pay2 w2) x (constant S12800x128 .f32 0x00000000#32) b2 w3 b3 (ix2 r j)
    = (fun f : Fin 128 → EReal => f j - Layers.mean f)
        (Layers.gatheredK (fun i => hv (ix2 r i)) fun k i => Layers.lastK
          (fun l => (∑ q : Fin 128, x (ix2 (edgeRow r k) q) * w2 (ix2 q l)) + b2 (ix2 0 l) * Layers.s)
          (fun l => w3 (ix2 l i)) (b3 (ix2 0 i))) := by
  pointwise [k0_pay6, k0_pay1, k0_pay2, named_s, named_t, erf_eq, Layers.gatheredK, Layers.lastK, Layers.act, Layers.mean,
    Layers.width, edgeRow]

/-- The squares' sum of the centred row. -/
theorem squares_at (x : FVec Ideal S12800x128 .bf16) :
    k0_pay7 (F := Ideal) (k0_pay1 hv) (k0_pay2 w2) x (constant S12800x128 .f32 0x00000000#32) b2 w3 b3 (ix2 r 0)
    = ∑ i : Fin 128, (show EReal from k0_pay6 (F := Ideal) (k0_pay1 hv) (k0_pay2 w2) x
          (constant S12800x128 .f32 0x00000000#32) b2 w3 b3 (ix2 r i))
        * (show EReal from k0_pay6 (F := Ideal) (k0_pay1 hv) (k0_pay2 w2) x
          (constant S12800x128 .f32 0x00000000#32) b2 w3 b3 (ix2 r i)) := by
  pointwise [k0_pay7]

/-- The normalised row plus its wide network, from the centred row `x` and its squares' sum `y`. -/
theorem widened_at (x : FVec Ideal S400x128 .f32) (y : FVec Ideal S400x1 .f32) :
    k0_pay8 (F := Ideal) (k0_pay4 gain1) (k0_pay5 shift1) x y (Scalar.ofBits .f32 0x43000000#32) win bin wout bout (ix2 r j)
    = (fun f : Fin 128 → EReal => f j + Layers.wideK f (fun i l => win (ix2 l i)) (fun i => bin (ix2 0 i))
          (fun i l => wout (ix2 l i)) (fun i => bout (ix2 0 i)) j)
        (fun i => x (ix2 r i) * Ideal.rsqrt (Ideal.div (y (ix2 r 0)) Layers.width + Layers.small) * gain1 (ix2 0 i)
          + shift1 (ix2 0 i)) := by
  pointwise [k0_pay8, k0_pay4, k0_pay5, named_s, erf_eq, Layers.wideK, Layers.lastK, Layers.act, Layers.width, Layers.small]

/-- The same from a row `f`: centred into `x`, its centred squares summed into `y`. -/
theorem widened_norm (x : FVec Ideal S400x128 .f32) (y : FVec Ideal S400x1 .f32) (f : Fin 128 → EReal)
    (hx : ∀ i : Fin 128, x (ix2 r i) = f i - Layers.mean f)
    (hy : y (ix2 r 0) = ∑ i : Fin 128, (f i - Layers.mean f) * (f i - Layers.mean f)) :
    k0_pay8 (F := Ideal) (k0_pay4 gain1) (k0_pay5 shift1) x y (Scalar.ofBits .f32 0x43000000#32) win bin wout bout (ix2 r j)
    = Layers.normK f (fun i => gain1 (ix2 0 i)) (fun i => shift1 (ix2 0 i)) j
      + Layers.wideK (Layers.normK f (fun i => gain1 (ix2 0 i)) (fun i => shift1 (ix2 0 i))) (fun i l => win (ix2 l i))
          (fun i => bin (ix2 0 i)) (fun i l => wout (ix2 l i)) (fun i => bout (ix2 0 i)) j := by
  refine (widened_at win bin wout bout gain1 shift1 r j x y).trans ?_
  simp only [hx, hy]
  rfl

/-- The last normalisation. -/
theorem last_at (x : FVec Ideal S400x128 .f32) : k0_pay10 (F := Ideal) x (k0_pay9 gain2) shift2 (ix2 r j)
    = Layers.normK (fun i => x (ix2 r i)) (fun i => gain2 (ix2 0 i)) (fun i => shift2 (ix2 0 i)) j := by
  pointwise [k0_pay10, k0_pay9, Layers.normK, Layers.spread, Layers.small, Layers.mean, Layers.width]

/-- What the body stores into the updated nodes' block. -/
def stored : FVec Ideal S400x128 .f32 :=
  k0_pay10 (k0_pay8 (k0_pay4 gain1) (k0_pay5 shift1)
      (k0_pay6 (k0_pay1 hv) (k0_pay2 w2) (k0_pay3 hv wa he w1 g b1) (constant S12800x128 .f32 0x00000000#32) b2 w3 b3)
      (k0_pay7 (k0_pay1 hv) (k0_pay2 w2) (k0_pay3 hv wa he w1 g b1) (constant S12800x128 .f32 0x00000000#32) b2 w3 b3)
      (Scalar.ofBits .f32 0x43000000#32) win bin wout bout)
    (k0_pay9 gain2) shift2

theorem stored_at : stored he g hv wa w1 b1 w2 b2 w3 b3 win bin wout bout gain1 shift1 gain2 shift2 (ix2 r j)
    = Layers.nodeK (fun i => hv (ix2 r i)) (fun k i => he (ix2 (edgeRow r k) i)) (fun k i => g (ix2 (edgeRow r k) i))
        (fun i l => wa (ix2 l i)) (fun i l => w1 (ix2 l i)) (fun i => b1 (ix2 0 i)) (fun i l => w2 (ix2 l i))
        (fun i => b2 (ix2 0 i)) (fun i l => w3 (ix2 l i)) (fun i => b3 (ix2 0 i)) (fun i l => win (ix2 l i))
        (fun i => bin (ix2 0 i)) (fun i l => wout (ix2 l i)) (fun i => bout (ix2 0 i)) (fun i => gain1 (ix2 0 i))
        (fun i => shift1 (ix2 0 i)) (fun i => gain2 (ix2 0 i)) (fun i => shift2 (ix2 0 i)) j := by
  have hms : (fun (k : Fin 32) (i : Fin 128) => Layers.lastK
          (fun l => (∑ q : Fin 128, (show EReal from k0_pay3 (F := Ideal) hv wa he w1 g b1 (ix2 (edgeRow r k) q)) * w2 (ix2 q l))
            + b2 (ix2 0 l) * Layers.s)
          (fun l => w3 (ix2 l i)) (b3 (ix2 0 i)))
      = fun k => Layers.messageK (Layers.nodeFirstK (fun i => hv (ix2 r i)) (fun i => he (ix2 (edgeRow r k) i))
          (fun i => g (ix2 (edgeRow r k) i)) (fun i l => wa (ix2 l i)) (fun i l => w1 (ix2 l i)) (fun i => b1 (ix2 0 i)))
          (fun i l => w2 (ix2 l i)) (fun i => b2 (ix2 0 i)) (fun i l => w3 (ix2 l i)) (fun i => b3 (ix2 0 i)) := by
    funext k i
    rw [Layers.messageK]
    refine congrArg (fun f => Layers.lastK f (fun l => w3 (ix2 l i)) (b3 (ix2 0 i))) (funext fun l => ?_)
    rw [Layers.innerK]
    exact congrArg (· + b2 (ix2 0 l) * Layers.s)
      (Finset.sum_congr rfl fun q _ => congrArg (· * w2 (ix2 q l)) (first_at he g hv wa w1 b1 r k q))
  refine (last_at gain2 shift2 r j _).trans ?_
  rw [Layers.nodeK, Layers.widenedK]
  refine congrArg (fun f => Layers.normK f (fun i => gain2 (ix2 0 i)) (fun i => shift2 (ix2 0 i)) j) (funext fun i => ?_)
  refine widened_norm win bin wout bout gain1 shift1 r i _ _ _ (fun l => ?_) ?_
  · refine (centred_at hv w2 b2 w3 b3 r l _).trans ?_
    rw [hms]
  · refine (squares_at hv w2 b2 w3 b3 r _).trans ?_
    refine Finset.sum_congr rfl fun l _ => ?_
    rw [centred_at, hms]

/-- What it stores into a share's block: the updated row times scaled weights. -/
theorem share_at (x : FVec Ideal S400x128 .f32) (w : FVec Ideal S128x128 .f32) :
    k0_pay11 (F := Ideal) x (k0_pay9 gain2) shift2 w (ix2 r j)
    = ∑ i : Fin 128, (show EReal from k0_pay10 (F := Ideal) x (k0_pay9 gain2) shift2 (ix2 r i)) * (w (ix2 i j) * Layers.s) := by
  pointwise [k0_pay11, named_s]

theorem share_at' (x : FVec Ideal S400x128 .f32) (w : FVec Ideal S128x128 .f32) :
    k0_pay12 (F := Ideal) x (k0_pay9 gain2) shift2 w (ix2 r j)
    = ∑ i : Fin 128, (show EReal from k0_pay10 (F := Ideal) x (k0_pay9 gain2) shift2 (ix2 r i)) * (w (ix2 i j) * Layers.s) := by
  pointwise [k0_pay12, named_s]

end Cert.NodesKernelIdeal.Value

end
-- ==== Proof.Nodes.lean ====
/- The node update's call: its blocks are rows of the arguments, what a grid point stores is the reference's rows, and so
   are its three result arrays after the run: the updated nodes and their two shares. -/
module

public import proofs.«01_k».proof.Proof.NodesBody
public import proofs.«01_k».proof.Proof.NodesRef
public import proofs.«01_k».proof.Proof.Gen.NodesKernelIdeal.Value
public import Idealize.ShloMosaic.Lib.Pipeline.ValueKit

@[expose] public section

set_option maxRecDepth 16384

noncomputable section

open Idealize.ShloMosaic Idealize.ShloMosaic.TcCoe Idealize.SL.Sem

namespace Cert.NodesKernelIdeal.Value

open Cert.NodesKernelIdeal Cert.NodesKernelIdeal.Gen

variable (m : (ℓ : Loc nD τ sig) → Buf (Elt Ideal) ℓ)

/-- What the launch's arguments have to be: both masks are one everywhere, and the edge features and the two blocks of
    first-layer weights that meet them are finite. -/
structure Fit (c : Dev nD) : Prop where
  nodes : ∀ n : Fin 10000, m ((c : Thread nD τ).loc main_arg3) (ix2 0 n) = (1 : EReal)
  attends : ∀ (n : Fin 10000) (k : Fin 32), m ((c : Thread nD τ).loc main_arg4) (ix3 0 n k) = (1 : EReal)
  edges : ∀ (n : Fin 10000) (k : Fin 32) (i : Fin 128), Layers.Finite (m ((c : Thread nD τ).loc main_arg1) (ix4 0 n k i))
  near : ∀ i l : Fin 128, Layers.Finite (m ((c : Thread nD τ).loc main_arg5) (ix2 i ⟨128 + ↑l, by omega⟩))
  far : ∀ i l : Fin 128, Layers.Finite (m ((c : Thread nD τ).loc main_arg5) (ix2 i ⟨384 + ↑l, by omega⟩))

/-- Where the windows' blocks lie: the edges, the nodes and the results move with the point, the rest stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![t.val, 0] ∧ win0_21.index t = ![t.val, 0]
    ∧ win0_22.index t = ![t.val, 0] :=
  (by decide +kernel : ∀ t : Fin grid0.N, _)

/-- The node that row `r` of point `t`'s block is. -/
def place (t : Fin cfg0.N) (r : Fin 400) : Fin 10000 :=
  ⟨t.val * 400 + ↑r, by have : t.val < 25 := t.isLt; omega⟩

section
variable (c : Dev nD) (t : Fin cfg0.N) (r : Fin 400) (k : Fin 32) (i l : Fin 128) (z : Fin 512)

theorem he_block : iblk m c 0 t (ix2 (edgeRow r k) i) = m ((c : Thread nD τ).loc main_arg1) (ix4 0 (place t r) k i) := by
  blk_simp [iblk]; entry_read; pointwise; blk_ext [idx t, place, edgeRow]
theorem g_block : iblk m c 1 t (ix2 (edgeRow r k) i)
    = m ((c : Thread nD τ).loc main_arg2) (ix2 ⟨↑(place t r) * 32 + ↑k, by omega⟩ i) := by
  blk_ext [iblk, V, idx t, place, edgeRow]
theorem hv_block : iblk m c 2 t (ix2 r i) = m ((c : Thread nD τ).loc main_arg0) (ix3 0 (place t r) i) := by
  blk_simp [iblk]; entry_read; pointwise; blk_ext [idx t, place]
theorem wa_block : iblk m c 3 t (ix2 l i) = m ((c : Thread nD τ).loc main_arg5) (ix2 i ⟨↑l, by omega⟩) := by
  blk_simp [iblk]; entry_read; pointwise; blk_ext [idx t]
theorem w1_block : iblk m c 4 t (ix2 l i) = (show EReal from m ((c : Thread nD τ).loc main_arg5) (ix2 i ⟨128 + ↑l, by omega⟩))
    + (show EReal from m ((c : Thread nD τ).loc main_arg5) (ix2 i ⟨384 + ↑l, by omega⟩)) := by
  blk_simp [iblk]; entry_read; pointwise; refine congrArg₂ (HAdd.hAdd (α := EReal)) ?_ ?_ <;> blk_ext [idx t]
theorem b1_block : iblk m c 5 t (ix2 0 i) = m ((c : Thread nD τ).loc main_arg6) (ix1 i) := by
  blk_simp [iblk]; entry_read; pointwise; blk_ext [idx t]
theorem w2_block : iblk m c 6 t (ix2 l i)
    = (show EReal from m ((c : Thread nD τ).loc main_arg7) (ix2 i l)) * Ideal.ofBits .f32 0x3F000000#32 := by
  blk_simp [iblk]; entry_read; pointwise; refine Ideal.mul_congr ?_ rfl; blk_ext [idx t]
theorem b2_block : iblk m c 7 t (ix2 0 i) = m ((c : Thread nD τ).loc main_arg8) (ix1 i) := by
  blk_simp [iblk]; entry_read; pointwise; blk_ext [idx t]
theorem w3_block : iblk m c 8 t (ix2 l i) = m ((c : Thread nD τ).loc main_arg9) (ix2 i l) := by
  blk_simp [iblk]; entry_read; pointwise; blk_ext [idx t]
theorem b3_block : iblk m c 9 t (ix2 0 i) = m ((c : Thread nD τ).loc main_arg10) (ix1 i) := by
  blk_simp [iblk]; entry_read; pointwise; blk_ext [idx t]
theorem win_block : iblk m c 10 t (ix2 l z) = m ((c : Thread nD τ).loc main_arg12) (ix2 z l) := by
  blk_simp [iblk]; entry_read; pointwise; blk_ext [idx t]
theorem bin_block : iblk m c 11 t (ix2 0 z) = m ((c : Thread nD τ).loc main_arg13) (ix1 z) := by
  blk_simp [iblk]; entry_read; pointwise; blk_ext [idx t]
theorem wout_block : iblk m c 12 t (ix2 z i) = m ((c : Thread nD τ).loc main_arg14) (ix2 i z) := by
  blk_simp [iblk]; entry_read; pointwise; blk_ext [idx t]
theorem bout_block : iblk m c 13 t (ix2 0 i) = m ((c : Thread nD τ).loc main_arg15) (ix1 i) := by
  blk_simp [iblk]; entry_read; pointwise; blk_ext [idx t]
theorem gain1_block : iblk m c 14 t (ix2 0 i) = m ((c : Thread nD τ).loc main_arg16) (ix1 i) := by
  blk_simp [iblk]; entry_read; pointwise; blk_ext [idx t]
theorem shift1_block : iblk m c 15 t (ix2 0 i) = m ((c : Thread nD τ).loc main_arg17) (ix1 i) := by
  blk_simp [iblk]; entry_read; pointwise; blk_ext [idx t]
theorem gain2_block : iblk m c 16 t (ix2 0 i) = m ((c : Thread nD τ).loc main_arg18) (ix1 i) := by
  blk_simp [iblk]; entry_read; pointwise; blk_ext [idx t]
theorem shift2_block : iblk m c 17 t (ix2 0 i) = m ((c : Thread nD τ).loc main_arg19) (ix1 i) := by
  blk_simp [iblk]; entry_read; pointwise; blk_ext [idx t]
theorem w11a_block : iblk m c 18 t (ix2 l i) = m ((c : Thread nD τ).loc main_arg11) (ix2 i ⟨↑l, by omega⟩) := by
  blk_simp [iblk]; entry_read; pointwise; blk_ext [idx t]
theorem w11c_block : iblk m c 19 t (ix2 l i) = m ((c : Thread nD τ).loc main_arg11) (ix2 i ⟨256 + ↑l, by omega⟩) := by
  blk_simp [iblk]; entry_read; pointwise; blk_ext [idx t]
end

/-- The reference's updated nodes, of the kernel's launch. -/
def result (c : Dev nD) : FVec Ideal S1x10000x128 .f32 :=
  Cert.NodesReferenceIdeal.Value.masked (m ((c : Thread nD τ).loc main_arg3))
    (Cert.NodesReferenceIdeal.Value.updated
      (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg12)) (m ((c : Thread nD τ).loc main_arg13))
      (m ((c : Thread nD τ).loc main_arg14)) (m ((c : Thread nD τ).loc main_arg15)) (m ((c : Thread nD τ).loc main_arg16))
      (m ((c : Thread nD τ).loc main_arg17)) (m ((c : Thread nD τ).loc main_arg18)) (m ((c : Thread nD τ).loc main_arg19)))

/-- What point `t`'s body stores into the updated nodes' block. -/
def block (c : Dev nD) (t : Fin cfg0.N) : FVec Ideal S400x128 .f32 :=
  stored (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t)

variable {m} in
/-- Row `r` of the block is the reference's row. -/
theorem block_at {c : Dev nD} (h : Fit m c) (t : Fin cfg0.N) (r : Fin 400) (j : Fin 128) :
    block m c t (ix2 r j) = result m c (ix3 0 (place t r) j) := by
  refine Eq.trans ?_ ((Cert.NodesReferenceIdeal.Value.masked_at _ _ _ _ (h.nodes _)).trans
    (Cert.NodesReferenceIdeal.Value.updated_at _ _ _ _ _ _ _ _ _ _ _ _ _ _ _ _ _ _ _ _ (h.attends (place t r)))).symm
  refine (stored_at _ _ _ _ _ _ _ _ _ _ _ _ _ _ _ _ _ _ r j).trans ?_
  rw [funext fun i => funext (w1_block m c t i), funext fun k => funext (he_block m c t r k),
    funext fun k => funext (g_block m c t r k), funext (hv_block m c t r), funext fun i => funext (wa_block m c t i),
    funext (b1_block m c t), funext (b2_block m c t), funext fun i => funext (w3_block m c t i), funext (b3_block m c t),
    funext fun z => funext fun i => win_block m c t i z, funext (bin_block m c t),
    funext fun i => funext fun z => wout_block m c t i z, funext (bout_block m c t), funext (gain1_block m c t),
    funext (shift1_block m c t), funext (gain2_block m c t), funext (shift2_block m c t)]
  exact congrFun (Layers.nodeK_eq _ _ _ _ _ _ _ _ _ _ _ _ _ _ _ _ _ _ _ _ (fun i l => w2_block m c t i l)
    (h.edges (place t r)) h.near h.far) j

end Cert.NodesKernelIdeal.Value

end
-- ==== Proof.NodesFinal.lean ====
/- The node update's three result arrays after the run: the updated nodes and their two shares, as the reference states
   them. -/
module

public import proofs.«01_k».proof.Proof.Nodes
public import proofs.«01_k».proof.Proof.Gen.NodesReferenceIdeal

@[expose] public section

set_option maxRecDepth 16384

noncomputable section

open Idealize.ShloMosaic Idealize.ShloMosaic.TcCoe Idealize.SL.Sem

namespace Cert.NodesKernelIdeal.Value

open Cert.NodesKernelIdeal Cert.NodesKernelIdeal.Gen

section
variable (x0 x1 : FVec Ideal S12800x128 .f32) (x2 : FVec Ideal S400x128 .f32) (x3 x4 : FVec Ideal S128x128 .f32)
  (x5 : FVec Ideal S1x128 .f32) (x6 : FVec Ideal S128x128 .bf16) (x7 : FVec Ideal S1x128 .f32)
  (x8 : FVec Ideal S128x128 .f32) (x9 : FVec Ideal S1x128 .f32) (x10 : FVec Ideal S128x512 .f32)
  (x11 : FVec Ideal S1x512 .f32) (x12 : FVec Ideal S512x128 .f32) (x13 x14 x15 x16 x17 : FVec Ideal S1x128 .f32)
  (x18 x19 : FVec Ideal S128x128 .f32)

/-- The updated nodes' block after the body is `stored`. -/
theorem out_nodes : out0_20 (F := Ideal) x0 x1 x2 x3 x4 x5 x6 x7 x8 x9 x10 x11 x12 x13 x14 x15 x16 x17 x18 x19
    = stored x0 x1 x2 x3 x4 x5 x6 x7 x8 x9 x10 x11 x12 x13 x14 x15 x16 x17 := by
  unfold_out out0_20
  simp (disch := decide) only [View.canon_cons_unit_lit', View.ld_unit_lit']
  rfl

/-- The gathered share's block after the body, read at an index. -/
theorem out_gathered (r : Fin 400) (j : Fin 128) :
    out0_21 (F := Ideal) x0 x1 x2 x3 x4 x5 x6 x7 x8 x9 x10 x11 x12 x13 x14 x15 x16 x17 x18 x19 (ix2 r j)
    = ∑ i : Fin 128, (show EReal from stored x0 x1 x2 x3 x4 x5 x6 x7 x8 x9 x10 x11 x12 x13 x14 x15 x16 x17 (ix2 r i))
        * (x19 (ix2 i j) * Layers.s) := by
  unfold_out out0_21
  simp (disch := decide) only [View.canon_cons_unit_lit', View.ld_unit_lit']
  exact share_at x16 x17 r j _ x19

/-- The own share's block after the body, read at an index. -/
theorem out_own (r : Fin 400) (j : Fin 128) :
    out0_22 (F := Ideal) x0 x1 x2 x3 x4 x5 x6 x7 x8 x9 x10 x11 x12 x13 x14 x15 x16 x17 x18 x19 (ix2 r j)
    = ∑ i : Fin 128, (show EReal from stored x0 x1 x2 x3 x4 x5 x6 x7 x8 x9 x10 x11 x12 x13 x14 x15 x16 x17 (ix2 r i))
        * (x18 (ix2 i j) * Layers.s) := by
  unfold_out out0_22
  simp (disch := decide) only [View.canon_cons_unit_lit', View.ld_unit_lit']
  exact share_at' x16 x17 r j _ x18
end

variable {m : (ℓ : Loc nD τ sig) → Buf (Elt Ideal) ℓ} {c : Dev nD} (h : Fit m c)
include h

/-- A row of a share: the stored row times scaled weights is the reference's, over `√2`. -/
theorem shared (t : Fin cfg0.N) (r : Fin 400) (j : Fin 128) (w : FVec Ideal S128x128 .f32)
    (u : Fin 128 → EReal) (hu : ∀ i : Fin 128, u i = w (ix2 j i)) :
    ∑ i : Fin 128, (show EReal from block m c t (ix2 r i)) * (u i * Layers.s)
    = Cert.NodesReferenceIdeal.Value.share (result m c) w (ix2 (place t r) j) := by
  refine Eq.trans ?_ (Cert.NodesReferenceIdeal.Value.share_at _ _ _ _).symm
  simp only [block_at h, hu]
  exact Layers.sum_scaled _ _

/-- What point `t` stores at `y` of the updated nodes. -/
theorem point (t : Fin cfg0.N) (y : S400x128.Idx) :
    block m c t y = Cert.NodesReferenceIdeal.Value.flat (result m c) ((win0_20.blk t).view.emb y) := by
  obtain ⟨r, j, rfl⟩ : ∃ (r : Fin 400) (j : Fin 128), y = ix2 r j := ⟨y 0, y 1, eq_ix2 y⟩
  have hy : (win0_20.blk t).view.emb (ix2 r j) = ix2 (place t r) j := by blk_ext [idx t, place]
  rw [hy]
  exact (block_at h t r j).trans (Cert.NodesReferenceIdeal.Value.flat_at _ _ _).symm

/-- What point `t` stores at `y` of the gathered share. -/
theorem point_gathered (t : Fin cfg0.N) (y : S400x128.Idx) :
    out0_21 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) y
    = Cert.NodesReferenceIdeal.Value.share (result m c)
        (extractStridedSlice S128x128 ![0, 256] (m ((c : Thread nD τ).loc main_arg11))
          Cert.NodesReferenceIdeal.Gen.slices_S128x384_S128x128_0_256) ((win0_21.blk t).view.emb y) := by
  obtain ⟨r, j, rfl⟩ : ∃ (r : Fin 400) (j : Fin 128), y = ix2 r j := ⟨y 0, y 1, eq_ix2 y⟩
  have hy : (win0_21.blk t).view.emb (ix2 r j) = ix2 (place t r) j := by blk_ext [idx t, place]
  rw [hy]
  refine (out_gathered _ _ _ _ _ _ _ _ _ _ _ _ _ _ _ _ _ _ _ _ r j).trans
    (shared h t r j _ (fun i => iblk m c 19 t (ix2 i j)) fun i => ?_)
  refine (w11c_block m c t j i).trans ?_
  pointwise

/-- What point `t` stores at `y` of the nodes' own share. -/
theorem point_own (t : Fin cfg0.N) (y : S400x128.Idx) :
    out0_22 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) y
    = Cert.NodesReferenceIdeal.Value.share (result m c)
        (extractStridedSlice S128x128 ![0, 0] (m ((c : Thread nD τ).loc main_arg11))
          Cert.NodesReferenceIdeal.Gen.slices_S128x384_S128x128_0_0) ((win0_22.blk t).view.emb y) := by
  obtain ⟨r, j, rfl⟩ : ∃ (r : Fin 400) (j : Fin 128), y = ix2 r j := ⟨y 0, y 1, eq_ix2 y⟩
  have hy : (win0_22.blk t).view.emb (ix2 r j) = ix2 (place t r) j := by blk_ext [idx t, place]
  rw [hy]
  refine (out_own _ _ _ _ _ _ _ _ _ _ _ _ _ _ _ _ _ _ _ _ r j).trans
    (shared h t r j _ (fun i => iblk m c 18 t (ix2 i j)) fun i => ?_)
  refine (w11a_block m c t j i).trans ?_
  pointwise

/-- The updated nodes after the run. -/
theorem final : (dats m 0 c).arrAt 20 (cfgs 0).N = Cert.NodesReferenceIdeal.Value.flat (result m c) := by
  refine (dats m 0 c).arrAt_eq_of_covers 20 _ (by decide +kernel) fun t _ y => ?_
  blk_simp
  rw [after0_20, out_nodes]
  exact point h t y

/-- The share that is gathered for the edges, after the run. -/
theorem final_gathered : (dats m 0 c).arrAt 21 (cfgs 0).N = Cert.NodesReferenceIdeal.Value.share (result m c)
    (extractStridedSlice S128x128 ![0, 256] (m ((c : Thread nD τ).loc main_arg11))
      Cert.NodesReferenceIdeal.Gen.slices_S128x384_S128x128_0_256) := by
  refine (dats m 0 c).arrAt_eq_of_covers 21 _ (by decide +kernel) fun t _ y => ?_
  blk_simp
  rw [after0_21]
  exact point_gathered h t y

/-- The nodes' own share in their edges, after the run. -/
theorem final_own : (dats m 0 c).arrAt 22 (cfgs 0).N = Cert.NodesReferenceIdeal.Value.share (result m c)
    (extractStridedSlice S128x128 ![0, 0] (m ((c : Thread nD τ).loc main_arg11))
      Cert.NodesReferenceIdeal.Gen.slices_S128x384_S128x128_0_0) := by
  refine (dats m 0 c).arrAt_eq_of_covers 22 _ (by decide +kernel) fun t _ y => ?_
  blk_simp
  rw [after0_22]
  exact point_own h t y

end Cert.NodesKernelIdeal.Value

end
-- ==== Proof.Fit.lean ====
/- The precondition of the node update's call, read back: what its printed predicate says of the arguments. -/
module

public import proofs.«01_k».proof.Proof.Nodes
public import proofs.«01_k».proof.Defs
public import proofs.«01_k».proof.Proof.Gen.Pre_nodes_ok
public import Idealize.ShloMosaic.Lib.ReduceAll
public import Idealize.ShloMosaic.Lib.StableHlo.Predicate
public import Idealize.ShloMosaic.Lib.Pointwise

@[expose] public section

set_option maxRecDepth 16384

noncomputable section

open Idealize.ShloMosaic Idealize.ShloMosaic.TcCoe Idealize.SL.Sem

namespace Cert.Layers

/-- An equality comparison that is one says the two are equal. -/
theorem eq_of_cmp {x y : EReal} (h : Ideal.cmp .oeq x y = 1#1) : x = y := by
  simpa [Ideal.cmp, StableHlo.Predicate.ofBool_eq_one_iff] using h

/-- An element whose magnitude is below infinity is finite. -/
theorem finite_of_cmp {x : EReal} (h : Ideal.cmp .olt (max x (-x)) (Ideal.ofBits .f32 0x7F800000#32) = 1#1) :
    Finite x := by
  have ht : Ideal.ofBits .f32 0x7F800000#32 = ⊤ := by simp [Ideal.ofBits, Ideal.ieee]
  rw [ht] at h
  have h' : max x (-x) < ⊤ := by simpa [Ideal.cmp, StableHlo.Predicate.ofBool_eq_one_iff] using h
  constructor <;> rintro rfl <;> simp at h'

end Cert.Layers

namespace Cert.NodesKernelIdeal.Value

open Cert.NodesKernelIdeal Cert.NodesKernelIdeal.Gen

theorem fit {m : (ℓ : Loc nD τ sig) → Buf (Elt Ideal) ℓ} (h : Cert.Pre_NodesKernelIdeal m) (c : Dev nD) : Fit m c := by
  haveI : Subsingleton (Cert.Pre_nodes_ok.S_).Idx := ⟨fun a b => funext fun i => i.elim0⟩
  have one : Ideal.ofBits .f32 0x3F800000#32 = 1 := by
    simp [Ideal.ofBits, Ideal.ieee, -EReal.coe_mul]; norm_num
  obtain ⟨h4, hd⟩ := IntOp.andi_eq_one.1 (congrFun (h c) ix0)
  obtain ⟨h3, hb⟩ := IntOp.andi_eq_one.1 h4
  obtain ⟨h2, he⟩ := IntOp.andi_eq_one.1 h3
  obtain ⟨hv, ha⟩ := IntOp.andi_eq_one.1 h2
  refine ⟨fun n => ?_, fun n k => ?_, fun n k i => ?_, fun i l => ?_, fun i l => ?_⟩
  · exact (Layers.eq_of_cmp (Host.reduce_andi_all _ _ _ _ ix0 hv (ix2 0 n))).trans one
  · exact (Layers.eq_of_cmp (Host.reduce_andi_all _ _ _ _ ix0 ha (ix3 0 n k))).trans one
  · exact Layers.finite_of_cmp (Host.reduce_andi_all _ _ _ _ ix0 he (ix4 0 n k i))
  · have e := Layers.finite_of_cmp (Host.reduce_andi_all _ _ _ _ ix0 hb (ix2 i l))
    convert e using 1
    pointwise
  · have e := Layers.finite_of_cmp (Host.reduce_andi_all _ _ _ _ ix0 hd (ix2 i l))
    convert e using 1
    pointwise

end Cert.NodesKernelIdeal.Value

end
-- ==== Proof.Edges.lean ====
/- The edge update as the kernel computes it, and the two sides' equality: what a grid point stores for one edge is the
   edge's row of the reference, because the kernel's hidden values are the reference's divided by `√2`. -/
module

public import proofs.«01_k».proof.Proof.EdgesRef
public import proofs.«01_k».proof.Proof.Gen.EdgesKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Layers

/-- The kernel's first layer of one edge: weights and bias carry `1/√2`, the two shares are already divided by `√2`. -/
def edgeFirstK {n : ℕ} (he g t : Fin n → EReal) (w : Fin n → Fin n → EReal) (b : Fin n → EReal) (j : Fin n) : EReal :=
  (∑ k, he k * (w j k * s)) + g j + b j * s + t j

theorem edgeFirstK_eq {n : ℕ} (he g t : Fin n → EReal) (w : Fin n → Fin n → EReal) (b : Fin n → EReal) (j : Fin n) :
    edgeFirstK he g t w b j = edgeFirst he g t w b j * s := by
  rw [edgeFirstK, edgeFirst, add_mul_s, add_mul_s, add_mul_s, mul_root_mul_s, mul_root_mul_s, sum_scaled]
  ac_rfl

/-- The kernel's update of one edge. -/
def edgeK {n : ℕ} (he g t : Fin n → EReal) (w1 : Fin n → Fin n → EReal) (b1 : Fin n → EReal)
    (w2 : Fin n → Fin n → EReal) (b2 : Fin n → EReal) (w3 : Fin n → Fin n → EReal) (b3 gain shift : Fin n → EReal) :
    Fin n → EReal :=
  normK (fun j => he j + messageK (edgeFirstK he g t w1 b1) w2 b2 w3 b3 j) gain shift

/-- The two updates agree when the kernel's inner weights are the reference's halved. -/
theorem edgeK_eq {n : ℕ} (he g t : Fin n → EReal) (w1 : Fin n → Fin n → EReal) (b1 : Fin n → EReal)
    (v2 w2 : Fin n → Fin n → EReal) (b2 : Fin n → EReal) (w3 : Fin n → Fin n → EReal) (b3 gain shift : Fin n → EReal)
    (hv : ∀ i k, v2 i k = w2 i k * Ideal.ofBits .f32 0x3F000000#32) (j : Fin n) :
    edgeK he g t w1 b1 v2 b2 w3 b3 gain shift j = edge he g t w1 b1 w2 b2 w3 b3 gain shift j := by
  rw [edgeK, edge, normK_eq]
  refine congrArg (fun f => norm f gain shift j) (funext fun i => ?_)
  rw [messageK_eq _ _ _ _ _ _ _ (edgeFirstK_eq he g t w1 b1) hv]

end Cert.Layers

namespace Cert.EdgesKernelIdeal.Value

open Cert.EdgesKernelIdeal Cert.EdgesKernelIdeal.Gen

/-- The named constant is `1/√2`. -/
theorem named_s : Named.named (F := Ideal) κ "s" (φ := .f32) 0x3F3504F3#32 = Layers.s :=
  IdealRules.named_const.ideal_named_scalar _ _ _ _ rfl

theorem erf_eq (x : Ideal .f32) : FloatOps.erf x = Ideal.erf x := rfl

/-! ## What a grid point stores, one element at a time -/

section
variable (he g : FVec Ideal S12800x128 .f32) (t : FVec Ideal S400x128 .f32) (w1 : FVec Ideal S128x128 .f32)
  (b1 : FVec Ideal S1x128 .f32) (w2 : FVec Ideal S128x128 .bf16) (b2 : FVec Ideal S1x128 .f32)
  (w3 : FVec Ideal S128x128 .f32) (b3 gain shift : FVec Ideal S1x128 .f32) (r : Fin 12800) (j : Fin 128)

/-- The second layer's values before activation. -/
theorem hidden_at : k0_pay3 (F := Ideal) he w1 g b1 t w2 b2 (ix2 r j)
    = Layers.innerK (Layers.edgeFirstK (fun i => he (ix2 r i)) (fun i => g (ix2 r i))
          (fun i => t (ix2 ⟨↑r / 32, by omega⟩ i)) (fun i l => w1 (ix2 l i)) (fun i => b1 (ix2 0 i)))
        (fun i => w2 (ix2 i j)) (b2 (ix2 0 j)) := by
  pointwise [k0_pay3, k0_pay2, named_s, erf_eq, Layers.innerK, Layers.edgeFirstK, Layers.act]

/-- The last layer and the normalisation, of any hidden values. -/
theorem last_at (x : FVec Ideal S12800x128 .f32) :
    k0_pay1 (k0_pay2 he) x (erf x) (Scalar.ofBits .f32 0x3F800000#32) w3 b3 gain shift (ix2 r j)
    = Layers.normK (fun i => he (ix2 r i) + Layers.lastK (fun l => x (ix2 r l)) (fun l => w3 (ix2 l i)) (b3 (ix2 0 i)))
        (fun i => gain (ix2 0 i)) (fun i => shift (ix2 0 i)) j := by
  pointwise [k0_pay1, k0_pay2, named_s, erf_eq, Layers.lastK, Layers.act, Layers.normK, Layers.spread, Layers.small, Layers.mean,
    Layers.width]

theorem stored_at :
    k0_pay1 (F := Ideal) (k0_pay2 he) (k0_pay3 he w1 g b1 t w2 b2) (k0_pay4 he w1 g b1 t w2 b2) (Scalar.ofBits .f32 0x3F800000#32)
      w3 b3 gain shift (ix2 r j)
    = Layers.edgeK (fun i => he (ix2 r i)) (fun i => g (ix2 r i)) (fun i => t (ix2 ⟨↑r / 32, by omega⟩ i))
        (fun i l => w1 (ix2 l i)) (fun i => b1 (ix2 0 i)) (fun i l => w2 (ix2 l i)) (fun i => b2 (ix2 0 i))
        (fun i l => w3 (ix2 l i)) (fun i => b3 (ix2 0 i)) (fun i => gain (ix2 0 i)) (fun i => shift (ix2 0 i)) j := by
  refine (last_at he w3 b3 gain shift r j (k0_pay3 he w1 g b1 t w2 b2)).trans ?_
  rw [Layers.edgeK]
  refine congrArg (fun f => Layers.normK f (fun i => gain (ix2 0 i)) (fun i => shift (ix2 0 i)) j) (funext fun i => ?_)
  refine congrArg (he (ix2 r i) + ·) ?_
  rw [Layers.messageK]
  exact congrArg (fun f => Layers.lastK f (fun l => w3 (ix2 l i)) (b3 (ix2 0 i)))
    (funext fun l => hidden_at he g t w1 b1 w2 b2 r l)

end

/-! ## The blocks, and the result array -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- The row of the whole array that row `r` of point `t`'s block is. -/
def place (t : Fin cfg0.N) (r : Fin 12800) : Fin 320000 :=
  ⟨t.val * 12800 + ↑r, by have : t.val < 25 := t.isLt; omega⟩

section
variable (c : Dev nD) (t : Fin cfg0.N) (r : Fin 12800) (i l : Fin 128)

theorem he_block : iblk m c 0 t (ix2 r i)
    = m ((c : Thread nD τ).loc main_arg0) (ix4 0 ⟨(place t r).val / 32, by omega⟩ ⟨(place t r).val % 32, by omega⟩ i) := by
  blk_simp [iblk]; entry_read; pointwise; blk_ext [idx t, place]
theorem g_block : iblk m c 1 t (ix2 r i) = m ((c : Thread nD τ).loc main_arg1) (ix2 (place t r) i) := by
  blk_ext [iblk, V, idx t, place]
theorem t_block : iblk m c 2 t (ix2 (⟨↑r / 32, by omega⟩ : Fin 400) i)
    = m ((c : Thread nD τ).loc main_arg2) (ix2 ⟨(place t r).val / 32, by omega⟩ i) := by
  blk_ext [iblk, V, idx t, place]
theorem b1_block : iblk m c 3 t (ix2 0 i) = m ((c : Thread nD τ).loc main_arg4) (ix1 i) := by
  blk_simp [iblk]; entry_read; pointwise; blk_ext [idx t]
theorem w1_block : iblk m c 4 t (ix2 l i) = m ((c : Thread nD τ).loc main_arg3) (ix2 i ⟨128 + ↑l, by omega⟩) := by
  blk_simp [iblk]; entry_read; pointwise; blk_ext [idx t]
theorem w2_block : iblk m c 5 t (ix2 l i)
    = (show EReal from m ((c : Thread nD τ).loc main_arg5) (ix2 i l)) * Ideal.ofBits .f32 0x3F000000#32 := by
  blk_simp [iblk]; entry_read; pointwise; refine Ideal.mul_congr ?_ rfl; blk_ext [idx t]
theorem b2_block : iblk m c 6 t (ix2 0 i) = m ((c : Thread nD τ).loc main_arg6) (ix1 i) := by
  blk_simp [iblk]; entry_read; pointwise; blk_ext [idx t]
theorem w3_block : iblk m c 7 t (ix2 l i) = m ((c : Thread nD τ).loc main_arg7) (ix2 i l) := by
  blk_simp [iblk]; entry_read; pointwise; blk_ext [idx t]
theorem b3_block : iblk m c 8 t (ix2 0 i) = m ((c : Thread nD τ).loc main_arg8) (ix1 i) := by
  blk_simp [iblk]; entry_read; pointwise; blk_ext [idx t]
theorem gain_block : iblk m c 9 t (ix2 0 i) = m ((c : Thread nD τ).loc main_arg9) (ix1 i) := by
  blk_simp [iblk]; entry_read; pointwise; blk_ext [idx t]
theorem shift_block : iblk m c 10 t (ix2 0 i) = m ((c : Thread nD τ).loc main_arg10) (ix1 i) := by
  blk_simp [iblk]; entry_read; pointwise; blk_ext [idx t]
end

/-- What point `t` stores at `y` is the reference's element at `y`'s place in the array. -/
theorem point (c : Dev nD) (t : Fin cfg0.N) (y : S12800x128.Idx) :
    k0_pay1 (F := Ideal) (k0_pay2 (iblk m c 0 t))
      (k0_pay3 (iblk m c 0 t) (iblk m c 4 t) (iblk m c 1 t) (iblk m c 3 t) (iblk m c 2 t) (iblk m c 5 t) (iblk m c 6 t))
      (k0_pay4 (iblk m c 0 t) (iblk m c 4 t) (iblk m c 1 t) (iblk m c 3 t) (iblk m c 2 t) (iblk m c 5 t) (iblk m c 6 t))
      (Scalar.ofBits .f32 0x3F800000#32) (iblk m c 7 t) (iblk m c 8 t) (iblk m c 9 t) (iblk m c 10 t) y
    = Cert.EdgesReferenceIdeal.Value.updated (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (((cfg0.win 11).blk t).view.emb y) := by
  obtain ⟨r, j, rfl⟩ : ∃ (r : Fin 12800) (j : Fin 128), y = ix2 r j := ⟨y 0, y 1, eq_ix2 y⟩
  have hy : ((cfg0.win 11).blk t).view.emb (ix2 r j) = ix2 (place t r) j := by blk_ext [idx t, place]
  rw [hy]
  refine Eq.trans ?_ (Cert.EdgesReferenceIdeal.Value.updated_at _ _ _ _ _ _ _ _ _ _ _ _ _).symm
  refine (stored_at _ _ _ _ _ _ _ _ _ _ _ r j).trans ?_
  refine (Layers.edgeK_eq _ _ _ _ _ _ _ _ _ _ _ _ (fun i k => w2_block m c t i k) _).trans ?_
  rw [funext (he_block m c t r), funext (g_block m c t r), funext (t_block m c t r),
    funext (b1_block m c t), funext fun i => funext (w1_block m c t i), funext (b2_block m c t),
    funext fun i => funext (w3_block m c t i), funext (b3_block m c t), funext (gain_block m c t),
    funext (shift_block m c t)]

/-- The result array after the run. -/
theorem final (c : Dev nD) : (dats m 0 c).arrAt 11 (cfgs 0).N
    = Cert.EdgesReferenceIdeal.Value.updated (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]; frame_out
  exact point m c t y

end Cert.EdgesKernelIdeal.Value

end
-- ==== Proof.Half.Words.lean ====
/-
  The words of one tile's run, in closed form. A tile has the grid coordinates (SparseCore `i 0`, subcore `i 1`) and
  the number `16 * i 0 + i 1`. The 2500 blocks of 128 rows are dealt to the 32 tiles in order: the first four tiles
  have 79 blocks, the others 78. Trip `t` of the tile's loop works on its block number `t`; the loop carries five
  32-bit counters, whose values at trip `t` are `tripWords`. Everything the body computes from them (its conditions,
  its offsets, its checks, the next trip's counters) is stated here of the numbers `t`, `base` and `nBlk`. Each is a
  finite question, one case per tile and trip.
-/
module

public import proofs.«01_k».proof.Defs
public import proofs.«01_k».proof.Proof.Gen.FirstKernelIdeal
public import proofs.«01_k».proof.Proof.Gen.FirstKernelIdeal.Skeleton

@[expose] public section

namespace Cert.Proof.Half.Words

open Cert.FirstKernelIdeal Cert.FirstKernelIdeal.Gen
open Idealize.ShloMosaic

/-- A tile's number. -/
def tileNo (i : grid1.Coords) : ℕ := 16 * (i 0).val + (i 1).val
/-- How many blocks a tile has. -/
def nBlk (i : grid1.Coords) : ℕ := if tileNo i < 4 then 79 else 78
/-- A tile's first block. -/
def base (i : grid1.Coords) : ℕ := if tileNo i < 4 then tileNo i * 79 else tileNo i * 78 + 4

theorem nBlk_pos (i : grid1.Coords) : 0 < nBlk i := by unfold nBlk; split <;> decide
theorem base_add_lt : ∀ i : grid1.Coords, base i + nBlk i ≤ 2500 := by decide +kernel

/-- Block `t` of a tile (any number past its last is wrapped, and never used). -/
def blk (i : grid1.Coords) (t : ℕ) : Fin 2500 := ⟨(base i + t) % 2500, Nat.mod_lt _ (by decide)⟩
theorem blk_val (i : grid1.Coords) {t : ℕ} (h : t < nBlk i) : (blk i t).val = base i + t :=
  Nat.mod_eq_of_lt (lt_of_lt_of_le (Nat.add_lt_add_left h _) (base_add_lt i))

/-- Which of the two slots trip `t` uses. -/
def par (t : ℕ) : Fin 2 := ⟨t % 2, Nat.mod_lt _ (by decide)⟩
theorem par_add_two (t : ℕ) : par (t + 2) = par t := by unfold par; congr 1; omega
theorem par_pred {t : ℕ} (h : 0 < t) : par (t - 1) = par (t + 1) := by unfold par; congr 1; omega

/-- The five counters before trip `t`. -/
def tripWords (i : grid1.Coords) (t : ℕ) : BitVec 32 × BitVec 32 × BitVec 32 × BitVec 32 × BitVec 32 :=
  (BitVec.ofNat 32 (min (t + 1) (nBlk i)), BitVec.ofNat 32 t, BitVec.ofNat 32 t, BitVec.ofNat 32 (t - 1),
    BitVec.ofNat 32 (if t < nBlk i then t else 0))

/-- The words of the tile the loop's body reads: its number of blocks and its first block. -/
def w8 (i : grid1.Coords) : BitVec 32 := BitVec.ofNat 32 (nBlk i)
def w13 (i : grid1.Coords) : BitVec 32 := BitVec.ofNat 32 (base i)

theorem trips_eq : ∀ i : grid1.Coords, (k1_t1_loop i).trips = nBlk i := by decide +kernel
theorem trips2_eq (i : grid1.Coords) : (k1_t2_loop i).trips = 0 := Nat.le_zero.mp (k1_t2_abs i).2.1

theorem cond2 : ∀ i : grid1.Coords, k1_cond2 i = 1#1 := by decide +kernel
theorem cond3 : ∀ i : grid1.Coords, k1_cond3 i = 1#1 := by decide +kernel
theorem cond19 : ∀ i : grid1.Coords, k1_cond19 i = 1#1 := by decide +kernel

/-- The trips of a tile, as its loop counts them. -/
abbrev Trip (i : grid1.Coords) : Type := Fin (k1_t1_loop i).trips

theorem Trip.lt {i : grid1.Coords} (t : Trip i) : t.val < nBlk i := trips_eq i ▸ t.isLt

/-- A further block is fetched at every trip but the last. -/
theorem cond4 : ∀ (i : grid1.Coords) (t : Trip i), k1_cond4 i t (tripWords i t).2.2.2.2 = 1#1 ↔ t.val + 1 < nBlk i := by decide +kernel
/-- Each trip waits for its own block's row numbers. -/
theorem cond5 : ∀ (i : grid1.Coords) (t : Trip i), k1_cond5 i t (tripWords i t).2.2.2.2 = 1#1 := by decide +kernel
/-- Each trip sends its rows out. -/
theorem cond8 : ∀ (i : grid1.Coords) (t : Trip i), k1_cond8 i t (tripWords i t).2.2.2.2 = 1#1 := by decide +kernel
/-- Each trip but the first waits for the rows the trip before sent. -/
theorem cond10 : ∀ (i : grid1.Coords) (t : Trip i), k1_cond10 i t (tripWords i t).2.2.2.2 = 1#1 ↔ 0 < t.val := by decide +kernel

theorem chk1 : ∀ (i : grid1.Coords) (t : Trip i), k1_chk1 i t (tripWords i t).1 (tripWords i t).2.1 (tripWords i t).2.2.1
    (tripWords i t).2.2.2.1 (tripWords i t).2.2.2.2 := by decide +kernel
theorem chk2 : ∀ (i : grid1.Coords) (t : Trip i), k1_chk2 i (tripWords i t).2.2.1 := by decide +kernel
theorem chk3 : ∀ (i : grid1.Coords) (t : Trip i), k1_chk3 i (tripWords i t).2.1 := by decide +kernel
theorem chk7 : ∀ i : grid1.Coords, k1_chk7 i (tripWords i (nBlk i)).2.2.2.1 := by decide +kernel
theorem chk8 : ∀ i : grid1.Coords, k1_chk8 i (tripWords i (nBlk i)).2.2.2.2 := by decide +kernel

/-! The offsets of the first fetch, of the loop's transfers, and of the last wait. -/

theorem off1 : k1_off1 = ![(par 0).val, 0, 0] := by decide +kernel
theorem off2 : ∀ i : grid1.Coords, k1_off2 i = ![0, 128 * (blk i 0).val] := by decide +kernel
theorem off3 : k1_off3 = ![(par 0).val] := by decide +kernel
theorem off4 : ∀ (i : grid1.Coords) (t : Trip i), t.val + 1 < nBlk i → k1_off4 (tripWords i t).1 = ![(par (t + 1)).val, 0, 0] := by decide +kernel
theorem off5 : ∀ (i : grid1.Coords) (t : Trip i), t.val + 1 < nBlk i →
    k1_off5 i (tripWords i t).2.2.2.2 = ![0, 128 * (blk i (t + 1)).val] := by decide +kernel
theorem off6 : ∀ (i : grid1.Coords) (t : Trip i), t.val + 1 < nBlk i → k1_off6 (tripWords i t).1 = ![(par (t + 1)).val] := by decide +kernel
theorem off9 : ∀ (i : grid1.Coords) (t : Trip i), k1_off9 (tripWords i t).2.1 = ![(par t).val] := by decide +kernel
theorem off10 : ∀ (i : grid1.Coords) (t : Trip i), k1_off10 (tripWords i t).2.2.1 = ![(par t).val, 0, 0] := by decide +kernel
theorem off11 : ∀ (i : grid1.Coords) (t : Trip i), k1_off11 (tripWords i t).2.1 = ![(par t).val, 0, 0] := by decide +kernel
theorem off12 : ∀ (i : grid1.Coords) (t : Trip i), k1_off12 (tripWords i t).2.2.1 = ![(par t).val, 0, 0] := by decide +kernel
theorem off13 : ∀ (i : grid1.Coords) (t : Trip i), k1_off13 i (tripWords i t).2.2.2.2 = ![128 * (blk i t).val, 0] := by decide +kernel
theorem off14 : ∀ (i : grid1.Coords) (t : Trip i), k1_off14 (tripWords i t).2.2.1 = ![(par t).val] := by decide +kernel
theorem off17 : ∀ (i : grid1.Coords) (t : Trip i), 0 < t.val → k1_off17 (tripWords i t).2.2.2.1 = ![(par (t + 1)).val] := by decide +kernel
theorem off34 : ∀ i : grid1.Coords, k1_off34 (tripWords i (nBlk i)).2.2.2.1 = ![(par (nBlk i + 1)).val] := by decide +kernel

/-- The counters the body returns, from those it was entered with and the induction variable's word. -/
def stepWords (v8 v13 a7 a8 a9 a10 a11 a12 : BitVec 32) : BitVec 32 × BitVec 32 × BitVec 32 × BitVec 32 × BitVec 32 :=
  let v83 : BitVec 32 := Scalar.muli 1#32 v8
  let v84 : BitVec 1 := Scalar.cmpi .eq a7 0#32
  let v85 : BitVec 32 := Scalar.subi v83 1#32
  let v86 : BitVec 1 := Scalar.cmpi .eq a7 v85
  let v87 : BitVec 32 := Scalar.addi a12 v13
  let v88 : BitVec 32 := Scalar.subi a12 1#32
  let v89 : BitVec 32 := Scalar.select 1#1 v88 a12
  let v90 : BitVec 1 := Scalar.cmpi .eq v89 4294967295#32
  let v91 : BitVec 32 := Scalar.subi v8 1#32
  let v92 : BitVec 32 := Scalar.select v90 v91 v89
  let v93 : BitVec 32 := Scalar.addi v92 v13
  let v94 : BitVec 32 := Scalar.addi a12 1#32
  let v95 : BitVec 32 := Scalar.select 1#1 v94 a12
  let v96 : BitVec 1 := Scalar.cmpi .eq v95 v8
  let v97 : BitVec 32 := Scalar.select v96 0#32 v95
  let v98 : BitVec 32 := Scalar.addi v97 v13
  let v104 : BitVec 1 := Scalar.cmpi .ne v87 v98
  let v105 : BitVec 32 := Scalar.subi v83 2#32
  let v106 : BitVec 32 := Scalar.addi v105 1#32
  let v107 : BitVec 1 := Scalar.cmpi .sge a7 v106
  let v108 : BitVec 1 := Scalar.xori v107 1#1
  let v109 : BitVec 1 := Scalar.andi v104 v108
  let v113 : BitVec 1 := Scalar.andi v109 1#1
  let v114 : BitVec 32 := Scalar.addi a8 1#32
  let v115 : BitVec 32 := Scalar.select v113 v114 a8
  let v142 : BitVec 1 := Scalar.ori (Scalar.cmpi .ne v87 v98) v86
  let v145 : BitVec 1 := Scalar.andi v142 1#1
  let v147 : BitVec 32 := Scalar.select v145 (Scalar.addi a10 1#32) a10
  let v156 : BitVec 1 := Scalar.andi (Scalar.cmpi .ne v87 v93) (Scalar.xori v84 1#1)
  let v159 : BitVec 1 := Scalar.andi v156 1#1
  let v161 : BitVec 32 := Scalar.select v159 (Scalar.addi a11 1#32) a11
  let v163 : BitVec 1 := Scalar.ori (Scalar.cmpi .ne v87 v98) v86
  let v165 : BitVec 32 := Scalar.select v163 (Scalar.addi a9 1#32) a9
  let v167 : BitVec 32 := Scalar.select 1#1 (Scalar.addi a12 1#32) a12
  let v169 : BitVec 32 := Scalar.select (Scalar.cmpi .eq v167 v8) 0#32 v167
  (v115, v165, v147, v161, v169)

/-- They are the next trip's. -/
theorem step_eq : ∀ (i : grid1.Coords) (t : Trip i),
    stepWords (w8 i) (w13 i) (Scf.iv 0#32 1#32 t) (tripWords i t).1 (tripWords i t).2.1 (tripWords i t).2.2.1
      (tripWords i t).2.2.2.1 (tripWords i t).2.2.2.2 = tripWords i (t + 1) := by decide +kernel

end Cert.Proof.Half.Words
-- ==== Proof.Half.Steps.lean ====
/-
  One tile's slots and windows, and the five steps of a trip: fetching a block's row numbers, waiting for them,
  gathering the rows they name from the shared table, sending the rows out, and waiting for that. A step is stated over
  any memrefs and semaphores, and over any spelling of the offsets equal to the slot's and the block's.

  The value is carried throughout: a slot that has landed holds its block's row numbers, and a block sent out holds, at
  each row, the table's row its number names (`Gathered`).
-/
module

public import proofs.«01_k».proof.Proof.Half.Words
public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.Proof.Half.Steps

open Cert.FirstKernelIdeal Cert.FirstKernelIdeal.Gen Cert.Proof.Half.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the handshakes' rounds, the barrier's rounds, the pipelines' rounds, the transfers' counters. -/
abbrev UH : Type := URounds (GSem nD τ sig) ℕ
abbrev UB : Type := URounds (GSem nD τ sig) ℕ
/-- The pipelines' rounds. -/
abbrev UP : Type := URounds (GSem nD τ sig) Unit
abbrev UU : Type := UH × (UB × (UP × Counters))

local notation "𝕄" => MT nD τ sig (HIx 1) (Elt F) ℕ UU ℕ

abbrev 𝒱₀ : Variants := Variants.none

/-- The SparseCore and the subcore of a tile, and its thread on device `d`. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-! ## Slots and windows -/

theorem iS_inb : ∀ (p : Fin 2) (a : Fin 3), (![p.val, 0, 0] : Fin 3 → ℕ) a + S1x1x128.size a ≤ S2x1x128.size a := by decide
theorem dS_inb : ∀ (p : Fin 2) (a : Fin 3), (![p.val, 0, 0] : Fin 3 → ℕ) a + S1x128x128.size a ≤ S2x128x128.size a := by decide
theorem sem_inb : ∀ (p : Fin 2) (a : Fin 1), (![p.val] : Fin 1 → ℕ) a + S1.size a ≤ S2.size a := by decide
theorem iW_inb (b : Fin 2500) : ∀ a : Fin 2, (![0, 128 * b.val] : Fin 2 → ℕ) a + S1x128.size a ≤ S1x320000.size a := by
  intro a; match a with
  | 0 => exact Nat.le_refl 1
  | 1 => show 128 * b.val + 128 ≤ 320000; omega
theorem oW_inb (b : Fin 2500) : ∀ a : Fin 2, (![128 * b.val, 0] : Fin 2 → ℕ) a + S128x128.size a ≤ S320000x128.size a := by
  intro a; match a with
  | 0 => show 128 * b.val + 128 ≤ 320000; omega
  | 1 => exact Nat.le_refl 128

section Memrefs

variable (A3 : Memref sig .scVector .hbm S1x320000 .i32) (A4 : Memref sig .scVector .hbm S320000x128 .f32)
  (A5 : Memref sig .scVector .shared S10000x128 .f32) (AI : Memref sig .scVector .vmem S2x1x128 .i32)
  (AD : Memref sig .scVector .vmem S2x128x128 .f32) (sI sO : DmaSems sig S2)

/-- Slot `p` of the row numbers' buffer, and of the rows' buffer. -/
abbrev iS (p : Fin 2) : Memref sig .scVector .vmem S1x128 .i32 :=
  (AI.slice (Rect.unit (s := S2x1x128) ![p.val, 0, 0] S1x1x128.size (iS_inb p)) (fun _ => rfl)).squeeze S1x128 squeezes_S1x1x128_S1x128
abbrev dS (p : Fin 2) : Memref sig .scVector .vmem S128x128 .f32 :=
  (AD.slice (Rect.unit (s := S2x128x128) ![p.val, 0, 0] S1x128x128.size (dS_inb p)) (fun _ => rfl)).squeeze S128x128 squeezes_S1x128x128_S128x128
/-- Block `b` of the row numbers, and of the gathered rows. -/
abbrev iW (b : Fin 2500) : Memref sig .scVector .hbm S1x128 .i32 :=
  A3.slice (Rect.unit (s := S1x320000) ![0, 128 * b.val] S1x128.size (iW_inb b)) (fun _ => rfl)
abbrev oW (b : Fin 2500) : Memref sig .scVector .hbm S128x128 .f32 :=
  A4.slice (Rect.unit (s := S320000x128) ![128 * b.val, 0] S128x128.size (oW_inb b)) (fun _ => rfl)
/-- Cell `p` of a pair of semaphores. -/
abbrev cell (s : DmaSems sig S2) (p : Fin 2) : DmaSem sig :=
  ((s.slice (Rect.unit (s := S2) ![p.val] S1.size (sem_inb p))).squeeze S_ squeezes_S1_S_).sem
/-- The row numbers of slot `p` as the gather's list. -/
abbrev list (p : Fin 2) : Memref sig .scVector .vmem S128 .i32 :=
  (((iS AI p).slice (Rect.unit (s := S1x128) ![0, 0] S1x128.size inb_S1x128_S1x128_0_0) (fun _ => rfl))).squeeze S128 squeezes_S1x128_S128
/-- The whole table, as the gather names it. -/
abbrev tabS : Memref sig .scVector .shared S10000x128 .f32 :=
  A5.slice (Rect.unit (s := S10000x128) ![0, 0] S10000x128.size inb_S10000x128_S10000x128_0_0) (fun _ => rfl)

end Memrefs

/-! ## Reading a slot as the gather's list -/

/-- Row number `j` of a block, and row `r`, column `c` of the table. -/
def at1 (j : Fin 128) : S1x128.Idx := fun a => match a with
  | ⟨0, _⟩ => (0 : Fin 1)
  | ⟨1, _⟩ => j
def atT (r : Fin 10000) (c : Fin 128) : S10000x128.Idx := fun a => match a with
  | ⟨0, _⟩ => r
  | ⟨1, _⟩ => c

theorem reshape_at1 (h : S128.numel = S1x128.numel) (x : S128.Idx) : Shape.reshapeEquiv h x = at1 (x 0) := by
  apply S1x128.rowMajor.injective
  apply Fin.ext
  rw [Shape.rowMajor_reshapeEquiv]
  simp only [Shape.rowMajor_val_one, Shape.rowMajor_val_two]
  show (x 0).val = 0 * 128 + (x 0).val
  omega

theorem emb_zero2 {s : Shape} {off : Fin s.rank → ℕ} (h0 : ∀ a, off a = 0) (inb : ∀ a, off a + s.size a ≤ s.size a) (y : s.Idx) :
    (Rect.unit (s := s) off s.size inb).emb y = y := by
  funext a; apply Fin.ext
  simp [Rect.emb, Rect.unit, h0 a]

theorem off00 : ∀ a : Fin 2, (![0, 0] : Fin 2 → ℕ) a = 0 := by decide

theorem list_read (AI : Memref sig .scVector .vmem S2x1x128 .i32) (p : Fin 2) (f : (iS AI p).view.ty.Contents (Elt F)) (x : S128.Idx) :
    (list AI p).view.read (Elt F) f x = (iS AI p).view.read (Elt F) f (at1 (x 0)) := by
  rw [View.read_apply, View.read_apply]
  have : (list AI p).view.emb x = (iS AI p).view.emb (at1 (x 0)) := by
    show (iS AI p).view.emb ((Rect.unit (s := S1x128) ![0, 0] S1x128.size inb_S1x128_S1x128_0_0).emb (Shape.reshapeEquiv _ x)) = _
    rw [reshape_at1, emb_zero2 off00]
  rw [this]

theorem tabS_read (A5 : Memref sig .scVector .shared S10000x128 .f32) (f : A5.view.ty.Contents (Elt F)) :
    (tabS A5).view.read (Elt F) f = A5.view.read (Elt F) f := by
  funext y
  rw [View.read_apply, View.read_apply]
  have : (tabS A5).view.emb y = A5.view.emb y := by
    show A5.view.emb ((Rect.unit (s := S10000x128) ![0, 0] S10000x128.size inb_S10000x128_S10000x128_0_0).emb y) = _
    rw [emb_zero2 off00]
  rw [this]

theorem list_set (AI : Memref sig .scVector .vmem S2x1x128 .i32) (p : Fin 2) : (list AI p).view.set ⊆ (iS AI p).view.set := by
  show (((iS AI p).view.slice _).reshape S128 _).set ⊆ _
  rw [View.set_reshape]; exact View.set_slice_subset _ _

/-- Entry `k` of a list of 128 in row-major order is the entry at index `k`. -/
theorem list_coord (hn : S128.numel = 128) (k : Fin 128) : (S128.rowMajor.symm (k.cast hn.symm)) 0 = k := by
  apply Fin.ext
  rw [← Shape.rowMajor_val_one (S128.rowMajor.symm (k.cast hn.symm)), Equiv.apply_symm_apply]; rfl

theorem oW_credit (A4 : Memref sig .scVector .hbm S320000x128 .f32) {o : Fin 2 → ℕ} {h : ∀ a, o a + S128x128.size a ≤ S320000x128.size a} :
    (A4.slice (Rect.unit (s := S320000x128) o S128x128.size h) (fun _ => rfl)).view.dmaCredit = 524288 :=
  (show _ = S128x128.numel * 32 from rfl).trans (by decide)

theorem gathers_idx (r : Fin (S128x128.size gathers_S10000x128_S128x128.axis') → Fin (S10000x128.size gathers_S10000x128_S128x128.axis)) (x : S128x128.Idx) :
    gathers_S10000x128_S128x128.idx r x = atT (r (x 0)) (x 1) := by
  funext a
  match a with
  | ⟨0, _⟩ => rfl
  | ⟨1, _⟩ => rfl

/-! ## What a tile holds of its slots -/

section Held

variable (d : Dev nD) (L : grid1.Coords)
variable (A3 : Memref sig .scVector .hbm S1x320000 .i32) (A4 : Memref sig .scVector .hbm S320000x128 .f32)
  (A5 : Memref sig .scVector .shared S10000x128 .f32) (AI : Memref sig .scVector .vmem S2x1x128 .i32)
  (AD : Memref sig .scVector .vmem S2x128x128 .f32) (sI sO : DmaSems sig S2) (sG : DmaSems sig S_)
variable (q : Fin 2 → PosShare TreeShare) (q5 : PosShare TreeShare)
variable (fI : Buf (Elt F) (A3.view.loc (thr d L))) (fT : Buf (Elt F) (A5.view.loc (thr d L)))
  (G : Buf (Elt F) (A4.view.loc (thr d L)))

/-- Slot `p` holds block `b`'s row numbers. -/
def Landed (p : Fin 2) (b : Fin 2500) (f : Buf (Elt F) ((iS AI p).view.loc (thr d L))) : Prop :=
  (iS AI p).view.read (Elt F) f = (iW A3 b).view.read (Elt F) fI

/-- Slot `p` of the row numbers is idle: its elements, its semaphore at zero, its share of the row numbers. -/
def IFree (p : Fin 2) : sProp 𝕄 :=
  iprop((∃ f, (iS AI p).view.loc (thr d L) ↦[(iS AI p).view.set]{fullShare} f) ∗ semVal (thr d L, SemLoc.dma (cell sI p)) 0
    ∗ A3.view.loc (thr d L) ↦{q p} fI)

/-- Slot `p` is being filled with block `b`'s row numbers. -/
def IFly (p : Fin 2) (b : Fin 2500) : sProp 𝕄 :=
  iprop(Transfers.Flight countersEmb (thr d L) (.dma (cell sI p)) (default : HIx 1) 4096
      iprop((∃ f, ((iS AI p).view.loc (thr d L) ↦[(iS AI p).view.set]{fullShare} f) ∗ ⌜Landed d L A3 AI fI p b f⌝)
        ∗ (iW A3 b).view.loc (thr d L) ↦[(iW A3 b).view.set]{q p} fI)
    ∗ A3.view.loc (thr d L) ↦[Finset.univ \ (iW A3 b).view.set]{q p} fI)

/-- Slot `p` of the rows is idle. -/
def OFree (p : Fin 2) : sProp 𝕄 :=
  iprop((∃ f, (dS AD p).view.loc (thr d L) ↦[(dS AD p).view.set]{fullShare} f) ∗ semVal (thr d L, SemLoc.dma (cell sO p)) 0)

/-- Slot `p`'s rows are being sent out to block `b`. -/
def OFly (p : Fin 2) (b : Fin 2500) : sProp 𝕄 :=
  Transfers.Flight countersEmb (thr d L) (.dma (cell sO p)) (default : HIx 1) 524288
    iprop(((oW A4 b).view.loc (thr d L) ↦[(oW A4 b).view.set]{fullShare} G)
      ∗ ∃ f, (dS AD p).view.loc (thr d L) ↦[(dS AD p).view.set]{fullShare} f)

/-- Slot `p` holds block `b`'s row numbers, its semaphore at zero, its share of the row numbers at hand. -/
def IHeld (p : Fin 2) (b : Fin 2500) : sProp 𝕄 :=
  iprop((∃ f, ((iS AI p).view.loc (thr d L) ↦[(iS AI p).view.set]{fullShare} f) ∗ ⌜Landed d L A3 AI fI p b f⌝)
    ∗ semVal (thr d L, SemLoc.dma (cell sI p)) 0 ∗ A3.view.loc (thr d L) ↦{q p} fI)

/-- The output `G` holds, at each row, the table's row its number names; every number names a row. -/
def Gathered : Prop := ∀ b : Fin 2500, ∃ hin : ∀ y, ((iW A3 b).view.read (Elt F) fI y).toNat < 10000,
  ∀ x : S128x128.Idx, (oW A4 b).view.read (Elt F) G x
    = A5.view.read (Elt F) fT (atT ⟨((iW A3 b).view.read (Elt F) fI (at1 (x 0))).toNat, hin _⟩ (x 1))

/-- Slot `p` of the rows holds block `b` of the output. -/
def Ready (p : Fin 2) (b : Fin 2500) (f : Buf (Elt F) ((dS AD p).view.loc (thr d L))) : Prop :=
  (dS AD p).view.read (Elt F) f = (oW A4 b).view.read (Elt F) G

def OReady (p : Fin 2) (b : Fin 2500) : sProp 𝕄 :=
  iprop((∃ f, ((dS AD p).view.loc (thr d L) ↦[(dS AD p).view.set]{fullShare} f) ∗ ⌜Ready d L A4 AD G p b f⌝)
    ∗ semVal (thr d L, SemLoc.dma (cell sO p)) 0)

/-- Slot `p`'s rows are being gathered. -/
def GFly (p : Fin 2) (b : Fin 2500) : sProp 𝕄 :=
  iprop(∃ f, Transfers.Flight countersEmb (thr d L) (.dma sG.sem) (default : HIx 1) 524288
      iprop((∃ g, ((dS AD p).view.loc (thr d L) ↦[(dS AD p).view.set]{fullShare} g) ∗ ⌜Ready d L A4 AD G p b g⌝)
        ∗ ((tabS A5).view.loc (thr d L) ↦[(tabS A5).view.set]{q5} fT) ∗ (list AI p).view.loc (thr d L) ↦[(list AI p).view.set]{fullShare} f)
    ∗ (A5.view.loc (thr d L) ↦[Finset.univ \ (tabS A5).view.set]{q5} fT)
    ∗ ((iS AI p).view.loc (thr d L) ↦[(iS AI p).view.set \ (list AI p).view.set]{fullShare} f)
    ∗ ⌜Landed d L A3 AI fI p b f⌝
    ∗ semVal (thr d L, SemLoc.dma (cell sI p)) 0 ∗ (A3.view.loc (thr d L) ↦{q p} fI)
    ∗ semVal (thr d L, SemLoc.dma (cell sO p)) 0)

variable [FloatOps F] [Named F]

section Rules

variable {α : Type} {k : PUnit.{1} → Prog (TpuEff nD τ sig (Elt F) Λ₀ (.scVector (cV L) (jV L))) α}
  {Q : α → sProp (MT nD τ sig (HIx 1) (Elt F) ℕ UU ℕ)}

/-- Fetching block `b`'s row numbers into an idle slot. -/
theorem wp_fetch (p : Fin 2) (b : Fin 2500) {o4 : Fin 3 → ℕ} {o5 : Fin 2 → ℕ} {o6 : Fin 1 → ℕ}
    (e4 : o4 = ![p.val, 0, 0]) (e5 : o5 = ![0, 128 * b.val]) (e6 : o6 = ![p.val])
    {h4 : ∀ a, o4 a + S1x1x128.size a ≤ S2x1x128.size a} {h5 : ∀ a, o5 a + S1x128.size a ≤ S1x320000.size a}
    {h6 : ∀ a, o6 a + S1.size a ≤ S2.size a} {hsrc hdst hsem} :
    (IFree d L A3 AI sI q fI p : sProp 𝕄)
      ⊢ iprop((IFly d L A3 AI sI q fI p b -∗ wp frame (wpE (defs₀ (F := F)) 𝒱₀ (thr d L) none) Set.univ (k ⟨⟩) Q)
        -∗ wp frame (wpE (defs₀ (F := F)) 𝒱₀ (thr d L) none) Set.univ
          (.op (.enqueueDma (A3.slice (Rect.unit (s := S1x320000) o5 S1x128.size h5) (fun _ => rfl))
            (.here ((AI.slice (Rect.unit (s := S2x1x128) o4 S1x1x128.size h4) (fun _ => rfl)).squeeze S1x128 squeezes_S1x1x128_S1x128))
            (.dma ((sI.slice (Rect.unit (s := S2) o6 S1.size h6)).squeeze S_ squeezes_S1_S_).sem) hsrc hdst hsem) k) Q) := by
  subst e4 e5 e6
  unfold IFree IFly
  iintro ⟨⟨%f, Hs⟩, Hsem, Hi⟩ Hk
  ihave Hi' := (pointsTo_split_subset (q := q p) (f := fI) (S := Finset.univ) (Finset.subset_univ (iW A3 b).view.set)).1 $$ Hi
  icases Hi' with ⟨Hw, Hr⟩
  iapply (Transfers.wp_dmaLocal countersEmb 𝒱₀ (thr d L) none (src := iW A3 b) (dst := iS AI p) (via := .same) (sm := .dma (cell sI p))
    (default : HIx 1) 4096 rfl (by decide) (Finset.Subset.refl _)) $$ [Hs Hsem Hw]
  · isplitl [Hw]; · iexact Hw
    isplitl [Hs]; · iexact Hs
    iexact Hsem
  iintro Hfl
  iapply Hk
  isplitl [Hfl]
  · iapply (Transfers.Flight_mono countersEmb (thr d L) ?_) $$ Hfl
    iintro ⟨Hd, Hs⟩
    isplitl [Hd]
    · iexists _; isplitl [Hd]; · iexact Hd
      ipureintro
      unfold Landed
      rw [View.read_write_univ]
    · iexact Hs
  · iexact Hr

/-- Waiting for block `b`'s row numbers. -/
theorem wp_fetchWait (p : Fin 2) (b : Fin 2500) {o7 : Fin 3 → ℕ} {o8 : Fin 2 → ℕ} {o9 : Fin 1 → ℕ} (e9 : o9 = ![p.val])
    {h7 : ∀ a, o7 a + S1x1x128.size a ≤ S2x1x128.size a} {h8 : ∀ a, o8 a + S1x128.size a ≤ S1x320000.size a}
    {h9 : ∀ a, o9 a + S1.size a ≤ S2.size a} {hsrc hdst} {O : CellTallies nD τ sig (HIx 1)} {W : Waits sig (HIx 1)} :
    iprop(IFly d L A3 AI sI q fI p b ∗ owes (thr d L) O W ∗ Transfers.MayWaits (thr d L) (default : HIx 1) O : sProp 𝕄)
      ⊢ iprop((IHeld d L A3 AI sI q fI p b ∗ owes (thr d L) O (insert (SemLoc.dma (cell sI p), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((sI.slice (Rect.unit (s := S2) o9 S1.size h9)).squeeze S_ squeezes_S1_S_).sem
            (A3.slice (Rect.unit (s := S1x320000) o8 S1x128.size h8) (fun _ => rfl))
            ((AI.slice (Rect.unit (s := S2x1x128) o7 S1x1x128.size h7) (fun _ => rfl)).squeeze S1x128 squeezes_S1x1x128_S1x128)
            hsrc hdst) k) Q) := by
  subst e9
  unfold IFly IHeld
  iintro ⟨⟨Hfl, Hr⟩, HO, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma (cell sI p))) $$ Hmw
  iintro ⟨⟨Hs, Hw⟩, Hsem, HO⟩
  ihave Hi := (pointsTo_split_subset (q := q p) (f := fI) (S := Finset.univ) (Finset.subset_univ (iW A3 b).view.set)).2 $$ [Hw Hr]
  · isplitl [Hw]; · iexact Hw
    iexact Hr
  iapply Hk
  isplitl [Hs Hsem Hi]
  · isplitl [Hs]; · iexact Hs
    isplitl [Hsem]; · iexact Hsem
    iexact Hi
  · iexact HO

/-- Gathering the rows that slot `p`'s numbers name, into slot `p` of the rows. -/
theorem wp_gather (hG : Gathered d L A3 A4 A5 fI fT G) (p : Fin 2) (b : Fin 2500) {o10 o11 : Fin 3 → ℕ}
    (e10 : o10 = ![p.val, 0, 0]) (e11 : o11 = ![p.val, 0, 0])
    {h10 : ∀ a, o10 a + S1x128x128.size a ≤ S2x128x128.size a} {h11 : ∀ a, o11 a + S1x1x128.size a ≤ S2x1x128.size a}
    {hn hp hsrc he hsp hr} :
    iprop(IHeld d L A3 AI sI q fI p b ∗ OFree d L AD sO p ∗ (A5.view.loc (thr d L) ↦{q5} fT)
        ∗ semVal (thr d L, SemLoc.dma sG.sem) 0 : sProp 𝕄)
      ⊢ iprop((GFly d L A3 A4 A5 AI AD sI sO sG q q5 fI fT G p b -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp (A5.slice (Rect.unit (s := S10000x128) ![0, 0] S10000x128.size inb_S10000x128_S10000x128_0_0) (fun _ => rfl))
            ((AD.slice (Rect.unit (s := S2x128x128) o10 S1x128x128.size h10) (fun _ => rfl)).squeeze S128x128 squeezes_S1x128x128_S128x128)
            gathers_S10000x128_S128x128
            ((((AI.slice (Rect.unit (s := S2x1x128) o11 S1x1x128.size h11) (fun _ => rfl)).squeeze S1x128 squeezes_S1x1x128_S1x128).slice
              (Rect.unit (s := S1x128) ![0, 0] S1x128.size inb_S1x128_S1x128_0_0) (fun _ => rfl)).squeeze S128 squeezes_S1x128_S128)
            hn sG.sem hsrc he hsp hr >>= k) Q) := by
  subst e10 e11
  unfold IHeld OFree GFly
  iintro ⟨⟨⟨%f, Hs, %hf⟩, Hsem, Hi⟩, ⟨⟨%fd, Hd⟩, Hso⟩, HT, HsG⟩ Hk
  have hin : ∀ x, ((list AI p).view.read (Elt F) f x).toNat < S10000x128.size gathers_S10000x128_S128x128.axis := fun x => by
    rw [list_read, hf]; exact (hG b).1 _
  ihave HT' := (pointsTo_split_subset (q := q5) (f := fT) (S := Finset.univ) (Finset.subset_univ (tabS A5).view.set)).1 $$ HT
  icases HT' with ⟨HTs, HTr⟩
  ihave Hs' := (pointsTo_split_subset (q := fullShare) (f := f) (list_set AI p)).1 $$ Hs
  icases Hs' with ⟨Hl, Hlr⟩
  iapply (SparseCore.wp_indirectGatherLocal countersEmb 𝒱₀ (thr d L) none (src := tabS A5) (dst := dS AD p) (offs := list AI p)
    (hg := gathers_S10000x128_S128x128) (default : HIx 1) 524288
    ((SparseCore.sum_rowCredit_eq_dmaCredit (dS AD p) _ (fun _ => rfl)).trans rfl) (by decide) hin) $$ [HTs Hd Hl HsG]
  · isplitl [HTs]; · iexact HTs
    isplitl [Hd]; · iexact Hd
    isplitl [Hl]; · iexact Hl
    iexact HsG
  iintro Hfl
  iapply Hk
  iexists f
  isplitl [Hfl]
  · iapply (Transfers.Flight_mono countersEmb (thr d L) ?_) $$ Hfl
    iintro ⟨Hd, HT, Hl⟩
    isplitl [Hd]
    · iexists _; isplitl [Hd]; · iexact Hd
      ipureintro
      unfold Ready
      rw [View.read_write_univ]
      funext x
      rw [(hG b).2 x]
      unfold SparseCore.gatherPayload
      rw [gathers_idx, tabS_read]
      congr 1
      unfold SparseCore.rows
      congr 1
      apply Fin.ext
      show ((list AI p).view.read (Elt F) f _).toNat = ((iW A3 b).view.read (Elt F) fI _).toNat
      rw [list_read, hf]
      exact congrArg (fun j => ((iW A3 b).view.read (Elt F) fI (at1 j)).toNat) (list_coord hn (x 0))
    isplitl [HT]; · iexact HT
    iexact Hl
  isplitl [HTr]; · iexact HTr
  isplitl [Hlr]; · iexact Hlr
  isplitr [Hsem Hi Hso]; · ipureintro; exact hf
  isplitl [Hsem]; · iexact Hsem
  isplitl [Hi]; · iexact Hi
  iexact Hso

/-- Waiting for the gathered rows: the slot of row numbers is idle again, the slot of rows is ready to go out. -/
theorem wp_gatherWait (p : Fin 2) (b : Fin 2500) {o10 : Fin 3 → ℕ}
    {h10 : ∀ a, o10 a + S1x128x128.size a ≤ S2x128x128.size a} {hsrc hdst}
    {O : CellTallies nD τ sig (HIx 1)} {W : Waits sig (HIx 1)} :
    iprop(GFly d L A3 A4 A5 AI AD sI sO sG q q5 fI fT G p b ∗ owes (thr d L) O W ∗ Transfers.MayWaits (thr d L) (default : HIx 1) O : sProp 𝕄)
      ⊢ iprop((IFree d L A3 AI sI q fI p ∗ OReady d L A4 AD sO G p b ∗ (A5.view.loc (thr d L) ↦{q5} fT)
            ∗ semVal (thr d L, SemLoc.dma sG.sem) 0 ∗ owes (thr d L) O (insert (SemLoc.dma sG.sem, (default : HIx 1)) W)
            -∗ wp frame (wpE (defs₀ (F := F)) 𝒱₀ (thr d L) none) Set.univ (k ⟨⟩) Q)
        -∗ wp frame (wpE (defs₀ (F := F)) 𝒱₀ (thr d L) none) Set.univ
          (SparseCore.waitIndirectGather sG.sem (A5.slice (Rect.unit (s := S10000x128) ![0, 0] S10000x128.size inb_S10000x128_S10000x128_0_0) (fun _ => rfl))
            ((AD.slice (Rect.unit (s := S2x128x128) o10 S1x128x128.size h10) (fun _ => rfl)).squeeze S128x128 squeezes_S1x128x128_S128x128)
            hsrc hdst >>= k) Q) := by
  change _ ⊢ iprop(_ -∗ wp frame _ Set.univ (Prog.op (TpuEff.waitDma2 sG.sem _ _ hsrc hdst) k) Q)
  unfold GFly IFree OReady
  iintro ⟨⟨%f, Hfl, HTr, Hlr, -, Hsem, Hi, Hso⟩, HO, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma sG.sem)) $$ Hmw
  iintro ⟨⟨Hd, HTs, Hl⟩, HsG, HO⟩
  ihave HT := (pointsTo_split_subset (q := q5) (f := fT) (S := Finset.univ) (Finset.subset_univ (tabS A5).view.set)).2 $$ [HTs HTr]
  · isplitl [HTs]; · iexact HTs
    iexact HTr
  ihave Hs := (pointsTo_split_subset (q := fullShare) (f := f) (list_set AI p)).2 $$ [Hl Hlr]
  · isplitl [Hl]; · iexact Hl
    iexact Hlr
  iapply Hk
  isplitl [Hs Hsem Hi]
  · isplitl [Hs]; · iexists f; iexact Hs
    isplitl [Hsem]; · iexact Hsem
    iexact Hi
  isplitl [Hd Hso]
  · isplitl [Hd]; · iexact Hd
    iexact Hso
  isplitl [HT]; · iexact HT
  isplitl [HsG]; · iexact HsG
  iexact HO

/-- Sending slot `p`'s rows out to block `b`. -/
theorem wp_send (p : Fin 2) (b : Fin 2500) (f0 : Buf (Elt F) (A4.view.loc (thr d L))) {o12 : Fin 3 → ℕ} {o13 : Fin 2 → ℕ} {o14 : Fin 1 → ℕ}
    (e12 : o12 = ![p.val, 0, 0]) (e13 : o13 = ![128 * b.val, 0]) (e14 : o14 = ![p.val])
    {h12 : ∀ a, o12 a + S1x128x128.size a ≤ S2x128x128.size a} {h13 : ∀ a, o13 a + S128x128.size a ≤ S320000x128.size a}
    {h14 : ∀ a, o14 a + S1.size a ≤ S2.size a} {hsrc hdst hsem} :
    iprop(OReady d L A4 AD sO G p b ∗ ((oW A4 b).view.loc (thr d L) ↦[(oW A4 b).view.set]{fullShare} f0) : sProp 𝕄)
      ⊢ iprop((OFly d L A4 AD sO G p b -∗ wp frame (wpE (defs₀ (F := F)) 𝒱₀ (thr d L) none) Set.univ (k ⟨⟩) Q)
        -∗ wp frame (wpE (defs₀ (F := F)) 𝒱₀ (thr d L) none) Set.univ
          (.op (.enqueueDma ((AD.slice (Rect.unit (s := S2x128x128) o12 S1x128x128.size h12) (fun _ => rfl)).squeeze S128x128 squeezes_S1x128x128_S128x128)
            (.here (A4.slice (Rect.unit (s := S320000x128) o13 S128x128.size h13) (fun _ => rfl)))
            (.dma ((sO.slice (Rect.unit (s := S2) o14 S1.size h14)).squeeze S_ squeezes_S1_S_).sem) hsrc hdst hsem) k) Q) := by
  subst e12 e13 e14
  unfold OReady OFly
  iintro ⟨⟨⟨%f, Hd, %hf⟩, Hsem⟩, Ho⟩ Hk
  iapply (Transfers.wp_dmaLocal countersEmb 𝒱₀ (thr d L) none (src := dS AD p) (dst := oW A4 b) (via := .same) (sm := .dma (cell sO p))
    (default : HIx 1) 524288 rfl (by decide) (Finset.Subset.refl _)) $$ [Hd Hsem Ho]
  · isplitl [Hd]; · iexact Hd
    isplitl [Ho]; · iexact Ho
    iexact Hsem
  iintro Hfl
  iapply Hk
  iapply (Transfers.Flight_mono countersEmb (thr d L) ?_) $$ Hfl
  iintro ⟨Ho, Hd⟩
  isplitl [Ho]
  · iapply (Entails.of_eq (pointsTo_congr ?_)) $$ Ho
    intro i hi
    obtain ⟨x, -, rfl⟩ := Finset.mem_map.1 hi
    have h1 := congrFun (View.read_write_univ (v := (oW A4 b).view) (Val := Elt F) f0 (ReadAs.same.apply ((dS AD p).view.read (Elt F) f))) x
    rw [View.read_apply] at h1
    have h2 := congrFun hf x
    rw [View.read_apply (v := (oW A4 b).view)] at h2
    exact (cast_inj _).1 (h1.trans h2)
  · iexists f; iexact Hd

/-- Waiting for block `b` to be out. -/
theorem wp_sendWait (p : Fin 2) (b : Fin 2500) {o15 : Fin 3 → ℕ} {o16 : Fin 2 → ℕ} {o17 : Fin 1 → ℕ} (e17 : o17 = ![p.val])
    {h15 : ∀ a, o15 a + S1x128x128.size a ≤ S2x128x128.size a} {h16 : ∀ a, o16 a + S128x128.size a ≤ S320000x128.size a}
    {h17 : ∀ a, o17 a + S1.size a ≤ S2.size a} {hsrc hdst} {O : CellTallies nD τ sig (HIx 1)} {W : Waits sig (HIx 1)} :
    iprop(OFly d L A4 AD sO G p b ∗ owes (thr d L) O W ∗ Transfers.MayWaits (thr d L) (default : HIx 1) O : sProp 𝕄)
      ⊢ iprop((OFree d L AD sO p ∗ ((oW A4 b).view.loc (thr d L) ↦[(oW A4 b).view.set]{fullShare} G)
            ∗ owes (thr d L) O (insert (SemLoc.dma (cell sO p), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((sO.slice (Rect.unit (s := S2) o17 S1.size h17)).squeeze S_ squeezes_S1_S_).sem
            ((AD.slice (Rect.unit (s := S2x128x128) o15 S1x128x128.size h15) (fun _ => rfl)).squeeze S128x128 squeezes_S1x128x128_S128x128)
            (A4.slice (Rect.unit (s := S320000x128) o16 S128x128.size h16) (fun _ => rfl)) hsrc hdst) k) Q) := by
  subst e17
  unfold OFly OFree
  iintro ⟨Hfl, HO, Hmw⟩ Hk
  iapply (Transfers.wp_waitLocalO countersEmb 𝒱₀ (thr d L) none (default : HIx 1) (oW_credit A4)) $$ [Hfl HO Hmw]
  · isplitl [Hfl]; · iexact Hfl
    isplitl [HO]; · iexact HO
    iapply (Transfers.MayWaits.elim (SemLoc.dma (cell sO p))) $$ Hmw
  iintro ⟨⟨Ho, Hd⟩, Hsem, HO⟩
  iapply Hk
  isplitl [Hd Hsem]
  · isplitl [Hd]; · iexact Hd
    iexact Hsem
  isplitl [Ho]; · iexact Ho
  iexact HO

end Rules

end Held

end Cert.Proof.Half.Steps

end
-- ==== Proof.Half.Loop.lean ====
/-
  One trip of a tile's pipeline, its loop, and the tile's run from the filled shared table to its last block sent out.
-/
module

public import proofs.«01_k».proof.Proof.Half.Steps

@[expose] public section

noncomputable section

namespace Cert.Proof.Half.Loop

open Cert.FirstKernelIdeal Cert.FirstKernelIdeal.Gen Cert.Proof.Half.Words Cert.Proof.Half.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid1.Coords)
variable (A2 : Memref sig .scVector .hbm S10000x128 .f32) (h2 : A2.IsWhole)
  (A3 : Memref sig .scVector .hbm S1x320000 .i32) (h3 : A3.IsWhole) (A4 : Memref sig .scVector .hbm S320000x128 .f32) (h4 : A4.IsWhole)
  (A5 : Memref sig .scVector .shared S10000x128 .f32) (h5 : A5.IsWhole) (s6 : DmaSems sig S_)
  (AI : Memref sig .scVector .vmem S2x1x128 .i32) (hI : AI.IsWhole) (sI : DmaSems sig S2)
  (AD : Memref sig .scVector .vmem S2x128x128 .f32) (hD : AD.IsWhole) (sO : DmaSems sig S2) (sG sG' : DmaSems sig S_)
variable (q : Fin 2 → PosShare TreeShare) (q5 : PosShare TreeShare)
variable (fI : Buf (Elt F) (A3.view.loc (thr d L))) (fT : Buf (Elt F) (A5.view.loc (thr d L)))
  (f0 G : Buf (Elt F) (A4.view.loc (thr d L)))

/-- Block `t` of the tile, still to be written, and written. -/
def Todo (t : ℕ) : sProp 𝕄 := iprop((oW A4 (blk L t)).view.loc (thr d L) ↦[(oW A4 (blk L t)).view.set]{fullShare} f0)
def Done (t : ℕ) : sProp 𝕄 := iprop((oW A4 (blk L t)).view.loc (thr d L) ↦[(oW A4 (blk L t)).view.set]{fullShare} G)

/-- The slots before trip `t`: its own block's numbers on their way, the other slot's numbers idle, its own slot of rows
    idle, and the other slot's rows on their way out (but before the first trip). -/
def Slots (t : ℕ) : sProp 𝕄 :=
  iprop((if t < nBlk L then IFly d L A3 AI sI q fI (par t) (blk L t) else IFree d L A3 AI sI q fI (par t))
    ∗ IFree d L A3 AI sI q fI (par (t + 1))
    ∗ OFree d L AD sO (par t)
    ∗ (if 0 < t then OFly d L A4 AD sO G (par (t + 1)) (blk L (t - 1)) else OFree d L AD sO (par (t + 1))))

/-- What the tile keeps through its loop: the table's share, the gather's semaphore, and what it owes. -/
def Kept (O : CellTallies nD τ sig (HIx 1)) (W : Waits sig (HIx 1)) : sProp 𝕄 :=
  iprop((A5.view.loc (thr d L) ↦{q5} fT) ∗ semVal (thr d L, SemLoc.dma sG.sem) 0
    ∗ ∃ W', ⌜∀ p ∈ W', p ∈ W ∨ p.2 = none⌝ ∗ owes (thr d L) O W')

/-- A choice already made. -/
theorem choose_pos {c : Prop} [Decidable c] (h : c) (A B : sProp 𝕄) : A ⊢ (if c then A else B) := by rw [if_pos h]
theorem choose_neg {c : Prop} [Decidable c] (h : ¬c) (A B : sProp 𝕄) : B ⊢ (if c then A else B) := by rw [if_neg h]

variable [FloatOps F] [Named F]

set_option maxHeartbeats 1000000 in
theorem trip (hG : Gathered d L A3 A4 A5 fI fT G) (t : Trip L) {a8 a9 a10 a11 a12 : BitVec 32}
    (hw : (a8, a9, a10, a11, a12) = tripWords L t) (v14 v44 c0 c1 c2 c3 c4 v48 : BitVec 32) {O : CellTallies nD τ sig (HIx 1)} {W : Waits sig (HIx 1)} :
    iprop(Transfers.MayWaits (thr d L) (default : HIx 1) O ∗ Slots d L A3 A4 AI sI AD sO q fI G t ∗ Kept d L A5 sG q5 fT O W ∗ Todo d L A4 f0 t : sProp 𝕄)
      ⊢ wp frame (wpE (defs₀ (F := F)) 𝒱₀ (thr d L) none) Set.univ
        (k1_t1_body (F := F) L A2 h2 A3 h3 A4 h4 A5 h5 s6 AI hI sI AD hD sO sG sG' (w8 L) (w13 L) v14 (cond2 L) v44 0#32 c0 c1 c2 c3 v48 t (a8, a9, a10, a11, a12))
        fun r => iprop(⌜r = tripWords L (t + 1)⌝ ∗ Slots d L A3 A4 AI sI AD sO q fI G (t + 1) ∗ Kept d L A5 sG q5 fT O W
          ∗ if 0 < t.val then Done d L A4 G (t - 1) else emp) := by
  have e8 : a8 = (tripWords L t).1 := congrArg (·.1) hw
  have e9 : a9 = (tripWords L t).2.1 := congrArg (·.2.1) hw
  have e10 : a10 = (tripWords L t).2.2.1 := congrArg (·.2.2.1) hw
  have e11 : a11 = (tripWords L t).2.2.2.1 := congrArg (·.2.2.2.1) hw
  have e12 : a12 = (tripWords L t).2.2.2.2 := congrArg (·.2.2.2.2) hw
  unfold k1_t1_body
  simp only [k1_part1_eq_skeleton, k1_part2_eq_skeleton]
  unfold k1_part1_skel k1_part2_skel
  have hc4 := cond4 L t
  have hc5 := cond5 L t
  have hc8 := cond8 L t
  have hc10 := cond10 L t
  rw [← e12] at hc4 hc5 hc8 hc10
  have h5 := off9 L t
  have h10 := off10 L t
  have h11 := off11 L t
  have h12 := off12 L t
  have h13 := off13 L t
  have h14 := off14 L t
  rw [← e9] at h5 h11
  rw [← e10] at h10 h12 h14
  rw [← e12] at h13
  simp only [hc5, hc8, dif_pos, ite_self, bind_assoc, pure_bind, Prog.bind_lift, Prog.bind_op, Prog.bind_pure]
  rw [wp_assume_of 𝒱₀ (thr d L) none _ (by rw [e9]; exact chk3 L t), wp_assume_of 𝒱₀ (thr d L) none _ (by rw [e10]; exact chk2 L t),
    wp_assume_of 𝒱₀ (thr d L) none _ (by rw [e8, e9, e10, e11, e12]; exact chk1 L t)]
  unfold Slots Kept Todo
  rw [if_pos t.lt]
  iintro ⟨#Hmw, ⟨Hi0, Hi1, Ho0, Ho1⟩, ⟨HT, HsG, %W', %hW, HO⟩, Htodo⟩
  have hs := step_eq L t
  rw [← e8, ← e9, ← e10, ← e11, ← e12] at hs
  dsimp only [stepWords] at hs
  have hpar : par (t.val + 1 + 1) = par t := par_add_two t
  by_cases hn : t.val + 1 < nBlk L
  on_goal 1 =>
    rw [dif_pos (hc4.2 hn)]
    iapply (wp_fetch d L A3 AI sI q fI (par (t + 1)) (blk L (t + 1)) (by rw [e8]; exact off4 L t hn) (by rw [e12]; exact off5 L t hn)
      (by rw [e8]; exact off6 L t hn)) $$ Hi1
    iintro Hi1
    ihave Hi1 := (choose_pos hn _ (IFree d L A3 AI sI q fI (par (t.val + 1)))) $$ Hi1
  on_goal 2 =>
    rw [dif_neg (fun h => hn (hc4.1 h))]
    ihave Hi1 := (choose_neg hn (IFly d L A3 AI sI q fI (par (t.val + 1)) (blk L (t.val + 1))) _) $$ Hi1
  all_goals
    iapply (wp_fetchWait d L A3 AI sI q fI (par t) (blk L t) h5) $$ [Hi0 HO]
    · isplitl [Hi0]; · iexact Hi0
      isplitl [HO]; · iexact HO
      iexact Hmw
    iintro ⟨Hi0, HO⟩
    iapply (wp_gather d L A3 A4 A5 AI AD sI sO sG q q5 fI fT G hG (par t) (blk L t) h10 h11) $$ [Hi0 Ho0 HT HsG]
    · isplitl [Hi0]; · iexact Hi0
      isplitl [Ho0]; · iexact Ho0
      isplitl [HT]; · iexact HT
      iexact HsG
    iintro Hg
    iapply (wp_gatherWait d L A3 A4 A5 AI AD sI sO sG q q5 fI fT G (par t) (blk L t)) $$ [Hg HO]
    · isplitl [Hg]; · iexact Hg
      isplitl [HO]; · iexact HO
      iexact Hmw
    iintro ⟨Hi0, Ho0, HT, HsG, HO⟩
    iapply (wp_send d L A4 AD sO G (par t) (blk L t) f0 h12 h13 h14) $$ [Ho0 Htodo]
    · isplitl [Ho0]; · iexact Ho0
      iexact Htodo
    iintro Ho0
    ihave Ho0 := (choose_pos (Nat.succ_pos t.val) (OFly d L A4 AD sO G (par (t.val + 1 + 1)) (blk L (t.val + 1 - 1))) (OFree d L AD sO (par (t.val + 1 + 1)))) $$ [Ho0]
    · rw [hpar]; iexact Ho0
    ihave Hi0 := (Entails.of_eq (show IFree d L A3 AI sI q fI (par t.val) = IFree d L A3 AI sI q fI (par (t.val + 1 + 1)) by rw [hpar])) $$ Hi0
    by_cases ht : 0 < t.val
    on_goal 1 =>
      ihave Ho1 := (Entails.of_eq (if_pos ht)) $$ Ho1
      rw [dif_pos (hc10.2 ht), if_pos ht]
      unfold Done
      iapply (wp_sendWait d L A4 AD sO G (par (t + 1)) (blk L (t - 1)) (by rw [e11]; exact off17 L t ht)) $$ [Ho1 HO]
      · isplitl [Ho1]; · iexact Ho1
        isplitl [HO]; · iexact HO
        iexact Hmw
      iintro ⟨Ho1, Hdone, HO⟩
    on_goal 2 =>
      ihave Ho1 := (Entails.of_eq (if_neg ht)) $$ Ho1
      rw [dif_neg (fun h => ht (hc10.1 h)), if_neg ht]
      ihave Hdone := (show (emp : sProp 𝕄) ⊢ emp from .rfl) $$ []
      · iempintro
    all_goals
      rw [wp_pure]
      imodintro
      isplitr
      · ipureintro
        dsimp only
        exact hs
      isplitl [Hi0 Hi1 Ho0 Ho1]
      · isplitl [Hi1]; · iexact Hi1
        isplitl [Hi0]; · iexact Hi0
        isplitl [Ho1]; · iexact Ho1
        iexact Ho0
      isplitl [HT HsG HO]
      · isplitl [HT]; · iexact HT
        isplitl [HsG]; · iexact HsG
        iexists _
        isplitr [HO]
        swap
        · iexact HO
        ipureintro
        intro p hp
        repeat (rcases Finset.mem_insert.1 hp with rfl | hp; · exact .inr rfl)
        exact hW p hp
      iexact Hdone

/-- The first counter the loop is entered with. -/
theorem first_word : ∀ i : grid1.Coords, Scalar.select (Scalar.andi 1#1 (Scalar.cmpi .sgt (Scalar.muli 1#32 (w8 i)) 0#32)) (Scalar.addi 0#32 1#32) 0#32
    = (tripWords i 0).1 := by decide +kernel

/-- Before the loop: the first block's row numbers are fetched. -/
theorem part5 (v14 : BitVec 32) {α : Type} {Q : α → sProp (MT nD τ sig (HIx 1) (Elt F) ℕ UU ℕ)}
    {k : (Σ' (_ : BitVec 32) (_ : BitVec 32) (_ : BitVec 32) (_ : BitVec 32) (_ : BitVec 32) (_ : BitVec 32), BitVec 32) →
      Prog (TpuEff nD τ sig (Elt F) Λ₀ (.scVector (cV L) (jV L))) α} :
    (IFree d L A3 AI sI q fI (par 0) : sProp 𝕄)
      ⊢ iprop((∀ v48, IFly d L A3 AI sI q fI (par 0) (blk L 0)
            -∗ wp frame (wpE (defs₀ (F := F)) 𝒱₀ (thr d L) none) Set.univ (k ⟨(tripWords L 0).1, 0#32, 0#32, 0#32, 0#32, 0#32, v48⟩) Q)
        -∗ wp frame (wpE (defs₀ (F := F)) 𝒱₀ (thr d L) none) Set.univ
        (k1_part5 (F := F) L A2 h2 A3 h3 A4 h4 A5 h5 s6 AI hI sI AD hD sO sG sG' (w8 L) (w13 L) v14 (cond2 L) >>= k) Q) := by
  simp only [k1_part5_eq_skeleton]
  unfold k1_part5_skel
  simp only [cond3 L, dif_pos, bind_assoc, pure_bind, Prog.bind_lift, Prog.bind_op, first_word]
  iintro Hi Hk
  iapply (wp_fetch d L A3 AI sI q fI (par 0) (blk L 0) off1 (off2 L) off3) $$ Hi
  iintro Hi
  iapply Hk $$ %_ Hi

/-- Before trip `t`: the counters, the slots, what is kept, the blocks still to be written and those written. -/
def Inv (O : CellTallies nD τ sig (HIx 1)) (W : Waits sig (HIx 1)) (t : ℕ) (acc : BitVec 32 × BitVec 32 × BitVec 32 × BitVec 32 × BitVec 32) : sProp 𝕄 :=
  iprop(⌜acc = tripWords L t⌝ ∗ □ Transfers.MayWaits (thr d L) (default : HIx 1) O ∗ Slots d L A3 A4 AI sI AD sO q fI G t ∗ Kept d L A5 sG q5 fT O W
    ∗ bigSep (Finset.Ico t (nBlk L)) (Todo d L A4 f0) ∗ bigSep (Finset.range (t - 1)) (Done d L A4 G))

theorem inv_step (hG : Gathered d L A3 A4 A5 fI fT G) (v14 v44 c0 c1 c2 c3 v48 : BitVec 32) (O : CellTallies nD τ sig (HIx 1)) (W : Waits sig (HIx 1))
    (t : Trip L) (acc : BitVec 32 × BitVec 32 × BitVec 32 × BitVec 32 × BitVec 32) :
    (Inv d L A3 A4 A5 AI sI AD sO sG q q5 fI fT f0 G O W t acc : sProp 𝕄)
      ⊢ wp frame (wpE (defs₀ (F := F)) 𝒱₀ (thr d L) none) Set.univ
        (k1_t1_body (F := F) L A2 h2 A3 h3 A4 h4 A5 h5 s6 AI hI sI AD hD sO sG sG' (w8 L) (w13 L) v14 (cond2 L) v44 0#32 c0 c1 c2 c3 v48 t acc)
        (Inv d L A3 A4 A5 AI sI AD sO sG q q5 fI fT f0 G O W (t + 1)) := by
  obtain ⟨a8, a9, a10, a11, a12⟩ := acc
  unfold Inv
  have hS : Finset.Ico t.val (nBlk L) = insert t.val (Finset.Ico (t.val + 1) (nBlk L)) := by
    ext x; simp only [Finset.mem_Ico, Finset.mem_insert]; have := t.lt; omega
  rw [hS, SparseCore.bigSep_insert' (by simp)]
  iintro ⟨%hw, #Hmw, Hslots, Hkept, ⟨Htodo, Hrest⟩, Hdone⟩
  iapply (wp_wand frame (wpE (defs₀ (F := F)) 𝒱₀ (thr d L) none)) $$ [Hslots Hkept Htodo]
  · iapply (trip d L A2 h2 A3 h3 A4 h4 A5 h5 s6 AI hI sI AD hD sO sG sG' q q5 fI fT f0 G hG t hw v14 v44 c0 c1 c2 c3 v48)
    isplitr; · iexact Hmw
    isplitl [Hslots]; · iexact Hslots
    isplitl [Hkept]; · iexact Hkept
    iexact Htodo
  iintro %r ⟨%hr, Hslots, Hkept, Hone⟩
  isplitr; · ipureintro; exact hr
  isplitr; · imodintro; iexact Hmw
  isplitl [Hslots]; · iexact Hslots
  isplitl [Hkept]; · iexact Hkept
  isplitl [Hrest]; · iexact Hrest
  by_cases ht : 0 < t.val
  · ihave Hone := (Entails.of_eq (if_pos ht)) $$ Hone
    have : Finset.range (t.val + 1 - 1) = insert (t.val - 1) (Finset.range (t.val - 1)) := by
      ext x; simp only [Finset.mem_range, Finset.mem_insert]; omega
    rw [this, SparseCore.bigSep_insert' (by simp)]
    isplitl [Hone]; · iexact Hone
    iexact Hdone
  · have : t.val + 1 - 1 = t.val - 1 := by omega
    rw [this]
    iexact Hdone

/-- The counters the loop is entered with. -/
theorem zero_words : ∀ i : grid1.Coords, ((tripWords i 0).1, (0#32, 0#32, 0#32, 0#32)) = tripWords i 0 := by decide +kernel

/-- The four slots idle. -/
def Idle (t : ℕ) : sProp 𝕄 :=
  iprop(IFree d L A3 AI sI q fI (par t) ∗ IFree d L A3 AI sI q fI (par (t + 1)) ∗ OFree d L AD sO (par t) ∗ OFree d L AD sO (par (t + 1)))

theorem idle_succ (t : ℕ) : (Idle d L A3 AI sI AD sO q fI (t + 1) : sProp 𝕄) ⊢ Idle d L A3 AI sI AD sO q fI t := by
  unfold Idle
  rw [show par (t + 1 + 1) = par t from par_add_two t]
  iintro ⟨Hi1, Hi0, Ho1, Ho0⟩
  isplitl [Hi0]; · iexact Hi0
  isplitl [Hi1]; · iexact Hi1
  isplitl [Ho0]; · iexact Ho0
  iexact Ho1

theorem idle_zero : ∀ t : ℕ, (Idle d L A3 AI sI AD sO q fI t : sProp 𝕄) ⊢ Idle d L A3 AI sI AD sO q fI 0
  | 0 => .rfl
  | t + 1 => (idle_succ d L A3 AI sI AD sO q fI t).trans (idle_zero t)

/-- The loop and what follows it: every block of the tile ends written, and the slots idle. -/
theorem part6 (hG : Gathered d L A3 A4 A5 fI fT G) (v14 v48 : BitVec 32) {O : CellTallies nD τ sig (HIx 1)} {W : Waits sig (HIx 1)}
    {Q : PUnit → sProp (MT nD τ sig (HIx 1) (Elt F) ℕ UU ℕ)} :
    (Inv d L A3 A4 A5 AI sI AD sO sG q q5 fI fT f0 G O W 0 (tripWords L 0) : sProp 𝕄)
      ⊢ iprop((Idle d L A3 AI sI AD sO q fI 0 ∗ Kept d L A5 sG q5 fT O W ∗ bigSep (Finset.range (nBlk L)) (Done d L A4 G) -∗ Q ⟨⟩)
        -∗ wp frame (wpE (defs₀ (F := F)) 𝒱₀ (thr d L) none) Set.univ
        (k1_part6 (F := F) L A2 h2 A3 h3 A4 h4 A5 h5 s6 AI hI sI AD hD sO sG sG' (w8 L) (w13 L) v14 (cond2 L)
          (tripWords L 0).1 0#32 0#32 0#32 0#32 0#32 v48) Q) := by
  simp only [k1_part6_eq_skeleton]
  unfold k1_part6_skel
  simp only [cond19 L, dif_pos, dite_eq_ite, ite_self, bind_assoc, pure_bind, Prog.bind_lift, Prog.bind_op, Prog.bind_pure]
  iintro Hinv Hk
  iapply (Scf.wp_for_bind frame (wpE (defs₀ (F := F)) 𝒱₀ (thr d L) none) Set.univ _ _ _ _ _ _
    (fun k acc => Inv d L A3 A4 A5 AI sI AD sO sG q q5 fI fT f0 G O W k acc)
    (fun k acc => inv_step d L A2 h2 A3 h3 A4 h4 A5 h5 s6 AI hI sI AD hD sO sG sG' q q5 fI fT f0 G hG v14 _ _ _ _ _ _ O W k acc)) $$ [Hinv]
  · rw [zero_words L]; iexact Hinv
  iintro %acc Hinv
  ihave Hinv := (Entails.of_eq (congrArg (fun n => Inv d L A3 A4 A5 AI sI AD sO sG q q5 fI fT f0 G O W n acc) (trips_eq L))) $$ Hinv
  iapply (Scf.wp_for_bind frame (wpE (defs₀ (F := F)) 𝒱₀ (thr d L) none) Set.univ _ _ _ _ _ _
    (fun _ acc => Inv d L A3 A4 A5 AI sI AD sO sG q q5 fI fT f0 G O W (nBlk L) acc)
    (fun k acc => absurd k.isLt (by have := trips2_eq L; show ¬ k.val < (k1_t2_loop L).trips; omega))) $$ [Hinv]
  · iexact Hinv
  iintro %acc Hinv
  obtain ⟨a8, a9, a10, a11, a12⟩ := acc
  unfold Inv Slots Kept
  icases Hinv with ⟨%hw, #Hmw, ⟨Hi0, Hi1, Ho0, Ho1⟩, ⟨HT, HsG, %W', %hW, HO⟩, Htodo, Hdone⟩
  have e11 : a11 = (tripWords L (nBlk L)).2.2.2.1 := congrArg (·.2.2.2.1) hw
  have e12 : a12 = (tripWords L (nBlk L)).2.2.2.2 := congrArg (·.2.2.2.2) hw
  have hn := nBlk_pos L
  ihave Hi0 := (Entails.of_eq (if_neg (lt_irrefl (nBlk L)))) $$ Hi0
  ihave Ho1 := (Entails.of_eq (if_pos hn)) $$ Ho1
  rw [wp_assume_of 𝒱₀ (thr d L) none _ (by rw [e12]; exact chk8 L), wp_assume_of 𝒱₀ (thr d L) none _ (by rw [e11]; exact chk7 L)]
  iapply (wp_sendWait d L A4 AD sO G (par (nBlk L + 1)) (blk L (nBlk L - 1)) (by rw [e11]; exact off34 L)) $$ [Ho1 HO]
  · isplitl [Ho1]; · iexact Ho1
    isplitl [HO]; · iexact HO
    iexact Hmw
  iintro ⟨Ho1, Hlast, HO⟩
  rw [wp_pure]
  imodintro
  iapply Hk
  isplitl [Hi0 Hi1 Ho0 Ho1]
  · iapply (idle_zero d L A3 AI sI AD sO q fI (nBlk L))
    unfold Idle
    isplitl [Hi0]; · iexact Hi0
    isplitl [Hi1]; · iexact Hi1
    isplitl [Ho0]; · iexact Ho0
    iexact Ho1
  isplitl [HT HsG HO]
  · isplitl [HT]; · iexact HT
    isplitl [HsG]; · iexact HsG
    iexists _
    isplitr
    rotate_left
    · iexact HO
    · ipureintro
      intro p hp
      rcases Finset.mem_insert.1 hp with rfl | hp
      · exact .inr rfl
      · exact hW p hp
  · have : Finset.range (nBlk L) = insert (nBlk L - 1) (Finset.range (nBlk L - 1)) := by
      ext x; simp only [Finset.mem_range, Finset.mem_insert]; omega
    rw [this, SparseCore.bigSep_insert' (by simp)]
    isplitl [Hlast]; · unfold Done; iexact Hlast
    iexact Hdone

end

end Cert.Proof.Half.Loop

end
-- ==== Proof.Half.Tile.lean ====
/-
  One tile's whole task: the SparseCore's first tile fills the shared table, every tile meets the others at the subcore
  barrier, where the first hands each a share of the filled table, and then gathers its own blocks.
-/
module

public import proofs.«01_k».proof.Proof.Half.Loop
public import Idealize.ShloMosaic.Lib.StableHlo.Run
public import Idealize.ShloMosaic.Lib.Pipeline.Kit

@[expose] public section

noncomputable section

namespace Cert.Proof.Half.Tile

open Cert.FirstKernelIdeal Cert.FirstKernelIdeal.Gen Cert.Proof.Half.Words Cert.Proof.Half.Steps Cert.Proof.Half.Loop

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL
/-- Where the barrier cells' rounds sit in the ghost state. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers -/

abbrev tLoc (d : Dev nD) : Loc nD τ sig := (SparseCore.T d).loc main_v8
abbrev aLoc (d : Dev nD) : Loc nD τ sig := (SparseCore.T d).loc main_arg3
abbrev iLoc (d : Dev nD) : Loc nD τ sig := (SparseCore.T d).loc main_v3
abbrev oLoc (d : Dev nD) : Loc nD τ sig := (SparseCore.T d).loc main_v9

/-- A SparseCore's shared table, as each of its tiles addresses it. -/
abbrev shRef (c : Fin τ.nSC) : DevRef τ sig := ⟨.shared, ⟨0, by decide⟩, c⟩
abbrev shLoc (d : Dev nD) (c : Fin τ.nSC) : Loc nD τ sig := (d, shRef c)

abbrev tV : Memref sig .scVector .hbm S10000x128 .f32 := Memref.whole main_v8_scv
abbrev iV : Memref sig .scVector .hbm S1x320000 .i32 := Memref.whole main_v3_scv
abbrev oV : Memref sig .scVector .hbm S320000x128 .f32 := Memref.whole main_v9_scv
abbrev shV : Memref sig .scVector .shared S10000x128 .f32 := Memref.whole cc1_scratch0
abbrev nB : Memref sig .scVector .vmem S2x1x128 .i32 := Memref.whole cc1_scoped0
abbrev rB : Memref sig .scVector .vmem S2x128x128 .f32 := Memref.whole cc1_scoped2

/-! ## Shares -/

/-- A SparseCore's half of an array all tiles read; a tile's part of that; a slot's half of that; a tile's part of its
    SparseCore's shared table. -/
abbrev qC (c : Fin 2) : PosShare TreeShare := Transfers.dealOf fullShare Finset.univ c
abbrev qT (c : Fin 2) (i : Fin 16) : PosShare TreeShare := Transfers.dealOf (qC c) Finset.univ i
abbrev qP (c : Fin 2) (i : Fin 16) (p : Fin 2) : PosShare TreeShare := Transfers.dealOf (qT c i) Finset.univ p
abbrev qS (i : Fin 16) : PosShare TreeShare := Transfers.dealOf fullShare Finset.univ i

theorem deal {ℓ : Loc nD τ sig} {I : Finset (Idx ℓ)} {f : Buf (Elt F) ℓ} (q : PosShare TreeShare) (n : ℕ) :
    (ℓ ↦[I]{q} f : sProp 𝕄) = bigSep Finset.univ fun i : Fin (n + 1) => ℓ ↦[I]{Transfers.dealOf q Finset.univ i} f :=
  Transfers.pointsTo_deal Finset.univ ⟨0, Finset.mem_univ _⟩ q

/-! ## What the arrays hold -/

variable (tb : (d : Dev nD) → Buf (Elt F) (tLoc d)) (ib : (d : Dev nD) → Buf (Elt F) (iLoc d)) (o0 og : (d : Dev nD) → Buf (Elt F) (oLoc d))

/-- The filled shared table. -/
abbrev shTab (d : Dev nD) (c : Fin τ.nSC) : Buf (Elt F) (shLoc d c) := tb d

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What the duties of tile `j`'s round hand over: the first tile's, tile `j`'s share of the filled table; the others', nothing. -/
def bPay (g : GSem nD τ sig) (n : ℕ) : sProp 𝕄 :=
  match g with
  | ((d, .scVector c j), _) => if n = 0 then iprop(shLoc d c ↦{qS j} shTab tb d c) else iprop(emp)
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay tb g n
  amount_pos _ _ _ _ := Nat.one_pos

instance bRd_payload_storable (g : GSem nD τ sig) (r n : ℕ) : BI.Storable (upEmb : UEmb _ 𝕄) ((bRd tb).payload g r n) := by
  show BI.Storable upEmb (bPay tb g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd tb).duties (bcell d c j) 0 = (Finset.univ : Finset (Fin τ.nSub)).image Fin.val := by
  simp [bRd, isBar]
theorem bRd_duties_succ (g : GSem nD τ sig) (r : ℕ) (hr : 1 ≤ r) : (bRd tb).duties g r = ∅ :=
  if_neg fun h => absurd h.2 (Nat.ne_of_gt hr)
theorem bRd_mem₀ (d : Dev nD) (c : Fin τ.nSC) (j i : Fin τ.nSub) : i.val ∈ (bRd tb).duties (bcell d c j) 0 := by
  rw [bRd_duties₀]; exact Finset.mem_image_of_mem _ (Finset.mem_univ i)
theorem bRd_expect (d : Dev nD) (c : Fin τ.nSC) (j : Fin τ.nSub) : 0 + grid1.bound 1 = (bRd tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals a tile's proof for the barrier: its SparseCore's cells' invariants and that each has reached
    round 0, its own position, its duty in every tile's round, and the credit for its own round's sixteen units. -/
def bkit (d : Dev nD) (c : Fin τ.nSC) (i : Fin τ.nSub) : sProp 𝕄 :=
  iprop((∃ κ : GSem nD τ sig → ℕ, bigSep Finset.univ fun j : Fin (grid1.bound 1) =>
      cellInv EB (bRd tb) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

section Task

variable (d : Dev nD) (L : grid1.Coords)

/-- The first tile's extra: its half of the table, and the shared table to fill; afterwards, filled. -/
def First : sProp 𝕄 := if (L 1).val = 0 then iprop((tLoc d ↦{qC (L 0)} tb d) ∗ ∃ f, shLoc d (cV L) ↦{fullShare} f) else iprop(emp)
def Filled : sProp 𝕄 := if (L 1).val = 0 then iprop(shLoc d (cV L) ↦{fullShare} shTab tb d (cV L)) else iprop(emp)
def Kept1 : sProp 𝕄 := if (L 1).val = 0 then iprop(tLoc d ↦{qC (L 0)} tb d) else iprop(emp)

/-- What a tile takes at its start, and what it brings back. -/
def goP : sProp 𝕄 := iprop((iLoc d ↦{qT (L 0) (L 1)} ib d) ∗ bigSep (Finset.range (nBlk L)) (Todo d L oV (o0 d)) ∗ First tb d L)
def tdP : sProp 𝕄 := iprop((iLoc d ↦{qT (L 0) (L 1)} ib d) ∗ bigSep (Finset.range (nBlk L)) (Done d L oV (og d)) ∗ Kept1 tb d L
    ∗ (shLoc d (cV L) ↦{qS (L 1)} shTab tb d (cV L)) ∗ semVal (bcell d (cV L) (jV L)) 0)

/-! ## The slots of the two buffers -/

theorem nB_mem (p : Fin 2) (x : S2x1x128.Idx) : x ∈ (iS nB p).view.set ↔ x 0 = p := by
  have e : (iS nB p).view.set = (Rect.unit (s := S2x1x128) ![p.val, 0, 0] S1x1x128.size (iS_inb p)).set := by
    show (((View.whole cc1_scoped0).slice (Rect.unit (s := S2x1x128) ![p.val, 0, 0] S1x1x128.size (iS_inb p))).reshape S1x128 _).set = _
    rw [View.set_reshape, View.set_slice_whole]
  rw [e]
  refine Rect.mem_set_unit.trans ⟨fun h => ?_, fun h a => ?_⟩
  · obtain ⟨h1, h2⟩ := h 0
    have h1 : p.val ≤ (x 0).val := h1
    have h2 : (x 0).val < p.val + 1 := h2
    exact Fin.ext (by omega)
  · subst h
    match a with
    | 0 => exact ⟨le_rfl, Nat.lt_succ_self _⟩
    | 1 => exact ⟨Nat.zero_le _, (x 1).isLt⟩
    | 2 => exact ⟨Nat.zero_le _, (x 2).isLt⟩

theorem rB_mem (p : Fin 2) (x : S2x128x128.Idx) : x ∈ (dS rB p).view.set ↔ x 0 = p := by
  have e : (dS rB p).view.set = (Rect.unit (s := S2x128x128) ![p.val, 0, 0] S1x128x128.size (dS_inb p)).set := by
    show (((View.whole cc1_scoped2).slice (Rect.unit (s := S2x128x128) ![p.val, 0, 0] S1x128x128.size (dS_inb p))).reshape S128x128 _).set = _
    rw [View.set_reshape, View.set_slice_whole]
  rw [e]
  refine Rect.mem_set_unit.trans ⟨fun h => ?_, fun h a => ?_⟩
  · obtain ⟨h1, h2⟩ := h 0
    have h1 : p.val ≤ (x 0).val := h1
    have h2 : (x 0).val < p.val + 1 := h2
    exact Fin.ext (by omega)
  · subst h
    match a with
    | 0 => exact ⟨le_rfl, Nat.lt_succ_self _⟩
    | 1 => exact ⟨Nat.zero_le _, (x 1).isLt⟩
    | 2 => exact ⟨Nat.zero_le _, (x 2).isLt⟩

/-- A buffer whose two slots partition it is its slots, whatever they hold. -/
theorem two_slots {ℓ : Loc nD τ sig} (K : Fin 2 → Finset (Idx ℓ)) (hK : ∀ x, ∃ p, x ∈ K p) (hd : ∀ p p' x, x ∈ K p → x ∈ K p' → p = p') :
    (iprop(∃ f, ℓ ↦{fullShare} f) : sProp 𝕄) ⊣⊢ iprop((∃ f, ℓ ↦[K 0]{fullShare} f) ∗ ∃ f, ℓ ↦[K 1]{fullShare} f) := by
  have hdis : ∀ t ∈ (Finset.univ : Finset (Fin 2)), ∀ t' ∈ (Finset.univ : Finset (Fin 2)), t ≠ t' → Disjoint (K t) (K t') :=
    fun t _ t' _ hne => Finset.disjoint_left.2 fun x hx hx' => hne (hd _ _ x hx hx')
  have hcov : (Finset.univ : Finset (Fin 2)).biUnion K = Finset.univ :=
    Finset.eq_univ_iff_forall.2 fun x => Finset.mem_biUnion.2 ⟨(hK x).choose, Finset.mem_univ _, (hK x).choose_spec⟩
  have h01 : (Finset.univ : Finset (Fin 2)) = {0, 1} := by decide
  constructor
  · iintro ⟨%f, H⟩
    ihave H := (Entails.of_eq (show (ℓ ↦{fullShare} f : sProp 𝕄) = iprop((ℓ ↦[K 0]{fullShare} f) ∗ ℓ ↦[K 1]{fullShare} f) by
      rw [← hcov, pointsTo_biUnion Finset.univ K hdis, h01, SparseCore.bigSep_insert' (by decide), bigSep_singleton])) $$ H
    icases H with ⟨H0, H1⟩
    isplitl [H0]
    · iexists f; iexact H0
    · iexists f; iexact H1
  · iintro ⟨⟨%f, H0⟩, %g, H1⟩
    ihave H := (pointsTo_biUnion_join Finset.univ K (fun p => if p = 0 then f else g) f hdis) $$ [H0 H1]
    · rw [h01, SparseCore.bigSep_insert' (by decide), bigSep_singleton]
      isplitl [H0]; · iexact H0
      iexact H1
    icases H with ⟨%h, -, H⟩
    rw [hcov]
    iexists h; iexact H

theorem nB_slots : (iprop(∃ f, (thr d L).loc cc1_scoped0 ↦{fullShare} f) : sProp 𝕄)
    ⊣⊢ iprop((∃ f, (iS nB 0).view.loc (thr d L) ↦[(iS nB 0).view.set]{fullShare} f) ∗ ∃ f, (iS nB 1).view.loc (thr d L) ↦[(iS nB 1).view.set]{fullShare} f) :=
  two_slots (ℓ := (thr d L).loc cc1_scoped0) (fun p => (iS nB p).view.set) (fun x => ⟨_, (nB_mem _ x).2 rfl⟩)
    fun p p' x h h' => ((nB_mem p x).1 h).symm.trans ((nB_mem p' x).1 h')
theorem rB_slots : (iprop(∃ f, (thr d L).loc cc1_scoped2 ↦{fullShare} f) : sProp 𝕄)
    ⊣⊢ iprop((∃ f, (dS rB 0).view.loc (thr d L) ↦[(dS rB 0).view.set]{fullShare} f) ∗ ∃ f, (dS rB 1).view.loc (thr d L) ↦[(dS rB 1).view.set]{fullShare} f) :=
  two_slots (ℓ := (thr d L).loc cc1_scoped2) (fun p => (dS rB p).view.set) (fun x => ⟨_, (rB_mem _ x).2 rfl⟩)
    fun p p' x h h' => ((rB_mem p x).1 h).symm.trans ((rB_mem p' x).1 h')

/-! ## The tile's own buffers and semaphores -/

/-- The two buffers are among the tile's own. -/
theorem ownBufs_V : ∃ R : sProp 𝕄, (ownBufs (thr d L) : sProp 𝕄)
      = iprop((∃ f, (thr d L).loc cc1_scoped0 ↦{fullShare} f) ∗ (∃ f, (thr d L).loc cc1_scoped2 ↦{fullShare} f) ∗ R) := by
  unfold SparseCore.Cfg.ownBufs
  rw [SparseCore.bigSep_erase' (SparseCore.Cfg.mem_ownRefs_of_owner (p := Proc.scVector (cV L) (jV L)) (b := (Proc.scVector (cV L) (jV L)).devRef cc1_scoped0) rfl),
    SparseCore.bigSep_erase' (Finset.mem_erase.mpr ⟨fun h => absurd (show (1 : ℕ) = 0 from congrArg (fun b : DevRef τ sig => (b.idx.val : ℕ)) h) (by decide),
      SparseCore.Cfg.mem_ownRefs_of_owner (p := Proc.scVector (cV L) (jV L)) (b := (Proc.scVector (cV L) (jV L)).devRef cc1_scoped2) rfl⟩)]
  exact ⟨_, rfl⟩

/-- The semaphores the task uses. -/
def locs : Finset (SemLoc sig) :=
  {.dma cc1_scratch1.sem, .dma (cell cc1_scoped1 0), .dma (cell cc1_scoped1 1), .dma (cell cc1_scoped3 0), .dma (cell cc1_scoped3 1), .dma cc1_scoped4.sem}

theorem ownSems0_V : ∃ R : sProp 𝕄, (ownSems0 (thr d L) : sProp 𝕄)
      = iprop((semVal (thr d L, .dma cc1_scratch1.sem) 0 ∗ semVal (thr d L, .dma (cell cc1_scoped1 0)) 0 ∗ semVal (thr d L, .dma (cell cc1_scoped1 1)) 0
          ∗ semVal (thr d L, .dma (cell cc1_scoped3 0)) 0 ∗ semVal (thr d L, .dma (cell cc1_scoped3 1)) 0 ∗ semVal (thr d L, .dma cc1_scoped4.sem) 0) ∗ R) := by
  unfold SparseCore.Cfg.ownSems0
  have hsub : locs.image (fun sm => ((thr d L, sm) : GSem nD τ sig)) ⊆ ownCells (thr d L) := by
    intro g hg
    obtain ⟨sm, hsm, rfl⟩ := Finset.mem_image.1 hg
    exact (mem_ownCells (g := (thr d L, sm))).mpr ⟨rfl, (show ∀ sm ∈ locs, sm.isScoped .scVector = true by decide +kernel) sm hsm⟩
  rw [SparseCore.bigSep_sdiff_split' hsub, SparseCore.bigSep_image_of_injOn (fun a _ b _ e => (Prod.mk.inj e).2)]
  unfold locs
  rw [SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]
  exact ⟨_, rfl⟩

/-! ## The barrier's payloads -/

/-- Before the barrier: what the tile's duties hand over. -/
theorem pays_intro : (Filled tb d L : sProp 𝕄)
    ⊢ bigSep Finset.univ fun j : Fin (grid1.bound 1) => (bRd tb).payload (bcell d (cV L) (j.castLE hsub1)) 0 (jV L).val := by
  unfold Filled
  split
  · next h =>
    refine (Entails.of_eq (deal fullShare 15)).trans (Entails.of_eq ?_)
    refine bigSep_congr fun j _ => ?_
    show _ = bPay tb (bcell d (cV L) (j.castLE hsub1)) (jV L).val
    unfold bPay; dsimp only
    rw [if_pos (show (jV L).val = 0 from h)]
    rfl
  · next h =>
    refine (Entails.of_eq (bigSep_emp' (F := F) (Finset.univ : Finset (Fin (grid1.bound 1)))).symm).trans (Entails.of_eq ?_)
    refine bigSep_congr fun j _ => ?_
    show _ = bPay tb (bcell d (cV L) (j.castLE hsub1)) (jV L).val
    unfold bPay; dsimp only
    rw [if_neg (show ¬(jV L).val = 0 from h)]

/-- After it: the tile's share of the filled table. -/
theorem pays_elim : (bigSep ((bRd tb).duties (bcell d (cV L) (jV L)) 0 \ ∅) fun n => (bRd tb).payload (bcell d (cV L) (jV L)) 0 n)
    ⊢ (iprop(shLoc d (cV L) ↦{qS (L 1)} shTab tb d (cV L)) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay tb (bcell d (cV L) (jV L)) 0 ⊢ _
  unfold bPay; dsimp only
  rw [if_pos rfl]
  exact .rfl

variable [FloatOps F] [Named F]

theorem first_cond : ∀ i : grid1.Coords, (Scalar.cmpi .ne (Scalar.extui (Scalar.cmpi .eq (BitVec.ofNat 32 (i 1).val) 0#32) : BitVec 32) 0#32 = 1#1) ↔ (i 1).val = 0 := by
  decide +kernel

/-- A tile's share of the row numbers is its two slots'. -/
theorem idx_slots {f : Buf (Elt F) (iLoc d)} : (iLoc d ↦{qT (L 0) (L 1)} f : sProp 𝕄)
    = iprop((iLoc d ↦{qP (L 0) (L 1) 0} f) ∗ iLoc d ↦{qP (L 0) (L 1) 1} f) := by
  rw [deal (qT (L 0) (L 1)) 1, show (Finset.univ : Finset (Fin (1 + 1))) = {0, 1} by decide, SparseCore.bigSep_insert' (by decide), bigSep_singleton]
  rfl

theorem words8 : ∀ i : grid1.Coords, Scalar.select (Scalar.cmpi .slt (Scalar.addi (Scalar.addi 0#32 (Scalar.muli (BitVec.ofNat 32 (i 1).val) 1#32))
    (Scalar.muli (BitVec.ofNat 32 (i 0).val) 16#32)) 4#32) 79#32 78#32 = w8 i := by decide +kernel
theorem words13 : ∀ i : grid1.Coords, Scalar.select (Scalar.cmpi .slt (Scalar.addi (Scalar.addi 0#32 (Scalar.muli (BitVec.ofNat 32 (i 1).val) 1#32))
    (Scalar.muli (BitVec.ofNat 32 (i 0).val) 16#32)) 4#32)
    (Scalar.muli (Scalar.addi (Scalar.addi 0#32 (Scalar.muli (BitVec.ofNat 32 (i 1).val) 1#32)) (Scalar.muli (BitVec.ofNat 32 (i 0).val) 16#32)) (w8 i))
    (Scalar.addi (Scalar.muli (Scalar.addi (Scalar.addi 0#32 (Scalar.muli (BitVec.ofNat 32 (i 1).val) 1#32)) (Scalar.muli (BitVec.ofNat 32 (i 0).val) 16#32)) 78#32) 4#32)
    = w13 i := by decide +kernel

theorem shV_credit : (shV).view.dmaCredit = 40960000 := (show _ = S10000x128.numel * 32 from rfl).trans (by decide)

/-- The first tile fills the shared table and waits for it; the others go on at once. -/
theorem wp_fill {c : Prop} [Decidable c] (hc : c ↔ (L 1).val = 0) {α : Type} {Q : α → sProp (MT nD τ sig (HIx 1) (Elt F) ℕ UU ℕ)}
    {k : PUnit → Prog (TpuEff nD τ sig (Elt F) Λ₀ (.scVector (cV L) (jV L))) α} {hsrc hdst hsem hsrc' hdst'}
    {O : CellTallies nD τ sig (HIx 1)} {W : Waits sig (HIx 1)} :
    iprop(First tb d L ∗ semVal (thr d L, .dma cc1_scratch1.sem) 0 ∗ owes (thr d L) O W ∗ Transfers.MayWaits (thr d L) (default : HIx 1) O : sProp 𝕄)
      ⊢ iprop((Filled tb d L ∗ Kept1 tb d L ∗ semVal (thr d L, .dma cc1_scratch1.sem) 0
            ∗ (∃ W', ⌜∀ p ∈ W', p ∈ W ∨ p.2 = none⌝ ∗ owes (thr d L) O W')
            -∗ wp frame (wpE (defs₀ (F := F)) 𝒱₀ (thr d L) none) Set.univ (k ⟨⟩) Q)
        -∗ wp frame (wpE (defs₀ (F := F)) 𝒱₀ (thr d L) none) Set.univ
          (if _h : c then .op (.enqueueDma tV (.here shV) (.dma cc1_scratch1.sem) hsrc hdst hsem) fun _ =>
            .op (.waitDma2 cc1_scratch1.sem tV shV hsrc' hdst') k else k ⟨⟩) Q) := by
  by_cases h : (L 1).val = 0
  · unfold First Filled Kept1
    rw [dif_pos (hc.2 h), if_pos h, if_pos h, if_pos h]
    iintro ⟨⟨Ht, %f, Hs⟩, Hsem, HO, Hmw⟩ Hk
    iapply (Transfers.wp_dmaLocal countersEmb 𝒱₀ (thr d L) none (src := tV) (dst := shV) (via := .same) (sm := .dma cc1_scratch1.sem)
      (q := qC (L 0)) (fs := tb d) (Sd := Finset.univ) (fd := f)
      (default : HIx 1) 40960000 shV_credit (by decide) (Finset.subset_univ _)) $$ [Ht Hs Hsem]
    · isplitl [Ht]
      · rw [show (tV).view.set = Finset.univ from View.set_whole _]; iexact Ht
      isplitl [Hs]; · iexact Hs
      iexact Hsem
    iintro Hfl
    iapply (Transfers.wp_waitLocalO countersEmb 𝒱₀ (thr d L) none (default : HIx 1) shV_credit) $$ [Hfl HO Hmw]
    · isplitl [Hfl]; · iexact Hfl
      isplitl [HO]; · iexact HO
      iapply (Transfers.MayWaits.elim (SemLoc.dma cc1_scratch1.sem)) $$ Hmw
    iintro ⟨⟨Hs, Ht⟩, Hsem, HO⟩
    iapply Hk
    isplitl [Hs]
    · iapply (Entails.of_eq (show ((shV).view.loc (thr d L) ↦{fullShare} (shV).view.write (Elt F) f (ReadAs.same.apply ((tV).view.read (Elt F) (tb d))) Finset.univ : sProp 𝕄)
          = (shLoc d (cV L) ↦{fullShare} shTab tb d (cV L)) from
        congrArg (fun g : Buf (Elt F) (shLoc d (cV L)) => (shLoc d (cV L) ↦{fullShare} g : sProp 𝕄)) (View.write_whole_univ cc1_scratch0 f (tb d)))) $$ Hs
    isplitl [Ht]
    · iapply (Entails.of_eq (show ((tV).view.loc (thr d L) ↦[(tV).view.set]{qC (L 0)} tb d : sProp 𝕄) = (tLoc d ↦{qC (L 0)} tb d) by
        rw [show (tV).view.set = Finset.univ from View.set_whole _])) $$ Ht
    isplitl [Hsem]; · iexact Hsem
    iexists _
    isplitr
    rotate_left
    · iexact HO
    · ipureintro
      intro p hp
      rcases Finset.mem_insert.1 hp with rfl | hp
      · exact .inr rfl
      · exact .inl hp
  · unfold First Filled Kept1
    rw [dif_neg (fun h' => h (hc.1 h')), if_neg h, if_neg h, if_neg h]
    iintro ⟨-, Hsem, HO, -⟩ Hk
    iapply Hk
    isplitr; · iempintro
    isplitr; · iempintro
    isplitl [Hsem]; · iexact Hsem
    iexists W
    isplitr
    · ipureintro; exact fun p hp => .inl hp
    · iexact HO

set_option maxHeartbeats 4000000 in
/-- The task: the table filled, the barrier met, the tile's blocks gathered. -/
theorem tile_body (hG : ∀ d L, Gathered d L iV oV shV (ib d) (shTab tb d (cV L)) (og d)) (hF : (K (F := F)).Facts) (O : CellTallies nD τ sig (HIx 1))
    (W : Waits sig (HIx 1)) (hO : ∀ g, O g none = 0) (hOlev : ∀ g ι, 0 < O g ι → 8 * (0 : Fin 1).val + 6 ≤ (K (F := F)).lev g ι) :
    iprop(levAts (K (F := F)).L (K (F := F)).lev ∗ bkit tb d (cV L) (jV L) ∗ goP tb ib o0 d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_gk L tV (Memref.isWhole_whole _) iV (Memref.isWhole_whole _) oV (Memref.isWhole_whole _) shV (Memref.isWhole_whole _) cc1_scratch1
            nB (Memref.isWhole_whole _) cc1_scoped1 rB (Memref.isWhole_whole _) cc1_scoped3 cc1_scoped4 cc1_scoped5)
          fun _ => iprop(tdP tb ib og d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨RB, hRB⟩ := ownBufs_V (F := F) d L
  obtain ⟨RS, hRS⟩ := ownSems0_V (F := F) d L
  simp only [cc1_gk_eq_skeleton]; unfold cc1_gk_skel
  simp only [cond2 L, dif_pos, bind_assoc, pure_bind, Prog.bind_lift, Prog.bind_op, words8 L, words13 L]
  rw [(K (F := F)).scopedBufs_V hF d (cV L) (jV L), SparseCore.Cfg.scopedSems0_V (Val := Elt F) d (cV L) (jV L), hRB, hRS]
  unfold bkit goP
  iintro ⟨#Hlv, ⟨⟨%κ, #Hinv⟩, Htoks, #Hrch, Hat, Hcred⟩, ⟨Hi, Htodo, Hfirst⟩, ⟨Hnb, Hrb, HRB⟩, ⟨⟨HsT, HsI0, HsI1, HsO0, HsO1, HsG⟩, HRS⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave #Hmw2 := (show levAts (K (F := F)).L (K (F := F)).lev ⊢ Transfers.MayWaits (V d (cV L) (jV L)) (default : HIx 1) O from
    (K (F := F)).mayWaits_none (thr := V d (cV L) (jV L)) hO) $$ Hlv
  iapply (wp_fill tb d L (first_cond L)) $$ [Hfirst HsT HO Hmw1]
  · isplitl [Hfirst]; · iexact Hfirst
    isplitl [HsT]; · iexact HsT
    isplitl [HO]; · iexact HO
    iexact Hmw1
  iintro ⟨Hfilled, Hkept1, HsT, %W1, %hW1, HO⟩
  -- the barrier: the first tile's shares handed over, the tile's own received
  ihave Hpays := (pays_intro tb d L) $$ Hfilled
  iapply (SparseCore.wp_subcoreBarrier 𝒱₀ none EB (bRd tb) d (sc := cV L) (i := jV L) sc_bar0 (grid1.bound 1) hsub1 (L 1) rfl κ (fun _ => 0) (jV L).val
      (fun j => bRd_mem₀ tb d _ _ _) (fun _ => rfl) (bRd_expect tb d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd tb) (g := bcell d (cV L) (jV L)) (Set.mem_univ (κ _)) (fun h => h) (bRd_duties_succ tb _)) $$ [Hat] with Hbar
  · isplitr
    · iapply (SparseCore.ent (bigSep_elim (Φ := fun j : Fin (grid1.bound 1) =>
        (cellInv EB (bRd tb) (κ (bcell d (cV L) (j.castLE hsub1))) (bcell d (cV L) (j.castLE hsub1)) : sProp 𝕄)) (Finset.mem_univ (L 1)))); iexact Hinv
    · iexact Hat
  ihave Htab := (pays_elim tb d L) $$ Hgot
  -- the slots, idle
  ihave Hn := (nB_slots (F := F) d L).1 $$ Hnb
  icases Hn with ⟨Hn0, Hn1⟩
  ihave Hr := (rB_slots (F := F) d L).1 $$ Hrb
  icases Hr with ⟨Hr0, Hr1⟩
  ihave Hi' := (Entails.of_eq (idx_slots d L (f := ib d))) $$ Hi
  icases Hi' with ⟨Hi0, Hi1⟩
  -- the first block's row numbers, the loop, and the last wait
  iapply (part5 d L tV (Memref.isWhole_whole _) iV (Memref.isWhole_whole _) oV (Memref.isWhole_whole _) shV (Memref.isWhole_whole _) cc1_scratch1
    nB (Memref.isWhole_whole _) cc1_scoped1 rB (Memref.isWhole_whole _) cc1_scoped3 cc1_scoped4 cc1_scoped5 (qP (L 0) (L 1)) (ib d) _) $$ [Hn0 HsI0 Hi0]
  · unfold IFree
    isplitl [Hn0]; · iexact Hn0
    isplitl [HsI0]; · iexact HsI0
    iexact Hi0
  iintro %v48 Hfly
  rw [wp_bind]
  iapply (part6 d L tV (Memref.isWhole_whole _) iV (Memref.isWhole_whole _) oV (Memref.isWhole_whole _) shV (Memref.isWhole_whole _) cc1_scratch1
    nB (Memref.isWhole_whole _) cc1_scoped1 rB (Memref.isWhole_whole _) cc1_scoped3 cc1_scoped4 cc1_scoped5 (qP (L 0) (L 1)) (qS (L 1)) (ib d)
    (shTab tb d (cV L)) (o0 d) (og d) (hG d L) _ v48 (O := O) (W := insert (SemLoc.reg sc_bar0, some (0 : Fin 1)) W1)) $$ [Hfly Hn1 HsI1 Hi1 Hr0 Hr1 HsO0 HsO1 HsG Htab Htodo HO]
  · unfold Loop.Inv Slots Kept
    isplitr; · ipureintro; rfl
    isplitr; · imodintro; iexact Hmw2
    isplitl [Hfly Hn1 HsI1 Hi1 Hr0 Hr1 HsO0 HsO1]
    · isplitl [Hfly]
      · iapply (choose_pos (nBlk_pos L) _ _); iexact Hfly
      isplitl [Hn1 HsI1 Hi1]
      · unfold IFree
        isplitl [Hn1]; · iexact Hn1
        isplitl [HsI1]; · iexact HsI1
        iexact Hi1
      isplitl [Hr0 HsO0]
      · unfold OFree
        isplitl [Hr0]; · iexact Hr0
        iexact HsO0
      iapply (choose_neg (lt_irrefl 0) _ _)
      unfold OFree
      isplitl [Hr1]; · iexact Hr1
      iexact HsO1
    isplitl [Htab HsG HO]
    · isplitl [Htab]; · iexact Htab
      isplitl [HsG]; · iexact HsG
      iexists _
      isplitr
      rotate_left
      · iexact HO
      · ipureintro; exact fun p hp => .inl hp
    isplitl [Htodo]
    · rw [← Finset.range_eq_Ico]; iexact Htodo
    rw [Nat.zero_sub, Finset.range_zero, bigSep_empty]; iempintro
  unfold Idle Kept IFree OFree
  iintro ⟨⟨⟨Hn0, HsI0, Hi0⟩, ⟨Hn1, HsI1, Hi1⟩, ⟨Hr0, HsO0⟩, Hr1, HsO1⟩, ⟨Htab, HsG, %W2, %hW2, HO⟩, Hdone⟩
  rw [wp_pure]
  imodintro
  unfold tdP
  isplitl [Hi0 Hi1 Hdone Hkept1 Htab Hbar]
  · isplitl [Hi0 Hi1]
    · rw [idx_slots d L]
      isplitl [Hi0]; · iexact Hi0
      iexact Hi1
    isplitl [Hdone]; · iexact Hdone
    isplitl [Hkept1]; · iexact Hkept1
    isplitl [Htab]; · iexact Htab
    iexact Hbar
  isplitl [Hn0 Hn1 Hr0 Hr1 HRB]
  · isplitl [Hn0 Hn1]
    · iapply (nB_slots (F := F) d L).2
      isplitl [Hn0]; · iexact Hn0
      iexact Hn1
    isplitl [Hr0 Hr1]
    · iapply (rB_slots (F := F) d L).2
      isplitl [Hr0]; · iexact Hr0
      iexact Hr1
    iexact HRB
  isplitl [HsT HsI0 HsI1 HsO0 HsO1 HsG HRS]
  · isplitr [HRS]
    · isplitl [HsT]; · iexact HsT
      isplitl [HsI0]; · iexact HsI0
      isplitl [HsI1]; · iexact HsI1
      isplitl [HsO0]; · iexact HsO0
      isplitl [HsO1]; · iexact HsO1
      iexact HsG
    iexact HRS
  iexists W2
  isplitr
  · ipureintro
    intro p hp
    rcases hW2 p hp with h | h
    · rcases Finset.mem_insert.1 h with rfl | h
      · exact .inr (.inr rfl)
      · exact (hW1 p h).imp id .inl
    · exact .inr (.inl h)
  · iexact HO

end Task

end Cert.Proof.Half.Tile

end
-- ==== Proof.Half.Deal.lean ====
/-
  What the call passes between its threads: the SparseCore's half of the arrays to its sequencer, and from there to each
  tile its part of the row numbers, its own blocks of the output and, to the first, the table and the shared scratch. Here
  that these parts make up the whole, and that a tile's task is the obligation the launch asks for.
-/
module

public import proofs.«01_k».proof.Proof.Half.Tile
public import Idealize.ShloMosaic.Lib.SparseCore.Quiescent

@[expose] public section

noncomputable section

namespace Cert.Proof.Half.Deal

open Cert.FirstKernelIdeal Cert.FirstKernelIdeal.Gen Cert.Proof.Half.Words Cert.Proof.Half.Steps Cert.Proof.Half.Loop Cert.Proof.Half.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The output is its tiles' blocks -/

/-- The coordinates of tile `i` of SparseCore `c`. -/
abbrev at2 (c : Fin 2) (i : Fin 16) : grid1.Coords := fun | 0 => c | 1 => i | ⟨_ + 2, h⟩ => absurd h (Nat.not_lt.2 (Nat.le_add_left _ _))

theorem oW_mem (b : Fin 2500) (x : S320000x128.Idx) : x ∈ (oW oV b).view.set ↔ (x 0).val / 128 = b.val := by
  have e : (oW oV b).view.set = (Rect.unit (s := S320000x128) ![128 * b.val, 0] S128x128.size (oW_inb b)).set := by
    show ((View.whole main_v9_scv).slice (Rect.unit (s := S320000x128) ![128 * b.val, 0] S128x128.size (oW_inb b))).set = _
    rw [View.set_slice_whole]
  rw [e]
  refine Rect.mem_set_unit.trans ⟨fun h => ?_, fun h a => ?_⟩
  · obtain ⟨h1, h2⟩ := h 0
    have h1 : 128 * b.val ≤ (x 0).val := h1
    have h2 : (x 0).val < 128 * b.val + 128 := h2
    omega
  · match a with
    | 0 =>
      show 128 * b.val ≤ (x 0).val ∧ (x 0).val < 128 * b.val + 128
      omega
    | 1 => exact ⟨Nat.zero_le _, (Nat.zero_add 128).symm ▸ (x 1).isLt⟩

/-- The number of the tile a block is dealt to. -/
def owner (b : ℕ) : ℕ := if b < 316 then b / 79 else (b - 4) / 78

theorem owner_iff (c : Fin 2) (i : Fin 16) (b : ℕ) : (base (at2 c i) ≤ b ∧ b < base (at2 c i) + nBlk (at2 c i)) ↔ owner b = 16 * c.val + i.val := by
  have h : tileNo (at2 c i) = 16 * c.val + i.val := rfl
  unfold base nBlk owner
  rw [h]
  have hc := c.isLt
  have hi := i.isLt
  split <;> split <;> omega

/-- A tile's part of the output. -/
def tileSet (ci : Fin 2 × Fin 16) : Finset S320000x128.Idx := (Finset.range (nBlk (at2 ci.1 ci.2))).biUnion fun t => (oW oV (blk (at2 ci.1 ci.2) t)).view.set

theorem mem_tileSet (ci : Fin 2 × Fin 16) (x : S320000x128.Idx) : x ∈ tileSet ci ↔ owner ((x 0).val / 128) = 16 * ci.1.val + ci.2.val := by
  rw [← owner_iff, tileSet, Finset.mem_biUnion]
  constructor
  · rintro ⟨t, ht, hx⟩
    have ht := Finset.mem_range.1 ht
    rw [oW_mem, blk_val _ ht] at hx
    omega
  · rintro ⟨h1, h2⟩
    have ht : (x 0).val / 128 - base (at2 ci.1 ci.2) < nBlk (at2 ci.1 ci.2) := by omega
    refine ⟨_, Finset.mem_range.2 ht, ?_⟩
    rw [oW_mem, blk_val _ ht]
    omega

theorem owner_lt (b : ℕ) (h : b < 2500) : owner b < 32 := by
  unfold owner; split <;> omega

theorem tiles_cover : (Finset.univ : Finset (Fin 2 × Fin 16)).biUnion tileSet = Finset.univ := by
  refine Finset.eq_univ_iff_forall.2 fun x => Finset.mem_biUnion.2 ?_
  have hx : (x 0).val < 320000 := (x 0).isLt
  have hlt := owner_lt ((x 0).val / 128) (by omega)
  refine ⟨(⟨owner ((x 0).val / 128) / 16, by omega⟩, ⟨owner ((x 0).val / 128) % 16, by omega⟩), Finset.mem_univ _, ?_⟩
  rw [mem_tileSet]
  show _ = 16 * (owner ((x 0).val / 128) / 16) + owner ((x 0).val / 128) % 16
  omega

theorem tiles_disjoint : ∀ t ∈ (Finset.univ : Finset (Fin 2 × Fin 16)), ∀ t' ∈ (Finset.univ : Finset (Fin 2 × Fin 16)), t ≠ t' → Disjoint (tileSet t) (tileSet t') := by
  intro t _ t' _ hne
  refine Finset.disjoint_left.2 fun x hx hx' => hne ?_
  rw [mem_tileSet] at hx hx'
  have h1 := t.2.isLt
  have h2 := t'.2.isLt
  exact Prod.ext (Fin.ext (by omega)) (Fin.ext (by omega))

theorem blocks_disjoint (L : grid1.Coords) : ∀ t ∈ Finset.range (nBlk L), ∀ t' ∈ Finset.range (nBlk L), t ≠ t' →
    Disjoint (oW oV (blk L t)).view.set (oW oV (blk L t')).view.set := by
  intro t ht t' ht' hne
  refine Finset.disjoint_left.2 fun x hx hx' => hne ?_
  rw [oW_mem, blk_val _ (Finset.mem_range.1 ht)] at hx
  rw [oW_mem, blk_val _ (Finset.mem_range.1 ht')] at hx'
  omega

/-- The whole output is every tile's blocks. -/
theorem out_tiles (d : Dev nD) (f : Buf (Elt F) (oLoc d)) : (oLoc d ↦{fullShare} f : sProp 𝕄)
    = bigSep Finset.univ fun c : Fin 2 => bigSep Finset.univ fun i : Fin 16 => bigSep (Finset.range (nBlk (at2 c i))) (Todo d (at2 c i) oV f) := by
  have h1 : (oLoc d ↦{fullShare} f : sProp 𝕄) = bigSep Finset.univ fun ci : Fin 2 × Fin 16 => oLoc d ↦[tileSet ci]{fullShare} f := by
    rw [← pointsTo_biUnion Finset.univ (ℓ := oLoc d) tileSet tiles_disjoint, tiles_cover]
  rw [h1, bigSep_univ_prod]
  refine bigSep_congr fun c _ => bigSep_congr fun i _ => ?_
  exact pointsTo_biUnion (Finset.range (nBlk (at2 c i))) (ℓ := oLoc d) (fun t => (oW oV (blk (at2 c i) t)).view.set) (blocks_disjoint (at2 c i))

/-! ## What is handed over -/

variable (tb : (d : Dev nD) → Buf (Elt F) (tLoc d)) (ib : (d : Dev nD) → Buf (Elt F) (iLoc d)) (o0 og : (d : Dev nD) → Buf (Elt F) (oLoc d))

theorem nCore_zero : (K (F := F)).nCore 0 = 2 := rfl
theorem nSub_zero : (K (F := F)).nSub 0 = 16 := rfl

/-- A SparseCore's number among the chip's. -/
abbrev coreOf (c : Fin 2) : Fin τ.nSC := c.castLE hcore1
abbrev subOf (i : Fin 16) : Fin τ.nSub := i.castLE hsub1

/-- The barrier semaphores of one SparseCore, back at zero. -/
abbrev bars (d : Dev nD) (c : Fin 2) : sProp 𝕄 := bigSep Finset.univ fun i : Fin 16 => semVal (bcell d (coreOf c) (subOf i)) 0

/-- What a SparseCore takes, and brings back. -/
def stP (d : Dev nD) (c : Fin 2) : sProp 𝕄 := iprop((tLoc d ↦{qC c} tb d) ∗ (iLoc d ↦{qC c} ib d)
  ∗ bigSep Finset.univ fun i : Fin 16 => bigSep (Finset.range (nBlk (at2 c i))) (Todo d (at2 c i) oV (o0 d)))
def dnP (d : Dev nD) (c : Fin 2) : sProp 𝕄 := iprop((tLoc d ↦{qC c} tb d) ∗ (iLoc d ↦{qC c} ib d)
  ∗ (bigSep Finset.univ fun i : Fin 16 => bigSep (Finset.range (nBlk (at2 c i))) (Done d (at2 c i) oV (og d))) ∗ bars d c)

/-- What a thread owes for the barrier, and what it is dealt for it: the tiles alone. -/
def owedBy : Thread nD τ → CellTallies nD τ sig (HIx 1)
  | (d, .scVector c _) => oxV d c
  | _ => 0
def kitOf : Thread nD τ → sProp 𝕄
  | (d, .scVector c i) => bkit tb d c i
  | _ => iprop(emp)

theorem owedBy_tc (d : Dev nD) : owedBy (SparseCore.T d) = 0 := rfl
theorem owedBy_sc (d : Dev nD) (c : Fin τ.nSC) : owedBy (S d c) = 0 := rfl
theorem owedBy_pos {thr : Thread nD τ} {g : GSem nD τ sig} {ι : HIx 1} (h : 0 < owedBy thr g ι) :
    ∃ (d : Dev nD) (c : Fin τ.nSC) (j : Fin (grid1.bound 1)), g = bcell d c (j.castLE hsub1) ∧ ι = some 0 := by
  obtain ⟨d, _ | c | ⟨c, i⟩⟩ := thr
  · exact absurd h (Nat.lt_irrefl 0)
  · exact absurd h (Nat.lt_irrefl 0)
  · obtain ⟨j, h⟩ := oxV_apply_pos (d := d) (c := c) h
    exact ⟨d, c, j, h⟩

/-- The call's record of what its threads hand each other. -/
def P : (K (F := F)).Pay (nD := nD) (Val := Elt F) (Name := ℕ) (U := UU) where
  st q d c := match q with | 0 => stP tb ib o0 d (Fin.cast nCore_zero c)
  dn q d c := match q with | 0 => dnP tb ib og d (Fin.cast nCore_zero c)
  go q d c i := match q with | 0 => goP tb ib o0 d (at2 (Fin.cast nCore_zero c) (Fin.cast nSub_zero i))
  td q d c i := match q with | 0 => tdP tb ib og d (at2 (Fin.cast nCore_zero c) (Fin.cast nSub_zero i))
  x _ thr := kitOf tb thr
  ox _ thr := owedBy thr
  ox_band q thr g ι h := by
    obtain rfl : q = 0 := Fin.ext (Nat.lt_one_iff.mp q.isLt)
    obtain ⟨d, c, j, rfl, rfl⟩ := owedBy_pos h
    rw [(K (F := F)).lev_V_reg d c (j.castLE hsub1) (show (sc_bar0 : Sem sig) ≠ (K (F := F)).go from sc_bar0_ne_go)]
    exact ⟨le_rfl, by decide⟩
  ox_tc _ _ := owedBy_tc _
  ox_sc _ _ _ h := absurd (owedBy_sc _ _) h
  ox_vc q d c i _ := by
    obtain rfl : q = 0 := Fin.ext (Nat.lt_one_iff.mp q.isLt)
    exact ⟨rfl, c.isLt, i.isLt⟩

instance Todo_storable (d : Dev nD) (L : grid1.Coords) (f) (t : ℕ) : BI.Storable (upEmb : UEmb _ 𝕄) (Todo (F := F) d L oV f t) := by unfold Todo; infer_instance
instance Done_storable (d : Dev nD) (L : grid1.Coords) (f) (t : ℕ) : BI.Storable (upEmb : UEmb _ 𝕄) (Done (F := F) d L oV f t) := by unfold Done; infer_instance
instance First_storable (d : Dev nD) (L : grid1.Coords) : BI.Storable (upEmb : UEmb _ 𝕄) (First tb d L) := by unfold First; split <;> infer_instance
instance Kept1_storable (d : Dev nD) (L : grid1.Coords) : BI.Storable (upEmb : UEmb _ 𝕄) (Kept1 tb d L) := by unfold Kept1; split <;> infer_instance

instance P_storable : (P tb ib o0 og).IsStorable where
  st q d c := match q with
    | 0 => by show BI.Storable (upEmb : UEmb _ 𝕄) (stP tb ib o0 d (Fin.cast nCore_zero c)); unfold stP; infer_instance
  dn q d c := match q with
    | 0 => by show BI.Storable (upEmb : UEmb _ 𝕄) (dnP tb ib og d (Fin.cast nCore_zero c)); unfold dnP; infer_instance
  go q d c i := match q with
    | 0 => by show BI.Storable (upEmb : UEmb _ 𝕄) (goP tb ib o0 d (at2 (Fin.cast nCore_zero c) (Fin.cast nSub_zero i))); unfold goP; infer_instance
  td q d c i := match q with
    | 0 => by show BI.Storable (upEmb : UEmb _ 𝕄) (tdP tb ib og d (at2 (Fin.cast nCore_zero c) (Fin.cast nSub_zero i))); unfold tdP; infer_instance

/-! ## The split among a SparseCore's tiles -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

/-- What only the first of sixteen holds. -/
theorem only_first (A : sProp 𝕄) : (bigSep Finset.univ fun i : Fin 16 => if i.val = 0 then A else iprop(emp)) = A := by
  have h : ∀ i ∈ (Finset.univ : Finset (Fin 16)).erase 0, (if i.val = 0 then A else iprop(emp)) = iprop(emp) :=
    fun i hi => if_neg fun h => (Finset.mem_erase.1 hi).1 (Fin.ext h)
  rw [SparseCore.bigSep_erase' (Finset.mem_univ (0 : Fin 16)), bigSep_congr h, bigSep_emp']
  exact equiv_iff.mp Idealize.SL.BI.sep_emp

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem firsts (d : Dev nD) (c : Fin 2) : (bigSep Finset.univ fun i : Fin 16 => First tb d (at2 c i))
    = (iprop((tLoc d ↦{qC c} tb d) ∗ ∃ f, shLoc d (coreOf c) ↦{fullShare} f) : sProp 𝕄) := only_first _
theorem kepts (d : Dev nD) (c : Fin 2) : (bigSep Finset.univ fun i : Fin 16 => Kept1 tb d (at2 c i)) = (iprop(tLoc d ↦{qC c} tb d) : sProp 𝕄) := only_first _

theorem vecSplit : (K (F := F)).VecSplit (P tb ib o0 og) 0 := by
  intro d c
  obtain ⟨c', rfl⟩ : ∃ c' : Fin 2, c = Fin.cast nCore_zero.symm c' := ⟨Fin.cast nCore_zero c, rfl⟩
  show iprop(stP tb ib o0 d c' ∗ ownBufs (S d (coreOf c'))) ⊢ |={Set.univ}=> iprop(
      (bigSep Finset.univ fun i : Fin 16 => goP tb ib o0 d (at2 c' i))
      ∗ ((bigSep Finset.univ fun i : Fin 16 => tdP tb ib og d (at2 c' i)) -∗ iprop(dnP tb ib og d c' ∗ ownBufs (S d (coreOf c')))))
  unfold goP tdP stP dnP
  rw [bigSep_sep', bigSep_sep', bigSep_sep', bigSep_sep', bigSep_sep', bigSep_sep', firsts, kepts, ownBufs_S]
  iintro ⟨⟨Ht, Hi, Ho⟩, Hsh, Hrest⟩
  imodintro
  isplitl [Ht Hi Ho Hsh]
  · isplitl [Hi]; · iapply (Entails.of_eq (deal (F := F) (qC c') 15)); iexact Hi
    isplitl [Ho]; · iexact Ho
    isplitl [Ht]; · iexact Ht
    iexact Hsh
  iintro ⟨Hi, Ho, Ht, Hsh, Hb⟩
  isplitr [Hsh Hrest]
  · isplitl [Ht]; · iexact Ht
    isplitl [Hi]; · iapply (Entails.of_eq (deal (F := F) (qC c') 15).symm); iexact Hi
    isplitl [Ho]; · iexact Ho
    iexact Hb
  · isplitl [Hsh]
    · iexists shTab tb d (coreOf c')
      iapply (Entails.of_eq (deal (F := F) (ℓ := shLoc d (coreOf c')) fullShare 15).symm); iexact Hsh
    · iexact Hrest

/-! ## A tile's task -/

variable [FloatOps F] [Named F]

theorem defs₀_vector (c : Fin τ.nSC) (s : Fin τ.nSub) : defs₀ (F := F) (.scVector c s) 1 ()
      = SparseCore.onTile hcore1 hsub1 (fun c s => cc1_gk (at2 c s)
          tV (Memref.isWhole_whole _) iV (Memref.isWhole_whole _) oV (Memref.isWhole_whole _) shV (Memref.isWhole_whole _) cc1_scratch1
          nB (Memref.isWhole_whole _) cc1_scoped1 rB (Memref.isWhole_whole _) cc1_scoped3 cc1_scoped4 cc1_scoped5) ⟨⟩ c s := rfl

set_option maxRecDepth 16384 in
theorem tileObl (hG : ∀ d L, Gathered d L iV oV shV (ib d) (shTab tb d (cV L)) (og d)) (hF : (K (F := F)).Facts) :
    (K (F := F)).TileObl (D (F := F)) 𝒱 (P tb ib o0 og) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tb ib o0 og d (at2 ⟨_, hci.1⟩ ⟨_, hci.2⟩) hG hF O W hO hOlev

end Cert.Proof.Half.Deal

end
-- ==== Proof.Half.K0.lean ====
/- The share's kernel, call 0 of the half layer: its run on any blocks, the contents its steps leave, and its duty at each step.
The core's recorded waits before it carry no index of a handshake, which the proof data say.
-/
module

public import proofs.«01_k».proof.Proof.Gen.FirstKernelIdeal.Launch
public import proofs.«01_k».proof.Proof.Gen.FirstKernelIdeal.Skeleton
public import proofs.«01_k».proof.Proof.Gen.FirstKernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof.Half.K0

open Cert.FirstKernelIdeal Cert.FirstKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO0_4 : View sig .tc .vmem S2000x128 .f32 := (Memref.whole cc0_stg4_0 : Memref sig .tc .vmem S2000x128 .f32).view
/-- Each window's current staging memref at point `t`, spelled as the pipeline passes it (`bodyAt0`), and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x128 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) :
    { L4 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) 𝒱₀ c none) E (cc0_body i arg1 harg1 arg2 harg2 arg3 harg3 arg4 harg4 arg5 harg5) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (1 store of `S2000x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) (y : S2000x128.Idx) :
    ∃ pc ∈ (kernelRun0_A (Ix := Ix) (U := U) (Lvl := Lvl) 𝒱₀ c i arg1 harg1 arg2 harg2 arg3 harg3 arg4 harg4 arg5 harg5 x0 x1 x2 x3).1, y ∈ pc.1.set :=
  View.cover_of_tiledL (kernelRun0_A (Ix := Ix) (U := U) (Lvl := Lvl) 𝒱₀ c i arg1 harg1 arg2 harg2 arg3 harg3 arg4 harg4 arg5 harg5 x0 x1 x2 x3).1 S2000x128.size (by sl_kernel_rfl) y

/-- What the run leaves in output 4's staging buffer: its pieces read back over junk. -/
def out0_A_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) : Vec F S2000x128 .f32 :=
  VO0_4.read (Elt F) (VO0_4.writes (Elt F) VO0_4.junk (kernelRun0_A (Ix := Ix) (U := U) (Lvl := Lvl) 𝒱₀ c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt0 (c : Dev nD) (t : Fin cfg0.N) : Vec F S2000x128 .f32 :=
  out0_A_4 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (iblk V c 0 t) (iblk V c 1 t) (iblk V c 2 t) (iblk V c 3 t)

/-! ## The pipeline's proof data -/

variable (ι : Ix)

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout, its recorded waits of index `ι`; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 (Ix := Ix) (U := U) (Lvl := Lvl) 𝒱₀ V c t)
  Φ _ := ΦK (F := F) (Ix := Ix) (U := U) (Lvl := Lvl) c
  q _ := fullShare
  owed _ := D c
  recorded _ := {p | p.2 = ι}

local notation "𝕕" => dat (Ix := Ix) (U := U) (Lvl := Lvl) 𝒱₀ V D ι

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = iblk V c 3 t := by dsimp only [dat]
theorem after0_4 (c : Dev nD) (t : Fin cfg0.N) : (𝕕 c).after 4 t = (outsAt0 (Ix := Ix) (U := U) (Lvl := Lvl) 𝒱₀ V c t) := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D ι c 0) (after0_0 𝒱₀ V D ι c) t d
theorem before0_1 (c : Dev nD) (t : Fin cfg0.N) (d) : (𝕕 c).before 1 t d = iblk V c 1 t :=
  before0_1_of V (𝕕 c) (A_eq 𝒱₀ V D ι c 1) (after0_1 𝒱₀ V D ι c) t d
theorem before0_2 (c : Dev nD) (t : Fin cfg0.N) (d) : (𝕕 c).before 2 t d = iblk V c 2 t :=
  before0_2_of V (𝕕 c) (A_eq 𝒱₀ V D ι c 2) (after0_2 𝒱₀ V D ι c) t d
theorem before0_3 (c : Dev nD) (t : Fin cfg0.N) (d) : (𝕕 c).before 3 t d = iblk V c 3 t :=
  before0_3_of V (𝕕 c) (A_eq 𝒱₀ V D ι c 3) (after0_3 𝒱₀ V D ι c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3]
  rw [show (𝕕 c).Φ t.succ = (𝕕 c).Φ t.castSucc from rfl,
    show (𝕕 c).owesAt ι t.succ = (𝕕 c).owesAt ι t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A (Ix := Ix) (U := U) (Lvl := Lvl) 𝒱₀ c (grid0.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 (Ix := Ix) (U := U) (Lvl := Lvl) 𝒱₀ c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := rfl

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.Proof.Half.K0

end
-- ==== Proof.Half.K2.lean ====
/- The nodes' kernel, call 2 of the half layer: its run on any blocks, the contents its steps leave, and its duty at each step.
-/
module

public import proofs.«01_k».proof.Proof.Gen.FirstKernelIdeal.Launch
public import proofs.«01_k».proof.Proof.Gen.FirstKernelIdeal.Skeleton
public import proofs.«01_k».proof.Proof.Gen.FirstKernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof.Half.K2

open Cert.FirstKernelIdeal Cert.FirstKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Ix ℕ U Lvl cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Ix ℕ U Lvl cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Ix ℕ U Lvl cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Ix ℕ U Lvl cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Ix ℕ U Lvl cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Ix ℕ U Lvl cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Ix ℕ U Lvl cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Ix ℕ U Lvl cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Ix ℕ U Lvl cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_13_of {c : Dev nD} (dat : Dat τ (Elt F) Ix ℕ U Lvl cfg2 c) (hA : dat.A 13 = V c (Pipeline.arrRef spec2 13))
    (hafter : ∀ t, dat.after 13 t = iblk V c 13 t) (t : Fin cfg2.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_14_of {c : Dev nD} (dat : Dat τ (Elt F) Ix ℕ U Lvl cfg2 c) (hA : dat.A 14 = V c (Pipeline.arrRef spec2 14))
    (hafter : ∀ t, dat.after 14 t = iblk V c 14 t) (t : Fin cfg2.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_15_of {c : Dev nD} (dat : Dat τ (Elt F) Ix ℕ U Lvl cfg2 c) (hA : dat.A 15 = V c (Pipeline.arrRef spec2 15))
    (hafter : ∀ t, dat.after 15 t = iblk V c 15 t) (t : Fin cfg2.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_16_of {c : Dev nD} (dat : Dat τ (Elt F) Ix ℕ U Lvl cfg2 c) (hA : dat.A 16 = V c (Pipeline.arrRef spec2 16))
    (hafter : ∀ t, dat.after 16 t = iblk V c 16 t) (t : Fin cfg2.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_17_of {c : Dev nD} (dat : Dat τ (Elt F) Ix ℕ U Lvl cfg2 c) (hA : dat.A 17 = V c (Pipeline.arrRef spec2 17))
    (hafter : ∀ t, dat.after 17 t = iblk V c 17 t) (t : Fin cfg2.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_18_of {c : Dev nD} (dat : Dat τ (Elt F) Ix ℕ U Lvl cfg2 c) (hA : dat.A 18 = V c (Pipeline.arrRef spec2 18))
    (hafter : ∀ t, dat.after 18 t = iblk V c 18 t) (t : Fin cfg2.N) (d) : dat.before 18 t d = iblk V c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_19_of {c : Dev nD} (dat : Dat τ (Elt F) Ix ℕ U Lvl cfg2 c) (hA : dat.A 19 = V c (Pipeline.arrRef spec2 19))
    (hafter : ∀ t, dat.after 19 t = iblk V c 19 t) (t : Fin cfg2.N) (d) : dat.before 19 t d = iblk V c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 20, through which its contents are stated (`View.read_writes_of_cover`: the
    choice does not matter). -/
abbrev VO2_20 : View sig .tc .vmem S400x128 .f32 := (Memref.whole cc2_stg20_0 : Memref sig .tc .vmem S400x128 .f32).view
/-- One staging buffer of output window 21, through which its contents are stated (`View.read_writes_of_cover`: the
    choice does not matter). -/
abbrev VO2_21 : View sig .tc .vmem S400x128 .f32 := (Memref.whole cc2_stg21_0 : Memref sig .tc .vmem S400x128 .f32).view
/-- One staging buffer of output window 22, through which its contents are stated (`View.read_writes_of_cover`: the
    choice does not matter). -/
abbrev VO2_22 : View sig .tc .vmem S400x128 .f32 := (Memref.whole cc2_stg22_0 : Memref sig .tc .vmem S400x128 .f32).view
/-- Each window's current staging memref at point `t`, spelled as the pipeline passes it (`bodyAt2`), and its wholeness. -/
abbrev ms2_0 (t : Fin cfg2.N) : Memref sig .tc .vmem S12800x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S12800x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S400x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x128 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S128x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S128x512 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x512 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S512x128 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x128 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x128 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1x128 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S1x128 .f32 := win2_16.stage (cfg2.slots t 16)
abbrev hs2_16 (t : Fin cfg2.N) : (ms2_16 t).IsWhole := hstage2_16 ((cfg2.slots t 16).cast nbuf2_16)
abbrev ms2_17 (t : Fin cfg2.N) : Memref sig .tc .vmem S1x128 .f32 := win2_17.stage (cfg2.slots t 17)
abbrev hs2_17 (t : Fin cfg2.N) : (ms2_17 t).IsWhole := hstage2_17 ((cfg2.slots t 17).cast nbuf2_17)
abbrev ms2_18 (t : Fin cfg2.N) : Memref sig .tc .vmem S128x128 .f32 := win2_18.stage (cfg2.slots t 18)
abbrev hs2_18 (t : Fin cfg2.N) : (ms2_18 t).IsWhole := hstage2_18 ((cfg2.slots t 18).cast nbuf2_18)
abbrev ms2_19 (t : Fin cfg2.N) : Memref sig .tc .vmem S128x128 .f32 := win2_19.stage (cfg2.slots t 19)
abbrev hs2_19 (t : Fin cfg2.N) : (ms2_19 t).IsWhole := hstage2_19 ((cfg2.slots t 19).cast nbuf2_19)
abbrev ms2_20 (t : Fin cfg2.N) : Memref sig .tc .vmem S400x128 .f32 := win2_20.stage (cfg2.slots t 20)
abbrev hs2_20 (t : Fin cfg2.N) : (ms2_20 t).IsWhole := hstage2_20 ((cfg2.slots t 20).cast nbuf2_20)
abbrev ms2_21 (t : Fin cfg2.N) : Memref sig .tc .vmem S400x128 .f32 := win2_21.stage (cfg2.slots t 21)
abbrev hs2_21 (t : Fin cfg2.N) : (ms2_21 t).IsWhole := hstage2_21 ((cfg2.slots t 21).cast nbuf2_21)
abbrev ms2_22 (t : Fin cfg2.N) : Memref sig .tc .vmem S400x128 .f32 := win2_22.stage (cfg2.slots t 22)
abbrev hs2_22 (t : Fin cfg2.N) : (ms2_22 t).IsWhole := hstage2_22 ((cfg2.slots t 22).cast nbuf2_22)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) :
    Σ' (L20 : List (View.Piece (Elt F) S400x128 .f32)), Σ' (L21 : List (View.Piece (Elt F) S400x128 .f32)), { L22 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) 𝒱₀ c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc2_body_eq_skeleton]; unfold cc2_body_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    iexists _; iexact H22

/-- The run's pieces for output 20 tile its block (1 store of `S400x128`, checked by the kernel's evaluation: Lib/Ring.lean `Piece.tiledL`, linear in the pieces, through a loop's `@[irreducible]` trip theorem too), so they cover it. -/
theorem cover2_A_20 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) (y : S400x128.Idx) :
    ∃ pc ∈ (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).1, y ∈ pc.1.set :=
  View.cover_of_tiledL (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).1 S400x128.size (by sl_kernel_rfl) y

/-- What the run leaves in output 20's staging buffer: its pieces read back over junk. -/
def out2_A_20 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) : Vec F S400x128 .f32 :=
  VO2_20.read (Elt F) (VO2_20.writes (Elt F) VO2_20.junk (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).1)

/-- The run's pieces for output 21 tile its block (1 store of `S400x128`, checked by the kernel's evaluation: Lib/Ring.lean `Piece.tiledL`, linear in the pieces, through a loop's `@[irreducible]` trip theorem too), so they cover it. -/
theorem cover2_A_21 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) (y : S400x128.Idx) :
    ∃ pc ∈ (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.1, y ∈ pc.1.set :=
  View.cover_of_tiledL (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.1 S400x128.size (by sl_kernel_rfl) y

/-- What the run leaves in output 21's staging buffer: its pieces read back over junk. -/
def out2_A_21 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) : Vec F S400x128 .f32 :=
  VO2_21.read (Elt F) (VO2_21.writes (Elt F) VO2_21.junk (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.1)

/-- The run's pieces for output 22 tile its block (1 store of `S400x128`, checked by the kernel's evaluation: Lib/Ring.lean `Piece.tiledL`, linear in the pieces, through a loop's `@[irreducible]` trip theorem too), so they cover it. -/
theorem cover2_A_22 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) (y : S400x128.Idx) :
    ∃ pc ∈ (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.2.1, y ∈ pc.1.set :=
  View.cover_of_tiledL (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.2.1 S400x128.size (by sl_kernel_rfl) y

/-- What the run leaves in output 22's staging buffer: its pieces read back over junk. -/
def out2_A_22 (c : Dev nD) (i : grid2.Coords) (arg1 : Memref sig .tc .vmem S12800x128 .f32) (harg1 : arg1.IsWhole) (arg2 : Memref sig .tc .vmem S12800x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S400x128 .f32) (harg21 : arg21.IsWhole) (arg22 : Memref sig .tc .vmem S400x128 .f32) (harg22 : arg22.IsWhole) (arg23 : Memref sig .tc .vmem S400x128 .f32) (harg23 : arg23.IsWhole)
    (x0 : Vec F S12800x128 .f32) (x1 : Vec F S12800x128 .f32) (x2 : Vec F S400x128 .f32) (x3 : Vec F S128x128 .f32) (x4 : Vec F S128x128 .f32) (x5 : Vec F S1x128 .f32) (x6 : Vec F S128x128 .bf16) (x7 : Vec F S1x128 .f32) (x8 : Vec F S128x128 .f32) (x9 : Vec F S1x128 .f32) (x10 : Vec F S128x512 .f32) (x11 : Vec F S1x512 .f32) (x12 : Vec F S512x128 .f32) (x13 : Vec F S1x128 .f32) (x14 : Vec F S1x128 .f32) (x15 : Vec F S1x128 .f32) (x16 : Vec F S1x128 .f32) (x17 : Vec F S1x128 .f32) (x18 : Vec F S128x128 .f32) (x19 : Vec F S128x128 .f32) : Vec F S400x128 .f32 :=
  VO2_22.read (Elt F) (VO2_22.writes (Elt F) VO2_22.junk (kernelRun2_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19).2.2.1)

/-! ## What the outputs hold after each point -/

/-- What the outputs' staging buffers hold after the body at point `t` (as a tuple, in window order): the run's contents at
    the point's memrefs and input blocks. -/
def outsAt2 (c : Dev nD) (t : Fin cfg2.N) : Vec F S400x128 .f32 × Vec F S400x128 .f32 × Vec F S400x128 .f32 :=
  (out2_A_20 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (ms2_20 t) (hs2_20 t) (ms2_21 t) (hs2_21 t) (ms2_22 t) (hs2_22 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t), out2_A_21 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (ms2_20 t) (hs2_20 t) (ms2_21 t) (hs2_21 t) (ms2_22 t) (hs2_22 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t), out2_A_22 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (ms2_20 t) (hs2_20 t) (ms2_21 t) (hs2_21 t) (ms2_22 t) (hs2_22 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t))

/-! ## The pipeline's proof data -/

/-- The proof data of pipeline 1 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => (outsAt2 (Ix := Ix) (U := U) (Lvl := Lvl) 𝒱₀ V c t).1
    | ⟨21, _⟩ => (outsAt2 (Ix := Ix) (U := U) (Lvl := Lvl) 𝒱₀ V c t).2.1
    | ⟨22, _⟩ => (outsAt2 (Ix := Ix) (U := U) (Lvl := Lvl) 𝒱₀ V c t).2.2
    | ⟨_ + 23, h⟩ => absurd h (Nat.not_lt.2 (Nat.le_add_left _ _))
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg2.W) : (𝕕 c).A w = V c (Pipeline.arrRef spec2 w) := by
  dsimp only [dat]

/-- What the body leaves, window by window (the proof data's `match` reduced by `dsimp`). -/
theorem after2_0 (c : Dev nD) (t : Fin cfg2.N) : (𝕕 c).after 0 t = iblk V c 0 t := by dsimp only [dat]
theorem after2_1 (c : Dev nD) (t : Fin cfg2.N) : (𝕕 c).after 1 t = iblk V c 1 t := by dsimp only [dat]
theorem after2_2 (c : Dev nD) (t : Fin cfg2.N) : (𝕕 c).after 2 t = iblk V c 2 t := by dsimp only [dat]
theorem after2_3 (c : Dev nD) (t : Fin cfg2.N) : (𝕕 c).after 3 t = iblk V c 3 t := by dsimp only [dat]
theorem after2_4 (c : Dev nD) (t : Fin cfg2.N) : (𝕕 c).after 4 t = iblk V c 4 t := by dsimp only [dat]
theorem after2_5 (c : Dev nD) (t : Fin cfg2.N) : (𝕕 c).after 5 t = iblk V c 5 t := by dsimp only [dat]
theorem after2_6 (c : Dev nD) (t : Fin cfg2.N) : (𝕕 c).after 6 t = iblk V c 6 t := by dsimp only [dat]
theorem after2_7 (c : Dev nD) (t : Fin cfg2.N) : (𝕕 c).after 7 t = iblk V c 7 t := by dsimp only [dat]
theorem after2_8 (c : Dev nD) (t : Fin cfg2.N) : (𝕕 c).after 8 t = iblk V c 8 t := by dsimp only [dat]
theorem after2_9 (c : Dev nD) (t : Fin cfg2.N) : (𝕕 c).after 9 t = iblk V c 9 t := by dsimp only [dat]
theorem after2_10 (c : Dev nD) (t : Fin cfg2.N) : (𝕕 c).after 10 t = iblk V c 10 t := by dsimp only [dat]
theorem after2_11 (c : Dev nD) (t : Fin cfg2.N) : (𝕕 c).after 11 t = iblk V c 11 t := by dsimp only [dat]
theorem after2_12 (c : Dev nD) (t : Fin cfg2.N) : (𝕕 c).after 12 t = iblk V c 12 t := by dsimp only [dat]
theorem after2_13 (c : Dev nD) (t : Fin cfg2.N) : (𝕕 c).after 13 t = iblk V c 13 t := by dsimp only [dat]
theorem after2_14 (c : Dev nD) (t : Fin cfg2.N) : (𝕕 c).after 14 t = iblk V c 14 t := by dsimp only [dat]
theorem after2_15 (c : Dev nD) (t : Fin cfg2.N) : (𝕕 c).after 15 t = iblk V c 15 t := by dsimp only [dat]
theorem after2_16 (c : Dev nD) (t : Fin cfg2.N) : (𝕕 c).after 16 t = iblk V c 16 t := by dsimp only [dat]
theorem after2_17 (c : Dev nD) (t : Fin cfg2.N) : (𝕕 c).after 17 t = iblk V c 17 t := by dsimp only [dat]
theorem after2_18 (c : Dev nD) (t : Fin cfg2.N) : (𝕕 c).after 18 t = iblk V c 18 t := by dsimp only [dat]
theorem after2_19 (c : Dev nD) (t : Fin cfg2.N) : (𝕕 c).after 19 t = iblk V c 19 t := by dsimp only [dat]
theorem after2_20 (c : Dev nD) (t : Fin cfg2.N) : (𝕕 c).after 20 t = (outsAt2 (Ix := Ix) (U := U) (Lvl := Lvl) 𝒱₀ V c t).1 := by dsimp only [dat]
theorem after2_21 (c : Dev nD) (t : Fin cfg2.N) : (𝕕 c).after 21 t = (outsAt2 (Ix := Ix) (U := U) (Lvl := Lvl) 𝒱₀ V c t).2.1 := by dsimp only [dat]
theorem after2_22 (c : Dev nD) (t : Fin cfg2.N) : (𝕕 c).after 22 t = (outsAt2 (Ix := Ix) (U := U) (Lvl := Lvl) 𝒱₀ V c t).2.2 := by dsimp only [dat]

/-- Each input's current staging buffer holds its block at every point, fetched there or not (`beforeK_W_of`). -/
theorem before2_0 (c : Dev nD) (t : Fin cfg2.N) (d) : (𝕕 c).before 0 t d = iblk V c 0 t :=
  before2_0_of V (𝕕 c) (A_eq 𝒱₀ V D c 0) (after2_0 𝒱₀ V D c) t d
theorem before2_1 (c : Dev nD) (t : Fin cfg2.N) (d) : (𝕕 c).before 1 t d = iblk V c 1 t :=
  before2_1_of V (𝕕 c) (A_eq 𝒱₀ V D c 1) (after2_1 𝒱₀ V D c) t d
theorem before2_2 (c : Dev nD) (t : Fin cfg2.N) (d) : (𝕕 c).before 2 t d = iblk V c 2 t :=
  before2_2_of V (𝕕 c) (A_eq 𝒱₀ V D c 2) (after2_2 𝒱₀ V D c) t d
theorem before2_3 (c : Dev nD) (t : Fin cfg2.N) (d) : (𝕕 c).before 3 t d = iblk V c 3 t :=
  before2_3_of V (𝕕 c) (A_eq 𝒱₀ V D c 3) (after2_3 𝒱₀ V D c) t d
theorem before2_4 (c : Dev nD) (t : Fin cfg2.N) (d) : (𝕕 c).before 4 t d = iblk V c 4 t :=
  before2_4_of V (𝕕 c) (A_eq 𝒱₀ V D c 4) (after2_4 𝒱₀ V D c) t d
theorem before2_5 (c : Dev nD) (t : Fin cfg2.N) (d) : (𝕕 c).before 5 t d = iblk V c 5 t :=
  before2_5_of V (𝕕 c) (A_eq 𝒱₀ V D c 5) (after2_5 𝒱₀ V D c) t d
theorem before2_6 (c : Dev nD) (t : Fin cfg2.N) (d) : (𝕕 c).before 6 t d = iblk V c 6 t :=
  before2_6_of V (𝕕 c) (A_eq 𝒱₀ V D c 6) (after2_6 𝒱₀ V D c) t d
theorem before2_7 (c : Dev nD) (t : Fin cfg2.N) (d) : (𝕕 c).before 7 t d = iblk V c 7 t :=
  before2_7_of V (𝕕 c) (A_eq 𝒱₀ V D c 7) (after2_7 𝒱₀ V D c) t d
theorem before2_8 (c : Dev nD) (t : Fin cfg2.N) (d) : (𝕕 c).before 8 t d = iblk V c 8 t :=
  before2_8_of V (𝕕 c) (A_eq 𝒱₀ V D c 8) (after2_8 𝒱₀ V D c) t d
theorem before2_9 (c : Dev nD) (t : Fin cfg2.N) (d) : (𝕕 c).before 9 t d = iblk V c 9 t :=
  before2_9_of V (𝕕 c) (A_eq 𝒱₀ V D c 9) (after2_9 𝒱₀ V D c) t d
theorem before2_10 (c : Dev nD) (t : Fin cfg2.N) (d) : (𝕕 c).before 10 t d = iblk V c 10 t :=
  before2_10_of V (𝕕 c) (A_eq 𝒱₀ V D c 10) (after2_10 𝒱₀ V D c) t d
theorem before2_11 (c : Dev nD) (t : Fin cfg2.N) (d) : (𝕕 c).before 11 t d = iblk V c 11 t :=
  before2_11_of V (𝕕 c) (A_eq 𝒱₀ V D c 11) (after2_11 𝒱₀ V D c) t d
theorem before2_12 (c : Dev nD) (t : Fin cfg2.N) (d) : (𝕕 c).before 12 t d = iblk V c 12 t :=
  before2_12_of V (𝕕 c) (A_eq 𝒱₀ V D c 12) (after2_12 𝒱₀ V D c) t d
theorem before2_13 (c : Dev nD) (t : Fin cfg2.N) (d) : (𝕕 c).before 13 t d = iblk V c 13 t :=
  before2_13_of V (𝕕 c) (A_eq 𝒱₀ V D c 13) (after2_13 𝒱₀ V D c) t d
theorem before2_14 (c : Dev nD) (t : Fin cfg2.N) (d) : (𝕕 c).before 14 t d = iblk V c 14 t :=
  before2_14_of V (𝕕 c) (A_eq 𝒱₀ V D c 14) (after2_14 𝒱₀ V D c) t d
theorem before2_15 (c : Dev nD) (t : Fin cfg2.N) (d) : (𝕕 c).before 15 t d = iblk V c 15 t :=
  before2_15_of V (𝕕 c) (A_eq 𝒱₀ V D c 15) (after2_15 𝒱₀ V D c) t d
theorem before2_16 (c : Dev nD) (t : Fin cfg2.N) (d) : (𝕕 c).before 16 t d = iblk V c 16 t :=
  before2_16_of V (𝕕 c) (A_eq 𝒱₀ V D c 16) (after2_16 𝒱₀ V D c) t d
theorem before2_17 (c : Dev nD) (t : Fin cfg2.N) (d) : (𝕕 c).before 17 t d = iblk V c 17 t :=
  before2_17_of V (𝕕 c) (A_eq 𝒱₀ V D c 17) (after2_17 𝒱₀ V D c) t d
theorem before2_18 (c : Dev nD) (t : Fin cfg2.N) (d) : (𝕕 c).before 18 t d = iblk V c 18 t :=
  before2_18_of V (𝕕 c) (A_eq 𝒱₀ V D c 18) (after2_18 𝒱₀ V D c) t d
theorem before2_19 (c : Dev nD) (t : Fin cfg2.N) (d) : (𝕕 c).before 19 t d = iblk V c 19 t :=
  before2_19_of V (𝕕 c) (A_eq 𝒱₀ V D c 19) (after2_19 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((𝕕 c).Φ t.castSucc ∗ (𝕕 c).owesAt ι t.castSucc
    ∗ (∃ d, owns (c : Thread nD τ) (ms2_0 t) fullShare ((𝕕 c).before 0 t d))
    ∗ (∃ d, owns (c : Thread nD τ) (ms2_1 t) fullShare ((𝕕 c).before 1 t d))
    ∗ (∃ d, owns (c : Thread nD τ) (ms2_2 t) fullShare ((𝕕 c).before 2 t d))
    ∗ (∃ d, owns (c : Thread nD τ) (ms2_3 t) fullShare ((𝕕 c).before 3 t d))
    ∗ (∃ d, owns (c : Thread nD τ) (ms2_4 t) fullShare ((𝕕 c).before 4 t d))
    ∗ (∃ d, owns (c : Thread nD τ) (ms2_5 t) fullShare ((𝕕 c).before 5 t d))
    ∗ (∃ d, owns (c : Thread nD τ) (ms2_6 t) fullShare ((𝕕 c).before 6 t d))
    ∗ (∃ d, owns (c : Thread nD τ) (ms2_7 t) fullShare ((𝕕 c).before 7 t d))
    ∗ (∃ d, owns (c : Thread nD τ) (ms2_8 t) fullShare ((𝕕 c).before 8 t d))
    ∗ (∃ d, owns (c : Thread nD τ) (ms2_9 t) fullShare ((𝕕 c).before 9 t d))
    ∗ (∃ d, owns (c : Thread nD τ) (ms2_10 t) fullShare ((𝕕 c).before 10 t d))
    ∗ (∃ d, owns (c : Thread nD τ) (ms2_11 t) fullShare ((𝕕 c).before 11 t d))
    ∗ (∃ d, owns (c : Thread nD τ) (ms2_12 t) fullShare ((𝕕 c).before 12 t d))
    ∗ (∃ d, owns (c : Thread nD τ) (ms2_13 t) fullShare ((𝕕 c).before 13 t d))
    ∗ (∃ d, owns (c : Thread nD τ) (ms2_14 t) fullShare ((𝕕 c).before 14 t d))
    ∗ (∃ d, owns (c : Thread nD τ) (ms2_15 t) fullShare ((𝕕 c).before 15 t d))
    ∗ (∃ d, owns (c : Thread nD τ) (ms2_16 t) fullShare ((𝕕 c).before 16 t d))
    ∗ (∃ d, owns (c : Thread nD τ) (ms2_17 t) fullShare ((𝕕 c).before 17 t d))
    ∗ (∃ d, owns (c : Thread nD τ) (ms2_18 t) fullShare ((𝕕 c).before 18 t d))
    ∗ (∃ d, owns (c : Thread nD τ) (ms2_19 t) fullShare ((𝕕 c).before 19 t d))
    ∗ (∃ d, owns (c : Thread nD τ) (ms2_20 t) fullShare ((𝕕 c).before 20 t d))
    ∗ (∃ d, owns (c : Thread nD τ) (ms2_21 t) fullShare ((𝕕 c).before 21 t d))
    ∗ (∃ d, owns (c : Thread nD τ) (ms2_22 t) fullShare ((𝕕 c).before 22 t d)))

/-- and what it returns. -/
def bodyPost (c : Dev nD) (t : Fin cfg2.N) : sProp 𝕄 :=
  iprop((𝕕 c).Φ t.succ ∗ (𝕕 c).owesAt ι t.succ
    ∗ owns (c : Thread nD τ) (ms2_0 t) fullShare ((𝕕 c).after 0 t)
    ∗ owns (c : Thread nD τ) (ms2_1 t) fullShare ((𝕕 c).after 1 t)
    ∗ owns (c : Thread nD τ) (ms2_2 t) fullShare ((𝕕 c).after 2 t)
    ∗ owns (c : Thread nD τ) (ms2_3 t) fullShare ((𝕕 c).after 3 t)
    ∗ owns (c : Thread nD τ) (ms2_4 t) fullShare ((𝕕 c).after 4 t)
    ∗ owns (c : Thread nD τ) (ms2_5 t) fullShare ((𝕕 c).after 5 t)
    ∗ owns (c : Thread nD τ) (ms2_6 t) fullShare ((𝕕 c).after 6 t)
    ∗ owns (c : Thread nD τ) (ms2_7 t) fullShare ((𝕕 c).after 7 t)
    ∗ owns (c : Thread nD τ) (ms2_8 t) fullShare ((𝕕 c).after 8 t)
    ∗ owns (c : Thread nD τ) (ms2_9 t) fullShare ((𝕕 c).after 9 t)
    ∗ owns (c : Thread nD τ) (ms2_10 t) fullShare ((𝕕 c).after 10 t)
    ∗ owns (c : Thread nD τ) (ms2_11 t) fullShare ((𝕕 c).after 11 t)
    ∗ owns (c : Thread nD τ) (ms2_12 t) fullShare ((𝕕 c).after 12 t)
    ∗ owns (c : Thread nD τ) (ms2_13 t) fullShare ((𝕕 c).after 13 t)
    ∗ owns (c : Thread nD τ) (ms2_14 t) fullShare ((𝕕 c).after 14 t)
    ∗ owns (c : Thread nD τ) (ms2_15 t) fullShare ((𝕕 c).after 15 t)
    ∗ owns (c : Thread nD τ) (ms2_16 t) fullShare ((𝕕 c).after 16 t)
    ∗ owns (c : Thread nD τ) (ms2_17 t) fullShare ((𝕕 c).after 17 t)
    ∗ owns (c : Thread nD τ) (ms2_18 t) fullShare ((𝕕 c).after 18 t)
    ∗ owns (c : Thread nD τ) (ms2_19 t) fullShare ((𝕕 c).after 19 t)
    ∗ owns (c : Thread nD τ) (ms2_20 t) fullShare ((𝕕 c).after 20 t)
    ∗ owns (c : Thread nD τ) (ms2_21 t) fullShare ((𝕕 c).after 21 t)
    ∗ owns (c : Thread nD τ) (ms2_22 t) fullShare ((𝕕 c).after 22 t))

set_option maxHeartbeats 2000000 in
/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3, before2_4, before2_5, before2_6, before2_7, before2_8, before2_9, before2_10, before2_11, before2_12, before2_13, before2_14, before2_15, before2_16, before2_17, before2_18, before2_19]
  rw [show (𝕕 c).Φ t.succ = (𝕕 c).Φ t.castSucc from rfl,
    show (𝕕 c).owesAt ι t.succ = (𝕕 c).owesAt ι t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  unfold outsAt2
  unfold out2_A_20 out2_A_21 out2_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun2_A (Ix := Ix) (U := U) (Lvl := Lvl) 𝒱₀ c (grid2.coords t) _ _ _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover2_A_20 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover2_A_21 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover2_A_22 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := rfl

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.Proof.Half.K2

end
-- ==== Proof.Half.Region.lean ====
/-
  The two pipelined calls of the half layer as regions of its host's run: each is entered from every array the host
  holds, at a valuation, and left with its outputs' arrays rewritten. What the core's waits have recorded is kept within
  a set, for the first region stands before the gather, whose handshakes ask that nothing of theirs be recorded yet.
-/
module

public import proofs.«01_k».proof.Proof.Half.Tile
public import proofs.«01_k».proof.Proof.Half.K0
public import proofs.«01_k».proof.Proof.Half.K2
public import Idealize.ShloMosaic.Lib.SparseCore.Quiescent
public import Idealize.ShloMosaic.Lib.Pipeline.RegionArraysS

@[expose] public section

noncomputable section

namespace Cert.Proof.Half.Region

open Cert.FirstKernelIdeal Cert.FirstKernelIdeal.Gen Cert.Proof.Half.Steps Cert.Proof.Half.Tile

open Idealize.ShloMosaic Idealize.ShloMosaic.TcCoe
open Idealize.ShloMosaic.SparseCore (S V T)
open Idealize.ShloMosaic.SparseCore.Cfg (HIx)
open Idealize.ShloMosaic.Pipeline (Dat RegionSeg BodyObligationLoose PLaunchFacts pin arrRef arrRefs afterRegion scopedRest cellsGhost toksInit LevelCut ucRefs
  OwnSemFacts ownSems0_none prefHeld_of_none cellsWaits_of_cut arrays_held afterRegion_arr afterRegion_off owesWithin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The launch's choice of tables: no pipeline has one. -/
abbrev adm : (p : Fin 2) → (pcfgs (F := F) p).Adm := fun p => (cfgs p).toPCfg_adm

/-- Where the pipelines' rounds sit in the ghost state. -/
def EP : Emb UP (MT nD τ sig (HIx 1) (Elt F) ℕ UU ℕ) :=
  ((Emb.inl : Emb UP (UP × Counters)).trans ((Emb.inr : Emb (UP × Counters) (UB × (UP × Counters))).trans (Emb.inr : Emb (UB × (UP × Counters)) UU))).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- What core `d` owes while each region runs: before the gather its start signals, after it nothing. -/
abbrev DD (p : Fin 2) (d : Dev nD) : CellTallies nD τ sig (HIx 1) := (K (F := F)).Otc d p.val

/-- The regions' proof data, entered from the valuations `Va` and `Vb`. -/
def pdats (Va Vb : Dev nD → Valuation τ sig (Elt F)) : (p : Fin 2) → (d : Dev nD) → Dat τ (Elt F) (HIx 1) ℕ UU ℕ (pin (pcfgs (F := F)) adm p) d
  | ⟨0, _⟩ => fun d => K0.dat 𝒱₀ (fun d b => Va d (Proc.devRef .tc b)) (DD (F := F) 0) none d
  | ⟨1, _⟩ => fun d => K2.dat 𝒱₀ (fun d b => Vb d (Proc.devRef .tc b)) (DD (F := F) 1) d

/-- The index-free pairs: what the regions' own waits record. -/
def free : Set (SemLoc sig × HIx 1) := {x | x.2 = none}

/-- A core's debt with its recorded waits within a set. -/
abbrev owing (B : Set (SemLoc sig × HIx 1)) (D : Dev nD → CellTallies nD τ sig (HIx 1)) (d : Dev nD) : sProp 𝕄 :=
  iprop(∃ W : Waits sig (HIx 1), ⌜(↑W : Set (SemLoc sig × HIx 1)) ⊆ B⌝ ∗ owes (d : Thread nD τ) (D d) W)

section Seg

variable (pd : (p : Fin 2) → (d : Dev nD) → Dat τ (Elt F) (HIx 1) ℕ UU ℕ (pin (pcfgs (F := F)) adm p) d) (p : Fin 2)
  (D : Dev nD → CellTallies nD τ sig (HIx 1)) (B : Set (SemLoc sig × HIx 1))

/-- A region entered from every array of the host at the valuation `W`, left at `afterRegion`, its waits within `B`. -/
def heldSeg (hfree : free ⊆ B) (kit : PLaunchFacts (nD := nD) (τ := τ) (pcfgs (F := F)) p) (hK : (pcfgs (F := F) p).pre.K = 0)
    (hbody : ∀ d, BodyObligationLoose (pd p d) (defs₀ (F := F)) 𝒱₀ none Set.univ)
    (howed : ∀ d t, (pd p d).owed t = D d) (hrec : ∀ d t, (pd p d).recorded t = B)
    (hshare : ∀ d w, (pd p d).share w = fullShare)
    (hin : ∀ d, iprop(scopedRest (pin (pcfgs (F := F)) adm p).spec d ∗ ∃ r, prngReg d r) ⊢ (pd p d).Φ 0)
    (hout : ∀ d, (pd p d).Φ (Fin.last (pin (pcfgs (F := F)) adm p).N) ⊢ iprop(scopedRest (pin (pcfgs (F := F)) adm p).spec d ∗ ∃ r, prngReg d r))
    (b : ℕ) (hcut : LevelCut (pcfgs (F := F)) adm none (K (F := F)).L (K (F := F)).lev p D fun _ => b)
    (hS : arrRefs (τ := τ) (pcfgs (F := F) p).spec ⊆ ucRefs τ sig) (W : Dev nD → Valuation τ sig (Elt F))
    (hW : ∀ d w, (pd p d).arrAt w 0 = W d (Proc.devRef .tc (arrRef (pin (pcfgs (F := F)) adm p).spec w))) :
    RegionSeg (pcfgs (F := F)) adm pd none (defs₀ (F := F)) 𝒱₀ (K (F := F)).L (K (F := F)).lev p where
  win := kit.to₀.win
  block_pos := kit.to₀.block_pos
  stage_whole := kit.to₀.stage_whole
  K := PEmpty
  osem k := k.elim
  ho := OwnSemFacts.none _
  hbody := hbody
  hwaits d := cellsWaits_of_cut (pin (pcfgs (F := F)) adm) pd none p d b (D d) (howed d) (hcut.hι d) (hcut.hιb d) (hcut.hD d)
  pre d := iprop(StableHlo.held (d.tc : Thread nD τ) (ucRefs τ sig) (W d) ∗ (∃ r, prngReg d r) ∗ owing B D d)
  post d := iprop(StableHlo.held (d.tc : Thread nD τ) (ucRefs τ sig) (afterRegion (pd p d) (W d)) ∗ (∃ r, prngReg d r) ∗ owing B D d)
  X d := iprop(∃ r, prngReg d r)
  Y d := iprop(∃ r, prngReg d r)
  Z d := StableHlo.held (d.tc : Thread nD τ) (ucRefs τ sig \ arrRefs (pcfgs (F := F) p).spec) (W d)
  hentry d := by
    rw [ownSems0_none, prefHeld_of_none _ hK, StableHlo.held_sub_split (d.tc : Thread nD τ) hS (W d),
      arrays_held (pcfgs (F := F)) adm pd p kit d (hshare d) _ (W d) (hW d)]
    iintro ⟨⟨⟨Ha, Hu⟩, HX, HO⟩, -, -⟩
    imodintro
    isplitl [Ha]; · iexact Ha
    isplitr; · iempintro
    isplitl [HO]
    · unfold Dat.owesAt owesWithin Dat.bound
      rw [howed d 0, hrec d]
      icases HO with ⟨%Wd, %hWd, HO⟩; iexists Wd; isplitr; · ipureintro; exact fun x hx => Or.inl (hWd hx)
      iexact HO
    isplitl [HX]; · iexact HX
    iexact Hu
  hin d := (show _ ⊢ iprop(scopedRest (pin (pcfgs (F := F)) adm p).spec d ∗ ∃ r, prngReg d r) from by
    iintro ⟨HX, -, Hr⟩
    isplitl [Hr]; · iexact Hr
    iexact HX).trans (hin d)
  hout d := (hout d).trans (by
    rw [ownSems0_none]
    iintro ⟨Hr, HY⟩
    isplitl [HY]; · iexact HY
    isplitr; · iempintro
    iexact Hr)
  hexit d := by
    rw [StableHlo.held_sub_split (d.tc : Thread nD τ) hS (afterRegion (pd p d) (W d)),
      StableHlo.held_congr (d.tc : Thread nD τ) (S := ucRefs τ sig \ arrRefs (pcfgs (F := F) p).spec) (V := afterRegion (pd p d) (W d)) (V' := W d)
        (afterRegion_off (pd p d) (W d) (ucRefs τ sig)),
      arrays_held (pcfgs (F := F)) adm pd p kit d (hshare d) _ (afterRegion (pd p d) (W d)) fun w => (afterRegion_arr (pd p d) (W d) kit.win.arr_inj w).symm]
    iintro ⟨Ha, HO, HY, HZ⟩
    imodintro
    isplitl [Ha HZ]
    · isplitl [Ha]; · iexact Ha
      iexact HZ
    isplitl [HY]; · iexact HY
    unfold Dat.owesAt owesWithin Dat.bound
    rw [howed d (Fin.last _), hrec d]
    icases HO with ⟨%Wd, %hWd, HO⟩; iexists Wd; isplitr
    · ipureintro
      intro x hx
      rcases hWd hx with h | ⟨w, s, rfl⟩
      · exact h
      · exact hfree rfl
    iexact HO

end Seg

/-- A region's call in the whole program: from the boundary, its entry state, the level facts and its ghost state. -/
theorem wp_region [∀ e, Nonempty (Elt F e)]
    {pd : (p : Fin 2) → (d : Dev nD) → Dat τ (Elt F) (HIx 1) ℕ UU ℕ (pin (pcfgs (F := F)) adm p) d} {p : Fin 2}
    (R : RegionSeg (pcfgs (F := F)) adm pd none (defs₀ (F := F)) 𝒱₀ (K (F := F)).L (K (F := F)).lev p) (d : Dev nD) (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (Tile.D (F := F))) 𝒱 (SparseCore.T d) none) Set.univ
          (Prog.lift (.customCall (SparseCore.inner (Pipeline.entry p)) ())) Q := by
  have h := RegionSeg.wp (pcfgs (F := F)) adm pd none cellOf_inj EP (defs₀ (F := F)) 𝒱₀ (K (F := F)).L (K (F := F)).lev R d none
    (fun u hu => nomatch hu) (α := PUnit) (fun x => .ret x) Q
  refine BI.Entails.trans ?_ (h.trans ((K (F := F)).wp_liftProg (Tile.D (F := F)) 𝒱 (SparseCore.T d) Set.univ none _ Q))
  rw [wp_ret]
  show (_ : sProp 𝕄) ⊢ _
  iintro ⟨Hk, H⟩
  isplitl [Hk]
  · iintro Hb; imodintro; iapply Hk; iexact Hb
  iexact H

/-! ## The two regions -/

section Two

variable (Va Vb : Dev nD → Valuation τ sig (Elt F))

theorem cut0 : LevelCut (pcfgs (F := F)) adm none (K (F := F)).L (K (F := F)).lev 0 (DD (F := F) 0) fun _ => 0 where
  hι _ _ _ := Finset.mem_univ _
  hιb _ _ _ := le_of_eq rfl
  hD _ _ _ h := ⟨Finset.mem_univ _, Nat.lt_of_lt_of_le (Nat.succ_pos _) ((K (F := F)).lev_of_Otc_pos h)⟩

theorem cut2 : LevelCut (pcfgs (F := F)) adm none (K (F := F)).L (K (F := F)).lev 1 (DD (F := F) 1) fun _ => 0 where
  hι _ _ _ := Finset.mem_univ _
  hιb _ _ _ := le_of_eq rfl
  hD _ _ _ h := ⟨Finset.mem_univ _, Nat.lt_of_lt_of_le (Nat.succ_pos _) ((K (F := F)).lev_of_Otc_pos h)⟩

/-- The share's region, and the nodes'. -/
def reg0 : RegionSeg (pcfgs (F := F)) adm (pdats Va Vb) none (defs₀ (F := F)) 𝒱₀ (K (F := F)).L (K (F := F)).lev 0 :=
  heldSeg (pdats Va Vb) 0 (DD (F := F) 0) free subset_rfl launch0.toP rfl
    (fun d => (K0.body_obligation (U := UU) (Lvl := ℕ) 𝒱₀ (fun d b => Va d (Proc.devRef .tc b)) (DD (F := F) 0) none d).loose)
    (fun _ _ => rfl) (fun _ _ => rfl) (fun d => (pdats Va Vb 0 d).share_full fun _ => rfl) (fun _ => .rfl) (fun _ => .rfl) 0 cut0
    (Pipeline.arrRefs_sub_ucRefs _ launch0.win.arr_unscoped) Va (fun _ _ => rfl)
def reg2 : RegionSeg (pcfgs (F := F)) adm (pdats Va Vb) none (defs₀ (F := F)) 𝒱₀ (K (F := F)).L (K (F := F)).lev 1 :=
  heldSeg (pdats Va Vb) 1 (DD (F := F) 1) Set.univ (Set.subset_univ _) launch2.toP rfl
    (fun d => (K2.body_obligation (U := UU) (Lvl := ℕ) 𝒱₀ (fun d b => Vb d (Proc.devRef .tc b)) (DD (F := F) 1) none d).loose)
    (fun _ _ => rfl) (fun _ _ => rfl) (fun d => (pdats Va Vb 1 d).share_full fun _ => rfl) (fun _ => .rfl) (fun _ => .rfl) 0 cut2
    (Pipeline.arrRefs_sub_ucRefs _ launch2.win.arr_unscoped) Vb (fun _ _ => rfl)

end Two

end Cert.Proof.Half.Region

end
-- ==== Proof.Half.Launch.lean ====
/-
  What the half layer's launch hands over: the barrier's ghost state made and dealt to the tiles, as for the gather alone,
  and beside it the rounds of the two pipelined calls.
-/
module

public import proofs.«01_k».proof.Proof.Half.Deal
public import proofs.«01_k».proof.Proof.Half.Region

@[expose] public section

noncomputable section

namespace Cert.Proof.Half.Launch

open Cert.FirstKernelIdeal Cert.FirstKernelIdeal.Gen Cert.Proof.Half.Words Cert.Proof.Half.Steps Cert.Proof.Half.Loop Cert.Proof.Half.Tile Cert.Proof.Half.Deal
open Cert.Proof.Half.Region (adm EP)

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Pipeline (pin cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (tb : (d : Dev nD) → Buf (Elt F) (tLoc d)) (ib : (d : Dev nD) → Buf (Elt F) (iLoc d)) (o0 og : (d : Dev nD) → Buf (Elt F) (oLoc d))

/-! ## The launch element, and what the launch hands over -/

/-- A tile of the mesh, and its barrier cell. -/
abbrev DCI : Type := Dev nD × Fin τ.nSC × Fin τ.nSub
abbrev bcell₃ (x : DCI) : GSem nD τ sig := bcell x.1 x.2.1 x.2.2

/-- Every tile's barrier cell, and every tile's token in every cell of its SparseCore. -/
def bCells : Finset (GSem nD τ sig) := (Finset.univ : Finset DCI).image bcell₃
def bToks : Finset (GSem nD τ sig × ℕ × ℕ) :=
  ((Finset.univ : Finset DCI) ×ˢ Finset.univ).image fun x : DCI × Fin (grid1.bound 1) => (bcell x.1.1 x.1.2.1 (x.2.castLE hsub1), 0, x.1.2.2.val)
def u₀ : UU := (initOf (K (F := F)).hsCells (K (F := F)).hsToks, (initOf bCells bToks,
  (initOf (Pipeline.cells (pin (pcfgs (F := F)) adm) cellOf_inj) (Pipeline.launchToks (pin (pcfgs (F := F)) adm) cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- Where what is beside the handshakes sits. -/
abbrev ER : Emb (UB × (UP × Counters)) (MT nD τ sig (HIx 1) (Elt F) ℕ UU ℕ) :=
  (Emb.inr : Emb (UB × (UP × Counters)) UU).trans (uEmb (nD := nD) (sig := sig) (Ix := HIx 1) (Val := Elt F) (Name := ℕ) (U := UU) (Lvl := ℕ)).toEmb

theorem ownU_split (a : UH) (b : UB) (p : UP) : (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own (ER (F := F) (b, (p, 1)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own (ER (F := F) (b, (p, 1))) : sProp 𝕄) ⊢ iprop(BI.own (EB b) ∗ BI.own (EP p)) :=
    BI.own_op_elim ((ER (F := F)).op_of_mem (Prod.mk_mem_op (URA.mem_op_one b) (URA.mem_one_op (p, (1 : Counters)))))
  exact h1.trans (sep_mono_right h2)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ dci)⟩)

/-- The cells' invariants, allocated at once. -/
theorem invs_b : iprop((bigSep bCells fun g => (semVal g 0 : sProp 𝕄)) ∗ bigSep bCells fun g => roundState EB (bRd tb) g 0)
    ⊢ |={Set.univ}=> iprop(∃ κ : GSem nD τ sig → ℕ, bigSep bCells fun g => cellInv EB (bRd tb) (κ g) g) := by
  refine (Rounds.bodies_intro EB (bRd tb) bCells).trans ((inv_alloc_family bCells (Rounds.body EB (bRd tb)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

/-- The credit for what the tiles owe, regrouped: to each tile the sixteen units of its own cell. -/
theorem creds_b : ((P tb ib o0 og).oxCred : sProp 𝕄) ⊢ bigSep Finset.univ fun x : DCI => cred (tallyAt (bcell₃ x) (some 0) (grid1.bound 1)) := by
  unfold SparseCore.Cfg.Pay.oxCred
  rw [SparseCore.Cfg.bigSep_threads (fun thr : Thread nD τ => (cred ((P tb ib o0 og).oxFrom 0 thr) : sProp 𝕄))]
  refine sep_elim_right.trans (sep_elim_right.trans ?_)
  rw [bigSep_univ_prod, bigSep_univ_prod (fun x : DCI => (cred (tallyAt (bcell₃ x) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P tb ib o0 og).oxFrom 0 (V d c i) = oxV d c := fun i => by
    rw [show (0 : ℕ) = (0 : Fin 1).val from rfl, (P tb ib o0 og).oxFrom_step, (P tb ib o0 og).oxFrom_end _ (n := (0 : Fin 1).val + 1) le_rfl, add_zero]
    rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp (MT nD τ sig (HIx 1) (Elt F) ℕ UU ℕ)} [BI.Persistent R] {s : Finset I}
    {Φ Ψ : I → sProp (MT nD τ sig (HIx 1) (Elt F) ℕ UU ℕ)} (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px (thr : Thread nD τ) : (bigSep Finset.univ fun q : Fin 1 => (P tb ib o0 og).x q thr) = kitOf tb thr :=
  bigSep_univ_of_subsingleton (0 : Fin 1)

/-- What every tile is handed alike, and what each is handed of its own. -/
abbrev shared : sProp 𝕄 :=
  iprop((∃ κ : GSem nD τ sig → ℕ, bigSep Finset.univ fun x : DCI => cellInv EB (bRd tb) (κ (bcell₃ x)) (bcell₃ x))
    ∗ bigSep Finset.univ fun x : DCI => reached EB (bcell₃ x) 0)
abbrev mine (x : DCI) : sProp 𝕄 :=
  iprop(atPos EB (bcell₃ x) 0 ∅ 0
    ∗ (bigSep Finset.univ fun j : Fin (grid1.bound 1) => dutyTok EB (bcell x.1 x.2.1 (j.castLE hsub1)) 0 x.2.2.val)
    ∗ cred (tallyAt (bcell₃ x) (some 0) (grid1.bound 1)))

/-- What is held of every cell, of one SparseCore's. -/
theorem of_all {Φ : DCI → sProp (MT nD τ sig (HIx 1) (Elt F) ℕ UU ℕ)} [BI.Persistent (bigSep Finset.univ Φ)] (d : Dev nD) (c : Fin τ.nSC) :
    (bigSep Finset.univ Φ : sProp 𝕄) ⊢ bigSep Finset.univ fun j : Fin (grid1.bound 1) => Φ (d, c, j.castLE hsub1) := by
  iintro #H
  iapply (SparseCore.ent (bigSep_mono_frame (F := F) (s := (Finset.univ : Finset (Fin (grid1.bound 1)))) (Φ := fun _ => iprop(emp))
    (R := bigSep Finset.univ Φ) fun j _ => sep_elim_left.trans (bigSep_elim (Finset.mem_univ (d, c, j.castLE hsub1)))))
  isplitl; · iexact H
  rw [bigSep_emp']; iempintro

theorem kit_intro (x : DCI) : iprop(shared tb ∗ mine x) ⊢ (bkit tb x.1 x.2.1 x.2.2 : sProp 𝕄) := by
  obtain ⟨d, c, i⟩ := x
  iintro ⟨⟨⟨%κ, #Hinv⟩, #Hr⟩, Hat, Htok, Hcred⟩
  unfold bkit
  isplitr
  · iexists κ
    iapply (of_all (F := F) (Φ := fun x : DCI => cellInv EB (bRd tb) (κ (bcell₃ x)) (bcell₃ x)) d c); iexact Hinv
  isplitl [Htok]; · iexact Htok
  isplitr
  · iapply (of_all (F := F) (Φ := fun x : DCI => reached EB (bcell₃ x) 0) d c); iexact Hr
  isplitl [Hat]; · iexact Hat
  iexact Hcred

theorem kits_deal :
    iprop(shared tb ∗ (bigSep Finset.univ fun x : DCI => atPos EB (bcell₃ x) 0 ∅ 0)
        ∗ (bigSep Finset.univ fun x : DCI => bigSep Finset.univ fun j : Fin (grid1.bound 1) => dutyTok EB (bcell x.1 x.2.1 (j.castLE hsub1)) 0 x.2.2.val)
        ∗ (bigSep Finset.univ fun x : DCI => cred (tallyAt (bcell₃ x) (some 0) (grid1.bound 1))))
      ⊢ (bigSep Finset.univ fun thr : Thread nD τ => bigSep Finset.univ fun q : Fin 1 => (P tb ib o0 og).x q thr : sProp 𝕄) := by
  simp only [Px]
  rw [SparseCore.Cfg.bigSep_threads (fun thr : Thread nD τ => kitOf tb thr)]
  show _ ⊢ iprop((bigSep Finset.univ fun _ => iprop(emp)) ∗ (bigSep Finset.univ fun _ => iprop(emp)) ∗ bigSep Finset.univ fun x : DCI => bkit tb x.1 x.2.1 x.2.2)
  rw [bigSep_emp', bigSep_emp']
  iintro ⟨#Hsh, Hat, Htok, Hcred⟩
  isplitr; · iempintro
  isplitr; · iempintro
  iapply (bigSep_mono_frame (F := F) (R := shared tb) (Φ := mine (F := F)) fun x _ => kit_intro tb x)
  isplitr; · iexact Hsh
  unfold mine
  rw [bigSep_sep', bigSep_sep']
  isplitl [Hat]; · iexact Hat
  isplitl [Htok]; · iexact Htok
  iexact Hcred

/-- What the pipelines' rounds start with, of one device. -/
abbrev Ghost (d : Dev nD) : sProp 𝕄 := iprop((bigSep Finset.univ fun p : Fin 2 => cellsGhost (pin (pcfgs (F := F)) adm) EP p d)
  ∗ bigSep Finset.univ fun p : Fin 2 => toksInit (pin (pcfgs (F := F)) adm) EP p d)

theorem hu₀ : iprop(ownU (u₀ (F := F)) ∗ (P tb ib o0 og).oxCred ∗ (K (F := F)).freeOn (· ∈ bCells))
    ⊢ |={Set.univ}=> iprop(BI.own (EH (initOf (K (F := F)).hsCells (K (F := F)).hsToks)) ∗ (bigSep Finset.univ fun d : Dev nD => Ghost (F := F) d)
        ∗ (bigSep Finset.univ fun thr : Thread nD τ => bigSep Finset.univ fun q : Fin 1 => (P tb ib o0 og).x q thr) : sProp 𝕄) := by
  unfold u₀
  iintro ⟨Hu, Hcred, Hfree⟩
  ihave H := (ownU_split _ _ _) $$ Hu
  icases H with ⟨HH, HB, HP⟩
  imod (Rounds.fund EB (bRd tb) bCells bToks) $$ HB with ⟨Hst, #Hr, Hat, Htok⟩
  imod (Pipeline.fund_ghost (pin (pcfgs (F := F)) adm) EP cellOf_inj) $$ HP with ⟨Hcg, Htk⟩
  ihave Hsems := (sems_b (F := F)) $$ Hfree
  imod (invs_b tb) $$ [Hsems Hst] with ⟨%κ, #Hinv⟩
  · isplitl [Hsems] <;> iassumption
  ihave Hcred' := (creds_b tb ib o0 og) $$ Hcred
  ihave Hinv' := (Entails.of_eq (bCells_eq (F := F) fun g => cellInv EB (bRd tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Htk]
  · rw [bigSep_sep']
    isplitl [Hcg]; · iexact Hcg
    iexact Htk
  iapply (kits_deal tb ib o0 og)
  isplitr
  · isplitl; · iexists κ; iexact Hinv'
    iexact Hr'
  isplitl [Hat']; · iexact Hat'
  isplitl [Htok']; · iexact Htok'
  iexact Hcred'

end Cert.Proof.Half.Launch

end
-- ==== Proof.Half.Run.lean ====
/-
  The half layer's whole run: the host's operations, the share's region, the gather, more of the host's operations, the
  nodes' region, and what memory holds at the end. Stated over any float values and any memory whose gathered rows the
  caller names.
-/
module

public import proofs.«01_k».proof.Proof.Half.Launch

@[expose] public section

noncomputable section

namespace Cert.Proof.Half.Run

open Cert.FirstKernelIdeal Cert.FirstKernelIdeal.Gen Cert.Proof.Half.Words Cert.Proof.Half.Steps Cert.Proof.Half.Loop Cert.Proof.Half.Tile Cert.Proof.Half.Deal
open Cert.Proof.Half.Region Cert.Proof.Half.Launch

open Idealize.ShloMosaic
open Idealize.ShloMosaic.SparseCore (S V T)
open Idealize.ShloMosaic.SparseCore.Cfg (HIx Pay)
open Idealize.ShloMosaic.StableHlo (held)
open Idealize.ShloMosaic.Pipeline (Dat RegionSeg pin afterRegion cellsGhost toksInit ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's two lines of operations -/

/-- What the host computes before the share's region. -/
abbrev hostOps0 : List (HloOp τ sig (Elt F)) :=
  [ StableHlo.reshape main_arg0 main_v0 (rfl : (.f32 : EltTy) = .f32) shapeCasts_S1x10000x128_S10000x128,
    StableHlo.reshape main_arg1 main_v1 (rfl : (.f32 : EltTy) = .f32) shapeCasts_S1x10000x128_S10000x128,
    StableHlo.reshape main_arg2 main_v2 (rfl : (.f32 : EltTy) = .f32) shapeCasts_S1x10000x32x128_S320000x128,
    StableHlo.reshape main_arg3 main_v3 (rfl : (.i32 : EltTy) = .i32) shapeCasts_S1x10000x32_S1x320000,
    StableHlo.unary main_arg6 main_v4 ((transpose S640x128 [1, 0] · transposes_S128x640_S640x128_1_0) : (⟨S128x640, .f32⟩ : BufTy).Contents (Elt F) → (⟨S640x128, .f32⟩ : BufTy).Contents (Elt F)),
    StableHlo.unary main_arg12 main_v5 ((transpose S384x128 [1, 0] · transposes_S128x384_S384x128_1_0) : (⟨S128x384, .f32⟩ : BufTy).Contents (Elt F) → (⟨S384x128, .f32⟩ : BufTy).Contents (Elt F)),
    StableHlo.unary main_v4 main_v6 ((extractStridedSlice S128x128 ![256, 0] · slices_S640x128_S128x128_256_0) : (⟨S640x128, .f32⟩ : BufTy).Contents (Elt F) → (⟨S128x128, .f32⟩ : BufTy).Contents (Elt F)),
    StableHlo.unary main_v4 main_v7 ((extractStridedSlice S128x128 ![512, 0] · slices_S640x128_S128x128_512_0) : (⟨S640x128, .f32⟩ : BufTy).Contents (Elt F) → (⟨S128x128, .f32⟩ : BufTy).Contents (Elt F)) ]
/-- What it computes between the gather and the nodes' region. -/
abbrev hostOps1 : List (HloOp τ sig (Elt F)) :=
  [ StableHlo.unary main_v4 main_v10 ((extractStridedSlice S128x128 ![0, 0] · slices_S640x128_S128x128_0_0) : (⟨S640x128, .f32⟩ : BufTy).Contents (Elt F) → (⟨S128x128, .f32⟩ : BufTy).Contents (Elt F)),
    StableHlo.unary main_v4 main_v11 ((extractStridedSlice S128x128 ![128, 0] · slices_S640x128_S128x128_128_0) : (⟨S640x128, .f32⟩ : BufTy).Contents (Elt F) → (⟨S128x128, .f32⟩ : BufTy).Contents (Elt F)),
    StableHlo.unary main_v4 main_v12 ((extractStridedSlice S128x128 ![384, 0] · slices_S640x128_S128x128_384_0) : (⟨S640x128, .f32⟩ : BufTy).Contents (Elt F) → (⟨S128x128, .f32⟩ : BufTy).Contents (Elt F)),
    StableHlo.binary main_v11 main_v12 main_v13 (addf : (⟨S128x128, .f32⟩ : BufTy).Contents (Elt F) → (⟨S128x128, .f32⟩ : BufTy).Contents (Elt F) → (⟨S128x128, .f32⟩ : BufTy).Contents (Elt F)),
    StableHlo.reshape main_arg7 main_v14 (rfl : (.f32 : EltTy) = .f32) shapeCasts_S128_S1x128,
    StableHlo.unary main_arg8 main_v15 ((transpose S128x128 [1, 0] · transposes_S128x128_S128x128_1_0) : (⟨S128x128, .f32⟩ : BufTy).Contents (Elt F) → (⟨S128x128, .f32⟩ : BufTy).Contents (Elt F)),
    StableHlo.nullary main_cst (constant S_ .f32 0x3F000000#32),
    StableHlo.unary main_cst main_v16 (broadcastInDim S128x128 ![] bcast_S_S128x128 : (⟨S_, .f32⟩ : BufTy).Contents (Elt F) → (⟨S128x128, .f32⟩ : BufTy).Contents (Elt F)),
    StableHlo.binary main_v15 main_v16 main_v17 (mulf : (⟨S128x128, .f32⟩ : BufTy).Contents (Elt F) → (⟨S128x128, .f32⟩ : BufTy).Contents (Elt F) → (⟨S128x128, .f32⟩ : BufTy).Contents (Elt F)),
    StableHlo.unary main_v17 main_v18 ((truncf .bf16 · bitsLt_bf16_f32) : (⟨S128x128, .f32⟩ : BufTy).Contents (Elt F) → (⟨S128x128, .bf16⟩ : BufTy).Contents (Elt F)),
    StableHlo.reshape main_arg9 main_v19 (rfl : (.f32 : EltTy) = .f32) shapeCasts_S128_S1x128,
    StableHlo.unary main_arg10 main_v20 ((transpose S128x128 [1, 0] · transposes_S128x128_S128x128_1_0) : (⟨S128x128, .f32⟩ : BufTy).Contents (Elt F) → (⟨S128x128, .f32⟩ : BufTy).Contents (Elt F)),
    StableHlo.reshape main_arg11 main_v21 (rfl : (.f32 : EltTy) = .f32) shapeCasts_S128_S1x128,
    StableHlo.unary main_arg13 main_v22 ((transpose S128x512 [1, 0] · transposes_S512x128_S128x512_1_0) : (⟨S512x128, .f32⟩ : BufTy).Contents (Elt F) → (⟨S128x512, .f32⟩ : BufTy).Contents (Elt F)),
    StableHlo.reshape main_arg14 main_v23 (rfl : (.f32 : EltTy) = .f32) shapeCasts_S512_S1x512,
    StableHlo.unary main_arg15 main_v24 ((transpose S512x128 [1, 0] · transposes_S128x512_S512x128_1_0) : (⟨S128x512, .f32⟩ : BufTy).Contents (Elt F) → (⟨S512x128, .f32⟩ : BufTy).Contents (Elt F)),
    StableHlo.reshape main_arg16 main_v25 (rfl : (.f32 : EltTy) = .f32) shapeCasts_S128_S1x128,
    StableHlo.reshape main_arg17 main_v26 (rfl : (.f32 : EltTy) = .f32) shapeCasts_S128_S1x128,
    StableHlo.reshape main_arg18 main_v27 (rfl : (.f32 : EltTy) = .f32) shapeCasts_S128_S1x128,
    StableHlo.reshape main_arg19 main_v28 (rfl : (.f32 : EltTy) = .f32) shapeCasts_S128_S1x128,
    StableHlo.reshape main_arg20 main_v29 (rfl : (.f32 : EltTy) = .f32) shapeCasts_S128_S1x128,
    StableHlo.unary main_v5 main_v30 ((extractStridedSlice S128x128 ![0, 0] · slices_S384x128_S128x128_0_0) : (⟨S384x128, .f32⟩ : BufTy).Contents (Elt F) → (⟨S128x128, .f32⟩ : BufTy).Contents (Elt F)),
    StableHlo.unary main_v5 main_v31 ((extractStridedSlice S128x128 ![256, 0] · slices_S384x128_S128x128_256_0) : (⟨S384x128, .f32⟩ : BufTy).Contents (Elt F) → (⟨S128x128, .f32⟩ : BufTy).Contents (Elt F)) ]

theorem hostOps0_sub : (hostOps0 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.unary_bufs_sub .., StableHlo.unary_bufs_sub .., StableHlo.unary_bufs_sub .., StableHlo.unary_bufs_sub ..⟩
theorem hostOps1_sub : (hostOps1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.unary_bufs_sub .., StableHlo.unary_bufs_sub ..⟩
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host's program is its five parts in order. -/
theorem main_chain (d : Dev nD) : main (F := F) d = Pipeline.chain
    [ StableHlo.seq hostOps0, Prog.lift (.customCall (SparseCore.inner (Pipeline.entry 0)) ()), (K (F := F)).run d 0,
      StableHlo.seq hostOps1, Prog.lift (.customCall (SparseCore.inner (Pipeline.entry 1)) ()) ] := by
  rewrite [StableHlo.chain_seq_cons, Pipeline.chain_cons, Pipeline.chain_cons, StableHlo.chain_seq_cons, Pipeline.chain_cons]
  chain_rfl

/-! ## What the arrays hold on the way -/

variable (m : (ℓ : Loc nD τ sig) → Buf (Elt F) ℓ) (ρ : Dev nD → PrngReg) (og : (d : Dev nD) → Buf (Elt F) (oLoc d))

/-- The gather's table, row numbers and output, as the host's operations name them. -/
abbrev t' : DevRef τ sig := Proc.devRef .tc main_v8
abbrev i' : DevRef τ sig := Proc.devRef .tc main_v3
abbrev o' : DevRef τ sig := Proc.devRef .tc main_v9

def V0 (d : Dev nD) : Valuation τ sig (Elt F) := fun b => m (d, b)
def V1 (d : Dev nD) : Valuation τ sig (Elt F) := StableHlo.after hostOps0 (V0 m d)
/-- The proof data of the share's region, and the arrays after it. -/
abbrev dat0 (d : Dev nD) : Dat τ (Elt F) (HIx 1) ℕ UU ℕ (pin (pcfgs (F := F)) adm 0) d :=
  K0.dat 𝒱₀ (fun d b => V1 m d (Proc.devRef .tc b)) (DD (F := F) 0) none d
def V2 (d : Dev nD) : Valuation τ sig (Elt F) := afterRegion (dat0 m d) (V1 m d)
def V3 (d : Dev nD) : Valuation τ sig (Elt F) := Function.update (V2 m d) o' (og d)
def V4 (d : Dev nD) : Valuation τ sig (Elt F) := StableHlo.after hostOps1 (V3 m og d)
/-- The proof data of the nodes' region, and the arrays after it. -/
abbrev dat2 (d : Dev nD) : Dat τ (Elt F) (HIx 1) ℕ UU ℕ (pin (pcfgs (F := F)) adm 1) d :=
  K2.dat 𝒱₀ (fun d b => V4 m og d (Proc.devRef .tc b)) (DD (F := F) 1) d
def V5 (d : Dev nD) : Valuation τ sig (Elt F) := afterRegion (dat2 m og d) (V4 m og d)

abbrev tbM (d : Dev nD) : Buf (Elt F) (tLoc d) := V2 m d t'
abbrev ibM (d : Dev nD) : Buf (Elt F) (iLoc d) := V2 m d i'
abbrev o0M (d : Dev nD) : Buf (Elt F) (oLoc d) := V2 m d o'
abbrev PM : (K (F := F)).Pay (nD := nD) (Val := Elt F) (Name := ℕ) (U := UU) := P (tbM m) (ibM m) (o0M m) og

/-! ## The host's state between its parts -/

/-- What the host holds of the handshakes beside its debt. -/
def rest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem below0 (d : Dev nD) (W : Waits sig (HIx 1)) : (K (F := F)).WBelow (T d) W 0 ↔ (↑W : Set (SemLoc sig × HIx 1)) ⊆ free := by
  constructor
  · intro h p hp
    rcases e : p.2 with _ | q
    · exact e
    · have := h p hp
      rw [e] at this
      exact absurd this (Nat.not_le.mpr ((K (F := F)).lev_some_pos _ _))
  · intro h p hp
    rw [show p.2 = none from h hp]
    exact le_of_eq ((K (F := F)).lev_none _)

theorem below1 (d : Dev nD) (W : Waits sig (HIx 1)) : (K (F := F)).WBelow (T d) W 8 := by
  intro p _
  rcases e : p.2 with _ | q
  · exact (le_of_eq ((K (F := F)).lev_none _)).trans (Nat.zero_le _)
  · have := (K (F := F)).lev_some_le (T d, p.1) q
    omega

theorem st0 (d : Dev nD) : ((K (F := F)).tcSt EH d 0 : sProp 𝕄) = iprop(owing free (DD (F := F) 0) d ∗ rest d 0) := by
  have e : (fun W : Waits sig (HIx 1) => (K (F := F)).WBelow (T d) W 0) = fun W : Waits sig (HIx 1) => (↑W : Set (SemLoc sig × HIx 1)) ⊆ free := funext fun W => propext (below0 d W)
  show iprop((∃ W, ⌜(fun W : Waits sig (HIx 1) => (K (F := F)).WBelow (T d) W 0) W⌝ ∗ owes (T d) ((K (F := F)).Otc d 0) W) ∗ rest d 0) = _
  rw [e]; rfl

theorem st1 (d : Dev nD) : ((K (F := F)).tcSt EH d 1 : sProp 𝕄) = iprop(owing Set.univ (DD (F := F) 1) d ∗ rest d 1) := by
  have e : (fun W : Waits sig (HIx 1) => (K (F := F)).WBelow (T d) W 8) = fun W : Waits sig (HIx 1) => (↑W : Set (SemLoc sig × HIx 1)) ⊆ Set.univ :=
    funext fun W => propext ⟨fun _ => Set.subset_univ _, fun _ => below1 d W⟩
  show iprop((∃ W, ⌜(fun W : Waits sig (HIx 1) => (K (F := F)).WBelow (T d) W 8) W⌝ ∗ owes (T d) ((K (F := F)).Otc d 1) W) ∗ rest d 1) = _
  rw [e]; rfl

theorem two (Φ : Fin 2 → sProp (MT nD τ sig (HIx 1) (Elt F) ℕ UU ℕ)) : bigSep Finset.univ Φ = iprop(Φ 0 ∗ Φ 1) := by
  rw [show (Finset.univ : Finset (Fin 2)) = {0, 1} by decide, SparseCore.bigSep_insert' (by decide), bigSep_singleton]

/-! ## The gather's arrays, out of all and back -/

theorem trio : ({t', i', o'} : Finset (DevRef τ sig)) ⊆ ucRefs τ sig := by
  intro b hb
  simp only [Finset.mem_insert, Finset.mem_singleton] at hb
  rcases hb with rfl | rfl | rfl <;> exact Pipeline.devRef_mem_ucRefs (by decide)

theorem held_trio (d : Dev nD) (W : Valuation τ sig (Elt F)) : (held (SparseCore.T d) {t', i', o'} W : sProp 𝕄)
    = iprop((tLoc d ↦{fullShare} W t') ∗ (iLoc d ↦{fullShare} W i') ∗ oLoc d ↦{fullShare} W o') := by
  unfold held
  rw [SparseCore.bigSep_insert' (by decide), SparseCore.bigSep_insert' (by decide), bigSep_singleton]

theorem st0_eq (d : Dev nD) : iprop((tLoc d ↦{fullShare} tbM m d) ∗ (iLoc d ↦{fullShare} ibM m d) ∗ oLoc d ↦{fullShare} o0M m d)
    ⊢ (bigSep Finset.univ fun c : Fin ((K (F := F)).nCore 0) => (PM m og).st 0 d c : sProp 𝕄) := by
  show _ ⊢ bigSep Finset.univ fun c : Fin 2 => stP (tbM m) (ibM m) (o0M m) d c
  unfold stP
  rw [bigSep_sep', bigSep_sep', ← out_tiles]
  iintro ⟨Ht, Hi, Ho⟩
  isplitl [Ht]; · iapply (Entails.of_eq (deal (F := F) fullShare 1)); iexact Ht
  isplitl [Hi]; · iapply (Entails.of_eq (deal (F := F) fullShare 1)); iexact Hi
  iexact Ho

theorem dn0_eq (d : Dev nD) : (bigSep Finset.univ fun c : Fin ((K (F := F)).nCore 0) => (PM m og).dn 0 d c : sProp 𝕄)
    ⊢ iprop(((tLoc d ↦{fullShare} tbM m d) ∗ (iLoc d ↦{fullShare} ibM m d) ∗ (oLoc d ↦{fullShare} og d)) ∗ bigSep Finset.univ fun c : Fin 2 => bars d c) := by
  show (bigSep Finset.univ fun c : Fin 2 => dnP (tbM m) (ibM m) og d c) ⊢ _
  unfold dnP
  rw [bigSep_sep', bigSep_sep', bigSep_sep', out_tiles]
  iintro ⟨Ht, Hi, Ho, Hb⟩
  isplitr [Hb]
  · isplitl [Ht]; · iapply (Entails.of_eq (deal (F := F) fullShare 1).symm); iexact Ht
    isplitl [Hi]; · iapply (Entails.of_eq (deal (F := F) fullShare 1).symm); iexact Hi
    iexact Ho
  iexact Hb

theorem held_out (d : Dev nD) : (held (SparseCore.T d) (ucRefs τ sig) (V2 m d) : sProp 𝕄)
    = iprop(((tLoc d ↦{fullShare} tbM m d) ∗ (iLoc d ↦{fullShare} ibM m d) ∗ oLoc d ↦{fullShare} o0M m d)
      ∗ held (SparseCore.T d) (ucRefs τ sig \ {t', i', o'}) (V2 m d)) := by
  rw [StableHlo.held_sub_split (SparseCore.T d) trio (V2 m d), held_trio]

theorem held_back (d : Dev nD) : (held (SparseCore.T d) (ucRefs τ sig) (V3 m og d) : sProp 𝕄)
    = iprop(((tLoc d ↦{fullShare} tbM m d) ∗ (iLoc d ↦{fullShare} ibM m d) ∗ oLoc d ↦{fullShare} og d)
      ∗ held (SparseCore.T d) (ucRefs τ sig \ {t', i', o'}) (V2 m d)) := by
  rw [StableHlo.held_sub_split (SparseCore.T d) trio (V3 m og d), held_trio,
    StableHlo.held_congr (SparseCore.T d) (S := ucRefs τ sig \ {t', i', o'}) (V := V3 m og d) (V' := V2 m d) fun b hb => Function.update_of_ne (by
      rintro rfl; exact (Finset.mem_sdiff.mp hb).2 (by simp)) _ _]
  unfold V3
  rw [Function.update_of_ne (show t' ≠ o' by decide), Function.update_of_ne (show i' ≠ o' by decide), Function.update_self]

/-! ## The host's program -/

/-- What the host leaves: every array, and the barrier semaphores at zero. -/
abbrev FIN (d : Dev nD) : sProp 𝕄 := iprop(held (SparseCore.T d) (ucRefs τ sig) (V5 m og d) ∗ bigSep Finset.univ fun c : Fin 2 => bars d c)

theorem reg0_pre (d : Dev nD) : (reg0 (V1 m) (V4 m og)).pre d
    = iprop(held (SparseCore.T d) (ucRefs τ sig) (V1 m d) ∗ (∃ r, prngReg d r) ∗ owing free (DD (F := F) 0) d) := rfl
theorem reg0_post (d : Dev nD) : (reg0 (V1 m) (V4 m og)).post d
    = iprop(held (SparseCore.T d) (ucRefs τ sig) (V2 m d) ∗ (∃ r, prngReg d r) ∗ owing free (DD (F := F) 0) d) := rfl
theorem reg2_pre (d : Dev nD) : (reg2 (V1 m) (V4 m og)).pre d
    = iprop(held (SparseCore.T d) (ucRefs τ sig) (V4 m og d) ∗ (∃ r, prngReg d r) ∗ owing Set.univ (DD (F := F) 1) d) := rfl
theorem reg2_post (d : Dev nD) : (reg2 (V1 m) (V4 m og)).post d
    = iprop(held (SparseCore.T d) (ucRefs τ sig) (V5 m og d) ∗ (∃ r, prngReg d r) ∗ owing Set.univ (DD (F := F) 1) d) := rfl

theorem hmain [∀ e, Nonempty (Elt F e)] (κ : GSem nD τ sig → ℕ) (d : Dev nD) :
    iprop((K (F := F)).ctx EH (PM m og) κ ∗ (K (F := F)).tcSt EH d 0 ∗ (K (F := F)).tcRes m ρ d ∗ Ghost (F := F) d)
      ⊢ wp frame (wpE ((K (F := F)).defs (Tile.D (F := F))) 𝒱 (SparseCore.T d) none) Set.univ (main d)
          fun _ => iprop((K (F := F)).tcSt EH d 1 ∗ FIN m og d ∗ (K (F := F)).tcEnd d) := by
  unfold SparseCore.Cfg.tcRes SparseCore.Cfg.tcEnd Ghost
  rw [main_chain, show (unscopedBufs d fun b => m ((SparseCore.T d).loc b) : sProp 𝕄) = held (SparseCore.T d) (ucRefs τ sig) (V0 m d)
    from Pipeline.unscopedBufs_held d (V0 m d), two fun p => cellsGhost (pin (pcfgs (F := F)) adm) EP p d,
    two fun p => toksInit (pin (pcfgs (F := F)) adm) EP p d, st0, st1]
  simp only [Pipeline.chain_cons, Pipeline.chain_nil]
  iintro ⟨#Hctx, ⟨HO, Hrest⟩, ⟨Hb, Hh, Hts, Hp⟩, ⟨Hc0, Hc1⟩, ⟨Hk0, Hk1⟩⟩
  ihave #Hlev := (SparseCore.Cfg.ctx_levAts κ) $$ Hctx
  iapply (StableHlo.wp_seq 𝒱 none Set.univ d (ucRefs τ sig) _ hostOps0
    (fun op hop => Pipeline.sub_ucRefs op (List.forall_iff_forall_mem.mp hostOps0_sub op hop)) (List.forall_iff_forall_mem.mp hostOps0_fresh) (V0 m d)) $$ [Hb Hh]
  · isplitl [Hb] <;> iassumption
  iintro ⟨Hb, Hh⟩
  rw [wp_bind]
  iapply (wp_region (reg0 (V1 m) (V4 m og)) d _)
  rw [reg0_pre, reg0_post]
  isplitr [Hb Hh HO Hp Hc0 Hk0]
  rotate_left
  · isplitl [Hb]; · iexact Hb
    isplitl [Hh HO Hp]
    · isplitl [Hh]; · iexact Hh
      isplitl [Hp]; · iexists _; iexact Hp
      iexact HO
    isplitr; · iexact Hlev
    isplitl [Hc0] <;> iassumption
  iintro ⟨Hb, Hh, Hp, HO⟩
  rw [wp_bind]
  ihave Hh := (Entails.of_eq (held_out m d)) $$ Hh
  icases Hh with ⟨H3, Hh⟩
  iapply ((K (F := F)).wp_run (Tile.D (F := F)) 𝒱 (EH := EH) (P := PM m og) κ d 0) $$ [Hrest HO H3 Hb Hts Hh Hp Hc1 Hk1]
  isplitr; · iexact Hctx
  isplitl [Hrest HO]
  · iapply (Entails.of_eq (st0 (F := F) d).symm)
    isplitl [HO] <;> iassumption
  isplitl [H3]; · iapply (st0_eq m og d); iexact H3
  iintro ⟨Hst, Hdn⟩
  ihave Hdn := (dn0_eq m og d) $$ Hdn
  icases Hdn with ⟨H3, Hbars⟩
  ihave Hst := (Entails.of_eq (show ((K (F := F)).tcSt EH d ((0 : Fin 1).val + 1) : sProp 𝕄) = _ from st1 (F := F) d)) $$ Hst
  icases Hst with ⟨HO, Hrest⟩
  iapply (StableHlo.wp_seq 𝒱 none Set.univ d (ucRefs τ sig) _ hostOps1
    (fun op hop => Pipeline.sub_ucRefs op (List.forall_iff_forall_mem.mp hostOps1_sub op hop)) (List.forall_iff_forall_mem.mp hostOps1_fresh) (V3 m og d)) $$ [Hb Hh H3]
  · isplitl [Hb]; · iexact Hb
    iapply (Entails.of_eq (held_back m og d).symm)
    isplitl [H3] <;> iassumption
  iintro ⟨Hb, Hh⟩
  rw [wp_bind]
  iapply (wp_region (reg2 (V1 m) (V4 m og)) d _)
  rw [reg2_pre, reg2_post]
  isplitr [Hb Hh HO Hp Hc1 Hk1]
  rotate_left
  · isplitl [Hb]; · iexact Hb
    isplitl [Hh HO Hp]
    · isplitl [Hh]; · iexact Hh
      isplitl [Hp]; · iexact Hp
      iexact HO
    isplitr; · iexact Hlev
    isplitl [Hc1] <;> iassumption
  iintro ⟨Hb, Hh, -, HO⟩
  rw [wp_pure]
  imodintro
  isplitl [HO Hrest]; · isplitl [HO] <;> iassumption
  isplitr [Hb Hts]
  · isplitl [Hh] <;> iassumption
  isplitl [Hb] <;> iassumption

/-! ## The end -/

/-- What the end of the run says of the memory. -/
def fq (d : Dev nD) (s' : Phys nD τ sig (Elt F)) : Prop :=
  (∀ b ∈ ucRefs τ sig, s'.mem.mem (d, b) = V5 m og d b) ∧ ∀ (c : Fin 2) (i : Fin 16), s'.mem.sem (bcell d (coreOf c) (subOf i)) = 0

theorem reads {ℓ : Loc nD τ sig} {f : Buf (Elt F) ℓ} (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m og d ∗ SI s') ⊢ (⌜fq m og d s'⌝ : sProp 𝕄) := fun x hx =>
  ⟨fun b hb => ((sep_mono_left (sep_elim_left.trans (SparseCore.ent (bigSep_elim hb)))).trans (reads (ℓ := (d, b)) s')) x hx,
    fun c i => ((sep_mono_left (sep_elim_right.trans
      ((SparseCore.ent (bigSep_elim (Finset.mem_univ c))).trans (SparseCore.ent (bigSep_elim (Finset.mem_univ i)))))).trans
        (SparseCore.Cfg.semVal_zero_read _ s')) x hx⟩

theorem hA (s' : Phys nD τ sig (Elt F)) (h : ∀ d, fq m og d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- What every run ends in: every array of the host at its last contents, every semaphore at zero. -/
def QC : PUnit × MemSt nD τ sig (Elt F) → Prop := fun r =>
  (∀ (c : Dev nD) (b : Ref sig .tc), b.isScoped = false → r.2.mem ((c.tc : Thread nD τ).loc b) = V5 m og c (Proc.devRef .tc b)) ∧ r.2.sem = fun _ => 0

theorem run_main [∀ e, Nonempty (Elt F e)] (hG : ∀ d L, Gathered d L iV oV shV (ibM m d) (shTab (tbM m) d (cV L)) (og d)) :
    θ_run (Cert.FirstKernelIdeal.defs (F := F)) (Cert.FirstKernelIdeal.threads (F := F)) ⟨m, fun _ => 0, ρ⟩ (QC m og) :=
  SparseCore.Cfg.θ_run_sc_quiescent (K := K (F := F)) (D := Tile.D (F := F)) (𝒱 := 𝒱) (EH := EH) (P := PM m og) (hA := hA m og) facts v₀
    (fun q hq => match q with | 0 => nomatch hq)
    (fun q _ => match q with | 0 => tileObl (tbM m) (ibM m) (o0M m) og hG facts)
    (fun q _ => match q with | 0 => vecSplit (tbM m) (ibM m) (o0M m) og)
    m ρ main (fun d => Ghost (F := F) d) (FIN m og) (u₀ (F := F)) (hu₀ (tbM m) (ibM m) (o0M m) og) (hmain m ρ og) (fq m og) (hfin m og) (QC m og)
    (fun _ h hz => ⟨fun c b hb => (h c).1 _ (Pipeline.devRef_mem_ucRefs hb), hz⟩)

end Cert.Proof.Half.Run

end
-- ==== Proof.Half.Keeps.lean ====
/-
  What the half layer's run leaves alone, and the gather in it. Stated over any float values.
-/
module

public import proofs.«01_k».proof.Proof.Half.Run
public import proofs.«01_k».proof.Proof.Rows
public import Idealize.ShloMosaic.Lib.Claim
public import Idealize.ShloMosaic.Lib.Pointwise

@[expose] public section

noncomputable section

namespace Cert.Proof.Half.Run

open Cert.FirstKernelIdeal Cert.FirstKernelIdeal.Gen Cert.Proof.Half.Words Cert.Proof.Half.Steps Cert.Proof.Half.Loop Cert.Proof.Half.Tile Cert.Proof.Half.Deal
open Cert.Proof.Rows (rows word Names one_row)
open Idealize.ShloMosaic Idealize.ShloMosaic.TcCoe Idealize.SL.Sem
open Idealize.ShloMosaic.Pipeline (Dat pin afterRegion)

variable {F : FTy → Type} [FloatOps F] [Named F]
variable (m : (ℓ : Loc nD τ sig) → Buf (Elt F) ℓ) (ρ : Dev nD → PrngReg) (og : (d : Dev nD) → Buf (Elt F) (oLoc d)) (d : Dev nD)

/-! ## Arrays that a part of the run leaves alone -/

/-- What the host's two lines write. -/
abbrev written0 : List (Ref sig .tc) := [main_v0, main_v1, main_v2, main_v3, main_v4, main_v5, main_v6, main_v7]
abbrev written1 : List (Ref sig .tc) := [main_v10, main_v11, main_v12, main_v13, main_v14, main_v15, main_cst, main_v16, main_v17,
  main_v18, main_v19, main_v20, main_v21, main_v22, main_v23, main_v24, main_v25, main_v26, main_v27, main_v28, main_v29, main_v30, main_v31]

theorem writes0 : (hostOps0 : List (HloOp τ sig (Elt F))).Forall fun op => op.writes ⊆ (written0.map (Proc.devRef (τ := τ) .tc)).toFinset := by
  simp only [List.Forall, StableHlo.unary_writes, StableHlo.reshape_writes, Finset.singleton_subset_iff, List.mem_toFinset]
  and_intros <;> exact List.mem_map_of_mem (by decide)
theorem writes1 : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.reshape_writes, Finset.singleton_subset_iff, List.mem_toFinset]
  and_intros <;> exact List.mem_map_of_mem (by decide)

theorem V1_keep (r : Ref sig .tc) (h : r ∉ written0) : V1 m d (Proc.devRef .tc r) = m ((d.tc : Thread nD τ).loc r) :=
  StableHlo.after_of_writes_sub hostOps0 _ writes0 h

theorem out0_only : ∀ w : Fin cfg0.W, (cfg0.win w).isOut = true → Pipeline.arrRef spec0 w = main_v8 := by decide
theorem out2_only : ∀ w : Fin cfg2.W, (cfg2.win w).isOut = true → Pipeline.arrRef spec2 w ∈ [main_v32_0, main_v32_1, main_v32_2] := by decide

theorem V2_keep (r : Ref sig .tc) (h : r ≠ main_v8) : V2 m d (Proc.devRef .tc r) = V1 m d (Proc.devRef .tc r) :=
  Pipeline.afterRegion_keeps (dat0 m d) (V1 m d) launch0.win.arr_inj (fun _ => rfl) r fun w e =>
    Bool.eq_false_iff.mpr fun o => h (e.symm.trans (out0_only w o))

theorem V3_keep (r : Ref sig .tc) (h : r ≠ main_v8) (h' : r ≠ main_v9) : V3 m og d (Proc.devRef .tc r) = V1 m d (Proc.devRef .tc r) :=
  (Function.update_of_ne (fun e => h' (Proc.devRef_injective .tc e)) _ _).trans (V2_keep m d r h)

theorem V3_out : V3 m og d (Proc.devRef .tc main_v9) = og d := Function.update_self ..

theorem V4_keep (r : Ref sig .tc) (h : r ∉ written1) : V4 m og d (Proc.devRef .tc r) = V3 m og d (Proc.devRef .tc r) :=
  StableHlo.after_of_writes_sub hostOps1 _ writes1 h

theorem V5_keep (r : Ref sig .tc) (h : r ∉ [main_v32_0, main_v32_1, main_v32_2]) : V5 m og d (Proc.devRef .tc r) = V4 m og d (Proc.devRef .tc r) :=
  Pipeline.afterRegion_keeps (dat2 m og d) (V4 m og d) launch2.win.arr_inj (fun _ => rfl) r fun w e =>
    Bool.eq_false_iff.mpr fun o => h (e ▸ out2_only w o)

/-- An array no part writes ends as it began. -/
theorem kept (r : Ref sig .tc) (h : r ∉ written0 ++ main_v8 :: main_v9 :: written1 ++ [main_v32_0, main_v32_1, main_v32_2]) :
    V5 m og d (Proc.devRef .tc r) = m ((d.tc : Thread nD τ).loc r) := by
  rw [V5_keep m og d r fun e => h (List.mem_append_right _ e),
    V4_keep m og d r fun e => h (List.mem_append_left _ (List.mem_append_right _ (List.mem_cons_of_mem _ (List.mem_cons_of_mem _ e)))),
    V3_keep m og d r (by rintro rfl; exact h (by decide)) (by rintro rfl; exact h (by decide)),
    V1_keep m d r fun e => h (List.mem_append_left _ (List.mem_append_left _ e))]

/-! ## The gather -/

/-- The rows of the share that the numbers name. -/
abbrev found (d : Dev nD) : Buf (Elt F) (oLoc d) := rows (α := F .f32) (tbM m d) (m (aLoc d))

theorem ibM_eq : ibM m d = shapeCast S1x320000 (m (aLoc d)) shapeCasts_S1x10000x32_S1x320000 := by
  refine (V2_keep m d main_v3 (by decide)).trans ?_
  unfold V1; entry_read; rfl

theorem gathered (h : ∀ d, Names (m (aLoc d))) (d : Dev nD) (L : grid1.Coords) :
    Gathered d L iV oV shV (ibM m d) (shTab (tbM m) d (cV L)) (found m d) := by
  have hi : ∀ (r : Fin 320000) (y : S1x320000.Idx), y 1 = r → ibM m d y = word (m (aLoc d)) r := fun r y e => by
    rw [ibM_eq]; exact one_row (m (aLoc d)) r y e
  intro b
  have hw : ∀ z : S1x128.Idx, (iW iV b).view.read (Elt F) (ibM m d) z = word (m (aLoc d)) ⟨128 * b.val + (z 1).val, by have := (z 1).isLt; have : (z 1).val < 128 := this; omega⟩ :=
    fun z => by
      have e : ((iW iV b).view.emb z) 1 = (⟨128 * b.val + (z 1).val, by have h : (z 1).val < 128 := (z 1).isLt; omega⟩ : Fin 320000) :=
        Fin.ext (ValueKit.rect_emb_unit_val _ _ _ _ _)
      exact hi _ ((iW iV b).view.emb z) e
  refine ⟨fun y => by rw [hw]; exact h d _, fun x => ?_⟩
  rw [show shV.view.read (Elt F) (shTab (tbM m) d (cV L)) = (tbM m d : S10000x128.Idx → F .f32) from View.read_whole _ _]
  show rows (tbM m d) (m (aLoc d)) ((oW oV b).view.emb x) = _
  unfold rows
  have e1 : ((oW oV b).view.emb x) 1 = x 1 := Fin.ext ((ValueKit.rect_emb_unit_val _ _ _ _ _).trans (Nat.zero_add _))
  have e0 : ((oW oV b).view.emb x) 0 = (⟨128 * b.val + (x 0).val, by have h : (x 0).val < 128 := (x 0).isLt; omega⟩ : Fin 320000) :=
        Fin.ext (ValueKit.rect_emb_unit_val _ _ _ _ _)
  congr 1
  rw [e1]
  congr 1
  refine Fin.ext ?_
  show (word (m (aLoc d)) (((oW oV b).view.emb x) 0)).toNat % 10000 = _
  rw [e0]
  simp only [hw]
  exact Nat.mod_eq_of_lt (h d _)

theorem run [∀ e, Nonempty (Elt F e)] (h : ∀ d, Names (m (aLoc d))) :
    θ_run (Cert.FirstKernelIdeal.defs (F := F)) (Cert.FirstKernelIdeal.threads (F := F)) ⟨m, fun _ => 0, ρ⟩ (QC m (found m)) :=
  run_main m ρ (found m) (gathered m h)

end Cert.Proof.Half.Run

end
-- ==== Proof.Half.Blocks.lean ====
/-
  What the half layer's second region finds in its windows' blocks, in terms of the launch's arguments and the gathered rows.
-/
module

public import proofs.«01_k».proof.Proof.Half.Keeps
public import proofs.«01_k».proof.Proof.Nodes

@[expose] public section

set_option maxRecDepth 16384

noncomputable section

namespace Cert.Proof.Half.Run

open Cert.FirstKernelIdeal Cert.FirstKernelIdeal.Gen Cert.Proof.Half.Tile
open Cert.NodesKernelIdeal.Value (edgeRow)
open Idealize.ShloMosaic Idealize.ShloMosaic.TcCoe Idealize.SL.Sem
open Idealize.ShloMosaic.Pipeline (Dat pin afterRegion)

/-- Where the windows' blocks lie: the edges, the nodes and the results move with the point, the rest stay. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![0, 0]
    ∧ win2_11.index t = ![0, 0] ∧ win2_12.index t = ![0, 0] ∧ win2_13.index t = ![0, 0] ∧ win2_14.index t = ![0, 0]
    ∧ win2_15.index t = ![0, 0] ∧ win2_16.index t = ![0, 0] ∧ win2_17.index t = ![0, 0] ∧ win2_18.index t = ![0, 0]
    ∧ win2_19.index t = ![0, 0] ∧ win2_20.index t = ![t.val, 0] ∧ win2_21.index t = ![t.val, 0]
    ∧ win2_22.index t = ![t.val, 0] :=
  (by decide +kernel : ∀ t : Fin grid2.N, _)

/-- The node that row `r` of point `t`'s block is. -/
def place (t : Fin cfg2.N) (r : Fin 400) : Fin 10000 :=
  ⟨t.val * 400 + ↑r, by have : t.val < 25 := t.isLt; omega⟩

variable (m : (ℓ : Loc nD τ sig) → Buf (Elt Ideal) ℓ) (og : (d : Dev nD) → Buf (Elt Ideal) (oLoc d)) (d : Dev nD)
  (t : Fin cfg2.N) (r : Fin 400) (k : Fin 32) (i l : Fin 128) (z : Fin 512)

/-- The block of window `w` at point `t`. -/
abbrev blk2 (w : Fin cfg2.W) (t : Fin cfg2.N) := K2.iblk (fun d b => V4 m og d (Proc.devRef .tc b)) d w t
/-- An argument's array. -/
abbrev arg (b : Ref sig .tc) := m ((d.tc : Thread nD τ).loc b)

theorem v0_arg (b : Ref sig .tc) : V0 m d (Proc.devRef .tc b) = m ((d.tc : Thread nD τ).loc b) := rfl

theorem g_block : blk2 m og d 1 t (ix2 (edgeRow r k) i) = og d (ix2 ⟨↑(place t r) * 32 + ↑k, by omega⟩ i) := by
  rw [← V3_out m og d, ← V4_keep m og d main_v9 (by decide)]
  blk_ext [K2.iblk, idx2 t, place, edgeRow]
theorem he_block : blk2 m og d 0 t (ix2 (edgeRow r k) i) = arg m d main_arg2 (ix4 0 (place t r) k i) := by
  blk_simp [K2.iblk]
  rw [V4_keep m og d main_v2 (by decide), V3_keep m og d main_v2 (by decide) (by decide)]
  unfold V1; entry_read; pointwise; blk_ext [idx2 t, place, edgeRow]
theorem b1_block : blk2 m og d 5 t (ix2 0 i) = arg m d main_arg7 (ix1 i) := by
  blk_simp [K2.iblk]; unfold V4; entry_read
  rw [V3_keep m og d main_arg7 (by decide) (by decide), V1_keep m d main_arg7 (by decide)]
  pointwise; blk_ext [idx2 t]
theorem w1_block : blk2 m og d 4 t (ix2 l i) = (show EReal from arg m d main_arg6 (ix2 i ⟨128 + ↑l, by omega⟩))
    + (show EReal from arg m d main_arg6 (ix2 i ⟨384 + ↑l, by omega⟩)) := by
  blk_simp [K2.iblk]; unfold V4; entry_read
  rw [V3_keep m og d main_v4 (by decide) (by decide)]
  unfold V1; entry_read; pointwise; refine congrArg₂ (HAdd.hAdd (α := EReal)) ?_ ?_ <;> blk_ext [idx2 t]
theorem hv_block : blk2 m og d 2 t (ix2 r i) = arg m d main_arg0 (ix3 0 (place t r) i) := by
  blk_simp [K2.iblk]
  rw [V4_keep m og d main_v0 (by decide), V3_keep m og d main_v0 (by decide) (by decide)]
  unfold V1; entry_read; pointwise; blk_ext [idx2 t, place]
theorem w2_block : blk2 m og d 6 t (ix2 l i)
    = (show EReal from arg m d main_arg8 (ix2 i l)) * Ideal.ofBits .f32 0x3F000000#32 := by
  blk_simp [K2.iblk]; unfold V4; entry_read
  rw [V3_keep m og d main_arg8 (by decide) (by decide), V1_keep m d main_arg8 (by decide)]
  pointwise; refine Ideal.mul_congr ?_ rfl; blk_ext [idx2 t]
theorem wa_block : blk2 m og d 3 t (ix2 l i) = arg m d main_arg6 (ix2 i ⟨↑l, by omega⟩) := by
  blk_simp [K2.iblk]; unfold V4; entry_read
  rw [V3_keep m og d main_v4 (by decide) (by decide)]
  unfold V1; entry_read; pointwise; blk_ext [idx2 t]
theorem b2_block : blk2 m og d 7 t (ix2 0 i) = arg m d main_arg9 (ix1 i) := by
  blk_simp [K2.iblk]; unfold V4; entry_read
  rw [V3_keep m og d main_arg9 (by decide) (by decide), V1_keep m d main_arg9 (by decide)]
  pointwise; blk_ext [idx2 t]
theorem w3_block : blk2 m og d 8 t (ix2 l i) = arg m d main_arg10 (ix2 i l) := by
  blk_simp [K2.iblk]; unfold V4; entry_read
  rw [V3_keep m og d main_arg10 (by decide) (by decide), V1_keep m d main_arg10 (by decide)]
  pointwise; blk_ext [idx2 t]
theorem b3_block : blk2 m og d 9 t (ix2 0 i) = arg m d main_arg11 (ix1 i) := by
  blk_simp [K2.iblk]; unfold V4; entry_read
  rw [V3_keep m og d main_arg11 (by decide) (by decide), V1_keep m d main_arg11 (by decide)]
  pointwise; blk_ext [idx2 t]
theorem win_block : blk2 m og d 10 t (ix2 l z) = arg m d main_arg13 (ix2 z l) := by
  blk_simp [K2.iblk]; unfold V4; entry_read
  rw [V3_keep m og d main_arg13 (by decide) (by decide), V1_keep m d main_arg13 (by decide)]
  pointwise; blk_ext [idx2 t]
theorem bin_block : blk2 m og d 11 t (ix2 0 z) = arg m d main_arg14 (ix1 z) := by
  blk_simp [K2.iblk]; unfold V4; entry_read
  rw [V3_keep m og d main_arg14 (by decide) (by decide), V1_keep m d main_arg14 (by decide)]
  pointwise; blk_ext [idx2 t]
theorem wout_block : blk2 m og d 12 t (ix2 z i) = arg m d main_arg15 (ix2 i z) := by
  blk_simp [K2.iblk]; unfold V4; entry_read
  rw [V3_keep m og d main_arg15 (by decide) (by decide), V1_keep m d main_arg15 (by decide)]
  pointwise; blk_ext [idx2 t]
theorem bout_block : blk2 m og d 13 t (ix2 0 i) = arg m d main_arg16 (ix1 i) := by
  blk_simp [K2.iblk]; unfold V4; entry_read
  rw [V3_keep m og d main_arg16 (by decide) (by decide), V1_keep m d main_arg16 (by decide)]
  pointwise; blk_ext [idx2 t]
theorem gain1_block : blk2 m og d 14 t (ix2 0 i) = arg m d main_arg17 (ix1 i) := by
  blk_simp [K2.iblk]; unfold V4; entry_read
  rw [V3_keep m og d main_arg17 (by decide) (by decide), V1_keep m d main_arg17 (by decide)]
  pointwise; blk_ext [idx2 t]
theorem shift1_block : blk2 m og d 15 t (ix2 0 i) = arg m d main_arg18 (ix1 i) := by
  blk_simp [K2.iblk]; unfold V4; entry_read
  rw [V3_keep m og d main_arg18 (by decide) (by decide), V1_keep m d main_arg18 (by decide)]
  pointwise; blk_ext [idx2 t]
theorem gain2_block : blk2 m og d 16 t (ix2 0 i) = arg m d main_arg19 (ix1 i) := by
  blk_simp [K2.iblk]; unfold V4; entry_read
  rw [V3_keep m og d main_arg19 (by decide) (by decide), V1_keep m d main_arg19 (by decide)]
  pointwise; blk_ext [idx2 t]
theorem shift2_block : blk2 m og d 17 t (ix2 0 i) = arg m d main_arg20 (ix1 i) := by
  blk_simp [K2.iblk]; unfold V4; entry_read
  rw [V3_keep m og d main_arg20 (by decide) (by decide), V1_keep m d main_arg20 (by decide)]
  pointwise; blk_ext [idx2 t]
theorem w11a_block : blk2 m og d 18 t (ix2 l i) = arg m d main_arg12 (ix2 i ⟨↑l, by omega⟩) := by
  blk_simp [K2.iblk]; unfold V4; entry_read
  rw [V3_keep m og d main_v5 (by decide) (by decide)]
  unfold V1; entry_read; pointwise; blk_ext [idx2 t]
theorem w11c_block : blk2 m og d 19 t (ix2 l i) = arg m d main_arg12 (ix2 i ⟨256 + ↑l, by omega⟩) := by
  blk_simp [K2.iblk]; unfold V4; entry_read
  rw [V3_keep m og d main_v5 (by decide) (by decide)]
  unfold V1; entry_read; pointwise; blk_ext [idx2 t]

end Cert.Proof.Half.Run

end
-- ==== Proof.Half.Pay.lean ====
/-
  What the node update's body stores in the half layer's program is what it stores in its own program: the two differ in a
  reshape to the same shape, and in which constants are named first.
-/
module

public import proofs.«01_k».proof.Proof.Gen.FirstKernelIdeal.Skeleton
public import proofs.«01_k».proof.Proof.NodesBody

@[expose] public section

set_option maxRecDepth 16384

noncomputable section

namespace Cert.Proof.Half.Pay

open Cert.FirstKernelIdeal Cert.FirstKernelIdeal.Gen
open Idealize.ShloMosaic

theorem first (hv : FVec Ideal S400x128 .f32) (wa : FVec Ideal S128x128 .f32) (he : FVec Ideal S12800x128 .f32)
    (w1 : FVec Ideal S128x128 .f32) (g : FVec Ideal S12800x128 .f32) (b1 : FVec Ideal S1x128 .f32) :
    k2_pay3 (F := Ideal) hv wa he w1 g b1 = Cert.NodesKernelIdeal.Gen.k0_pay3 (F := Ideal) hv wa he w1 g b1 :=
  (rfl : _ = Cert.NodesKernelIdeal.Gen.k0_pay3 (F := Ideal) hv wa he w1 (shapeCast S12800x128 g shapeCasts_S12800x128_S12800x128) b1).trans
    (by rw [shapeCast_self])

theorem mean_free (v1 : FVec Ideal S400x128 .f32) (w2 : FVec Ideal S128x128 .bf16) (x : FVec Ideal S12800x128 .bf16)
    (b2 : FVec Ideal S1x128 .f32) (w3 : FVec Ideal S128x128 .f32) (b3 : FVec Ideal S1x128 .f32) :
    k2_pay6 (F := Ideal) v1 w2 x b2 w3 b3
    = Cert.NodesKernelIdeal.Gen.k0_pay6 (F := Ideal) v1 w2 x (constant S12800x128 .f32 0x00000000#32) b2 w3 b3 := rfl

theorem spread (v1 : FVec Ideal S400x128 .f32) (w2 : FVec Ideal S128x128 .bf16) (x : FVec Ideal S12800x128 .bf16)
    (b2 : FVec Ideal S1x128 .f32) (w3 : FVec Ideal S128x128 .f32) (b3 : FVec Ideal S1x128 .f32) :
    k2_pay7 (F := Ideal) v1 w2 x b2 w3 b3
    = Cert.NodesKernelIdeal.Gen.k0_pay7 (F := Ideal) v1 w2 x (constant S12800x128 .f32 0x00000000#32) b2 w3 b3 := rfl

theorem wide (gain shift : FVec Ideal S1x128 .f32) (x : FVec Ideal S400x128 .f32) (y : FVec Ideal S400x1 .f32)
    (win : FVec Ideal S128x512 .f32) (bin : FVec Ideal S1x512 .f32) (wout : FVec Ideal S512x128 .f32) (bout : FVec Ideal S1x128 .f32) :
    k2_pay8 (F := Ideal) gain shift x y win bin wout bout
    = Cert.NodesKernelIdeal.Gen.k0_pay8 (F := Ideal) gain shift x y (Scalar.ofBits .f32 0x43000000#32) win bin wout bout := rfl

theorem last (x : FVec Ideal S400x128 .f32) (gain shift : FVec Ideal S1x128 .f32) :
    k2_pay10 (F := Ideal) x gain shift = Cert.NodesKernelIdeal.Gen.k0_pay10 (F := Ideal) x gain shift := rfl

theorem shared (x : FVec Ideal S400x128 .f32) (gain shift : FVec Ideal S1x128 .f32) (w : FVec Ideal S128x128 .f32) :
    k2_pay11 (F := Ideal) x gain shift w = Cert.NodesKernelIdeal.Gen.k0_pay11 (F := Ideal) x gain shift w := rfl

theorem kept (x : FVec Ideal S400x128 .f32) (gain shift : FVec Ideal S1x128 .f32) (w : FVec Ideal S128x128 .f32) :
    k2_pay12 (F := Ideal) x gain shift w = Cert.NodesKernelIdeal.Gen.k0_pay12 (F := Ideal) x gain shift w := rfl

theorem row (x : FVec Ideal S1x128 .f32) : k2_pay9 (F := Ideal) x = Cert.NodesKernelIdeal.Gen.k0_pay9 (F := Ideal) x := rfl
theorem gain (x : FVec Ideal S1x128 .f32) : k2_pay4 (F := Ideal) x = Cert.NodesKernelIdeal.Gen.k0_pay4 (F := Ideal) x := rfl
theorem shift (x : FVec Ideal S1x128 .f32) : k2_pay5 (F := Ideal) x = Cert.NodesKernelIdeal.Gen.k0_pay5 (F := Ideal) x := rfl
theorem nodes (x : FVec Ideal S400x128 .f32) : k2_pay1 (F := Ideal) x = Cert.NodesKernelIdeal.Gen.k0_pay1 (F := Ideal) x := rfl
theorem weights (x : FVec Ideal S128x128 .bf16) : k2_pay2 (F := Ideal) x = Cert.NodesKernelIdeal.Gen.k0_pay2 (F := Ideal) x := rfl

end Cert.Proof.Half.Pay

end
-- ==== Proof.Half.Out.lean ====
/-
  What the half layer's last region leaves of a point's body, in the node update's own words.
-/
module

public import proofs.«01_k».proof.Proof.Half.Blocks
public import proofs.«01_k».proof.Proof.Half.Pay

@[expose] public section

set_option maxRecDepth 16384

noncomputable section

namespace Cert.Proof.Half.Run

open Cert.FirstKernelIdeal Cert.FirstKernelIdeal.Gen Cert.Proof.Half.Tile
open Idealize.ShloMosaic Idealize.ShloMosaic.TcCoe Idealize.SL.Sem
open Idealize.ShloMosaic.Pipeline (Dat pin afterRegion)

variable (m : (ℓ : Loc nD τ sig) → Buf (Elt Ideal) ℓ) (og : (d : Dev nD) → Buf (Elt Ideal) (oLoc d)) (d : Dev nD)

/-- The normalised nodes and their wide network's value, not yet normalised again. -/
def core (t : Fin cfg2.N) : FVec Ideal S400x128 .f32 :=
  Cert.NodesKernelIdeal.Gen.k0_pay8 (Cert.NodesKernelIdeal.Gen.k0_pay4 (blk2 m og d 14 t)) (Cert.NodesKernelIdeal.Gen.k0_pay5 (blk2 m og d 15 t))
    (Cert.NodesKernelIdeal.Gen.k0_pay6 (Cert.NodesKernelIdeal.Gen.k0_pay1 (blk2 m og d 2 t)) (Cert.NodesKernelIdeal.Gen.k0_pay2 (blk2 m og d 6 t))
      (Cert.NodesKernelIdeal.Gen.k0_pay3 (blk2 m og d 2 t) (blk2 m og d 3 t) (blk2 m og d 0 t) (blk2 m og d 4 t) (blk2 m og d 1 t) (blk2 m og d 5 t))
      (constant S12800x128 .f32 0x00000000#32) (blk2 m og d 7 t) (blk2 m og d 8 t) (blk2 m og d 9 t))
    (Cert.NodesKernelIdeal.Gen.k0_pay7 (Cert.NodesKernelIdeal.Gen.k0_pay1 (blk2 m og d 2 t)) (Cert.NodesKernelIdeal.Gen.k0_pay2 (blk2 m og d 6 t))
      (Cert.NodesKernelIdeal.Gen.k0_pay3 (blk2 m og d 2 t) (blk2 m og d 3 t) (blk2 m og d 0 t) (blk2 m og d 4 t) (blk2 m og d 1 t) (blk2 m og d 5 t))
      (constant S12800x128 .f32 0x00000000#32) (blk2 m og d 7 t) (blk2 m og d 8 t) (blk2 m og d 9 t))
    (Scalar.ofBits .f32 0x43000000#32) (blk2 m og d 10 t) (blk2 m og d 11 t) (blk2 m og d 12 t) (blk2 m og d 13 t)

theorem out_nodes (t : Fin cfg2.N) : (dat2 m og d).after 20 t
    = Cert.NodesKernelIdeal.Gen.k0_pay10 (F := Ideal) (core m og d t) (Cert.NodesKernelIdeal.Gen.k0_pay9 (blk2 m og d 16 t)) (blk2 m og d 17 t) := by
  rw [K2.after2_20]; unfold K2.outsAt2; frame_out
  simp only [Pay.last, Pay.wide, Pay.mean_free, Pay.spread, Pay.first, Pay.row, Pay.gain, Pay.shift, Pay.nodes, Pay.weights]
  rfl

theorem out_shared (t : Fin cfg2.N) : (dat2 m og d).after 21 t
    = Cert.NodesKernelIdeal.Gen.k0_pay11 (F := Ideal) (core m og d t) (Cert.NodesKernelIdeal.Gen.k0_pay9 (blk2 m og d 16 t)) (blk2 m og d 17 t) (blk2 m og d 19 t) := by
  rw [K2.after2_21]; unfold K2.outsAt2; frame_out
  simp only [Pay.shared, Pay.wide, Pay.mean_free, Pay.spread, Pay.first, Pay.row, Pay.gain, Pay.shift, Pay.nodes, Pay.weights]
  rfl

theorem out_kept (t : Fin cfg2.N) : (dat2 m og d).after 22 t
    = Cert.NodesKernelIdeal.Gen.k0_pay12 (F := Ideal) (core m og d t) (Cert.NodesKernelIdeal.Gen.k0_pay9 (blk2 m og d 16 t)) (blk2 m og d 17 t) (blk2 m og d 18 t) := by
  rw [K2.after2_22]; unfold K2.outsAt2; frame_out
  simp only [Pay.kept, Pay.wide, Pay.mean_free, Pay.spread, Pay.first, Pay.row, Pay.gain, Pay.shift, Pay.nodes, Pay.weights]
  rfl

end Cert.Proof.Half.Run

end
-- ==== Proof.Half.Final.lean ====
/-
  The half layer's results: the updated nodes and their two shares, as the node update's reference states them of the
  arguments and the gathered rows.
-/
module

public import proofs.«01_k».proof.Proof.Half.Out
public import proofs.«01_k».proof.Proof.NodesFinal

@[expose] public section

set_option maxRecDepth 16384

noncomputable section

namespace Cert.Proof.Half.Run

open Cert.FirstKernelIdeal Cert.FirstKernelIdeal.Gen Cert.Proof.Half.Tile
open Cert.NodesKernelIdeal.Value (edgeRow stored)
open Idealize.ShloMosaic Idealize.ShloMosaic.TcCoe Idealize.SL.Sem
open Idealize.ShloMosaic.Pipeline (Dat pin afterRegion)

/-- What the launch's arguments have to be: both masks are one everywhere, and the edge features and the two blocks of
    first-layer weights that meet them are finite. -/
structure Fit (m : (ℓ : Loc nD τ sig) → Buf (Elt Ideal) ℓ) (d : Dev nD) : Prop where
  nodes : ∀ n : Fin 10000, arg m d main_arg4 (ix2 0 n) = (1 : EReal)
  attends : ∀ (n : Fin 10000) (k : Fin 32), arg m d main_arg5 (ix3 0 n k) = (1 : EReal)
  edges : ∀ (n : Fin 10000) (k : Fin 32) (i : Fin 128), Layers.Finite (arg m d main_arg2 (ix4 0 n k i))
  near : ∀ i l : Fin 128, Layers.Finite (arg m d main_arg6 (ix2 i ⟨128 + ↑l, by omega⟩))
  far : ∀ i l : Fin 128, Layers.Finite (arg m d main_arg6 (ix2 i ⟨384 + ↑l, by omega⟩))

variable (m : (ℓ : Loc nD τ sig) → Buf (Elt Ideal) ℓ) (og : (d : Dev nD) → Buf (Elt Ideal) (oLoc d)) (d : Dev nD)

/-- The reference's updated nodes, of the arguments and the gathered rows. -/
def result : FVec Ideal S1x10000x128 .f32 :=
  Cert.NodesReferenceIdeal.Value.masked (arg m d main_arg4)
    (Cert.NodesReferenceIdeal.Value.updated (arg m d main_arg0) (arg m d main_arg2) (og d)
      (arg m d main_arg5) (arg m d main_arg6) (arg m d main_arg7) (arg m d main_arg8) (arg m d main_arg9)
      (arg m d main_arg10) (arg m d main_arg11) (arg m d main_arg13) (arg m d main_arg14) (arg m d main_arg15)
      (arg m d main_arg16) (arg m d main_arg17) (arg m d main_arg18) (arg m d main_arg19) (arg m d main_arg20))

/-- What point `t`'s body stores into the updated nodes' block. -/
def block (t : Fin cfg2.N) : FVec Ideal S400x128 .f32 :=
  stored (blk2 m og d 0 t) (blk2 m og d 1 t) (blk2 m og d 2 t) (blk2 m og d 3 t) (blk2 m og d 4 t) (blk2 m og d 5 t)
    (blk2 m og d 6 t) (blk2 m og d 7 t) (blk2 m og d 8 t) (blk2 m og d 9 t) (blk2 m og d 10 t) (blk2 m og d 11 t)
    (blk2 m og d 12 t) (blk2 m og d 13 t) (blk2 m og d 14 t) (blk2 m og d 15 t) (blk2 m og d 16 t) (blk2 m og d 17 t)

/-! ## The body's results, by rows -/

theorem block_eq (t : Fin cfg2.N) : (dat2 m og d).after 20 t = block m og d t := (out_nodes m og d t).trans rfl

theorem out_gathered (t : Fin cfg2.N) (r : Fin 400) (j : Fin 128) : (show EReal from (dat2 m og d).after 21 t (ix2 r j))
    = ∑ i : Fin 128, (show EReal from block m og d t (ix2 r i)) * ((show EReal from blk2 m og d 19 t (ix2 i j)) * Layers.s) :=
  (congrFun (out_shared m og d t) (ix2 r j)).trans (Cert.NodesKernelIdeal.Value.share_at _ _ r j (core m og d t) _)

theorem out_own (t : Fin cfg2.N) (r : Fin 400) (j : Fin 128) : (show EReal from (dat2 m og d).after 22 t (ix2 r j))
    = ∑ i : Fin 128, (show EReal from block m og d t (ix2 r i)) * ((show EReal from blk2 m og d 18 t (ix2 i j)) * Layers.s) :=
  (congrFun (out_kept m og d t) (ix2 r j)).trans (Cert.NodesKernelIdeal.Value.share_at' _ _ r j (core m og d t) _)

variable {m d} (h : Fit m d)
include h

/-- Row `r` of the block is the reference's row. -/
theorem block_at (t : Fin cfg2.N) (r : Fin 400) (j : Fin 128) :
    block m og d t (ix2 r j) = result m og d (ix3 0 (place t r) j) := by
  refine Eq.trans ?_ ((Cert.NodesReferenceIdeal.Value.masked_at _ _ _ _ (h.nodes _)).trans
    (Cert.NodesReferenceIdeal.Value.updated_at _ _ _ _ _ _ _ _ _ _ _ _ _ _ _ _ _ _ _ _ (h.attends (place t r)))).symm
  refine (Cert.NodesKernelIdeal.Value.stored_at _ _ _ _ _ _ _ _ _ _ _ _ _ _ _ _ _ _ r j).trans ?_
  rw [funext fun i => funext (w1_block m og d t i), funext fun k => funext (he_block m og d t r k),
    funext fun k => funext (g_block m og d t r k), funext (hv_block m og d t r), funext fun i => funext (wa_block m og d t i),
    funext (b1_block m og d t), funext (b2_block m og d t), funext fun i => funext (w3_block m og d t i), funext (b3_block m og d t),
    funext fun z => funext fun i => win_block m og d t i z, funext (bin_block m og d t),
    funext fun i => funext fun z => wout_block m og d t i z, funext (bout_block m og d t), funext (gain1_block m og d t),
    funext (shift1_block m og d t), funext (gain2_block m og d t), funext (shift2_block m og d t)]
  exact congrFun (Layers.nodeK_eq _ _ _ _ _ _ _ _ _ _ _ _ _ _ _ _ _ _ _ _ (fun i l => w2_block m og d t i l)
    (h.edges (place t r)) h.near h.far) j

/-- A row of a share: the stored row times scaled weights is the reference's, over `√2`. -/
theorem shared (t : Fin cfg2.N) (r : Fin 400) (j : Fin 128) (w : FVec Ideal S128x128 .f32)
    (u : Fin 128 → EReal) (hu : ∀ i : Fin 128, u i = w (ix2 j i)) :
    ∑ i : Fin 128, (show EReal from block m og d t (ix2 r i)) * (u i * Layers.s)
    = Cert.NodesReferenceIdeal.Value.share (result m og d) w (ix2 (place t r) j) := by
  refine Eq.trans ?_ (Cert.NodesReferenceIdeal.Value.share_at _ _ _ _).symm
  simp only [block_at og h, hu]
  exact Layers.sum_scaled _ _

/-- The updated nodes after the run. -/
theorem final : V5 m og d (Proc.devRef .tc main_v32_0) = Cert.NodesReferenceIdeal.Value.flat (result m og d) := by
  refine (Pipeline.afterRegion_arr (dat2 m og d) (V4 m og d) launch2.win.arr_inj 20).trans ?_
  refine (dat2 m og d).arrAt_eq_of_covers 20 _ (by decide +kernel) fun t _ y => ?_
  blk_simp
  rw [block_eq]
  obtain ⟨r, j, rfl⟩ : ∃ (r : Fin 400) (j : Fin 128), y = ix2 r j := ⟨y 0, y 1, eq_ix2 y⟩
  have hy : (win2_20.blk t).view.emb (ix2 r j) = ix2 (place t r) j := by blk_ext [idx2 t, place]
  refine Eq.trans ?_ (congrArg (Cert.NodesReferenceIdeal.Value.flat (result m og d)) hy.symm)
  exact (block_at og h t r j).trans (Cert.NodesReferenceIdeal.Value.flat_at _ _ _).symm

/-- The share that is gathered for the edges, after the run. -/
theorem final_gathered : V5 m og d (Proc.devRef .tc main_v32_1) = Cert.NodesReferenceIdeal.Value.share (result m og d)
    (extractStridedSlice S128x128 ![0, 256] (arg m d main_arg12) Cert.NodesReferenceIdeal.Gen.slices_S128x384_S128x128_0_256) := by
  refine (Pipeline.afterRegion_arr (dat2 m og d) (V4 m og d) launch2.win.arr_inj 21).trans ?_
  refine (dat2 m og d).arrAt_eq_of_covers 21 _ (by decide +kernel) fun t _ y => ?_
  blk_simp
  obtain ⟨r, j, rfl⟩ : ∃ (r : Fin 400) (j : Fin 128), y = ix2 r j := ⟨y 0, y 1, eq_ix2 y⟩
  have hy : (win2_21.blk t).view.emb (ix2 r j) = ix2 (place t r) j := by blk_ext [idx2 t, place]
  refine Eq.trans ?_ (congrArg (Cert.NodesReferenceIdeal.Value.share (result m og d) _) hy.symm)
  refine (out_gathered m og d t r j).trans (shared og h t r j _ (fun i => blk2 m og d 19 t (ix2 i j)) fun i => ?_)
  refine (w11c_block m og d t j i).trans ?_
  pointwise

/-- The nodes' own share in their edges, after the run. -/
theorem final_own : V5 m og d (Proc.devRef .tc main_v32_2) = Cert.NodesReferenceIdeal.Value.share (result m og d)
    (extractStridedSlice S128x128 ![0, 0] (arg m d main_arg12) Cert.NodesReferenceIdeal.Gen.slices_S128x384_S128x128_0_0) := by
  refine (Pipeline.afterRegion_arr (dat2 m og d) (V4 m og d) launch2.win.arr_inj 22).trans ?_
  refine (dat2 m og d).arrAt_eq_of_covers 22 _ (by decide +kernel) fun t _ y => ?_
  blk_simp
  obtain ⟨r, j, rfl⟩ : ∃ (r : Fin 400) (j : Fin 128), y = ix2 r j := ⟨y 0, y 1, eq_ix2 y⟩
  have hy : (win2_22.blk t).view.emb (ix2 r j) = ix2 (place t r) j := by blk_ext [idx2 t, place]
  refine Eq.trans ?_ (congrArg (Cert.NodesReferenceIdeal.Value.share (result m og d) _) hy.symm)
  refine (out_own m og d t r j).trans (shared og h t r j _ (fun i => blk2 m og d 18 t (ix2 i j)) fun i => ?_)
  refine (w11a_block m og d t j i).trans ?_
  pointwise

end Cert.Proof.Half.Run

end
-- ==== Proof.Half.Pre.lean ====
/-
  The half layer's precondition, read back: every number names a row, both masks are one, and what has to be finite is.
-/
module

public import proofs.«01_k».proof.Defs
public import proofs.«01_k».proof.Proof.Fit
public import proofs.«01_k».proof.Proof.Gen.Pre_first_ok
public import proofs.«01_k».proof.Proof.Half.Final

@[expose] public section

set_option maxRecDepth 16384

noncomputable section

namespace Cert.Proof.Half.Run

open Idealize.ShloMosaic Idealize.ShloMosaic.TcCoe Idealize.SL.Sem
open Cert.Pre_first_ok
open Cert.Proof.Rows (Names)

/-- Every number names a row. -/
theorem names_of_first {F : FTy → Type} [FloatOps F] {x0 : FVec F S1x10000x128 .f32} {x1 : FVec F S1x10000x128 .f32} {x2 : FVec F S1x10000x32x128 .f32} {x3 : IVec S1x10000x32 32} {x4 : FVec F S1x10000 .f32} {x5 : FVec F S1x10000x32 .f32} {x6 : FVec F S128x640 .f32} {x7 : FVec F S128 .f32} {x8 : FVec F S128x128 .f32} {x9 : FVec F S128 .f32} {x10 : FVec F S128x128 .f32} {x11 : FVec F S128 .f32} {x12 : FVec F S128x384 .f32} {x13 : FVec F S512x128 .f32} {x14 : FVec F S512 .f32} {x15 : FVec F S128x512 .f32} {x16 : FVec F S128 .f32} {x17 : FVec F S128 .f32} {x18 : FVec F S128 .f32} {x19 : FVec F S128 .f32} {x20 : FVec F S128 .f32}
    (h : fn (F := F) x0 x1 x2 x3 x4 x5 x6 x7 x8 x9 x10 x11 x12 x13 x14 x15 x16 x17 x18 x19 x20 = fun _ => 1#1) : Names x3 := by
  haveI : Subsingleton (S_).Idx := ⟨fun a b => funext fun i => i.elim0⟩
  have andi_ofBool (p q : Bool) : IntOp.andi (BitVec.ofBool p) (BitVec.ofBool q) = BitVec.ofBool (p && q) := by
    cases p <;> cases q <;> decide
  obtain ⟨h24, _⟩ := IntOp.andi_eq_one.1 (congrFun h ix0)
  obtain ⟨h18, _⟩ := IntOp.andi_eq_one.1 h24
  obtain ⟨h13, _⟩ := IntOp.andi_eq_one.1 h18
  obtain ⟨h9, _⟩ := IntOp.andi_eq_one.1 h13
  obtain ⟨h5, _⟩ := IntOp.andi_eq_one.1 h9
  intro j
  have e := Host.reduce_andi_all _ _ _ _ ix0 h5 j
  simp only [andi, cmpi, broadcastInDim, constantI, IntOp.cmpi, andi_ofBool, StableHlo.Predicate.ofBool_eq_one_iff, Bool.and_eq_true, BitVec.sle_eq_decide,
    BitVec.slt_eq_decide, decide_eq_true_eq, BitVec.toInt_eq_toNat_cond, BitVec.toNat_ofNat, Nat.reducePow, Nat.reduceMod] at e
  omega

/-- The masks are one, the edge features and the weights that meet them finite. -/
theorem fit_of_pre {m : (ℓ : Loc Cert.FirstKernelIdeal.nD Cert.FirstKernelIdeal.τ Cert.FirstKernelIdeal.sig) → Buf (Elt Ideal) ℓ}
    (h : Cert.Pre_FirstKernelIdeal m) (d : Dev Cert.FirstKernelIdeal.nD) : Fit m d := by
  haveI : Subsingleton (S_).Idx := ⟨fun a b => funext fun i => i.elim0⟩
  have one : Ideal.ofBits .f32 0x3F800000#32 = 1 := by
    simp [Ideal.ofBits, Ideal.ieee, -EReal.coe_mul]; norm_num
  obtain ⟨h24, hd⟩ := IntOp.andi_eq_one.1 (congrFun (h d) ix0)
  obtain ⟨h18, hb⟩ := IntOp.andi_eq_one.1 h24
  obtain ⟨h13, he⟩ := IntOp.andi_eq_one.1 h18
  obtain ⟨h9, ha⟩ := IntOp.andi_eq_one.1 h13
  obtain ⟨_, hv⟩ := IntOp.andi_eq_one.1 h9
  refine ⟨fun n => ?_, fun n k => ?_, fun n k i => ?_, fun i l => ?_, fun i l => ?_⟩
  · exact (Layers.eq_of_cmp (Host.reduce_andi_all _ _ _ _ ix0 hv (ix2 0 n))).trans one
  · exact (Layers.eq_of_cmp (Host.reduce_andi_all _ _ _ _ ix0 ha (ix3 0 n k))).trans one
  · exact Layers.finite_of_cmp (Host.reduce_andi_all _ _ _ _ ix0 he (ix4 0 n k i))
  · have e := Layers.finite_of_cmp (Host.reduce_andi_all _ _ _ _ ix0 hb (ix2 i l))
    convert e using 1
    pointwise
  · have e := Layers.finite_of_cmp (Host.reduce_andi_all _ _ _ _ ix0 hd (ix2 i l))
    convert e using 1
    pointwise

end Cert.Proof.Half.Run

end
-- ==== Proof.Half.Shares.lean ====
/-
  What the half layer's first region leaves: the share of each node's message from the nodes as they came.
-/
module

public import proofs.«01_k».proof.Proof.Half.Run
public import proofs.«01_k».proof.Proof.Share
public import proofs.«01_k».proof.Proof.Rows

@[expose] public section

noncomputable section

namespace Cert.Proof.Half.Run

open Cert.FirstKernelIdeal Cert.FirstKernelIdeal.Gen
open Idealize.ShloMosaic Idealize.ShloMosaic.TcCoe Idealize.SL.Sem
open Idealize.ShloMosaic.Pipeline (Dat pin afterRegion)

variable (m : (ℓ : Loc nD τ sig) → Buf (Elt Ideal) ℓ) (d : Dev nD)

theorem V1_v0 : V1 m d (Proc.devRef .tc main_v0) = shapeCast S10000x128 (m ((d.tc : Thread nD τ).loc main_arg0)) shapeCasts_S1x10000x128_S10000x128 := by
  unfold V1; entry_read; rfl

theorem idx0 : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- What point `t` stores at `y` is the reference's element at `y`'s place in the array. -/
theorem point0 (t : Fin cfg0.N) (y : S2000x128.Idx) :
    k0_pay1 (F := Ideal) (K0.iblk (fun d b => V1 m d (Proc.devRef .tc b)) d 0 t) (K0.iblk (fun d b => V1 m d (Proc.devRef .tc b)) d 2 t)
      (K0.iblk (fun d b => V1 m d (Proc.devRef .tc b)) d 1 t) (K0.iblk (fun d b => V1 m d (Proc.devRef .tc b)) d 3 t) y
    = Cert.RowsReferenceIdeal.Value.share (m ((d.tc : Thread nD τ).loc main_arg0)) (m ((d.tc : Thread nD τ).loc main_arg1))
        (m ((d.tc : Thread nD τ).loc main_arg6)) (((cfg0.win 4).blk t).view.emb y) := by
  rw [eq_ix2 y]
  refine (Cert.RowsKernelIdeal.Value.stored_at _ _ _ _ (y 0) (y 1)).trans ?_
  rw [eq_ix2 (((cfg0.win 4).blk t).view.emb (ix2 (y 0) (y 1)))]
  refine Eq.trans ?_ (Cert.RowsReferenceIdeal.Value.share_at _ _ _ _ _).symm
  blk_point [K0.iblk, V1, idx0 t]

/-- The share's array after its region. -/
theorem share0 : V2 m d t' = Cert.RowsReferenceIdeal.Value.share (m ((d.tc : Thread nD τ).loc main_arg0)) (m ((d.tc : Thread nD τ).loc main_arg1))
    (m ((d.tc : Thread nD τ).loc main_arg6)) := by
  refine (Pipeline.afterRegion_arr (dat0 m d) (V1 m d) launch0.win.arr_inj 4).trans ?_
  refine (dat0 m d).arrAt_eq_of_covers 4 _ (by decide +kernel) fun t _ y => ?_
  blk_simp
  rw [K0.after0_4]; unfold K0.outsAt0; frame_out
  exact point0 m d t y

end Cert.Proof.Half.Run

end
-- ==== Proof.Half.Ref.lean ====
/-
  The half layer's reference, read back: gathering the rows of both node arrays and multiplying them by their weights is
  gathering the rows of the shares, so its results are those of the node update's reference with the gathered shares put in.
-/
module

public import proofs.«01_k».proof.Proof.NodesRef
public import proofs.«01_k».proof.Proof.Share
public import proofs.«01_k».proof.Proof.Rows
public import proofs.«01_k».proof.Proof.Gen.FirstReferenceIdeal.Run

@[expose] public section

set_option maxRecDepth 16384

noncomputable section

open Idealize.ShloMosaic Idealize.ShloMosaic.TcCoe Idealize.SL.Sem

namespace Cert.NodesReferenceIdeal.Value

open Cert.NodesReferenceIdeal Cert.NodesReferenceIdeal.Gen
open Cert.EdgesReferenceIdeal.Value (activated linear)

/-- The updated nodes, from the first layer's values. -/
def onward (x : FVec Ideal S1x10000x32x128 .f32) (hv : FVec Ideal S1x10000x128 .f32) (ma : FVec Ideal S1x10000x32 .f32)
    (w2 : FVec Ideal S128x128 .f32) (b2 : FVec Ideal S128 .f32) (w3 : FVec Ideal S128x128 .f32) (b3 : FVec Ideal S128 .f32)
    (win : FVec Ideal S512x128 .f32) (bin : FVec Ideal S512 .f32) (wout : FVec Ideal S128x512 .f32)
    (bout gain1 shift1 gain2 shift2 : FVec Ideal S128 .f32) : FVec Ideal S1x10000x128 .f32 :=
  let mid := normed (summed hv ma (linear (activated (linear (activated x) w2 b2)) w3 b3)) gain1 shift1
  normed (addf mid (narrowed (middle mid win bin) wout bout)) gain2 shift2

end Cert.NodesReferenceIdeal.Value

namespace Cert.FirstReferenceIdeal.Value

open Cert.FirstReferenceIdeal Cert.FirstReferenceIdeal.Gen
open Idealize.ShloMosaic.StableHlo (launchContents)
open Cert.NodesReferenceIdeal.Value (first onward masked updated)
open Cert.Proof.Rows (rows Names)

/-- The neighbours' part of the first layer, as the reference computes it of the gathered rows. -/
def neighbours (x y : FVec Ideal S320000x128 .f32) (w : FVec Ideal S128x640 .f32) : FVec Ideal S1x10000x32x128 .f32 :=
  shapeCast S1x10000x32x128 (addf
    (Host.dotGeneral dot_S320000x128_S128x128_S320000x128_1_0_0_1_n_n none x
      (transpose S128x128 [1, 0] (extractStridedSlice S128x128 ![0, 256] w slices_S128x640_S128x128_0_256)
        transposes_S128x128_S128x128_1_0))
    (Host.dotGeneral dot_S320000x128_S128x128_S320000x128_1_0_0_1_n_n none y
      (transpose S128x128 [1, 0] (extractStridedSlice S128x128 ![0, 512] w slices_S128x640_S128x128_0_512)
        transposes_S128x128_S128x128_1_0))) shapeCasts_S320000x128_S1x10000x32x128

/-- The first layer with a neighbours' part. -/
def firstWith (x : FVec Ideal S1x10000x32x128 .f32) (hv : FVec Ideal S1x10000x128 .f32)
    (he : FVec Ideal S1x10000x32x128 .f32) (w : FVec Ideal S128x640 .f32) (b : FVec Ideal S128 .f32) :
    FVec Ideal S1x10000x32x128 .f32 :=
  addf (addf (addf
    (broadcastInDim S1x10000x32x128 ![0, 1, 2, 3] bcast_S1x10000x1x128_S1x10000x32x128_0_1_2_3
      (broadcastInDim S1x10000x1x128 ![0, 1, 3] bcast_S1x10000x128_S1x10000x1x128_0_1_3
        (Host.dotGeneral dot_S1x10000x128_S128x128_S1x10000x128_2_0_01_1_n_n none hv
          (transpose S128x128 [1, 0] (extractStridedSlice S128x128 ![0, 0] w slices_S128x640_S128x128_0_0)
            transposes_S128x128_S128x128_1_0))))
    (addf
      (Host.dotGeneral dot_S1x10000x32x128_S128x128_S1x10000x32x128_3_0_012_1_n_n none he
        (transpose S128x128 [1, 0] (extractStridedSlice S128x128 ![0, 128] w slices_S128x640_S128x128_0_128)
          transposes_S128x128_S128x128_1_0))
      (Host.dotGeneral dot_S1x10000x32x128_S128x128_S1x10000x32x128_3_0_012_1_n_n none he
        (transpose S128x128 [1, 0] (extractStridedSlice S128x128 ![0, 384] w slices_S128x640_S128x128_0_384)
          transposes_S128x128_S128x128_1_0)))) x)
    (Cert.EdgesReferenceIdeal.Value.everywhere b)

/-- A row of the share, not yet over `√2`, in the neighbours' part. -/
theorem neighbours_at (x y : FVec Ideal S320000x128 .f32) (w : FVec Ideal S128x640 .f32) (n : Fin 10000) (k : Fin 32)
    (j : Fin 128) : neighbours x y w (ix4 0 n k j)
    = (∑ l : Fin 128, (show EReal from x (ix2 ⟨↑n * 32 + ↑k, by omega⟩ l)) * w (ix2 j ⟨256 + ↑l, by omega⟩))
      + ∑ l : Fin 128, (show EReal from y (ix2 ⟨↑n * 32 + ↑k, by omega⟩ l)) * w (ix2 j ⟨512 + ↑l, by omega⟩) := by
  pointwise [neighbours]

/-- … and the gathered shares' part, times `√2`. -/
theorem roots_at (g : FVec Ideal S320000x128 .f32) (n : Fin 10000) (k : Fin 32) (j : Fin 128) :
    mulf (shapeCast S1x10000x32x128 g shapeCasts_S320000x128_S1x10000x32x128) Cert.EdgesReferenceIdeal.Value.roots (ix4 0 n k j)
    = (show EReal from g (ix2 ⟨↑n * 32 + ↑k, by omega⟩ j)) * Layers.root := by
  pointwise [Cert.EdgesReferenceIdeal.Value.roots, Layers.root]

/-- The row of the table that the `r`-th number names. -/
def named (A : IVec S1x10000x32 32) (r : Fin 320000) : Fin 10000 :=
  ⟨(Cert.Proof.Rows.word A r).toNat % 10000, Nat.mod_lt _ (by decide)⟩

theorem rows_at (T : FVec Ideal S10000x128 .f32) (A : IVec S1x10000x32 32) (r : Fin 320000) (l : Fin 128) :
    rows T A (ix2 r l) = T (ix2 (named A r) l) :=
  congrArg T (funext fun a => by
    match a with
    | ⟨0, _⟩ => rfl
    | ⟨1, _⟩ => rfl)

/-- A node array's row without its leading axis. -/
theorem row_at (x : FVec Ideal S1x10000x128 .f32) (r : Fin 10000) (l : Fin 128) :
    shapeCast S10000x128 x shapeCasts_S1x10000x128_S10000x128 (ix2 r l) = x (ix3 0 r l) := by pointwise

/-- Multiplying gathered rows by the weights is gathering the shares, one element at a time, … -/
theorem neighbours_share (hv hva : FVec Ideal S1x10000x128 .f32) (w : FVec Ideal S128x640 .f32) (A : IVec S1x10000x32 32)
    (n : Fin 10000) (k : Fin 32) (j : Fin 128) :
    neighbours (rows (shapeCast S10000x128 hv shapeCasts_S1x10000x128_S10000x128) A)
      (rows (shapeCast S10000x128 hva shapeCasts_S1x10000x128_S10000x128) A) w (ix4 0 n k j)
    = mulf (shapeCast S1x10000x32x128 (rows (Cert.RowsReferenceIdeal.Value.share hv hva w) A)
        shapeCasts_S320000x128_S1x10000x32x128) Cert.EdgesReferenceIdeal.Value.roots (ix4 0 n k j) := by
  refine (neighbours_at _ _ w n k j).trans (Eq.trans ?_ (roots_at _ n k j).symm)
  simp only [rows_at, row_at]
  rw [Cert.RowsReferenceIdeal.Value.share_at hv hva w, mul_assoc, mul_comm Layers.s, Layers.root_mul_s, mul_one]

/-- … and so in one. -/
theorem neighbours_eq (hv hva : FVec Ideal S1x10000x128 .f32) (w : FVec Ideal S128x640 .f32) (A : IVec S1x10000x32 32) :
    neighbours (rows (shapeCast S10000x128 hv shapeCasts_S1x10000x128_S10000x128) A)
      (rows (shapeCast S10000x128 hva shapeCasts_S1x10000x128_S10000x128) A) w
    = mulf (shapeCast S1x10000x32x128 (rows (Cert.RowsReferenceIdeal.Value.share hv hva w) A)
        shapeCasts_S320000x128_S1x10000x32x128) Cert.EdgesReferenceIdeal.Value.roots := by
  funext i
  obtain ⟨a, n, k, j, rfl⟩ : ∃ (a : Fin 1) (n : Fin 10000) (k : Fin 32) (j : Fin 128), i = ix4 a n k j :=
    ⟨i 0, i 1, i 2, i 3, eq_ix4 i⟩
  obtain rfl : a = 0 := Subsingleton.elim _ _
  exact neighbours_share hv hva w A n k j

variable (V : Valuation τ sig (Elt Ideal))

/-- The rows of one node array that the reference gathers. -/
def taken (x : FVec Ideal S1x10000x128 .f32) (A : IVec S1x10000x32 32) : FVec Ideal S320000x128 .f32 :=
  Host.gather gather_S10000x128_S320000x1_S320000x128_1_0_n_n_0_1_1128 (shapeCast S10000x128 x shapeCasts_S1x10000x128_S10000x128)
    (broadcastInDim S320000x1 ![0] bcast_S320000_S320000x1_0
      (select (cmpi .slt (shapeCast S320000 A shapeCasts_S1x10000x32_S320000) (broadcastInDim S320000 ![] bcast_S_S320000 (constantI S_ 32 0#32)))
        (addi (shapeCast S320000 A shapeCasts_S1x10000x32_S320000) (broadcastInDim S320000 ![] bcast_S_S320000 (constantI S_ 32 10000#32)))
        (shapeCast S320000 A shapeCasts_S1x10000x32_S320000)))

theorem taken_eq (x : FVec Ideal S1x10000x128 .f32) (A : IVec S1x10000x32 32) (h : Names A) :
    taken x A = rows (shapeCast S10000x128 x shapeCasts_S1x10000x128_S10000x128) A :=
  Cert.Proof.Rows.ref_rows _ rfl rfl rfl rfl rfl _ _ _ _ _ h

/-- The reference's first layer, named piece by piece. -/
theorem layer_eq : res_main_v41 V = firstWith (neighbours (taken (V (Proc.devRef .tc main_arg0)) (V (Proc.devRef .tc main_arg3)))
      (taken (V (Proc.devRef .tc main_arg1)) (V (Proc.devRef .tc main_arg3))) (V (Proc.devRef .tc main_arg6)))
    (V (Proc.devRef .tc main_arg0)) (V (Proc.devRef .tc main_arg2)) (V (Proc.devRef .tc main_arg6)) (V (Proc.devRef .tc main_arg7)) := rfl

/-- The reference's first layer is the node update's, of the gathered shares. -/
theorem layer_shares (h : Names (V (Proc.devRef .tc main_arg3))) : res_main_v41 V
    = first (V (Proc.devRef .tc main_arg0)) (V (Proc.devRef .tc main_arg2))
        (rows (Cert.RowsReferenceIdeal.Value.share (V (Proc.devRef .tc main_arg0)) (V (Proc.devRef .tc main_arg1)) (V (Proc.devRef .tc main_arg6)))
          (V (Proc.devRef .tc main_arg3)))
        (V (Proc.devRef .tc main_arg6)) (V (Proc.devRef .tc main_arg7)) := by
  rw [layer_eq, taken_eq _ _ h, taken_eq _ _ h, neighbours_eq]
  rfl

/-- The masked nodes from the first layer on. -/
theorem result_of : res_main_v150 V = masked (V (Proc.devRef .tc main_arg4))
    (onward (res_main_v41 V) (V (Proc.devRef .tc main_arg0)) (V (Proc.devRef .tc main_arg5)) (V (Proc.devRef .tc main_arg8))
      (V (Proc.devRef .tc main_arg9)) (V (Proc.devRef .tc main_arg10)) (V (Proc.devRef .tc main_arg11)) (V (Proc.devRef .tc main_arg13))
      (V (Proc.devRef .tc main_arg14)) (V (Proc.devRef .tc main_arg15)) (V (Proc.devRef .tc main_arg16)) (V (Proc.devRef .tc main_arg17))
      (V (Proc.devRef .tc main_arg18)) (V (Proc.devRef .tc main_arg19)) (V (Proc.devRef .tc main_arg20))) := rfl

/-- The masked nodes, as the node update's reference states them. -/
theorem result_eq (h : Names (V (Proc.devRef .tc main_arg3))) : res_main_v150 V = masked (V (Proc.devRef .tc main_arg4))
    (updated (V (Proc.devRef .tc main_arg0)) (V (Proc.devRef .tc main_arg2))
      (rows (Cert.RowsReferenceIdeal.Value.share (V (Proc.devRef .tc main_arg0)) (V (Proc.devRef .tc main_arg1)) (V (Proc.devRef .tc main_arg6)))
        (V (Proc.devRef .tc main_arg3)))
      (V (Proc.devRef .tc main_arg5)) (V (Proc.devRef .tc main_arg6)) (V (Proc.devRef .tc main_arg7)) (V (Proc.devRef .tc main_arg8))
      (V (Proc.devRef .tc main_arg9)) (V (Proc.devRef .tc main_arg10)) (V (Proc.devRef .tc main_arg11)) (V (Proc.devRef .tc main_arg13))
      (V (Proc.devRef .tc main_arg14)) (V (Proc.devRef .tc main_arg15)) (V (Proc.devRef .tc main_arg16)) (V (Proc.devRef .tc main_arg17))
      (V (Proc.devRef .tc main_arg18)) (V (Proc.devRef .tc main_arg19)) (V (Proc.devRef .tc main_arg20))) := by
  rw [result_of, layer_shares V h]
  rfl

end Cert.FirstReferenceIdeal.Value

end
-- ==== Proof.First.lean ====
/-
  The first half of the layer, as one program: the neighbours' share, its gather, the node update. The run's results are the
  reference's; its arguments end as they began.
-/
module

public import proofs.«01_k».proof.Proof.Half.Pre
public import proofs.«01_k».proof.Proof.Half.Shares
public import proofs.«01_k».proof.Proof.Half.Ref
public import proofs.«01_k».proof.Proof.Gen.FirstKernel

@[expose] public section

set_option maxRecDepth 16384

noncomputable section

open Idealize.ShloMosaic Idealize.ShloMosaic.TcCoe Idealize.SL.Sem

namespace Cert.FirstReferenceIdeal.Value

open Cert.FirstReferenceIdeal Cert.FirstReferenceIdeal.Gen
open Cert.NodesReferenceIdeal.Value (masked updated)
open Cert.Proof.Rows (rows Names)

variable (m : (ℓ : Loc nD τ sig) → Buf (Elt Ideal) ℓ) (c : Dev nD)

/-- The reference's masked nodes, of a launch's arguments. -/
def result : FVec Ideal S1x10000x128 .f32 :=
  masked (m ((c.tc : Thread nD τ).loc main_arg4))
    (updated (m ((c.tc : Thread nD τ).loc main_arg0)) (m ((c.tc : Thread nD τ).loc main_arg2))
      (rows (Cert.RowsReferenceIdeal.Value.share (m ((c.tc : Thread nD τ).loc main_arg0)) (m ((c.tc : Thread nD τ).loc main_arg1))
        (m ((c.tc : Thread nD τ).loc main_arg6))) (m ((c.tc : Thread nD τ).loc main_arg3)))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg13))
      (m ((c.tc : Thread nD τ).loc main_arg14)) (m ((c.tc : Thread nD τ).loc main_arg15))
      (m ((c.tc : Thread nD τ).loc main_arg16)) (m ((c.tc : Thread nD τ).loc main_arg17))
      (m ((c.tc : Thread nD τ).loc main_arg18)) (m ((c.tc : Thread nD τ).loc main_arg19))
      (m ((c.tc : Thread nD τ).loc main_arg20)))

theorem result_of_launch (h : Names (m ((c.tc : Thread nD τ).loc main_arg3))) :
    res_main_v150 (StableHlo.launchContents m c) = result m c := result_eq (StableHlo.launchContents m c) h

end Cert.FirstReferenceIdeal.Value

namespace Cert.Proof.Half.Run

open Cert.FirstKernelIdeal Cert.FirstKernelIdeal.Gen Cert.Proof.Half.Tile
open Cert.Proof.Rows (rows Names)

section
variable {F : FTy → Type} [FloatOps F] [Named F] {m : (ℓ : Loc nD τ sig) → Buf (Elt F) ℓ}
  {og : (d : Dev nD) → Buf (Elt F) (oLoc d)} {r : PUnit × MemSt nD τ sig (Elt F)}

/-- The arguments end as they began. -/
theorem ends (h : QC m og r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) := by
  have e (b : Ref sig .tc) (hb : b.isScoped = false)
      (hw : b ∉ written0 ++ main_v8 :: main_v9 :: written1 ++ [main_v32_0, main_v32_1, main_v32_2]) :
      r.2.mem ((c.tc : Thread nD τ).loc b) = m ((c.tc : Thread nD τ).loc b) := (h.1 c b hb).trans (kept m og c b hw)
  exact ⟨e main_arg0 rfl (by decide), e main_arg1 rfl (by decide), e main_arg2 rfl (by decide), e main_arg3 rfl (by
      decide), e main_arg4 rfl (by decide), e main_arg5 rfl (by decide), e main_arg6 rfl (by decide), e main_arg7
      rfl (by decide), e main_arg8 rfl (by decide), e main_arg9 rfl (by decide), e main_arg10 rfl (by decide), e
      main_arg11 rfl (by decide), e main_arg12 rfl (by decide), e main_arg13 rfl (by decide), e main_arg14 rfl (by
      decide), e main_arg15 rfl (by decide), e main_arg16 rfl (by decide), e main_arg17 rfl (by decide), e
      main_arg18 rfl (by decide), e main_arg19 rfl (by decide), e main_arg20 rfl (by decide)⟩
end

theorem frame_ideal : Cert.quiescent_FirstKernelIdeal := fun m ρ hpre =>
  (θ_run Cert.FirstKernelIdeal.defs _ _).mono (fun _ h => ⟨ends h, h.2⟩)
    (run (F := Ideal) m ρ fun d => names_of_first (hpre d))

theorem frame_ref : Cert.quiescent_FirstReferenceIdeal := fun m ρ _ =>
  (θ_run Cert.FirstReferenceIdeal.defs _ _).mono
    (fun r h => ⟨fun c => (h c).2.2.2, sem_eq_zero_of_no_sems (by decide) r.2⟩)
    (Cert.FirstReferenceIdeal.Value.run (F := Ideal) m ρ)
theorem frame_ref_pre : Cert.quiescent_FirstReferenceIdeal_pre_first_ok := fun m ρ _ => frame_ref m ρ trivial

theorem preserves : Cert.preserves_FirstKernel_FirstKernelIdeal :=
  ⟨IdealRules.named_const.statement Cert.FirstKernelIdeal.κ "s" .f32 0x3F3504F3#32 (((Real.sqrt 2)⁻¹ : ℝ) : EReal) rfl,
    IdealRules.named_const.statement Cert.FirstKernelIdeal.κ "t" .f32 0x3D088889#32 ((30⁻¹ : ℝ) : EReal) rfl⟩

/-- The gathered rows are the reference's share's. -/
theorem found_eq (m : (ℓ : Loc nD τ sig) → Buf (Elt Ideal) ℓ) (d : Dev nD) : found m d
    = rows (Cert.RowsReferenceIdeal.Value.share (arg m d main_arg0) (arg m d main_arg1) (arg m d main_arg6)) (arg m d main_arg3) :=
  congrArg (fun T => rows (α := EReal) T (m (aLoc d))) (share0 m d)

theorem algebraic : Cert.algebraic_FirstKernelIdeal_FirstReferenceIdeal := by
  intro m ρ m' ρ' hpre hag
  have fit := fit_of_pre hpre
  have names (d : Dev nD) : Names (m (aLoc d)) := names_of_first (hpre d)
  have same (c : Dev nD) : Cert.FirstReferenceIdeal.Value.result m' c = result m (found m) c := by
    rw [Cert.FirstReferenceIdeal.Value.result, result, found_eq]
    obtain ⟨h0, h1, h2, h3, h4, h5, h6, h7, h8, h9, h10, h11, h12, h13, h14, h15, h16, h17, h18, h19, h20⟩ := hag c
    rw [h0, h1, h2, h3, h4, h5, h6, h7, h8, h9, h10, h11, h13, h14, h15, h16, h17, h18, h19, h20]
  have names' (c : Dev nD) : Names (m' ((c.tc : Thread Cert.FirstReferenceIdeal.nD Cert.FirstReferenceIdeal.τ).loc Cert.FirstReferenceIdeal.main_arg3)) := by
    rw [(hag c).2.2.2.1]; exact names c
  refine ⟨_, _, _, (θ_run Cert.FirstKernelIdeal.defs _ _).mono
      (fun _ h c => ⟨(h.1 c main_v32_0 rfl).trans (final (found m) (fit c)),
        (h.1 c main_v32_1 rfl).trans (final_gathered (found m) (fit c)),
        (h.1 c main_v32_2 rfl).trans (final_own (found m) (fit c)), ends h c⟩)
      (run (F := Ideal) m ρ names),
    (θ_run Cert.FirstReferenceIdeal.defs _ _).mono
      (fun _ h c => ⟨(h c).1.trans ?_, (h c).2.1.trans ?_, (h c).2.2.1.trans ?_, (h c).2.2.2⟩)
      (Cert.FirstReferenceIdeal.Value.run (F := Ideal) m' ρ')⟩
  all_goals
    have weights : StableHlo.launchContents m' c (Proc.tc.devRef Cert.FirstReferenceIdeal.main_arg12) = arg m c main_arg12 :=
      (hag c).2.2.2.2.2.2.2.2.2.2.2.2.1
    rw [Cert.FirstReferenceIdeal.Value.result_of_launch m' c (names' c), same c]
  · rfl
  · rw [weights]
    rfl
  · rw [weights]
    rfl

end Cert.Proof.Half.Run

end
-- ==== Proof.Half.Bits.lean ====
/-
  The frame of the printed program of the layer's first half, on machine words. Named constants read as their bits, the ideal
  reading's program is the printed one, so its run on words is the printed program's run.
-/
module

public import proofs.«01_k».proof.Proof.First

@[expose] public section

set_option maxRecDepth 100000
set_option maxHeartbeats 0

noncomputable section

open Idealize.ShloMosaic Idealize.SL.Sem

namespace Cert.Proof.Half.Run

/-- At bits, a named constant is its bits. -/
local instance atBits : Named Bits where
  named _ _ _ bits := FloatOps.ofBits _ bits

set_option smartUnfolding false in
/-- The two programs have the same bodies. -/
theorem bodies_eq : Cert.FirstKernelIdeal.defs₀ (F := Bits) = Cert.FirstKernel.defs₀ (F := Bits) := rfl

/-- What the ideal reading's program ends with on words, the printed program ends with. -/
theorem run_printed (m : (ℓ : Loc Cert.FirstKernel.nD Cert.FirstKernel.τ Cert.FirstKernel.sig) → Buf (Elt Bits) ℓ)
    (ρ : Dev Cert.FirstKernel.nD → PrngReg)
    (Q : PUnit × MemSt Cert.FirstKernel.nD Cert.FirstKernel.τ Cert.FirstKernel.sig (Elt Bits) → Prop)
    (h : θ_run (Cert.FirstKernelIdeal.defs (F := Bits)) (Cert.FirstKernelIdeal.threads (F := Bits)) ⟨m, fun _ => 0, ρ⟩ Q) :
    θ_run (Cert.FirstKernel.defs (F := Bits)) (Cert.FirstKernel.threads (F := Bits)) ⟨m, fun _ => 0, ρ⟩ Q := by
  unfold Cert.FirstKernelIdeal.defs at h
  rw [bodies_eq] at h
  exact h

theorem frame_kernel : Cert.quiescent_FirstKernel := fun m ρ hpre =>
  run_printed m ρ _ ((θ_run Cert.FirstKernelIdeal.defs _ _).mono (fun _ h => ⟨ends h, h.2⟩)
    (run (F := Bits) m ρ fun d => names_of_first (hpre d)))

end Cert.Proof.Half.Run

end
-- ==== Proof.lean ====
/-
  The certificate. The gather's one run (`Rows.run`, over any float values) gives both its frames and both its value claims;
  the references' runs are read at the same gathered rows. For each of the three TensorCore calls the kernel's final arrays
  and the reference's are the same function of the arguments, row by row. The first half of the layer, the calls one after another in one program, is in `First.lean` and `Half/Bits.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Pre_idx_in_range
public import proofs.«01_k».proof.Proof.Gen.RowsKernelIdeal.Value
public import proofs.«01_k».proof.Proof.Gen.RowsKernel.Frame
public import proofs.«01_k».proof.Proof.Gen.RowsReferenceIdeal.Run
public import proofs.«01_k».proof.Proof.Gen.NodesKernelIdeal.Value
public import proofs.«01_k».proof.Proof.Gen.NodesKernel.Frame
public import proofs.«01_k».proof.Proof.Gen.NodesReferenceIdeal.Run
public import proofs.«01_k».proof.Proof.Gen.EdgesKernelIdeal.Value
public import proofs.«01_k».proof.Proof.Gen.EdgesKernel.Frame
public import proofs.«01_k».proof.Proof.Gen.EdgesReferenceIdeal.Run
public import proofs.«01_k».proof.Proof.Gen.Pre_nodes_ok
public import proofs.«01_k».proof.Proof.Rows
public import proofs.«01_k».proof.Proof.Share
public import proofs.«01_k».proof.Proof.NodesFinal
public import proofs.«01_k».proof.Proof.Fit
public import proofs.«01_k».proof.Proof.Edges
public import proofs.«01_k».proof.Proof.Half.Bits
public import Idealize.ShloMosaic.Adequacy
public import Idealize.ShloMosaic.Init

@[expose] public section

noncomputable section

namespace Cert.Proof

open Idealize.ShloMosaic Idealize.SL.Sem Cert.Proof.Rows

theorem names (m : (ℓ : Loc Cert.KernelIdeal.nD Cert.KernelIdeal.τ Cert.KernelIdeal.sig) → Buf (Elt Ideal) ℓ) (h : Cert.Pre_KernelIdeal m) :
    ∀ d, Names (m (Tile.aLoc d)) := fun d => names_of_pre (h d)
theorem names_bits (m : (ℓ : Loc Cert.KernelIdeal.nD Cert.KernelIdeal.τ Cert.KernelIdeal.sig) → Buf (Elt Bits) ℓ) (h : Cert.Pre_Kernel m) :
    ∀ d, Names (m (Tile.aLoc d)) := fun d => names_of_pre (h d)

theorem frame_kernel : Cert.quiescent_Kernel := fun m ρ hpre =>
  (θ_run Cert.KernelIdeal.defs _ _).mono (fun _ h => ⟨fun c => ⟨(h.1 c).1, (h.1 c).2.1⟩, h.2⟩) (Rows.run (F := Bits) m ρ (names_bits m hpre))

theorem frame_ideal : Cert.quiescent_KernelIdeal := fun m ρ hpre =>
  (θ_run Cert.KernelIdeal.defs _ _).mono (fun _ h => ⟨fun c => ⟨(h.1 c).1, (h.1 c).2.1⟩, h.2⟩) (Rows.run (F := Ideal) m ρ (names m hpre))

theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_refIdeal_pre : Cert.quiescent_ReferenceIdeal_pre_idx_in_range := fun m ρ _ => frame_refIdeal m ρ trivial

theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := by
  intro m ρ m' ρ' hpre hag
  refine ⟨fun c => og m c, (θ_run Cert.KernelIdeal.defs _ _).mono (fun _ h c => ⟨(h.1 c).2.2, (h.1 c).1, (h.1 c).2.1⟩)
    (Rows.run (F := Ideal) m ρ (names m hpre)), ?_⟩
  refine (θ_run Cert.ReferenceIdeal.defs _ _).mono (fun _ h c => ⟨(h c).1.trans ?_, (h c).2⟩) (Cert.ReferenceIdeal.Value.run (F := Ideal) m' ρ')
  rw [(hag c).1, (hag c).2]
  exact ref_rows _ rfl rfl rfl rfl rfl _ _ _ _ _ (names m hpre c)

theorem bitexact : Cert.bitexact_Kernel_Reference := by
  intro m ρ m' ρ' hpre hag
  refine ⟨fun c => og m c, (θ_run Cert.KernelIdeal.defs _ _).mono (fun _ h c => ⟨(h.1 c).2.2, (h.1 c).1, (h.1 c).2.1⟩)
    (Rows.run (F := Bits) m ρ (names_bits m hpre)), ?_⟩
  refine (θ_run Cert.Reference.defs _ _).mono (fun _ h c => ⟨(h c).1.trans ?_, (h c).2⟩) (Cert.Reference.Value.run (F := Bits) m' ρ')
  rw [(hag c).1, (hag c).2]
  exact ref_rows _ rfl rfl rfl rfl rfl _ _ _ _ _ (names_bits m hpre c)

/-! ## The share from the nodes as they came -/

theorem rows_frame_kernel : Cert.quiescent_RowsKernel := fun m ρ _ => Cert.RowsKernel.Gen.frame m ρ
theorem rows_frame_ideal : Cert.quiescent_RowsKernelIdeal := fun m ρ _ => Cert.RowsKernelIdeal.Gen.frame m ρ
theorem rows_frame_ref : Cert.quiescent_RowsReferenceIdeal := fun m ρ _ =>
  (θ_run Cert.RowsReferenceIdeal.defs _ _).mono (fun r h => ⟨fun c => (h c).2, sem_eq_zero_of_no_sems (by decide) r.2⟩)
    (Cert.RowsReferenceIdeal.Value.run (F := Ideal) m ρ)
theorem rows_preserves : Cert.preserves_RowsKernel_RowsKernelIdeal :=
  IdealRules.named_const.statement Cert.RowsKernelIdeal.κ "s" .f32 0x3F3504F3#32 (((Real.sqrt 2)⁻¹ : ℝ) : EReal) rfl

theorem rows_algebraic : Cert.algebraic_RowsKernelIdeal_RowsReferenceIdeal := by
  intro m ρ m' ρ' _ hag
  refine ⟨_, (θ_run Cert.RowsKernelIdeal.defs _ _).mono
      (fun _ h c => ⟨(h c).1.trans (Cert.RowsKernelIdeal.Value.final m c), (h c).2⟩)
      (Cert.RowsKernelIdeal.Value.run_blocks (F := Ideal) m ρ),
    (θ_run Cert.RowsReferenceIdeal.defs _ _).mono (fun _ h c => ⟨(h c).1.trans ?_, (h c).2⟩)
      (Cert.RowsReferenceIdeal.Value.run (F := Ideal) m' ρ')⟩
  rw [(hag c).1, (hag c).2.1, (hag c).2.2]
  rfl

/-! ## The node update -/

theorem nodes_frame_kernel : Cert.quiescent_NodesKernel := fun m ρ _ => Cert.NodesKernel.Gen.frame m ρ
theorem nodes_frame_ideal : Cert.quiescent_NodesKernelIdeal := fun m ρ _ => Cert.NodesKernelIdeal.Gen.frame m ρ
theorem nodes_frame_ref : Cert.quiescent_NodesReferenceIdeal := fun m ρ _ =>
  (θ_run Cert.NodesReferenceIdeal.defs _ _).mono
    (fun r h => ⟨fun c => (h c).2.2.2, sem_eq_zero_of_no_sems (by decide) r.2⟩)
    (Cert.NodesReferenceIdeal.Value.run (F := Ideal) m ρ)
theorem nodes_frame_ref_pre : Cert.quiescent_NodesReferenceIdeal_pre_nodes_ok := fun m ρ _ => nodes_frame_ref m ρ trivial
theorem nodes_preserves : Cert.preserves_NodesKernel_NodesKernelIdeal :=
  ⟨IdealRules.named_const.statement Cert.NodesKernelIdeal.κ "s" .f32 0x3F3504F3#32 (((Real.sqrt 2)⁻¹ : ℝ) : EReal) rfl,
    IdealRules.named_const.statement Cert.NodesKernelIdeal.κ "t" .f32 0x3D088889#32 ((30⁻¹ : ℝ) : EReal) rfl⟩

theorem nodes_algebraic : Cert.algebraic_NodesKernelIdeal_NodesReferenceIdeal := by
  intro m ρ m' ρ' hpre hag
  have fit := Cert.NodesKernelIdeal.Value.fit hpre
  have same (c : Dev Cert.NodesKernelIdeal.nD) :
      Cert.NodesReferenceIdeal.Value.result m' c = Cert.NodesKernelIdeal.Value.result m c := by
    rw [Cert.NodesReferenceIdeal.Value.result]
    rw [(hag c).1, (hag c).2.1, (hag c).2.2.1, (hag c).2.2.2.1, (hag c).2.2.2.2.1]
    rw [(hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1]
    rw [(hag c).2.2.2.2.2.2.2.2.2.2.2.2.1, (hag c).2.2.2.2.2.2.2.2.2.2.2.2.2.1, (hag c).2.2.2.2.2.2.2.2.2.2.2.2.2.2.1, (hag c).2.2.2.2.2.2.2.2.2.2.2.2.2.2.2.1, (hag c).2.2.2.2.2.2.2.2.2.2.2.2.2.2.2.2.1, (hag c).2.2.2.2.2.2.2.2.2.2.2.2.2.2.2.2.2.1, (hag c).2.2.2.2.2.2.2.2.2.2.2.2.2.2.2.2.2.2.1, (hag c).2.2.2.2.2.2.2.2.2.2.2.2.2.2.2.2.2.2.2]
    rfl
  refine ⟨_, _, _, (θ_run Cert.NodesKernelIdeal.defs _ _).mono
      (fun _ h c => ⟨(h c).1.trans (Cert.NodesKernelIdeal.Value.final (fit c)),
        (h c).2.1.trans (Cert.NodesKernelIdeal.Value.final_gathered (fit c)),
        (h c).2.2.1.trans (Cert.NodesKernelIdeal.Value.final_own (fit c)), (h c).2.2.2⟩)
      (Cert.NodesKernelIdeal.Value.run_blocks (F := Ideal) m ρ),
    (θ_run Cert.NodesReferenceIdeal.defs _ _).mono
      (fun _ h c => ⟨(h c).1.trans ?_, (h c).2.1.trans ?_, (h c).2.2.1.trans ?_, (h c).2.2.2⟩)
      (Cert.NodesReferenceIdeal.Value.run (F := Ideal) m' ρ')⟩
  all_goals
    have weights : StableHlo.launchContents m' c (Proc.tc.devRef Cert.NodesReferenceIdeal.main_arg11)
        = m ((c.tc : Thread Cert.NodesKernelIdeal.nD Cert.NodesKernelIdeal.τ).loc Cert.NodesKernelIdeal.main_arg11) :=
      (hag c).2.2.2.2.2.2.2.2.2.2.2.1
    rw [Cert.NodesReferenceIdeal.Value.result_eq, same c]
  · rfl
  · rw [weights]
    rfl
  · rw [weights]
    rfl

/-! ## The edge update -/

theorem edges_frame_kernel : Cert.quiescent_EdgesKernel := fun m ρ _ => Cert.EdgesKernel.Gen.frame m ρ
theorem edges_frame_ideal : Cert.quiescent_EdgesKernelIdeal := fun m ρ _ => Cert.EdgesKernelIdeal.Gen.frame m ρ
theorem edges_frame_ref : Cert.quiescent_EdgesReferenceIdeal := fun m ρ _ =>
  (θ_run Cert.EdgesReferenceIdeal.defs _ _).mono (fun r h => ⟨fun c => (h c).2, sem_eq_zero_of_no_sems (by decide) r.2⟩)
    (Cert.EdgesReferenceIdeal.Value.run (F := Ideal) m ρ)
theorem edges_preserves : Cert.preserves_EdgesKernel_EdgesKernelIdeal :=
  IdealRules.named_const.statement Cert.EdgesKernelIdeal.κ "s" .f32 0x3F3504F3#32 (((Real.sqrt 2)⁻¹ : ℝ) : EReal) rfl

theorem edges_algebraic : Cert.algebraic_EdgesKernelIdeal_EdgesReferenceIdeal := by
  intro m ρ m' ρ' _ hag
  refine ⟨_, (θ_run Cert.EdgesKernelIdeal.defs _ _).mono
      (fun _ h c => ⟨(h c).1.trans (Cert.EdgesKernelIdeal.Value.final m c), (h c).2⟩)
      (Cert.EdgesKernelIdeal.Value.run_blocks (F := Ideal) m ρ),
    (θ_run Cert.EdgesReferenceIdeal.defs _ _).mono (fun _ h c => ⟨(h c).1.trans ?_, (h c).2⟩)
      (Cert.EdgesReferenceIdeal.Value.run (F := Ideal) m' ρ')⟩
  rw [Cert.EdgesReferenceIdeal.Value.result_eq]
  rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]

theorem claim : Cert.Claim := ⟨Cert.Kernel.Gen.facts, Cert.KernelIdeal.Gen.facts, Cert.ReferenceIdeal.Gen.facts, Cert.Reference.Gen.facts,
  Cert.RowsKernel.Gen.facts, Cert.RowsKernelIdeal.Gen.facts, Cert.RowsReferenceIdeal.Gen.facts,
  Cert.NodesKernel.Gen.facts, Cert.NodesKernelIdeal.Gen.facts, Cert.NodesReferenceIdeal.Gen.facts,
  Cert.EdgesKernel.Gen.facts, Cert.EdgesKernelIdeal.Gen.facts, Cert.EdgesReferenceIdeal.Gen.facts,
  Cert.FirstKernel.Gen.facts, Cert.FirstKernelIdeal.Gen.facts, Cert.FirstReferenceIdeal.Gen.facts,
  Cert.Pre_idx_in_range.Gen.facts, Cert.Pre_nodes_ok.Gen.facts, Cert.Pre_first_ok.Gen.facts,
  frame_kernel, frame_ideal, frame_refIdeal, frame_refIdeal_pre, frame_ref,
  rows_frame_kernel, rows_frame_ideal, rows_frame_ref,
  nodes_frame_kernel, nodes_frame_ideal, nodes_frame_ref, nodes_frame_ref_pre,
  edges_frame_kernel, edges_frame_ideal, edges_frame_ref,
  Half.Run.frame_kernel, Half.Run.frame_ideal, Half.Run.frame_ref, Half.Run.frame_ref_pre,
  trivial, algebraic, bitexact, rows_preserves, rows_algebraic, nodes_preserves, nodes_algebraic, edges_preserves, edges_algebraic,
  Half.Run.preserves, Half.Run.algebraic⟩

end Cert.Proof

end
